-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpDwKernel (m : (ℓ : Loc Cert.UpDwKernel.nD Cert.UpDwKernel.τ Cert.UpDwKernel.sig) → Buf (Elt Bits) ℓ) : Prop :=
  True

def Pre_UpDwKernelIdeal (m : (ℓ : Loc Cert.UpDwKernelIdeal.nD Cert.UpDwKernelIdeal.τ Cert.UpDwKernelIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_UpDxAKernel (m : (ℓ : Loc Cert.UpDxAKernel.nD Cert.UpDxAKernel.τ Cert.UpDxAKernel.sig) → Buf (Elt Bits) ℓ) : Prop :=
  True

def Pre_UpDxAKernelIdeal (m : (ℓ : Loc Cert.UpDxAKernelIdeal.nD Cert.UpDxAKernelIdeal.τ Cert.UpDxAKernelIdeal.sig) → Buf (Elt Ideal) ℓ) : Prop :=
  True

def Pre_UpDxAReferenceIdeal (m : (ℓ : Loc Cert.UpDxAReferenceIdeal.nD Cert.UpDxAReferenceIdeal.τ Cert.UpDxAReferenceIdeal.sig) → Buf (Elt Ideal) ℓ) : Prop :=
  True

def Pre_UpDxBKernel (m : (ℓ : Loc Cert.UpDxBKernel.nD Cert.UpDxBKernel.τ Cert.UpDxBKernel.sig) → Buf (Elt Bits) ℓ) : Prop :=
  True

def Pre_UpDxBKernelIdeal (m : (ℓ : Loc Cert.UpDxBKernelIdeal.nD Cert.UpDxBKernelIdeal.τ Cert.UpDxBKernelIdeal.sig) → Buf (Elt Ideal) ℓ) : Prop :=
  True

def Pre_UpDxBReferenceIdeal (m : (ℓ : Loc Cert.UpDxBReferenceIdeal.nD Cert.UpDxBReferenceIdeal.τ Cert.UpDxBReferenceIdeal.sig) → Buf (Elt Ideal) ℓ) : Prop :=
  True

def Pre_AbInDxKernel (m : (ℓ : Loc Cert.AbInDxKernel.nD Cert.AbInDxKernel.τ Cert.AbInDxKernel.sig) → Buf (Elt Bits) ℓ) : Prop :=
  True

def Pre_AbInDxKernelIdeal (m : (ℓ : Loc Cert.AbInDxKernelIdeal.nD Cert.AbInDxKernelIdeal.τ Cert.AbInDxKernelIdeal.sig) → Buf (Elt Ideal) ℓ) : Prop :=
  True

def Pre_AbInDxReferenceIdeal (m : (ℓ : Loc Cert.AbInDxReferenceIdeal.nD Cert.AbInDxReferenceIdeal.τ Cert.AbInDxReferenceIdeal.sig) → Buf (Elt Ideal) ℓ) : Prop :=
  True

def Pre_CInDxKernel (m : (ℓ : Loc Cert.CInDxKernel.nD Cert.CInDxKernel.τ Cert.CInDxKernel.sig) → Buf (Elt Bits) ℓ) : Prop :=
  True

def Pre_CInDxKernelIdeal (m : (ℓ : Loc Cert.CInDxKernelIdeal.nD Cert.CInDxKernelIdeal.τ Cert.CInDxKernelIdeal.sig) → Buf (Elt Ideal) ℓ) : Prop :=
  True

def Pre_CInDxReferenceIdeal (m : (ℓ : Loc Cert.CInDxReferenceIdeal.nD Cert.CInDxReferenceIdeal.τ Cert.CInDxReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_DownDxKernel (m : (ℓ : Loc Cert.DownDxKernel.nD Cert.DownDxKernel.τ Cert.DownDxKernel.sig) → Buf (Elt Bits) ℓ) : Prop :=
  True

def Pre_DownDxKernelIdeal (m : (ℓ : Loc Cert.DownDxKernelIdeal.nD Cert.DownDxKernelIdeal.τ Cert.DownDxKernelIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_CInDwKernel (m : (ℓ : Loc Cert.CInDwKernel.nD Cert.CInDwKernel.τ Cert.CInDwKernel.sig) → Buf (Elt Bits) ℓ) : Prop :=
  True

def Pre_CInDwKernelIdeal (m : (ℓ : Loc Cert.CInDwKernelIdeal.nD Cert.CInDwKernelIdeal.τ Cert.CInDwKernelIdeal.sig) → Buf (Elt Ideal) ℓ) : Prop :=
  True

def Pre_CInDwReferenceIdeal (m : (ℓ : Loc Cert.CInDwReferenceIdeal.nD Cert.CInDwReferenceIdeal.τ Cert.CInDwReferenceIdeal.sig) → Buf (Elt Ideal) ℓ) : Prop :=
  True

def Pre_AbInDwKernel (m : (ℓ : Loc Cert.AbInDwKernel.nD Cert.AbInDwKernel.τ Cert.AbInDwKernel.sig) → Buf (Elt Bits) ℓ) : Prop :=
  True

def Pre_AbInDwKernelIdeal (m : (ℓ : Loc Cert.AbInDwKernelIdeal.nD Cert.AbInDwKernelIdeal.τ Cert.AbInDwKernelIdeal.sig) → Buf (Elt Ideal) ℓ) : Prop :=
  True

def Pre_AbInDwReferenceIdeal (m : (ℓ : Loc Cert.AbInDwReferenceIdeal.nD Cert.AbInDwReferenceIdeal.τ Cert.AbInDwReferenceIdeal.sig) → Buf (Elt Ideal) ℓ) : Prop :=
  True

def Pre_OutDwKernel (m : (ℓ : Loc Cert.OutDwKernel.nD Cert.OutDwKernel.τ Cert.OutDwKernel.sig) → Buf (Elt Bits) ℓ) : Prop :=
  True

def Pre_OutDwKernelIdeal (m : (ℓ : Loc Cert.OutDwKernelIdeal.nD Cert.OutDwKernelIdeal.τ Cert.OutDwKernelIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutDxKernel (m : (ℓ : Loc Cert.OutDxKernel.nD Cert.OutDxKernel.τ Cert.OutDxKernel.sig) → Buf (Elt Bits) ℓ) : Prop :=
  True

def Pre_OutDxKernelIdeal (m : (ℓ : Loc Cert.OutDxKernelIdeal.nD Cert.OutDxKernelIdeal.τ Cert.OutDxKernelIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_UpFKernel (m : (ℓ : Loc Cert.UpFKernel.nD Cert.UpFKernel.τ Cert.UpFKernel.sig) → Buf (Elt Bits) ℓ) : Prop :=
  True

def Pre_UpFKernelIdeal (m : (ℓ : Loc Cert.UpFKernelIdeal.nD Cert.UpFKernelIdeal.τ Cert.UpFKernelIdeal.sig) → Buf (Elt Ideal) ℓ) : Prop :=
  True

def Pre_UpFReferenceIdeal (m : (ℓ : Loc Cert.UpFReferenceIdeal.nD Cert.UpFReferenceIdeal.τ Cert.UpFReferenceIdeal.sig) → Buf (Elt Ideal) ℓ) : Prop :=
  True

def Pre_CInFKernel (m : (ℓ : Loc Cert.CInFKernel.nD Cert.CInFKernel.τ Cert.CInFKernel.sig) → Buf (Elt Bits) ℓ) : Prop :=
  True

def Pre_CInFKernelIdeal (m : (ℓ : Loc Cert.CInFKernelIdeal.nD Cert.CInFKernelIdeal.τ Cert.CInFKernelIdeal.sig) → Buf (Elt Ideal) ℓ) : Prop :=
  True

def Pre_CInFReferenceIdeal (m : (ℓ : Loc Cert.CInFReferenceIdeal.nD Cert.CInFReferenceIdeal.τ Cert.CInFReferenceIdeal.sig) → Buf (Elt Ideal) ℓ) : Prop :=
  True

def Pre_AbOutFKernel (m : (ℓ : Loc Cert.AbOutFKernel.nD Cert.AbOutFKernel.τ Cert.AbOutFKernel.sig) → Buf (Elt Bits) ℓ) : Prop :=
  True

def Pre_AbOutFKernelIdeal (m : (ℓ : Loc Cert.AbOutFKernelIdeal.nD Cert.AbOutFKernelIdeal.τ Cert.AbOutFKernelIdeal.sig) → Buf (Elt Ideal) ℓ) : Prop :=
  True

def Pre_AbOutFReferenceIdeal (m : (ℓ : Loc Cert.AbOutFReferenceIdeal.nD Cert.AbOutFReferenceIdeal.τ Cert.AbOutFReferenceIdeal.sig) → Buf (Elt Ideal) ℓ) : Prop :=
  True

def Pre_COutFKernel (m : (ℓ : Loc Cert.COutFKernel.nD Cert.COutFKernel.τ Cert.COutFKernel.sig) → Buf (Elt Bits) ℓ) : Prop :=
  True

def Pre_COutFKernelIdeal (m : (ℓ : Loc Cert.COutFKernelIdeal.nD Cert.COutFKernelIdeal.τ Cert.COutFKernelIdeal.sig) → Buf (Elt Ideal) ℓ) : Prop :=
  True

def Pre_COutFReferenceIdeal (m : (ℓ : Loc Cert.COutFReferenceIdeal.nD Cert.COutFReferenceIdeal.τ Cert.COutFReferenceIdeal.sig) → Buf (Elt Ideal) ℓ) : Prop :=
  True

def Pre_DownFKernel (m : (ℓ : Loc Cert.DownFKernel.nD Cert.DownFKernel.τ Cert.DownFKernel.sig) → Buf (Elt Bits) ℓ) : Prop :=
  True

def Pre_DownFKernelIdeal (m : (ℓ : Loc Cert.DownFKernelIdeal.nD Cert.DownFKernelIdeal.τ Cert.DownFKernelIdeal.sig) → Buf (Elt Ideal) ℓ) : Prop :=
  True

def Pre_DownFReferenceIdeal (m : (ℓ : Loc Cert.DownFReferenceIdeal.nD Cert.DownFReferenceIdeal.τ Cert.DownFReferenceIdeal.sig) → Buf (Elt Ideal) ℓ) : Prop :=
  True

def Pre_AdamAbInKernel (m : (ℓ : Loc Cert.AdamAbInKernel.nD Cert.AdamAbInKernel.τ Cert.AdamAbInKernel.sig) → Buf (Elt Bits) ℓ) : Prop :=
  True

def Pre_AdamAbInKernelIdeal (m : (ℓ : Loc Cert.AdamAbInKernelIdeal.nD Cert.AdamAbInKernelIdeal.τ Cert.AdamAbInKernelIdeal.sig) → Buf (Elt Ideal) ℓ) : Prop :=
  True

def Pre_AdamAbInReferenceIdeal (m : (ℓ : Loc Cert.AdamAbInReferenceIdeal.nD Cert.AdamAbInReferenceIdeal.τ Cert.AdamAbInReferenceIdeal.sig) → Buf (Elt Ideal) ℓ) : Prop :=
  True

def Pre_AdamAbOutKernel (m : (ℓ : Loc Cert.AdamAbOutKernel.nD Cert.AdamAbOutKernel.τ Cert.AdamAbOutKernel.sig) → Buf (Elt Bits) ℓ) : Prop :=
  True

def Pre_AdamAbOutKernelIdeal (m : (ℓ : Loc Cert.AdamAbOutKernelIdeal.nD Cert.AdamAbOutKernelIdeal.τ Cert.AdamAbOutKernelIdeal.sig) → Buf (Elt Ideal) ℓ) : Prop :=
  True

def Pre_AdamAbOutReferenceIdeal (m : (ℓ : Loc Cert.AdamAbOutReferenceIdeal.nD Cert.AdamAbOutReferenceIdeal.τ Cert.AdamAbOutReferenceIdeal.sig) → Buf (Elt Ideal) ℓ) : Prop :=
  True

def Pre_AdamCInKernel (m : (ℓ : Loc Cert.AdamCInKernel.nD Cert.AdamCInKernel.τ Cert.AdamCInKernel.sig) → Buf (Elt Bits) ℓ) : Prop :=
  True

def Pre_AdamCInKernelIdeal (m : (ℓ : Loc Cert.AdamCInKernelIdeal.nD Cert.AdamCInKernelIdeal.τ Cert.AdamCInKernelIdeal.sig) → Buf (Elt Ideal) ℓ) : Prop :=
  True

def Pre_AdamCInReferenceIdeal (m : (ℓ : Loc Cert.AdamCInReferenceIdeal.nD Cert.AdamCInReferenceIdeal.τ Cert.AdamCInReferenceIdeal.sig) → Buf (Elt Ideal) ℓ) : Prop :=
  True

def Pre_AdamUpKernel (m : (ℓ : Loc Cert.AdamUpKernel.nD Cert.AdamUpKernel.τ Cert.AdamUpKernel.sig) → Buf (Elt Bits) ℓ) : Prop :=
  True

def Pre_AdamUpKernelIdeal (m : (ℓ : Loc Cert.AdamUpKernelIdeal.nD Cert.AdamUpKernelIdeal.τ Cert.AdamUpKernelIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDownKernel (m : (ℓ : Loc Cert.AdamDownKernel.nD Cert.AdamDownKernel.τ Cert.AdamDownKernel.sig) → Buf (Elt Bits) ℓ) : Prop :=
  True

def Pre_AdamDownKernelIdeal (m : (ℓ : Loc Cert.AdamDownKernelIdeal.nD Cert.AdamDownKernelIdeal.τ Cert.AdamDownKernelIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_MixFKernel (m : (ℓ : Loc Cert.MixFKernel.nD Cert.MixFKernel.τ Cert.MixFKernel.sig) → Buf (Elt Bits) ℓ) : Prop :=
  True

def Pre_MixFKernelIdeal (m : (ℓ : Loc Cert.MixFKernelIdeal.nD Cert.MixFKernelIdeal.τ Cert.MixFKernelIdeal.sig) → Buf (Elt Ideal) ℓ) : Prop :=
  True

def Pre_MixFReferenceIdeal (m : (ℓ : Loc Cert.MixFReferenceIdeal.nD Cert.MixFReferenceIdeal.τ Cert.MixFReferenceIdeal.sig) → Buf (Elt Ideal) ℓ) : Prop :=
  True

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpDwKernel [hUpDwKernel : Cert.UpDwKernel.Facts] : Prop :=
  ∀ (m : (ℓ : Loc Cert.UpDwKernel.nD Cert.UpDwKernel.τ Cert.UpDwKernel.sig) → Buf (Elt Bits) ℓ) (g : Dev Cert.UpDwKernel.nD → PrngReg), Pre_UpDwKernel m →
    θ_run (Cert.UpDwKernel.defs (F := Bits)) (onTc (τ := Cert.UpDwKernel.τ) (Cert.UpDwKernel.main (F := Bits))) ⟨m, fun _ => 0, g⟩ (fun r => (∀ c : Dev Cert.UpDwKernel.nD,
      r.2.mem ((c.tc : Thread Cert.UpDwKernel.nD Cert.UpDwKernel.τ).loc Cert.UpDwKernel.main_arg0) = m ((c.tc : Thread Cert.UpDwKernel.nD Cert.UpDwKernel.τ).loc Cert.UpDwKernel.main_arg0)
      ∧ r.2.mem ((c.tc : Thread Cert.UpDwKernel.nD Cert.UpDwKernel.τ).loc Cert.UpDwKernel.main_arg1) = m ((c.tc : Thread Cert.UpDwKernel.nD Cert.UpDwKernel.τ).loc Cert.UpDwKernel.main_arg1))
      ∧ r.2.sem = fun _ => 0)

def quiescent_UpDwKernelIdeal [hUpDwKernelIdeal : Cert.UpDwKernelIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg), Pre_UpDwKernelIdeal m →
    θ_run (Cert.UpDwKernelIdeal.defs (F := Ideal)) (onTc (τ := Cert.UpDwKernelIdeal.τ) (Cert.UpDwKernelIdeal.main (F := Ideal))) ⟨m, fun _ => 0, g⟩ (fun r => (∀ c : Dev Cert.UpDwKernelIdeal.nD,
      r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
      ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_UpDxAKernel [hUpDxAKernel : Cert.UpDxAKernel.Facts] : Prop :=
  ∀ (m : (ℓ : Loc Cert.UpDxAKernel.nD Cert.UpDxAKernel.τ Cert.UpDxAKernel.sig) → Buf (Elt Bits) ℓ) (g : Dev Cert.UpDxAKernel.nD → PrngReg), Pre_UpDxAKernel m →
    θ_run (Cert.UpDxAKernel.defs (F := Bits)) (onTc (τ := Cert.UpDxAKernel.τ) (Cert.UpDxAKernel.main (F := Bits))) ⟨m, fun _ => 0, g⟩ (fun r => (∀ c : Dev Cert.UpDxAKernel.nD,
      r.2.mem ((c.tc : Thread Cert.UpDxAKernel.nD Cert.UpDxAKernel.τ).loc Cert.UpDxAKernel.main_arg0) = m ((c.tc : Thread Cert.UpDxAKernel.nD Cert.UpDxAKernel.τ).loc Cert.UpDxAKernel.main_arg0)
      ∧ r.2.mem ((c.tc : Thread Cert.UpDxAKernel.nD Cert.UpDxAKernel.τ).loc Cert.UpDxAKernel.main_arg1) = m ((c.tc : Thread Cert.UpDxAKernel.nD Cert.UpDxAKernel.τ).loc Cert.UpDxAKernel.main_arg1)
      ∧ r.2.mem ((c.tc : Thread Cert.UpDxAKernel.nD Cert.UpDxAKernel.τ).loc Cert.UpDxAKernel.main_arg2) = m ((c.tc : Thread Cert.UpDxAKernel.nD Cert.UpDxAKernel.τ).loc Cert.UpDxAKernel.main_arg2)
      ∧ r.2.mem ((c.tc : Thread Cert.UpDxAKernel.nD Cert.UpDxAKernel.τ).loc Cert.UpDxAKernel.main_arg3) = m ((c.tc : Thread Cert.UpDxAKernel.nD Cert.UpDxAKernel.τ).loc Cert.UpDxAKernel.main_arg3)
      ∧ r.2.mem ((c.tc : Thread Cert.UpDxAKernel.nD Cert.UpDxAKernel.τ).loc Cert.UpDxAKernel.main_arg4) = m ((c.tc : Thread Cert.UpDxAKernel.nD Cert.UpDxAKernel.τ).loc Cert.UpDxAKernel.main_arg4))
      ∧ r.2.sem = fun _ => 0)

def quiescent_UpDxAKernelIdeal [hUpDxAKernelIdeal : Cert.UpDxAKernelIdeal.Facts] : Prop :=
  ∀ (m : (ℓ : Loc Cert.UpDxAKernelIdeal.nD Cert.UpDxAKernelIdeal.τ Cert.UpDxAKernelIdeal.sig) → Buf (Elt Ideal) ℓ) (g : Dev Cert.UpDxAKernelIdeal.nD → PrngReg), Pre_UpDxAKernelIdeal m →
    θ_run (Cert.UpDxAKernelIdeal.defs (F := Ideal)) (onTc (τ := Cert.UpDxAKernelIdeal.τ) (Cert.UpDxAKernelIdeal.main (F := Ideal))) ⟨m, fun _ => 0, g⟩ (fun r => (∀ c : Dev Cert.UpDxAKernelIdeal.nD,
      r.2.mem ((c.tc : Thread Cert.UpDxAKernelIdeal.nD Cert.UpDxAKernelIdeal.τ).loc Cert.UpDxAKernelIdeal.main_arg0) = m ((c.tc : Thread Cert.UpDxAKernelIdeal.nD Cert.UpDxAKernelIdeal.τ).loc Cert.UpDxAKernelIdeal.main_arg0)
      ∧ r.2.mem ((c.tc : Thread Cert.UpDxAKernelIdeal.nD Cert.UpDxAKernelIdeal.τ).loc Cert.UpDxAKernelIdeal.main_arg1) = m ((c.tc : Thread Cert.UpDxAKernelIdeal.nD Cert.UpDxAKernelIdeal.τ).loc Cert.UpDxAKernelIdeal.main_arg1)
      ∧ r.2.mem ((c.tc : Thread Cert.UpDxAKernelIdeal.nD Cert.UpDxAKernelIdeal.τ).loc Cert.UpDxAKernelIdeal.main_arg2) = m ((c.tc : Thread Cert.UpDxAKernelIdeal.nD Cert.UpDxAKernelIdeal.τ).loc Cert.UpDxAKernelIdeal.main_arg2)
      ∧ r.2.mem ((c.tc : Thread Cert.UpDxAKernelIdeal.nD Cert.UpDxAKernelIdeal.τ).loc Cert.UpDxAKernelIdeal.main_arg3) = m ((c.tc : Thread Cert.UpDxAKernelIdeal.nD Cert.UpDxAKernelIdeal.τ).loc Cert.UpDxAKernelIdeal.main_arg3)
      ∧ r.2.mem ((c.tc : Thread Cert.UpDxAKernelIdeal.nD Cert.UpDxAKernelIdeal.τ).loc Cert.UpDxAKernelIdeal.main_arg4) = m ((c.tc : Thread Cert.UpDxAKernelIdeal.nD Cert.UpDxAKernelIdeal.τ).loc Cert.UpDxAKernelIdeal.main_arg4))
      ∧ r.2.sem = fun _ => 0)

def quiescent_UpDxAReferenceIdeal [hUpDxAReferenceIdeal : Cert.UpDxAReferenceIdeal.Facts] : Prop :=
  ∀ (m : (ℓ : Loc Cert.UpDxAReferenceIdeal.nD Cert.UpDxAReferenceIdeal.τ Cert.UpDxAReferenceIdeal.sig) → Buf (Elt Ideal) ℓ) (g : Dev Cert.UpDxAReferenceIdeal.nD → PrngReg), Pre_UpDxAReferenceIdeal m →
    θ_run (Cert.UpDxAReferenceIdeal.defs (F := Ideal)) (onTc (τ := Cert.UpDxAReferenceIdeal.τ) (Cert.UpDxAReferenceIdeal.main (F := Ideal))) ⟨m, fun _ => 0, g⟩ (fun r => (∀ c : Dev Cert.UpDxAReferenceIdeal.nD,
      r.2.mem ((c.tc : Thread Cert.UpDxAReferenceIdeal.nD Cert.UpDxAReferenceIdeal.τ).loc Cert.UpDxAReferenceIdeal.main_arg0) = m ((c.tc : Thread Cert.UpDxAReferenceIdeal.nD Cert.UpDxAReferenceIdeal.τ).loc Cert.UpDxAReferenceIdeal.main_arg0)
      ∧ r.2.mem ((c.tc : Thread Cert.UpDxAReferenceIdeal.nD Cert.UpDxAReferenceIdeal.τ).loc Cert.UpDxAReferenceIdeal.main_arg1) = m ((c.tc : Thread Cert.UpDxAReferenceIdeal.nD Cert.UpDxAReferenceIdeal.τ).loc Cert.UpDxAReferenceIdeal.main_arg1)
      ∧ r.2.mem ((c.tc : Thread Cert.UpDxAReferenceIdeal.nD Cert.UpDxAReferenceIdeal.τ).loc Cert.UpDxAReferenceIdeal.main_arg2) = m ((c.tc : Thread Cert.UpDxAReferenceIdeal.nD Cert.UpDxAReferenceIdeal.τ).loc Cert.UpDxAReferenceIdeal.main_arg2)
      ∧ r.2.mem ((c.tc : Thread Cert.UpDxAReferenceIdeal.nD Cert.UpDxAReferenceIdeal.τ).loc Cert.UpDxAReferenceIdeal.main_arg3) = m ((c.tc : Thread Cert.UpDxAReferenceIdeal.nD Cert.UpDxAReferenceIdeal.τ).loc Cert.UpDxAReferenceIdeal.main_arg3)
      ∧ r.2.mem ((c.tc : Thread Cert.UpDxAReferenceIdeal.nD Cert.UpDxAReferenceIdeal.τ).loc Cert.UpDxAReferenceIdeal.main_arg4) = m ((c.tc : Thread Cert.UpDxAReferenceIdeal.nD Cert.UpDxAReferenceIdeal.τ).loc Cert.UpDxAReferenceIdeal.main_arg4))
      ∧ r.2.sem = fun _ => 0)

def quiescent_UpDxBKernel [hUpDxBKernel : Cert.UpDxBKernel.Facts] : Prop :=
  ∀ (m : (ℓ : Loc Cert.UpDxBKernel.nD Cert.UpDxBKernel.τ Cert.UpDxBKernel.sig) → Buf (Elt Bits) ℓ) (g : Dev Cert.UpDxBKernel.nD → PrngReg), Pre_UpDxBKernel m →
    θ_run (Cert.UpDxBKernel.defs (F := Bits)) (onTc (τ := Cert.UpDxBKernel.τ) (Cert.UpDxBKernel.main (F := Bits))) ⟨m, fun _ => 0, g⟩ (fun r => (∀ c : Dev Cert.UpDxBKernel.nD,
      r.2.mem ((c.tc : Thread Cert.UpDxBKernel.nD Cert.UpDxBKernel.τ).loc Cert.UpDxBKernel.main_arg0) = m ((c.tc : Thread Cert.UpDxBKernel.nD Cert.UpDxBKernel.τ).loc Cert.UpDxBKernel.main_arg0)
      ∧ r.2.mem ((c.tc : Thread Cert.UpDxBKernel.nD Cert.UpDxBKernel.τ).loc Cert.UpDxBKernel.main_arg1) = m ((c.tc : Thread Cert.UpDxBKernel.nD Cert.UpDxBKernel.τ).loc Cert.UpDxBKernel.main_arg1)
      ∧ r.2.mem ((c.tc : Thread Cert.UpDxBKernel.nD Cert.UpDxBKernel.τ).loc Cert.UpDxBKernel.main_arg2) = m ((c.tc : Thread Cert.UpDxBKernel.nD Cert.UpDxBKernel.τ).loc Cert.UpDxBKernel.main_arg2)
      ∧ r.2.mem ((c.tc : Thread Cert.UpDxBKernel.nD Cert.UpDxBKernel.τ).loc Cert.UpDxBKernel.main_arg3) = m ((c.tc : Thread Cert.UpDxBKernel.nD Cert.UpDxBKernel.τ).loc Cert.UpDxBKernel.main_arg3)
      ∧ r.2.mem ((c.tc : Thread Cert.UpDxBKernel.nD Cert.UpDxBKernel.τ).loc Cert.UpDxBKernel.main_arg4) = m ((c.tc : Thread Cert.UpDxBKernel.nD Cert.UpDxBKernel.τ).loc Cert.UpDxBKernel.main_arg4))
      ∧ r.2.sem = fun _ => 0)

def quiescent_UpDxBKernelIdeal [hUpDxBKernelIdeal : Cert.UpDxBKernelIdeal.Facts] : Prop :=
  ∀ (m : (ℓ : Loc Cert.UpDxBKernelIdeal.nD Cert.UpDxBKernelIdeal.τ Cert.UpDxBKernelIdeal.sig) → Buf (Elt Ideal) ℓ) (g : Dev Cert.UpDxBKernelIdeal.nD → PrngReg), Pre_UpDxBKernelIdeal m →
    θ_run (Cert.UpDxBKernelIdeal.defs (F := Ideal)) (onTc (τ := Cert.UpDxBKernelIdeal.τ) (Cert.UpDxBKernelIdeal.main (F := Ideal))) ⟨m, fun _ => 0, g⟩ (fun r => (∀ c : Dev Cert.UpDxBKernelIdeal.nD,
      r.2.mem ((c.tc : Thread Cert.UpDxBKernelIdeal.nD Cert.UpDxBKernelIdeal.τ).loc Cert.UpDxBKernelIdeal.main_arg0) = m ((c.tc : Thread Cert.UpDxBKernelIdeal.nD Cert.UpDxBKernelIdeal.τ).loc Cert.UpDxBKernelIdeal.main_arg0)
      ∧ r.2.mem ((c.tc : Thread Cert.UpDxBKernelIdeal.nD Cert.UpDxBKernelIdeal.τ).loc Cert.UpDxBKernelIdeal.main_arg1) = m ((c.tc : Thread Cert.UpDxBKernelIdeal.nD Cert.UpDxBKernelIdeal.τ).loc Cert.UpDxBKernelIdeal.main_arg1)
      ∧ r.2.mem ((c.tc : Thread Cert.UpDxBKernelIdeal.nD Cert.UpDxBKernelIdeal.τ).loc Cert.UpDxBKernelIdeal.main_arg2) = m ((c.tc : Thread Cert.UpDxBKernelIdeal.nD Cert.UpDxBKernelIdeal.τ).loc Cert.UpDxBKernelIdeal.main_arg2)
      ∧ r.2.mem ((c.tc : Thread Cert.UpDxBKernelIdeal.nD Cert.UpDxBKernelIdeal.τ).loc Cert.UpDxBKernelIdeal.main_arg3) = m ((c.tc : Thread Cert.UpDxBKernelIdeal.nD Cert.UpDxBKernelIdeal.τ).loc Cert.UpDxBKernelIdeal.main_arg3)
      ∧ r.2.mem ((c.tc : Thread Cert.UpDxBKernelIdeal.nD Cert.UpDxBKernelIdeal.τ).loc Cert.UpDxBKernelIdeal.main_arg4) = m ((c.tc : Thread Cert.UpDxBKernelIdeal.nD Cert.UpDxBKernelIdeal.τ).loc Cert.UpDxBKernelIdeal.main_arg4))
      ∧ r.2.sem = fun _ => 0)

def quiescent_UpDxBReferenceIdeal [hUpDxBReferenceIdeal : Cert.UpDxBReferenceIdeal.Facts] : Prop :=
  ∀ (m : (ℓ : Loc Cert.UpDxBReferenceIdeal.nD Cert.UpDxBReferenceIdeal.τ Cert.UpDxBReferenceIdeal.sig) → Buf (Elt Ideal) ℓ) (g : Dev Cert.UpDxBReferenceIdeal.nD → PrngReg), Pre_UpDxBReferenceIdeal m →
    θ_run (Cert.UpDxBReferenceIdeal.defs (F := Ideal)) (onTc (τ := Cert.UpDxBReferenceIdeal.τ) (Cert.UpDxBReferenceIdeal.main (F := Ideal))) ⟨m, fun _ => 0, g⟩ (fun r => (∀ c : Dev Cert.UpDxBReferenceIdeal.nD,
      r.2.mem ((c.tc : Thread Cert.UpDxBReferenceIdeal.nD Cert.UpDxBReferenceIdeal.τ).loc Cert.UpDxBReferenceIdeal.main_arg0) = m ((c.tc : Thread Cert.UpDxBReferenceIdeal.nD Cert.UpDxBReferenceIdeal.τ).loc Cert.UpDxBReferenceIdeal.main_arg0)
      ∧ r.2.mem ((c.tc : Thread Cert.UpDxBReferenceIdeal.nD Cert.UpDxBReferenceIdeal.τ).loc Cert.UpDxBReferenceIdeal.main_arg1) = m ((c.tc : Thread Cert.UpDxBReferenceIdeal.nD Cert.UpDxBReferenceIdeal.τ).loc Cert.UpDxBReferenceIdeal.main_arg1)
      ∧ r.2.mem ((c.tc : Thread Cert.UpDxBReferenceIdeal.nD Cert.UpDxBReferenceIdeal.τ).loc Cert.UpDxBReferenceIdeal.main_arg2) = m ((c.tc : Thread Cert.UpDxBReferenceIdeal.nD Cert.UpDxBReferenceIdeal.τ).loc Cert.UpDxBReferenceIdeal.main_arg2)
      ∧ r.2.mem ((c.tc : Thread Cert.UpDxBReferenceIdeal.nD Cert.UpDxBReferenceIdeal.τ).loc Cert.UpDxBReferenceIdeal.main_arg3) = m ((c.tc : Thread Cert.UpDxBReferenceIdeal.nD Cert.UpDxBReferenceIdeal.τ).loc Cert.UpDxBReferenceIdeal.main_arg3)
      ∧ r.2.mem ((c.tc : Thread Cert.UpDxBReferenceIdeal.nD Cert.UpDxBReferenceIdeal.τ).loc Cert.UpDxBReferenceIdeal.main_arg4) = m ((c.tc : Thread Cert.UpDxBReferenceIdeal.nD Cert.UpDxBReferenceIdeal.τ).loc Cert.UpDxBReferenceIdeal.main_arg4))
      ∧ r.2.sem = fun _ => 0)

def quiescent_AbInDxKernel [hAbInDxKernel : Cert.AbInDxKernel.Facts] : Prop :=
  ∀ (m : (ℓ : Loc Cert.AbInDxKernel.nD Cert.AbInDxKernel.τ Cert.AbInDxKernel.sig) → Buf (Elt Bits) ℓ) (g : Dev Cert.AbInDxKernel.nD → PrngReg), Pre_AbInDxKernel m →
    θ_run (Cert.AbInDxKernel.defs (F := Bits)) (onTc (τ := Cert.AbInDxKernel.τ) (Cert.AbInDxKernel.main (F := Bits))) ⟨m, fun _ => 0, g⟩ (fun r => (∀ c : Dev Cert.AbInDxKernel.nD,
      r.2.mem ((c.tc : Thread Cert.AbInDxKernel.nD Cert.AbInDxKernel.τ).loc Cert.AbInDxKernel.main_arg0) = m ((c.tc : Thread Cert.AbInDxKernel.nD Cert.AbInDxKernel.τ).loc Cert.AbInDxKernel.main_arg0)
      ∧ r.2.mem ((c.tc : Thread Cert.AbInDxKernel.nD Cert.AbInDxKernel.τ).loc Cert.AbInDxKernel.main_arg1) = m ((c.tc : Thread Cert.AbInDxKernel.nD Cert.AbInDxKernel.τ).loc Cert.AbInDxKernel.main_arg1)
      ∧ r.2.mem ((c.tc : Thread Cert.AbInDxKernel.nD Cert.AbInDxKernel.τ).loc Cert.AbInDxKernel.main_arg2) = m ((c.tc : Thread Cert.AbInDxKernel.nD Cert.AbInDxKernel.τ).loc Cert.AbInDxKernel.main_arg2)
      ∧ r.2.mem ((c.tc : Thread Cert.AbInDxKernel.nD Cert.AbInDxKernel.τ).loc Cert.AbInDxKernel.main_arg3) = m ((c.tc : Thread Cert.AbInDxKernel.nD Cert.AbInDxKernel.τ).loc Cert.AbInDxKernel.main_arg3)
      ∧ r.2.mem ((c.tc : Thread Cert.AbInDxKernel.nD Cert.AbInDxKernel.τ).loc Cert.AbInDxKernel.main_arg4) = m ((c.tc : Thread Cert.AbInDxKernel.nD Cert.AbInDxKernel.τ).loc Cert.AbInDxKernel.main_arg4))
      ∧ r.2.sem = fun _ => 0)

def quiescent_AbInDxKernelIdeal [hAbInDxKernelIdeal : Cert.AbInDxKernelIdeal.Facts] : Prop :=
  ∀ (m : (ℓ : Loc Cert.AbInDxKernelIdeal.nD Cert.AbInDxKernelIdeal.τ Cert.AbInDxKernelIdeal.sig) → Buf (Elt Ideal) ℓ) (g : Dev Cert.AbInDxKernelIdeal.nD → PrngReg), Pre_AbInDxKernelIdeal m →
    θ_run (Cert.AbInDxKernelIdeal.defs (F := Ideal)) (onTc (τ := Cert.AbInDxKernelIdeal.τ) (Cert.AbInDxKernelIdeal.main (F := Ideal))) ⟨m, fun _ => 0, g⟩ (fun r => (∀ c : Dev Cert.AbInDxKernelIdeal.nD,
      r.2.mem ((c.tc : Thread Cert.AbInDxKernelIdeal.nD Cert.AbInDxKernelIdeal.τ).loc Cert.AbInDxKernelIdeal.main_arg0) = m ((c.tc : Thread Cert.AbInDxKernelIdeal.nD Cert.AbInDxKernelIdeal.τ).loc Cert.AbInDxKernelIdeal.main_arg0)
      ∧ r.2.mem ((c.tc : Thread Cert.AbInDxKernelIdeal.nD Cert.AbInDxKernelIdeal.τ).loc Cert.AbInDxKernelIdeal.main_arg1) = m ((c.tc : Thread Cert.AbInDxKernelIdeal.nD Cert.AbInDxKernelIdeal.τ).loc Cert.AbInDxKernelIdeal.main_arg1)
      ∧ r.2.mem ((c.tc : Thread Cert.AbInDxKernelIdeal.nD Cert.AbInDxKernelIdeal.τ).loc Cert.AbInDxKernelIdeal.main_arg2) = m ((c.tc : Thread Cert.AbInDxKernelIdeal.nD Cert.AbInDxKernelIdeal.τ).loc Cert.AbInDxKernelIdeal.main_arg2)
      ∧ r.2.mem ((c.tc : Thread Cert.AbInDxKernelIdeal.nD Cert.AbInDxKernelIdeal.τ).loc Cert.AbInDxKernelIdeal.main_arg3) = m ((c.tc : Thread Cert.AbInDxKernelIdeal.nD Cert.AbInDxKernelIdeal.τ).loc Cert.AbInDxKernelIdeal.main_arg3)
      ∧ r.2.mem ((c.tc : Thread Cert.AbInDxKernelIdeal.nD Cert.AbInDxKernelIdeal.τ).loc Cert.AbInDxKernelIdeal.main_arg4) = m ((c.tc : Thread Cert.AbInDxKernelIdeal.nD Cert.AbInDxKernelIdeal.τ).loc Cert.AbInDxKernelIdeal.main_arg4))
      ∧ r.2.sem = fun _ => 0)

def quiescent_AbInDxReferenceIdeal [hAbInDxReferenceIdeal : Cert.AbInDxReferenceIdeal.Facts] : Prop :=
  ∀ (m : (ℓ : Loc Cert.AbInDxReferenceIdeal.nD Cert.AbInDxReferenceIdeal.τ Cert.AbInDxReferenceIdeal.sig) → Buf (Elt Ideal) ℓ) (g : Dev Cert.AbInDxReferenceIdeal.nD → PrngReg), Pre_AbInDxReferenceIdeal m →
    θ_run (Cert.AbInDxReferenceIdeal.defs (F := Ideal)) (onTc (τ := Cert.AbInDxReferenceIdeal.τ) (Cert.AbInDxReferenceIdeal.main (F := Ideal))) ⟨m, fun _ => 0, g⟩ (fun r => (∀ c : Dev Cert.AbInDxReferenceIdeal.nD,
      r.2.mem ((c.tc : Thread Cert.AbInDxReferenceIdeal.nD Cert.AbInDxReferenceIdeal.τ).loc Cert.AbInDxReferenceIdeal.main_arg0) = m ((c.tc : Thread Cert.AbInDxReferenceIdeal.nD Cert.AbInDxReferenceIdeal.τ).loc Cert.AbInDxReferenceIdeal.main_arg0)
      ∧ r.2.mem ((c.tc : Thread Cert.AbInDxReferenceIdeal.nD Cert.AbInDxReferenceIdeal.τ).loc Cert.AbInDxReferenceIdeal.main_arg1) = m ((c.tc : Thread Cert.AbInDxReferenceIdeal.nD Cert.AbInDxReferenceIdeal.τ).loc Cert.AbInDxReferenceIdeal.main_arg1)
      ∧ r.2.mem ((c.tc : Thread Cert.AbInDxReferenceIdeal.nD Cert.AbInDxReferenceIdeal.τ).loc Cert.AbInDxReferenceIdeal.main_arg2) = m ((c.tc : Thread Cert.AbInDxReferenceIdeal.nD Cert.AbInDxReferenceIdeal.τ).loc Cert.AbInDxReferenceIdeal.main_arg2)
      ∧ r.2.mem ((c.tc : Thread Cert.AbInDxReferenceIdeal.nD Cert.AbInDxReferenceIdeal.τ).loc Cert.AbInDxReferenceIdeal.main_arg3) = m ((c.tc : Thread Cert.AbInDxReferenceIdeal.nD Cert.AbInDxReferenceIdeal.τ).loc Cert.AbInDxReferenceIdeal.main_arg3)
      ∧ r.2.mem ((c.tc : Thread Cert.AbInDxReferenceIdeal.nD Cert.AbInDxReferenceIdeal.τ).loc Cert.AbInDxReferenceIdeal.main_arg4) = m ((c.tc : Thread Cert.AbInDxReferenceIdeal.nD Cert.AbInDxReferenceIdeal.τ).loc Cert.AbInDxReferenceIdeal.main_arg4))
      ∧ r.2.sem = fun _ => 0)

def quiescent_CInDxKernel [hCInDxKernel : Cert.CInDxKernel.Facts] : Prop :=
  ∀ (m : (ℓ : Loc Cert.CInDxKernel.nD Cert.CInDxKernel.τ Cert.CInDxKernel.sig) → Buf (Elt Bits) ℓ) (g : Dev Cert.CInDxKernel.nD → PrngReg), Pre_CInDxKernel m →
    θ_run (Cert.CInDxKernel.defs (F := Bits)) (onTc (τ := Cert.CInDxKernel.τ) (Cert.CInDxKernel.main (F := Bits))) ⟨m, fun _ => 0, g⟩ (fun r => (∀ c : Dev Cert.CInDxKernel.nD,
      r.2.mem ((c.tc : Thread Cert.CInDxKernel.nD Cert.CInDxKernel.τ).loc Cert.CInDxKernel.main_arg0) = m ((c.tc : Thread Cert.CInDxKernel.nD Cert.CInDxKernel.τ).loc Cert.CInDxKernel.main_arg0)
      ∧ r.2.mem ((c.tc : Thread Cert.CInDxKernel.nD Cert.CInDxKernel.τ).loc Cert.CInDxKernel.main_arg1) = m ((c.tc : Thread Cert.CInDxKernel.nD Cert.CInDxKernel.τ).loc Cert.CInDxKernel.main_arg1)
      ∧ r.2.mem ((c.tc : Thread Cert.CInDxKernel.nD Cert.CInDxKernel.τ).loc Cert.CInDxKernel.main_arg2) = m ((c.tc : Thread Cert.CInDxKernel.nD Cert.CInDxKernel.τ).loc Cert.CInDxKernel.main_arg2)
      ∧ r.2.mem ((c.tc : Thread Cert.CInDxKernel.nD Cert.CInDxKernel.τ).loc Cert.CInDxKernel.main_arg3) = m ((c.tc : Thread Cert.CInDxKernel.nD Cert.CInDxKernel.τ).loc Cert.CInDxKernel.main_arg3)
      ∧ r.2.mem ((c.tc : Thread Cert.CInDxKernel.nD Cert.CInDxKernel.τ).loc Cert.CInDxKernel.main_arg4) = m ((c.tc : Thread Cert.CInDxKernel.nD Cert.CInDxKernel.τ).loc Cert.CInDxKernel.main_arg4))
      ∧ r.2.sem = fun _ => 0)

def quiescent_CInDxKernelIdeal [hCInDxKernelIdeal : Cert.CInDxKernelIdeal.Facts] : Prop :=
  ∀ (m : (ℓ : Loc Cert.CInDxKernelIdeal.nD Cert.CInDxKernelIdeal.τ Cert.CInDxKernelIdeal.sig) → Buf (Elt Ideal) ℓ) (g : Dev Cert.CInDxKernelIdeal.nD → PrngReg), Pre_CInDxKernelIdeal m →
    θ_run (Cert.CInDxKernelIdeal.defs (F := Ideal)) (onTc (τ := Cert.CInDxKernelIdeal.τ) (Cert.CInDxKernelIdeal.main (F := Ideal))) ⟨m, fun _ => 0, g⟩ (fun r => (∀ c : Dev Cert.CInDxKernelIdeal.nD,
      r.2.mem ((c.tc : Thread Cert.CInDxKernelIdeal.nD Cert.CInDxKernelIdeal.τ).loc Cert.CInDxKernelIdeal.main_arg0) = m ((c.tc : Thread Cert.CInDxKernelIdeal.nD Cert.CInDxKernelIdeal.τ).loc Cert.CInDxKernelIdeal.main_arg0)
      ∧ r.2.mem ((c.tc : Thread Cert.CInDxKernelIdeal.nD Cert.CInDxKernelIdeal.τ).loc Cert.CInDxKernelIdeal.main_arg1) = m ((c.tc : Thread Cert.CInDxKernelIdeal.nD Cert.CInDxKernelIdeal.τ).loc Cert.CInDxKernelIdeal.main_arg1)
      ∧ r.2.mem ((c.tc : Thread Cert.CInDxKernelIdeal.nD Cert.CInDxKernelIdeal.τ).loc Cert.CInDxKernelIdeal.main_arg2) = m ((c.tc : Thread Cert.CInDxKernelIdeal.nD Cert.CInDxKernelIdeal.τ).loc Cert.CInDxKernelIdeal.main_arg2)
      ∧ r.2.mem ((c.tc : Thread Cert.CInDxKernelIdeal.nD Cert.CInDxKernelIdeal.τ).loc Cert.CInDxKernelIdeal.main_arg3) = m ((c.tc : Thread Cert.CInDxKernelIdeal.nD Cert.CInDxKernelIdeal.τ).loc Cert.CInDxKernelIdeal.main_arg3)
      ∧ r.2.mem ((c.tc : Thread Cert.CInDxKernelIdeal.nD Cert.CInDxKernelIdeal.τ).loc Cert.CInDxKernelIdeal.main_arg4) = m ((c.tc : Thread Cert.CInDxKernelIdeal.nD Cert.CInDxKernelIdeal.τ).loc Cert.CInDxKernelIdeal.main_arg4))
      ∧ r.2.sem = fun _ => 0)

def quiescent_CInDxReferenceIdeal [hCInDxReferenceIdeal : Cert.CInDxReferenceIdeal.Facts] : Prop :=
  ∀ (m : (ℓ : Loc Cert.CInDxReferenceIdeal.nD Cert.CInDxReferenceIdeal.τ Cert.CInDxReferenceIdeal.sig) → Buf (Elt Ideal) ℓ) (g : Dev Cert.CInDxReferenceIdeal.nD → PrngReg), Pre_CInDxReferenceIdeal m →
    θ_run (Cert.CInDxReferenceIdeal.defs (F := Ideal)) (onTc (τ := Cert.CInDxReferenceIdeal.τ) (Cert.CInDxReferenceIdeal.main (F := Ideal))) ⟨m, fun _ => 0, g⟩ (fun r => (∀ c : Dev Cert.CInDxReferenceIdeal.nD,
      r.2.mem ((c.tc : Thread Cert.CInDxReferenceIdeal.nD Cert.CInDxReferenceIdeal.τ).loc Cert.CInDxReferenceIdeal.main_arg0) = m ((c.tc : Thread Cert.CInDxReferenceIdeal.nD Cert.CInDxReferenceIdeal.τ).loc Cert.CInDxReferenceIdeal.main_arg0)
      ∧ r.2.mem ((c.tc : Thread Cert.CInDxReferenceIdeal.nD Cert.CInDxReferenceIdeal.τ).loc Cert.CInDxReferenceIdeal.main_arg1) = m ((c.tc : Thread Cert.CInDxReferenceIdeal.nD Cert.CInDxReferenceIdeal.τ).loc Cert.CInDxReferenceIdeal.main_arg1)
      ∧ r.2.mem ((c.tc : Thread Cert.CInDxReferenceIdeal.nD Cert.CInDxReferenceIdeal.τ).loc Cert.CInDxReferenceIdeal.main_arg2) = m ((c.tc : Thread Cert.CInDxReferenceIdeal.nD Cert.CInDxReferenceIdeal.τ).loc Cert.CInDxReferenceIdeal.main_arg2)
      ∧ r.2.mem ((c.tc : Thread Cert.CInDxReferenceIdeal.nD Cert.CInDxReferenceIdeal.τ).loc Cert.CInDxReferenceIdeal.main_arg3) = m ((c.tc : Thread Cert.CInDxReferenceIdeal.nD Cert.CInDxReferenceIdeal.τ).loc Cert.CInDxReferenceIdeal.main_arg3)
      ∧ r.2.mem ((c.tc : Thread Cert.CInDxReferenceIdeal.nD Cert.CInDxReferenceIdeal.τ).loc Cert.CInDxReferenceIdeal.main_arg4) = m ((c.tc : Thread Cert.CInDxReferenceIdeal.nD Cert.CInDxReferenceIdeal.τ).loc Cert.CInDxReferenceIdeal.main_arg4))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_DownDxKernel [hDownDxKernel : Cert.DownDxKernel.Facts] : Prop :=
  ∀ (m : (ℓ : Loc Cert.DownDxKernel.nD Cert.DownDxKernel.τ Cert.DownDxKernel.sig) → Buf (Elt Bits) ℓ) (g : Dev Cert.DownDxKernel.nD → PrngReg), Pre_DownDxKernel m →
    θ_run (Cert.DownDxKernel.defs (F := Bits)) (onTc (τ := Cert.DownDxKernel.τ) (Cert.DownDxKernel.main (F := Bits))) ⟨m, fun _ => 0, g⟩ (fun r => (∀ c : Dev Cert.DownDxKernel.nD,
      r.2.mem ((c.tc : Thread Cert.DownDxKernel.nD Cert.DownDxKernel.τ).loc Cert.DownDxKernel.main_arg0) = m ((c.tc : Thread Cert.DownDxKernel.nD Cert.DownDxKernel.τ).loc Cert.DownDxKernel.main_arg0)
      ∧ r.2.mem ((c.tc : Thread Cert.DownDxKernel.nD Cert.DownDxKernel.τ).loc Cert.DownDxKernel.main_arg1) = m ((c.tc : Thread Cert.DownDxKernel.nD Cert.DownDxKernel.τ).loc Cert.DownDxKernel.main_arg1))
      ∧ r.2.sem = fun _ => 0)

def quiescent_DownDxKernelIdeal [hDownDxKernelIdeal : Cert.DownDxKernelIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg), Pre_DownDxKernelIdeal m →
    θ_run (Cert.DownDxKernelIdeal.defs (F := Ideal)) (onTc (τ := Cert.DownDxKernelIdeal.τ) (Cert.DownDxKernelIdeal.main (F := Ideal))) ⟨m, fun _ => 0, g⟩ (fun r => (∀ c : Dev Cert.DownDxKernelIdeal.nD,
      r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
      ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_CInDwKernel [hCInDwKernel : Cert.CInDwKernel.Facts] : Prop :=
  ∀ (m : (ℓ : Loc Cert.CInDwKernel.nD Cert.CInDwKernel.τ Cert.CInDwKernel.sig) → Buf (Elt Bits) ℓ) (g : Dev Cert.CInDwKernel.nD → PrngReg), Pre_CInDwKernel m →
    θ_run (Cert.CInDwKernel.defs (F := Bits)) (onTc (τ := Cert.CInDwKernel.τ) (Cert.CInDwKernel.main (F := Bits))) ⟨m, fun _ => 0, g⟩ (fun r => (∀ c : Dev Cert.CInDwKernel.nD,
      r.2.mem ((c.tc : Thread Cert.CInDwKernel.nD Cert.CInDwKernel.τ).loc Cert.CInDwKernel.main_arg0) = m ((c.tc : Thread Cert.CInDwKernel.nD Cert.CInDwKernel.τ).loc Cert.CInDwKernel.main_arg0)
      ∧ r.2.mem ((c.tc : Thread Cert.CInDwKernel.nD Cert.CInDwKernel.τ).loc Cert.CInDwKernel.main_arg1) = m ((c.tc : Thread Cert.CInDwKernel.nD Cert.CInDwKernel.τ).loc Cert.CInDwKernel.main_arg1))
      ∧ r.2.sem = fun _ => 0)

def quiescent_CInDwKernelIdeal [hCInDwKernelIdeal : Cert.CInDwKernelIdeal.Facts] : Prop :=
  ∀ (m : (ℓ : Loc Cert.CInDwKernelIdeal.nD Cert.CInDwKernelIdeal.τ Cert.CInDwKernelIdeal.sig) → Buf (Elt Ideal) ℓ) (g : Dev Cert.CInDwKernelIdeal.nD → PrngReg), Pre_CInDwKernelIdeal m →
    θ_run (Cert.CInDwKernelIdeal.defs (F := Ideal)) (onTc (τ := Cert.CInDwKernelIdeal.τ) (Cert.CInDwKernelIdeal.main (F := Ideal))) ⟨m, fun _ => 0, g⟩ (fun r => (∀ c : Dev Cert.CInDwKernelIdeal.nD,
      r.2.mem ((c.tc : Thread Cert.CInDwKernelIdeal.nD Cert.CInDwKernelIdeal.τ).loc Cert.CInDwKernelIdeal.main_arg0) = m ((c.tc : Thread Cert.CInDwKernelIdeal.nD Cert.CInDwKernelIdeal.τ).loc Cert.CInDwKernelIdeal.main_arg0)
      ∧ r.2.mem ((c.tc : Thread Cert.CInDwKernelIdeal.nD Cert.CInDwKernelIdeal.τ).loc Cert.CInDwKernelIdeal.main_arg1) = m ((c.tc : Thread Cert.CInDwKernelIdeal.nD Cert.CInDwKernelIdeal.τ).loc Cert.CInDwKernelIdeal.main_arg1))
      ∧ r.2.sem = fun _ => 0)

def quiescent_CInDwReferenceIdeal [hCInDwReferenceIdeal : Cert.CInDwReferenceIdeal.Facts] : Prop :=
  ∀ (m : (ℓ : Loc Cert.CInDwReferenceIdeal.nD Cert.CInDwReferenceIdeal.τ Cert.CInDwReferenceIdeal.sig) → Buf (Elt Ideal) ℓ) (g : Dev Cert.CInDwReferenceIdeal.nD → PrngReg), Pre_CInDwReferenceIdeal m →
    θ_run (Cert.CInDwReferenceIdeal.defs (F := Ideal)) (onTc (τ := Cert.CInDwReferenceIdeal.τ) (Cert.CInDwReferenceIdeal.main (F := Ideal))) ⟨m, fun _ => 0, g⟩ (fun r => (∀ c : Dev Cert.CInDwReferenceIdeal.nD,
      r.2.mem ((c.tc : Thread Cert.CInDwReferenceIdeal.nD Cert.CInDwReferenceIdeal.τ).loc Cert.CInDwReferenceIdeal.main_arg0) = m ((c.tc : Thread Cert.CInDwReferenceIdeal.nD Cert.CInDwReferenceIdeal.τ).loc Cert.CInDwReferenceIdeal.main_arg0)
      ∧ r.2.mem ((c.tc : Thread Cert.CInDwReferenceIdeal.nD Cert.CInDwReferenceIdeal.τ).loc Cert.CInDwReferenceIdeal.main_arg1) = m ((c.tc : Thread Cert.CInDwReferenceIdeal.nD Cert.CInDwReferenceIdeal.τ).loc Cert.CInDwReferenceIdeal.main_arg1))
      ∧ r.2.sem = fun _ => 0)

def quiescent_AbInDwKernel [hAbInDwKernel : Cert.AbInDwKernel.Facts] : Prop :=
  ∀ (m : (ℓ : Loc Cert.AbInDwKernel.nD Cert.AbInDwKernel.τ Cert.AbInDwKernel.sig) → Buf (Elt Bits) ℓ) (g : Dev Cert.AbInDwKernel.nD → PrngReg), Pre_AbInDwKernel m →
    θ_run (Cert.AbInDwKernel.defs (F := Bits)) (onTc (τ := Cert.AbInDwKernel.τ) (Cert.AbInDwKernel.main (F := Bits))) ⟨m, fun _ => 0, g⟩ (fun r => (∀ c : Dev Cert.AbInDwKernel.nD,
      r.2.mem ((c.tc : Thread Cert.AbInDwKernel.nD Cert.AbInDwKernel.τ).loc Cert.AbInDwKernel.main_arg0) = m ((c.tc : Thread Cert.AbInDwKernel.nD Cert.AbInDwKernel.τ).loc Cert.AbInDwKernel.main_arg0)
      ∧ r.2.mem ((c.tc : Thread Cert.AbInDwKernel.nD Cert.AbInDwKernel.τ).loc Cert.AbInDwKernel.main_arg1) = m ((c.tc : Thread Cert.AbInDwKernel.nD Cert.AbInDwKernel.τ).loc Cert.AbInDwKernel.main_arg1))
      ∧ r.2.sem = fun _ => 0)

def quiescent_AbInDwKernelIdeal [hAbInDwKernelIdeal : Cert.AbInDwKernelIdeal.Facts] : Prop :=
  ∀ (m : (ℓ : Loc Cert.AbInDwKernelIdeal.nD Cert.AbInDwKernelIdeal.τ Cert.AbInDwKernelIdeal.sig) → Buf (Elt Ideal) ℓ) (g : Dev Cert.AbInDwKernelIdeal.nD → PrngReg), Pre_AbInDwKernelIdeal m →
    θ_run (Cert.AbInDwKernelIdeal.defs (F := Ideal)) (onTc (τ := Cert.AbInDwKernelIdeal.τ) (Cert.AbInDwKernelIdeal.main (F := Ideal))) ⟨m, fun _ => 0, g⟩ (fun r => (∀ c : Dev Cert.AbInDwKernelIdeal.nD,
      r.2.mem ((c.tc : Thread Cert.AbInDwKernelIdeal.nD Cert.AbInDwKernelIdeal.τ).loc Cert.AbInDwKernelIdeal.main_arg0) = m ((c.tc : Thread Cert.AbInDwKernelIdeal.nD Cert.AbInDwKernelIdeal.τ).loc Cert.AbInDwKernelIdeal.main_arg0)
      ∧ r.2.mem ((c.tc : Thread Cert.AbInDwKernelIdeal.nD Cert.AbInDwKernelIdeal.τ).loc Cert.AbInDwKernelIdeal.main_arg1) = m ((c.tc : Thread Cert.AbInDwKernelIdeal.nD Cert.AbInDwKernelIdeal.τ).loc Cert.AbInDwKernelIdeal.main_arg1))
      ∧ r.2.sem = fun _ => 0)

def quiescent_AbInDwReferenceIdeal [hAbInDwReferenceIdeal : Cert.AbInDwReferenceIdeal.Facts] : Prop :=
  ∀ (m : (ℓ : Loc Cert.AbInDwReferenceIdeal.nD Cert.AbInDwReferenceIdeal.τ Cert.AbInDwReferenceIdeal.sig) → Buf (Elt Ideal) ℓ) (g : Dev Cert.AbInDwReferenceIdeal.nD → PrngReg), Pre_AbInDwReferenceIdeal m →
    θ_run (Cert.AbInDwReferenceIdeal.defs (F := Ideal)) (onTc (τ := Cert.AbInDwReferenceIdeal.τ) (Cert.AbInDwReferenceIdeal.main (F := Ideal))) ⟨m, fun _ => 0, g⟩ (fun r => (∀ c : Dev Cert.AbInDwReferenceIdeal.nD,
      r.2.mem ((c.tc : Thread Cert.AbInDwReferenceIdeal.nD Cert.AbInDwReferenceIdeal.τ).loc Cert.AbInDwReferenceIdeal.main_arg0) = m ((c.tc : Thread Cert.AbInDwReferenceIdeal.nD Cert.AbInDwReferenceIdeal.τ).loc Cert.AbInDwReferenceIdeal.main_arg0)
      ∧ r.2.mem ((c.tc : Thread Cert.AbInDwReferenceIdeal.nD Cert.AbInDwReferenceIdeal.τ).loc Cert.AbInDwReferenceIdeal.main_arg1) = m ((c.tc : Thread Cert.AbInDwReferenceIdeal.nD Cert.AbInDwReferenceIdeal.τ).loc Cert.AbInDwReferenceIdeal.main_arg1))
      ∧ r.2.sem = fun _ => 0)

def quiescent_OutDwKernel [hOutDwKernel : Cert.OutDwKernel.Facts] : Prop :=
  ∀ (m : (ℓ : Loc Cert.OutDwKernel.nD Cert.OutDwKernel.τ Cert.OutDwKernel.sig) → Buf (Elt Bits) ℓ) (g : Dev Cert.OutDwKernel.nD → PrngReg), Pre_OutDwKernel m →
    θ_run (Cert.OutDwKernel.defs (F := Bits)) (onTc (τ := Cert.OutDwKernel.τ) (Cert.OutDwKernel.main (F := Bits))) ⟨m, fun _ => 0, g⟩ (fun r => (∀ c : Dev Cert.OutDwKernel.nD,
      r.2.mem ((c.tc : Thread Cert.OutDwKernel.nD Cert.OutDwKernel.τ).loc Cert.OutDwKernel.main_arg0) = m ((c.tc : Thread Cert.OutDwKernel.nD Cert.OutDwKernel.τ).loc Cert.OutDwKernel.main_arg0)
      ∧ r.2.mem ((c.tc : Thread Cert.OutDwKernel.nD Cert.OutDwKernel.τ).loc Cert.OutDwKernel.main_arg1) = m ((c.tc : Thread Cert.OutDwKernel.nD Cert.OutDwKernel.τ).loc Cert.OutDwKernel.main_arg1))
      ∧ r.2.sem = fun _ => 0)

def quiescent_OutDwKernelIdeal [hOutDwKernelIdeal : Cert.OutDwKernelIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg), Pre_OutDwKernelIdeal m →
    θ_run (Cert.OutDwKernelIdeal.defs (F := Ideal)) (onTc (τ := Cert.OutDwKernelIdeal.τ) (Cert.OutDwKernelIdeal.main (F := Ideal))) ⟨m, fun _ => 0, g⟩ (fun r => (∀ c : Dev Cert.OutDwKernelIdeal.nD,
      r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
      ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_OutDxKernel [hOutDxKernel : Cert.OutDxKernel.Facts] : Prop :=
  ∀ (m : (ℓ : Loc Cert.OutDxKernel.nD Cert.OutDxKernel.τ Cert.OutDxKernel.sig) → Buf (Elt Bits) ℓ) (g : Dev Cert.OutDxKernel.nD → PrngReg), Pre_OutDxKernel m →
    θ_run (Cert.OutDxKernel.defs (F := Bits)) (onTc (τ := Cert.OutDxKernel.τ) (Cert.OutDxKernel.main (F := Bits))) ⟨m, fun _ => 0, g⟩ (fun r => (∀ c : Dev Cert.OutDxKernel.nD,
      r.2.mem ((c.tc : Thread Cert.OutDxKernel.nD Cert.OutDxKernel.τ).loc Cert.OutDxKernel.main_arg0) = m ((c.tc : Thread Cert.OutDxKernel.nD Cert.OutDxKernel.τ).loc Cert.OutDxKernel.main_arg0)
      ∧ r.2.mem ((c.tc : Thread Cert.OutDxKernel.nD Cert.OutDxKernel.τ).loc Cert.OutDxKernel.main_arg1) = m ((c.tc : Thread Cert.OutDxKernel.nD Cert.OutDxKernel.τ).loc Cert.OutDxKernel.main_arg1))
      ∧ r.2.sem = fun _ => 0)

def quiescent_OutDxKernelIdeal [hOutDxKernelIdeal : Cert.OutDxKernelIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg), Pre_OutDxKernelIdeal m →
    θ_run (Cert.OutDxKernelIdeal.defs (F := Ideal)) (onTc (τ := Cert.OutDxKernelIdeal.τ) (Cert.OutDxKernelIdeal.main (F := Ideal))) ⟨m, fun _ => 0, g⟩ (fun r => (∀ c : Dev Cert.OutDxKernelIdeal.nD,
      r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
      ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_UpFKernel [hUpFKernel : Cert.UpFKernel.Facts] : Prop :=
  ∀ (m : (ℓ : Loc Cert.UpFKernel.nD Cert.UpFKernel.τ Cert.UpFKernel.sig) → Buf (Elt Bits) ℓ) (g : Dev Cert.UpFKernel.nD → PrngReg), Pre_UpFKernel m →
    θ_run (Cert.UpFKernel.defs (F := Bits)) (onTc (τ := Cert.UpFKernel.τ) (Cert.UpFKernel.main (F := Bits))) ⟨m, fun _ => 0, g⟩ (fun r => (∀ c : Dev Cert.UpFKernel.nD,
      r.2.mem ((c.tc : Thread Cert.UpFKernel.nD Cert.UpFKernel.τ).loc Cert.UpFKernel.main_arg0) = m ((c.tc : Thread Cert.UpFKernel.nD Cert.UpFKernel.τ).loc Cert.UpFKernel.main_arg0)
      ∧ r.2.mem ((c.tc : Thread Cert.UpFKernel.nD Cert.UpFKernel.τ).loc Cert.UpFKernel.main_arg1) = m ((c.tc : Thread Cert.UpFKernel.nD Cert.UpFKernel.τ).loc Cert.UpFKernel.main_arg1))
      ∧ r.2.sem = fun _ => 0)

def quiescent_UpFKernelIdeal [hUpFKernelIdeal : Cert.UpFKernelIdeal.Facts] : Prop :=
  ∀ (m : (ℓ : Loc Cert.UpFKernelIdeal.nD Cert.UpFKernelIdeal.τ Cert.UpFKernelIdeal.sig) → Buf (Elt Ideal) ℓ) (g : Dev Cert.UpFKernelIdeal.nD → PrngReg), Pre_UpFKernelIdeal m →
    θ_run (Cert.UpFKernelIdeal.defs (F := Ideal)) (onTc (τ := Cert.UpFKernelIdeal.τ) (Cert.UpFKernelIdeal.main (F := Ideal))) ⟨m, fun _ => 0, g⟩ (fun r => (∀ c : Dev Cert.UpFKernelIdeal.nD,
      r.2.mem ((c.tc : Thread Cert.UpFKernelIdeal.nD Cert.UpFKernelIdeal.τ).loc Cert.UpFKernelIdeal.main_arg0) = m ((c.tc : Thread Cert.UpFKernelIdeal.nD Cert.UpFKernelIdeal.τ).loc Cert.UpFKernelIdeal.main_arg0)
      ∧ r.2.mem ((c.tc : Thread Cert.UpFKernelIdeal.nD Cert.UpFKernelIdeal.τ).loc Cert.UpFKernelIdeal.main_arg1) = m ((c.tc : Thread Cert.UpFKernelIdeal.nD Cert.UpFKernelIdeal.τ).loc Cert.UpFKernelIdeal.main_arg1))
      ∧ r.2.sem = fun _ => 0)

def quiescent_UpFReferenceIdeal [hUpFReferenceIdeal : Cert.UpFReferenceIdeal.Facts] : Prop :=
  ∀ (m : (ℓ : Loc Cert.UpFReferenceIdeal.nD Cert.UpFReferenceIdeal.τ Cert.UpFReferenceIdeal.sig) → Buf (Elt Ideal) ℓ) (g : Dev Cert.UpFReferenceIdeal.nD → PrngReg), Pre_UpFReferenceIdeal m →
    θ_run (Cert.UpFReferenceIdeal.defs (F := Ideal)) (onTc (τ := Cert.UpFReferenceIdeal.τ) (Cert.UpFReferenceIdeal.main (F := Ideal))) ⟨m, fun _ => 0, g⟩ (fun r => (∀ c : Dev Cert.UpFReferenceIdeal.nD,
      r.2.mem ((c.tc : Thread Cert.UpFReferenceIdeal.nD Cert.UpFReferenceIdeal.τ).loc Cert.UpFReferenceIdeal.main_arg0) = m ((c.tc : Thread Cert.UpFReferenceIdeal.nD Cert.UpFReferenceIdeal.τ).loc Cert.UpFReferenceIdeal.main_arg0)
      ∧ r.2.mem ((c.tc : Thread Cert.UpFReferenceIdeal.nD Cert.UpFReferenceIdeal.τ).loc Cert.UpFReferenceIdeal.main_arg1) = m ((c.tc : Thread Cert.UpFReferenceIdeal.nD Cert.UpFReferenceIdeal.τ).loc Cert.UpFReferenceIdeal.main_arg1))
      ∧ r.2.sem = fun _ => 0)

def quiescent_CInFKernel [hCInFKernel : Cert.CInFKernel.Facts] : Prop :=
  ∀ (m : (ℓ : Loc Cert.CInFKernel.nD Cert.CInFKernel.τ Cert.CInFKernel.sig) → Buf (Elt Bits) ℓ) (g : Dev Cert.CInFKernel.nD → PrngReg), Pre_CInFKernel m →
    θ_run (Cert.CInFKernel.defs (F := Bits)) (onTc (τ := Cert.CInFKernel.τ) (Cert.CInFKernel.main (F := Bits))) ⟨m, fun _ => 0, g⟩ (fun r => (∀ c : Dev Cert.CInFKernel.nD,
      r.2.mem ((c.tc : Thread Cert.CInFKernel.nD Cert.CInFKernel.τ).loc Cert.CInFKernel.main_arg0) = m ((c.tc : Thread Cert.CInFKernel.nD Cert.CInFKernel.τ).loc Cert.CInFKernel.main_arg0)
      ∧ r.2.mem ((c.tc : Thread Cert.CInFKernel.nD Cert.CInFKernel.τ).loc Cert.CInFKernel.main_arg1) = m ((c.tc : Thread Cert.CInFKernel.nD Cert.CInFKernel.τ).loc Cert.CInFKernel.main_arg1))
      ∧ r.2.sem = fun _ => 0)

def quiescent_CInFKernelIdeal [hCInFKernelIdeal : Cert.CInFKernelIdeal.Facts] : Prop :=
  ∀ (m : (ℓ : Loc Cert.CInFKernelIdeal.nD Cert.CInFKernelIdeal.τ Cert.CInFKernelIdeal.sig) → Buf (Elt Ideal) ℓ) (g : Dev Cert.CInFKernelIdeal.nD → PrngReg), Pre_CInFKernelIdeal m →
    θ_run (Cert.CInFKernelIdeal.defs (F := Ideal)) (onTc (τ := Cert.CInFKernelIdeal.τ) (Cert.CInFKernelIdeal.main (F := Ideal))) ⟨m, fun _ => 0, g⟩ (fun r => (∀ c : Dev Cert.CInFKernelIdeal.nD,
      r.2.mem ((c.tc : Thread Cert.CInFKernelIdeal.nD Cert.CInFKernelIdeal.τ).loc Cert.CInFKernelIdeal.main_arg0) = m ((c.tc : Thread Cert.CInFKernelIdeal.nD Cert.CInFKernelIdeal.τ).loc Cert.CInFKernelIdeal.main_arg0)
      ∧ r.2.mem ((c.tc : Thread Cert.CInFKernelIdeal.nD Cert.CInFKernelIdeal.τ).loc Cert.CInFKernelIdeal.main_arg1) = m ((c.tc : Thread Cert.CInFKernelIdeal.nD Cert.CInFKernelIdeal.τ).loc Cert.CInFKernelIdeal.main_arg1))
      ∧ r.2.sem = fun _ => 0)

def quiescent_CInFReferenceIdeal [hCInFReferenceIdeal : Cert.CInFReferenceIdeal.Facts] : Prop :=
  ∀ (m : (ℓ : Loc Cert.CInFReferenceIdeal.nD Cert.CInFReferenceIdeal.τ Cert.CInFReferenceIdeal.sig) → Buf (Elt Ideal) ℓ) (g : Dev Cert.CInFReferenceIdeal.nD → PrngReg), Pre_CInFReferenceIdeal m →
    θ_run (Cert.CInFReferenceIdeal.defs (F := Ideal)) (onTc (τ := Cert.CInFReferenceIdeal.τ) (Cert.CInFReferenceIdeal.main (F := Ideal))) ⟨m, fun _ => 0, g⟩ (fun r => (∀ c : Dev Cert.CInFReferenceIdeal.nD,
      r.2.mem ((c.tc : Thread Cert.CInFReferenceIdeal.nD Cert.CInFReferenceIdeal.τ).loc Cert.CInFReferenceIdeal.main_arg0) = m ((c.tc : Thread Cert.CInFReferenceIdeal.nD Cert.CInFReferenceIdeal.τ).loc Cert.CInFReferenceIdeal.main_arg0)
      ∧ r.2.mem ((c.tc : Thread Cert.CInFReferenceIdeal.nD Cert.CInFReferenceIdeal.τ).loc Cert.CInFReferenceIdeal.main_arg1) = m ((c.tc : Thread Cert.CInFReferenceIdeal.nD Cert.CInFReferenceIdeal.τ).loc Cert.CInFReferenceIdeal.main_arg1))
      ∧ r.2.sem = fun _ => 0)

def quiescent_AbOutFKernel [hAbOutFKernel : Cert.AbOutFKernel.Facts] : Prop :=
  ∀ (m : (ℓ : Loc Cert.AbOutFKernel.nD Cert.AbOutFKernel.τ Cert.AbOutFKernel.sig) → Buf (Elt Bits) ℓ) (g : Dev Cert.AbOutFKernel.nD → PrngReg), Pre_AbOutFKernel m →
    θ_run (Cert.AbOutFKernel.defs (F := Bits)) (onTc (τ := Cert.AbOutFKernel.τ) (Cert.AbOutFKernel.main (F := Bits))) ⟨m, fun _ => 0, g⟩ (fun r => (∀ c : Dev Cert.AbOutFKernel.nD,
      r.2.mem ((c.tc : Thread Cert.AbOutFKernel.nD Cert.AbOutFKernel.τ).loc Cert.AbOutFKernel.main_arg0) = m ((c.tc : Thread Cert.AbOutFKernel.nD Cert.AbOutFKernel.τ).loc Cert.AbOutFKernel.main_arg0)
      ∧ r.2.mem ((c.tc : Thread Cert.AbOutFKernel.nD Cert.AbOutFKernel.τ).loc Cert.AbOutFKernel.main_arg1) = m ((c.tc : Thread Cert.AbOutFKernel.nD Cert.AbOutFKernel.τ).loc Cert.AbOutFKernel.main_arg1)
      ∧ r.2.mem ((c.tc : Thread Cert.AbOutFKernel.nD Cert.AbOutFKernel.τ).loc Cert.AbOutFKernel.main_arg2) = m ((c.tc : Thread Cert.AbOutFKernel.nD Cert.AbOutFKernel.τ).loc Cert.AbOutFKernel.main_arg2)
      ∧ r.2.mem ((c.tc : Thread Cert.AbOutFKernel.nD Cert.AbOutFKernel.τ).loc Cert.AbOutFKernel.main_arg3) = m ((c.tc : Thread Cert.AbOutFKernel.nD Cert.AbOutFKernel.τ).loc Cert.AbOutFKernel.main_arg3))
      ∧ r.2.sem = fun _ => 0)

def quiescent_AbOutFKernelIdeal [hAbOutFKernelIdeal : Cert.AbOutFKernelIdeal.Facts] : Prop :=
  ∀ (m : (ℓ : Loc Cert.AbOutFKernelIdeal.nD Cert.AbOutFKernelIdeal.τ Cert.AbOutFKernelIdeal.sig) → Buf (Elt Ideal) ℓ) (g : Dev Cert.AbOutFKernelIdeal.nD → PrngReg), Pre_AbOutFKernelIdeal m →
    θ_run (Cert.AbOutFKernelIdeal.defs (F := Ideal)) (onTc (τ := Cert.AbOutFKernelIdeal.τ) (Cert.AbOutFKernelIdeal.main (F := Ideal))) ⟨m, fun _ => 0, g⟩ (fun r => (∀ c : Dev Cert.AbOutFKernelIdeal.nD,
      r.2.mem ((c.tc : Thread Cert.AbOutFKernelIdeal.nD Cert.AbOutFKernelIdeal.τ).loc Cert.AbOutFKernelIdeal.main_arg0) = m ((c.tc : Thread Cert.AbOutFKernelIdeal.nD Cert.AbOutFKernelIdeal.τ).loc Cert.AbOutFKernelIdeal.main_arg0)
      ∧ r.2.mem ((c.tc : Thread Cert.AbOutFKernelIdeal.nD Cert.AbOutFKernelIdeal.τ).loc Cert.AbOutFKernelIdeal.main_arg1) = m ((c.tc : Thread Cert.AbOutFKernelIdeal.nD Cert.AbOutFKernelIdeal.τ).loc Cert.AbOutFKernelIdeal.main_arg1)
      ∧ r.2.mem ((c.tc : Thread Cert.AbOutFKernelIdeal.nD Cert.AbOutFKernelIdeal.τ).loc Cert.AbOutFKernelIdeal.main_arg2) = m ((c.tc : Thread Cert.AbOutFKernelIdeal.nD Cert.AbOutFKernelIdeal.τ).loc Cert.AbOutFKernelIdeal.main_arg2)
      ∧ r.2.mem ((c.tc : Thread Cert.AbOutFKernelIdeal.nD Cert.AbOutFKernelIdeal.τ).loc Cert.AbOutFKernelIdeal.main_arg3) = m ((c.tc : Thread Cert.AbOutFKernelIdeal.nD Cert.AbOutFKernelIdeal.τ).loc Cert.AbOutFKernelIdeal.main_arg3))
      ∧ r.2.sem = fun _ => 0)

def quiescent_AbOutFReferenceIdeal [hAbOutFReferenceIdeal : Cert.AbOutFReferenceIdeal.Facts] : Prop :=
  ∀ (m : (ℓ : Loc Cert.AbOutFReferenceIdeal.nD Cert.AbOutFReferenceIdeal.τ Cert.AbOutFReferenceIdeal.sig) → Buf (Elt Ideal) ℓ) (g : Dev Cert.AbOutFReferenceIdeal.nD → PrngReg), Pre_AbOutFReferenceIdeal m →
    θ_run (Cert.AbOutFReferenceIdeal.defs (F := Ideal)) (onTc (τ := Cert.AbOutFReferenceIdeal.τ) (Cert.AbOutFReferenceIdeal.main (F := Ideal))) ⟨m, fun _ => 0, g⟩ (fun r => (∀ c : Dev Cert.AbOutFReferenceIdeal.nD,
      r.2.mem ((c.tc : Thread Cert.AbOutFReferenceIdeal.nD Cert.AbOutFReferenceIdeal.τ).loc Cert.AbOutFReferenceIdeal.main_arg0) = m ((c.tc : Thread Cert.AbOutFReferenceIdeal.nD Cert.AbOutFReferenceIdeal.τ).loc Cert.AbOutFReferenceIdeal.main_arg0)
      ∧ r.2.mem ((c.tc : Thread Cert.AbOutFReferenceIdeal.nD Cert.AbOutFReferenceIdeal.τ).loc Cert.AbOutFReferenceIdeal.main_arg1) = m ((c.tc : Thread Cert.AbOutFReferenceIdeal.nD Cert.AbOutFReferenceIdeal.τ).loc Cert.AbOutFReferenceIdeal.main_arg1)
      ∧ r.2.mem ((c.tc : Thread Cert.AbOutFReferenceIdeal.nD Cert.AbOutFReferenceIdeal.τ).loc Cert.AbOutFReferenceIdeal.main_arg2) = m ((c.tc : Thread Cert.AbOutFReferenceIdeal.nD Cert.AbOutFReferenceIdeal.τ).loc Cert.AbOutFReferenceIdeal.main_arg2)
      ∧ r.2.mem ((c.tc : Thread Cert.AbOutFReferenceIdeal.nD Cert.AbOutFReferenceIdeal.τ).loc Cert.AbOutFReferenceIdeal.main_arg3) = m ((c.tc : Thread Cert.AbOutFReferenceIdeal.nD Cert.AbOutFReferenceIdeal.τ).loc Cert.AbOutFReferenceIdeal.main_arg3))
      ∧ r.2.sem = fun _ => 0)

def quiescent_COutFKernel [hCOutFKernel : Cert.COutFKernel.Facts] : Prop :=
  ∀ (m : (ℓ : Loc Cert.COutFKernel.nD Cert.COutFKernel.τ Cert.COutFKernel.sig) → Buf (Elt Bits) ℓ) (g : Dev Cert.COutFKernel.nD → PrngReg), Pre_COutFKernel m →
    θ_run (Cert.COutFKernel.defs (F := Bits)) (onTc (τ := Cert.COutFKernel.τ) (Cert.COutFKernel.main (F := Bits))) ⟨m, fun _ => 0, g⟩ (fun r => (∀ c : Dev Cert.COutFKernel.nD,
      r.2.mem ((c.tc : Thread Cert.COutFKernel.nD Cert.COutFKernel.τ).loc Cert.COutFKernel.main_arg0) = m ((c.tc : Thread Cert.COutFKernel.nD Cert.COutFKernel.τ).loc Cert.COutFKernel.main_arg0)
      ∧ r.2.mem ((c.tc : Thread Cert.COutFKernel.nD Cert.COutFKernel.τ).loc Cert.COutFKernel.main_arg1) = m ((c.tc : Thread Cert.COutFKernel.nD Cert.COutFKernel.τ).loc Cert.COutFKernel.main_arg1)
      ∧ r.2.mem ((c.tc : Thread Cert.COutFKernel.nD Cert.COutFKernel.τ).loc Cert.COutFKernel.main_arg2) = m ((c.tc : Thread Cert.COutFKernel.nD Cert.COutFKernel.τ).loc Cert.COutFKernel.main_arg2)
      ∧ r.2.mem ((c.tc : Thread Cert.COutFKernel.nD Cert.COutFKernel.τ).loc Cert.COutFKernel.main_arg3) = m ((c.tc : Thread Cert.COutFKernel.nD Cert.COutFKernel.τ).loc Cert.COutFKernel.main_arg3))
      ∧ r.2.sem = fun _ => 0)

def quiescent_COutFKernelIdeal [hCOutFKernelIdeal : Cert.COutFKernelIdeal.Facts] : Prop :=
  ∀ (m : (ℓ : Loc Cert.COutFKernelIdeal.nD Cert.COutFKernelIdeal.τ Cert.COutFKernelIdeal.sig) → Buf (Elt Ideal) ℓ) (g : Dev Cert.COutFKernelIdeal.nD → PrngReg), Pre_COutFKernelIdeal m →
    θ_run (Cert.COutFKernelIdeal.defs (F := Ideal)) (onTc (τ := Cert.COutFKernelIdeal.τ) (Cert.COutFKernelIdeal.main (F := Ideal))) ⟨m, fun _ => 0, g⟩ (fun r => (∀ c : Dev Cert.COutFKernelIdeal.nD,
      r.2.mem ((c.tc : Thread Cert.COutFKernelIdeal.nD Cert.COutFKernelIdeal.τ).loc Cert.COutFKernelIdeal.main_arg0) = m ((c.tc : Thread Cert.COutFKernelIdeal.nD Cert.COutFKernelIdeal.τ).loc Cert.COutFKernelIdeal.main_arg0)
      ∧ r.2.mem ((c.tc : Thread Cert.COutFKernelIdeal.nD Cert.COutFKernelIdeal.τ).loc Cert.COutFKernelIdeal.main_arg1) = m ((c.tc : Thread Cert.COutFKernelIdeal.nD Cert.COutFKernelIdeal.τ).loc Cert.COutFKernelIdeal.main_arg1)
      ∧ r.2.mem ((c.tc : Thread Cert.COutFKernelIdeal.nD Cert.COutFKernelIdeal.τ).loc Cert.COutFKernelIdeal.main_arg2) = m ((c.tc : Thread Cert.COutFKernelIdeal.nD Cert.COutFKernelIdeal.τ).loc Cert.COutFKernelIdeal.main_arg2)
      ∧ r.2.mem ((c.tc : Thread Cert.COutFKernelIdeal.nD Cert.COutFKernelIdeal.τ).loc Cert.COutFKernelIdeal.main_arg3) = m ((c.tc : Thread Cert.COutFKernelIdeal.nD Cert.COutFKernelIdeal.τ).loc Cert.COutFKernelIdeal.main_arg3))
      ∧ r.2.sem = fun _ => 0)

def quiescent_COutFReferenceIdeal [hCOutFReferenceIdeal : Cert.COutFReferenceIdeal.Facts] : Prop :=
  ∀ (m : (ℓ : Loc Cert.COutFReferenceIdeal.nD Cert.COutFReferenceIdeal.τ Cert.COutFReferenceIdeal.sig) → Buf (Elt Ideal) ℓ) (g : Dev Cert.COutFReferenceIdeal.nD → PrngReg), Pre_COutFReferenceIdeal m →
    θ_run (Cert.COutFReferenceIdeal.defs (F := Ideal)) (onTc (τ := Cert.COutFReferenceIdeal.τ) (Cert.COutFReferenceIdeal.main (F := Ideal))) ⟨m, fun _ => 0, g⟩ (fun r => (∀ c : Dev Cert.COutFReferenceIdeal.nD,
      r.2.mem ((c.tc : Thread Cert.COutFReferenceIdeal.nD Cert.COutFReferenceIdeal.τ).loc Cert.COutFReferenceIdeal.main_arg0) = m ((c.tc : Thread Cert.COutFReferenceIdeal.nD Cert.COutFReferenceIdeal.τ).loc Cert.COutFReferenceIdeal.main_arg0)
      ∧ r.2.mem ((c.tc : Thread Cert.COutFReferenceIdeal.nD Cert.COutFReferenceIdeal.τ).loc Cert.COutFReferenceIdeal.main_arg1) = m ((c.tc : Thread Cert.COutFReferenceIdeal.nD Cert.COutFReferenceIdeal.τ).loc Cert.COutFReferenceIdeal.main_arg1)
      ∧ r.2.mem ((c.tc : Thread Cert.COutFReferenceIdeal.nD Cert.COutFReferenceIdeal.τ).loc Cert.COutFReferenceIdeal.main_arg2) = m ((c.tc : Thread Cert.COutFReferenceIdeal.nD Cert.COutFReferenceIdeal.τ).loc Cert.COutFReferenceIdeal.main_arg2)
      ∧ r.2.mem ((c.tc : Thread Cert.COutFReferenceIdeal.nD Cert.COutFReferenceIdeal.τ).loc Cert.COutFReferenceIdeal.main_arg3) = m ((c.tc : Thread Cert.COutFReferenceIdeal.nD Cert.COutFReferenceIdeal.τ).loc Cert.COutFReferenceIdeal.main_arg3))
      ∧ r.2.sem = fun _ => 0)

def quiescent_DownFKernel [hDownFKernel : Cert.DownFKernel.Facts] : Prop :=
  ∀ (m : (ℓ : Loc Cert.DownFKernel.nD Cert.DownFKernel.τ Cert.DownFKernel.sig) → Buf (Elt Bits) ℓ) (g : Dev Cert.DownFKernel.nD → PrngReg), Pre_DownFKernel m →
    θ_run (Cert.DownFKernel.defs (F := Bits)) (onTc (τ := Cert.DownFKernel.τ) (Cert.DownFKernel.main (F := Bits))) ⟨m, fun _ => 0, g⟩ (fun r => (∀ c : Dev Cert.DownFKernel.nD,
      r.2.mem ((c.tc : Thread Cert.DownFKernel.nD Cert.DownFKernel.τ).loc Cert.DownFKernel.main_arg0) = m ((c.tc : Thread Cert.DownFKernel.nD Cert.DownFKernel.τ).loc Cert.DownFKernel.main_arg0)
      ∧ r.2.mem ((c.tc : Thread Cert.DownFKernel.nD Cert.DownFKernel.τ).loc Cert.DownFKernel.main_arg1) = m ((c.tc : Thread Cert.DownFKernel.nD Cert.DownFKernel.τ).loc Cert.DownFKernel.main_arg1)
      ∧ r.2.mem ((c.tc : Thread Cert.DownFKernel.nD Cert.DownFKernel.τ).loc Cert.DownFKernel.main_arg2) = m ((c.tc : Thread Cert.DownFKernel.nD Cert.DownFKernel.τ).loc Cert.DownFKernel.main_arg2)
      ∧ r.2.mem ((c.tc : Thread Cert.DownFKernel.nD Cert.DownFKernel.τ).loc Cert.DownFKernel.main_arg3) = m ((c.tc : Thread Cert.DownFKernel.nD Cert.DownFKernel.τ).loc Cert.DownFKernel.main_arg3))
      ∧ r.2.sem = fun _ => 0)

def quiescent_DownFKernelIdeal [hDownFKernelIdeal : Cert.DownFKernelIdeal.Facts] : Prop :=
  ∀ (m : (ℓ : Loc Cert.DownFKernelIdeal.nD Cert.DownFKernelIdeal.τ Cert.DownFKernelIdeal.sig) → Buf (Elt Ideal) ℓ) (g : Dev Cert.DownFKernelIdeal.nD → PrngReg), Pre_DownFKernelIdeal m →
    θ_run (Cert.DownFKernelIdeal.defs (F := Ideal)) (onTc (τ := Cert.DownFKernelIdeal.τ) (Cert.DownFKernelIdeal.main (F := Ideal))) ⟨m, fun _ => 0, g⟩ (fun r => (∀ c : Dev Cert.DownFKernelIdeal.nD,
      r.2.mem ((c.tc : Thread Cert.DownFKernelIdeal.nD Cert.DownFKernelIdeal.τ).loc Cert.DownFKernelIdeal.main_arg0) = m ((c.tc : Thread Cert.DownFKernelIdeal.nD Cert.DownFKernelIdeal.τ).loc Cert.DownFKernelIdeal.main_arg0)
      ∧ r.2.mem ((c.tc : Thread Cert.DownFKernelIdeal.nD Cert.DownFKernelIdeal.τ).loc Cert.DownFKernelIdeal.main_arg1) = m ((c.tc : Thread Cert.DownFKernelIdeal.nD Cert.DownFKernelIdeal.τ).loc Cert.DownFKernelIdeal.main_arg1)
      ∧ r.2.mem ((c.tc : Thread Cert.DownFKernelIdeal.nD Cert.DownFKernelIdeal.τ).loc Cert.DownFKernelIdeal.main_arg2) = m ((c.tc : Thread Cert.DownFKernelIdeal.nD Cert.DownFKernelIdeal.τ).loc Cert.DownFKernelIdeal.main_arg2)
      ∧ r.2.mem ((c.tc : Thread Cert.DownFKernelIdeal.nD Cert.DownFKernelIdeal.τ).loc Cert.DownFKernelIdeal.main_arg3) = m ((c.tc : Thread Cert.DownFKernelIdeal.nD Cert.DownFKernelIdeal.τ).loc Cert.DownFKernelIdeal.main_arg3))
      ∧ r.2.sem = fun _ => 0)

def quiescent_DownFReferenceIdeal [hDownFReferenceIdeal : Cert.DownFReferenceIdeal.Facts] : Prop :=
  ∀ (m : (ℓ : Loc Cert.DownFReferenceIdeal.nD Cert.DownFReferenceIdeal.τ Cert.DownFReferenceIdeal.sig) → Buf (Elt Ideal) ℓ) (g : Dev Cert.DownFReferenceIdeal.nD → PrngReg), Pre_DownFReferenceIdeal m →
    θ_run (Cert.DownFReferenceIdeal.defs (F := Ideal)) (onTc (τ := Cert.DownFReferenceIdeal.τ) (Cert.DownFReferenceIdeal.main (F := Ideal))) ⟨m, fun _ => 0, g⟩ (fun r => (∀ c : Dev Cert.DownFReferenceIdeal.nD,
      r.2.mem ((c.tc : Thread Cert.DownFReferenceIdeal.nD Cert.DownFReferenceIdeal.τ).loc Cert.DownFReferenceIdeal.main_arg0) = m ((c.tc : Thread Cert.DownFReferenceIdeal.nD Cert.DownFReferenceIdeal.τ).loc Cert.DownFReferenceIdeal.main_arg0)
      ∧ r.2.mem ((c.tc : Thread Cert.DownFReferenceIdeal.nD Cert.DownFReferenceIdeal.τ).loc Cert.DownFReferenceIdeal.main_arg1) = m ((c.tc : Thread Cert.DownFReferenceIdeal.nD Cert.DownFReferenceIdeal.τ).loc Cert.DownFReferenceIdeal.main_arg1)
      ∧ r.2.mem ((c.tc : Thread Cert.DownFReferenceIdeal.nD Cert.DownFReferenceIdeal.τ).loc Cert.DownFReferenceIdeal.main_arg2) = m ((c.tc : Thread Cert.DownFReferenceIdeal.nD Cert.DownFReferenceIdeal.τ).loc Cert.DownFReferenceIdeal.main_arg2)
      ∧ r.2.mem ((c.tc : Thread Cert.DownFReferenceIdeal.nD Cert.DownFReferenceIdeal.τ).loc Cert.DownFReferenceIdeal.main_arg3) = m ((c.tc : Thread Cert.DownFReferenceIdeal.nD Cert.DownFReferenceIdeal.τ).loc Cert.DownFReferenceIdeal.main_arg3))
      ∧ r.2.sem = fun _ => 0)

def quiescent_AdamAbInKernel [hAdamAbInKernel : Cert.AdamAbInKernel.Facts] : Prop :=
  ∀ (m : (ℓ : Loc Cert.AdamAbInKernel.nD Cert.AdamAbInKernel.τ Cert.AdamAbInKernel.sig) → Buf (Elt Bits) ℓ) (g : Dev Cert.AdamAbInKernel.nD → PrngReg), Pre_AdamAbInKernel m →
    θ_run (Cert.AdamAbInKernel.defs (F := Bits)) (onTc (τ := Cert.AdamAbInKernel.τ) (Cert.AdamAbInKernel.main (F := Bits))) ⟨m, fun _ => 0, g⟩ (fun r => (∀ c : Dev Cert.AdamAbInKernel.nD,
      r.2.mem ((c.tc : Thread Cert.AdamAbInKernel.nD Cert.AdamAbInKernel.τ).loc Cert.AdamAbInKernel.main_arg0) = m ((c.tc : Thread Cert.AdamAbInKernel.nD Cert.AdamAbInKernel.τ).loc Cert.AdamAbInKernel.main_arg0)
      ∧ r.2.mem ((c.tc : Thread Cert.AdamAbInKernel.nD Cert.AdamAbInKernel.τ).loc Cert.AdamAbInKernel.main_arg1) = m ((c.tc : Thread Cert.AdamAbInKernel.nD Cert.AdamAbInKernel.τ).loc Cert.AdamAbInKernel.main_arg1)
      ∧ r.2.mem ((c.tc : Thread Cert.AdamAbInKernel.nD Cert.AdamAbInKernel.τ).loc Cert.AdamAbInKernel.main_arg2) = m ((c.tc : Thread Cert.AdamAbInKernel.nD Cert.AdamAbInKernel.τ).loc Cert.AdamAbInKernel.main_arg2)
      ∧ r.2.mem ((c.tc : Thread Cert.AdamAbInKernel.nD Cert.AdamAbInKernel.τ).loc Cert.AdamAbInKernel.main_arg3) = m ((c.tc : Thread Cert.AdamAbInKernel.nD Cert.AdamAbInKernel.τ).loc Cert.AdamAbInKernel.main_arg3))
      ∧ r.2.sem = fun _ => 0)

def quiescent_AdamAbInKernelIdeal [hAdamAbInKernelIdeal : Cert.AdamAbInKernelIdeal.Facts] : Prop :=
  ∀ (m : (ℓ : Loc Cert.AdamAbInKernelIdeal.nD Cert.AdamAbInKernelIdeal.τ Cert.AdamAbInKernelIdeal.sig) → Buf (Elt Ideal) ℓ) (g : Dev Cert.AdamAbInKernelIdeal.nD → PrngReg), Pre_AdamAbInKernelIdeal m →
    θ_run (Cert.AdamAbInKernelIdeal.defs (F := Ideal)) (onTc (τ := Cert.AdamAbInKernelIdeal.τ) (Cert.AdamAbInKernelIdeal.main (F := Ideal))) ⟨m, fun _ => 0, g⟩ (fun r => (∀ c : Dev Cert.AdamAbInKernelIdeal.nD,
      r.2.mem ((c.tc : Thread Cert.AdamAbInKernelIdeal.nD Cert.AdamAbInKernelIdeal.τ).loc Cert.AdamAbInKernelIdeal.main_arg0) = m ((c.tc : Thread Cert.AdamAbInKernelIdeal.nD Cert.AdamAbInKernelIdeal.τ).loc Cert.AdamAbInKernelIdeal.main_arg0)
      ∧ r.2.mem ((c.tc : Thread Cert.AdamAbInKernelIdeal.nD Cert.AdamAbInKernelIdeal.τ).loc Cert.AdamAbInKernelIdeal.main_arg1) = m ((c.tc : Thread Cert.AdamAbInKernelIdeal.nD Cert.AdamAbInKernelIdeal.τ).loc Cert.AdamAbInKernelIdeal.main_arg1)
      ∧ r.2.mem ((c.tc : Thread Cert.AdamAbInKernelIdeal.nD Cert.AdamAbInKernelIdeal.τ).loc Cert.AdamAbInKernelIdeal.main_arg2) = m ((c.tc : Thread Cert.AdamAbInKernelIdeal.nD Cert.AdamAbInKernelIdeal.τ).loc Cert.AdamAbInKernelIdeal.main_arg2)
      ∧ r.2.mem ((c.tc : Thread Cert.AdamAbInKernelIdeal.nD Cert.AdamAbInKernelIdeal.τ).loc Cert.AdamAbInKernelIdeal.main_arg3) = m ((c.tc : Thread Cert.AdamAbInKernelIdeal.nD Cert.AdamAbInKernelIdeal.τ).loc Cert.AdamAbInKernelIdeal.main_arg3))
      ∧ r.2.sem = fun _ => 0)

def quiescent_AdamAbInReferenceIdeal [hAdamAbInReferenceIdeal : Cert.AdamAbInReferenceIdeal.Facts] : Prop :=
  ∀ (m : (ℓ : Loc Cert.AdamAbInReferenceIdeal.nD Cert.AdamAbInReferenceIdeal.τ Cert.AdamAbInReferenceIdeal.sig) → Buf (Elt Ideal) ℓ) (g : Dev Cert.AdamAbInReferenceIdeal.nD → PrngReg), Pre_AdamAbInReferenceIdeal m →
    θ_run (Cert.AdamAbInReferenceIdeal.defs (F := Ideal)) (onTc (τ := Cert.AdamAbInReferenceIdeal.τ) (Cert.AdamAbInReferenceIdeal.main (F := Ideal))) ⟨m, fun _ => 0, g⟩ (fun r => (∀ c : Dev Cert.AdamAbInReferenceIdeal.nD,
      r.2.mem ((c.tc : Thread Cert.AdamAbInReferenceIdeal.nD Cert.AdamAbInReferenceIdeal.τ).loc Cert.AdamAbInReferenceIdeal.main_arg0) = m ((c.tc : Thread Cert.AdamAbInReferenceIdeal.nD Cert.AdamAbInReferenceIdeal.τ).loc Cert.AdamAbInReferenceIdeal.main_arg0)
      ∧ r.2.mem ((c.tc : Thread Cert.AdamAbInReferenceIdeal.nD Cert.AdamAbInReferenceIdeal.τ).loc Cert.AdamAbInReferenceIdeal.main_arg1) = m ((c.tc : Thread Cert.AdamAbInReferenceIdeal.nD Cert.AdamAbInReferenceIdeal.τ).loc Cert.AdamAbInReferenceIdeal.main_arg1)
      ∧ r.2.mem ((c.tc : Thread Cert.AdamAbInReferenceIdeal.nD Cert.AdamAbInReferenceIdeal.τ).loc Cert.AdamAbInReferenceIdeal.main_arg2) = m ((c.tc : Thread Cert.AdamAbInReferenceIdeal.nD Cert.AdamAbInReferenceIdeal.τ).loc Cert.AdamAbInReferenceIdeal.main_arg2)
      ∧ r.2.mem ((c.tc : Thread Cert.AdamAbInReferenceIdeal.nD Cert.AdamAbInReferenceIdeal.τ).loc Cert.AdamAbInReferenceIdeal.main_arg3) = m ((c.tc : Thread Cert.AdamAbInReferenceIdeal.nD Cert.AdamAbInReferenceIdeal.τ).loc Cert.AdamAbInReferenceIdeal.main_arg3))
      ∧ r.2.sem = fun _ => 0)

def quiescent_AdamAbOutKernel [hAdamAbOutKernel : Cert.AdamAbOutKernel.Facts] : Prop :=
  ∀ (m : (ℓ : Loc Cert.AdamAbOutKernel.nD Cert.AdamAbOutKernel.τ Cert.AdamAbOutKernel.sig) → Buf (Elt Bits) ℓ) (g : Dev Cert.AdamAbOutKernel.nD → PrngReg), Pre_AdamAbOutKernel m →
    θ_run (Cert.AdamAbOutKernel.defs (F := Bits)) (onTc (τ := Cert.AdamAbOutKernel.τ) (Cert.AdamAbOutKernel.main (F := Bits))) ⟨m, fun _ => 0, g⟩ (fun r => (∀ c : Dev Cert.AdamAbOutKernel.nD,
      r.2.mem ((c.tc : Thread Cert.AdamAbOutKernel.nD Cert.AdamAbOutKernel.τ).loc Cert.AdamAbOutKernel.main_arg0) = m ((c.tc : Thread Cert.AdamAbOutKernel.nD Cert.AdamAbOutKernel.τ).loc Cert.AdamAbOutKernel.main_arg0)
      ∧ r.2.mem ((c.tc : Thread Cert.AdamAbOutKernel.nD Cert.AdamAbOutKernel.τ).loc Cert.AdamAbOutKernel.main_arg1) = m ((c.tc : Thread Cert.AdamAbOutKernel.nD Cert.AdamAbOutKernel.τ).loc Cert.AdamAbOutKernel.main_arg1)
      ∧ r.2.mem ((c.tc : Thread Cert.AdamAbOutKernel.nD Cert.AdamAbOutKernel.τ).loc Cert.AdamAbOutKernel.main_arg2) = m ((c.tc : Thread Cert.AdamAbOutKernel.nD Cert.AdamAbOutKernel.τ).loc Cert.AdamAbOutKernel.main_arg2)
      ∧ r.2.mem ((c.tc : Thread Cert.AdamAbOutKernel.nD Cert.AdamAbOutKernel.τ).loc Cert.AdamAbOutKernel.main_arg3) = m ((c.tc : Thread Cert.AdamAbOutKernel.nD Cert.AdamAbOutKernel.τ).loc Cert.AdamAbOutKernel.main_arg3))
      ∧ r.2.sem = fun _ => 0)

def quiescent_AdamAbOutKernelIdeal [hAdamAbOutKernelIdeal : Cert.AdamAbOutKernelIdeal.Facts] : Prop :=
  ∀ (m : (ℓ : Loc Cert.AdamAbOutKernelIdeal.nD Cert.AdamAbOutKernelIdeal.τ Cert.AdamAbOutKernelIdeal.sig) → Buf (Elt Ideal) ℓ) (g : Dev Cert.AdamAbOutKernelIdeal.nD → PrngReg), Pre_AdamAbOutKernelIdeal m →
    θ_run (Cert.AdamAbOutKernelIdeal.defs (F := Ideal)) (onTc (τ := Cert.AdamAbOutKernelIdeal.τ) (Cert.AdamAbOutKernelIdeal.main (F := Ideal))) ⟨m, fun _ => 0, g⟩ (fun r => (∀ c : Dev Cert.AdamAbOutKernelIdeal.nD,
      r.2.mem ((c.tc : Thread Cert.AdamAbOutKernelIdeal.nD Cert.AdamAbOutKernelIdeal.τ).loc Cert.AdamAbOutKernelIdeal.main_arg0) = m ((c.tc : Thread Cert.AdamAbOutKernelIdeal.nD Cert.AdamAbOutKernelIdeal.τ).loc Cert.AdamAbOutKernelIdeal.main_arg0)
      ∧ r.2.mem ((c.tc : Thread Cert.AdamAbOutKernelIdeal.nD Cert.AdamAbOutKernelIdeal.τ).loc Cert.AdamAbOutKernelIdeal.main_arg1) = m ((c.tc : Thread Cert.AdamAbOutKernelIdeal.nD Cert.AdamAbOutKernelIdeal.τ).loc Cert.AdamAbOutKernelIdeal.main_arg1)
      ∧ r.2.mem ((c.tc : Thread Cert.AdamAbOutKernelIdeal.nD Cert.AdamAbOutKernelIdeal.τ).loc Cert.AdamAbOutKernelIdeal.main_arg2) = m ((c.tc : Thread Cert.AdamAbOutKernelIdeal.nD Cert.AdamAbOutKernelIdeal.τ).loc Cert.AdamAbOutKernelIdeal.main_arg2)
      ∧ r.2.mem ((c.tc : Thread Cert.AdamAbOutKernelIdeal.nD Cert.AdamAbOutKernelIdeal.τ).loc Cert.AdamAbOutKernelIdeal.main_arg3) = m ((c.tc : Thread Cert.AdamAbOutKernelIdeal.nD Cert.AdamAbOutKernelIdeal.τ).loc Cert.AdamAbOutKernelIdeal.main_arg3))
      ∧ r.2.sem = fun _ => 0)

def quiescent_AdamAbOutReferenceIdeal [hAdamAbOutReferenceIdeal : Cert.AdamAbOutReferenceIdeal.Facts] : Prop :=
  ∀ (m : (ℓ : Loc Cert.AdamAbOutReferenceIdeal.nD Cert.AdamAbOutReferenceIdeal.τ Cert.AdamAbOutReferenceIdeal.sig) → Buf (Elt Ideal) ℓ) (g : Dev Cert.AdamAbOutReferenceIdeal.nD → PrngReg), Pre_AdamAbOutReferenceIdeal m →
    θ_run (Cert.AdamAbOutReferenceIdeal.defs (F := Ideal)) (onTc (τ := Cert.AdamAbOutReferenceIdeal.τ) (Cert.AdamAbOutReferenceIdeal.main (F := Ideal))) ⟨m, fun _ => 0, g⟩ (fun r => (∀ c : Dev Cert.AdamAbOutReferenceIdeal.nD,
      r.2.mem ((c.tc : Thread Cert.AdamAbOutReferenceIdeal.nD Cert.AdamAbOutReferenceIdeal.τ).loc Cert.AdamAbOutReferenceIdeal.main_arg0) = m ((c.tc : Thread Cert.AdamAbOutReferenceIdeal.nD Cert.AdamAbOutReferenceIdeal.τ).loc Cert.AdamAbOutReferenceIdeal.main_arg0)
      ∧ r.2.mem ((c.tc : Thread Cert.AdamAbOutReferenceIdeal.nD Cert.AdamAbOutReferenceIdeal.τ).loc Cert.AdamAbOutReferenceIdeal.main_arg1) = m ((c.tc : Thread Cert.AdamAbOutReferenceIdeal.nD Cert.AdamAbOutReferenceIdeal.τ).loc Cert.AdamAbOutReferenceIdeal.main_arg1)
      ∧ r.2.mem ((c.tc : Thread Cert.AdamAbOutReferenceIdeal.nD Cert.AdamAbOutReferenceIdeal.τ).loc Cert.AdamAbOutReferenceIdeal.main_arg2) = m ((c.tc : Thread Cert.AdamAbOutReferenceIdeal.nD Cert.AdamAbOutReferenceIdeal.τ).loc Cert.AdamAbOutReferenceIdeal.main_arg2)
      ∧ r.2.mem ((c.tc : Thread Cert.AdamAbOutReferenceIdeal.nD Cert.AdamAbOutReferenceIdeal.τ).loc Cert.AdamAbOutReferenceIdeal.main_arg3) = m ((c.tc : Thread Cert.AdamAbOutReferenceIdeal.nD Cert.AdamAbOutReferenceIdeal.τ).loc Cert.AdamAbOutReferenceIdeal.main_arg3))
      ∧ r.2.sem = fun _ => 0)

def quiescent_AdamCInKernel [hAdamCInKernel : Cert.AdamCInKernel.Facts] : Prop :=
  ∀ (m : (ℓ : Loc Cert.AdamCInKernel.nD Cert.AdamCInKernel.τ Cert.AdamCInKernel.sig) → Buf (Elt Bits) ℓ) (g : Dev Cert.AdamCInKernel.nD → PrngReg), Pre_AdamCInKernel m →
    θ_run (Cert.AdamCInKernel.defs (F := Bits)) (onTc (τ := Cert.AdamCInKernel.τ) (Cert.AdamCInKernel.main (F := Bits))) ⟨m, fun _ => 0, g⟩ (fun r => (∀ c : Dev Cert.AdamCInKernel.nD,
      r.2.mem ((c.tc : Thread Cert.AdamCInKernel.nD Cert.AdamCInKernel.τ).loc Cert.AdamCInKernel.main_arg0) = m ((c.tc : Thread Cert.AdamCInKernel.nD Cert.AdamCInKernel.τ).loc Cert.AdamCInKernel.main_arg0)
      ∧ r.2.mem ((c.tc : Thread Cert.AdamCInKernel.nD Cert.AdamCInKernel.τ).loc Cert.AdamCInKernel.main_arg1) = m ((c.tc : Thread Cert.AdamCInKernel.nD Cert.AdamCInKernel.τ).loc Cert.AdamCInKernel.main_arg1)
      ∧ r.2.mem ((c.tc : Thread Cert.AdamCInKernel.nD Cert.AdamCInKernel.τ).loc Cert.AdamCInKernel.main_arg2) = m ((c.tc : Thread Cert.AdamCInKernel.nD Cert.AdamCInKernel.τ).loc Cert.AdamCInKernel.main_arg2)
      ∧ r.2.mem ((c.tc : Thread Cert.AdamCInKernel.nD Cert.AdamCInKernel.τ).loc Cert.AdamCInKernel.main_arg3) = m ((c.tc : Thread Cert.AdamCInKernel.nD Cert.AdamCInKernel.τ).loc Cert.AdamCInKernel.main_arg3))
      ∧ r.2.sem = fun _ => 0)

def quiescent_AdamCInKernelIdeal [hAdamCInKernelIdeal : Cert.AdamCInKernelIdeal.Facts] : Prop :=
  ∀ (m : (ℓ : Loc Cert.AdamCInKernelIdeal.nD Cert.AdamCInKernelIdeal.τ Cert.AdamCInKernelIdeal.sig) → Buf (Elt Ideal) ℓ) (g : Dev Cert.AdamCInKernelIdeal.nD → PrngReg), Pre_AdamCInKernelIdeal m →
    θ_run (Cert.AdamCInKernelIdeal.defs (F := Ideal)) (onTc (τ := Cert.AdamCInKernelIdeal.τ) (Cert.AdamCInKernelIdeal.main (F := Ideal))) ⟨m, fun _ => 0, g⟩ (fun r => (∀ c : Dev Cert.AdamCInKernelIdeal.nD,
      r.2.mem ((c.tc : Thread Cert.AdamCInKernelIdeal.nD Cert.AdamCInKernelIdeal.τ).loc Cert.AdamCInKernelIdeal.main_arg0) = m ((c.tc : Thread Cert.AdamCInKernelIdeal.nD Cert.AdamCInKernelIdeal.τ).loc Cert.AdamCInKernelIdeal.main_arg0)
      ∧ r.2.mem ((c.tc : Thread Cert.AdamCInKernelIdeal.nD Cert.AdamCInKernelIdeal.τ).loc Cert.AdamCInKernelIdeal.main_arg1) = m ((c.tc : Thread Cert.AdamCInKernelIdeal.nD Cert.AdamCInKernelIdeal.τ).loc Cert.AdamCInKernelIdeal.main_arg1)
      ∧ r.2.mem ((c.tc : Thread Cert.AdamCInKernelIdeal.nD Cert.AdamCInKernelIdeal.τ).loc Cert.AdamCInKernelIdeal.main_arg2) = m ((c.tc : Thread Cert.AdamCInKernelIdeal.nD Cert.AdamCInKernelIdeal.τ).loc Cert.AdamCInKernelIdeal.main_arg2)
      ∧ r.2.mem ((c.tc : Thread Cert.AdamCInKernelIdeal.nD Cert.AdamCInKernelIdeal.τ).loc Cert.AdamCInKernelIdeal.main_arg3) = m ((c.tc : Thread Cert.AdamCInKernelIdeal.nD Cert.AdamCInKernelIdeal.τ).loc Cert.AdamCInKernelIdeal.main_arg3))
      ∧ r.2.sem = fun _ => 0)

def quiescent_AdamCInReferenceIdeal [hAdamCInReferenceIdeal : Cert.AdamCInReferenceIdeal.Facts] : Prop :=
  ∀ (m : (ℓ : Loc Cert.AdamCInReferenceIdeal.nD Cert.AdamCInReferenceIdeal.τ Cert.AdamCInReferenceIdeal.sig) → Buf (Elt Ideal) ℓ) (g : Dev Cert.AdamCInReferenceIdeal.nD → PrngReg), Pre_AdamCInReferenceIdeal m →
    θ_run (Cert.AdamCInReferenceIdeal.defs (F := Ideal)) (onTc (τ := Cert.AdamCInReferenceIdeal.τ) (Cert.AdamCInReferenceIdeal.main (F := Ideal))) ⟨m, fun _ => 0, g⟩ (fun r => (∀ c : Dev Cert.AdamCInReferenceIdeal.nD,
      r.2.mem ((c.tc : Thread Cert.AdamCInReferenceIdeal.nD Cert.AdamCInReferenceIdeal.τ).loc Cert.AdamCInReferenceIdeal.main_arg0) = m ((c.tc : Thread Cert.AdamCInReferenceIdeal.nD Cert.AdamCInReferenceIdeal.τ).loc Cert.AdamCInReferenceIdeal.main_arg0)
      ∧ r.2.mem ((c.tc : Thread Cert.AdamCInReferenceIdeal.nD Cert.AdamCInReferenceIdeal.τ).loc Cert.AdamCInReferenceIdeal.main_arg1) = m ((c.tc : Thread Cert.AdamCInReferenceIdeal.nD Cert.AdamCInReferenceIdeal.τ).loc Cert.AdamCInReferenceIdeal.main_arg1)
      ∧ r.2.mem ((c.tc : Thread Cert.AdamCInReferenceIdeal.nD Cert.AdamCInReferenceIdeal.τ).loc Cert.AdamCInReferenceIdeal.main_arg2) = m ((c.tc : Thread Cert.AdamCInReferenceIdeal.nD Cert.AdamCInReferenceIdeal.τ).loc Cert.AdamCInReferenceIdeal.main_arg2)
      ∧ r.2.mem ((c.tc : Thread Cert.AdamCInReferenceIdeal.nD Cert.AdamCInReferenceIdeal.τ).loc Cert.AdamCInReferenceIdeal.main_arg3) = m ((c.tc : Thread Cert.AdamCInReferenceIdeal.nD Cert.AdamCInReferenceIdeal.τ).loc Cert.AdamCInReferenceIdeal.main_arg3))
      ∧ r.2.sem = fun _ => 0)

def quiescent_AdamUpKernel [hAdamUpKernel : Cert.AdamUpKernel.Facts] : Prop :=
  ∀ (m : (ℓ : Loc Cert.AdamUpKernel.nD Cert.AdamUpKernel.τ Cert.AdamUpKernel.sig) → Buf (Elt Bits) ℓ) (g : Dev Cert.AdamUpKernel.nD → PrngReg), Pre_AdamUpKernel m →
    θ_run (Cert.AdamUpKernel.defs (F := Bits)) (onTc (τ := Cert.AdamUpKernel.τ) (Cert.AdamUpKernel.main (F := Bits))) ⟨m, fun _ => 0, g⟩ (fun r => (∀ c : Dev Cert.AdamUpKernel.nD,
      r.2.mem ((c.tc : Thread Cert.AdamUpKernel.nD Cert.AdamUpKernel.τ).loc Cert.AdamUpKernel.main_arg0) = m ((c.tc : Thread Cert.AdamUpKernel.nD Cert.AdamUpKernel.τ).loc Cert.AdamUpKernel.main_arg0)
      ∧ r.2.mem ((c.tc : Thread Cert.AdamUpKernel.nD Cert.AdamUpKernel.τ).loc Cert.AdamUpKernel.main_arg1) = m ((c.tc : Thread Cert.AdamUpKernel.nD Cert.AdamUpKernel.τ).loc Cert.AdamUpKernel.main_arg1)
      ∧ r.2.mem ((c.tc : Thread Cert.AdamUpKernel.nD Cert.AdamUpKernel.τ).loc Cert.AdamUpKernel.main_arg2) = m ((c.tc : Thread Cert.AdamUpKernel.nD Cert.AdamUpKernel.τ).loc Cert.AdamUpKernel.main_arg2)
      ∧ r.2.mem ((c.tc : Thread Cert.AdamUpKernel.nD Cert.AdamUpKernel.τ).loc Cert.AdamUpKernel.main_arg3) = m ((c.tc : Thread Cert.AdamUpKernel.nD Cert.AdamUpKernel.τ).loc Cert.AdamUpKernel.main_arg3))
      ∧ r.2.sem = fun _ => 0)

def quiescent_AdamUpKernelIdeal [hAdamUpKernelIdeal : Cert.AdamUpKernelIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg), Pre_AdamUpKernelIdeal m →
    θ_run (Cert.AdamUpKernelIdeal.defs (F := Ideal)) (onTc (τ := Cert.AdamUpKernelIdeal.τ) (Cert.AdamUpKernelIdeal.main (F := Ideal))) ⟨m, fun _ => 0, g⟩ (fun r => (∀ c : Dev Cert.AdamUpKernelIdeal.nD,
      r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
      ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
      ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
      ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDownKernel [hAdamDownKernel : Cert.AdamDownKernel.Facts] : Prop :=
  ∀ (m : (ℓ : Loc Cert.AdamDownKernel.nD Cert.AdamDownKernel.τ Cert.AdamDownKernel.sig) → Buf (Elt Bits) ℓ) (g : Dev Cert.AdamDownKernel.nD → PrngReg), Pre_AdamDownKernel m →
    θ_run (Cert.AdamDownKernel.defs (F := Bits)) (onTc (τ := Cert.AdamDownKernel.τ) (Cert.AdamDownKernel.main (F := Bits))) ⟨m, fun _ => 0, g⟩ (fun r => (∀ c : Dev Cert.AdamDownKernel.nD,
      r.2.mem ((c.tc : Thread Cert.AdamDownKernel.nD Cert.AdamDownKernel.τ).loc Cert.AdamDownKernel.main_arg0) = m ((c.tc : Thread Cert.AdamDownKernel.nD Cert.AdamDownKernel.τ).loc Cert.AdamDownKernel.main_arg0)
      ∧ r.2.mem ((c.tc : Thread Cert.AdamDownKernel.nD Cert.AdamDownKernel.τ).loc Cert.AdamDownKernel.main_arg1) = m ((c.tc : Thread Cert.AdamDownKernel.nD Cert.AdamDownKernel.τ).loc Cert.AdamDownKernel.main_arg1)
      ∧ r.2.mem ((c.tc : Thread Cert.AdamDownKernel.nD Cert.AdamDownKernel.τ).loc Cert.AdamDownKernel.main_arg2) = m ((c.tc : Thread Cert.AdamDownKernel.nD Cert.AdamDownKernel.τ).loc Cert.AdamDownKernel.main_arg2)
      ∧ r.2.mem ((c.tc : Thread Cert.AdamDownKernel.nD Cert.AdamDownKernel.τ).loc Cert.AdamDownKernel.main_arg3) = m ((c.tc : Thread Cert.AdamDownKernel.nD Cert.AdamDownKernel.τ).loc Cert.AdamDownKernel.main_arg3))
      ∧ r.2.sem = fun _ => 0)

def quiescent_AdamDownKernelIdeal [hAdamDownKernelIdeal : Cert.AdamDownKernelIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg), Pre_AdamDownKernelIdeal m →
    θ_run (Cert.AdamDownKernelIdeal.defs (F := Ideal)) (onTc (τ := Cert.AdamDownKernelIdeal.τ) (Cert.AdamDownKernelIdeal.main (F := Ideal))) ⟨m, fun _ => 0, g⟩ (fun r => (∀ c : Dev Cert.AdamDownKernelIdeal.nD,
      r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
      ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
      ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
      ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_MixFKernel [hMixFKernel : Cert.MixFKernel.Facts] : Prop :=
  ∀ (m : (ℓ : Loc Cert.MixFKernel.nD Cert.MixFKernel.τ Cert.MixFKernel.sig) → Buf (Elt Bits) ℓ) (g : Dev Cert.MixFKernel.nD → PrngReg), Pre_MixFKernel m →
    θ_run (Cert.MixFKernel.defs (F := Bits)) (onTc (τ := Cert.MixFKernel.τ) (Cert.MixFKernel.main (F := Bits))) ⟨m, fun _ => 0, g⟩ (fun r => (∀ c : Dev Cert.MixFKernel.nD,
      r.2.mem ((c.tc : Thread Cert.MixFKernel.nD Cert.MixFKernel.τ).loc Cert.MixFKernel.main_arg0) = m ((c.tc : Thread Cert.MixFKernel.nD Cert.MixFKernel.τ).loc Cert.MixFKernel.main_arg0)
      ∧ r.2.mem ((c.tc : Thread Cert.MixFKernel.nD Cert.MixFKernel.τ).loc Cert.MixFKernel.main_arg1) = m ((c.tc : Thread Cert.MixFKernel.nD Cert.MixFKernel.τ).loc Cert.MixFKernel.main_arg1))
      ∧ r.2.sem = fun _ => 0)

def quiescent_MixFKernelIdeal [hMixFKernelIdeal : Cert.MixFKernelIdeal.Facts] : Prop :=
  ∀ (m : (ℓ : Loc Cert.MixFKernelIdeal.nD Cert.MixFKernelIdeal.τ Cert.MixFKernelIdeal.sig) → Buf (Elt Ideal) ℓ) (g : Dev Cert.MixFKernelIdeal.nD → PrngReg), Pre_MixFKernelIdeal m →
    θ_run (Cert.MixFKernelIdeal.defs (F := Ideal)) (onTc (τ := Cert.MixFKernelIdeal.τ) (Cert.MixFKernelIdeal.main (F := Ideal))) ⟨m, fun _ => 0, g⟩ (fun r => (∀ c : Dev Cert.MixFKernelIdeal.nD,
      r.2.mem ((c.tc : Thread Cert.MixFKernelIdeal.nD Cert.MixFKernelIdeal.τ).loc Cert.MixFKernelIdeal.main_arg0) = m ((c.tc : Thread Cert.MixFKernelIdeal.nD Cert.MixFKernelIdeal.τ).loc Cert.MixFKernelIdeal.main_arg0)
      ∧ r.2.mem ((c.tc : Thread Cert.MixFKernelIdeal.nD Cert.MixFKernelIdeal.τ).loc Cert.MixFKernelIdeal.main_arg1) = m ((c.tc : Thread Cert.MixFKernelIdeal.nD Cert.MixFKernelIdeal.τ).loc Cert.MixFKernelIdeal.main_arg1))
      ∧ r.2.sem = fun _ => 0)

def quiescent_MixFReferenceIdeal [hMixFReferenceIdeal : Cert.MixFReferenceIdeal.Facts] : Prop :=
  ∀ (m : (ℓ : Loc Cert.MixFReferenceIdeal.nD Cert.MixFReferenceIdeal.τ Cert.MixFReferenceIdeal.sig) → Buf (Elt Ideal) ℓ) (g : Dev Cert.MixFReferenceIdeal.nD → PrngReg), Pre_MixFReferenceIdeal m →
    θ_run (Cert.MixFReferenceIdeal.defs (F := Ideal)) (onTc (τ := Cert.MixFReferenceIdeal.τ) (Cert.MixFReferenceIdeal.main (F := Ideal))) ⟨m, fun _ => 0, g⟩ (fun r => (∀ c : Dev Cert.MixFReferenceIdeal.nD,
      r.2.mem ((c.tc : Thread Cert.MixFReferenceIdeal.nD Cert.MixFReferenceIdeal.τ).loc Cert.MixFReferenceIdeal.main_arg0) = m ((c.tc : Thread Cert.MixFReferenceIdeal.nD Cert.MixFReferenceIdeal.τ).loc Cert.MixFReferenceIdeal.main_arg0)
      ∧ r.2.mem ((c.tc : Thread Cert.MixFReferenceIdeal.nD Cert.MixFReferenceIdeal.τ).loc Cert.MixFReferenceIdeal.main_arg1) = m ((c.tc : Thread Cert.MixFReferenceIdeal.nD Cert.MixFReferenceIdeal.τ).loc Cert.MixFReferenceIdeal.main_arg1))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3)
      ∧ r.2.mem ((c.tc : Thread Cert.SmallKernel.nD Cert.SmallKernel.τ).loc Cert.SmallKernel.main_arg4) = m ((c.tc : Thread Cert.SmallKernel.nD Cert.SmallKernel.τ).loc Cert.SmallKernel.main_arg4)
      ∧ r.2.mem ((c.tc : Thread Cert.SmallKernel.nD Cert.SmallKernel.τ).loc Cert.SmallKernel.main_arg5) = m ((c.tc : Thread Cert.SmallKernel.nD Cert.SmallKernel.τ).loc Cert.SmallKernel.main_arg5)
      ∧ r.2.mem ((c.tc : Thread Cert.SmallKernel.nD Cert.SmallKernel.τ).loc Cert.SmallKernel.main_arg6) = m ((c.tc : Thread Cert.SmallKernel.nD Cert.SmallKernel.τ).loc Cert.SmallKernel.main_arg6)
      ∧ r.2.mem ((c.tc : Thread Cert.SmallKernel.nD Cert.SmallKernel.τ).loc Cert.SmallKernel.main_arg7) = m ((c.tc : Thread Cert.SmallKernel.nD Cert.SmallKernel.τ).loc Cert.SmallKernel.main_arg7)
      ∧ r.2.mem ((c.tc : Thread Cert.SmallKernel.nD Cert.SmallKernel.τ).loc Cert.SmallKernel.main_arg8) = m ((c.tc : Thread Cert.SmallKernel.nD Cert.SmallKernel.τ).loc Cert.SmallKernel.main_arg8)
      ∧ r.2.mem ((c.tc : Thread Cert.SmallKernel.nD Cert.SmallKernel.τ).loc Cert.SmallKernel.main_arg9) = m ((c.tc : Thread Cert.SmallKernel.nD Cert.SmallKernel.τ).loc Cert.SmallKernel.main_arg9)
      ∧ r.2.mem ((c.tc : Thread Cert.SmallKernel.nD Cert.SmallKernel.τ).loc Cert.SmallKernel.main_arg10) = m ((c.tc : Thread Cert.SmallKernel.nD Cert.SmallKernel.τ).loc Cert.SmallKernel.main_arg10)
      ∧ r.2.mem ((c.tc : Thread Cert.SmallKernel.nD Cert.SmallKernel.τ).loc Cert.SmallKernel.main_arg11) = m ((c.tc : Thread Cert.SmallKernel.nD Cert.SmallKernel.τ).loc Cert.SmallKernel.main_arg11)
      ∧ r.2.mem ((c.tc : Thread Cert.SmallKernel.nD Cert.SmallKernel.τ).loc Cert.SmallKernel.main_arg12) = m ((c.tc : Thread Cert.SmallKernel.nD Cert.SmallKernel.τ).loc Cert.SmallKernel.main_arg12)
      ∧ r.2.mem ((c.tc : Thread Cert.SmallKernel.nD Cert.SmallKernel.τ).loc Cert.SmallKernel.main_arg13) = m ((c.tc : Thread Cert.SmallKernel.nD Cert.SmallKernel.τ).loc Cert.SmallKernel.main_arg13)
      ∧ r.2.mem ((c.tc : Thread Cert.SmallKernel.nD Cert.SmallKernel.τ).loc Cert.SmallKernel.main_arg14) = m ((c.tc : Thread Cert.SmallKernel.nD Cert.SmallKernel.τ).loc Cert.SmallKernel.main_arg14)
      ∧ r.2.mem ((c.tc : Thread Cert.SmallKernel.nD Cert.SmallKernel.τ).loc Cert.SmallKernel.main_arg15) = m ((c.tc : Thread Cert.SmallKernel.nD Cert.SmallKernel.τ).loc Cert.SmallKernel.main_arg15)
      ∧ r.2.mem ((c.tc : Thread Cert.SmallKernel.nD Cert.SmallKernel.τ).loc Cert.SmallKernel.main_arg16) = m ((c.tc : Thread Cert.SmallKernel.nD Cert.SmallKernel.τ).loc Cert.SmallKernel.main_arg16)
      ∧ r.2.mem ((c.tc : Thread Cert.SmallKernel.nD Cert.SmallKernel.τ).loc Cert.SmallKernel.main_arg17) = m ((c.tc : Thread Cert.SmallKernel.nD Cert.SmallKernel.τ).loc Cert.SmallKernel.main_arg17)
      ∧ r.2.mem ((c.tc : Thread Cert.SmallKernel.nD Cert.SmallKernel.τ).loc Cert.SmallKernel.main_arg18) = m ((c.tc : Thread Cert.SmallKernel.nD Cert.SmallKernel.τ).loc Cert.SmallKernel.main_arg18)
      ∧ r.2.mem ((c.tc : Thread Cert.SmallKernel.nD Cert.SmallKernel.τ).loc Cert.SmallKernel.main_arg19) = m ((c.tc : Thread Cert.SmallKernel.nD Cert.SmallKernel.τ).loc Cert.SmallKernel.main_arg19)
      ∧ r.2.mem ((c.tc : Thread Cert.SmallKernel.nD Cert.SmallKernel.τ).loc Cert.SmallKernel.main_arg20) = m ((c.tc : Thread Cert.SmallKernel.nD Cert.SmallKernel.τ).loc Cert.SmallKernel.main_arg20)
      ∧ r.2.mem ((c.tc : Thread Cert.SmallKernel.nD Cert.SmallKernel.τ).loc Cert.SmallKernel.main_arg21) = m ((c.tc : Thread Cert.SmallKernel.nD Cert.SmallKernel.τ).loc Cert.SmallKernel.main_arg21)
      ∧ r.2.mem ((c.tc : Thread Cert.SmallKernel.nD Cert.SmallKernel.τ).loc Cert.SmallKernel.main_arg22) = m ((c.tc : Thread Cert.SmallKernel.nD Cert.SmallKernel.τ).loc Cert.SmallKernel.main_arg22)
      ∧ r.2.mem ((c.tc : Thread Cert.SmallKernel.nD Cert.SmallKernel.τ).loc Cert.SmallKernel.main_arg23) = m ((c.tc : Thread Cert.SmallKernel.nD Cert.SmallKernel.τ).loc Cert.SmallKernel.main_arg23)
      ∧ r.2.mem ((c.tc : Thread Cert.SmallKernel.nD Cert.SmallKernel.τ).loc Cert.SmallKernel.main_arg24) = m ((c.tc : Thread Cert.SmallKernel.nD Cert.SmallKernel.τ).loc Cert.SmallKernel.main_arg24)
      ∧ r.2.mem ((c.tc : Thread Cert.SmallKernel.nD Cert.SmallKernel.τ).loc Cert.SmallKernel.main_arg25) = m ((c.tc : Thread Cert.SmallKernel.nD Cert.SmallKernel.τ).loc Cert.SmallKernel.main_arg25)
      ∧ r.2.mem ((c.tc : Thread Cert.SmallKernel.nD Cert.SmallKernel.τ).loc Cert.SmallKernel.main_arg26) = m ((c.tc : Thread Cert.SmallKernel.nD Cert.SmallKernel.τ).loc Cert.SmallKernel.main_arg26)
      ∧ r.2.mem ((c.tc : Thread Cert.SmallKernel.nD Cert.SmallKernel.τ).loc Cert.SmallKernel.main_arg27) = m ((c.tc : Thread Cert.SmallKernel.nD Cert.SmallKernel.τ).loc Cert.SmallKernel.main_arg27)
      ∧ r.2.mem ((c.tc : Thread Cert.SmallKernel.nD Cert.SmallKernel.τ).loc Cert.SmallKernel.main_arg28) = m ((c.tc : Thread Cert.SmallKernel.nD Cert.SmallKernel.τ).loc Cert.SmallKernel.main_arg28)
      ∧ r.2.mem ((c.tc : Thread Cert.SmallKernel.nD Cert.SmallKernel.τ).loc Cert.SmallKernel.main_arg29) = m ((c.tc : Thread Cert.SmallKernel.nD Cert.SmallKernel.τ).loc Cert.SmallKernel.main_arg29)
      ∧ r.2.mem ((c.tc : Thread Cert.SmallKernel.nD Cert.SmallKernel.τ).loc Cert.SmallKernel.main_arg30) = m ((c.tc : Thread Cert.SmallKernel.nD Cert.SmallKernel.τ).loc Cert.SmallKernel.main_arg30)
      ∧ r.2.mem ((c.tc : Thread Cert.SmallKernel.nD Cert.SmallKernel.τ).loc Cert.SmallKernel.main_arg31) = m ((c.tc : Thread Cert.SmallKernel.nD Cert.SmallKernel.τ).loc Cert.SmallKernel.main_arg31)
      ∧ r.2.mem ((c.tc : Thread Cert.SmallKernel.nD Cert.SmallKernel.τ).loc Cert.SmallKernel.main_arg32) = m ((c.tc : Thread Cert.SmallKernel.nD Cert.SmallKernel.τ).loc Cert.SmallKernel.main_arg32)
      ∧ r.2.mem ((c.tc : Thread Cert.SmallKernel.nD Cert.SmallKernel.τ).loc Cert.SmallKernel.main_arg33) = m ((c.tc : Thread Cert.SmallKernel.nD Cert.SmallKernel.τ).loc Cert.SmallKernel.main_arg33)
      ∧ r.2.mem ((c.tc : Thread Cert.SmallKernel.nD Cert.SmallKernel.τ).loc Cert.SmallKernel.main_arg34) = m ((c.tc : Thread Cert.SmallKernel.nD Cert.SmallKernel.τ).loc Cert.SmallKernel.main_arg34)
      ∧ r.2.mem ((c.tc : Thread Cert.SmallKernel.nD Cert.SmallKernel.τ).loc Cert.SmallKernel.main_arg35) = m ((c.tc : Thread Cert.SmallKernel.nD Cert.SmallKernel.τ).loc Cert.SmallKernel.main_arg35)
      ∧ r.2.mem ((c.tc : Thread Cert.SmallKernel.nD Cert.SmallKernel.τ).loc Cert.SmallKernel.main_arg36) = m ((c.tc : Thread Cert.SmallKernel.nD Cert.SmallKernel.τ).loc Cert.SmallKernel.main_arg36)
      ∧ r.2.mem ((c.tc : Thread Cert.SmallKernel.nD Cert.SmallKernel.τ).loc Cert.SmallKernel.main_arg37) = m ((c.tc : Thread Cert.SmallKernel.nD Cert.SmallKernel.τ).loc Cert.SmallKernel.main_arg37)
      ∧ r.2.mem ((c.tc : Thread Cert.SmallKernel.nD Cert.SmallKernel.τ).loc Cert.SmallKernel.main_arg38) = m ((c.tc : Thread Cert.SmallKernel.nD Cert.SmallKernel.τ).loc Cert.SmallKernel.main_arg38)
      ∧ r.2.mem ((c.tc : Thread Cert.SmallKernel.nD Cert.SmallKernel.τ).loc Cert.SmallKernel.main_arg39) = m ((c.tc : Thread Cert.SmallKernel.nD Cert.SmallKernel.τ).loc Cert.SmallKernel.main_arg39)
      ∧ r.2.mem ((c.tc : Thread Cert.SmallKernel.nD Cert.SmallKernel.τ).loc Cert.SmallKernel.main_arg40) = m ((c.tc : Thread Cert.SmallKernel.nD Cert.SmallKernel.τ).loc Cert.SmallKernel.main_arg40)
      ∧ r.2.mem ((c.tc : Thread Cert.SmallKernel.nD Cert.SmallKernel.τ).loc Cert.SmallKernel.main_arg41) = m ((c.tc : Thread Cert.SmallKernel.nD Cert.SmallKernel.τ).loc Cert.SmallKernel.main_arg41)
      ∧ r.2.mem ((c.tc : Thread Cert.SmallKernel.nD Cert.SmallKernel.τ).loc Cert.SmallKernel.main_arg42) = m ((c.tc : Thread Cert.SmallKernel.nD Cert.SmallKernel.τ).loc Cert.SmallKernel.main_arg42)
      ∧ r.2.mem ((c.tc : Thread Cert.SmallKernel.nD Cert.SmallKernel.τ).loc Cert.SmallKernel.main_arg43) = m ((c.tc : Thread Cert.SmallKernel.nD Cert.SmallKernel.τ).loc Cert.SmallKernel.main_arg43)
      ∧ r.2.mem ((c.tc : Thread Cert.SmallKernel.nD Cert.SmallKernel.τ).loc Cert.SmallKernel.main_arg44) = m ((c.tc : Thread Cert.SmallKernel.nD Cert.SmallKernel.τ).loc Cert.SmallKernel.main_arg44)
      ∧ r.2.mem ((c.tc : Thread Cert.SmallKernel.nD Cert.SmallKernel.τ).loc Cert.SmallKernel.main_arg45) = m ((c.tc : Thread Cert.SmallKernel.nD Cert.SmallKernel.τ).loc Cert.SmallKernel.main_arg45)
      ∧ r.2.mem ((c.tc : Thread Cert.SmallKernel.nD Cert.SmallKernel.τ).loc Cert.SmallKernel.main_arg46) = m ((c.tc : Thread Cert.SmallKernel.nD Cert.SmallKernel.τ).loc Cert.SmallKernel.main_arg46)
      ∧ r.2.mem ((c.tc : Thread Cert.SmallKernel.nD Cert.SmallKernel.τ).loc Cert.SmallKernel.main_arg47) = m ((c.tc : Thread Cert.SmallKernel.nD Cert.SmallKernel.τ).loc Cert.SmallKernel.main_arg47)
      ∧ r.2.mem ((c.tc : Thread Cert.SmallKernel.nD Cert.SmallKernel.τ).loc Cert.SmallKernel.main_arg48) = m ((c.tc : Thread Cert.SmallKernel.nD Cert.SmallKernel.τ).loc Cert.SmallKernel.main_arg48)
      ∧ r.2.mem ((c.tc : Thread Cert.SmallKernel.nD Cert.SmallKernel.τ).loc Cert.SmallKernel.main_arg49) = m ((c.tc : Thread Cert.SmallKernel.nD Cert.SmallKernel.τ).loc Cert.SmallKernel.main_arg49)
      ∧ r.2.mem ((c.tc : Thread Cert.SmallKernel.nD Cert.SmallKernel.τ).loc Cert.SmallKernel.main_arg50) = m ((c.tc : Thread Cert.SmallKernel.nD Cert.SmallKernel.τ).loc Cert.SmallKernel.main_arg50)
      ∧ r.2.mem ((c.tc : Thread Cert.SmallKernel.nD Cert.SmallKernel.τ).loc Cert.SmallKernel.main_arg51) = m ((c.tc : Thread Cert.SmallKernel.nD Cert.SmallKernel.τ).loc Cert.SmallKernel.main_arg51))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
      ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
      ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
      ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
      ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
      ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
      ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
      ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
      ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
      ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
      ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
      ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
      ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
      ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
      ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
      ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
      ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
      ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
      ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
      ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
      ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23)
      ∧ r.2.mem ((c.tc : Thread Cert.SmallKernelIdeal.nD Cert.SmallKernelIdeal.τ).loc Cert.SmallKernelIdeal.main_arg24) = m ((c.tc : Thread Cert.SmallKernelIdeal.nD Cert.SmallKernelIdeal.τ).loc Cert.SmallKernelIdeal.main_arg24)
      ∧ r.2.mem ((c.tc : Thread Cert.SmallKernelIdeal.nD Cert.SmallKernelIdeal.τ).loc Cert.SmallKernelIdeal.main_arg25) = m ((c.tc : Thread Cert.SmallKernelIdeal.nD Cert.SmallKernelIdeal.τ).loc Cert.SmallKernelIdeal.main_arg25)
      ∧ r.2.mem ((c.tc : Thread Cert.SmallKernelIdeal.nD Cert.SmallKernelIdeal.τ).loc Cert.SmallKernelIdeal.main_arg26) = m ((c.tc : Thread Cert.SmallKernelIdeal.nD Cert.SmallKernelIdeal.τ).loc Cert.SmallKernelIdeal.main_arg26)
      ∧ r.2.mem ((c.tc : Thread Cert.SmallKernelIdeal.nD Cert.SmallKernelIdeal.τ).loc Cert.SmallKernelIdeal.main_arg27) = m ((c.tc : Thread Cert.SmallKernelIdeal.nD Cert.SmallKernelIdeal.τ).loc Cert.SmallKernelIdeal.main_arg27)
      ∧ r.2.mem ((c.tc : Thread Cert.SmallKernelIdeal.nD Cert.SmallKernelIdeal.τ).loc Cert.SmallKernelIdeal.main_arg28) = m ((c.tc : Thread Cert.SmallKernelIdeal.nD Cert.SmallKernelIdeal.τ).loc Cert.SmallKernelIdeal.main_arg28)
      ∧ r.2.mem ((c.tc : Thread Cert.SmallKernelIdeal.nD Cert.SmallKernelIdeal.τ).loc Cert.SmallKernelIdeal.main_arg29) = m ((c.tc : Thread Cert.SmallKernelIdeal.nD Cert.SmallKernelIdeal.τ).loc Cert.SmallKernelIdeal.main_arg29)
      ∧ r.2.mem ((c.tc : Thread Cert.SmallKernelIdeal.nD Cert.SmallKernelIdeal.τ).loc Cert.SmallKernelIdeal.main_arg30) = m ((c.tc : Thread Cert.SmallKernelIdeal.nD Cert.SmallKernelIdeal.τ).loc Cert.SmallKernelIdeal.main_arg30)
      ∧ r.2.mem ((c.tc : Thread Cert.SmallKernelIdeal.nD Cert.SmallKernelIdeal.τ).loc Cert.SmallKernelIdeal.main_arg31) = m ((c.tc : Thread Cert.SmallKernelIdeal.nD Cert.SmallKernelIdeal.τ).loc Cert.SmallKernelIdeal.main_arg31)
      ∧ r.2.mem ((c.tc : Thread Cert.SmallKernelIdeal.nD Cert.SmallKernelIdeal.τ).loc Cert.SmallKernelIdeal.main_arg32) = m ((c.tc : Thread Cert.SmallKernelIdeal.nD Cert.SmallKernelIdeal.τ).loc Cert.SmallKernelIdeal.main_arg32)
      ∧ r.2.mem ((c.tc : Thread Cert.SmallKernelIdeal.nD Cert.SmallKernelIdeal.τ).loc Cert.SmallKernelIdeal.main_arg33) = m ((c.tc : Thread Cert.SmallKernelIdeal.nD Cert.SmallKernelIdeal.τ).loc Cert.SmallKernelIdeal.main_arg33)
      ∧ r.2.mem ((c.tc : Thread Cert.SmallKernelIdeal.nD Cert.SmallKernelIdeal.τ).loc Cert.SmallKernelIdeal.main_arg34) = m ((c.tc : Thread Cert.SmallKernelIdeal.nD Cert.SmallKernelIdeal.τ).loc Cert.SmallKernelIdeal.main_arg34)
      ∧ r.2.mem ((c.tc : Thread Cert.SmallKernelIdeal.nD Cert.SmallKernelIdeal.τ).loc Cert.SmallKernelIdeal.main_arg35) = m ((c.tc : Thread Cert.SmallKernelIdeal.nD Cert.SmallKernelIdeal.τ).loc Cert.SmallKernelIdeal.main_arg35)
      ∧ r.2.mem ((c.tc : Thread Cert.SmallKernelIdeal.nD Cert.SmallKernelIdeal.τ).loc Cert.SmallKernelIdeal.main_arg36) = m ((c.tc : Thread Cert.SmallKernelIdeal.nD Cert.SmallKernelIdeal.τ).loc Cert.SmallKernelIdeal.main_arg36)
      ∧ r.2.mem ((c.tc : Thread Cert.SmallKernelIdeal.nD Cert.SmallKernelIdeal.τ).loc Cert.SmallKernelIdeal.main_arg37) = m ((c.tc : Thread Cert.SmallKernelIdeal.nD Cert.SmallKernelIdeal.τ).loc Cert.SmallKernelIdeal.main_arg37)
      ∧ r.2.mem ((c.tc : Thread Cert.SmallKernelIdeal.nD Cert.SmallKernelIdeal.τ).loc Cert.SmallKernelIdeal.main_arg38) = m ((c.tc : Thread Cert.SmallKernelIdeal.nD Cert.SmallKernelIdeal.τ).loc Cert.SmallKernelIdeal.main_arg38)
      ∧ r.2.mem ((c.tc : Thread Cert.SmallKernelIdeal.nD Cert.SmallKernelIdeal.τ).loc Cert.SmallKernelIdeal.main_arg39) = m ((c.tc : Thread Cert.SmallKernelIdeal.nD Cert.SmallKernelIdeal.τ).loc Cert.SmallKernelIdeal.main_arg39)
      ∧ r.2.mem ((c.tc : Thread Cert.SmallKernelIdeal.nD Cert.SmallKernelIdeal.τ).loc Cert.SmallKernelIdeal.main_arg40) = m ((c.tc : Thread Cert.SmallKernelIdeal.nD Cert.SmallKernelIdeal.τ).loc Cert.SmallKernelIdeal.main_arg40)
      ∧ r.2.mem ((c.tc : Thread Cert.SmallKernelIdeal.nD Cert.SmallKernelIdeal.τ).loc Cert.SmallKernelIdeal.main_arg41) = m ((c.tc : Thread Cert.SmallKernelIdeal.nD Cert.SmallKernelIdeal.τ).loc Cert.SmallKernelIdeal.main_arg41)
      ∧ r.2.mem ((c.tc : Thread Cert.SmallKernelIdeal.nD Cert.SmallKernelIdeal.τ).loc Cert.SmallKernelIdeal.main_arg42) = m ((c.tc : Thread Cert.SmallKernelIdeal.nD Cert.SmallKernelIdeal.τ).loc Cert.SmallKernelIdeal.main_arg42)
      ∧ r.2.mem ((c.tc : Thread Cert.SmallKernelIdeal.nD Cert.SmallKernelIdeal.τ).loc Cert.SmallKernelIdeal.main_arg43) = m ((c.tc : Thread Cert.SmallKernelIdeal.nD Cert.SmallKernelIdeal.τ).loc Cert.SmallKernelIdeal.main_arg43)
      ∧ r.2.mem ((c.tc : Thread Cert.SmallKernelIdeal.nD Cert.SmallKernelIdeal.τ).loc Cert.SmallKernelIdeal.main_arg44) = m ((c.tc : Thread Cert.SmallKernelIdeal.nD Cert.SmallKernelIdeal.τ).loc Cert.SmallKernelIdeal.main_arg44)
      ∧ r.2.mem ((c.tc : Thread Cert.SmallKernelIdeal.nD Cert.SmallKernelIdeal.τ).loc Cert.SmallKernelIdeal.main_arg45) = m ((c.tc : Thread Cert.SmallKernelIdeal.nD Cert.SmallKernelIdeal.τ).loc Cert.SmallKernelIdeal.main_arg45)
      ∧ r.2.mem ((c.tc : Thread Cert.SmallKernelIdeal.nD Cert.SmallKernelIdeal.τ).loc Cert.SmallKernelIdeal.main_arg46) = m ((c.tc : Thread Cert.SmallKernelIdeal.nD Cert.SmallKernelIdeal.τ).loc Cert.SmallKernelIdeal.main_arg46)
      ∧ r.2.mem ((c.tc : Thread Cert.SmallKernelIdeal.nD Cert.SmallKernelIdeal.τ).loc Cert.SmallKernelIdeal.main_arg47) = m ((c.tc : Thread Cert.SmallKernelIdeal.nD Cert.SmallKernelIdeal.τ).loc Cert.SmallKernelIdeal.main_arg47)
      ∧ r.2.mem ((c.tc : Thread Cert.SmallKernelIdeal.nD Cert.SmallKernelIdeal.τ).loc Cert.SmallKernelIdeal.main_arg48) = m ((c.tc : Thread Cert.SmallKernelIdeal.nD Cert.SmallKernelIdeal.τ).loc Cert.SmallKernelIdeal.main_arg48)
      ∧ r.2.mem ((c.tc : Thread Cert.SmallKernelIdeal.nD Cert.SmallKernelIdeal.τ).loc Cert.SmallKernelIdeal.main_arg49) = m ((c.tc : Thread Cert.SmallKernelIdeal.nD Cert.SmallKernelIdeal.τ).loc Cert.SmallKernelIdeal.main_arg49)
      ∧ r.2.mem ((c.tc : Thread Cert.SmallKernelIdeal.nD Cert.SmallKernelIdeal.τ).loc Cert.SmallKernelIdeal.main_arg50) = m ((c.tc : Thread Cert.SmallKernelIdeal.nD Cert.SmallKernelIdeal.τ).loc Cert.SmallKernelIdeal.main_arg50)
      ∧ r.2.mem ((c.tc : Thread Cert.SmallKernelIdeal.nD Cert.SmallKernelIdeal.τ).loc Cert.SmallKernelIdeal.main_arg51) = m ((c.tc : Thread Cert.SmallKernelIdeal.nD Cert.SmallKernelIdeal.τ).loc Cert.SmallKernelIdeal.main_arg51))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15)
      ∧ r.2.mem ((c.tc : Thread Cert.SmallReferenceIdeal.nD Cert.SmallReferenceIdeal.τ).loc Cert.SmallReferenceIdeal.main_arg16) = m ((c.tc : Thread Cert.SmallReferenceIdeal.nD Cert.SmallReferenceIdeal.τ).loc Cert.SmallReferenceIdeal.main_arg16)
      ∧ r.2.mem ((c.tc : Thread Cert.SmallReferenceIdeal.nD Cert.SmallReferenceIdeal.τ).loc Cert.SmallReferenceIdeal.main_arg17) = m ((c.tc : Thread Cert.SmallReferenceIdeal.nD Cert.SmallReferenceIdeal.τ).loc Cert.SmallReferenceIdeal.main_arg17)
      ∧ r.2.mem ((c.tc : Thread Cert.SmallReferenceIdeal.nD Cert.SmallReferenceIdeal.τ).loc Cert.SmallReferenceIdeal.main_arg18) = m ((c.tc : Thread Cert.SmallReferenceIdeal.nD Cert.SmallReferenceIdeal.τ).loc Cert.SmallReferenceIdeal.main_arg18)
      ∧ r.2.mem ((c.tc : Thread Cert.SmallReferenceIdeal.nD Cert.SmallReferenceIdeal.τ).loc Cert.SmallReferenceIdeal.main_arg19) = m ((c.tc : Thread Cert.SmallReferenceIdeal.nD Cert.SmallReferenceIdeal.τ).loc Cert.SmallReferenceIdeal.main_arg19)
      ∧ r.2.mem ((c.tc : Thread Cert.SmallReferenceIdeal.nD Cert.SmallReferenceIdeal.τ).loc Cert.SmallReferenceIdeal.main_arg20) = m ((c.tc : Thread Cert.SmallReferenceIdeal.nD Cert.SmallReferenceIdeal.τ).loc Cert.SmallReferenceIdeal.main_arg20)
      ∧ r.2.mem ((c.tc : Thread Cert.SmallReferenceIdeal.nD Cert.SmallReferenceIdeal.τ).loc Cert.SmallReferenceIdeal.main_arg21) = m ((c.tc : Thread Cert.SmallReferenceIdeal.nD Cert.SmallReferenceIdeal.τ).loc Cert.SmallReferenceIdeal.main_arg21)
      ∧ r.2.mem ((c.tc : Thread Cert.SmallReferenceIdeal.nD Cert.SmallReferenceIdeal.τ).loc Cert.SmallReferenceIdeal.main_arg22) = m ((c.tc : Thread Cert.SmallReferenceIdeal.nD Cert.SmallReferenceIdeal.τ).loc Cert.SmallReferenceIdeal.main_arg22)
      ∧ r.2.mem ((c.tc : Thread Cert.SmallReferenceIdeal.nD Cert.SmallReferenceIdeal.τ).loc Cert.SmallReferenceIdeal.main_arg23) = m ((c.tc : Thread Cert.SmallReferenceIdeal.nD Cert.SmallReferenceIdeal.τ).loc Cert.SmallReferenceIdeal.main_arg23)
      ∧ r.2.mem ((c.tc : Thread Cert.SmallReferenceIdeal.nD Cert.SmallReferenceIdeal.τ).loc Cert.SmallReferenceIdeal.main_arg24) = m ((c.tc : Thread Cert.SmallReferenceIdeal.nD Cert.SmallReferenceIdeal.τ).loc Cert.SmallReferenceIdeal.main_arg24)
      ∧ r.2.mem ((c.tc : Thread Cert.SmallReferenceIdeal.nD Cert.SmallReferenceIdeal.τ).loc Cert.SmallReferenceIdeal.main_arg25) = m ((c.tc : Thread Cert.SmallReferenceIdeal.nD Cert.SmallReferenceIdeal.τ).loc Cert.SmallReferenceIdeal.main_arg25)
      ∧ r.2.mem ((c.tc : Thread Cert.SmallReferenceIdeal.nD Cert.SmallReferenceIdeal.τ).loc Cert.SmallReferenceIdeal.main_arg26) = m ((c.tc : Thread Cert.SmallReferenceIdeal.nD Cert.SmallReferenceIdeal.τ).loc Cert.SmallReferenceIdeal.main_arg26)
      ∧ r.2.mem ((c.tc : Thread Cert.SmallReferenceIdeal.nD Cert.SmallReferenceIdeal.τ).loc Cert.SmallReferenceIdeal.main_arg27) = m ((c.tc : Thread Cert.SmallReferenceIdeal.nD Cert.SmallReferenceIdeal.τ).loc Cert.SmallReferenceIdeal.main_arg27)
      ∧ r.2.mem ((c.tc : Thread Cert.SmallReferenceIdeal.nD Cert.SmallReferenceIdeal.τ).loc Cert.SmallReferenceIdeal.main_arg28) = m ((c.tc : Thread Cert.SmallReferenceIdeal.nD Cert.SmallReferenceIdeal.τ).loc Cert.SmallReferenceIdeal.main_arg28)
      ∧ r.2.mem ((c.tc : Thread Cert.SmallReferenceIdeal.nD Cert.SmallReferenceIdeal.τ).loc Cert.SmallReferenceIdeal.main_arg29) = m ((c.tc : Thread Cert.SmallReferenceIdeal.nD Cert.SmallReferenceIdeal.τ).loc Cert.SmallReferenceIdeal.main_arg29)
      ∧ r.2.mem ((c.tc : Thread Cert.SmallReferenceIdeal.nD Cert.SmallReferenceIdeal.τ).loc Cert.SmallReferenceIdeal.main_arg30) = m ((c.tc : Thread Cert.SmallReferenceIdeal.nD Cert.SmallReferenceIdeal.τ).loc Cert.SmallReferenceIdeal.main_arg30)
      ∧ r.2.mem ((c.tc : Thread Cert.SmallReferenceIdeal.nD Cert.SmallReferenceIdeal.τ).loc Cert.SmallReferenceIdeal.main_arg31) = m ((c.tc : Thread Cert.SmallReferenceIdeal.nD Cert.SmallReferenceIdeal.τ).loc Cert.SmallReferenceIdeal.main_arg31)
      ∧ r.2.mem ((c.tc : Thread Cert.SmallReferenceIdeal.nD Cert.SmallReferenceIdeal.τ).loc Cert.SmallReferenceIdeal.main_arg32) = m ((c.tc : Thread Cert.SmallReferenceIdeal.nD Cert.SmallReferenceIdeal.τ).loc Cert.SmallReferenceIdeal.main_arg32)
      ∧ r.2.mem ((c.tc : Thread Cert.SmallReferenceIdeal.nD Cert.SmallReferenceIdeal.τ).loc Cert.SmallReferenceIdeal.main_arg33) = m ((c.tc : Thread Cert.SmallReferenceIdeal.nD Cert.SmallReferenceIdeal.τ).loc Cert.SmallReferenceIdeal.main_arg33)
      ∧ r.2.mem ((c.tc : Thread Cert.SmallReferenceIdeal.nD Cert.SmallReferenceIdeal.τ).loc Cert.SmallReferenceIdeal.main_arg34) = m ((c.tc : Thread Cert.SmallReferenceIdeal.nD Cert.SmallReferenceIdeal.τ).loc Cert.SmallReferenceIdeal.main_arg34)
      ∧ r.2.mem ((c.tc : Thread Cert.SmallReferenceIdeal.nD Cert.SmallReferenceIdeal.τ).loc Cert.SmallReferenceIdeal.main_arg35) = m ((c.tc : Thread Cert.SmallReferenceIdeal.nD Cert.SmallReferenceIdeal.τ).loc Cert.SmallReferenceIdeal.main_arg35)
      ∧ r.2.mem ((c.tc : Thread Cert.SmallReferenceIdeal.nD Cert.SmallReferenceIdeal.τ).loc Cert.SmallReferenceIdeal.main_arg36) = m ((c.tc : Thread Cert.SmallReferenceIdeal.nD Cert.SmallReferenceIdeal.τ).loc Cert.SmallReferenceIdeal.main_arg36)
      ∧ r.2.mem ((c.tc : Thread Cert.SmallReferenceIdeal.nD Cert.SmallReferenceIdeal.τ).loc Cert.SmallReferenceIdeal.main_arg37) = m ((c.tc : Thread Cert.SmallReferenceIdeal.nD Cert.SmallReferenceIdeal.τ).loc Cert.SmallReferenceIdeal.main_arg37)
      ∧ r.2.mem ((c.tc : Thread Cert.SmallReferenceIdeal.nD Cert.SmallReferenceIdeal.τ).loc Cert.SmallReferenceIdeal.main_arg38) = m ((c.tc : Thread Cert.SmallReferenceIdeal.nD Cert.SmallReferenceIdeal.τ).loc Cert.SmallReferenceIdeal.main_arg38)
      ∧ r.2.mem ((c.tc : Thread Cert.SmallReferenceIdeal.nD Cert.SmallReferenceIdeal.τ).loc Cert.SmallReferenceIdeal.main_arg39) = m ((c.tc : Thread Cert.SmallReferenceIdeal.nD Cert.SmallReferenceIdeal.τ).loc Cert.SmallReferenceIdeal.main_arg39)
      ∧ r.2.mem ((c.tc : Thread Cert.SmallReferenceIdeal.nD Cert.SmallReferenceIdeal.τ).loc Cert.SmallReferenceIdeal.main_arg40) = m ((c.tc : Thread Cert.SmallReferenceIdeal.nD Cert.SmallReferenceIdeal.τ).loc Cert.SmallReferenceIdeal.main_arg40)
      ∧ r.2.mem ((c.tc : Thread Cert.SmallReferenceIdeal.nD Cert.SmallReferenceIdeal.τ).loc Cert.SmallReferenceIdeal.main_arg41) = m ((c.tc : Thread Cert.SmallReferenceIdeal.nD Cert.SmallReferenceIdeal.τ).loc Cert.SmallReferenceIdeal.main_arg41)
      ∧ r.2.mem ((c.tc : Thread Cert.SmallReferenceIdeal.nD Cert.SmallReferenceIdeal.τ).loc Cert.SmallReferenceIdeal.main_arg42) = m ((c.tc : Thread Cert.SmallReferenceIdeal.nD Cert.SmallReferenceIdeal.τ).loc Cert.SmallReferenceIdeal.main_arg42)
      ∧ r.2.mem ((c.tc : Thread Cert.SmallReferenceIdeal.nD Cert.SmallReferenceIdeal.τ).loc Cert.SmallReferenceIdeal.main_arg43) = m ((c.tc : Thread Cert.SmallReferenceIdeal.nD Cert.SmallReferenceIdeal.τ).loc Cert.SmallReferenceIdeal.main_arg43)
      ∧ r.2.mem ((c.tc : Thread Cert.SmallReferenceIdeal.nD Cert.SmallReferenceIdeal.τ).loc Cert.SmallReferenceIdeal.main_arg44) = m ((c.tc : Thread Cert.SmallReferenceIdeal.nD Cert.SmallReferenceIdeal.τ).loc Cert.SmallReferenceIdeal.main_arg44)
      ∧ r.2.mem ((c.tc : Thread Cert.SmallReferenceIdeal.nD Cert.SmallReferenceIdeal.τ).loc Cert.SmallReferenceIdeal.main_arg45) = m ((c.tc : Thread Cert.SmallReferenceIdeal.nD Cert.SmallReferenceIdeal.τ).loc Cert.SmallReferenceIdeal.main_arg45)
      ∧ r.2.mem ((c.tc : Thread Cert.SmallReferenceIdeal.nD Cert.SmallReferenceIdeal.τ).loc Cert.SmallReferenceIdeal.main_arg46) = m ((c.tc : Thread Cert.SmallReferenceIdeal.nD Cert.SmallReferenceIdeal.τ).loc Cert.SmallReferenceIdeal.main_arg46)
      ∧ r.2.mem ((c.tc : Thread Cert.SmallReferenceIdeal.nD Cert.SmallReferenceIdeal.τ).loc Cert.SmallReferenceIdeal.main_arg47) = m ((c.tc : Thread Cert.SmallReferenceIdeal.nD Cert.SmallReferenceIdeal.τ).loc Cert.SmallReferenceIdeal.main_arg47)
      ∧ r.2.mem ((c.tc : Thread Cert.SmallReferenceIdeal.nD Cert.SmallReferenceIdeal.τ).loc Cert.SmallReferenceIdeal.main_arg48) = m ((c.tc : Thread Cert.SmallReferenceIdeal.nD Cert.SmallReferenceIdeal.τ).loc Cert.SmallReferenceIdeal.main_arg48)
      ∧ r.2.mem ((c.tc : Thread Cert.SmallReferenceIdeal.nD Cert.SmallReferenceIdeal.τ).loc Cert.SmallReferenceIdeal.main_arg49) = m ((c.tc : Thread Cert.SmallReferenceIdeal.nD Cert.SmallReferenceIdeal.τ).loc Cert.SmallReferenceIdeal.main_arg49)
      ∧ r.2.mem ((c.tc : Thread Cert.SmallReferenceIdeal.nD Cert.SmallReferenceIdeal.τ).loc Cert.SmallReferenceIdeal.main_arg50) = m ((c.tc : Thread Cert.SmallReferenceIdeal.nD Cert.SmallReferenceIdeal.τ).loc Cert.SmallReferenceIdeal.main_arg50)
      ∧ r.2.mem ((c.tc : Thread Cert.SmallReferenceIdeal.nD Cert.SmallReferenceIdeal.τ).loc Cert.SmallReferenceIdeal.main_arg51) = m ((c.tc : Thread Cert.SmallReferenceIdeal.nD Cert.SmallReferenceIdeal.τ).loc Cert.SmallReferenceIdeal.main_arg51))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpDwKernel_UpDwKernelIdeal : Prop :=
  True

def algebraic_UpDwKernelIdeal_UpDwReferenceIdeal [hUpDwKernelIdeal : Cert.UpDwKernelIdeal.Facts] [hUpDwReferenceIdeal : Cert.UpDwReferenceIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwKernelIdeal m →
    (∀ c : Dev Cert.UpDwKernelIdeal.nD,
      m' ((c.tc : Thread Cert.UpDwReferenceIdeal.nD Cert.UpDwReferenceIdeal.τ).loc Cert.UpDwReferenceIdeal.main_arg0) = m ((c.tc : Thread Cert.UpDwKernelIdeal.nD Cert.UpDwKernelIdeal.τ).loc Cert.UpDwKernelIdeal.main_arg0)
      ∧ m' ((c.tc : Thread Cert.UpDwReferenceIdeal.nD Cert.UpDwReferenceIdeal.τ).loc Cert.UpDwReferenceIdeal.main_arg1) = m ((c.tc : Thread Cert.UpDwKernelIdeal.nD Cert.UpDwKernelIdeal.τ).loc Cert.UpDwKernelIdeal.main_arg1)) →
    ∃ (v0 : (c : Dev Cert.UpDwKernelIdeal.nD) → Buf (Elt Ideal) ((c.tc : Thread Cert.UpDwKernelIdeal.nD Cert.UpDwKernelIdeal.τ).loc Cert.UpDwKernelIdeal.main_v0)),
      θ_run (Cert.UpDwKernelIdeal.defs (F := Ideal)) (onTc (τ := Cert.UpDwKernelIdeal.τ) (Cert.UpDwKernelIdeal.main (F := Ideal))) ⟨m, fun _ => 0, g⟩ (fun r => ∀ c : Dev Cert.UpDwKernelIdeal.nD,
          r.2.mem ((c.tc : Thread Cert.UpDwKernelIdeal.nD Cert.UpDwKernelIdeal.τ).loc Cert.UpDwKernelIdeal.main_v0) = v0 c
          ∧ r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
          ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v9) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_UpDxAKernel_UpDxAKernelIdeal : Prop :=
  True

def algebraic_UpDxAKernelIdeal_UpDxAReferenceIdeal [hUpDxAKernelIdeal : Cert.UpDxAKernelIdeal.Facts] [hUpDxAReferenceIdeal : Cert.UpDxAReferenceIdeal.Facts] : Prop :=
  ∀ (m : (ℓ : Loc Cert.UpDxAKernelIdeal.nD Cert.UpDxAKernelIdeal.τ Cert.UpDxAKernelIdeal.sig) → Buf (Elt Ideal) ℓ) (g : Dev Cert.UpDxAKernelIdeal.nD → PrngReg)
    (m' : (ℓ : Loc Cert.UpDxAReferenceIdeal.nD Cert.UpDxAReferenceIdeal.τ Cert.UpDxAReferenceIdeal.sig) → Buf (Elt Ideal) ℓ) (g' : Dev Cert.UpDxAReferenceIdeal.nD → PrngReg), Pre_UpDxAKernelIdeal m →
    (∀ c : Dev Cert.UpDxAKernelIdeal.nD,
      m' ((c.tc : Thread Cert.UpDxAReferenceIdeal.nD Cert.UpDxAReferenceIdeal.τ).loc Cert.UpDxAReferenceIdeal.main_arg0) = m ((c.tc : Thread Cert.UpDxAKernelIdeal.nD Cert.UpDxAKernelIdeal.τ).loc Cert.UpDxAKernelIdeal.main_arg0)
      ∧ m' ((c.tc : Thread Cert.UpDxAReferenceIdeal.nD Cert.UpDxAReferenceIdeal.τ).loc Cert.UpDxAReferenceIdeal.main_arg1) = m ((c.tc : Thread Cert.UpDxAKernelIdeal.nD Cert.UpDxAKernelIdeal.τ).loc Cert.UpDxAKernelIdeal.main_arg1)
      ∧ m' ((c.tc : Thread Cert.UpDxAReferenceIdeal.nD Cert.UpDxAReferenceIdeal.τ).loc Cert.UpDxAReferenceIdeal.main_arg2) = m ((c.tc : Thread Cert.UpDxAKernelIdeal.nD Cert.UpDxAKernelIdeal.τ).loc Cert.UpDxAKernelIdeal.main_arg2)
      ∧ m' ((c.tc : Thread Cert.UpDxAReferenceIdeal.nD Cert.UpDxAReferenceIdeal.τ).loc Cert.UpDxAReferenceIdeal.main_arg3) = m ((c.tc : Thread Cert.UpDxAKernelIdeal.nD Cert.UpDxAKernelIdeal.τ).loc Cert.UpDxAKernelIdeal.main_arg3)
      ∧ m' ((c.tc : Thread Cert.UpDxAReferenceIdeal.nD Cert.UpDxAReferenceIdeal.τ).loc Cert.UpDxAReferenceIdeal.main_arg4) = m ((c.tc : Thread Cert.UpDxAKernelIdeal.nD Cert.UpDxAKernelIdeal.τ).loc Cert.UpDxAKernelIdeal.main_arg4)) →
    ∃ (v0 : (c : Dev Cert.UpDxAKernelIdeal.nD) → Buf (Elt Ideal) ((c.tc : Thread Cert.UpDxAKernelIdeal.nD Cert.UpDxAKernelIdeal.τ).loc Cert.UpDxAKernelIdeal.main_v0_0)) (v1 : (c : Dev Cert.UpDxAKernelIdeal.nD) → Buf (Elt Ideal) ((c.tc : Thread Cert.UpDxAKernelIdeal.nD Cert.UpDxAKernelIdeal.τ).loc Cert.UpDxAKernelIdeal.main_v0_1)),
      θ_run (Cert.UpDxAKernelIdeal.defs (F := Ideal)) (onTc (τ := Cert.UpDxAKernelIdeal.τ) (Cert.UpDxAKernelIdeal.main (F := Ideal))) ⟨m, fun _ => 0, g⟩ (fun r => ∀ c : Dev Cert.UpDxAKernelIdeal.nD,
          r.2.mem ((c.tc : Thread Cert.UpDxAKernelIdeal.nD Cert.UpDxAKernelIdeal.τ).loc Cert.UpDxAKernelIdeal.main_v0_0) = v0 c
          ∧ r.2.mem ((c.tc : Thread Cert.UpDxAKernelIdeal.nD Cert.UpDxAKernelIdeal.τ).loc Cert.UpDxAKernelIdeal.main_v0_1) = v1 c
          ∧ r.2.mem ((c.tc : Thread Cert.UpDxAKernelIdeal.nD Cert.UpDxAKernelIdeal.τ).loc Cert.UpDxAKernelIdeal.main_arg0) = m ((c.tc : Thread Cert.UpDxAKernelIdeal.nD Cert.UpDxAKernelIdeal.τ).loc Cert.UpDxAKernelIdeal.main_arg0)
          ∧ r.2.mem ((c.tc : Thread Cert.UpDxAKernelIdeal.nD Cert.UpDxAKernelIdeal.τ).loc Cert.UpDxAKernelIdeal.main_arg1) = m ((c.tc : Thread Cert.UpDxAKernelIdeal.nD Cert.UpDxAKernelIdeal.τ).loc Cert.UpDxAKernelIdeal.main_arg1)
          ∧ r.2.mem ((c.tc : Thread Cert.UpDxAKernelIdeal.nD Cert.UpDxAKernelIdeal.τ).loc Cert.UpDxAKernelIdeal.main_arg2) = m ((c.tc : Thread Cert.UpDxAKernelIdeal.nD Cert.UpDxAKernelIdeal.τ).loc Cert.UpDxAKernelIdeal.main_arg2)
          ∧ r.2.mem ((c.tc : Thread Cert.UpDxAKernelIdeal.nD Cert.UpDxAKernelIdeal.τ).loc Cert.UpDxAKernelIdeal.main_arg3) = m ((c.tc : Thread Cert.UpDxAKernelIdeal.nD Cert.UpDxAKernelIdeal.τ).loc Cert.UpDxAKernelIdeal.main_arg3)
          ∧ r.2.mem ((c.tc : Thread Cert.UpDxAKernelIdeal.nD Cert.UpDxAKernelIdeal.τ).loc Cert.UpDxAKernelIdeal.main_arg4) = m ((c.tc : Thread Cert.UpDxAKernelIdeal.nD Cert.UpDxAKernelIdeal.τ).loc Cert.UpDxAKernelIdeal.main_arg4))
      ∧ θ_run (Cert.UpDxAReferenceIdeal.defs (F := Ideal)) (onTc (τ := Cert.UpDxAReferenceIdeal.τ) (Cert.UpDxAReferenceIdeal.main (F := Ideal))) ⟨m', fun _ => 0, g'⟩ (fun r => ∀ c : Dev Cert.UpDxAReferenceIdeal.nD,
          r.2.mem ((c.tc : Thread Cert.UpDxAReferenceIdeal.nD Cert.UpDxAReferenceIdeal.τ).loc Cert.UpDxAReferenceIdeal.main_v43) = v0 c
          ∧ r.2.mem ((c.tc : Thread Cert.UpDxAReferenceIdeal.nD Cert.UpDxAReferenceIdeal.τ).loc Cert.UpDxAReferenceIdeal.main_v26) = v1 c
          ∧ r.2.mem ((c.tc : Thread Cert.UpDxAReferenceIdeal.nD Cert.UpDxAReferenceIdeal.τ).loc Cert.UpDxAReferenceIdeal.main_arg0) = m' ((c.tc : Thread Cert.UpDxAReferenceIdeal.nD Cert.UpDxAReferenceIdeal.τ).loc Cert.UpDxAReferenceIdeal.main_arg0)
          ∧ r.2.mem ((c.tc : Thread Cert.UpDxAReferenceIdeal.nD Cert.UpDxAReferenceIdeal.τ).loc Cert.UpDxAReferenceIdeal.main_arg1) = m' ((c.tc : Thread Cert.UpDxAReferenceIdeal.nD Cert.UpDxAReferenceIdeal.τ).loc Cert.UpDxAReferenceIdeal.main_arg1)
          ∧ r.2.mem ((c.tc : Thread Cert.UpDxAReferenceIdeal.nD Cert.UpDxAReferenceIdeal.τ).loc Cert.UpDxAReferenceIdeal.main_arg2) = m' ((c.tc : Thread Cert.UpDxAReferenceIdeal.nD Cert.UpDxAReferenceIdeal.τ).loc Cert.UpDxAReferenceIdeal.main_arg2)
          ∧ r.2.mem ((c.tc : Thread Cert.UpDxAReferenceIdeal.nD Cert.UpDxAReferenceIdeal.τ).loc Cert.UpDxAReferenceIdeal.main_arg3) = m' ((c.tc : Thread Cert.UpDxAReferenceIdeal.nD Cert.UpDxAReferenceIdeal.τ).loc Cert.UpDxAReferenceIdeal.main_arg3)
          ∧ r.2.mem ((c.tc : Thread Cert.UpDxAReferenceIdeal.nD Cert.UpDxAReferenceIdeal.τ).loc Cert.UpDxAReferenceIdeal.main_arg4) = m' ((c.tc : Thread Cert.UpDxAReferenceIdeal.nD Cert.UpDxAReferenceIdeal.τ).loc Cert.UpDxAReferenceIdeal.main_arg4))

def preserves_UpDxBKernel_UpDxBKernelIdeal : Prop :=
  True

def algebraic_UpDxBKernelIdeal_UpDxBReferenceIdeal [hUpDxBKernelIdeal : Cert.UpDxBKernelIdeal.Facts] [hUpDxBReferenceIdeal : Cert.UpDxBReferenceIdeal.Facts] : Prop :=
  ∀ (m : (ℓ : Loc Cert.UpDxBKernelIdeal.nD Cert.UpDxBKernelIdeal.τ Cert.UpDxBKernelIdeal.sig) → Buf (Elt Ideal) ℓ) (g : Dev Cert.UpDxBKernelIdeal.nD → PrngReg)
    (m' : (ℓ : Loc Cert.UpDxBReferenceIdeal.nD Cert.UpDxBReferenceIdeal.τ Cert.UpDxBReferenceIdeal.sig) → Buf (Elt Ideal) ℓ) (g' : Dev Cert.UpDxBReferenceIdeal.nD → PrngReg), Pre_UpDxBKernelIdeal m →
    (∀ c : Dev Cert.UpDxBKernelIdeal.nD,
      m' ((c.tc : Thread Cert.UpDxBReferenceIdeal.nD Cert.UpDxBReferenceIdeal.τ).loc Cert.UpDxBReferenceIdeal.main_arg0) = m ((c.tc : Thread Cert.UpDxBKernelIdeal.nD Cert.UpDxBKernelIdeal.τ).loc Cert.UpDxBKernelIdeal.main_arg0)
      ∧ m' ((c.tc : Thread Cert.UpDxBReferenceIdeal.nD Cert.UpDxBReferenceIdeal.τ).loc Cert.UpDxBReferenceIdeal.main_arg1) = m ((c.tc : Thread Cert.UpDxBKernelIdeal.nD Cert.UpDxBKernelIdeal.τ).loc Cert.UpDxBKernelIdeal.main_arg1)
      ∧ m' ((c.tc : Thread Cert.UpDxBReferenceIdeal.nD Cert.UpDxBReferenceIdeal.τ).loc Cert.UpDxBReferenceIdeal.main_arg2) = m ((c.tc : Thread Cert.UpDxBKernelIdeal.nD Cert.UpDxBKernelIdeal.τ).loc Cert.UpDxBKernelIdeal.main_arg2)
      ∧ m' ((c.tc : Thread Cert.UpDxBReferenceIdeal.nD Cert.UpDxBReferenceIdeal.τ).loc Cert.UpDxBReferenceIdeal.main_arg3) = m ((c.tc : Thread Cert.UpDxBKernelIdeal.nD Cert.UpDxBKernelIdeal.τ).loc Cert.UpDxBKernelIdeal.main_arg3)
      ∧ m' ((c.tc : Thread Cert.UpDxBReferenceIdeal.nD Cert.UpDxBReferenceIdeal.τ).loc Cert.UpDxBReferenceIdeal.main_arg4) = m ((c.tc : Thread Cert.UpDxBKernelIdeal.nD Cert.UpDxBKernelIdeal.τ).loc Cert.UpDxBKernelIdeal.main_arg4)) →
    ∃ (v0 : (c : Dev Cert.UpDxBKernelIdeal.nD) → Buf (Elt Ideal) ((c.tc : Thread Cert.UpDxBKernelIdeal.nD Cert.UpDxBKernelIdeal.τ).loc Cert.UpDxBKernelIdeal.main_v0_0)) (v1 : (c : Dev Cert.UpDxBKernelIdeal.nD) → Buf (Elt Ideal) ((c.tc : Thread Cert.UpDxBKernelIdeal.nD Cert.UpDxBKernelIdeal.τ).loc Cert.UpDxBKernelIdeal.main_v0_1)),
      θ_run (Cert.UpDxBKernelIdeal.defs (F := Ideal)) (onTc (τ := Cert.UpDxBKernelIdeal.τ) (Cert.UpDxBKernelIdeal.main (F := Ideal))) ⟨m, fun _ => 0, g⟩ (fun r => ∀ c : Dev Cert.UpDxBKernelIdeal.nD,
          r.2.mem ((c.tc : Thread Cert.UpDxBKernelIdeal.nD Cert.UpDxBKernelIdeal.τ).loc Cert.UpDxBKernelIdeal.main_v0_0) = v0 c
          ∧ r.2.mem ((c.tc : Thread Cert.UpDxBKernelIdeal.nD Cert.UpDxBKernelIdeal.τ).loc Cert.UpDxBKernelIdeal.main_v0_1) = v1 c
          ∧ r.2.mem ((c.tc : Thread Cert.UpDxBKernelIdeal.nD Cert.UpDxBKernelIdeal.τ).loc Cert.UpDxBKernelIdeal.main_arg0) = m ((c.tc : Thread Cert.UpDxBKernelIdeal.nD Cert.UpDxBKernelIdeal.τ).loc Cert.UpDxBKernelIdeal.main_arg0)
          ∧ r.2.mem ((c.tc : Thread Cert.UpDxBKernelIdeal.nD Cert.UpDxBKernelIdeal.τ).loc Cert.UpDxBKernelIdeal.main_arg1) = m ((c.tc : Thread Cert.UpDxBKernelIdeal.nD Cert.UpDxBKernelIdeal.τ).loc Cert.UpDxBKernelIdeal.main_arg1)
          ∧ r.2.mem ((c.tc : Thread Cert.UpDxBKernelIdeal.nD Cert.UpDxBKernelIdeal.τ).loc Cert.UpDxBKernelIdeal.main_arg2) = m ((c.tc : Thread Cert.UpDxBKernelIdeal.nD Cert.UpDxBKernelIdeal.τ).loc Cert.UpDxBKernelIdeal.main_arg2)
          ∧ r.2.mem ((c.tc : Thread Cert.UpDxBKernelIdeal.nD Cert.UpDxBKernelIdeal.τ).loc Cert.UpDxBKernelIdeal.main_arg3) = m ((c.tc : Thread Cert.UpDxBKernelIdeal.nD Cert.UpDxBKernelIdeal.τ).loc Cert.UpDxBKernelIdeal.main_arg3)
          ∧ r.2.mem ((c.tc : Thread Cert.UpDxBKernelIdeal.nD Cert.UpDxBKernelIdeal.τ).loc Cert.UpDxBKernelIdeal.main_arg4) = m ((c.tc : Thread Cert.UpDxBKernelIdeal.nD Cert.UpDxBKernelIdeal.τ).loc Cert.UpDxBKernelIdeal.main_arg4))
      ∧ θ_run (Cert.UpDxBReferenceIdeal.defs (F := Ideal)) (onTc (τ := Cert.UpDxBReferenceIdeal.τ) (Cert.UpDxBReferenceIdeal.main (F := Ideal))) ⟨m', fun _ => 0, g'⟩ (fun r => ∀ c : Dev Cert.UpDxBReferenceIdeal.nD,
          r.2.mem ((c.tc : Thread Cert.UpDxBReferenceIdeal.nD Cert.UpDxBReferenceIdeal.τ).loc Cert.UpDxBReferenceIdeal.main_v43) = v0 c
          ∧ r.2.mem ((c.tc : Thread Cert.UpDxBReferenceIdeal.nD Cert.UpDxBReferenceIdeal.τ).loc Cert.UpDxBReferenceIdeal.main_v26) = v1 c
          ∧ r.2.mem ((c.tc : Thread Cert.UpDxBReferenceIdeal.nD Cert.UpDxBReferenceIdeal.τ).loc Cert.UpDxBReferenceIdeal.main_arg0) = m' ((c.tc : Thread Cert.UpDxBReferenceIdeal.nD Cert.UpDxBReferenceIdeal.τ).loc Cert.UpDxBReferenceIdeal.main_arg0)
          ∧ r.2.mem ((c.tc : Thread Cert.UpDxBReferenceIdeal.nD Cert.UpDxBReferenceIdeal.τ).loc Cert.UpDxBReferenceIdeal.main_arg1) = m' ((c.tc : Thread Cert.UpDxBReferenceIdeal.nD Cert.UpDxBReferenceIdeal.τ).loc Cert.UpDxBReferenceIdeal.main_arg1)
          ∧ r.2.mem ((c.tc : Thread Cert.UpDxBReferenceIdeal.nD Cert.UpDxBReferenceIdeal.τ).loc Cert.UpDxBReferenceIdeal.main_arg2) = m' ((c.tc : Thread Cert.UpDxBReferenceIdeal.nD Cert.UpDxBReferenceIdeal.τ).loc Cert.UpDxBReferenceIdeal.main_arg2)
          ∧ r.2.mem ((c.tc : Thread Cert.UpDxBReferenceIdeal.nD Cert.UpDxBReferenceIdeal.τ).loc Cert.UpDxBReferenceIdeal.main_arg3) = m' ((c.tc : Thread Cert.UpDxBReferenceIdeal.nD Cert.UpDxBReferenceIdeal.τ).loc Cert.UpDxBReferenceIdeal.main_arg3)
          ∧ r.2.mem ((c.tc : Thread Cert.UpDxBReferenceIdeal.nD Cert.UpDxBReferenceIdeal.τ).loc Cert.UpDxBReferenceIdeal.main_arg4) = m' ((c.tc : Thread Cert.UpDxBReferenceIdeal.nD Cert.UpDxBReferenceIdeal.τ).loc Cert.UpDxBReferenceIdeal.main_arg4))

def preserves_AbInDxKernel_AbInDxKernelIdeal : Prop :=
  True

def algebraic_AbInDxKernelIdeal_AbInDxReferenceIdeal [hAbInDxKernelIdeal : Cert.AbInDxKernelIdeal.Facts] [hAbInDxReferenceIdeal : Cert.AbInDxReferenceIdeal.Facts] : Prop :=
  ∀ (m : (ℓ : Loc Cert.AbInDxKernelIdeal.nD Cert.AbInDxKernelIdeal.τ Cert.AbInDxKernelIdeal.sig) → Buf (Elt Ideal) ℓ) (g : Dev Cert.AbInDxKernelIdeal.nD → PrngReg)
    (m' : (ℓ : Loc Cert.AbInDxReferenceIdeal.nD Cert.AbInDxReferenceIdeal.τ Cert.AbInDxReferenceIdeal.sig) → Buf (Elt Ideal) ℓ) (g' : Dev Cert.AbInDxReferenceIdeal.nD → PrngReg), Pre_AbInDxKernelIdeal m →
    (∀ c : Dev Cert.AbInDxKernelIdeal.nD,
      m' ((c.tc : Thread Cert.AbInDxReferenceIdeal.nD Cert.AbInDxReferenceIdeal.τ).loc Cert.AbInDxReferenceIdeal.main_arg0) = m ((c.tc : Thread Cert.AbInDxKernelIdeal.nD Cert.AbInDxKernelIdeal.τ).loc Cert.AbInDxKernelIdeal.main_arg0)
      ∧ m' ((c.tc : Thread Cert.AbInDxReferenceIdeal.nD Cert.AbInDxReferenceIdeal.τ).loc Cert.AbInDxReferenceIdeal.main_arg1) = m ((c.tc : Thread Cert.AbInDxKernelIdeal.nD Cert.AbInDxKernelIdeal.τ).loc Cert.AbInDxKernelIdeal.main_arg1)
      ∧ m' ((c.tc : Thread Cert.AbInDxReferenceIdeal.nD Cert.AbInDxReferenceIdeal.τ).loc Cert.AbInDxReferenceIdeal.main_arg2) = m ((c.tc : Thread Cert.AbInDxKernelIdeal.nD Cert.AbInDxKernelIdeal.τ).loc Cert.AbInDxKernelIdeal.main_arg2)
      ∧ m' ((c.tc : Thread Cert.AbInDxReferenceIdeal.nD Cert.AbInDxReferenceIdeal.τ).loc Cert.AbInDxReferenceIdeal.main_arg3) = m ((c.tc : Thread Cert.AbInDxKernelIdeal.nD Cert.AbInDxKernelIdeal.τ).loc Cert.AbInDxKernelIdeal.main_arg3)
      ∧ m' ((c.tc : Thread Cert.AbInDxReferenceIdeal.nD Cert.AbInDxReferenceIdeal.τ).loc Cert.AbInDxReferenceIdeal.main_arg4) = m ((c.tc : Thread Cert.AbInDxKernelIdeal.nD Cert.AbInDxKernelIdeal.τ).loc Cert.AbInDxKernelIdeal.main_arg4)) →
    ∃ (v0 : (c : Dev Cert.AbInDxKernelIdeal.nD) → Buf (Elt Ideal) ((c.tc : Thread Cert.AbInDxKernelIdeal.nD Cert.AbInDxKernelIdeal.τ).loc Cert.AbInDxKernelIdeal.main_v0_0)) (v1 : (c : Dev Cert.AbInDxKernelIdeal.nD) → Buf (Elt Ideal) ((c.tc : Thread Cert.AbInDxKernelIdeal.nD Cert.AbInDxKernelIdeal.τ).loc Cert.AbInDxKernelIdeal.main_v0_1)),
      θ_run (Cert.AbInDxKernelIdeal.defs (F := Ideal)) (onTc (τ := Cert.AbInDxKernelIdeal.τ) (Cert.AbInDxKernelIdeal.main (F := Ideal))) ⟨m, fun _ => 0, g⟩ (fun r => ∀ c : Dev Cert.AbInDxKernelIdeal.nD,
          r.2.mem ((c.tc : Thread Cert.AbInDxKernelIdeal.nD Cert.AbInDxKernelIdeal.τ).loc Cert.AbInDxKernelIdeal.main_v0_0) = v0 c
          ∧ r.2.mem ((c.tc : Thread Cert.AbInDxKernelIdeal.nD Cert.AbInDxKernelIdeal.τ).loc Cert.AbInDxKernelIdeal.main_v0_1) = v1 c
          ∧ r.2.mem ((c.tc : Thread Cert.AbInDxKernelIdeal.nD Cert.AbInDxKernelIdeal.τ).loc Cert.AbInDxKernelIdeal.main_arg0) = m ((c.tc : Thread Cert.AbInDxKernelIdeal.nD Cert.AbInDxKernelIdeal.τ).loc Cert.AbInDxKernelIdeal.main_arg0)
          ∧ r.2.mem ((c.tc : Thread Cert.AbInDxKernelIdeal.nD Cert.AbInDxKernelIdeal.τ).loc Cert.AbInDxKernelIdeal.main_arg1) = m ((c.tc : Thread Cert.AbInDxKernelIdeal.nD Cert.AbInDxKernelIdeal.τ).loc Cert.AbInDxKernelIdeal.main_arg1)
          ∧ r.2.mem ((c.tc : Thread Cert.AbInDxKernelIdeal.nD Cert.AbInDxKernelIdeal.τ).loc Cert.AbInDxKernelIdeal.main_arg2) = m ((c.tc : Thread Cert.AbInDxKernelIdeal.nD Cert.AbInDxKernelIdeal.τ).loc Cert.AbInDxKernelIdeal.main_arg2)
          ∧ r.2.mem ((c.tc : Thread Cert.AbInDxKernelIdeal.nD Cert.AbInDxKernelIdeal.τ).loc Cert.AbInDxKernelIdeal.main_arg3) = m ((c.tc : Thread Cert.AbInDxKernelIdeal.nD Cert.AbInDxKernelIdeal.τ).loc Cert.AbInDxKernelIdeal.main_arg3)
          ∧ r.2.mem ((c.tc : Thread Cert.AbInDxKernelIdeal.nD Cert.AbInDxKernelIdeal.τ).loc Cert.AbInDxKernelIdeal.main_arg4) = m ((c.tc : Thread Cert.AbInDxKernelIdeal.nD Cert.AbInDxKernelIdeal.τ).loc Cert.AbInDxKernelIdeal.main_arg4))
      ∧ θ_run (Cert.AbInDxReferenceIdeal.defs (F := Ideal)) (onTc (τ := Cert.AbInDxReferenceIdeal.τ) (Cert.AbInDxReferenceIdeal.main (F := Ideal))) ⟨m', fun _ => 0, g'⟩ (fun r => ∀ c : Dev Cert.AbInDxReferenceIdeal.nD,
          r.2.mem ((c.tc : Thread Cert.AbInDxReferenceIdeal.nD Cert.AbInDxReferenceIdeal.τ).loc Cert.AbInDxReferenceIdeal.main_v43) = v0 c
          ∧ r.2.mem ((c.tc : Thread Cert.AbInDxReferenceIdeal.nD Cert.AbInDxReferenceIdeal.τ).loc Cert.AbInDxReferenceIdeal.main_v26) = v1 c
          ∧ r.2.mem ((c.tc : Thread Cert.AbInDxReferenceIdeal.nD Cert.AbInDxReferenceIdeal.τ).loc Cert.AbInDxReferenceIdeal.main_arg0) = m' ((c.tc : Thread Cert.AbInDxReferenceIdeal.nD Cert.AbInDxReferenceIdeal.τ).loc Cert.AbInDxReferenceIdeal.main_arg0)
          ∧ r.2.mem ((c.tc : Thread Cert.AbInDxReferenceIdeal.nD Cert.AbInDxReferenceIdeal.τ).loc Cert.AbInDxReferenceIdeal.main_arg1) = m' ((c.tc : Thread Cert.AbInDxReferenceIdeal.nD Cert.AbInDxReferenceIdeal.τ).loc Cert.AbInDxReferenceIdeal.main_arg1)
          ∧ r.2.mem ((c.tc : Thread Cert.AbInDxReferenceIdeal.nD Cert.AbInDxReferenceIdeal.τ).loc Cert.AbInDxReferenceIdeal.main_arg2) = m' ((c.tc : Thread Cert.AbInDxReferenceIdeal.nD Cert.AbInDxReferenceIdeal.τ).loc Cert.AbInDxReferenceIdeal.main_arg2)
          ∧ r.2.mem ((c.tc : Thread Cert.AbInDxReferenceIdeal.nD Cert.AbInDxReferenceIdeal.τ).loc Cert.AbInDxReferenceIdeal.main_arg3) = m' ((c.tc : Thread Cert.AbInDxReferenceIdeal.nD Cert.AbInDxReferenceIdeal.τ).loc Cert.AbInDxReferenceIdeal.main_arg3)
          ∧ r.2.mem ((c.tc : Thread Cert.AbInDxReferenceIdeal.nD Cert.AbInDxReferenceIdeal.τ).loc Cert.AbInDxReferenceIdeal.main_arg4) = m' ((c.tc : Thread Cert.AbInDxReferenceIdeal.nD Cert.AbInDxReferenceIdeal.τ).loc Cert.AbInDxReferenceIdeal.main_arg4))

def preserves_CInDxKernel_CInDxKernelIdeal : Prop :=
  True

def algebraic_CInDxKernelIdeal_CInDxReferenceIdeal [hCInDxKernelIdeal : Cert.CInDxKernelIdeal.Facts] [hCInDxReferenceIdeal : Cert.CInDxReferenceIdeal.Facts] : Prop :=
  ∀ (m : (ℓ : Loc Cert.CInDxKernelIdeal.nD Cert.CInDxKernelIdeal.τ Cert.CInDxKernelIdeal.sig) → Buf (Elt Ideal) ℓ) (g : Dev Cert.CInDxKernelIdeal.nD → PrngReg)
    (m' : (ℓ : Loc Cert.CInDxReferenceIdeal.nD Cert.CInDxReferenceIdeal.τ Cert.CInDxReferenceIdeal.sig) → Buf (Elt Ideal) ℓ) (g' : Dev Cert.CInDxReferenceIdeal.nD → PrngReg), Pre_CInDxKernelIdeal m →
    (∀ c : Dev Cert.CInDxKernelIdeal.nD,
      m' ((c.tc : Thread Cert.CInDxReferenceIdeal.nD Cert.CInDxReferenceIdeal.τ).loc Cert.CInDxReferenceIdeal.main_arg0) = m ((c.tc : Thread Cert.CInDxKernelIdeal.nD Cert.CInDxKernelIdeal.τ).loc Cert.CInDxKernelIdeal.main_arg0)
      ∧ m' ((c.tc : Thread Cert.CInDxReferenceIdeal.nD Cert.CInDxReferenceIdeal.τ).loc Cert.CInDxReferenceIdeal.main_arg1) = m ((c.tc : Thread Cert.CInDxKernelIdeal.nD Cert.CInDxKernelIdeal.τ).loc Cert.CInDxKernelIdeal.main_arg1)
      ∧ m' ((c.tc : Thread Cert.CInDxReferenceIdeal.nD Cert.CInDxReferenceIdeal.τ).loc Cert.CInDxReferenceIdeal.main_arg2) = m ((c.tc : Thread Cert.CInDxKernelIdeal.nD Cert.CInDxKernelIdeal.τ).loc Cert.CInDxKernelIdeal.main_arg2)
      ∧ m' ((c.tc : Thread Cert.CInDxReferenceIdeal.nD Cert.CInDxReferenceIdeal.τ).loc Cert.CInDxReferenceIdeal.main_arg3) = m ((c.tc : Thread Cert.CInDxKernelIdeal.nD Cert.CInDxKernelIdeal.τ).loc Cert.CInDxKernelIdeal.main_arg3)
      ∧ m' ((c.tc : Thread Cert.CInDxReferenceIdeal.nD Cert.CInDxReferenceIdeal.τ).loc Cert.CInDxReferenceIdeal.main_arg4) = m ((c.tc : Thread Cert.CInDxKernelIdeal.nD Cert.CInDxKernelIdeal.τ).loc Cert.CInDxKernelIdeal.main_arg4)) →
    ∃ (v0 : (c : Dev Cert.CInDxKernelIdeal.nD) → Buf (Elt Ideal) ((c.tc : Thread Cert.CInDxKernelIdeal.nD Cert.CInDxKernelIdeal.τ).loc Cert.CInDxKernelIdeal.main_v0_0)) (v1 : (c : Dev Cert.CInDxKernelIdeal.nD) → Buf (Elt Ideal) ((c.tc : Thread Cert.CInDxKernelIdeal.nD Cert.CInDxKernelIdeal.τ).loc Cert.CInDxKernelIdeal.main_v0_1)),
      θ_run (Cert.CInDxKernelIdeal.defs (F := Ideal)) (onTc (τ := Cert.CInDxKernelIdeal.τ) (Cert.CInDxKernelIdeal.main (F := Ideal))) ⟨m, fun _ => 0, g⟩ (fun r => ∀ c : Dev Cert.CInDxKernelIdeal.nD,
          r.2.mem ((c.tc : Thread Cert.CInDxKernelIdeal.nD Cert.CInDxKernelIdeal.τ).loc Cert.CInDxKernelIdeal.main_v0_0) = v0 c
          ∧ r.2.mem ((c.tc : Thread Cert.CInDxKernelIdeal.nD Cert.CInDxKernelIdeal.τ).loc Cert.CInDxKernelIdeal.main_v0_1) = v1 c
          ∧ r.2.mem ((c.tc : Thread Cert.CInDxKernelIdeal.nD Cert.CInDxKernelIdeal.τ).loc Cert.CInDxKernelIdeal.main_arg0) = m ((c.tc : Thread Cert.CInDxKernelIdeal.nD Cert.CInDxKernelIdeal.τ).loc Cert.CInDxKernelIdeal.main_arg0)
          ∧ r.2.mem ((c.tc : Thread Cert.CInDxKernelIdeal.nD Cert.CInDxKernelIdeal.τ).loc Cert.CInDxKernelIdeal.main_arg1) = m ((c.tc : Thread Cert.CInDxKernelIdeal.nD Cert.CInDxKernelIdeal.τ).loc Cert.CInDxKernelIdeal.main_arg1)
          ∧ r.2.mem ((c.tc : Thread Cert.CInDxKernelIdeal.nD Cert.CInDxKernelIdeal.τ).loc Cert.CInDxKernelIdeal.main_arg2) = m ((c.tc : Thread Cert.CInDxKernelIdeal.nD Cert.CInDxKernelIdeal.τ).loc Cert.CInDxKernelIdeal.main_arg2)
          ∧ r.2.mem ((c.tc : Thread Cert.CInDxKernelIdeal.nD Cert.CInDxKernelIdeal.τ).loc Cert.CInDxKernelIdeal.main_arg3) = m ((c.tc : Thread Cert.CInDxKernelIdeal.nD Cert.CInDxKernelIdeal.τ).loc Cert.CInDxKernelIdeal.main_arg3)
          ∧ r.2.mem ((c.tc : Thread Cert.CInDxKernelIdeal.nD Cert.CInDxKernelIdeal.τ).loc Cert.CInDxKernelIdeal.main_arg4) = m ((c.tc : Thread Cert.CInDxKernelIdeal.nD Cert.CInDxKernelIdeal.τ).loc Cert.CInDxKernelIdeal.main_arg4))
      ∧ θ_run (Cert.CInDxReferenceIdeal.defs (F := Ideal)) (onTc (τ := Cert.CInDxReferenceIdeal.τ) (Cert.CInDxReferenceIdeal.main (F := Ideal))) ⟨m', fun _ => 0, g'⟩ (fun r => ∀ c : Dev Cert.CInDxReferenceIdeal.nD,
          r.2.mem ((c.tc : Thread Cert.CInDxReferenceIdeal.nD Cert.CInDxReferenceIdeal.τ).loc Cert.CInDxReferenceIdeal.main_v43) = v0 c
          ∧ r.2.mem ((c.tc : Thread Cert.CInDxReferenceIdeal.nD Cert.CInDxReferenceIdeal.τ).loc Cert.CInDxReferenceIdeal.main_v26) = v1 c
          ∧ r.2.mem ((c.tc : Thread Cert.CInDxReferenceIdeal.nD Cert.CInDxReferenceIdeal.τ).loc Cert.CInDxReferenceIdeal.main_arg0) = m' ((c.tc : Thread Cert.CInDxReferenceIdeal.nD Cert.CInDxReferenceIdeal.τ).loc Cert.CInDxReferenceIdeal.main_arg0)
          ∧ r.2.mem ((c.tc : Thread Cert.CInDxReferenceIdeal.nD Cert.CInDxReferenceIdeal.τ).loc Cert.CInDxReferenceIdeal.main_arg1) = m' ((c.tc : Thread Cert.CInDxReferenceIdeal.nD Cert.CInDxReferenceIdeal.τ).loc Cert.CInDxReferenceIdeal.main_arg1)
          ∧ r.2.mem ((c.tc : Thread Cert.CInDxReferenceIdeal.nD Cert.CInDxReferenceIdeal.τ).loc Cert.CInDxReferenceIdeal.main_arg2) = m' ((c.tc : Thread Cert.CInDxReferenceIdeal.nD Cert.CInDxReferenceIdeal.τ).loc Cert.CInDxReferenceIdeal.main_arg2)
          ∧ r.2.mem ((c.tc : Thread Cert.CInDxReferenceIdeal.nD Cert.CInDxReferenceIdeal.τ).loc Cert.CInDxReferenceIdeal.main_arg3) = m' ((c.tc : Thread Cert.CInDxReferenceIdeal.nD Cert.CInDxReferenceIdeal.τ).loc Cert.CInDxReferenceIdeal.main_arg3)
          ∧ r.2.mem ((c.tc : Thread Cert.CInDxReferenceIdeal.nD Cert.CInDxReferenceIdeal.τ).loc Cert.CInDxReferenceIdeal.main_arg4) = m' ((c.tc : Thread Cert.CInDxReferenceIdeal.nD Cert.CInDxReferenceIdeal.τ).loc Cert.CInDxReferenceIdeal.main_arg4))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)) →
    ∃ (v0 : (c : Dev Cert.DownDwKernelIdeal.nD) → Buf (Elt Ideal) ((c.tc : Thread Cert.DownDwKernelIdeal.nD Cert.DownDwKernelIdeal.τ).loc Cert.DownDwKernelIdeal.main_v0)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v0) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v4) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_DownDxKernel_DownDxKernelIdeal : Prop :=
  True

def algebraic_DownDxKernelIdeal_DownDxReferenceIdeal [hDownDxKernelIdeal : Cert.DownDxKernelIdeal.Facts] [hDownDxReferenceIdeal : Cert.DownDxReferenceIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxKernelIdeal m →
    (∀ c : Dev Cert.DownDxKernelIdeal.nD,
      m' ((c.tc : Thread Cert.DownDxReferenceIdeal.nD Cert.DownDxReferenceIdeal.τ).loc Cert.DownDxReferenceIdeal.main_arg0) = m ((c.tc : Thread Cert.DownDxKernelIdeal.nD Cert.DownDxKernelIdeal.τ).loc Cert.DownDxKernelIdeal.main_arg0)
      ∧ m' ((c.tc : Thread Cert.DownDxReferenceIdeal.nD Cert.DownDxReferenceIdeal.τ).loc Cert.DownDxReferenceIdeal.main_arg1) = m ((c.tc : Thread Cert.DownDxKernelIdeal.nD Cert.DownDxKernelIdeal.τ).loc Cert.DownDxKernelIdeal.main_arg1)) →
    ∃ (v0 : (c : Dev Cert.DownDxKernelIdeal.nD) → Buf (Elt Ideal) ((c.tc : Thread Cert.DownDxKernelIdeal.nD Cert.DownDxKernelIdeal.τ).loc Cert.DownDxKernelIdeal.main_v0)),
      θ_run (Cert.DownDxKernelIdeal.defs (F := Ideal)) (onTc (τ := Cert.DownDxKernelIdeal.τ) (Cert.DownDxKernelIdeal.main (F := Ideal))) ⟨m, fun _ => 0, g⟩ (fun r => ∀ c : Dev Cert.DownDxKernelIdeal.nD,
          r.2.mem ((c.tc : Thread Cert.DownDxKernelIdeal.nD Cert.DownDxKernelIdeal.τ).loc Cert.DownDxKernelIdeal.main_v0) = v0 c
          ∧ r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
          ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v5) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_CInDwKernel_CInDwKernelIdeal : Prop :=
  True

def algebraic_CInDwKernelIdeal_CInDwReferenceIdeal [hCInDwKernelIdeal : Cert.CInDwKernelIdeal.Facts] [hCInDwReferenceIdeal : Cert.CInDwReferenceIdeal.Facts] : Prop :=
  ∀ (m : (ℓ : Loc Cert.CInDwKernelIdeal.nD Cert.CInDwKernelIdeal.τ Cert.CInDwKernelIdeal.sig) → Buf (Elt Ideal) ℓ) (g : Dev Cert.CInDwKernelIdeal.nD → PrngReg)
    (m' : (ℓ : Loc Cert.CInDwReferenceIdeal.nD Cert.CInDwReferenceIdeal.τ Cert.CInDwReferenceIdeal.sig) → Buf (Elt Ideal) ℓ) (g' : Dev Cert.CInDwReferenceIdeal.nD → PrngReg), Pre_CInDwKernelIdeal m →
    (∀ c : Dev Cert.CInDwKernelIdeal.nD,
      m' ((c.tc : Thread Cert.CInDwReferenceIdeal.nD Cert.CInDwReferenceIdeal.τ).loc Cert.CInDwReferenceIdeal.main_arg0) = m ((c.tc : Thread Cert.CInDwKernelIdeal.nD Cert.CInDwKernelIdeal.τ).loc Cert.CInDwKernelIdeal.main_arg0)
      ∧ m' ((c.tc : Thread Cert.CInDwReferenceIdeal.nD Cert.CInDwReferenceIdeal.τ).loc Cert.CInDwReferenceIdeal.main_arg1) = m ((c.tc : Thread Cert.CInDwKernelIdeal.nD Cert.CInDwKernelIdeal.τ).loc Cert.CInDwKernelIdeal.main_arg1)) →
    ∃ (v0 : (c : Dev Cert.CInDwKernelIdeal.nD) → Buf (Elt Ideal) ((c.tc : Thread Cert.CInDwKernelIdeal.nD Cert.CInDwKernelIdeal.τ).loc Cert.CInDwKernelIdeal.main_v0)),
      θ_run (Cert.CInDwKernelIdeal.defs (F := Ideal)) (onTc (τ := Cert.CInDwKernelIdeal.τ) (Cert.CInDwKernelIdeal.main (F := Ideal))) ⟨m, fun _ => 0, g⟩ (fun r => ∀ c : Dev Cert.CInDwKernelIdeal.nD,
          r.2.mem ((c.tc : Thread Cert.CInDwKernelIdeal.nD Cert.CInDwKernelIdeal.τ).loc Cert.CInDwKernelIdeal.main_v0) = v0 c
          ∧ r.2.mem ((c.tc : Thread Cert.CInDwKernelIdeal.nD Cert.CInDwKernelIdeal.τ).loc Cert.CInDwKernelIdeal.main_arg0) = m ((c.tc : Thread Cert.CInDwKernelIdeal.nD Cert.CInDwKernelIdeal.τ).loc Cert.CInDwKernelIdeal.main_arg0)
          ∧ r.2.mem ((c.tc : Thread Cert.CInDwKernelIdeal.nD Cert.CInDwKernelIdeal.τ).loc Cert.CInDwKernelIdeal.main_arg1) = m ((c.tc : Thread Cert.CInDwKernelIdeal.nD Cert.CInDwKernelIdeal.τ).loc Cert.CInDwKernelIdeal.main_arg1))
      ∧ θ_run (Cert.CInDwReferenceIdeal.defs (F := Ideal)) (onTc (τ := Cert.CInDwReferenceIdeal.τ) (Cert.CInDwReferenceIdeal.main (F := Ideal))) ⟨m', fun _ => 0, g'⟩ (fun r => ∀ c : Dev Cert.CInDwReferenceIdeal.nD,
          r.2.mem ((c.tc : Thread Cert.CInDwReferenceIdeal.nD Cert.CInDwReferenceIdeal.τ).loc Cert.CInDwReferenceIdeal.main_v9) = v0 c
          ∧ r.2.mem ((c.tc : Thread Cert.CInDwReferenceIdeal.nD Cert.CInDwReferenceIdeal.τ).loc Cert.CInDwReferenceIdeal.main_arg0) = m' ((c.tc : Thread Cert.CInDwReferenceIdeal.nD Cert.CInDwReferenceIdeal.τ).loc Cert.CInDwReferenceIdeal.main_arg0)
          ∧ r.2.mem ((c.tc : Thread Cert.CInDwReferenceIdeal.nD Cert.CInDwReferenceIdeal.τ).loc Cert.CInDwReferenceIdeal.main_arg1) = m' ((c.tc : Thread Cert.CInDwReferenceIdeal.nD Cert.CInDwReferenceIdeal.τ).loc Cert.CInDwReferenceIdeal.main_arg1))

def preserves_AbInDwKernel_AbInDwKernelIdeal : Prop :=
  True

def algebraic_AbInDwKernelIdeal_AbInDwReferenceIdeal [hAbInDwKernelIdeal : Cert.AbInDwKernelIdeal.Facts] [hAbInDwReferenceIdeal : Cert.AbInDwReferenceIdeal.Facts] : Prop :=
  ∀ (m : (ℓ : Loc Cert.AbInDwKernelIdeal.nD Cert.AbInDwKernelIdeal.τ Cert.AbInDwKernelIdeal.sig) → Buf (Elt Ideal) ℓ) (g : Dev Cert.AbInDwKernelIdeal.nD → PrngReg)
    (m' : (ℓ : Loc Cert.AbInDwReferenceIdeal.nD Cert.AbInDwReferenceIdeal.τ Cert.AbInDwReferenceIdeal.sig) → Buf (Elt Ideal) ℓ) (g' : Dev Cert.AbInDwReferenceIdeal.nD → PrngReg), Pre_AbInDwKernelIdeal m →
    (∀ c : Dev Cert.AbInDwKernelIdeal.nD,
      m' ((c.tc : Thread Cert.AbInDwReferenceIdeal.nD Cert.AbInDwReferenceIdeal.τ).loc Cert.AbInDwReferenceIdeal.main_arg0) = m ((c.tc : Thread Cert.AbInDwKernelIdeal.nD Cert.AbInDwKernelIdeal.τ).loc Cert.AbInDwKernelIdeal.main_arg0)
      ∧ m' ((c.tc : Thread Cert.AbInDwReferenceIdeal.nD Cert.AbInDwReferenceIdeal.τ).loc Cert.AbInDwReferenceIdeal.main_arg1) = m ((c.tc : Thread Cert.AbInDwKernelIdeal.nD Cert.AbInDwKernelIdeal.τ).loc Cert.AbInDwKernelIdeal.main_arg1)) →
    ∃ (v0 : (c : Dev Cert.AbInDwKernelIdeal.nD) → Buf (Elt Ideal) ((c.tc : Thread Cert.AbInDwKernelIdeal.nD Cert.AbInDwKernelIdeal.τ).loc Cert.AbInDwKernelIdeal.main_v0)),
      θ_run (Cert.AbInDwKernelIdeal.defs (F := Ideal)) (onTc (τ := Cert.AbInDwKernelIdeal.τ) (Cert.AbInDwKernelIdeal.main (F := Ideal))) ⟨m, fun _ => 0, g⟩ (fun r => ∀ c : Dev Cert.AbInDwKernelIdeal.nD,
          r.2.mem ((c.tc : Thread Cert.AbInDwKernelIdeal.nD Cert.AbInDwKernelIdeal.τ).loc Cert.AbInDwKernelIdeal.main_v0) = v0 c
          ∧ r.2.mem ((c.tc : Thread Cert.AbInDwKernelIdeal.nD Cert.AbInDwKernelIdeal.τ).loc Cert.AbInDwKernelIdeal.main_arg0) = m ((c.tc : Thread Cert.AbInDwKernelIdeal.nD Cert.AbInDwKernelIdeal.τ).loc Cert.AbInDwKernelIdeal.main_arg0)
          ∧ r.2.mem ((c.tc : Thread Cert.AbInDwKernelIdeal.nD Cert.AbInDwKernelIdeal.τ).loc Cert.AbInDwKernelIdeal.main_arg1) = m ((c.tc : Thread Cert.AbInDwKernelIdeal.nD Cert.AbInDwKernelIdeal.τ).loc Cert.AbInDwKernelIdeal.main_arg1))
      ∧ θ_run (Cert.AbInDwReferenceIdeal.defs (F := Ideal)) (onTc (τ := Cert.AbInDwReferenceIdeal.τ) (Cert.AbInDwReferenceIdeal.main (F := Ideal))) ⟨m', fun _ => 0, g'⟩ (fun r => ∀ c : Dev Cert.AbInDwReferenceIdeal.nD,
          r.2.mem ((c.tc : Thread Cert.AbInDwReferenceIdeal.nD Cert.AbInDwReferenceIdeal.τ).loc Cert.AbInDwReferenceIdeal.main_v9) = v0 c
          ∧ r.2.mem ((c.tc : Thread Cert.AbInDwReferenceIdeal.nD Cert.AbInDwReferenceIdeal.τ).loc Cert.AbInDwReferenceIdeal.main_arg0) = m' ((c.tc : Thread Cert.AbInDwReferenceIdeal.nD Cert.AbInDwReferenceIdeal.τ).loc Cert.AbInDwReferenceIdeal.main_arg0)
          ∧ r.2.mem ((c.tc : Thread Cert.AbInDwReferenceIdeal.nD Cert.AbInDwReferenceIdeal.τ).loc Cert.AbInDwReferenceIdeal.main_arg1) = m' ((c.tc : Thread Cert.AbInDwReferenceIdeal.nD Cert.AbInDwReferenceIdeal.τ).loc Cert.AbInDwReferenceIdeal.main_arg1))

def preserves_OutDwKernel_OutDwKernelIdeal : Prop :=
  True

def algebraic_OutDwKernelIdeal_OutDwReferenceIdeal [hOutDwKernelIdeal : Cert.OutDwKernelIdeal.Facts] [hOutDwReferenceIdeal : Cert.OutDwReferenceIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwKernelIdeal m →
    (∀ c : Dev Cert.OutDwKernelIdeal.nD,
      m' ((c.tc : Thread Cert.OutDwReferenceIdeal.nD Cert.OutDwReferenceIdeal.τ).loc Cert.OutDwReferenceIdeal.main_arg0) = m ((c.tc : Thread Cert.OutDwKernelIdeal.nD Cert.OutDwKernelIdeal.τ).loc Cert.OutDwKernelIdeal.main_arg0)
      ∧ m' ((c.tc : Thread Cert.OutDwReferenceIdeal.nD Cert.OutDwReferenceIdeal.τ).loc Cert.OutDwReferenceIdeal.main_arg1) = m ((c.tc : Thread Cert.OutDwKernelIdeal.nD Cert.OutDwKernelIdeal.τ).loc Cert.OutDwKernelIdeal.main_arg1)) →
    ∃ (v0 : (c : Dev Cert.OutDwKernelIdeal.nD) → Buf (Elt Ideal) ((c.tc : Thread Cert.OutDwKernelIdeal.nD Cert.OutDwKernelIdeal.τ).loc Cert.OutDwKernelIdeal.main_v0)),
      θ_run (Cert.OutDwKernelIdeal.defs (F := Ideal)) (onTc (τ := Cert.OutDwKernelIdeal.τ) (Cert.OutDwKernelIdeal.main (F := Ideal))) ⟨m, fun _ => 0, g⟩ (fun r => ∀ c : Dev Cert.OutDwKernelIdeal.nD,
          r.2.mem ((c.tc : Thread Cert.OutDwKernelIdeal.nD Cert.OutDwKernelIdeal.τ).loc Cert.OutDwKernelIdeal.main_v0) = v0 c
          ∧ r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
          ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_OutDxKernel_OutDxKernelIdeal : Prop :=
  True

def algebraic_OutDxKernelIdeal_OutDxReferenceIdeal [hOutDxKernelIdeal : Cert.OutDxKernelIdeal.Facts] [hOutDxReferenceIdeal : Cert.OutDxReferenceIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxKernelIdeal m →
    (∀ c : Dev Cert.OutDxKernelIdeal.nD,
      m' ((c.tc : Thread Cert.OutDxReferenceIdeal.nD Cert.OutDxReferenceIdeal.τ).loc Cert.OutDxReferenceIdeal.main_arg0) = m ((c.tc : Thread Cert.OutDxKernelIdeal.nD Cert.OutDxKernelIdeal.τ).loc Cert.OutDxKernelIdeal.main_arg0)
      ∧ m' ((c.tc : Thread Cert.OutDxReferenceIdeal.nD Cert.OutDxReferenceIdeal.τ).loc Cert.OutDxReferenceIdeal.main_arg1) = m ((c.tc : Thread Cert.OutDxKernelIdeal.nD Cert.OutDxKernelIdeal.τ).loc Cert.OutDxKernelIdeal.main_arg1)) →
    ∃ (v0 : (c : Dev Cert.OutDxKernelIdeal.nD) → Buf (Elt Ideal) ((c.tc : Thread Cert.OutDxKernelIdeal.nD Cert.OutDxKernelIdeal.τ).loc Cert.OutDxKernelIdeal.main_v0)),
      θ_run (Cert.OutDxKernelIdeal.defs (F := Ideal)) (onTc (τ := Cert.OutDxKernelIdeal.τ) (Cert.OutDxKernelIdeal.main (F := Ideal))) ⟨m, fun _ => 0, g⟩ (fun r => ∀ c : Dev Cert.OutDxKernelIdeal.nD,
          r.2.mem ((c.tc : Thread Cert.OutDxKernelIdeal.nD Cert.OutDxKernelIdeal.τ).loc Cert.OutDxKernelIdeal.main_v0) = v0 c
          ∧ r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
          ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v5) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_UpFKernel_UpFKernelIdeal : Prop :=
  True

def algebraic_UpFKernelIdeal_UpFReferenceIdeal [hUpFKernelIdeal : Cert.UpFKernelIdeal.Facts] [hUpFReferenceIdeal : Cert.UpFReferenceIdeal.Facts] : Prop :=
  ∀ (m : (ℓ : Loc Cert.UpFKernelIdeal.nD Cert.UpFKernelIdeal.τ Cert.UpFKernelIdeal.sig) → Buf (Elt Ideal) ℓ) (g : Dev Cert.UpFKernelIdeal.nD → PrngReg)
    (m' : (ℓ : Loc Cert.UpFReferenceIdeal.nD Cert.UpFReferenceIdeal.τ Cert.UpFReferenceIdeal.sig) → Buf (Elt Ideal) ℓ) (g' : Dev Cert.UpFReferenceIdeal.nD → PrngReg), Pre_UpFKernelIdeal m →
    (∀ c : Dev Cert.UpFKernelIdeal.nD,
      m' ((c.tc : Thread Cert.UpFReferenceIdeal.nD Cert.UpFReferenceIdeal.τ).loc Cert.UpFReferenceIdeal.main_arg0) = m ((c.tc : Thread Cert.UpFKernelIdeal.nD Cert.UpFKernelIdeal.τ).loc Cert.UpFKernelIdeal.main_arg0)
      ∧ m' ((c.tc : Thread Cert.UpFReferenceIdeal.nD Cert.UpFReferenceIdeal.τ).loc Cert.UpFReferenceIdeal.main_arg1) = m ((c.tc : Thread Cert.UpFKernelIdeal.nD Cert.UpFKernelIdeal.τ).loc Cert.UpFKernelIdeal.main_arg1)) →
    ∃ (v0 : (c : Dev Cert.UpFKernelIdeal.nD) → Buf (Elt Ideal) ((c.tc : Thread Cert.UpFKernelIdeal.nD Cert.UpFKernelIdeal.τ).loc Cert.UpFKernelIdeal.main_v0)),
      θ_run (Cert.UpFKernelIdeal.defs (F := Ideal)) (onTc (τ := Cert.UpFKernelIdeal.τ) (Cert.UpFKernelIdeal.main (F := Ideal))) ⟨m, fun _ => 0, g⟩ (fun r => ∀ c : Dev Cert.UpFKernelIdeal.nD,
          r.2.mem ((c.tc : Thread Cert.UpFKernelIdeal.nD Cert.UpFKernelIdeal.τ).loc Cert.UpFKernelIdeal.main_v0) = v0 c
          ∧ r.2.mem ((c.tc : Thread Cert.UpFKernelIdeal.nD Cert.UpFKernelIdeal.τ).loc Cert.UpFKernelIdeal.main_arg0) = m ((c.tc : Thread Cert.UpFKernelIdeal.nD Cert.UpFKernelIdeal.τ).loc Cert.UpFKernelIdeal.main_arg0)
          ∧ r.2.mem ((c.tc : Thread Cert.UpFKernelIdeal.nD Cert.UpFKernelIdeal.τ).loc Cert.UpFKernelIdeal.main_arg1) = m ((c.tc : Thread Cert.UpFKernelIdeal.nD Cert.UpFKernelIdeal.τ).loc Cert.UpFKernelIdeal.main_arg1))
      ∧ θ_run (Cert.UpFReferenceIdeal.defs (F := Ideal)) (onTc (τ := Cert.UpFReferenceIdeal.τ) (Cert.UpFReferenceIdeal.main (F := Ideal))) ⟨m', fun _ => 0, g'⟩ (fun r => ∀ c : Dev Cert.UpFReferenceIdeal.nD,
          r.2.mem ((c.tc : Thread Cert.UpFReferenceIdeal.nD Cert.UpFReferenceIdeal.τ).loc Cert.UpFReferenceIdeal.main_v6) = v0 c
          ∧ r.2.mem ((c.tc : Thread Cert.UpFReferenceIdeal.nD Cert.UpFReferenceIdeal.τ).loc Cert.UpFReferenceIdeal.main_arg0) = m' ((c.tc : Thread Cert.UpFReferenceIdeal.nD Cert.UpFReferenceIdeal.τ).loc Cert.UpFReferenceIdeal.main_arg0)
          ∧ r.2.mem ((c.tc : Thread Cert.UpFReferenceIdeal.nD Cert.UpFReferenceIdeal.τ).loc Cert.UpFReferenceIdeal.main_arg1) = m' ((c.tc : Thread Cert.UpFReferenceIdeal.nD Cert.UpFReferenceIdeal.τ).loc Cert.UpFReferenceIdeal.main_arg1))

def preserves_CInFKernel_CInFKernelIdeal : Prop :=
  True

def algebraic_CInFKernelIdeal_CInFReferenceIdeal [hCInFKernelIdeal : Cert.CInFKernelIdeal.Facts] [hCInFReferenceIdeal : Cert.CInFReferenceIdeal.Facts] : Prop :=
  ∀ (m : (ℓ : Loc Cert.CInFKernelIdeal.nD Cert.CInFKernelIdeal.τ Cert.CInFKernelIdeal.sig) → Buf (Elt Ideal) ℓ) (g : Dev Cert.CInFKernelIdeal.nD → PrngReg)
    (m' : (ℓ : Loc Cert.CInFReferenceIdeal.nD Cert.CInFReferenceIdeal.τ Cert.CInFReferenceIdeal.sig) → Buf (Elt Ideal) ℓ) (g' : Dev Cert.CInFReferenceIdeal.nD → PrngReg), Pre_CInFKernelIdeal m →
    (∀ c : Dev Cert.CInFKernelIdeal.nD,
      m' ((c.tc : Thread Cert.CInFReferenceIdeal.nD Cert.CInFReferenceIdeal.τ).loc Cert.CInFReferenceIdeal.main_arg0) = m ((c.tc : Thread Cert.CInFKernelIdeal.nD Cert.CInFKernelIdeal.τ).loc Cert.CInFKernelIdeal.main_arg0)
      ∧ m' ((c.tc : Thread Cert.CInFReferenceIdeal.nD Cert.CInFReferenceIdeal.τ).loc Cert.CInFReferenceIdeal.main_arg1) = m ((c.tc : Thread Cert.CInFKernelIdeal.nD Cert.CInFKernelIdeal.τ).loc Cert.CInFKernelIdeal.main_arg1)) →
    ∃ (v0 : (c : Dev Cert.CInFKernelIdeal.nD) → Buf (Elt Ideal) ((c.tc : Thread Cert.CInFKernelIdeal.nD Cert.CInFKernelIdeal.τ).loc Cert.CInFKernelIdeal.main_v0)),
      θ_run (Cert.CInFKernelIdeal.defs (F := Ideal)) (onTc (τ := Cert.CInFKernelIdeal.τ) (Cert.CInFKernelIdeal.main (F := Ideal))) ⟨m, fun _ => 0, g⟩ (fun r => ∀ c : Dev Cert.CInFKernelIdeal.nD,
          r.2.mem ((c.tc : Thread Cert.CInFKernelIdeal.nD Cert.CInFKernelIdeal.τ).loc Cert.CInFKernelIdeal.main_v0) = v0 c
          ∧ r.2.mem ((c.tc : Thread Cert.CInFKernelIdeal.nD Cert.CInFKernelIdeal.τ).loc Cert.CInFKernelIdeal.main_arg0) = m ((c.tc : Thread Cert.CInFKernelIdeal.nD Cert.CInFKernelIdeal.τ).loc Cert.CInFKernelIdeal.main_arg0)
          ∧ r.2.mem ((c.tc : Thread Cert.CInFKernelIdeal.nD Cert.CInFKernelIdeal.τ).loc Cert.CInFKernelIdeal.main_arg1) = m ((c.tc : Thread Cert.CInFKernelIdeal.nD Cert.CInFKernelIdeal.τ).loc Cert.CInFKernelIdeal.main_arg1))
      ∧ θ_run (Cert.CInFReferenceIdeal.defs (F := Ideal)) (onTc (τ := Cert.CInFReferenceIdeal.τ) (Cert.CInFReferenceIdeal.main (F := Ideal))) ⟨m', fun _ => 0, g'⟩ (fun r => ∀ c : Dev Cert.CInFReferenceIdeal.nD,
          r.2.mem ((c.tc : Thread Cert.CInFReferenceIdeal.nD Cert.CInFReferenceIdeal.τ).loc Cert.CInFReferenceIdeal.main_v6) = v0 c
          ∧ r.2.mem ((c.tc : Thread Cert.CInFReferenceIdeal.nD Cert.CInFReferenceIdeal.τ).loc Cert.CInFReferenceIdeal.main_arg0) = m' ((c.tc : Thread Cert.CInFReferenceIdeal.nD Cert.CInFReferenceIdeal.τ).loc Cert.CInFReferenceIdeal.main_arg0)
          ∧ r.2.mem ((c.tc : Thread Cert.CInFReferenceIdeal.nD Cert.CInFReferenceIdeal.τ).loc Cert.CInFReferenceIdeal.main_arg1) = m' ((c.tc : Thread Cert.CInFReferenceIdeal.nD Cert.CInFReferenceIdeal.τ).loc Cert.CInFReferenceIdeal.main_arg1))

def preserves_AbOutFKernel_AbOutFKernelIdeal : Prop :=
  True

def algebraic_AbOutFKernelIdeal_AbOutFReferenceIdeal [hAbOutFKernelIdeal : Cert.AbOutFKernelIdeal.Facts] [hAbOutFReferenceIdeal : Cert.AbOutFReferenceIdeal.Facts] : Prop :=
  ∀ (m : (ℓ : Loc Cert.AbOutFKernelIdeal.nD Cert.AbOutFKernelIdeal.τ Cert.AbOutFKernelIdeal.sig) → Buf (Elt Ideal) ℓ) (g : Dev Cert.AbOutFKernelIdeal.nD → PrngReg)
    (m' : (ℓ : Loc Cert.AbOutFReferenceIdeal.nD Cert.AbOutFReferenceIdeal.τ Cert.AbOutFReferenceIdeal.sig) → Buf (Elt Ideal) ℓ) (g' : Dev Cert.AbOutFReferenceIdeal.nD → PrngReg), Pre_AbOutFKernelIdeal m →
    (∀ c : Dev Cert.AbOutFKernelIdeal.nD,
      m' ((c.tc : Thread Cert.AbOutFReferenceIdeal.nD Cert.AbOutFReferenceIdeal.τ).loc Cert.AbOutFReferenceIdeal.main_arg0) = m ((c.tc : Thread Cert.AbOutFKernelIdeal.nD Cert.AbOutFKernelIdeal.τ).loc Cert.AbOutFKernelIdeal.main_arg0)
      ∧ m' ((c.tc : Thread Cert.AbOutFReferenceIdeal.nD Cert.AbOutFReferenceIdeal.τ).loc Cert.AbOutFReferenceIdeal.main_arg1) = m ((c.tc : Thread Cert.AbOutFKernelIdeal.nD Cert.AbOutFKernelIdeal.τ).loc Cert.AbOutFKernelIdeal.main_arg1)
      ∧ m' ((c.tc : Thread Cert.AbOutFReferenceIdeal.nD Cert.AbOutFReferenceIdeal.τ).loc Cert.AbOutFReferenceIdeal.main_arg2) = m ((c.tc : Thread Cert.AbOutFKernelIdeal.nD Cert.AbOutFKernelIdeal.τ).loc Cert.AbOutFKernelIdeal.main_arg2)
      ∧ m' ((c.tc : Thread Cert.AbOutFReferenceIdeal.nD Cert.AbOutFReferenceIdeal.τ).loc Cert.AbOutFReferenceIdeal.main_arg3) = m ((c.tc : Thread Cert.AbOutFKernelIdeal.nD Cert.AbOutFKernelIdeal.τ).loc Cert.AbOutFKernelIdeal.main_arg3)) →
    ∃ (v0 : (c : Dev Cert.AbOutFKernelIdeal.nD) → Buf (Elt Ideal) ((c.tc : Thread Cert.AbOutFKernelIdeal.nD Cert.AbOutFKernelIdeal.τ).loc Cert.AbOutFKernelIdeal.main_v0_0)) (v1 : (c : Dev Cert.AbOutFKernelIdeal.nD) → Buf (Elt Ideal) ((c.tc : Thread Cert.AbOutFKernelIdeal.nD Cert.AbOutFKernelIdeal.τ).loc Cert.AbOutFKernelIdeal.main_v0_1)),
      θ_run (Cert.AbOutFKernelIdeal.defs (F := Ideal)) (onTc (τ := Cert.AbOutFKernelIdeal.τ) (Cert.AbOutFKernelIdeal.main (F := Ideal))) ⟨m, fun _ => 0, g⟩ (fun r => ∀ c : Dev Cert.AbOutFKernelIdeal.nD,
          r.2.mem ((c.tc : Thread Cert.AbOutFKernelIdeal.nD Cert.AbOutFKernelIdeal.τ).loc Cert.AbOutFKernelIdeal.main_v0_0) = v0 c
          ∧ r.2.mem ((c.tc : Thread Cert.AbOutFKernelIdeal.nD Cert.AbOutFKernelIdeal.τ).loc Cert.AbOutFKernelIdeal.main_v0_1) = v1 c
          ∧ r.2.mem ((c.tc : Thread Cert.AbOutFKernelIdeal.nD Cert.AbOutFKernelIdeal.τ).loc Cert.AbOutFKernelIdeal.main_arg0) = m ((c.tc : Thread Cert.AbOutFKernelIdeal.nD Cert.AbOutFKernelIdeal.τ).loc Cert.AbOutFKernelIdeal.main_arg0)
          ∧ r.2.mem ((c.tc : Thread Cert.AbOutFKernelIdeal.nD Cert.AbOutFKernelIdeal.τ).loc Cert.AbOutFKernelIdeal.main_arg1) = m ((c.tc : Thread Cert.AbOutFKernelIdeal.nD Cert.AbOutFKernelIdeal.τ).loc Cert.AbOutFKernelIdeal.main_arg1)
          ∧ r.2.mem ((c.tc : Thread Cert.AbOutFKernelIdeal.nD Cert.AbOutFKernelIdeal.τ).loc Cert.AbOutFKernelIdeal.main_arg2) = m ((c.tc : Thread Cert.AbOutFKernelIdeal.nD Cert.AbOutFKernelIdeal.τ).loc Cert.AbOutFKernelIdeal.main_arg2)
          ∧ r.2.mem ((c.tc : Thread Cert.AbOutFKernelIdeal.nD Cert.AbOutFKernelIdeal.τ).loc Cert.AbOutFKernelIdeal.main_arg3) = m ((c.tc : Thread Cert.AbOutFKernelIdeal.nD Cert.AbOutFKernelIdeal.τ).loc Cert.AbOutFKernelIdeal.main_arg3))
      ∧ θ_run (Cert.AbOutFReferenceIdeal.defs (F := Ideal)) (onTc (τ := Cert.AbOutFReferenceIdeal.τ) (Cert.AbOutFReferenceIdeal.main (F := Ideal))) ⟨m', fun _ => 0, g'⟩ (fun r => ∀ c : Dev Cert.AbOutFReferenceIdeal.nD,
          r.2.mem ((c.tc : Thread Cert.AbOutFReferenceIdeal.nD Cert.AbOutFReferenceIdeal.τ).loc Cert.AbOutFReferenceIdeal.main_v6) = v0 c
          ∧ r.2.mem ((c.tc : Thread Cert.AbOutFReferenceIdeal.nD Cert.AbOutFReferenceIdeal.τ).loc Cert.AbOutFReferenceIdeal.main_v19) = v1 c
          ∧ r.2.mem ((c.tc : Thread Cert.AbOutFReferenceIdeal.nD Cert.AbOutFReferenceIdeal.τ).loc Cert.AbOutFReferenceIdeal.main_arg0) = m' ((c.tc : Thread Cert.AbOutFReferenceIdeal.nD Cert.AbOutFReferenceIdeal.τ).loc Cert.AbOutFReferenceIdeal.main_arg0)
          ∧ r.2.mem ((c.tc : Thread Cert.AbOutFReferenceIdeal.nD Cert.AbOutFReferenceIdeal.τ).loc Cert.AbOutFReferenceIdeal.main_arg1) = m' ((c.tc : Thread Cert.AbOutFReferenceIdeal.nD Cert.AbOutFReferenceIdeal.τ).loc Cert.AbOutFReferenceIdeal.main_arg1)
          ∧ r.2.mem ((c.tc : Thread Cert.AbOutFReferenceIdeal.nD Cert.AbOutFReferenceIdeal.τ).loc Cert.AbOutFReferenceIdeal.main_arg2) = m' ((c.tc : Thread Cert.AbOutFReferenceIdeal.nD Cert.AbOutFReferenceIdeal.τ).loc Cert.AbOutFReferenceIdeal.main_arg2)
          ∧ r.2.mem ((c.tc : Thread Cert.AbOutFReferenceIdeal.nD Cert.AbOutFReferenceIdeal.τ).loc Cert.AbOutFReferenceIdeal.main_arg3) = m' ((c.tc : Thread Cert.AbOutFReferenceIdeal.nD Cert.AbOutFReferenceIdeal.τ).loc Cert.AbOutFReferenceIdeal.main_arg3))

def preserves_COutFKernel_COutFKernelIdeal : Prop :=
  True

def algebraic_COutFKernelIdeal_COutFReferenceIdeal [hCOutFKernelIdeal : Cert.COutFKernelIdeal.Facts] [hCOutFReferenceIdeal : Cert.COutFReferenceIdeal.Facts] : Prop :=
  ∀ (m : (ℓ : Loc Cert.COutFKernelIdeal.nD Cert.COutFKernelIdeal.τ Cert.COutFKernelIdeal.sig) → Buf (Elt Ideal) ℓ) (g : Dev Cert.COutFKernelIdeal.nD → PrngReg)
    (m' : (ℓ : Loc Cert.COutFReferenceIdeal.nD Cert.COutFReferenceIdeal.τ Cert.COutFReferenceIdeal.sig) → Buf (Elt Ideal) ℓ) (g' : Dev Cert.COutFReferenceIdeal.nD → PrngReg), Pre_COutFKernelIdeal m →
    (∀ c : Dev Cert.COutFKernelIdeal.nD,
      m' ((c.tc : Thread Cert.COutFReferenceIdeal.nD Cert.COutFReferenceIdeal.τ).loc Cert.COutFReferenceIdeal.main_arg0) = m ((c.tc : Thread Cert.COutFKernelIdeal.nD Cert.COutFKernelIdeal.τ).loc Cert.COutFKernelIdeal.main_arg0)
      ∧ m' ((c.tc : Thread Cert.COutFReferenceIdeal.nD Cert.COutFReferenceIdeal.τ).loc Cert.COutFReferenceIdeal.main_arg1) = m ((c.tc : Thread Cert.COutFKernelIdeal.nD Cert.COutFKernelIdeal.τ).loc Cert.COutFKernelIdeal.main_arg1)
      ∧ m' ((c.tc : Thread Cert.COutFReferenceIdeal.nD Cert.COutFReferenceIdeal.τ).loc Cert.COutFReferenceIdeal.main_arg2) = m ((c.tc : Thread Cert.COutFKernelIdeal.nD Cert.COutFKernelIdeal.τ).loc Cert.COutFKernelIdeal.main_arg2)
      ∧ m' ((c.tc : Thread Cert.COutFReferenceIdeal.nD Cert.COutFReferenceIdeal.τ).loc Cert.COutFReferenceIdeal.main_arg3) = m ((c.tc : Thread Cert.COutFKernelIdeal.nD Cert.COutFKernelIdeal.τ).loc Cert.COutFKernelIdeal.main_arg3)) →
    ∃ (v0 : (c : Dev Cert.COutFKernelIdeal.nD) → Buf (Elt Ideal) ((c.tc : Thread Cert.COutFKernelIdeal.nD Cert.COutFKernelIdeal.τ).loc Cert.COutFKernelIdeal.main_v0_0)) (v1 : (c : Dev Cert.COutFKernelIdeal.nD) → Buf (Elt Ideal) ((c.tc : Thread Cert.COutFKernelIdeal.nD Cert.COutFKernelIdeal.τ).loc Cert.COutFKernelIdeal.main_v0_1)),
      θ_run (Cert.COutFKernelIdeal.defs (F := Ideal)) (onTc (τ := Cert.COutFKernelIdeal.τ) (Cert.COutFKernelIdeal.main (F := Ideal))) ⟨m, fun _ => 0, g⟩ (fun r => ∀ c : Dev Cert.COutFKernelIdeal.nD,
          r.2.mem ((c.tc : Thread Cert.COutFKernelIdeal.nD Cert.COutFKernelIdeal.τ).loc Cert.COutFKernelIdeal.main_v0_0) = v0 c
          ∧ r.2.mem ((c.tc : Thread Cert.COutFKernelIdeal.nD Cert.COutFKernelIdeal.τ).loc Cert.COutFKernelIdeal.main_v0_1) = v1 c
          ∧ r.2.mem ((c.tc : Thread Cert.COutFKernelIdeal.nD Cert.COutFKernelIdeal.τ).loc Cert.COutFKernelIdeal.main_arg0) = m ((c.tc : Thread Cert.COutFKernelIdeal.nD Cert.COutFKernelIdeal.τ).loc Cert.COutFKernelIdeal.main_arg0)
          ∧ r.2.mem ((c.tc : Thread Cert.COutFKernelIdeal.nD Cert.COutFKernelIdeal.τ).loc Cert.COutFKernelIdeal.main_arg1) = m ((c.tc : Thread Cert.COutFKernelIdeal.nD Cert.COutFKernelIdeal.τ).loc Cert.COutFKernelIdeal.main_arg1)
          ∧ r.2.mem ((c.tc : Thread Cert.COutFKernelIdeal.nD Cert.COutFKernelIdeal.τ).loc Cert.COutFKernelIdeal.main_arg2) = m ((c.tc : Thread Cert.COutFKernelIdeal.nD Cert.COutFKernelIdeal.τ).loc Cert.COutFKernelIdeal.main_arg2)
          ∧ r.2.mem ((c.tc : Thread Cert.COutFKernelIdeal.nD Cert.COutFKernelIdeal.τ).loc Cert.COutFKernelIdeal.main_arg3) = m ((c.tc : Thread Cert.COutFKernelIdeal.nD Cert.COutFKernelIdeal.τ).loc Cert.COutFKernelIdeal.main_arg3))
      ∧ θ_run (Cert.COutFReferenceIdeal.defs (F := Ideal)) (onTc (τ := Cert.COutFReferenceIdeal.τ) (Cert.COutFReferenceIdeal.main (F := Ideal))) ⟨m', fun _ => 0, g'⟩ (fun r => ∀ c : Dev Cert.COutFReferenceIdeal.nD,
          r.2.mem ((c.tc : Thread Cert.COutFReferenceIdeal.nD Cert.COutFReferenceIdeal.τ).loc Cert.COutFReferenceIdeal.main_v6) = v0 c
          ∧ r.2.mem ((c.tc : Thread Cert.COutFReferenceIdeal.nD Cert.COutFReferenceIdeal.τ).loc Cert.COutFReferenceIdeal.main_v19) = v1 c
          ∧ r.2.mem ((c.tc : Thread Cert.COutFReferenceIdeal.nD Cert.COutFReferenceIdeal.τ).loc Cert.COutFReferenceIdeal.main_arg0) = m' ((c.tc : Thread Cert.COutFReferenceIdeal.nD Cert.COutFReferenceIdeal.τ).loc Cert.COutFReferenceIdeal.main_arg0)
          ∧ r.2.mem ((c.tc : Thread Cert.COutFReferenceIdeal.nD Cert.COutFReferenceIdeal.τ).loc Cert.COutFReferenceIdeal.main_arg1) = m' ((c.tc : Thread Cert.COutFReferenceIdeal.nD Cert.COutFReferenceIdeal.τ).loc Cert.COutFReferenceIdeal.main_arg1)
          ∧ r.2.mem ((c.tc : Thread Cert.COutFReferenceIdeal.nD Cert.COutFReferenceIdeal.τ).loc Cert.COutFReferenceIdeal.main_arg2) = m' ((c.tc : Thread Cert.COutFReferenceIdeal.nD Cert.COutFReferenceIdeal.τ).loc Cert.COutFReferenceIdeal.main_arg2)
          ∧ r.2.mem ((c.tc : Thread Cert.COutFReferenceIdeal.nD Cert.COutFReferenceIdeal.τ).loc Cert.COutFReferenceIdeal.main_arg3) = m' ((c.tc : Thread Cert.COutFReferenceIdeal.nD Cert.COutFReferenceIdeal.τ).loc Cert.COutFReferenceIdeal.main_arg3))

def preserves_DownFKernel_DownFKernelIdeal : Prop :=
  True

def algebraic_DownFKernelIdeal_DownFReferenceIdeal [hDownFKernelIdeal : Cert.DownFKernelIdeal.Facts] [hDownFReferenceIdeal : Cert.DownFReferenceIdeal.Facts] : Prop :=
  ∀ (m : (ℓ : Loc Cert.DownFKernelIdeal.nD Cert.DownFKernelIdeal.τ Cert.DownFKernelIdeal.sig) → Buf (Elt Ideal) ℓ) (g : Dev Cert.DownFKernelIdeal.nD → PrngReg)
    (m' : (ℓ : Loc Cert.DownFReferenceIdeal.nD Cert.DownFReferenceIdeal.τ Cert.DownFReferenceIdeal.sig) → Buf (Elt Ideal) ℓ) (g' : Dev Cert.DownFReferenceIdeal.nD → PrngReg), Pre_DownFKernelIdeal m →
    (∀ c : Dev Cert.DownFKernelIdeal.nD,
      m' ((c.tc : Thread Cert.DownFReferenceIdeal.nD Cert.DownFReferenceIdeal.τ).loc Cert.DownFReferenceIdeal.main_arg0) = m ((c.tc : Thread Cert.DownFKernelIdeal.nD Cert.DownFKernelIdeal.τ).loc Cert.DownFKernelIdeal.main_arg0)
      ∧ m' ((c.tc : Thread Cert.DownFReferenceIdeal.nD Cert.DownFReferenceIdeal.τ).loc Cert.DownFReferenceIdeal.main_arg1) = m ((c.tc : Thread Cert.DownFKernelIdeal.nD Cert.DownFKernelIdeal.τ).loc Cert.DownFKernelIdeal.main_arg1)
      ∧ m' ((c.tc : Thread Cert.DownFReferenceIdeal.nD Cert.DownFReferenceIdeal.τ).loc Cert.DownFReferenceIdeal.main_arg2) = m ((c.tc : Thread Cert.DownFKernelIdeal.nD Cert.DownFKernelIdeal.τ).loc Cert.DownFKernelIdeal.main_arg2)
      ∧ m' ((c.tc : Thread Cert.DownFReferenceIdeal.nD Cert.DownFReferenceIdeal.τ).loc Cert.DownFReferenceIdeal.main_arg3) = m ((c.tc : Thread Cert.DownFKernelIdeal.nD Cert.DownFKernelIdeal.τ).loc Cert.DownFKernelIdeal.main_arg3)) →
    ∃ (v0 : (c : Dev Cert.DownFKernelIdeal.nD) → Buf (Elt Ideal) ((c.tc : Thread Cert.DownFKernelIdeal.nD Cert.DownFKernelIdeal.τ).loc Cert.DownFKernelIdeal.main_v0_0)) (v1 : (c : Dev Cert.DownFKernelIdeal.nD) → Buf (Elt Ideal) ((c.tc : Thread Cert.DownFKernelIdeal.nD Cert.DownFKernelIdeal.τ).loc Cert.DownFKernelIdeal.main_v0_1)),
      θ_run (Cert.DownFKernelIdeal.defs (F := Ideal)) (onTc (τ := Cert.DownFKernelIdeal.τ) (Cert.DownFKernelIdeal.main (F := Ideal))) ⟨m, fun _ => 0, g⟩ (fun r => ∀ c : Dev Cert.DownFKernelIdeal.nD,
          r.2.mem ((c.tc : Thread Cert.DownFKernelIdeal.nD Cert.DownFKernelIdeal.τ).loc Cert.DownFKernelIdeal.main_v0_0) = v0 c
          ∧ r.2.mem ((c.tc : Thread Cert.DownFKernelIdeal.nD Cert.DownFKernelIdeal.τ).loc Cert.DownFKernelIdeal.main_v0_1) = v1 c
          ∧ r.2.mem ((c.tc : Thread Cert.DownFKernelIdeal.nD Cert.DownFKernelIdeal.τ).loc Cert.DownFKernelIdeal.main_arg0) = m ((c.tc : Thread Cert.DownFKernelIdeal.nD Cert.DownFKernelIdeal.τ).loc Cert.DownFKernelIdeal.main_arg0)
          ∧ r.2.mem ((c.tc : Thread Cert.DownFKernelIdeal.nD Cert.DownFKernelIdeal.τ).loc Cert.DownFKernelIdeal.main_arg1) = m ((c.tc : Thread Cert.DownFKernelIdeal.nD Cert.DownFKernelIdeal.τ).loc Cert.DownFKernelIdeal.main_arg1)
          ∧ r.2.mem ((c.tc : Thread Cert.DownFKernelIdeal.nD Cert.DownFKernelIdeal.τ).loc Cert.DownFKernelIdeal.main_arg2) = m ((c.tc : Thread Cert.DownFKernelIdeal.nD Cert.DownFKernelIdeal.τ).loc Cert.DownFKernelIdeal.main_arg2)
          ∧ r.2.mem ((c.tc : Thread Cert.DownFKernelIdeal.nD Cert.DownFKernelIdeal.τ).loc Cert.DownFKernelIdeal.main_arg3) = m ((c.tc : Thread Cert.DownFKernelIdeal.nD Cert.DownFKernelIdeal.τ).loc Cert.DownFKernelIdeal.main_arg3))
      ∧ θ_run (Cert.DownFReferenceIdeal.defs (F := Ideal)) (onTc (τ := Cert.DownFReferenceIdeal.τ) (Cert.DownFReferenceIdeal.main (F := Ideal))) ⟨m', fun _ => 0, g'⟩ (fun r => ∀ c : Dev Cert.DownFReferenceIdeal.nD,
          r.2.mem ((c.tc : Thread Cert.DownFReferenceIdeal.nD Cert.DownFReferenceIdeal.τ).loc Cert.DownFReferenceIdeal.main_v6) = v0 c
          ∧ r.2.mem ((c.tc : Thread Cert.DownFReferenceIdeal.nD Cert.DownFReferenceIdeal.τ).loc Cert.DownFReferenceIdeal.main_v19) = v1 c
          ∧ r.2.mem ((c.tc : Thread Cert.DownFReferenceIdeal.nD Cert.DownFReferenceIdeal.τ).loc Cert.DownFReferenceIdeal.main_arg0) = m' ((c.tc : Thread Cert.DownFReferenceIdeal.nD Cert.DownFReferenceIdeal.τ).loc Cert.DownFReferenceIdeal.main_arg0)
          ∧ r.2.mem ((c.tc : Thread Cert.DownFReferenceIdeal.nD Cert.DownFReferenceIdeal.τ).loc Cert.DownFReferenceIdeal.main_arg1) = m' ((c.tc : Thread Cert.DownFReferenceIdeal.nD Cert.DownFReferenceIdeal.τ).loc Cert.DownFReferenceIdeal.main_arg1)
          ∧ r.2.mem ((c.tc : Thread Cert.DownFReferenceIdeal.nD Cert.DownFReferenceIdeal.τ).loc Cert.DownFReferenceIdeal.main_arg2) = m' ((c.tc : Thread Cert.DownFReferenceIdeal.nD Cert.DownFReferenceIdeal.τ).loc Cert.DownFReferenceIdeal.main_arg2)
          ∧ r.2.mem ((c.tc : Thread Cert.DownFReferenceIdeal.nD Cert.DownFReferenceIdeal.τ).loc Cert.DownFReferenceIdeal.main_arg3) = m' ((c.tc : Thread Cert.DownFReferenceIdeal.nD Cert.DownFReferenceIdeal.τ).loc Cert.DownFReferenceIdeal.main_arg3))

def preserves_AdamAbInKernel_AdamAbInKernelIdeal : Prop :=
  True

def algebraic_AdamAbInKernelIdeal_AdamAbInReferenceIdeal [hAdamAbInKernelIdeal : Cert.AdamAbInKernelIdeal.Facts] [hAdamAbInReferenceIdeal : Cert.AdamAbInReferenceIdeal.Facts] : Prop :=
  ∀ (m : (ℓ : Loc Cert.AdamAbInKernelIdeal.nD Cert.AdamAbInKernelIdeal.τ Cert.AdamAbInKernelIdeal.sig) → Buf (Elt Ideal) ℓ) (g : Dev Cert.AdamAbInKernelIdeal.nD → PrngReg)
    (m' : (ℓ : Loc Cert.AdamAbInReferenceIdeal.nD Cert.AdamAbInReferenceIdeal.τ Cert.AdamAbInReferenceIdeal.sig) → Buf (Elt Ideal) ℓ) (g' : Dev Cert.AdamAbInReferenceIdeal.nD → PrngReg), Pre_AdamAbInKernelIdeal m →
    (∀ c : Dev Cert.AdamAbInKernelIdeal.nD,
      m' ((c.tc : Thread Cert.AdamAbInReferenceIdeal.nD Cert.AdamAbInReferenceIdeal.τ).loc Cert.AdamAbInReferenceIdeal.main_arg0) = m ((c.tc : Thread Cert.AdamAbInKernelIdeal.nD Cert.AdamAbInKernelIdeal.τ).loc Cert.AdamAbInKernelIdeal.main_arg0)
      ∧ m' ((c.tc : Thread Cert.AdamAbInReferenceIdeal.nD Cert.AdamAbInReferenceIdeal.τ).loc Cert.AdamAbInReferenceIdeal.main_arg1) = m ((c.tc : Thread Cert.AdamAbInKernelIdeal.nD Cert.AdamAbInKernelIdeal.τ).loc Cert.AdamAbInKernelIdeal.main_arg1)
      ∧ m' ((c.tc : Thread Cert.AdamAbInReferenceIdeal.nD Cert.AdamAbInReferenceIdeal.τ).loc Cert.AdamAbInReferenceIdeal.main_arg2) = m ((c.tc : Thread Cert.AdamAbInKernelIdeal.nD Cert.AdamAbInKernelIdeal.τ).loc Cert.AdamAbInKernelIdeal.main_arg2)
      ∧ m' ((c.tc : Thread Cert.AdamAbInReferenceIdeal.nD Cert.AdamAbInReferenceIdeal.τ).loc Cert.AdamAbInReferenceIdeal.main_arg3) = m ((c.tc : Thread Cert.AdamAbInKernelIdeal.nD Cert.AdamAbInKernelIdeal.τ).loc Cert.AdamAbInKernelIdeal.main_arg3)) →
    ∃ (v0 : (c : Dev Cert.AdamAbInKernelIdeal.nD) → Buf (Elt Ideal) ((c.tc : Thread Cert.AdamAbInKernelIdeal.nD Cert.AdamAbInKernelIdeal.τ).loc Cert.AdamAbInKernelIdeal.main_v0_0)) (v1 : (c : Dev Cert.AdamAbInKernelIdeal.nD) → Buf (Elt Ideal) ((c.tc : Thread Cert.AdamAbInKernelIdeal.nD Cert.AdamAbInKernelIdeal.τ).loc Cert.AdamAbInKernelIdeal.main_v0_1)) (v2 : (c : Dev Cert.AdamAbInKernelIdeal.nD) → Buf (Elt Ideal) ((c.tc : Thread Cert.AdamAbInKernelIdeal.nD Cert.AdamAbInKernelIdeal.τ).loc Cert.AdamAbInKernelIdeal.main_v0_2)) (v3 : (c : Dev Cert.AdamAbInKernelIdeal.nD) → Buf (Elt Ideal) ((c.tc : Thread Cert.AdamAbInKernelIdeal.nD Cert.AdamAbInKernelIdeal.τ).loc Cert.AdamAbInKernelIdeal.main_v0_3)),
      θ_run (Cert.AdamAbInKernelIdeal.defs (F := Ideal)) (onTc (τ := Cert.AdamAbInKernelIdeal.τ) (Cert.AdamAbInKernelIdeal.main (F := Ideal))) ⟨m, fun _ => 0, g⟩ (fun r => ∀ c : Dev Cert.AdamAbInKernelIdeal.nD,
          r.2.mem ((c.tc : Thread Cert.AdamAbInKernelIdeal.nD Cert.AdamAbInKernelIdeal.τ).loc Cert.AdamAbInKernelIdeal.main_v0_0) = v0 c
          ∧ r.2.mem ((c.tc : Thread Cert.AdamAbInKernelIdeal.nD Cert.AdamAbInKernelIdeal.τ).loc Cert.AdamAbInKernelIdeal.main_v0_1) = v1 c
          ∧ r.2.mem ((c.tc : Thread Cert.AdamAbInKernelIdeal.nD Cert.AdamAbInKernelIdeal.τ).loc Cert.AdamAbInKernelIdeal.main_v0_2) = v2 c
          ∧ r.2.mem ((c.tc : Thread Cert.AdamAbInKernelIdeal.nD Cert.AdamAbInKernelIdeal.τ).loc Cert.AdamAbInKernelIdeal.main_v0_3) = v3 c
          ∧ r.2.mem ((c.tc : Thread Cert.AdamAbInKernelIdeal.nD Cert.AdamAbInKernelIdeal.τ).loc Cert.AdamAbInKernelIdeal.main_arg0) = m ((c.tc : Thread Cert.AdamAbInKernelIdeal.nD Cert.AdamAbInKernelIdeal.τ).loc Cert.AdamAbInKernelIdeal.main_arg0)
          ∧ r.2.mem ((c.tc : Thread Cert.AdamAbInKernelIdeal.nD Cert.AdamAbInKernelIdeal.τ).loc Cert.AdamAbInKernelIdeal.main_arg1) = m ((c.tc : Thread Cert.AdamAbInKernelIdeal.nD Cert.AdamAbInKernelIdeal.τ).loc Cert.AdamAbInKernelIdeal.main_arg1)
          ∧ r.2.mem ((c.tc : Thread Cert.AdamAbInKernelIdeal.nD Cert.AdamAbInKernelIdeal.τ).loc Cert.AdamAbInKernelIdeal.main_arg2) = m ((c.tc : Thread Cert.AdamAbInKernelIdeal.nD Cert.AdamAbInKernelIdeal.τ).loc Cert.AdamAbInKernelIdeal.main_arg2)
          ∧ r.2.mem ((c.tc : Thread Cert.AdamAbInKernelIdeal.nD Cert.AdamAbInKernelIdeal.τ).loc Cert.AdamAbInKernelIdeal.main_arg3) = m ((c.tc : Thread Cert.AdamAbInKernelIdeal.nD Cert.AdamAbInKernelIdeal.τ).loc Cert.AdamAbInKernelIdeal.main_arg3))
      ∧ θ_run (Cert.AdamAbInReferenceIdeal.defs (F := Ideal)) (onTc (τ := Cert.AdamAbInReferenceIdeal.τ) (Cert.AdamAbInReferenceIdeal.main (F := Ideal))) ⟨m', fun _ => 0, g'⟩ (fun r => ∀ c : Dev Cert.AdamAbInReferenceIdeal.nD,
          r.2.mem ((c.tc : Thread Cert.AdamAbInReferenceIdeal.nD Cert.AdamAbInReferenceIdeal.τ).loc Cert.AdamAbInReferenceIdeal.main_arg1) = v0 c
          ∧ r.2.mem ((c.tc : Thread Cert.AdamAbInReferenceIdeal.nD Cert.AdamAbInReferenceIdeal.τ).loc Cert.AdamAbInReferenceIdeal.main_v23) = v1 c
          ∧ r.2.mem ((c.tc : Thread Cert.AdamAbInReferenceIdeal.nD Cert.AdamAbInReferenceIdeal.τ).loc Cert.AdamAbInReferenceIdeal.main_v4) = v2 c
          ∧ r.2.mem ((c.tc : Thread Cert.AdamAbInReferenceIdeal.nD Cert.AdamAbInReferenceIdeal.τ).loc Cert.AdamAbInReferenceIdeal.main_v10) = v3 c
          ∧ r.2.mem ((c.tc : Thread Cert.AdamAbInReferenceIdeal.nD Cert.AdamAbInReferenceIdeal.τ).loc Cert.AdamAbInReferenceIdeal.main_arg0) = m' ((c.tc : Thread Cert.AdamAbInReferenceIdeal.nD Cert.AdamAbInReferenceIdeal.τ).loc Cert.AdamAbInReferenceIdeal.main_arg0)
          ∧ r.2.mem ((c.tc : Thread Cert.AdamAbInReferenceIdeal.nD Cert.AdamAbInReferenceIdeal.τ).loc Cert.AdamAbInReferenceIdeal.main_arg1) = m' ((c.tc : Thread Cert.AdamAbInReferenceIdeal.nD Cert.AdamAbInReferenceIdeal.τ).loc Cert.AdamAbInReferenceIdeal.main_arg1)
          ∧ r.2.mem ((c.tc : Thread Cert.AdamAbInReferenceIdeal.nD Cert.AdamAbInReferenceIdeal.τ).loc Cert.AdamAbInReferenceIdeal.main_arg2) = m' ((c.tc : Thread Cert.AdamAbInReferenceIdeal.nD Cert.AdamAbInReferenceIdeal.τ).loc Cert.AdamAbInReferenceIdeal.main_arg2)
          ∧ r.2.mem ((c.tc : Thread Cert.AdamAbInReferenceIdeal.nD Cert.AdamAbInReferenceIdeal.τ).loc Cert.AdamAbInReferenceIdeal.main_arg3) = m' ((c.tc : Thread Cert.AdamAbInReferenceIdeal.nD Cert.AdamAbInReferenceIdeal.τ).loc Cert.AdamAbInReferenceIdeal.main_arg3))

def preserves_AdamAbOutKernel_AdamAbOutKernelIdeal : Prop :=
  True

def algebraic_AdamAbOutKernelIdeal_AdamAbOutReferenceIdeal [hAdamAbOutKernelIdeal : Cert.AdamAbOutKernelIdeal.Facts] [hAdamAbOutReferenceIdeal : Cert.AdamAbOutReferenceIdeal.Facts] : Prop :=
  ∀ (m : (ℓ : Loc Cert.AdamAbOutKernelIdeal.nD Cert.AdamAbOutKernelIdeal.τ Cert.AdamAbOutKernelIdeal.sig) → Buf (Elt Ideal) ℓ) (g : Dev Cert.AdamAbOutKernelIdeal.nD → PrngReg)
    (m' : (ℓ : Loc Cert.AdamAbOutReferenceIdeal.nD Cert.AdamAbOutReferenceIdeal.τ Cert.AdamAbOutReferenceIdeal.sig) → Buf (Elt Ideal) ℓ) (g' : Dev Cert.AdamAbOutReferenceIdeal.nD → PrngReg), Pre_AdamAbOutKernelIdeal m →
    (∀ c : Dev Cert.AdamAbOutKernelIdeal.nD,
      m' ((c.tc : Thread Cert.AdamAbOutReferenceIdeal.nD Cert.AdamAbOutReferenceIdeal.τ).loc Cert.AdamAbOutReferenceIdeal.main_arg0) = m ((c.tc : Thread Cert.AdamAbOutKernelIdeal.nD Cert.AdamAbOutKernelIdeal.τ).loc Cert.AdamAbOutKernelIdeal.main_arg0)
      ∧ m' ((c.tc : Thread Cert.AdamAbOutReferenceIdeal.nD Cert.AdamAbOutReferenceIdeal.τ).loc Cert.AdamAbOutReferenceIdeal.main_arg1) = m ((c.tc : Thread Cert.AdamAbOutKernelIdeal.nD Cert.AdamAbOutKernelIdeal.τ).loc Cert.AdamAbOutKernelIdeal.main_arg1)
      ∧ m' ((c.tc : Thread Cert.AdamAbOutReferenceIdeal.nD Cert.AdamAbOutReferenceIdeal.τ).loc Cert.AdamAbOutReferenceIdeal.main_arg2) = m ((c.tc : Thread Cert.AdamAbOutKernelIdeal.nD Cert.AdamAbOutKernelIdeal.τ).loc Cert.AdamAbOutKernelIdeal.main_arg2)
      ∧ m' ((c.tc : Thread Cert.AdamAbOutReferenceIdeal.nD Cert.AdamAbOutReferenceIdeal.τ).loc Cert.AdamAbOutReferenceIdeal.main_arg3) = m ((c.tc : Thread Cert.AdamAbOutKernelIdeal.nD Cert.AdamAbOutKernelIdeal.τ).loc Cert.AdamAbOutKernelIdeal.main_arg3)) →
    ∃ (v0 : (c : Dev Cert.AdamAbOutKernelIdeal.nD) → Buf (Elt Ideal) ((c.tc : Thread Cert.AdamAbOutKernelIdeal.nD Cert.AdamAbOutKernelIdeal.τ).loc Cert.AdamAbOutKernelIdeal.main_v0_0)) (v1 : (c : Dev Cert.AdamAbOutKernelIdeal.nD) → Buf (Elt Ideal) ((c.tc : Thread Cert.AdamAbOutKernelIdeal.nD Cert.AdamAbOutKernelIdeal.τ).loc Cert.AdamAbOutKernelIdeal.main_v0_1)) (v2 : (c : Dev Cert.AdamAbOutKernelIdeal.nD) → Buf (Elt Ideal) ((c.tc : Thread Cert.AdamAbOutKernelIdeal.nD Cert.AdamAbOutKernelIdeal.τ).loc Cert.AdamAbOutKernelIdeal.main_v0_2)) (v3 : (c : Dev Cert.AdamAbOutKernelIdeal.nD) → Buf (Elt Ideal) ((c.tc : Thread Cert.AdamAbOutKernelIdeal.nD Cert.AdamAbOutKernelIdeal.τ).loc Cert.AdamAbOutKernelIdeal.main_v0_3)),
      θ_run (Cert.AdamAbOutKernelIdeal.defs (F := Ideal)) (onTc (τ := Cert.AdamAbOutKernelIdeal.τ) (Cert.AdamAbOutKernelIdeal.main (F := Ideal))) ⟨m, fun _ => 0, g⟩ (fun r => ∀ c : Dev Cert.AdamAbOutKernelIdeal.nD,
          r.2.mem ((c.tc : Thread Cert.AdamAbOutKernelIdeal.nD Cert.AdamAbOutKernelIdeal.τ).loc Cert.AdamAbOutKernelIdeal.main_v0_0) = v0 c
          ∧ r.2.mem ((c.tc : Thread Cert.AdamAbOutKernelIdeal.nD Cert.AdamAbOutKernelIdeal.τ).loc Cert.AdamAbOutKernelIdeal.main_v0_1) = v1 c
          ∧ r.2.mem ((c.tc : Thread Cert.AdamAbOutKernelIdeal.nD Cert.AdamAbOutKernelIdeal.τ).loc Cert.AdamAbOutKernelIdeal.main_v0_2) = v2 c
          ∧ r.2.mem ((c.tc : Thread Cert.AdamAbOutKernelIdeal.nD Cert.AdamAbOutKernelIdeal.τ).loc Cert.AdamAbOutKernelIdeal.main_v0_3) = v3 c
          ∧ r.2.mem ((c.tc : Thread Cert.AdamAbOutKernelIdeal.nD Cert.AdamAbOutKernelIdeal.τ).loc Cert.AdamAbOutKernelIdeal.main_arg0) = m ((c.tc : Thread Cert.AdamAbOutKernelIdeal.nD Cert.AdamAbOutKernelIdeal.τ).loc Cert.AdamAbOutKernelIdeal.main_arg0)
          ∧ r.2.mem ((c.tc : Thread Cert.AdamAbOutKernelIdeal.nD Cert.AdamAbOutKernelIdeal.τ).loc Cert.AdamAbOutKernelIdeal.main_arg1) = m ((c.tc : Thread Cert.AdamAbOutKernelIdeal.nD Cert.AdamAbOutKernelIdeal.τ).loc Cert.AdamAbOutKernelIdeal.main_arg1)
          ∧ r.2.mem ((c.tc : Thread Cert.AdamAbOutKernelIdeal.nD Cert.AdamAbOutKernelIdeal.τ).loc Cert.AdamAbOutKernelIdeal.main_arg2) = m ((c.tc : Thread Cert.AdamAbOutKernelIdeal.nD Cert.AdamAbOutKernelIdeal.τ).loc Cert.AdamAbOutKernelIdeal.main_arg2)
          ∧ r.2.mem ((c.tc : Thread Cert.AdamAbOutKernelIdeal.nD Cert.AdamAbOutKernelIdeal.τ).loc Cert.AdamAbOutKernelIdeal.main_arg3) = m ((c.tc : Thread Cert.AdamAbOutKernelIdeal.nD Cert.AdamAbOutKernelIdeal.τ).loc Cert.AdamAbOutKernelIdeal.main_arg3))
      ∧ θ_run (Cert.AdamAbOutReferenceIdeal.defs (F := Ideal)) (onTc (τ := Cert.AdamAbOutReferenceIdeal.τ) (Cert.AdamAbOutReferenceIdeal.main (F := Ideal))) ⟨m', fun _ => 0, g'⟩ (fun r => ∀ c : Dev Cert.AdamAbOutReferenceIdeal.nD,
          r.2.mem ((c.tc : Thread Cert.AdamAbOutReferenceIdeal.nD Cert.AdamAbOutReferenceIdeal.τ).loc Cert.AdamAbOutReferenceIdeal.main_arg1) = v0 c
          ∧ r.2.mem ((c.tc : Thread Cert.AdamAbOutReferenceIdeal.nD Cert.AdamAbOutReferenceIdeal.τ).loc Cert.AdamAbOutReferenceIdeal.main_v23) = v1 c
          ∧ r.2.mem ((c.tc : Thread Cert.AdamAbOutReferenceIdeal.nD Cert.AdamAbOutReferenceIdeal.τ).loc Cert.AdamAbOutReferenceIdeal.main_v4) = v2 c
          ∧ r.2.mem ((c.tc : Thread Cert.AdamAbOutReferenceIdeal.nD Cert.AdamAbOutReferenceIdeal.τ).loc Cert.AdamAbOutReferenceIdeal.main_v10) = v3 c
          ∧ r.2.mem ((c.tc : Thread Cert.AdamAbOutReferenceIdeal.nD Cert.AdamAbOutReferenceIdeal.τ).loc Cert.AdamAbOutReferenceIdeal.main_arg0) = m' ((c.tc : Thread Cert.AdamAbOutReferenceIdeal.nD Cert.AdamAbOutReferenceIdeal.τ).loc Cert.AdamAbOutReferenceIdeal.main_arg0)
          ∧ r.2.mem ((c.tc : Thread Cert.AdamAbOutReferenceIdeal.nD Cert.AdamAbOutReferenceIdeal.τ).loc Cert.AdamAbOutReferenceIdeal.main_arg1) = m' ((c.tc : Thread Cert.AdamAbOutReferenceIdeal.nD Cert.AdamAbOutReferenceIdeal.τ).loc Cert.AdamAbOutReferenceIdeal.main_arg1)
          ∧ r.2.mem ((c.tc : Thread Cert.AdamAbOutReferenceIdeal.nD Cert.AdamAbOutReferenceIdeal.τ).loc Cert.AdamAbOutReferenceIdeal.main_arg2) = m' ((c.tc : Thread Cert.AdamAbOutReferenceIdeal.nD Cert.AdamAbOutReferenceIdeal.τ).loc Cert.AdamAbOutReferenceIdeal.main_arg2)
          ∧ r.2.mem ((c.tc : Thread Cert.AdamAbOutReferenceIdeal.nD Cert.AdamAbOutReferenceIdeal.τ).loc Cert.AdamAbOutReferenceIdeal.main_arg3) = m' ((c.tc : Thread Cert.AdamAbOutReferenceIdeal.nD Cert.AdamAbOutReferenceIdeal.τ).loc Cert.AdamAbOutReferenceIdeal.main_arg3))

def preserves_AdamCInKernel_AdamCInKernelIdeal : Prop :=
  True

def algebraic_AdamCInKernelIdeal_AdamCInReferenceIdeal [hAdamCInKernelIdeal : Cert.AdamCInKernelIdeal.Facts] [hAdamCInReferenceIdeal : Cert.AdamCInReferenceIdeal.Facts] : Prop :=
  ∀ (m : (ℓ : Loc Cert.AdamCInKernelIdeal.nD Cert.AdamCInKernelIdeal.τ Cert.AdamCInKernelIdeal.sig) → Buf (Elt Ideal) ℓ) (g : Dev Cert.AdamCInKernelIdeal.nD → PrngReg)
    (m' : (ℓ : Loc Cert.AdamCInReferenceIdeal.nD Cert.AdamCInReferenceIdeal.τ Cert.AdamCInReferenceIdeal.sig) → Buf (Elt Ideal) ℓ) (g' : Dev Cert.AdamCInReferenceIdeal.nD → PrngReg), Pre_AdamCInKernelIdeal m →
    (∀ c : Dev Cert.AdamCInKernelIdeal.nD,
      m' ((c.tc : Thread Cert.AdamCInReferenceIdeal.nD Cert.AdamCInReferenceIdeal.τ).loc Cert.AdamCInReferenceIdeal.main_arg0) = m ((c.tc : Thread Cert.AdamCInKernelIdeal.nD Cert.AdamCInKernelIdeal.τ).loc Cert.AdamCInKernelIdeal.main_arg0)
      ∧ m' ((c.tc : Thread Cert.AdamCInReferenceIdeal.nD Cert.AdamCInReferenceIdeal.τ).loc Cert.AdamCInReferenceIdeal.main_arg1) = m ((c.tc : Thread Cert.AdamCInKernelIdeal.nD Cert.AdamCInKernelIdeal.τ).loc Cert.AdamCInKernelIdeal.main_arg1)
      ∧ m' ((c.tc : Thread Cert.AdamCInReferenceIdeal.nD Cert.AdamCInReferenceIdeal.τ).loc Cert.AdamCInReferenceIdeal.main_arg2) = m ((c.tc : Thread Cert.AdamCInKernelIdeal.nD Cert.AdamCInKernelIdeal.τ).loc Cert.AdamCInKernelIdeal.main_arg2)
      ∧ m' ((c.tc : Thread Cert.AdamCInReferenceIdeal.nD Cert.AdamCInReferenceIdeal.τ).loc Cert.AdamCInReferenceIdeal.main_arg3) = m ((c.tc : Thread Cert.AdamCInKernelIdeal.nD Cert.AdamCInKernelIdeal.τ).loc Cert.AdamCInKernelIdeal.main_arg3)) →
    ∃ (v0 : (c : Dev Cert.AdamCInKernelIdeal.nD) → Buf (Elt Ideal) ((c.tc : Thread Cert.AdamCInKernelIdeal.nD Cert.AdamCInKernelIdeal.τ).loc Cert.AdamCInKernelIdeal.main_v0_0)) (v1 : (c : Dev Cert.AdamCInKernelIdeal.nD) → Buf (Elt Ideal) ((c.tc : Thread Cert.AdamCInKernelIdeal.nD Cert.AdamCInKernelIdeal.τ).loc Cert.AdamCInKernelIdeal.main_v0_1)) (v2 : (c : Dev Cert.AdamCInKernelIdeal.nD) → Buf (Elt Ideal) ((c.tc : Thread Cert.AdamCInKernelIdeal.nD Cert.AdamCInKernelIdeal.τ).loc Cert.AdamCInKernelIdeal.main_v0_2)) (v3 : (c : Dev Cert.AdamCInKernelIdeal.nD) → Buf (Elt Ideal) ((c.tc : Thread Cert.AdamCInKernelIdeal.nD Cert.AdamCInKernelIdeal.τ).loc Cert.AdamCInKernelIdeal.main_v0_3)),
      θ_run (Cert.AdamCInKernelIdeal.defs (F := Ideal)) (onTc (τ := Cert.AdamCInKernelIdeal.τ) (Cert.AdamCInKernelIdeal.main (F := Ideal))) ⟨m, fun _ => 0, g⟩ (fun r => ∀ c : Dev Cert.AdamCInKernelIdeal.nD,
          r.2.mem ((c.tc : Thread Cert.AdamCInKernelIdeal.nD Cert.AdamCInKernelIdeal.τ).loc Cert.AdamCInKernelIdeal.main_v0_0) = v0 c
          ∧ r.2.mem ((c.tc : Thread Cert.AdamCInKernelIdeal.nD Cert.AdamCInKernelIdeal.τ).loc Cert.AdamCInKernelIdeal.main_v0_1) = v1 c
          ∧ r.2.mem ((c.tc : Thread Cert.AdamCInKernelIdeal.nD Cert.AdamCInKernelIdeal.τ).loc Cert.AdamCInKernelIdeal.main_v0_2) = v2 c
          ∧ r.2.mem ((c.tc : Thread Cert.AdamCInKernelIdeal.nD Cert.AdamCInKernelIdeal.τ).loc Cert.AdamCInKernelIdeal.main_v0_3) = v3 c
          ∧ r.2.mem ((c.tc : Thread Cert.AdamCInKernelIdeal.nD Cert.AdamCInKernelIdeal.τ).loc Cert.AdamCInKernelIdeal.main_arg0) = m ((c.tc : Thread Cert.AdamCInKernelIdeal.nD Cert.AdamCInKernelIdeal.τ).loc Cert.AdamCInKernelIdeal.main_arg0)
          ∧ r.2.mem ((c.tc : Thread Cert.AdamCInKernelIdeal.nD Cert.AdamCInKernelIdeal.τ).loc Cert.AdamCInKernelIdeal.main_arg1) = m ((c.tc : Thread Cert.AdamCInKernelIdeal.nD Cert.AdamCInKernelIdeal.τ).loc Cert.AdamCInKernelIdeal.main_arg1)
          ∧ r.2.mem ((c.tc : Thread Cert.AdamCInKernelIdeal.nD Cert.AdamCInKernelIdeal.τ).loc Cert.AdamCInKernelIdeal.main_arg2) = m ((c.tc : Thread Cert.AdamCInKernelIdeal.nD Cert.AdamCInKernelIdeal.τ).loc Cert.AdamCInKernelIdeal.main_arg2)
          ∧ r.2.mem ((c.tc : Thread Cert.AdamCInKernelIdeal.nD Cert.AdamCInKernelIdeal.τ).loc Cert.AdamCInKernelIdeal.main_arg3) = m ((c.tc : Thread Cert.AdamCInKernelIdeal.nD Cert.AdamCInKernelIdeal.τ).loc Cert.AdamCInKernelIdeal.main_arg3))
      ∧ θ_run (Cert.AdamCInReferenceIdeal.defs (F := Ideal)) (onTc (τ := Cert.AdamCInReferenceIdeal.τ) (Cert.AdamCInReferenceIdeal.main (F := Ideal))) ⟨m', fun _ => 0, g'⟩ (fun r => ∀ c : Dev Cert.AdamCInReferenceIdeal.nD,
          r.2.mem ((c.tc : Thread Cert.AdamCInReferenceIdeal.nD Cert.AdamCInReferenceIdeal.τ).loc Cert.AdamCInReferenceIdeal.main_arg1) = v0 c
          ∧ r.2.mem ((c.tc : Thread Cert.AdamCInReferenceIdeal.nD Cert.AdamCInReferenceIdeal.τ).loc Cert.AdamCInReferenceIdeal.main_v23) = v1 c
          ∧ r.2.mem ((c.tc : Thread Cert.AdamCInReferenceIdeal.nD Cert.AdamCInReferenceIdeal.τ).loc Cert.AdamCInReferenceIdeal.main_v4) = v2 c
          ∧ r.2.mem ((c.tc : Thread Cert.AdamCInReferenceIdeal.nD Cert.AdamCInReferenceIdeal.τ).loc Cert.AdamCInReferenceIdeal.main_v10) = v3 c
          ∧ r.2.mem ((c.tc : Thread Cert.AdamCInReferenceIdeal.nD Cert.AdamCInReferenceIdeal.τ).loc Cert.AdamCInReferenceIdeal.main_arg0) = m' ((c.tc : Thread Cert.AdamCInReferenceIdeal.nD Cert.AdamCInReferenceIdeal.τ).loc Cert.AdamCInReferenceIdeal.main_arg0)
          ∧ r.2.mem ((c.tc : Thread Cert.AdamCInReferenceIdeal.nD Cert.AdamCInReferenceIdeal.τ).loc Cert.AdamCInReferenceIdeal.main_arg1) = m' ((c.tc : Thread Cert.AdamCInReferenceIdeal.nD Cert.AdamCInReferenceIdeal.τ).loc Cert.AdamCInReferenceIdeal.main_arg1)
          ∧ r.2.mem ((c.tc : Thread Cert.AdamCInReferenceIdeal.nD Cert.AdamCInReferenceIdeal.τ).loc Cert.AdamCInReferenceIdeal.main_arg2) = m' ((c.tc : Thread Cert.AdamCInReferenceIdeal.nD Cert.AdamCInReferenceIdeal.τ).loc Cert.AdamCInReferenceIdeal.main_arg2)
          ∧ r.2.mem ((c.tc : Thread Cert.AdamCInReferenceIdeal.nD Cert.AdamCInReferenceIdeal.τ).loc Cert.AdamCInReferenceIdeal.main_arg3) = m' ((c.tc : Thread Cert.AdamCInReferenceIdeal.nD Cert.AdamCInReferenceIdeal.τ).loc Cert.AdamCInReferenceIdeal.main_arg3))

def preserves_AdamUpKernel_AdamUpKernelIdeal : Prop :=
  True

def algebraic_AdamUpKernelIdeal_AdamUpReferenceIdeal [hAdamUpKernelIdeal : Cert.AdamUpKernelIdeal.Facts] [hAdamUpReferenceIdeal : Cert.AdamUpReferenceIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpKernelIdeal m →
    (∀ c : Dev Cert.AdamUpKernelIdeal.nD,
      m' ((c.tc : Thread Cert.AdamUpReferenceIdeal.nD Cert.AdamUpReferenceIdeal.τ).loc Cert.AdamUpReferenceIdeal.main_arg0) = m ((c.tc : Thread Cert.AdamUpKernelIdeal.nD Cert.AdamUpKernelIdeal.τ).loc Cert.AdamUpKernelIdeal.main_arg0)
      ∧ m' ((c.tc : Thread Cert.AdamUpReferenceIdeal.nD Cert.AdamUpReferenceIdeal.τ).loc Cert.AdamUpReferenceIdeal.main_arg1) = m ((c.tc : Thread Cert.AdamUpKernelIdeal.nD Cert.AdamUpKernelIdeal.τ).loc Cert.AdamUpKernelIdeal.main_arg1)
      ∧ m' ((c.tc : Thread Cert.AdamUpReferenceIdeal.nD Cert.AdamUpReferenceIdeal.τ).loc Cert.AdamUpReferenceIdeal.main_arg2) = m ((c.tc : Thread Cert.AdamUpKernelIdeal.nD Cert.AdamUpKernelIdeal.τ).loc Cert.AdamUpKernelIdeal.main_arg2)
      ∧ m' ((c.tc : Thread Cert.AdamUpReferenceIdeal.nD Cert.AdamUpReferenceIdeal.τ).loc Cert.AdamUpReferenceIdeal.main_arg3) = m ((c.tc : Thread Cert.AdamUpKernelIdeal.nD Cert.AdamUpKernelIdeal.τ).loc Cert.AdamUpKernelIdeal.main_arg3)) →
    ∃ (v0 : (c : Dev Cert.AdamUpKernelIdeal.nD) → Buf (Elt Ideal) ((c.tc : Thread Cert.AdamUpKernelIdeal.nD Cert.AdamUpKernelIdeal.τ).loc Cert.AdamUpKernelIdeal.main_v0_0)) (v1 : (c : Dev Cert.AdamUpKernelIdeal.nD) → Buf (Elt Ideal) ((c.tc : Thread Cert.AdamUpKernelIdeal.nD Cert.AdamUpKernelIdeal.τ).loc Cert.AdamUpKernelIdeal.main_v0_1)) (v2 : (c : Dev Cert.AdamUpKernelIdeal.nD) → Buf (Elt Ideal) ((c.tc : Thread Cert.AdamUpKernelIdeal.nD Cert.AdamUpKernelIdeal.τ).loc Cert.AdamUpKernelIdeal.main_v0_2)) (v3 : (c : Dev Cert.AdamUpKernelIdeal.nD) → Buf (Elt Ideal) ((c.tc : Thread Cert.AdamUpKernelIdeal.nD Cert.AdamUpKernelIdeal.τ).loc Cert.AdamUpKernelIdeal.main_v0_3)),
      θ_run (Cert.AdamUpKernelIdeal.defs (F := Ideal)) (onTc (τ := Cert.AdamUpKernelIdeal.τ) (Cert.AdamUpKernelIdeal.main (F := Ideal))) ⟨m, fun _ => 0, g⟩ (fun r => ∀ c : Dev Cert.AdamUpKernelIdeal.nD,
          r.2.mem ((c.tc : Thread Cert.AdamUpKernelIdeal.nD Cert.AdamUpKernelIdeal.τ).loc Cert.AdamUpKernelIdeal.main_v0_0) = v0 c
          ∧ r.2.mem ((c.tc : Thread Cert.AdamUpKernelIdeal.nD Cert.AdamUpKernelIdeal.τ).loc Cert.AdamUpKernelIdeal.main_v0_1) = v1 c
          ∧ r.2.mem ((c.tc : Thread Cert.AdamUpKernelIdeal.nD Cert.AdamUpKernelIdeal.τ).loc Cert.AdamUpKernelIdeal.main_v0_2) = v2 c
          ∧ r.2.mem ((c.tc : Thread Cert.AdamUpKernelIdeal.nD Cert.AdamUpKernelIdeal.τ).loc Cert.AdamUpKernelIdeal.main_v0_3) = v3 c
          ∧ r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
          ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
          ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
          ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_arg1) = v0 c
          ∧ r.2.mem ((c.tc : Thread Cert.AdamUpReferenceIdeal.nD Cert.AdamUpReferenceIdeal.τ).loc Cert.AdamUpReferenceIdeal.main_v23) = v1 c
          ∧ r.2.mem ((c.tc : Thread Cert.AdamUpReferenceIdeal.nD Cert.AdamUpReferenceIdeal.τ).loc Cert.AdamUpReferenceIdeal.main_v4) = v2 c
          ∧ r.2.mem ((c.tc : Thread Cert.AdamUpReferenceIdeal.nD Cert.AdamUpReferenceIdeal.τ).loc Cert.AdamUpReferenceIdeal.main_v10) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDownKernel_AdamDownKernelIdeal : Prop :=
  True

def algebraic_AdamDownKernelIdeal_AdamDownReferenceIdeal [hAdamDownKernelIdeal : Cert.AdamDownKernelIdeal.Facts] [hAdamDownReferenceIdeal : Cert.AdamDownReferenceIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownKernelIdeal m →
    (∀ c : Dev Cert.AdamDownKernelIdeal.nD,
      m' ((c.tc : Thread Cert.AdamDownReferenceIdeal.nD Cert.AdamDownReferenceIdeal.τ).loc Cert.AdamDownReferenceIdeal.main_arg0) = m ((c.tc : Thread Cert.AdamDownKernelIdeal.nD Cert.AdamDownKernelIdeal.τ).loc Cert.AdamDownKernelIdeal.main_arg0)
      ∧ m' ((c.tc : Thread Cert.AdamDownReferenceIdeal.nD Cert.AdamDownReferenceIdeal.τ).loc Cert.AdamDownReferenceIdeal.main_arg1) = m ((c.tc : Thread Cert.AdamDownKernelIdeal.nD Cert.AdamDownKernelIdeal.τ).loc Cert.AdamDownKernelIdeal.main_arg1)
      ∧ m' ((c.tc : Thread Cert.AdamDownReferenceIdeal.nD Cert.AdamDownReferenceIdeal.τ).loc Cert.AdamDownReferenceIdeal.main_arg2) = m ((c.tc : Thread Cert.AdamDownKernelIdeal.nD Cert.AdamDownKernelIdeal.τ).loc Cert.AdamDownKernelIdeal.main_arg2)
      ∧ m' ((c.tc : Thread Cert.AdamDownReferenceIdeal.nD Cert.AdamDownReferenceIdeal.τ).loc Cert.AdamDownReferenceIdeal.main_arg3) = m ((c.tc : Thread Cert.AdamDownKernelIdeal.nD Cert.AdamDownKernelIdeal.τ).loc Cert.AdamDownKernelIdeal.main_arg3)) →
    ∃ (v0 : (c : Dev Cert.AdamDownKernelIdeal.nD) → Buf (Elt Ideal) ((c.tc : Thread Cert.AdamDownKernelIdeal.nD Cert.AdamDownKernelIdeal.τ).loc Cert.AdamDownKernelIdeal.main_v0_0)) (v1 : (c : Dev Cert.AdamDownKernelIdeal.nD) → Buf (Elt Ideal) ((c.tc : Thread Cert.AdamDownKernelIdeal.nD Cert.AdamDownKernelIdeal.τ).loc Cert.AdamDownKernelIdeal.main_v0_1)) (v2 : (c : Dev Cert.AdamDownKernelIdeal.nD) → Buf (Elt Ideal) ((c.tc : Thread Cert.AdamDownKernelIdeal.nD Cert.AdamDownKernelIdeal.τ).loc Cert.AdamDownKernelIdeal.main_v0_2)) (v3 : (c : Dev Cert.AdamDownKernelIdeal.nD) → Buf (Elt Ideal) ((c.tc : Thread Cert.AdamDownKernelIdeal.nD Cert.AdamDownKernelIdeal.τ).loc Cert.AdamDownKernelIdeal.main_v0_3)),
      θ_run (Cert.AdamDownKernelIdeal.defs (F := Ideal)) (onTc (τ := Cert.AdamDownKernelIdeal.τ) (Cert.AdamDownKernelIdeal.main (F := Ideal))) ⟨m, fun _ => 0, g⟩ (fun r => ∀ c : Dev Cert.AdamDownKernelIdeal.nD,
          r.2.mem ((c.tc : Thread Cert.AdamDownKernelIdeal.nD Cert.AdamDownKernelIdeal.τ).loc Cert.AdamDownKernelIdeal.main_v0_0) = v0 c
          ∧ r.2.mem ((c.tc : Thread Cert.AdamDownKernelIdeal.nD Cert.AdamDownKernelIdeal.τ).loc Cert.AdamDownKernelIdeal.main_v0_1) = v1 c
          ∧ r.2.mem ((c.tc : Thread Cert.AdamDownKernelIdeal.nD Cert.AdamDownKernelIdeal.τ).loc Cert.AdamDownKernelIdeal.main_v0_2) = v2 c
          ∧ r.2.mem ((c.tc : Thread Cert.AdamDownKernelIdeal.nD Cert.AdamDownKernelIdeal.τ).loc Cert.AdamDownKernelIdeal.main_v0_3) = v3 c
          ∧ r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
          ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
          ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
          ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_arg1) = v0 c
          ∧ r.2.mem ((c.tc : Thread Cert.AdamDownReferenceIdeal.nD Cert.AdamDownReferenceIdeal.τ).loc Cert.AdamDownReferenceIdeal.main_v23) = v1 c
          ∧ r.2.mem ((c.tc : Thread Cert.AdamDownReferenceIdeal.nD Cert.AdamDownReferenceIdeal.τ).loc Cert.AdamDownReferenceIdeal.main_v4) = v2 c
          ∧ r.2.mem ((c.tc : Thread Cert.AdamDownReferenceIdeal.nD Cert.AdamDownReferenceIdeal.τ).loc Cert.AdamDownReferenceIdeal.main_v10) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_MixFKernel_MixFKernelIdeal : Prop :=
  True

def algebraic_MixFKernelIdeal_MixFReferenceIdeal [hMixFKernelIdeal : Cert.MixFKernelIdeal.Facts] [hMixFReferenceIdeal : Cert.MixFReferenceIdeal.Facts] : Prop :=
  ∀ (m : (ℓ : Loc Cert.MixFKernelIdeal.nD Cert.MixFKernelIdeal.τ Cert.MixFKernelIdeal.sig) → Buf (Elt Ideal) ℓ) (g : Dev Cert.MixFKernelIdeal.nD → PrngReg)
    (m' : (ℓ : Loc Cert.MixFReferenceIdeal.nD Cert.MixFReferenceIdeal.τ Cert.MixFReferenceIdeal.sig) → Buf (Elt Ideal) ℓ) (g' : Dev Cert.MixFReferenceIdeal.nD → PrngReg), Pre_MixFKernelIdeal m →
    (∀ c : Dev Cert.MixFKernelIdeal.nD,
      m' ((c.tc : Thread Cert.MixFReferenceIdeal.nD Cert.MixFReferenceIdeal.τ).loc Cert.MixFReferenceIdeal.main_arg0) = m ((c.tc : Thread Cert.MixFKernelIdeal.nD Cert.MixFKernelIdeal.τ).loc Cert.MixFKernelIdeal.main_arg0)
      ∧ m' ((c.tc : Thread Cert.MixFReferenceIdeal.nD Cert.MixFReferenceIdeal.τ).loc Cert.MixFReferenceIdeal.main_arg1) = m ((c.tc : Thread Cert.MixFKernelIdeal.nD Cert.MixFKernelIdeal.τ).loc Cert.MixFKernelIdeal.main_arg1)) →
    ∃ (v0 : (c : Dev Cert.MixFKernelIdeal.nD) → Buf (Elt Ideal) ((c.tc : Thread Cert.MixFKernelIdeal.nD Cert.MixFKernelIdeal.τ).loc Cert.MixFKernelIdeal.main_v0)),
      θ_run (Cert.MixFKernelIdeal.defs (F := Ideal)) (onTc (τ := Cert.MixFKernelIdeal.τ) (Cert.MixFKernelIdeal.main (F := Ideal))) ⟨m, fun _ => 0, g⟩ (fun r => ∀ c : Dev Cert.MixFKernelIdeal.nD,
          r.2.mem ((c.tc : Thread Cert.MixFKernelIdeal.nD Cert.MixFKernelIdeal.τ).loc Cert.MixFKernelIdeal.main_v0) = v0 c
          ∧ r.2.mem ((c.tc : Thread Cert.MixFKernelIdeal.nD Cert.MixFKernelIdeal.τ).loc Cert.MixFKernelIdeal.main_arg0) = m ((c.tc : Thread Cert.MixFKernelIdeal.nD Cert.MixFKernelIdeal.τ).loc Cert.MixFKernelIdeal.main_arg0)
          ∧ r.2.mem ((c.tc : Thread Cert.MixFKernelIdeal.nD Cert.MixFKernelIdeal.τ).loc Cert.MixFKernelIdeal.main_arg1) = m ((c.tc : Thread Cert.MixFKernelIdeal.nD Cert.MixFKernelIdeal.τ).loc Cert.MixFKernelIdeal.main_arg1))
      ∧ θ_run (Cert.MixFReferenceIdeal.defs (F := Ideal)) (onTc (τ := Cert.MixFReferenceIdeal.τ) (Cert.MixFReferenceIdeal.main (F := Ideal))) ⟨m', fun _ => 0, g'⟩ (fun r => ∀ c : Dev Cert.MixFReferenceIdeal.nD,
          r.2.mem ((c.tc : Thread Cert.MixFReferenceIdeal.nD Cert.MixFReferenceIdeal.τ).loc Cert.MixFReferenceIdeal.main_v31) = v0 c
          ∧ r.2.mem ((c.tc : Thread Cert.MixFReferenceIdeal.nD Cert.MixFReferenceIdeal.τ).loc Cert.MixFReferenceIdeal.main_arg0) = m' ((c.tc : Thread Cert.MixFReferenceIdeal.nD Cert.MixFReferenceIdeal.τ).loc Cert.MixFReferenceIdeal.main_arg0)
          ∧ r.2.mem ((c.tc : Thread Cert.MixFReferenceIdeal.nD Cert.MixFReferenceIdeal.τ).loc Cert.MixFReferenceIdeal.main_arg1) = m' ((c.tc : Thread Cert.MixFReferenceIdeal.nD Cert.MixFReferenceIdeal.τ).loc Cert.MixFReferenceIdeal.main_arg1))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)
      ∧ m' ((c.tc : Thread Cert.SmallReferenceIdeal.nD Cert.SmallReferenceIdeal.τ).loc Cert.SmallReferenceIdeal.main_arg4) = m ((c.tc : Thread Cert.SmallKernelIdeal.nD Cert.SmallKernelIdeal.τ).loc Cert.SmallKernelIdeal.main_arg4)
      ∧ m' ((c.tc : Thread Cert.SmallReferenceIdeal.nD Cert.SmallReferenceIdeal.τ).loc Cert.SmallReferenceIdeal.main_arg5) = m ((c.tc : Thread Cert.SmallKernelIdeal.nD Cert.SmallKernelIdeal.τ).loc Cert.SmallKernelIdeal.main_arg5)
      ∧ m' ((c.tc : Thread Cert.SmallReferenceIdeal.nD Cert.SmallReferenceIdeal.τ).loc Cert.SmallReferenceIdeal.main_arg6) = m ((c.tc : Thread Cert.SmallKernelIdeal.nD Cert.SmallKernelIdeal.τ).loc Cert.SmallKernelIdeal.main_arg6)
      ∧ m' ((c.tc : Thread Cert.SmallReferenceIdeal.nD Cert.SmallReferenceIdeal.τ).loc Cert.SmallReferenceIdeal.main_arg7) = m ((c.tc : Thread Cert.SmallKernelIdeal.nD Cert.SmallKernelIdeal.τ).loc Cert.SmallKernelIdeal.main_arg7)
      ∧ m' ((c.tc : Thread Cert.SmallReferenceIdeal.nD Cert.SmallReferenceIdeal.τ).loc Cert.SmallReferenceIdeal.main_arg8) = m ((c.tc : Thread Cert.SmallKernelIdeal.nD Cert.SmallKernelIdeal.τ).loc Cert.SmallKernelIdeal.main_arg8)
      ∧ m' ((c.tc : Thread Cert.SmallReferenceIdeal.nD Cert.SmallReferenceIdeal.τ).loc Cert.SmallReferenceIdeal.main_arg9) = m ((c.tc : Thread Cert.SmallKernelIdeal.nD Cert.SmallKernelIdeal.τ).loc Cert.SmallKernelIdeal.main_arg9)
      ∧ m' ((c.tc : Thread Cert.SmallReferenceIdeal.nD Cert.SmallReferenceIdeal.τ).loc Cert.SmallReferenceIdeal.main_arg10) = m ((c.tc : Thread Cert.SmallKernelIdeal.nD Cert.SmallKernelIdeal.τ).loc Cert.SmallKernelIdeal.main_arg10)
      ∧ m' ((c.tc : Thread Cert.SmallReferenceIdeal.nD Cert.SmallReferenceIdeal.τ).loc Cert.SmallReferenceIdeal.main_arg11) = m ((c.tc : Thread Cert.SmallKernelIdeal.nD Cert.SmallKernelIdeal.τ).loc Cert.SmallKernelIdeal.main_arg11)
      ∧ m' ((c.tc : Thread Cert.SmallReferenceIdeal.nD Cert.SmallReferenceIdeal.τ).loc Cert.SmallReferenceIdeal.main_arg12) = m ((c.tc : Thread Cert.SmallKernelIdeal.nD Cert.SmallKernelIdeal.τ).loc Cert.SmallKernelIdeal.main_arg12)
      ∧ m' ((c.tc : Thread Cert.SmallReferenceIdeal.nD Cert.SmallReferenceIdeal.τ).loc Cert.SmallReferenceIdeal.main_arg13) = m ((c.tc : Thread Cert.SmallKernelIdeal.nD Cert.SmallKernelIdeal.τ).loc Cert.SmallKernelIdeal.main_arg13)
      ∧ m' ((c.tc : Thread Cert.SmallReferenceIdeal.nD Cert.SmallReferenceIdeal.τ).loc Cert.SmallReferenceIdeal.main_arg14) = m ((c.tc : Thread Cert.SmallKernelIdeal.nD Cert.SmallKernelIdeal.τ).loc Cert.SmallKernelIdeal.main_arg14)
      ∧ m' ((c.tc : Thread Cert.SmallReferenceIdeal.nD Cert.SmallReferenceIdeal.τ).loc Cert.SmallReferenceIdeal.main_arg15) = m ((c.tc : Thread Cert.SmallKernelIdeal.nD Cert.SmallKernelIdeal.τ).loc Cert.SmallKernelIdeal.main_arg15)
      ∧ m' ((c.tc : Thread Cert.SmallReferenceIdeal.nD Cert.SmallReferenceIdeal.τ).loc Cert.SmallReferenceIdeal.main_arg16) = m ((c.tc : Thread Cert.SmallKernelIdeal.nD Cert.SmallKernelIdeal.τ).loc Cert.SmallKernelIdeal.main_arg16)
      ∧ m' ((c.tc : Thread Cert.SmallReferenceIdeal.nD Cert.SmallReferenceIdeal.τ).loc Cert.SmallReferenceIdeal.main_arg17) = m ((c.tc : Thread Cert.SmallKernelIdeal.nD Cert.SmallKernelIdeal.τ).loc Cert.SmallKernelIdeal.main_arg17)
      ∧ m' ((c.tc : Thread Cert.SmallReferenceIdeal.nD Cert.SmallReferenceIdeal.τ).loc Cert.SmallReferenceIdeal.main_arg18) = m ((c.tc : Thread Cert.SmallKernelIdeal.nD Cert.SmallKernelIdeal.τ).loc Cert.SmallKernelIdeal.main_arg18)
      ∧ m' ((c.tc : Thread Cert.SmallReferenceIdeal.nD Cert.SmallReferenceIdeal.τ).loc Cert.SmallReferenceIdeal.main_arg19) = m ((c.tc : Thread Cert.SmallKernelIdeal.nD Cert.SmallKernelIdeal.τ).loc Cert.SmallKernelIdeal.main_arg19)
      ∧ m' ((c.tc : Thread Cert.SmallReferenceIdeal.nD Cert.SmallReferenceIdeal.τ).loc Cert.SmallReferenceIdeal.main_arg20) = m ((c.tc : Thread Cert.SmallKernelIdeal.nD Cert.SmallKernelIdeal.τ).loc Cert.SmallKernelIdeal.main_arg20)
      ∧ m' ((c.tc : Thread Cert.SmallReferenceIdeal.nD Cert.SmallReferenceIdeal.τ).loc Cert.SmallReferenceIdeal.main_arg21) = m ((c.tc : Thread Cert.SmallKernelIdeal.nD Cert.SmallKernelIdeal.τ).loc Cert.SmallKernelIdeal.main_arg21)
      ∧ m' ((c.tc : Thread Cert.SmallReferenceIdeal.nD Cert.SmallReferenceIdeal.τ).loc Cert.SmallReferenceIdeal.main_arg22) = m ((c.tc : Thread Cert.SmallKernelIdeal.nD Cert.SmallKernelIdeal.τ).loc Cert.SmallKernelIdeal.main_arg22)
      ∧ m' ((c.tc : Thread Cert.SmallReferenceIdeal.nD Cert.SmallReferenceIdeal.τ).loc Cert.SmallReferenceIdeal.main_arg23) = m ((c.tc : Thread Cert.SmallKernelIdeal.nD Cert.SmallKernelIdeal.τ).loc Cert.SmallKernelIdeal.main_arg23)
      ∧ m' ((c.tc : Thread Cert.SmallReferenceIdeal.nD Cert.SmallReferenceIdeal.τ).loc Cert.SmallReferenceIdeal.main_arg24) = m ((c.tc : Thread Cert.SmallKernelIdeal.nD Cert.SmallKernelIdeal.τ).loc Cert.SmallKernelIdeal.main_arg24)
      ∧ m' ((c.tc : Thread Cert.SmallReferenceIdeal.nD Cert.SmallReferenceIdeal.τ).loc Cert.SmallReferenceIdeal.main_arg25) = m ((c.tc : Thread Cert.SmallKernelIdeal.nD Cert.SmallKernelIdeal.τ).loc Cert.SmallKernelIdeal.main_arg25)
      ∧ m' ((c.tc : Thread Cert.SmallReferenceIdeal.nD Cert.SmallReferenceIdeal.τ).loc Cert.SmallReferenceIdeal.main_arg26) = m ((c.tc : Thread Cert.SmallKernelIdeal.nD Cert.SmallKernelIdeal.τ).loc Cert.SmallKernelIdeal.main_arg26)
      ∧ m' ((c.tc : Thread Cert.SmallReferenceIdeal.nD Cert.SmallReferenceIdeal.τ).loc Cert.SmallReferenceIdeal.main_arg27) = m ((c.tc : Thread Cert.SmallKernelIdeal.nD Cert.SmallKernelIdeal.τ).loc Cert.SmallKernelIdeal.main_arg27)
      ∧ m' ((c.tc : Thread Cert.SmallReferenceIdeal.nD Cert.SmallReferenceIdeal.τ).loc Cert.SmallReferenceIdeal.main_arg28) = m ((c.tc : Thread Cert.SmallKernelIdeal.nD Cert.SmallKernelIdeal.τ).loc Cert.SmallKernelIdeal.main_arg28)
      ∧ m' ((c.tc : Thread Cert.SmallReferenceIdeal.nD Cert.SmallReferenceIdeal.τ).loc Cert.SmallReferenceIdeal.main_arg29) = m ((c.tc : Thread Cert.SmallKernelIdeal.nD Cert.SmallKernelIdeal.τ).loc Cert.SmallKernelIdeal.main_arg29)
      ∧ m' ((c.tc : Thread Cert.SmallReferenceIdeal.nD Cert.SmallReferenceIdeal.τ).loc Cert.SmallReferenceIdeal.main_arg30) = m ((c.tc : Thread Cert.SmallKernelIdeal.nD Cert.SmallKernelIdeal.τ).loc Cert.SmallKernelIdeal.main_arg30)
      ∧ m' ((c.tc : Thread Cert.SmallReferenceIdeal.nD Cert.SmallReferenceIdeal.τ).loc Cert.SmallReferenceIdeal.main_arg31) = m ((c.tc : Thread Cert.SmallKernelIdeal.nD Cert.SmallKernelIdeal.τ).loc Cert.SmallKernelIdeal.main_arg31)
      ∧ m' ((c.tc : Thread Cert.SmallReferenceIdeal.nD Cert.SmallReferenceIdeal.τ).loc Cert.SmallReferenceIdeal.main_arg32) = m ((c.tc : Thread Cert.SmallKernelIdeal.nD Cert.SmallKernelIdeal.τ).loc Cert.SmallKernelIdeal.main_arg32)
      ∧ m' ((c.tc : Thread Cert.SmallReferenceIdeal.nD Cert.SmallReferenceIdeal.τ).loc Cert.SmallReferenceIdeal.main_arg33) = m ((c.tc : Thread Cert.SmallKernelIdeal.nD Cert.SmallKernelIdeal.τ).loc Cert.SmallKernelIdeal.main_arg33)
      ∧ m' ((c.tc : Thread Cert.SmallReferenceIdeal.nD Cert.SmallReferenceIdeal.τ).loc Cert.SmallReferenceIdeal.main_arg34) = m ((c.tc : Thread Cert.SmallKernelIdeal.nD Cert.SmallKernelIdeal.τ).loc Cert.SmallKernelIdeal.main_arg34)
      ∧ m' ((c.tc : Thread Cert.SmallReferenceIdeal.nD Cert.SmallReferenceIdeal.τ).loc Cert.SmallReferenceIdeal.main_arg35) = m ((c.tc : Thread Cert.SmallKernelIdeal.nD Cert.SmallKernelIdeal.τ).loc Cert.SmallKernelIdeal.main_arg35)
      ∧ m' ((c.tc : Thread Cert.SmallReferenceIdeal.nD Cert.SmallReferenceIdeal.τ).loc Cert.SmallReferenceIdeal.main_arg36) = m ((c.tc : Thread Cert.SmallKernelIdeal.nD Cert.SmallKernelIdeal.τ).loc Cert.SmallKernelIdeal.main_arg36)
      ∧ m' ((c.tc : Thread Cert.SmallReferenceIdeal.nD Cert.SmallReferenceIdeal.τ).loc Cert.SmallReferenceIdeal.main_arg37) = m ((c.tc : Thread Cert.SmallKernelIdeal.nD Cert.SmallKernelIdeal.τ).loc Cert.SmallKernelIdeal.main_arg37)
      ∧ m' ((c.tc : Thread Cert.SmallReferenceIdeal.nD Cert.SmallReferenceIdeal.τ).loc Cert.SmallReferenceIdeal.main_arg38) = m ((c.tc : Thread Cert.SmallKernelIdeal.nD Cert.SmallKernelIdeal.τ).loc Cert.SmallKernelIdeal.main_arg38)
      ∧ m' ((c.tc : Thread Cert.SmallReferenceIdeal.nD Cert.SmallReferenceIdeal.τ).loc Cert.SmallReferenceIdeal.main_arg39) = m ((c.tc : Thread Cert.SmallKernelIdeal.nD Cert.SmallKernelIdeal.τ).loc Cert.SmallKernelIdeal.main_arg39)
      ∧ m' ((c.tc : Thread Cert.SmallReferenceIdeal.nD Cert.SmallReferenceIdeal.τ).loc Cert.SmallReferenceIdeal.main_arg40) = m ((c.tc : Thread Cert.SmallKernelIdeal.nD Cert.SmallKernelIdeal.τ).loc Cert.SmallKernelIdeal.main_arg40)
      ∧ m' ((c.tc : Thread Cert.SmallReferenceIdeal.nD Cert.SmallReferenceIdeal.τ).loc Cert.SmallReferenceIdeal.main_arg41) = m ((c.tc : Thread Cert.SmallKernelIdeal.nD Cert.SmallKernelIdeal.τ).loc Cert.SmallKernelIdeal.main_arg41)
      ∧ m' ((c.tc : Thread Cert.SmallReferenceIdeal.nD Cert.SmallReferenceIdeal.τ).loc Cert.SmallReferenceIdeal.main_arg42) = m ((c.tc : Thread Cert.SmallKernelIdeal.nD Cert.SmallKernelIdeal.τ).loc Cert.SmallKernelIdeal.main_arg42)
      ∧ m' ((c.tc : Thread Cert.SmallReferenceIdeal.nD Cert.SmallReferenceIdeal.τ).loc Cert.SmallReferenceIdeal.main_arg43) = m ((c.tc : Thread Cert.SmallKernelIdeal.nD Cert.SmallKernelIdeal.τ).loc Cert.SmallKernelIdeal.main_arg43)
      ∧ m' ((c.tc : Thread Cert.SmallReferenceIdeal.nD Cert.SmallReferenceIdeal.τ).loc Cert.SmallReferenceIdeal.main_arg44) = m ((c.tc : Thread Cert.SmallKernelIdeal.nD Cert.SmallKernelIdeal.τ).loc Cert.SmallKernelIdeal.main_arg44)
      ∧ m' ((c.tc : Thread Cert.SmallReferenceIdeal.nD Cert.SmallReferenceIdeal.τ).loc Cert.SmallReferenceIdeal.main_arg45) = m ((c.tc : Thread Cert.SmallKernelIdeal.nD Cert.SmallKernelIdeal.τ).loc Cert.SmallKernelIdeal.main_arg45)
      ∧ m' ((c.tc : Thread Cert.SmallReferenceIdeal.nD Cert.SmallReferenceIdeal.τ).loc Cert.SmallReferenceIdeal.main_arg46) = m ((c.tc : Thread Cert.SmallKernelIdeal.nD Cert.SmallKernelIdeal.τ).loc Cert.SmallKernelIdeal.main_arg46)
      ∧ m' ((c.tc : Thread Cert.SmallReferenceIdeal.nD Cert.SmallReferenceIdeal.τ).loc Cert.SmallReferenceIdeal.main_arg47) = m ((c.tc : Thread Cert.SmallKernelIdeal.nD Cert.SmallKernelIdeal.τ).loc Cert.SmallKernelIdeal.main_arg47)
      ∧ m' ((c.tc : Thread Cert.SmallReferenceIdeal.nD Cert.SmallReferenceIdeal.τ).loc Cert.SmallReferenceIdeal.main_arg48) = m ((c.tc : Thread Cert.SmallKernelIdeal.nD Cert.SmallKernelIdeal.τ).loc Cert.SmallKernelIdeal.main_arg48)
      ∧ m' ((c.tc : Thread Cert.SmallReferenceIdeal.nD Cert.SmallReferenceIdeal.τ).loc Cert.SmallReferenceIdeal.main_arg49) = m ((c.tc : Thread Cert.SmallKernelIdeal.nD Cert.SmallKernelIdeal.τ).loc Cert.SmallKernelIdeal.main_arg49)
      ∧ m' ((c.tc : Thread Cert.SmallReferenceIdeal.nD Cert.SmallReferenceIdeal.τ).loc Cert.SmallReferenceIdeal.main_arg50) = m ((c.tc : Thread Cert.SmallKernelIdeal.nD Cert.SmallKernelIdeal.τ).loc Cert.SmallKernelIdeal.main_arg50)
      ∧ m' ((c.tc : Thread Cert.SmallReferenceIdeal.nD Cert.SmallReferenceIdeal.τ).loc Cert.SmallReferenceIdeal.main_arg51) = m ((c.tc : Thread Cert.SmallKernelIdeal.nD Cert.SmallKernelIdeal.τ).loc Cert.SmallKernelIdeal.main_arg51)) →
    ∃ (v0 : (c : Dev Cert.SmallKernelIdeal.nD) → Buf (Elt Ideal) ((c.tc : Thread Cert.SmallKernelIdeal.nD Cert.SmallKernelIdeal.τ).loc Cert.SmallKernelIdeal.main_v119)) (v1 : (c : Dev Cert.SmallKernelIdeal.nD) → Buf (Elt Ideal) ((c.tc : Thread Cert.SmallKernelIdeal.nD Cert.SmallKernelIdeal.τ).loc Cert.SmallKernelIdeal.main_v121)) (v2 : (c : Dev Cert.SmallKernelIdeal.nD) → Buf (Elt Ideal) ((c.tc : Thread Cert.SmallKernelIdeal.nD Cert.SmallKernelIdeal.τ).loc Cert.SmallKernelIdeal.main_v122)) (v3 : (c : Dev Cert.SmallKernelIdeal.nD) → Buf (Elt Ideal) ((c.tc : Thread Cert.SmallKernelIdeal.nD Cert.SmallKernelIdeal.τ).loc Cert.SmallKernelIdeal.main_v124)) (v4 : (c : Dev Cert.SmallKernelIdeal.nD) → Buf (Elt Ideal) ((c.tc : Thread Cert.SmallKernelIdeal.nD Cert.SmallKernelIdeal.τ).loc Cert.SmallKernelIdeal.main_v126)) (v5 : (c : Dev Cert.SmallKernelIdeal.nD) → Buf (Elt Ideal) ((c.tc : Thread Cert.SmallKernelIdeal.nD Cert.SmallKernelIdeal.τ).loc Cert.SmallKernelIdeal.main_v128)) (v6 : (c : Dev Cert.SmallKernelIdeal.nD) → Buf (Elt Ideal) ((c.tc : Thread Cert.SmallKernelIdeal.nD Cert.SmallKernelIdeal.τ).loc Cert.SmallKernelIdeal.main_v130)) (v7 : (c : Dev Cert.SmallKernelIdeal.nD) → Buf (Elt Ideal) ((c.tc : Thread Cert.SmallKernelIdeal.nD Cert.SmallKernelIdeal.τ).loc Cert.SmallKernelIdeal.main_v132)) (v8 : (c : Dev Cert.SmallKernelIdeal.nD) → Buf (Elt Ideal) ((c.tc : Thread Cert.SmallKernelIdeal.nD Cert.SmallKernelIdeal.τ).loc Cert.SmallKernelIdeal.main_v134)) (v9 : (c : Dev Cert.SmallKernelIdeal.nD) → Buf (Elt Ideal) ((c.tc : Thread Cert.SmallKernelIdeal.nD Cert.SmallKernelIdeal.τ).loc Cert.SmallKernelIdeal.main_v136)) (v10 : (c : Dev Cert.SmallKernelIdeal.nD) → Buf (Elt Ideal) ((c.tc : Thread Cert.SmallKernelIdeal.nD Cert.SmallKernelIdeal.τ).loc Cert.SmallKernelIdeal.main_v138)) (v11 : (c : Dev Cert.SmallKernelIdeal.nD) → Buf (Elt Ideal) ((c.tc : Thread Cert.SmallKernelIdeal.nD Cert.SmallKernelIdeal.τ).loc Cert.SmallKernelIdeal.main_v140)) (v12 : (c : Dev Cert.SmallKernelIdeal.nD) → Buf (Elt Ideal) ((c.tc : Thread Cert.SmallKernelIdeal.nD Cert.SmallKernelIdeal.τ).loc Cert.SmallKernelIdeal.main_v142)) (v13 : (c : Dev Cert.SmallKernelIdeal.nD) → Buf (Elt Ideal) ((c.tc : Thread Cert.SmallKernelIdeal.nD Cert.SmallKernelIdeal.τ).loc Cert.SmallKernelIdeal.main_v145)) (v14 : (c : Dev Cert.SmallKernelIdeal.nD) → Buf (Elt Ideal) ((c.tc : Thread Cert.SmallKernelIdeal.nD Cert.SmallKernelIdeal.τ).loc Cert.SmallKernelIdeal.main_v147)) (v15 : (c : Dev Cert.SmallKernelIdeal.nD) → Buf (Elt Ideal) ((c.tc : Thread Cert.SmallKernelIdeal.nD Cert.SmallKernelIdeal.τ).loc Cert.SmallKernelIdeal.main_v148)) (v16 : (c : Dev Cert.SmallKernelIdeal.nD) → Buf (Elt Ideal) ((c.tc : Thread Cert.SmallKernelIdeal.nD Cert.SmallKernelIdeal.τ).loc Cert.SmallKernelIdeal.main_v150)) (v17 : (c : Dev Cert.SmallKernelIdeal.nD) → Buf (Elt Ideal) ((c.tc : Thread Cert.SmallKernelIdeal.nD Cert.SmallKernelIdeal.τ).loc Cert.SmallKernelIdeal.main_v152)) (v18 : (c : Dev Cert.SmallKernelIdeal.nD) → Buf (Elt Ideal) ((c.tc : Thread Cert.SmallKernelIdeal.nD Cert.SmallKernelIdeal.τ).loc Cert.SmallKernelIdeal.main_v154)) (v19 : (c : Dev Cert.SmallKernelIdeal.nD) → Buf (Elt Ideal) ((c.tc : Thread Cert.SmallKernelIdeal.nD Cert.SmallKernelIdeal.τ).loc Cert.SmallKernelIdeal.main_v156)) (v20 : (c : Dev Cert.SmallKernelIdeal.nD) → Buf (Elt Ideal) ((c.tc : Thread Cert.SmallKernelIdeal.nD Cert.SmallKernelIdeal.τ).loc Cert.SmallKernelIdeal.main_v158)) (v21 : (c : Dev Cert.SmallKernelIdeal.nD) → Buf (Elt Ideal) ((c.tc : Thread Cert.SmallKernelIdeal.nD Cert.SmallKernelIdeal.τ).loc Cert.SmallKernelIdeal.main_v160)) (v22 : (c : Dev Cert.SmallKernelIdeal.nD) → Buf (Elt Ideal) ((c.tc : Thread Cert.SmallKernelIdeal.nD Cert.SmallKernelIdeal.τ).loc Cert.SmallKernelIdeal.main_v162)) (v23 : (c : Dev Cert.SmallKernelIdeal.nD) → Buf (Elt Ideal) ((c.tc : Thread Cert.SmallKernelIdeal.nD Cert.SmallKernelIdeal.τ).loc Cert.SmallKernelIdeal.main_v164)) (v24 : (c : Dev Cert.SmallKernelIdeal.nD) → Buf (Elt Ideal) ((c.tc : Thread Cert.SmallKernelIdeal.nD Cert.SmallKernelIdeal.τ).loc Cert.SmallKernelIdeal.main_v166)) (v25 : (c : Dev Cert.SmallKernelIdeal.nD) → Buf (Elt Ideal) ((c.tc : Thread Cert.SmallKernelIdeal.nD Cert.SmallKernelIdeal.τ).loc Cert.SmallKernelIdeal.main_v168)) (v26 : (c : Dev Cert.SmallKernelIdeal.nD) → Buf (Elt Ideal) ((c.tc : Thread Cert.SmallKernelIdeal.nD Cert.SmallKernelIdeal.τ).loc Cert.SmallKernelIdeal.main_v171)) (v27 : (c : Dev Cert.SmallKernelIdeal.nD) → Buf (Elt Ideal) ((c.tc : Thread Cert.SmallKernelIdeal.nD Cert.SmallKernelIdeal.τ).loc Cert.SmallKernelIdeal.main_v173)) (v28 : (c : Dev Cert.SmallKernelIdeal.nD) → Buf (Elt Ideal) ((c.tc : Thread Cert.SmallKernelIdeal.nD Cert.SmallKernelIdeal.τ).loc Cert.SmallKernelIdeal.main_v174)) (v29 : (c : Dev Cert.SmallKernelIdeal.nD) → Buf (Elt Ideal) ((c.tc : Thread Cert.SmallKernelIdeal.nD Cert.SmallKernelIdeal.τ).loc Cert.SmallKernelIdeal.main_v176)) (v30 : (c : Dev Cert.SmallKernelIdeal.nD) → Buf (Elt Ideal) ((c.tc : Thread Cert.SmallKernelIdeal.nD Cert.SmallKernelIdeal.τ).loc Cert.SmallKernelIdeal.main_v178)) (v31 : (c : Dev Cert.SmallKernelIdeal.nD) → Buf (Elt Ideal) ((c.tc : Thread Cert.SmallKernelIdeal.nD Cert.SmallKernelIdeal.τ).loc Cert.SmallKernelIdeal.main_v180)) (v32 : (c : Dev Cert.SmallKernelIdeal.nD) → Buf (Elt Ideal) ((c.tc : Thread Cert.SmallKernelIdeal.nD Cert.SmallKernelIdeal.τ).loc Cert.SmallKernelIdeal.main_v182)) (v33 : (c : Dev Cert.SmallKernelIdeal.nD) → Buf (Elt Ideal) ((c.tc : Thread Cert.SmallKernelIdeal.nD Cert.SmallKernelIdeal.τ).loc Cert.SmallKernelIdeal.main_v184)) (v34 : (c : Dev Cert.SmallKernelIdeal.nD) → Buf (Elt Ideal) ((c.tc : Thread Cert.SmallKernelIdeal.nD Cert.SmallKernelIdeal.τ).loc Cert.SmallKernelIdeal.main_v186)) (v35 : (c : Dev Cert.SmallKernelIdeal.nD) → Buf (Elt Ideal) ((c.tc : Thread Cert.SmallKernelIdeal.nD Cert.SmallKernelIdeal.τ).loc Cert.SmallKernelIdeal.main_v188)) (v36 : (c : Dev Cert.SmallKernelIdeal.nD) → Buf (Elt Ideal) ((c.tc : Thread Cert.SmallKernelIdeal.nD Cert.SmallKernelIdeal.τ).loc Cert.SmallKernelIdeal.main_v190)) (v37 : (c : Dev Cert.SmallKernelIdeal.nD) → Buf (Elt Ideal) ((c.tc : Thread Cert.SmallKernelIdeal.nD Cert.SmallKernelIdeal.τ).loc Cert.SmallKernelIdeal.main_v192)) (v38 : (c : Dev Cert.SmallKernelIdeal.nD) → Buf (Elt Ideal) ((c.tc : Thread Cert.SmallKernelIdeal.nD Cert.SmallKernelIdeal.τ).loc Cert.SmallKernelIdeal.main_v194)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v119) = v0 c
          ∧ r.2.mem ((c.tc : Thread Cert.SmallKernelIdeal.nD Cert.SmallKernelIdeal.τ).loc Cert.SmallKernelIdeal.main_v121) = v1 c
          ∧ r.2.mem ((c.tc : Thread Cert.SmallKernelIdeal.nD Cert.SmallKernelIdeal.τ).loc Cert.SmallKernelIdeal.main_v122) = v2 c
          ∧ r.2.mem ((c.tc : Thread Cert.SmallKernelIdeal.nD Cert.SmallKernelIdeal.τ).loc Cert.SmallKernelIdeal.main_v124) = v3 c
          ∧ r.2.mem ((c.tc : Thread Cert.SmallKernelIdeal.nD Cert.SmallKernelIdeal.τ).loc Cert.SmallKernelIdeal.main_v126) = v4 c
          ∧ r.2.mem ((c.tc : Thread Cert.SmallKernelIdeal.nD Cert.SmallKernelIdeal.τ).loc Cert.SmallKernelIdeal.main_v128) = v5 c
          ∧ r.2.mem ((c.tc : Thread Cert.SmallKernelIdeal.nD Cert.SmallKernelIdeal.τ).loc Cert.SmallKernelIdeal.main_v130) = v6 c
          ∧ r.2.mem ((c.tc : Thread Cert.SmallKernelIdeal.nD Cert.SmallKernelIdeal.τ).loc Cert.SmallKernelIdeal.main_v132) = v7 c
          ∧ r.2.mem ((c.tc : Thread Cert.SmallKernelIdeal.nD Cert.SmallKernelIdeal.τ).loc Cert.SmallKernelIdeal.main_v134) = v8 c
          ∧ r.2.mem ((c.tc : Thread Cert.SmallKernelIdeal.nD Cert.SmallKernelIdeal.τ).loc Cert.SmallKernelIdeal.main_v136) = v9 c
          ∧ r.2.mem ((c.tc : Thread Cert.SmallKernelIdeal.nD Cert.SmallKernelIdeal.τ).loc Cert.SmallKernelIdeal.main_v138) = v10 c
          ∧ r.2.mem ((c.tc : Thread Cert.SmallKernelIdeal.nD Cert.SmallKernelIdeal.τ).loc Cert.SmallKernelIdeal.main_v140) = v11 c
          ∧ r.2.mem ((c.tc : Thread Cert.SmallKernelIdeal.nD Cert.SmallKernelIdeal.τ).loc Cert.SmallKernelIdeal.main_v142) = v12 c
          ∧ r.2.mem ((c.tc : Thread Cert.SmallKernelIdeal.nD Cert.SmallKernelIdeal.τ).loc Cert.SmallKernelIdeal.main_v145) = v13 c
          ∧ r.2.mem ((c.tc : Thread Cert.SmallKernelIdeal.nD Cert.SmallKernelIdeal.τ).loc Cert.SmallKernelIdeal.main_v147) = v14 c
          ∧ r.2.mem ((c.tc : Thread Cert.SmallKernelIdeal.nD Cert.SmallKernelIdeal.τ).loc Cert.SmallKernelIdeal.main_v148) = v15 c
          ∧ r.2.mem ((c.tc : Thread Cert.SmallKernelIdeal.nD Cert.SmallKernelIdeal.τ).loc Cert.SmallKernelIdeal.main_v150) = v16 c
          ∧ r.2.mem ((c.tc : Thread Cert.SmallKernelIdeal.nD Cert.SmallKernelIdeal.τ).loc Cert.SmallKernelIdeal.main_v152) = v17 c
          ∧ r.2.mem ((c.tc : Thread Cert.SmallKernelIdeal.nD Cert.SmallKernelIdeal.τ).loc Cert.SmallKernelIdeal.main_v154) = v18 c
          ∧ r.2.mem ((c.tc : Thread Cert.SmallKernelIdeal.nD Cert.SmallKernelIdeal.τ).loc Cert.SmallKernelIdeal.main_v156) = v19 c
          ∧ r.2.mem ((c.tc : Thread Cert.SmallKernelIdeal.nD Cert.SmallKernelIdeal.τ).loc Cert.SmallKernelIdeal.main_v158) = v20 c
          ∧ r.2.mem ((c.tc : Thread Cert.SmallKernelIdeal.nD Cert.SmallKernelIdeal.τ).loc Cert.SmallKernelIdeal.main_v160) = v21 c
          ∧ r.2.mem ((c.tc : Thread Cert.SmallKernelIdeal.nD Cert.SmallKernelIdeal.τ).loc Cert.SmallKernelIdeal.main_v162) = v22 c
          ∧ r.2.mem ((c.tc : Thread Cert.SmallKernelIdeal.nD Cert.SmallKernelIdeal.τ).loc Cert.SmallKernelIdeal.main_v164) = v23 c
          ∧ r.2.mem ((c.tc : Thread Cert.SmallKernelIdeal.nD Cert.SmallKernelIdeal.τ).loc Cert.SmallKernelIdeal.main_v166) = v24 c
          ∧ r.2.mem ((c.tc : Thread Cert.SmallKernelIdeal.nD Cert.SmallKernelIdeal.τ).loc Cert.SmallKernelIdeal.main_v168) = v25 c
          ∧ r.2.mem ((c.tc : Thread Cert.SmallKernelIdeal.nD Cert.SmallKernelIdeal.τ).loc Cert.SmallKernelIdeal.main_v171) = v26 c
          ∧ r.2.mem ((c.tc : Thread Cert.SmallKernelIdeal.nD Cert.SmallKernelIdeal.τ).loc Cert.SmallKernelIdeal.main_v173) = v27 c
          ∧ r.2.mem ((c.tc : Thread Cert.SmallKernelIdeal.nD Cert.SmallKernelIdeal.τ).loc Cert.SmallKernelIdeal.main_v174) = v28 c
          ∧ r.2.mem ((c.tc : Thread Cert.SmallKernelIdeal.nD Cert.SmallKernelIdeal.τ).loc Cert.SmallKernelIdeal.main_v176) = v29 c
          ∧ r.2.mem ((c.tc : Thread Cert.SmallKernelIdeal.nD Cert.SmallKernelIdeal.τ).loc Cert.SmallKernelIdeal.main_v178) = v30 c
          ∧ r.2.mem ((c.tc : Thread Cert.SmallKernelIdeal.nD Cert.SmallKernelIdeal.τ).loc Cert.SmallKernelIdeal.main_v180) = v31 c
          ∧ r.2.mem ((c.tc : Thread Cert.SmallKernelIdeal.nD Cert.SmallKernelIdeal.τ).loc Cert.SmallKernelIdeal.main_v182) = v32 c
          ∧ r.2.mem ((c.tc : Thread Cert.SmallKernelIdeal.nD Cert.SmallKernelIdeal.τ).loc Cert.SmallKernelIdeal.main_v184) = v33 c
          ∧ r.2.mem ((c.tc : Thread Cert.SmallKernelIdeal.nD Cert.SmallKernelIdeal.τ).loc Cert.SmallKernelIdeal.main_v186) = v34 c
          ∧ r.2.mem ((c.tc : Thread Cert.SmallKernelIdeal.nD Cert.SmallKernelIdeal.τ).loc Cert.SmallKernelIdeal.main_v188) = v35 c
          ∧ r.2.mem ((c.tc : Thread Cert.SmallKernelIdeal.nD Cert.SmallKernelIdeal.τ).loc Cert.SmallKernelIdeal.main_v190) = v36 c
          ∧ r.2.mem ((c.tc : Thread Cert.SmallKernelIdeal.nD Cert.SmallKernelIdeal.τ).loc Cert.SmallKernelIdeal.main_v192) = v37 c
          ∧ r.2.mem ((c.tc : Thread Cert.SmallKernelIdeal.nD Cert.SmallKernelIdeal.τ).loc Cert.SmallKernelIdeal.main_v194) = v38 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
          ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
          ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
          ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
          ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
          ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
          ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
          ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
          ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
          ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
          ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13)
          ∧ r.2.mem ((c.tc : Thread Cert.SmallKernelIdeal.nD Cert.SmallKernelIdeal.τ).loc Cert.SmallKernelIdeal.main_arg14) = m ((c.tc : Thread Cert.SmallKernelIdeal.nD Cert.SmallKernelIdeal.τ).loc Cert.SmallKernelIdeal.main_arg14)
          ∧ r.2.mem ((c.tc : Thread Cert.SmallKernelIdeal.nD Cert.SmallKernelIdeal.τ).loc Cert.SmallKernelIdeal.main_arg15) = m ((c.tc : Thread Cert.SmallKernelIdeal.nD Cert.SmallKernelIdeal.τ).loc Cert.SmallKernelIdeal.main_arg15)
          ∧ r.2.mem ((c.tc : Thread Cert.SmallKernelIdeal.nD Cert.SmallKernelIdeal.τ).loc Cert.SmallKernelIdeal.main_arg16) = m ((c.tc : Thread Cert.SmallKernelIdeal.nD Cert.SmallKernelIdeal.τ).loc Cert.SmallKernelIdeal.main_arg16)
          ∧ r.2.mem ((c.tc : Thread Cert.SmallKernelIdeal.nD Cert.SmallKernelIdeal.τ).loc Cert.SmallKernelIdeal.main_arg17) = m ((c.tc : Thread Cert.SmallKernelIdeal.nD Cert.SmallKernelIdeal.τ).loc Cert.SmallKernelIdeal.main_arg17)
          ∧ r.2.mem ((c.tc : Thread Cert.SmallKernelIdeal.nD Cert.SmallKernelIdeal.τ).loc Cert.SmallKernelIdeal.main_arg18) = m ((c.tc : Thread Cert.SmallKernelIdeal.nD Cert.SmallKernelIdeal.τ).loc Cert.SmallKernelIdeal.main_arg18)
          ∧ r.2.mem ((c.tc : Thread Cert.SmallKernelIdeal.nD Cert.SmallKernelIdeal.τ).loc Cert.SmallKernelIdeal.main_arg19) = m ((c.tc : Thread Cert.SmallKernelIdeal.nD Cert.SmallKernelIdeal.τ).loc Cert.SmallKernelIdeal.main_arg19)
          ∧ r.2.mem ((c.tc : Thread Cert.SmallKernelIdeal.nD Cert.SmallKernelIdeal.τ).loc Cert.SmallKernelIdeal.main_arg20) = m ((c.tc : Thread Cert.SmallKernelIdeal.nD Cert.SmallKernelIdeal.τ).loc Cert.SmallKernelIdeal.main_arg20)
          ∧ r.2.mem ((c.tc : Thread Cert.SmallKernelIdeal.nD Cert.SmallKernelIdeal.τ).loc Cert.SmallKernelIdeal.main_arg21) = m ((c.tc : Thread Cert.SmallKernelIdeal.nD Cert.SmallKernelIdeal.τ).loc Cert.SmallKernelIdeal.main_arg21)
          ∧ r.2.mem ((c.tc : Thread Cert.SmallKernelIdeal.nD Cert.SmallKernelIdeal.τ).loc Cert.SmallKernelIdeal.main_arg22) = m ((c.tc : Thread Cert.SmallKernelIdeal.nD Cert.SmallKernelIdeal.τ).loc Cert.SmallKernelIdeal.main_arg22)
          ∧ r.2.mem ((c.tc : Thread Cert.SmallKernelIdeal.nD Cert.SmallKernelIdeal.τ).loc Cert.SmallKernelIdeal.main_arg23) = m ((c.tc : Thread Cert.SmallKernelIdeal.nD Cert.SmallKernelIdeal.τ).loc Cert.SmallKernelIdeal.main_arg23)
          ∧ r.2.mem ((c.tc : Thread Cert.SmallKernelIdeal.nD Cert.SmallKernelIdeal.τ).loc Cert.SmallKernelIdeal.main_arg24) = m ((c.tc : Thread Cert.SmallKernelIdeal.nD Cert.SmallKernelIdeal.τ).loc Cert.SmallKernelIdeal.main_arg24)
          ∧ r.2.mem ((c.tc : Thread Cert.SmallKernelIdeal.nD Cert.SmallKernelIdeal.τ).loc Cert.SmallKernelIdeal.main_arg25) = m ((c.tc : Thread Cert.SmallKernelIdeal.nD Cert.SmallKernelIdeal.τ).loc Cert.SmallKernelIdeal.main_arg25)
          ∧ r.2.mem ((c.tc : Thread Cert.SmallKernelIdeal.nD Cert.SmallKernelIdeal.τ).loc Cert.SmallKernelIdeal.main_arg26) = m ((c.tc : Thread Cert.SmallKernelIdeal.nD Cert.SmallKernelIdeal.τ).loc Cert.SmallKernelIdeal.main_arg26)
          ∧ r.2.mem ((c.tc : Thread Cert.SmallKernelIdeal.nD Cert.SmallKernelIdeal.τ).loc Cert.SmallKernelIdeal.main_arg27) = m ((c.tc : Thread Cert.SmallKernelIdeal.nD Cert.SmallKernelIdeal.τ).loc Cert.SmallKernelIdeal.main_arg27)
          ∧ r.2.mem ((c.tc : Thread Cert.SmallKernelIdeal.nD Cert.SmallKernelIdeal.τ).loc Cert.SmallKernelIdeal.main_arg28) = m ((c.tc : Thread Cert.SmallKernelIdeal.nD Cert.SmallKernelIdeal.τ).loc Cert.SmallKernelIdeal.main_arg28)
          ∧ r.2.mem ((c.tc : Thread Cert.SmallKernelIdeal.nD Cert.SmallKernelIdeal.τ).loc Cert.SmallKernelIdeal.main_arg29) = m ((c.tc : Thread Cert.SmallKernelIdeal.nD Cert.SmallKernelIdeal.τ).loc Cert.SmallKernelIdeal.main_arg29)
          ∧ r.2.mem ((c.tc : Thread Cert.SmallKernelIdeal.nD Cert.SmallKernelIdeal.τ).loc Cert.SmallKernelIdeal.main_arg30) = m ((c.tc : Thread Cert.SmallKernelIdeal.nD Cert.SmallKernelIdeal.τ).loc Cert.SmallKernelIdeal.main_arg30)
          ∧ r.2.mem ((c.tc : Thread Cert.SmallKernelIdeal.nD Cert.SmallKernelIdeal.τ).loc Cert.SmallKernelIdeal.main_arg31) = m ((c.tc : Thread Cert.SmallKernelIdeal.nD Cert.SmallKernelIdeal.τ).loc Cert.SmallKernelIdeal.main_arg31)
          ∧ r.2.mem ((c.tc : Thread Cert.SmallKernelIdeal.nD Cert.SmallKernelIdeal.τ).loc Cert.SmallKernelIdeal.main_arg32) = m ((c.tc : Thread Cert.SmallKernelIdeal.nD Cert.SmallKernelIdeal.τ).loc Cert.SmallKernelIdeal.main_arg32)
          ∧ r.2.mem ((c.tc : Thread Cert.SmallKernelIdeal.nD Cert.SmallKernelIdeal.τ).loc Cert.SmallKernelIdeal.main_arg33) = m ((c.tc : Thread Cert.SmallKernelIdeal.nD Cert.SmallKernelIdeal.τ).loc Cert.SmallKernelIdeal.main_arg33)
          ∧ r.2.mem ((c.tc : Thread Cert.SmallKernelIdeal.nD Cert.SmallKernelIdeal.τ).loc Cert.SmallKernelIdeal.main_arg34) = m ((c.tc : Thread Cert.SmallKernelIdeal.nD Cert.SmallKernelIdeal.τ).loc Cert.SmallKernelIdeal.main_arg34)
          ∧ r.2.mem ((c.tc : Thread Cert.SmallKernelIdeal.nD Cert.SmallKernelIdeal.τ).loc Cert.SmallKernelIdeal.main_arg35) = m ((c.tc : Thread Cert.SmallKernelIdeal.nD Cert.SmallKernelIdeal.τ).loc Cert.SmallKernelIdeal.main_arg35)
          ∧ r.2.mem ((c.tc : Thread Cert.SmallKernelIdeal.nD Cert.SmallKernelIdeal.τ).loc Cert.SmallKernelIdeal.main_arg36) = m ((c.tc : Thread Cert.SmallKernelIdeal.nD Cert.SmallKernelIdeal.τ).loc Cert.SmallKernelIdeal.main_arg36)
          ∧ r.2.mem ((c.tc : Thread Cert.SmallKernelIdeal.nD Cert.SmallKernelIdeal.τ).loc Cert.SmallKernelIdeal.main_arg37) = m ((c.tc : Thread Cert.SmallKernelIdeal.nD Cert.SmallKernelIdeal.τ).loc Cert.SmallKernelIdeal.main_arg37)
          ∧ r.2.mem ((c.tc : Thread Cert.SmallKernelIdeal.nD Cert.SmallKernelIdeal.τ).loc Cert.SmallKernelIdeal.main_arg38) = m ((c.tc : Thread Cert.SmallKernelIdeal.nD Cert.SmallKernelIdeal.τ).loc Cert.SmallKernelIdeal.main_arg38)
          ∧ r.2.mem ((c.tc : Thread Cert.SmallKernelIdeal.nD Cert.SmallKernelIdeal.τ).loc Cert.SmallKernelIdeal.main_arg39) = m ((c.tc : Thread Cert.SmallKernelIdeal.nD Cert.SmallKernelIdeal.τ).loc Cert.SmallKernelIdeal.main_arg39)
          ∧ r.2.mem ((c.tc : Thread Cert.SmallKernelIdeal.nD Cert.SmallKernelIdeal.τ).loc Cert.SmallKernelIdeal.main_arg40) = m ((c.tc : Thread Cert.SmallKernelIdeal.nD Cert.SmallKernelIdeal.τ).loc Cert.SmallKernelIdeal.main_arg40)
          ∧ r.2.mem ((c.tc : Thread Cert.SmallKernelIdeal.nD Cert.SmallKernelIdeal.τ).loc Cert.SmallKernelIdeal.main_arg41) = m ((c.tc : Thread Cert.SmallKernelIdeal.nD Cert.SmallKernelIdeal.τ).loc Cert.SmallKernelIdeal.main_arg41)
          ∧ r.2.mem ((c.tc : Thread Cert.SmallKernelIdeal.nD Cert.SmallKernelIdeal.τ).loc Cert.SmallKernelIdeal.main_arg42) = m ((c.tc : Thread Cert.SmallKernelIdeal.nD Cert.SmallKernelIdeal.τ).loc Cert.SmallKernelIdeal.main_arg42)
          ∧ r.2.mem ((c.tc : Thread Cert.SmallKernelIdeal.nD Cert.SmallKernelIdeal.τ).loc Cert.SmallKernelIdeal.main_arg43) = m ((c.tc : Thread Cert.SmallKernelIdeal.nD Cert.SmallKernelIdeal.τ).loc Cert.SmallKernelIdeal.main_arg43)
          ∧ r.2.mem ((c.tc : Thread Cert.SmallKernelIdeal.nD Cert.SmallKernelIdeal.τ).loc Cert.SmallKernelIdeal.main_arg44) = m ((c.tc : Thread Cert.SmallKernelIdeal.nD Cert.SmallKernelIdeal.τ).loc Cert.SmallKernelIdeal.main_arg44)
          ∧ r.2.mem ((c.tc : Thread Cert.SmallKernelIdeal.nD Cert.SmallKernelIdeal.τ).loc Cert.SmallKernelIdeal.main_arg45) = m ((c.tc : Thread Cert.SmallKernelIdeal.nD Cert.SmallKernelIdeal.τ).loc Cert.SmallKernelIdeal.main_arg45)
          ∧ r.2.mem ((c.tc : Thread Cert.SmallKernelIdeal.nD Cert.SmallKernelIdeal.τ).loc Cert.SmallKernelIdeal.main_arg46) = m ((c.tc : Thread Cert.SmallKernelIdeal.nD Cert.SmallKernelIdeal.τ).loc Cert.SmallKernelIdeal.main_arg46)
          ∧ r.2.mem ((c.tc : Thread Cert.SmallKernelIdeal.nD Cert.SmallKernelIdeal.τ).loc Cert.SmallKernelIdeal.main_arg47) = m ((c.tc : Thread Cert.SmallKernelIdeal.nD Cert.SmallKernelIdeal.τ).loc Cert.SmallKernelIdeal.main_arg47)
          ∧ r.2.mem ((c.tc : Thread Cert.SmallKernelIdeal.nD Cert.SmallKernelIdeal.τ).loc Cert.SmallKernelIdeal.main_arg48) = m ((c.tc : Thread Cert.SmallKernelIdeal.nD Cert.SmallKernelIdeal.τ).loc Cert.SmallKernelIdeal.main_arg48)
          ∧ r.2.mem ((c.tc : Thread Cert.SmallKernelIdeal.nD Cert.SmallKernelIdeal.τ).loc Cert.SmallKernelIdeal.main_arg49) = m ((c.tc : Thread Cert.SmallKernelIdeal.nD Cert.SmallKernelIdeal.τ).loc Cert.SmallKernelIdeal.main_arg49)
          ∧ r.2.mem ((c.tc : Thread Cert.SmallKernelIdeal.nD Cert.SmallKernelIdeal.τ).loc Cert.SmallKernelIdeal.main_arg50) = m ((c.tc : Thread Cert.SmallKernelIdeal.nD Cert.SmallKernelIdeal.τ).loc Cert.SmallKernelIdeal.main_arg50)
          ∧ r.2.mem ((c.tc : Thread Cert.SmallKernelIdeal.nD Cert.SmallKernelIdeal.τ).loc Cert.SmallKernelIdeal.main_arg51) = m ((c.tc : Thread Cert.SmallKernelIdeal.nD Cert.SmallKernelIdeal.τ).loc Cert.SmallKernelIdeal.main_arg51))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v23) = v0 c
          ∧ r.2.mem ((c.tc : Thread Cert.SmallReferenceIdeal.nD Cert.SmallReferenceIdeal.τ).loc Cert.SmallReferenceIdeal.main_v47) = v1 c
          ∧ r.2.mem ((c.tc : Thread Cert.SmallReferenceIdeal.nD Cert.SmallReferenceIdeal.τ).loc Cert.SmallReferenceIdeal.main_v71) = v2 c
          ∧ r.2.mem ((c.tc : Thread Cert.SmallReferenceIdeal.nD Cert.SmallReferenceIdeal.τ).loc Cert.SmallReferenceIdeal.main_v95) = v3 c
          ∧ r.2.mem ((c.tc : Thread Cert.SmallReferenceIdeal.nD Cert.SmallReferenceIdeal.τ).loc Cert.SmallReferenceIdeal.main_v119) = v4 c
          ∧ r.2.mem ((c.tc : Thread Cert.SmallReferenceIdeal.nD Cert.SmallReferenceIdeal.τ).loc Cert.SmallReferenceIdeal.main_v143) = v5 c
          ∧ r.2.mem ((c.tc : Thread Cert.SmallReferenceIdeal.nD Cert.SmallReferenceIdeal.τ).loc Cert.SmallReferenceIdeal.main_v167) = v6 c
          ∧ r.2.mem ((c.tc : Thread Cert.SmallReferenceIdeal.nD Cert.SmallReferenceIdeal.τ).loc Cert.SmallReferenceIdeal.main_v191) = v7 c
          ∧ r.2.mem ((c.tc : Thread Cert.SmallReferenceIdeal.nD Cert.SmallReferenceIdeal.τ).loc Cert.SmallReferenceIdeal.main_v215) = v8 c
          ∧ r.2.mem ((c.tc : Thread Cert.SmallReferenceIdeal.nD Cert.SmallReferenceIdeal.τ).loc Cert.SmallReferenceIdeal.main_v239) = v9 c
          ∧ r.2.mem ((c.tc : Thread Cert.SmallReferenceIdeal.nD Cert.SmallReferenceIdeal.τ).loc Cert.SmallReferenceIdeal.main_v263) = v10 c
          ∧ r.2.mem ((c.tc : Thread Cert.SmallReferenceIdeal.nD Cert.SmallReferenceIdeal.τ).loc Cert.SmallReferenceIdeal.main_v287) = v11 c
          ∧ r.2.mem ((c.tc : Thread Cert.SmallReferenceIdeal.nD Cert.SmallReferenceIdeal.τ).loc Cert.SmallReferenceIdeal.main_v311) = v12 c
          ∧ r.2.mem ((c.tc : Thread Cert.SmallReferenceIdeal.nD Cert.SmallReferenceIdeal.τ).loc Cert.SmallReferenceIdeal.main_v4) = v13 c
          ∧ r.2.mem ((c.tc : Thread Cert.SmallReferenceIdeal.nD Cert.SmallReferenceIdeal.τ).loc Cert.SmallReferenceIdeal.main_v28) = v14 c
          ∧ r.2.mem ((c.tc : Thread Cert.SmallReferenceIdeal.nD Cert.SmallReferenceIdeal.τ).loc Cert.SmallReferenceIdeal.main_v52) = v15 c
          ∧ r.2.mem ((c.tc : Thread Cert.SmallReferenceIdeal.nD Cert.SmallReferenceIdeal.τ).loc Cert.SmallReferenceIdeal.main_v76) = v16 c
          ∧ r.2.mem ((c.tc : Thread Cert.SmallReferenceIdeal.nD Cert.SmallReferenceIdeal.τ).loc Cert.SmallReferenceIdeal.main_v100) = v17 c
          ∧ r.2.mem ((c.tc : Thread Cert.SmallReferenceIdeal.nD Cert.SmallReferenceIdeal.τ).loc Cert.SmallReferenceIdeal.main_v124) = v18 c
          ∧ r.2.mem ((c.tc : Thread Cert.SmallReferenceIdeal.nD Cert.SmallReferenceIdeal.τ).loc Cert.SmallReferenceIdeal.main_v148) = v19 c
          ∧ r.2.mem ((c.tc : Thread Cert.SmallReferenceIdeal.nD Cert.SmallReferenceIdeal.τ).loc Cert.SmallReferenceIdeal.main_v172) = v20 c
          ∧ r.2.mem ((c.tc : Thread Cert.SmallReferenceIdeal.nD Cert.SmallReferenceIdeal.τ).loc Cert.SmallReferenceIdeal.main_v196) = v21 c
          ∧ r.2.mem ((c.tc : Thread Cert.SmallReferenceIdeal.nD Cert.SmallReferenceIdeal.τ).loc Cert.SmallReferenceIdeal.main_v220) = v22 c
          ∧ r.2.mem ((c.tc : Thread Cert.SmallReferenceIdeal.nD Cert.SmallReferenceIdeal.τ).loc Cert.SmallReferenceIdeal.main_v244) = v23 c
          ∧ r.2.mem ((c.tc : Thread Cert.SmallReferenceIdeal.nD Cert.SmallReferenceIdeal.τ).loc Cert.SmallReferenceIdeal.main_v268) = v24 c
          ∧ r.2.mem ((c.tc : Thread Cert.SmallReferenceIdeal.nD Cert.SmallReferenceIdeal.τ).loc Cert.SmallReferenceIdeal.main_v292) = v25 c
          ∧ r.2.mem ((c.tc : Thread Cert.SmallReferenceIdeal.nD Cert.SmallReferenceIdeal.τ).loc Cert.SmallReferenceIdeal.main_v10) = v26 c
          ∧ r.2.mem ((c.tc : Thread Cert.SmallReferenceIdeal.nD Cert.SmallReferenceIdeal.τ).loc Cert.SmallReferenceIdeal.main_v34) = v27 c
          ∧ r.2.mem ((c.tc : Thread Cert.SmallReferenceIdeal.nD Cert.SmallReferenceIdeal.τ).loc Cert.SmallReferenceIdeal.main_v58) = v28 c
          ∧ r.2.mem ((c.tc : Thread Cert.SmallReferenceIdeal.nD Cert.SmallReferenceIdeal.τ).loc Cert.SmallReferenceIdeal.main_v82) = v29 c
          ∧ r.2.mem ((c.tc : Thread Cert.SmallReferenceIdeal.nD Cert.SmallReferenceIdeal.τ).loc Cert.SmallReferenceIdeal.main_v106) = v30 c
          ∧ r.2.mem ((c.tc : Thread Cert.SmallReferenceIdeal.nD Cert.SmallReferenceIdeal.τ).loc Cert.SmallReferenceIdeal.main_v130) = v31 c
          ∧ r.2.mem ((c.tc : Thread Cert.SmallReferenceIdeal.nD Cert.SmallReferenceIdeal.τ).loc Cert.SmallReferenceIdeal.main_v154) = v32 c
          ∧ r.2.mem ((c.tc : Thread Cert.SmallReferenceIdeal.nD Cert.SmallReferenceIdeal.τ).loc Cert.SmallReferenceIdeal.main_v178) = v33 c
          ∧ r.2.mem ((c.tc : Thread Cert.SmallReferenceIdeal.nD Cert.SmallReferenceIdeal.τ).loc Cert.SmallReferenceIdeal.main_v202) = v34 c
          ∧ r.2.mem ((c.tc : Thread Cert.SmallReferenceIdeal.nD Cert.SmallReferenceIdeal.τ).loc Cert.SmallReferenceIdeal.main_v226) = v35 c
          ∧ r.2.mem ((c.tc : Thread Cert.SmallReferenceIdeal.nD Cert.SmallReferenceIdeal.τ).loc Cert.SmallReferenceIdeal.main_v250) = v36 c
          ∧ r.2.mem ((c.tc : Thread Cert.SmallReferenceIdeal.nD Cert.SmallReferenceIdeal.τ).loc Cert.SmallReferenceIdeal.main_v274) = v37 c
          ∧ r.2.mem ((c.tc : Thread Cert.SmallReferenceIdeal.nD Cert.SmallReferenceIdeal.τ).loc Cert.SmallReferenceIdeal.main_v298) = v38 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13)
          ∧ r.2.mem ((c.tc : Thread Cert.SmallReferenceIdeal.nD Cert.SmallReferenceIdeal.τ).loc Cert.SmallReferenceIdeal.main_arg14) = m' ((c.tc : Thread Cert.SmallReferenceIdeal.nD Cert.SmallReferenceIdeal.τ).loc Cert.SmallReferenceIdeal.main_arg14)
          ∧ r.2.mem ((c.tc : Thread Cert.SmallReferenceIdeal.nD Cert.SmallReferenceIdeal.τ).loc Cert.SmallReferenceIdeal.main_arg15) = m' ((c.tc : Thread Cert.SmallReferenceIdeal.nD Cert.SmallReferenceIdeal.τ).loc Cert.SmallReferenceIdeal.main_arg15)
          ∧ r.2.mem ((c.tc : Thread Cert.SmallReferenceIdeal.nD Cert.SmallReferenceIdeal.τ).loc Cert.SmallReferenceIdeal.main_arg16) = m' ((c.tc : Thread Cert.SmallReferenceIdeal.nD Cert.SmallReferenceIdeal.τ).loc Cert.SmallReferenceIdeal.main_arg16)
          ∧ r.2.mem ((c.tc : Thread Cert.SmallReferenceIdeal.nD Cert.SmallReferenceIdeal.τ).loc Cert.SmallReferenceIdeal.main_arg17) = m' ((c.tc : Thread Cert.SmallReferenceIdeal.nD Cert.SmallReferenceIdeal.τ).loc Cert.SmallReferenceIdeal.main_arg17)
          ∧ r.2.mem ((c.tc : Thread Cert.SmallReferenceIdeal.nD Cert.SmallReferenceIdeal.τ).loc Cert.SmallReferenceIdeal.main_arg18) = m' ((c.tc : Thread Cert.SmallReferenceIdeal.nD Cert.SmallReferenceIdeal.τ).loc Cert.SmallReferenceIdeal.main_arg18)
          ∧ r.2.mem ((c.tc : Thread Cert.SmallReferenceIdeal.nD Cert.SmallReferenceIdeal.τ).loc Cert.SmallReferenceIdeal.main_arg19) = m' ((c.tc : Thread Cert.SmallReferenceIdeal.nD Cert.SmallReferenceIdeal.τ).loc Cert.SmallReferenceIdeal.main_arg19)
          ∧ r.2.mem ((c.tc : Thread Cert.SmallReferenceIdeal.nD Cert.SmallReferenceIdeal.τ).loc Cert.SmallReferenceIdeal.main_arg20) = m' ((c.tc : Thread Cert.SmallReferenceIdeal.nD Cert.SmallReferenceIdeal.τ).loc Cert.SmallReferenceIdeal.main_arg20)
          ∧ r.2.mem ((c.tc : Thread Cert.SmallReferenceIdeal.nD Cert.SmallReferenceIdeal.τ).loc Cert.SmallReferenceIdeal.main_arg21) = m' ((c.tc : Thread Cert.SmallReferenceIdeal.nD Cert.SmallReferenceIdeal.τ).loc Cert.SmallReferenceIdeal.main_arg21)
          ∧ r.2.mem ((c.tc : Thread Cert.SmallReferenceIdeal.nD Cert.SmallReferenceIdeal.τ).loc Cert.SmallReferenceIdeal.main_arg22) = m' ((c.tc : Thread Cert.SmallReferenceIdeal.nD Cert.SmallReferenceIdeal.τ).loc Cert.SmallReferenceIdeal.main_arg22)
          ∧ r.2.mem ((c.tc : Thread Cert.SmallReferenceIdeal.nD Cert.SmallReferenceIdeal.τ).loc Cert.SmallReferenceIdeal.main_arg23) = m' ((c.tc : Thread Cert.SmallReferenceIdeal.nD Cert.SmallReferenceIdeal.τ).loc Cert.SmallReferenceIdeal.main_arg23)
          ∧ r.2.mem ((c.tc : Thread Cert.SmallReferenceIdeal.nD Cert.SmallReferenceIdeal.τ).loc Cert.SmallReferenceIdeal.main_arg24) = m' ((c.tc : Thread Cert.SmallReferenceIdeal.nD Cert.SmallReferenceIdeal.τ).loc Cert.SmallReferenceIdeal.main_arg24)
          ∧ r.2.mem ((c.tc : Thread Cert.SmallReferenceIdeal.nD Cert.SmallReferenceIdeal.τ).loc Cert.SmallReferenceIdeal.main_arg25) = m' ((c.tc : Thread Cert.SmallReferenceIdeal.nD Cert.SmallReferenceIdeal.τ).loc Cert.SmallReferenceIdeal.main_arg25)
          ∧ r.2.mem ((c.tc : Thread Cert.SmallReferenceIdeal.nD Cert.SmallReferenceIdeal.τ).loc Cert.SmallReferenceIdeal.main_arg26) = m' ((c.tc : Thread Cert.SmallReferenceIdeal.nD Cert.SmallReferenceIdeal.τ).loc Cert.SmallReferenceIdeal.main_arg26)
          ∧ r.2.mem ((c.tc : Thread Cert.SmallReferenceIdeal.nD Cert.SmallReferenceIdeal.τ).loc Cert.SmallReferenceIdeal.main_arg27) = m' ((c.tc : Thread Cert.SmallReferenceIdeal.nD Cert.SmallReferenceIdeal.τ).loc Cert.SmallReferenceIdeal.main_arg27)
          ∧ r.2.mem ((c.tc : Thread Cert.SmallReferenceIdeal.nD Cert.SmallReferenceIdeal.τ).loc Cert.SmallReferenceIdeal.main_arg28) = m' ((c.tc : Thread Cert.SmallReferenceIdeal.nD Cert.SmallReferenceIdeal.τ).loc Cert.SmallReferenceIdeal.main_arg28)
          ∧ r.2.mem ((c.tc : Thread Cert.SmallReferenceIdeal.nD Cert.SmallReferenceIdeal.τ).loc Cert.SmallReferenceIdeal.main_arg29) = m' ((c.tc : Thread Cert.SmallReferenceIdeal.nD Cert.SmallReferenceIdeal.τ).loc Cert.SmallReferenceIdeal.main_arg29)
          ∧ r.2.mem ((c.tc : Thread Cert.SmallReferenceIdeal.nD Cert.SmallReferenceIdeal.τ).loc Cert.SmallReferenceIdeal.main_arg30) = m' ((c.tc : Thread Cert.SmallReferenceIdeal.nD Cert.SmallReferenceIdeal.τ).loc Cert.SmallReferenceIdeal.main_arg30)
          ∧ r.2.mem ((c.tc : Thread Cert.SmallReferenceIdeal.nD Cert.SmallReferenceIdeal.τ).loc Cert.SmallReferenceIdeal.main_arg31) = m' ((c.tc : Thread Cert.SmallReferenceIdeal.nD Cert.SmallReferenceIdeal.τ).loc Cert.SmallReferenceIdeal.main_arg31)
          ∧ r.2.mem ((c.tc : Thread Cert.SmallReferenceIdeal.nD Cert.SmallReferenceIdeal.τ).loc Cert.SmallReferenceIdeal.main_arg32) = m' ((c.tc : Thread Cert.SmallReferenceIdeal.nD Cert.SmallReferenceIdeal.τ).loc Cert.SmallReferenceIdeal.main_arg32)
          ∧ r.2.mem ((c.tc : Thread Cert.SmallReferenceIdeal.nD Cert.SmallReferenceIdeal.τ).loc Cert.SmallReferenceIdeal.main_arg33) = m' ((c.tc : Thread Cert.SmallReferenceIdeal.nD Cert.SmallReferenceIdeal.τ).loc Cert.SmallReferenceIdeal.main_arg33)
          ∧ r.2.mem ((c.tc : Thread Cert.SmallReferenceIdeal.nD Cert.SmallReferenceIdeal.τ).loc Cert.SmallReferenceIdeal.main_arg34) = m' ((c.tc : Thread Cert.SmallReferenceIdeal.nD Cert.SmallReferenceIdeal.τ).loc Cert.SmallReferenceIdeal.main_arg34)
          ∧ r.2.mem ((c.tc : Thread Cert.SmallReferenceIdeal.nD Cert.SmallReferenceIdeal.τ).loc Cert.SmallReferenceIdeal.main_arg35) = m' ((c.tc : Thread Cert.SmallReferenceIdeal.nD Cert.SmallReferenceIdeal.τ).loc Cert.SmallReferenceIdeal.main_arg35)
          ∧ r.2.mem ((c.tc : Thread Cert.SmallReferenceIdeal.nD Cert.SmallReferenceIdeal.τ).loc Cert.SmallReferenceIdeal.main_arg36) = m' ((c.tc : Thread Cert.SmallReferenceIdeal.nD Cert.SmallReferenceIdeal.τ).loc Cert.SmallReferenceIdeal.main_arg36)
          ∧ r.2.mem ((c.tc : Thread Cert.SmallReferenceIdeal.nD Cert.SmallReferenceIdeal.τ).loc Cert.SmallReferenceIdeal.main_arg37) = m' ((c.tc : Thread Cert.SmallReferenceIdeal.nD Cert.SmallReferenceIdeal.τ).loc Cert.SmallReferenceIdeal.main_arg37)
          ∧ r.2.mem ((c.tc : Thread Cert.SmallReferenceIdeal.nD Cert.SmallReferenceIdeal.τ).loc Cert.SmallReferenceIdeal.main_arg38) = m' ((c.tc : Thread Cert.SmallReferenceIdeal.nD Cert.SmallReferenceIdeal.τ).loc Cert.SmallReferenceIdeal.main_arg38)
          ∧ r.2.mem ((c.tc : Thread Cert.SmallReferenceIdeal.nD Cert.SmallReferenceIdeal.τ).loc Cert.SmallReferenceIdeal.main_arg39) = m' ((c.tc : Thread Cert.SmallReferenceIdeal.nD Cert.SmallReferenceIdeal.τ).loc Cert.SmallReferenceIdeal.main_arg39)
          ∧ r.2.mem ((c.tc : Thread Cert.SmallReferenceIdeal.nD Cert.SmallReferenceIdeal.τ).loc Cert.SmallReferenceIdeal.main_arg40) = m' ((c.tc : Thread Cert.SmallReferenceIdeal.nD Cert.SmallReferenceIdeal.τ).loc Cert.SmallReferenceIdeal.main_arg40)
          ∧ r.2.mem ((c.tc : Thread Cert.SmallReferenceIdeal.nD Cert.SmallReferenceIdeal.τ).loc Cert.SmallReferenceIdeal.main_arg41) = m' ((c.tc : Thread Cert.SmallReferenceIdeal.nD Cert.SmallReferenceIdeal.τ).loc Cert.SmallReferenceIdeal.main_arg41)
          ∧ r.2.mem ((c.tc : Thread Cert.SmallReferenceIdeal.nD Cert.SmallReferenceIdeal.τ).loc Cert.SmallReferenceIdeal.main_arg42) = m' ((c.tc : Thread Cert.SmallReferenceIdeal.nD Cert.SmallReferenceIdeal.τ).loc Cert.SmallReferenceIdeal.main_arg42)
          ∧ r.2.mem ((c.tc : Thread Cert.SmallReferenceIdeal.nD Cert.SmallReferenceIdeal.τ).loc Cert.SmallReferenceIdeal.main_arg43) = m' ((c.tc : Thread Cert.SmallReferenceIdeal.nD Cert.SmallReferenceIdeal.τ).loc Cert.SmallReferenceIdeal.main_arg43)
          ∧ r.2.mem ((c.tc : Thread Cert.SmallReferenceIdeal.nD Cert.SmallReferenceIdeal.τ).loc Cert.SmallReferenceIdeal.main_arg44) = m' ((c.tc : Thread Cert.SmallReferenceIdeal.nD Cert.SmallReferenceIdeal.τ).loc Cert.SmallReferenceIdeal.main_arg44)
          ∧ r.2.mem ((c.tc : Thread Cert.SmallReferenceIdeal.nD Cert.SmallReferenceIdeal.τ).loc Cert.SmallReferenceIdeal.main_arg45) = m' ((c.tc : Thread Cert.SmallReferenceIdeal.nD Cert.SmallReferenceIdeal.τ).loc Cert.SmallReferenceIdeal.main_arg45)
          ∧ r.2.mem ((c.tc : Thread Cert.SmallReferenceIdeal.nD Cert.SmallReferenceIdeal.τ).loc Cert.SmallReferenceIdeal.main_arg46) = m' ((c.tc : Thread Cert.SmallReferenceIdeal.nD Cert.SmallReferenceIdeal.τ).loc Cert.SmallReferenceIdeal.main_arg46)
          ∧ r.2.mem ((c.tc : Thread Cert.SmallReferenceIdeal.nD Cert.SmallReferenceIdeal.τ).loc Cert.SmallReferenceIdeal.main_arg47) = m' ((c.tc : Thread Cert.SmallReferenceIdeal.nD Cert.SmallReferenceIdeal.τ).loc Cert.SmallReferenceIdeal.main_arg47)
          ∧ r.2.mem ((c.tc : Thread Cert.SmallReferenceIdeal.nD Cert.SmallReferenceIdeal.τ).loc Cert.SmallReferenceIdeal.main_arg48) = m' ((c.tc : Thread Cert.SmallReferenceIdeal.nD Cert.SmallReferenceIdeal.τ).loc Cert.SmallReferenceIdeal.main_arg48)
          ∧ r.2.mem ((c.tc : Thread Cert.SmallReferenceIdeal.nD Cert.SmallReferenceIdeal.τ).loc Cert.SmallReferenceIdeal.main_arg49) = m' ((c.tc : Thread Cert.SmallReferenceIdeal.nD Cert.SmallReferenceIdeal.τ).loc Cert.SmallReferenceIdeal.main_arg49)
          ∧ r.2.mem ((c.tc : Thread Cert.SmallReferenceIdeal.nD Cert.SmallReferenceIdeal.τ).loc Cert.SmallReferenceIdeal.main_arg50) = m' ((c.tc : Thread Cert.SmallReferenceIdeal.nD Cert.SmallReferenceIdeal.τ).loc Cert.SmallReferenceIdeal.main_arg50)
          ∧ r.2.mem ((c.tc : Thread Cert.SmallReferenceIdeal.nD Cert.SmallReferenceIdeal.τ).loc Cert.SmallReferenceIdeal.main_arg51) = m' ((c.tc : Thread Cert.SmallReferenceIdeal.nD Cert.SmallReferenceIdeal.τ).loc Cert.SmallReferenceIdeal.main_arg51))

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)) →
    ∃ (v0 : (c : Dev Cert.ActKernelIdeal.nD) → Buf (Elt Ideal) ((c.tc : Thread Cert.ActKernelIdeal.nD Cert.ActKernelIdeal.τ).loc Cert.ActKernelIdeal.main_v0_0)) (v1 : (c : Dev Cert.ActKernelIdeal.nD) → Buf (Elt Ideal) ((c.tc : Thread Cert.ActKernelIdeal.nD Cert.ActKernelIdeal.τ).loc Cert.ActKernelIdeal.main_v0_1)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v0_0) = v0 c
          ∧ r.2.mem ((c.tc : Thread Cert.ActKernelIdeal.nD Cert.ActKernelIdeal.τ).loc Cert.ActKernelIdeal.main_v0_1) = v1 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v31) = v0 c
          ∧ r.2.mem ((c.tc : Thread Cert.ActReferenceIdeal.nD Cert.ActReferenceIdeal.τ).loc Cert.ActReferenceIdeal.main_v32) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1))

def Claim : Prop :=
  ∃ (hKernel : Cert.Kernel.Facts) (hKernelIdeal : Cert.KernelIdeal.Facts) (hReferenceIdeal : Cert.ReferenceIdeal.Facts) (hUpDwKernel : Cert.UpDwKernel.Facts) (hUpDwKernelIdeal : Cert.UpDwKernelIdeal.Facts) (hUpDwReferenceIdeal : Cert.UpDwReferenceIdeal.Facts) (hUpDxAKernel : Cert.UpDxAKernel.Facts) (hUpDxAKernelIdeal : Cert.UpDxAKernelIdeal.Facts) (hUpDxAReferenceIdeal : Cert.UpDxAReferenceIdeal.Facts) (hUpDxBKernel : Cert.UpDxBKernel.Facts) (hUpDxBKernelIdeal : Cert.UpDxBKernelIdeal.Facts) (hUpDxBReferenceIdeal : Cert.UpDxBReferenceIdeal.Facts) (hAbInDxKernel : Cert.AbInDxKernel.Facts) (hAbInDxKernelIdeal : Cert.AbInDxKernelIdeal.Facts) (hAbInDxReferenceIdeal : Cert.AbInDxReferenceIdeal.Facts) (hCInDxKernel : Cert.CInDxKernel.Facts) (hCInDxKernelIdeal : Cert.CInDxKernelIdeal.Facts) (hCInDxReferenceIdeal : Cert.CInDxReferenceIdeal.Facts) (hDownDwKernel : Cert.DownDwKernel.Facts) (hDownDwKernelIdeal : Cert.DownDwKernelIdeal.Facts) (hDownDwReferenceIdeal : Cert.DownDwReferenceIdeal.Facts) (hDownDxKernel : Cert.DownDxKernel.Facts) (hDownDxKernelIdeal : Cert.DownDxKernelIdeal.Facts) (hDownDxReferenceIdeal : Cert.DownDxReferenceIdeal.Facts) (hCInDwKernel : Cert.CInDwKernel.Facts) (hCInDwKernelIdeal : Cert.CInDwKernelIdeal.Facts) (hCInDwReferenceIdeal : Cert.CInDwReferenceIdeal.Facts) (hAbInDwKernel : Cert.AbInDwKernel.Facts) (hAbInDwKernelIdeal : Cert.AbInDwKernelIdeal.Facts) (hAbInDwReferenceIdeal : Cert.AbInDwReferenceIdeal.Facts) (hOutDwKernel : Cert.OutDwKernel.Facts) (hOutDwKernelIdeal : Cert.OutDwKernelIdeal.Facts) (hOutDwReferenceIdeal : Cert.OutDwReferenceIdeal.Facts) (hOutDxKernel : Cert.OutDxKernel.Facts) (hOutDxKernelIdeal : Cert.OutDxKernelIdeal.Facts) (hOutDxReferenceIdeal : Cert.OutDxReferenceIdeal.Facts) (hUpFKernel : Cert.UpFKernel.Facts) (hUpFKernelIdeal : Cert.UpFKernelIdeal.Facts) (hUpFReferenceIdeal : Cert.UpFReferenceIdeal.Facts) (hCInFKernel : Cert.CInFKernel.Facts) (hCInFKernelIdeal : Cert.CInFKernelIdeal.Facts) (hCInFReferenceIdeal : Cert.CInFReferenceIdeal.Facts) (hAbOutFKernel : Cert.AbOutFKernel.Facts) (hAbOutFKernelIdeal : Cert.AbOutFKernelIdeal.Facts) (hAbOutFReferenceIdeal : Cert.AbOutFReferenceIdeal.Facts) (hCOutFKernel : Cert.COutFKernel.Facts) (hCOutFKernelIdeal : Cert.COutFKernelIdeal.Facts) (hCOutFReferenceIdeal : Cert.COutFReferenceIdeal.Facts) (hDownFKernel : Cert.DownFKernel.Facts) (hDownFKernelIdeal : Cert.DownFKernelIdeal.Facts) (hDownFReferenceIdeal : Cert.DownFReferenceIdeal.Facts) (hAdamAbInKernel : Cert.AdamAbInKernel.Facts) (hAdamAbInKernelIdeal : Cert.AdamAbInKernelIdeal.Facts) (hAdamAbInReferenceIdeal : Cert.AdamAbInReferenceIdeal.Facts) (hAdamAbOutKernel : Cert.AdamAbOutKernel.Facts) (hAdamAbOutKernelIdeal : Cert.AdamAbOutKernelIdeal.Facts) (hAdamAbOutReferenceIdeal : Cert.AdamAbOutReferenceIdeal.Facts) (hAdamCInKernel : Cert.AdamCInKernel.Facts) (hAdamCInKernelIdeal : Cert.AdamCInKernelIdeal.Facts) (hAdamCInReferenceIdeal : Cert.AdamCInReferenceIdeal.Facts) (hAdamUpKernel : Cert.AdamUpKernel.Facts) (hAdamUpKernelIdeal : Cert.AdamUpKernelIdeal.Facts) (hAdamUpReferenceIdeal : Cert.AdamUpReferenceIdeal.Facts) (hAdamDownKernel : Cert.AdamDownKernel.Facts) (hAdamDownKernelIdeal : Cert.AdamDownKernelIdeal.Facts) (hAdamDownReferenceIdeal : Cert.AdamDownReferenceIdeal.Facts) (hMixFKernel : Cert.MixFKernel.Facts) (hMixFKernelIdeal : Cert.MixFKernelIdeal.Facts) (hMixFReferenceIdeal : Cert.MixFReferenceIdeal.Facts) (hSmallKernel : Cert.SmallKernel.Facts) (hSmallKernelIdeal : Cert.SmallKernelIdeal.Facts) (hSmallReferenceIdeal : Cert.SmallReferenceIdeal.Facts) (hActKernel : Cert.ActKernel.Facts) (hActKernelIdeal : Cert.ActKernelIdeal.Facts) (hActReferenceIdeal : Cert.ActReferenceIdeal.Facts),
    quiescent_Kernel (hKernel := hKernel)
    ∧ quiescent_KernelIdeal (hKernelIdeal := hKernelIdeal)
    ∧ quiescent_ReferenceIdeal (hReferenceIdeal := hReferenceIdeal)
    ∧ quiescent_UpDwKernel (hUpDwKernel := hUpDwKernel)
    ∧ quiescent_UpDwKernelIdeal (hUpDwKernelIdeal := hUpDwKernelIdeal)
    ∧ quiescent_UpDwReferenceIdeal (hUpDwReferenceIdeal := hUpDwReferenceIdeal)
    ∧ quiescent_UpDxAKernel (hUpDxAKernel := hUpDxAKernel)
    ∧ quiescent_UpDxAKernelIdeal (hUpDxAKernelIdeal := hUpDxAKernelIdeal)
    ∧ quiescent_UpDxAReferenceIdeal (hUpDxAReferenceIdeal := hUpDxAReferenceIdeal)
    ∧ quiescent_UpDxBKernel (hUpDxBKernel := hUpDxBKernel)
    ∧ quiescent_UpDxBKernelIdeal (hUpDxBKernelIdeal := hUpDxBKernelIdeal)
    ∧ quiescent_UpDxBReferenceIdeal (hUpDxBReferenceIdeal := hUpDxBReferenceIdeal)
    ∧ quiescent_AbInDxKernel (hAbInDxKernel := hAbInDxKernel)
    ∧ quiescent_AbInDxKernelIdeal (hAbInDxKernelIdeal := hAbInDxKernelIdeal)
    ∧ quiescent_AbInDxReferenceIdeal (hAbInDxReferenceIdeal := hAbInDxReferenceIdeal)
    ∧ quiescent_CInDxKernel (hCInDxKernel := hCInDxKernel)
    ∧ quiescent_CInDxKernelIdeal (hCInDxKernelIdeal := hCInDxKernelIdeal)
    ∧ quiescent_CInDxReferenceIdeal (hCInDxReferenceIdeal := hCInDxReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_DownDxKernel (hDownDxKernel := hDownDxKernel)
    ∧ quiescent_DownDxKernelIdeal (hDownDxKernelIdeal := hDownDxKernelIdeal)
    ∧ quiescent_DownDxReferenceIdeal (hDownDxReferenceIdeal := hDownDxReferenceIdeal)
    ∧ quiescent_CInDwKernel (hCInDwKernel := hCInDwKernel)
    ∧ quiescent_CInDwKernelIdeal (hCInDwKernelIdeal := hCInDwKernelIdeal)
    ∧ quiescent_CInDwReferenceIdeal (hCInDwReferenceIdeal := hCInDwReferenceIdeal)
    ∧ quiescent_AbInDwKernel (hAbInDwKernel := hAbInDwKernel)
    ∧ quiescent_AbInDwKernelIdeal (hAbInDwKernelIdeal := hAbInDwKernelIdeal)
    ∧ quiescent_AbInDwReferenceIdeal (hAbInDwReferenceIdeal := hAbInDwReferenceIdeal)
    ∧ quiescent_OutDwKernel (hOutDwKernel := hOutDwKernel)
    ∧ quiescent_OutDwKernelIdeal (hOutDwKernelIdeal := hOutDwKernelIdeal)
    ∧ quiescent_OutDwReferenceIdeal (hOutDwReferenceIdeal := hOutDwReferenceIdeal)
    ∧ quiescent_OutDxKernel (hOutDxKernel := hOutDxKernel)
    ∧ quiescent_OutDxKernelIdeal (hOutDxKernelIdeal := hOutDxKernelIdeal)
    ∧ quiescent_OutDxReferenceIdeal (hOutDxReferenceIdeal := hOutDxReferenceIdeal)
    ∧ quiescent_UpFKernel (hUpFKernel := hUpFKernel)
    ∧ quiescent_UpFKernelIdeal (hUpFKernelIdeal := hUpFKernelIdeal)
    ∧ quiescent_UpFReferenceIdeal (hUpFReferenceIdeal := hUpFReferenceIdeal)
    ∧ quiescent_CInFKernel (hCInFKernel := hCInFKernel)
    ∧ quiescent_CInFKernelIdeal (hCInFKernelIdeal := hCInFKernelIdeal)
    ∧ quiescent_CInFReferenceIdeal (hCInFReferenceIdeal := hCInFReferenceIdeal)
    ∧ quiescent_AbOutFKernel (hAbOutFKernel := hAbOutFKernel)
    ∧ quiescent_AbOutFKernelIdeal (hAbOutFKernelIdeal := hAbOutFKernelIdeal)
    ∧ quiescent_AbOutFReferenceIdeal (hAbOutFReferenceIdeal := hAbOutFReferenceIdeal)
    ∧ quiescent_COutFKernel (hCOutFKernel := hCOutFKernel)
    ∧ quiescent_COutFKernelIdeal (hCOutFKernelIdeal := hCOutFKernelIdeal)
    ∧ quiescent_COutFReferenceIdeal (hCOutFReferenceIdeal := hCOutFReferenceIdeal)
    ∧ quiescent_DownFKernel (hDownFKernel := hDownFKernel)
    ∧ quiescent_DownFKernelIdeal (hDownFKernelIdeal := hDownFKernelIdeal)
    ∧ quiescent_DownFReferenceIdeal (hDownFReferenceIdeal := hDownFReferenceIdeal)
    ∧ quiescent_AdamAbInKernel (hAdamAbInKernel := hAdamAbInKernel)
    ∧ quiescent_AdamAbInKernelIdeal (hAdamAbInKernelIdeal := hAdamAbInKernelIdeal)
    ∧ quiescent_AdamAbInReferenceIdeal (hAdamAbInReferenceIdeal := hAdamAbInReferenceIdeal)
    ∧ quiescent_AdamAbOutKernel (hAdamAbOutKernel := hAdamAbOutKernel)
    ∧ quiescent_AdamAbOutKernelIdeal (hAdamAbOutKernelIdeal := hAdamAbOutKernelIdeal)
    ∧ quiescent_AdamAbOutReferenceIdeal (hAdamAbOutReferenceIdeal := hAdamAbOutReferenceIdeal)
    ∧ quiescent_AdamCInKernel (hAdamCInKernel := hAdamCInKernel)
    ∧ quiescent_AdamCInKernelIdeal (hAdamCInKernelIdeal := hAdamCInKernelIdeal)
    ∧ quiescent_AdamCInReferenceIdeal (hAdamCInReferenceIdeal := hAdamCInReferenceIdeal)
    ∧ quiescent_AdamUpKernel (hAdamUpKernel := hAdamUpKernel)
    ∧ quiescent_AdamUpKernelIdeal (hAdamUpKernelIdeal := hAdamUpKernelIdeal)
    ∧ quiescent_AdamUpReferenceIdeal (hAdamUpReferenceIdeal := hAdamUpReferenceIdeal)
    ∧ quiescent_AdamDownKernel (hAdamDownKernel := hAdamDownKernel)
    ∧ quiescent_AdamDownKernelIdeal (hAdamDownKernelIdeal := hAdamDownKernelIdeal)
    ∧ quiescent_AdamDownReferenceIdeal (hAdamDownReferenceIdeal := hAdamDownReferenceIdeal)
    ∧ quiescent_MixFKernel (hMixFKernel := hMixFKernel)
    ∧ quiescent_MixFKernelIdeal (hMixFKernelIdeal := hMixFKernelIdeal)
    ∧ quiescent_MixFReferenceIdeal (hMixFReferenceIdeal := hMixFReferenceIdeal)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_ActKernel (hActKernel := hActKernel)
    ∧ quiescent_ActKernelIdeal (hActKernelIdeal := hActKernelIdeal)
    ∧ quiescent_ActReferenceIdeal (hActReferenceIdeal := hActReferenceIdeal)
    ∧ preserves_Kernel_KernelIdeal
    ∧ algebraic_KernelIdeal_ReferenceIdeal (hKernelIdeal := hKernelIdeal) (hReferenceIdeal := hReferenceIdeal)
    ∧ preserves_UpDwKernel_UpDwKernelIdeal
    ∧ algebraic_UpDwKernelIdeal_UpDwReferenceIdeal (hUpDwKernelIdeal := hUpDwKernelIdeal) (hUpDwReferenceIdeal := hUpDwReferenceIdeal)
    ∧ preserves_UpDxAKernel_UpDxAKernelIdeal
    ∧ algebraic_UpDxAKernelIdeal_UpDxAReferenceIdeal (hUpDxAKernelIdeal := hUpDxAKernelIdeal) (hUpDxAReferenceIdeal := hUpDxAReferenceIdeal)
    ∧ preserves_UpDxBKernel_UpDxBKernelIdeal
    ∧ algebraic_UpDxBKernelIdeal_UpDxBReferenceIdeal (hUpDxBKernelIdeal := hUpDxBKernelIdeal) (hUpDxBReferenceIdeal := hUpDxBReferenceIdeal)
    ∧ preserves_AbInDxKernel_AbInDxKernelIdeal
    ∧ algebraic_AbInDxKernelIdeal_AbInDxReferenceIdeal (hAbInDxKernelIdeal := hAbInDxKernelIdeal) (hAbInDxReferenceIdeal := hAbInDxReferenceIdeal)
    ∧ preserves_CInDxKernel_CInDxKernelIdeal
    ∧ algebraic_CInDxKernelIdeal_CInDxReferenceIdeal (hCInDxKernelIdeal := hCInDxKernelIdeal) (hCInDxReferenceIdeal := hCInDxReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_DownDxKernel_DownDxKernelIdeal
    ∧ algebraic_DownDxKernelIdeal_DownDxReferenceIdeal (hDownDxKernelIdeal := hDownDxKernelIdeal) (hDownDxReferenceIdeal := hDownDxReferenceIdeal)
    ∧ preserves_CInDwKernel_CInDwKernelIdeal
    ∧ algebraic_CInDwKernelIdeal_CInDwReferenceIdeal (hCInDwKernelIdeal := hCInDwKernelIdeal) (hCInDwReferenceIdeal := hCInDwReferenceIdeal)
    ∧ preserves_AbInDwKernel_AbInDwKernelIdeal
    ∧ algebraic_AbInDwKernelIdeal_AbInDwReferenceIdeal (hAbInDwKernelIdeal := hAbInDwKernelIdeal) (hAbInDwReferenceIdeal := hAbInDwReferenceIdeal)
    ∧ preserves_OutDwKernel_OutDwKernelIdeal
    ∧ algebraic_OutDwKernelIdeal_OutDwReferenceIdeal (hOutDwKernelIdeal := hOutDwKernelIdeal) (hOutDwReferenceIdeal := hOutDwReferenceIdeal)
    ∧ preserves_OutDxKernel_OutDxKernelIdeal
    ∧ algebraic_OutDxKernelIdeal_OutDxReferenceIdeal (hOutDxKernelIdeal := hOutDxKernelIdeal) (hOutDxReferenceIdeal := hOutDxReferenceIdeal)
    ∧ preserves_UpFKernel_UpFKernelIdeal
    ∧ algebraic_UpFKernelIdeal_UpFReferenceIdeal (hUpFKernelIdeal := hUpFKernelIdeal) (hUpFReferenceIdeal := hUpFReferenceIdeal)
    ∧ preserves_CInFKernel_CInFKernelIdeal
    ∧ algebraic_CInFKernelIdeal_CInFReferenceIdeal (hCInFKernelIdeal := hCInFKernelIdeal) (hCInFReferenceIdeal := hCInFReferenceIdeal)
    ∧ preserves_AbOutFKernel_AbOutFKernelIdeal
    ∧ algebraic_AbOutFKernelIdeal_AbOutFReferenceIdeal (hAbOutFKernelIdeal := hAbOutFKernelIdeal) (hAbOutFReferenceIdeal := hAbOutFReferenceIdeal)
    ∧ preserves_COutFKernel_COutFKernelIdeal
    ∧ algebraic_COutFKernelIdeal_COutFReferenceIdeal (hCOutFKernelIdeal := hCOutFKernelIdeal) (hCOutFReferenceIdeal := hCOutFReferenceIdeal)
    ∧ preserves_DownFKernel_DownFKernelIdeal
    ∧ algebraic_DownFKernelIdeal_DownFReferenceIdeal (hDownFKernelIdeal := hDownFKernelIdeal) (hDownFReferenceIdeal := hDownFReferenceIdeal)
    ∧ preserves_AdamAbInKernel_AdamAbInKernelIdeal
    ∧ algebraic_AdamAbInKernelIdeal_AdamAbInReferenceIdeal (hAdamAbInKernelIdeal := hAdamAbInKernelIdeal) (hAdamAbInReferenceIdeal := hAdamAbInReferenceIdeal)
    ∧ preserves_AdamAbOutKernel_AdamAbOutKernelIdeal
    ∧ algebraic_AdamAbOutKernelIdeal_AdamAbOutReferenceIdeal (hAdamAbOutKernelIdeal := hAdamAbOutKernelIdeal) (hAdamAbOutReferenceIdeal := hAdamAbOutReferenceIdeal)
    ∧ preserves_AdamCInKernel_AdamCInKernelIdeal
    ∧ algebraic_AdamCInKernelIdeal_AdamCInReferenceIdeal (hAdamCInKernelIdeal := hAdamCInKernelIdeal) (hAdamCInReferenceIdeal := hAdamCInReferenceIdeal)
    ∧ preserves_AdamUpKernel_AdamUpKernelIdeal
    ∧ algebraic_AdamUpKernelIdeal_AdamUpReferenceIdeal (hAdamUpKernelIdeal := hAdamUpKernelIdeal) (hAdamUpReferenceIdeal := hAdamUpReferenceIdeal)
    ∧ preserves_AdamDownKernel_AdamDownKernelIdeal
    ∧ algebraic_AdamDownKernelIdeal_AdamDownReferenceIdeal (hAdamDownKernelIdeal := hAdamDownKernelIdeal) (hAdamDownReferenceIdeal := hAdamDownReferenceIdeal)
    ∧ preserves_MixFKernel_MixFKernelIdeal
    ∧ algebraic_MixFKernelIdeal_MixFReferenceIdeal (hMixFKernelIdeal := hMixFKernelIdeal) (hMixFReferenceIdeal := hMixFReferenceIdeal)
    ∧ preserves_SmallKernel_SmallKernelIdeal
    ∧ algebraic_SmallKernelIdeal_SmallReferenceIdeal (hSmallKernelIdeal := hSmallKernelIdeal) (hSmallReferenceIdeal := hSmallReferenceIdeal)
    ∧ preserves_ActKernel_ActKernelIdeal
    ∧ algebraic_ActKernelIdeal_ActReferenceIdeal (hActKernelIdeal := hActKernelIdeal) (hActReferenceIdeal := hActReferenceIdeal)
-- ==== Kernel.lean ====
abbrev S4096x3072 : Shape := ⟨2, ![4096, 3072]⟩
abbrev S4096x1024 : Shape := ⟨2, ![4096, 1024]⟩
abbrev S1x3x1024 : Shape := ⟨3, ![1, 3, 1024]⟩
abbrev S3x1024 : Shape := ⟨2, ![3, 1024]⟩
abbrev S256x1024 : Shape := ⟨2, ![256, 1024]⟩
abbrev S16x1024 : Shape := ⟨2, ![16, 1024]⟩
abbrev S256x3072 : Shape := ⟨2, ![256, 3072]⟩
abbrev S256x256 : Shape := ⟨2, ![256, 256]⟩
abbrev S16x256 : Shape := ⟨2, ![16, 256]⟩
abbrev S272x256 : Shape := ⟨2, ![272, 256]⟩
abbrev S1x1x256 : Shape := ⟨3, ![1, 1, 256]⟩
abbrev S1x256 : Shape := ⟨2, ![1, 256]⟩
abbrev S256 : Shape := ⟨1, ![256]⟩

abbrev nBuf : Space → Nat
  | .hbm => 5
  | .vmem => 20
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S1x3x1024, .f32⟩
  | .hbm, ⟨3, _⟩ => ⟨S4096x3072, .bf16⟩
  | .hbm, ⟨4, _⟩ => ⟨S3x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S256x1024, .bf16⟩
  | .local _ .vmem, ⟨13, _⟩ => ⟨S256x1024, .bf16⟩
  | .local _ .vmem, ⟨14, _⟩ => ⟨S16x1024, .bf16⟩
  | .local _ .vmem, ⟨15, _⟩ => ⟨S16x1024, .bf16⟩
  | .local _ .vmem, ⟨16, _⟩ => ⟨S1x3x1024, .f32⟩
  | .local _ .vmem, ⟨17, _⟩ => ⟨S256x3072, .bf16⟩
  | .local _ .vmem, ⟨18, _⟩ => ⟨S256x3072, .bf16⟩
  | .local _ .vmem, ⟨19, _⟩ => ⟨S3x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x3072 : Shape := ⟨2, ![4096, 3072]⟩
abbrev S4096x1024 : Shape := ⟨2, ![4096, 1024]⟩
abbrev S1x3x1024 : Shape := ⟨3, ![1, 3, 1024]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S1x3x1024, .f32⟩
  | .hbm, ⟨3, _⟩ => ⟨S4096x3072, .f32⟩
  | .hbm, ⟨4, _⟩ => ⟨S3x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S2x1024, .f32⟩
  | .hbm, ⟨11, _⟩ => ⟨S4098x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S_, .f32⟩
  | .hbm, ⟨50, _⟩ => ⟨S4098x1024, .f32⟩
  | .hbm, ⟨51, _⟩ => ⟨S1x1024, .f32⟩
  | .hbm, ⟨52, _⟩ => ⟨S_, .f32⟩
  | .hbm, ⟨53, _⟩ => ⟨S3x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S4098x1024, .f32⟩
  | .hbm, ⟨64, _⟩ => ⟨S4098x1024, .f32⟩
  | .hbm, ⟨65, _⟩ => ⟨S1x1024, .f32⟩
  | .hbm, ⟨66, _⟩ => ⟨S_, .f32⟩
  | .hbm, ⟨67, _⟩ => ⟨S3x1024, .f32⟩
  | .hbm, ⟨68, _⟩ => ⟨S3x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S4098x1024, .f32⟩
  | .hbm, ⟨79, _⟩ => ⟨S4098x1024, .f32⟩
  | .hbm, ⟨80, _⟩ => ⟨S1x1024, .f32⟩
  | .hbm, ⟨81, _⟩ => ⟨S_, .f32⟩
  | .hbm, ⟨82, _⟩ => ⟨S3x1024, .f32⟩
  | .hbm, ⟨83, _⟩ => ⟨S3x1024, .f32⟩
  | .hbm, ⟨84, _⟩ => ⟨S2x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x3072, .f32⟩
  | .hbm, ⟨89, _⟩ => ⟨S4096x3072, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== UpDwKernel.lean ====
abbrev S4096x1024 : Shape := ⟨2, ![4096, 1024]⟩
abbrev S4096x5632 : Shape := ⟨2, ![4096, 5632]⟩
abbrev S4x1024x1408 : Shape := ⟨3, ![4, 1024, 1408]⟩
abbrev S2048x512 : Shape := ⟨2, ![2048, 512]⟩
abbrev S2048x2816 : Shape := ⟨2, ![2048, 2816]⟩
abbrev S2x512x1408 : Shape := ⟨3, ![2, 512, 1408]⟩
abbrev S512x2816 : Shape := ⟨2, ![512, 2816]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S2048x512, .bf16⟩
  | .local _ .vmem, ⟨1, _⟩ => ⟨S2048x512, .bf16⟩
  | .local _ .vmem, ⟨2, _⟩ => ⟨S2048x2816, .bf16⟩
  | .local _ .vmem, ⟨3, _⟩ => ⟨S2048x2816, .bf16⟩
  | .local _ .vmem, ⟨4, _⟩ => ⟨S2x512x1408, .f32⟩
  | .local _ .vmem, ⟨5, _⟩ => ⟨S2x512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S4096x1024 : Shape := ⟨2, ![4096, 1024]⟩
abbrev S4096x5632 : Shape := ⟨2, ![4096, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S_, .f32⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S4096x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== UpDxAKernel.lean ====
abbrev S4096x5632 : Shape := ⟨2, ![4096, 5632]⟩
abbrev S1x2x1024x2816 : Shape := ⟨4, ![1, 2, 1024, 2816]⟩
abbrev S4096x1024 : Shape := ⟨2, ![4096, 1024]⟩
abbrev S2x1x1024 : Shape := ⟨3, ![2, 1, 1024]⟩
abbrev S1x1024 : Shape := ⟨2, ![1, 1024]⟩
abbrev S512x5632 : Shape := ⟨2, ![512, 5632]⟩
abbrev S512x1024 : Shape := ⟨2, ![512, 1024]⟩
abbrev S1x1x1024 : Shape := ⟨3, ![1, 1, 1024]⟩
abbrev S512x2816 : Shape := ⟨2, ![512, 2816]⟩
abbrev S1x1x1024x2816 : Shape := ⟨4, ![1, 1, 1024, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S1x2x1024x2816, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1x2x1024x2816, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== UpDxAReferenceIdeal.lean ====
abbrev S4096x5632 : Shape := ⟨2, ![4096, 5632]⟩
abbrev S1x2x1024x2816 : Shape := ⟨4, ![1, 2, 1024, 2816]⟩
abbrev S4096x1024 : Shape := ⟨2, ![4096, 1024]⟩
abbrev S2x1x1024 : Shape := ⟨3, ![2, 1, 1024]⟩
abbrev S1x1x1024 : Shape := ⟨3, ![1, 1, 1024]⟩
abbrev S1x1024 : Shape := ⟨2, ![1, 1024]⟩
abbrev S2x1024x2816 : Shape := ⟨3, ![2, 1024, 2816]⟩
abbrev S1024x2x2816 : Shape := ⟨3, ![1024, 2, 2816]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x2x1024x2816, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S1x1x1024, .f32⟩
  | .hbm, ⟨6, _⟩ => ⟨S1x1024, .f32⟩
  | .hbm, ⟨7, _⟩ => ⟨S2x1024x2816, .bf16⟩
  | .hbm, ⟨8, _⟩ => ⟨S2x1024x2816, .f32⟩
  | .hbm, ⟨9, _⟩ => ⟨S1024x2x2816, .f32⟩
  | .hbm, ⟨10, _⟩ => ⟨S1024x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x5632, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== UpDxBKernel.lean ====
abbrev S4096x5632 : Shape := ⟨2, ![4096, 5632]⟩
abbrev S1x2x1024x2816 : Shape := ⟨4, ![1, 2, 1024, 2816]⟩
abbrev S4096x1024 : Shape := ⟨2, ![4096, 1024]⟩
abbrev S2x1x1024 : Shape := ⟨3, ![2, 1, 1024]⟩
abbrev S1x1024 : Shape := ⟨2, ![1, 1024]⟩
abbrev S512x5632 : Shape := ⟨2, ![512, 5632]⟩
abbrev S512x1024 : Shape := ⟨2, ![512, 1024]⟩
abbrev S1x1x1024 : Shape := ⟨3, ![1, 1, 1024]⟩
abbrev S512x2816 : Shape := ⟨2, ![512, 2816]⟩
abbrev S1x1x1024x2816 : Shape := ⟨4, ![1, 1, 1024, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S1x2x1024x2816, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1x2x1024x2816, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== UpDxBReferenceIdeal.lean ====
abbrev S4096x5632 : Shape := ⟨2, ![4096, 5632]⟩
abbrev S1x2x1024x2816 : Shape := ⟨4, ![1, 2, 1024, 2816]⟩
abbrev S4096x1024 : Shape := ⟨2, ![4096, 1024]⟩
abbrev S2x1x1024 : Shape := ⟨3, ![2, 1, 1024]⟩
abbrev S1x1x1024 : Shape := ⟨3, ![1, 1, 1024]⟩
abbrev S1x1024 : Shape := ⟨2, ![1, 1024]⟩
abbrev S2x1024x2816 : Shape := ⟨3, ![2, 1024, 2816]⟩
abbrev S1024x2x2816 : Shape := ⟨3, ![1024, 2, 2816]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x2x1024x2816, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S1x1x1024, .f32⟩
  | .hbm, ⟨6, _⟩ => ⟨S1x1024, .f32⟩
  | .hbm, ⟨7, _⟩ => ⟨S2x1024x2816, .bf16⟩
  | .hbm, ⟨8, _⟩ => ⟨S2x1024x2816, .f32⟩
  | .hbm, ⟨9, _⟩ => ⟨S1024x2x2816, .f32⟩
  | .hbm, ⟨10, _⟩ => ⟨S1024x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x5632, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== AbInDxKernel.lean ====
abbrev S4096x2048 : Shape := ⟨2, ![4096, 2048]⟩
abbrev S1x4x1024x512 : Shape := ⟨4, ![1, 4, 1024, 512]⟩
abbrev S4096x1024 : Shape := ⟨2, ![4096, 1024]⟩
abbrev S2x1x1024 : Shape := ⟨3, ![2, 1, 1024]⟩
abbrev S1x1024 : Shape := ⟨2, ![1, 1024]⟩
abbrev S512x2048 : Shape := ⟨2, ![512, 2048]⟩
abbrev S512x1024 : Shape := ⟨2, ![512, 1024]⟩
abbrev S1x1x1024 : Shape := ⟨3, ![1, 1, 1024]⟩
abbrev S512x512 : Shape := ⟨2, ![512, 512]⟩
abbrev S1x1x1024x512 : Shape := ⟨4, ![1, 1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S1x4x1024x512, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1x4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AbInDxReferenceIdeal.lean ====
abbrev S4096x2048 : Shape := ⟨2, ![4096, 2048]⟩
abbrev S1x4x1024x512 : Shape := ⟨4, ![1, 4, 1024, 512]⟩
abbrev S4096x1024 : Shape := ⟨2, ![4096, 1024]⟩
abbrev S2x1x1024 : Shape := ⟨3, ![2, 1, 1024]⟩
abbrev S1x1x1024 : Shape := ⟨3, ![1, 1, 1024]⟩
abbrev S1x1024 : Shape := ⟨2, ![1, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x4x1024x512, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S1x1x1024, .f32⟩
  | .hbm, ⟨6, _⟩ => ⟨S1x1024, .f32⟩
  | .hbm, ⟨7, _⟩ => ⟨S4x1024x512, .bf16⟩
  | .hbm, ⟨8, _⟩ => ⟨S4x1024x512, .f32⟩
  | .hbm, ⟨9, _⟩ => ⟨S1024x4x512, .f32⟩
  | .hbm, ⟨10, _⟩ => ⟨S1024x2048, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x2048, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== CInDxKernel.lean ====
abbrev S4096x3072 : Shape := ⟨2, ![4096, 3072]⟩
abbrev S1x4x1024x768 : Shape := ⟨4, ![1, 4, 1024, 768]⟩
abbrev S4096x1024 : Shape := ⟨2, ![4096, 1024]⟩
abbrev S2x1x1024 : Shape := ⟨3, ![2, 1, 1024]⟩
abbrev S1x1024 : Shape := ⟨2, ![1, 1024]⟩
abbrev S512x3072 : Shape := ⟨2, ![512, 3072]⟩
abbrev S512x1024 : Shape := ⟨2, ![512, 1024]⟩
abbrev S1x1x1024 : Shape := ⟨3, ![1, 1, 1024]⟩
abbrev S512x768 : Shape := ⟨2, ![512, 768]⟩
abbrev S1x1x1024x768 : Shape := ⟨4, ![1, 1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S1x4x1024x768, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1x4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CInDxReferenceIdeal.lean ====
abbrev S4096x3072 : Shape := ⟨2, ![4096, 3072]⟩
abbrev S1x4x1024x768 : Shape := ⟨4, ![1, 4, 1024, 768]⟩
abbrev S4096x1024 : Shape := ⟨2, ![4096, 1024]⟩
abbrev S2x1x1024 : Shape := ⟨3, ![2, 1, 1024]⟩
abbrev S1x1x1024 : Shape := ⟨3, ![1, 1, 1024]⟩
abbrev S1x1024 : Shape := ⟨2, ![1, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1x4x1024x768, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S1x1x1024, .f32⟩
  | .hbm, ⟨6, _⟩ => ⟨S1x1024, .f32⟩
  | .hbm, ⟨7, _⟩ => ⟨S4x1024x768, .bf16⟩
  | .hbm, ⟨8, _⟩ => ⟨S4x1024x768, .f32⟩
  | .hbm, ⟨9, _⟩ => ⟨S1024x4x768, .f32⟩
  | .hbm, ⟨10, _⟩ => ⟨S1024x3072, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x3072, .f32⟩
  | .hbm, ⟨31, _⟩ => ⟨S4096x3072, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== DownDwKernel.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDxKernel.lean ====
abbrev S4096x1024 : Shape := ⟨2, ![4096, 1024]⟩
abbrev S1x2816x1024 : Shape := ⟨3, ![1, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxReferenceIdeal.lean ====
abbrev S4096x1024 : Shape := ⟨2, ![4096, 1024]⟩
abbrev S1x2816x1024 : Shape := ⟨3, ![1, 2816, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S2816x1024, .bf16⟩
  | .hbm, ⟨3, _⟩ => ⟨S2816x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CInDwKernel.lean ====
abbrev S4096x1024 : Shape := ⟨2, ![4096, 1024]⟩
abbrev S4096x3072 : Shape := ⟨2, ![4096, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInDwReferenceIdeal.lean ====
abbrev S4096x1024 : Shape := ⟨2, ![4096, 1024]⟩
abbrev S4096x3072 : Shape := ⟨2, ![4096, 3072]⟩
abbrev S_ : Shape := ⟨0, ![]⟩
abbrev S4x1024x768 : Shape := ⟨3, ![4, 1024, 768]⟩
abbrev S1024x4x768 : Shape := ⟨3, ![1024, 4, 768]⟩
abbrev S1024x3072 : Shape := ⟨2, ![1024, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S_, .f32⟩
  | .hbm, ⟨4, _⟩ => ⟨S4x1024x768, .f32⟩
  | .hbm, ⟨5, _⟩ => ⟨S1024x4x768, .f32⟩
  | .hbm, ⟨6, _⟩ => ⟨S1024x3072, .f32⟩
  | .hbm, ⟨7, _⟩ => ⟨S4096x3072, .f32⟩
  | .hbm, ⟨8, _⟩ => ⟨S4096x3072, .f32⟩
  | .hbm, ⟨9, _⟩ => ⟨S3072x1024, .f32⟩
  | .hbm, ⟨10, _⟩ => ⟨S1024x3072, .f32⟩
  | .hbm, ⟨11, _⟩ => ⟨S1024x4x768, .f32⟩
  | .hbm, ⟨12, _⟩ => ⟨S4x1024x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AbInDwKernel.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDwReferenceIdeal.lean ====
abbrev S4096x1024 : Shape := ⟨2, ![4096, 1024]⟩
abbrev S4096x2048 : Shape := ⟨2, ![4096, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S_, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x4x512, .f32⟩
  | .hbm, ⟨12, _⟩ => ⟨S4x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutDwKernel.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDxKernel.lean ====
abbrev S4096x1024 : Shape := ⟨2, ![4096, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x512, .bf16⟩
  | .local _ .vmem, ⟨5, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxReferenceIdeal.lean ====
abbrev S4096x1024 : Shape := ⟨2, ![4096, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpFKernel.lean ====
abbrev S4096x1024 : Shape := ⟨2, ![4096, 1024]⟩
abbrev S1x2x1024x2816 : Shape := ⟨4, ![1, 2, 1024, 2816]⟩
abbrev S4096x5632 : Shape := ⟨2, ![4096, 5632]⟩
abbrev S1024x1024 : Shape := ⟨2, ![1024, 1024]⟩
abbrev S1x1x1024x2816 : Shape := ⟨4, ![1, 1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x2x1024x2816, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1024x2816, .bf16⟩
  | .local _ .vmem, ⟨5, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpFReferenceIdeal.lean ====
abbrev S4096x1024 : Shape := ⟨2, ![4096, 1024]⟩
abbrev S1x2x1024x2816 : Shape := ⟨4, ![1, 2, 1024, 2816]⟩
abbrev S2x1024x2816 : Shape := ⟨3, ![2, 1024, 2816]⟩
abbrev S1024x2x2816 : Shape := ⟨3, ![1024, 2, 2816]⟩
abbrev S1024x5632 : Shape := ⟨2, ![1024, 5632]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x2x1024x2816, .bf16⟩
  | .hbm, ⟨2, _⟩ => ⟨S4096x1024, .f32⟩
  | .hbm, ⟨3, _⟩ => ⟨S2x1024x2816, .bf16⟩
  | .hbm, ⟨4, _⟩ => ⟨S2x1024x2816, .f32⟩
  | .hbm, ⟨5, _⟩ => ⟨S1024x2x2816, .f32⟩
  | .hbm, ⟨6, _⟩ => ⟨S1024x5632, .f32⟩
  | .hbm, ⟨7, _⟩ => ⟨S4096x5632, .f32⟩
  | .hbm, ⟨8, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== CInFKernel.lean ====
abbrev S4096x1024 : Shape := ⟨2, ![4096, 1024]⟩
abbrev S1x4x1024x768 : Shape := ⟨4, ![1, 4, 1024, 768]⟩
abbrev S4096x3072 : Shape := ⟨2, ![4096, 3072]⟩
abbrev S1024x1024 : Shape := ⟨2, ![1024, 1024]⟩
abbrev S1x1x1024x768 : Shape := ⟨4, ![1, 1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1x4x1024x768, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x768, .bf16⟩
  | .local _ .vmem, ⟨3, _⟩ => ⟨S1x1x1024x768, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CInFReferenceIdeal.lean ====
abbrev S4096x1024 : Shape := ⟨2, ![4096, 1024]⟩
abbrev S1x4x1024x768 : Shape := ⟨4, ![1, 4, 1024, 768]⟩
abbrev S4x1024x768 : Shape := ⟨3, ![4, 1024, 768]⟩
abbrev S1024x4x768 : Shape := ⟨3, ![1024, 4, 768]⟩
abbrev S1024x3072 : Shape := ⟨2, ![1024, 3072]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x4x1024x768, .bf16⟩
  | .hbm, ⟨2, _⟩ => ⟨S4096x1024, .f32⟩
  | .hbm, ⟨3, _⟩ => ⟨S4x1024x768, .bf16⟩
  | .hbm, ⟨4, _⟩ => ⟨S4x1024x768, .f32⟩
  | .hbm, ⟨5, _⟩ => ⟨S1024x4x768, .f32⟩
  | .hbm, ⟨6, _⟩ => ⟨S1024x3072, .f32⟩
  | .hbm, ⟨7, _⟩ => ⟨S4096x3072, .f32⟩
  | .hbm, ⟨8, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AbOutFKernel.lean ====
abbrev S4096x1024 : Shape := ⟨2, ![4096, 1024]⟩
abbrev S1x1024x1024 : Shape := ⟨3, ![1, 1024, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AbOutFReferenceIdeal.lean ====
abbrev S4096x1024 : Shape := ⟨2, ![4096, 1024]⟩
abbrev S1x1024x1024 : Shape := ⟨3, ![1, 1024, 1024]⟩
abbrev S2x1x1024 : Shape := ⟨3, ![2, 1, 1024]⟩
abbrev S1x1x1024 : Shape := ⟨3, ![1, 1, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S2x1x1024, .f32⟩
  | .hbm, ⟨4, _⟩ => ⟨S1x1x1024, .f32⟩
  | .hbm, ⟨5, _⟩ => ⟨S1x1024, .f32⟩
  | .hbm, ⟨6, _⟩ => ⟨S4096x1024, .f32⟩
  | .hbm, ⟨7, _⟩ => ⟨S1024x1024, .bf16⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== COutFKernel.lean ====
abbrev S4096x1024 : Shape := ⟨2, ![4096, 1024]⟩
abbrev S1x1024x1024 : Shape := ⟨3, ![1, 1024, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== COutFReferenceIdeal.lean ====
abbrev S4096x1024 : Shape := ⟨2, ![4096, 1024]⟩
abbrev S1x1024x1024 : Shape := ⟨3, ![1, 1024, 1024]⟩
abbrev S2x1x1024 : Shape := ⟨3, ![2, 1, 1024]⟩
abbrev S1x1x1024 : Shape := ⟨3, ![1, 1, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x1024, .bf16⟩
  | .hbm, ⟨2, _⟩ => ⟨S4096x1024, .f32⟩
  | .hbm, ⟨3, _⟩ => ⟨S2x1x1024, .f32⟩
  | .hbm, ⟨4, _⟩ => ⟨S1x1x1024, .f32⟩
  | .hbm, ⟨5, _⟩ => ⟨S1x1024, .f32⟩
  | .hbm, ⟨6, _⟩ => ⟨S4096x1024, .f32⟩
  | .hbm, ⟨7, _⟩ => ⟨S1024x1024, .bf16⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DownFKernel.lean ====
abbrev S4096x2816 : Shape := ⟨2, ![4096, 2816]⟩
abbrev S1x2816x1024 : Shape := ⟨3, ![1, 2816, 1024]⟩
abbrev S4096x1024 : Shape := ⟨2, ![4096, 1024]⟩
abbrev S2x1x1024 : Shape := ⟨3, ![2, 1, 1024]⟩
abbrev S1024x2816 : Shape := ⟨2, ![1024, 2816]⟩
abbrev S1024x1024 : Shape := ⟨2, ![1024, 1024]⟩
abbrev S1x1x1024 : Shape := ⟨3, ![1, 1, 1024]⟩
abbrev S2816x1024 : Shape := ⟨2, ![2816, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownFReferenceIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S2x1x1024 : Shape := ⟨3, ![2, 1, 1024]⟩
abbrev S1x1x1024 : Shape := ⟨3, ![1, 1, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S2x1x1024, .f32⟩
  | .hbm, ⟨4, _⟩ => ⟨S1x1x1024, .f32⟩
  | .hbm, ⟨5, _⟩ => ⟨S1x1024, .f32⟩
  | .hbm, ⟨6, _⟩ => ⟨S4096x2816, .f32⟩
  | .hbm, ⟨7, _⟩ => ⟨S2816x1024, .bf16⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== AdamAbInKernel.lean ====
abbrev S1x1024x512 : Shape := ⟨3, ![1, 1024, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamAbInKernelIdeal.lean ====
abbrev S1x1024x512 : Shape := ⟨3, ![1, 1024, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamAbInReferenceIdeal.lean ====
abbrev S1x1024x512 : Shape := ⟨3, ![1, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAbOutKernel.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamAbOutKernelIdeal.lean ====
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamAbOutReferenceIdeal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCInKernel.lean ====
abbrev S1x1024x768 : Shape := ⟨3, ![1, 1024, 768]⟩
abbrev S1024x768 : Shape := ⟨2, ![1024, 768]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamCInKernelIdeal.lean ====
abbrev S1x1024x768 : Shape := ⟨3, ![1, 1024, 768]⟩
abbrev S1024x768 : Shape := ⟨2, ![1024, 768]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamCInReferenceIdeal.lean ====
abbrev S1x1024x768 : Shape := ⟨3, ![1, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUpKernel.lean ====
abbrev S2x1024x1408 : Shape := ⟨3, ![2, 1024, 1408]⟩
abbrev S1x512x1408 : Shape := ⟨3, ![1, 512, 1408]⟩
abbrev S512x1408 : Shape := ⟨2, ![512, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | .local _ .vmem, ⟨14, _⟩ => ⟨S1x512x1408, .f32⟩
  | .local _ .vmem, ⟨15, _⟩ => ⟨S1x512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpKernelIdeal.lean ====
abbrev S2x1024x1408 : Shape := ⟨3, ![2, 1024, 1408]⟩
abbrev S1x512x1408 : Shape := ⟨3, ![1, 512, 1408]⟩
abbrev S512x1408 : Shape := ⟨2, ![512, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | .local _ .vmem, ⟨14, _⟩ => ⟨S1x512x1408, .f32⟩
  | .local _ .vmem, ⟨15, _⟩ => ⟨S1x512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpReferenceIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDownKernel.lean ====
abbrev S2x704x1024 : Shape := ⟨3, ![2, 704, 1024]⟩
abbrev S1x704x1024 : Shape := ⟨3, ![1, 704, 1024]⟩
abbrev S704x1024 : Shape := ⟨2, ![704, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .local _ .vmem, ⟨0, _⟩ => ⟨S1x704x1024, .f32⟩
  | .local _ .vmem, ⟨1, _⟩ => ⟨S1x704x1024, .f32⟩
  | .local _ .vmem, ⟨2, _⟩ => ⟨S1x704x1024, .f32⟩
  | .local _ .vmem, ⟨3, _⟩ => ⟨S1x704x1024, .f32⟩
  | .local _ .vmem, ⟨4, _⟩ => ⟨S1x704x1024, .f32⟩
  | .local _ .vmem, ⟨5, _⟩ => ⟨S1x704x1024, .f32⟩
  | .local _ .vmem, ⟨6, _⟩ => ⟨S1x704x1024, .f32⟩
  | .local _ .vmem, ⟨7, _⟩ => ⟨S1x704x1024, .f32⟩
  | .local _ .vmem, ⟨8, _⟩ => ⟨S1x704x1024, .f32⟩
  | .local _ .vmem, ⟨9, _⟩ => ⟨S1x704x1024, .f32⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownReferenceIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MixFKernel.lean ====
abbrev S4096x3072 : Shape := ⟨2, ![4096, 3072]⟩
abbrev S1x3x1024 : Shape := ⟨3, ![1, 3, 1024]⟩
abbrev S4096x1024 : Shape := ⟨2, ![4096, 1024]⟩
abbrev S256x1024 : Shape := ⟨2, ![256, 1024]⟩
abbrev S16x1024 : Shape := ⟨2, ![16, 1024]⟩
abbrev S16x256 : Shape := ⟨2, ![16, 256]⟩
abbrev S256x256 : Shape := ⟨2, ![256, 256]⟩
abbrev S272x256 : Shape := ⟨2, ![272, 256]⟩
abbrev S1x1x256 : Shape := ⟨3, ![1, 1, 256]⟩
abbrev S1x256 : Shape := ⟨2, ![1, 256]⟩

abbrev nBuf : Space → Nat
  | .hbm => 3
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S1x3x1024, .f32⟩
  | .hbm, ⟨2, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S1x3x1024, .f32⟩
  | .local _ .vmem, ⟨11, _⟩ => ⟨S256x1024, .bf16⟩
  | .local _ .vmem, ⟨12, _⟩ => ⟨S256x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFReferenceIdeal.lean ====
abbrev S4096x3072 : Shape := ⟨2, ![4096, 3072]⟩
abbrev S1x3x1024 : Shape := ⟨3, ![1, 3, 1024]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1x3x1024, .f32⟩
  | .hbm, ⟨2, _⟩ => ⟨S4096x3072, .f32⟩
  | .hbm, ⟨3, _⟩ => ⟨S3x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S1x1024, .f32⟩
  | .hbm, ⟨12, _⟩ => ⟨S1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== SmallKernel.lean ====
abbrev S2x1024 : Shape := ⟨2, ![2, 1024]⟩
abbrev S1024 : Shape := ⟨1, ![1024]⟩
abbrev S1x512 : Shape := ⟨2, ![1, 512]⟩
abbrev S1x4x128x128 : Shape := ⟨4, ![1, 4, 128, 128]⟩
abbrev S1x4x128 : Shape := ⟨3, ![1, 4, 128]⟩
abbrev S1x31x128 : Shape := ⟨3, ![1, 31, 128]⟩
abbrev S1x3x256 : Shape := ⟨3, ![1, 3, 256]⟩
abbrev S2x3x1408 : Shape := ⟨3, ![2, 3, 1408]⟩
abbrev S2048 : Shape := ⟨1, ![2048]⟩
abbrev S_ : Shape := ⟨0, ![]⟩
abbrev S512 : Shape := ⟨1, ![512]⟩
abbrev S65536 : Shape := ⟨1, ![65536]⟩
abbrev S3968 : Shape := ⟨1, ![3968]⟩
abbrev S4096 : Shape := ⟨1, ![4096]⟩
abbrev S768 : Shape := ⟨1, ![768]⟩
abbrev S8448 : Shape := ⟨1, ![8448]⟩
abbrev S9216 : Shape := ⟨1, ![9216]⟩
abbrev S92160 : Shape := ⟨1, ![92160]⟩
abbrev S720x128 : Shape := ⟨2, ![720, 128]⟩
abbrev S1x720x128 : Shape := ⟨3, ![1, 720, 128]⟩

abbrev nBuf : Space → Nat
  | .hbm => 358
  | .vmem => 8
  | .smem => 0
  | _ => 0

abbrev hbmTy0_0 (i : Nat) : BufTy := match i % 128 with
  | 0 => ⟨S2x1024, .f32⟩
  | 1 => ⟨S2x1024, .f32⟩
  | 2 => ⟨S1024, .f32⟩
  | 3 => ⟨S1x512, .f32⟩
  | 4 => ⟨S1x512, .f32⟩
  | 5 => ⟨S1x4x128x128, .f32⟩
  | 6 => ⟨S1x4x128, .f32⟩
  | 7 => ⟨S1x512, .f32⟩
  | 8 => ⟨S1x512, .f32⟩
  | 9 => ⟨S1x512, .f32⟩
  | 10 => ⟨S1x31x128, .f32⟩
  | 11 => ⟨S1x3x256, .f32⟩
  | 12 => ⟨S2x3x1408, .f32⟩
  | 13 => ⟨S2x1024, .f32⟩
  | 14 => ⟨S2x1024, .f32⟩
  | 15 => ⟨S1024, .f32⟩
  | 16 => ⟨S1x512, .f32⟩
  | 17 => ⟨S1x512, .f32⟩
  | 18 => ⟨S1x4x128x128, .f32⟩
  | 19 => ⟨S1x4x128, .f32⟩
  | 20 => ⟨S1x512, .f32⟩
  | 21 => ⟨S1x512, .f32⟩
  | 22 => ⟨S1x512, .f32⟩
  | 23 => ⟨S1x31x128, .f32⟩
  | 24 => ⟨S1x3x256, .f32⟩
  | 25 => ⟨S2x3x1408, .f32⟩
  | 26 => ⟨S2x1024, .f32⟩
  | 27 => ⟨S2x1024, .f32⟩
  | 28 => ⟨S1024, .f32⟩
  | 29 => ⟨S1x512, .f32⟩
  | 30 => ⟨S1x512, .f32⟩
  | 31 => ⟨S1x4x128x128, .f32⟩
  | 32 => ⟨S1x4x128, .f32⟩
  | 33 => ⟨S1x512, .f32⟩
  | 34 => ⟨S1x512, .f32⟩
  | 35 => ⟨S1x512, .f32⟩
  | 36 => ⟨S1x31x128, .f32⟩
  | 37 => ⟨S1x3x256, .f32⟩
  | 38 => ⟨S2x3x1408, .f32⟩
  | 39 => ⟨S2x1024, .f32⟩
  | 40 => ⟨S2x1024, .f32⟩
  | 41 => ⟨S1024, .f32⟩
  | 42 => ⟨S1x512, .f32⟩
  | 43 => ⟨S1x512, .f32⟩
  | 44 => ⟨S1x4x128x128, .f32⟩
  | 45 => ⟨S1x4x128, .f32⟩
  | 46 => ⟨S1x512, .f32⟩
  | 47 => ⟨S1x512, .f32⟩
  | 48 => ⟨S1x512, .f32⟩
  | 49 => ⟨S1x31x128, .f32⟩
  | 50 => ⟨S1x3x256, .f32⟩
  | 51 => ⟨S2x3x1408, .f32⟩
  | 52 => ⟨S2048, .f32⟩
  | 53 => ⟨S_, .i32⟩
  | 54 => ⟨S_, .f32⟩
  | 55 => ⟨S2048, .f32⟩
  | 56 => ⟨S2048, .f32⟩
  | 57 => ⟨S_, .i32⟩
  | 58 => ⟨S_, .f32⟩
  | 59 => ⟨S2048, .f32⟩
  | 60 => ⟨S_, .i32⟩
  | 61 => ⟨S_, .f32⟩
  | 62 => ⟨S1024, .f32⟩
  | 63 => ⟨S512, .f32⟩
  | 64 => ⟨S_, .i32⟩
  | 65 => ⟨S_, .f32⟩
  | 66 => ⟨S1024, .f32⟩
  | 67 => ⟨S512, .f32⟩
  | 68 => ⟨S_, .i32⟩
  | 69 => ⟨S_, .f32⟩
  | 70 => ⟨S1024, .f32⟩
  | 71 => ⟨S65536, .f32⟩
  | 72 => ⟨S_, .i32⟩
  | 73 => ⟨S_, .f32⟩
  | 74 => ⟨S65536, .f32⟩
  | 75 => ⟨S512, .f32⟩
  | 76 => ⟨S_, .i32⟩
  | 77 => ⟨S_, .f32⟩
  | 78 => ⟨S1024, .f32⟩
  | 79 => ⟨S512, .f32⟩
  | 80 => ⟨S_, .i32⟩
  | 81 => ⟨S_, .f32⟩
  | 82 => ⟨S1024, .f32⟩
  | 83 => ⟨S512, .f32⟩
  | 84 => ⟨S_, .i32⟩
  | 85 => ⟨S_, .f32⟩
  | 86 => ⟨S1024, .f32⟩
  | 87 => ⟨S512, .f32⟩
  | 88 => ⟨S_, .i32⟩
  | 89 => ⟨S_, .f32⟩
  | 90 => ⟨S1024, .f32⟩
  | 91 => ⟨S3968, .f32⟩
  | 92 => ⟨S_, .i32⟩
  | 93 => ⟨S_, .f32⟩
  | 94 => ⟨S4096, .f32⟩
  | 95 => ⟨S768, .f32⟩
  | 96 => ⟨S_, .i32⟩
  | 97 => ⟨S_, .f32⟩
  | 98 => ⟨S1024, .f32⟩
  | 99 => ⟨S8448, .f32⟩
  | 100 => ⟨S_, .i32⟩
  | 101 => ⟨S_, .f32⟩
  | 102 => ⟨S9216, .f32⟩
  | 103 => ⟨S_, .f32⟩
  | 104 => ⟨S1024, .f32⟩
  | 105 => ⟨S92160, .f32⟩
  | 106 => ⟨S720x128, .f32⟩
  | 107 => ⟨S2048, .f32⟩
  | 108 => ⟨S_, .i32⟩
  | 109 => ⟨S_, .f32⟩
  | 110 => ⟨S2048, .f32⟩
  | 111 => ⟨S2048, .f32⟩
  | 112 => ⟨S_, .i32⟩
  | 113 => ⟨S_, .f32⟩
  | 114 => ⟨S2048, .f32⟩
  | 115 => ⟨S_, .i32⟩
  | 116 => ⟨S_, .f32⟩
  | 117 => ⟨S1024, .f32⟩
  | 118 => ⟨S512, .f32⟩
  | 119 => ⟨S_, .i32⟩
  | 120 => ⟨S_, .f32⟩
  | 121 => ⟨S1024, .f32⟩
  | 122 => ⟨S512, .f32⟩
  | 123 => ⟨S_, .i32⟩
  | 124 => ⟨S_, .f32⟩
  | 125 => ⟨S1024, .f32⟩
  | 126 => ⟨S65536, .f32⟩
  | 127 => ⟨S_, .i32⟩
  | _ => ⟨S2x1024, .f32⟩

abbrev hbmTy0_1 (i : Nat) : BufTy := match i % 128 with
  | 0 => ⟨S_, .f32⟩
  | 1 => ⟨S65536, .f32⟩
  | 2 => ⟨S512, .f32⟩
  | 3 => ⟨S_, .i32⟩
  | 4 => ⟨S_, .f32⟩
  | 5 => ⟨S1024, .f32⟩
  | 6 => ⟨S512, .f32⟩
  | 7 => ⟨S_, .i32⟩
  | 8 => ⟨S_, .f32⟩
  | 9 => ⟨S1024, .f32⟩
  | 10 => ⟨S512, .f32⟩
  | 11 => ⟨S_, .i32⟩
  | 12 => ⟨S_, .f32⟩
  | 13 => ⟨S1024, .f32⟩
  | 14 => ⟨S512, .f32⟩
  | 15 => ⟨S_, .i32⟩
  | 16 => ⟨S_, .f32⟩
  | 17 => ⟨S1024, .f32⟩
  | 18 => ⟨S3968, .f32⟩
  | 19 => ⟨S_, .i32⟩
  | 20 => ⟨S_, .f32⟩
  | 21 => ⟨S4096, .f32⟩
  | 22 => ⟨S768, .f32⟩
  | 23 => ⟨S_, .i32⟩
  | 24 => ⟨S_, .f32⟩
  | 25 => ⟨S1024, .f32⟩
  | 26 => ⟨S8448, .f32⟩
  | 27 => ⟨S_, .i32⟩
  | 28 => ⟨S_, .f32⟩
  | 29 => ⟨S9216, .f32⟩
  | 30 => ⟨S_, .f32⟩
  | 31 => ⟨S1024, .f32⟩
  | 32 => ⟨S92160, .f32⟩
  | 33 => ⟨S720x128, .f32⟩
  | 34 => ⟨S2048, .f32⟩
  | 35 => ⟨S_, .i32⟩
  | 36 => ⟨S_, .f32⟩
  | 37 => ⟨S2048, .f32⟩
  | 38 => ⟨S2048, .f32⟩
  | 39 => ⟨S_, .i32⟩
  | 40 => ⟨S_, .f32⟩
  | 41 => ⟨S2048, .f32⟩
  | 42 => ⟨S_, .i32⟩
  | 43 => ⟨S_, .f32⟩
  | 44 => ⟨S1024, .f32⟩
  | 45 => ⟨S512, .f32⟩
  | 46 => ⟨S_, .i32⟩
  | 47 => ⟨S_, .f32⟩
  | 48 => ⟨S1024, .f32⟩
  | 49 => ⟨S512, .f32⟩
  | 50 => ⟨S_, .i32⟩
  | 51 => ⟨S_, .f32⟩
  | 52 => ⟨S1024, .f32⟩
  | 53 => ⟨S65536, .f32⟩
  | 54 => ⟨S_, .i32⟩
  | 55 => ⟨S_, .f32⟩
  | 56 => ⟨S65536, .f32⟩
  | 57 => ⟨S512, .f32⟩
  | 58 => ⟨S_, .i32⟩
  | 59 => ⟨S_, .f32⟩
  | 60 => ⟨S1024, .f32⟩
  | 61 => ⟨S512, .f32⟩
  | 62 => ⟨S_, .i32⟩
  | 63 => ⟨S_, .f32⟩
  | 64 => ⟨S1024, .f32⟩
  | 65 => ⟨S512, .f32⟩
  | 66 => ⟨S_, .i32⟩
  | 67 => ⟨S_, .f32⟩
  | 68 => ⟨S1024, .f32⟩
  | 69 => ⟨S512, .f32⟩
  | 70 => ⟨S_, .i32⟩
  | 71 => ⟨S_, .f32⟩
  | 72 => ⟨S1024, .f32⟩
  | 73 => ⟨S3968, .f32⟩
  | 74 => ⟨S_, .i32⟩
  | 75 => ⟨S_, .f32⟩
  | 76 => ⟨S4096, .f32⟩
  | 77 => ⟨S768, .f32⟩
  | 78 => ⟨S_, .i32⟩
  | 79 => ⟨S_, .f32⟩
  | 80 => ⟨S1024, .f32⟩
  | 81 => ⟨S8448, .f32⟩
  | 82 => ⟨S_, .i32⟩
  | 83 => ⟨S_, .f32⟩
  | 84 => ⟨S9216, .f32⟩
  | 85 => ⟨S_, .f32⟩
  | 86 => ⟨S1024, .f32⟩
  | 87 => ⟨S92160, .f32⟩
  | 88 => ⟨S720x128, .f32⟩
  | 89 => ⟨S2048, .f32⟩
  | 90 => ⟨S_, .i32⟩
  | 91 => ⟨S_, .f32⟩
  | 92 => ⟨S2048, .f32⟩
  | 93 => ⟨S2048, .f32⟩
  | 94 => ⟨S_, .i32⟩
  | 95 => ⟨S_, .f32⟩
  | 96 => ⟨S2048, .f32⟩
  | 97 => ⟨S_, .i32⟩
  | 98 => ⟨S_, .f32⟩
  | 99 => ⟨S1024, .f32⟩
  | 100 => ⟨S512, .f32⟩
  | 101 => ⟨S_, .i32⟩
  | 102 => ⟨S_, .f32⟩
  | 103 => ⟨S1024, .f32⟩
  | 104 => ⟨S512, .f32⟩
  | 105 => ⟨S_, .i32⟩
  | 106 => ⟨S_, .f32⟩
  | 107 => ⟨S1024, .f32⟩
  | 108 => ⟨S65536, .f32⟩
  | 109 => ⟨S_, .i32⟩
  | 110 => ⟨S_, .f32⟩
  | 111 => ⟨S65536, .f32⟩
  | 112 => ⟨S512, .f32⟩
  | 113 => ⟨S_, .i32⟩
  | 114 => ⟨S_, .f32⟩
  | 115 => ⟨S1024, .f32⟩
  | 116 => ⟨S512, .f32⟩
  | 117 => ⟨S_, .i32⟩
  | 118 => ⟨S_, .f32⟩
  | 119 => ⟨S1024, .f32⟩
  | 120 => ⟨S512, .f32⟩
  | 121 => ⟨S_, .i32⟩
  | 122 => ⟨S_, .f32⟩
  | 123 => ⟨S1024, .f32⟩
  | 124 => ⟨S512, .f32⟩
  | 125 => ⟨S_, .i32⟩
  | 126 => ⟨S_, .f32⟩
  | 127 => ⟨S1024, .f32⟩
  | _ => ⟨S2x1024, .f32⟩

abbrev hbmTy0_2 (i : Nat) : BufTy := match i % 128 with
  | 0 => ⟨S3968, .f32⟩
  | 1 => ⟨S_, .i32⟩
  | 2 => ⟨S_, .f32⟩
  | 3 => ⟨S4096, .f32⟩
  | 4 => ⟨S768, .f32⟩
  | 5 => ⟨S_, .i32⟩
  | 6 => ⟨S_, .f32⟩
  | 7 => ⟨S1024, .f32⟩
  | 8 => ⟨S8448, .f32⟩
  | 9 => ⟨S_, .i32⟩
  | 10 => ⟨S_, .f32⟩
  | 11 => ⟨S9216, .f32⟩
  | 12 => ⟨S_, .f32⟩
  | 13 => ⟨S1024, .f32⟩
  | 14 => ⟨S92160, .f32⟩
  | 15 => ⟨S720x128, .f32⟩
  | 16 => ⟨S1x720x128, .f32⟩
  | 17 => ⟨S1x720x128, .f32⟩
  | 18 => ⟨S1x720x128, .f32⟩
  | 19 => ⟨S1x720x128, .f32⟩
  | 20 => ⟨S1x720x128, .f32⟩
  | 21 => ⟨S1x720x128, .f32⟩
  | 22 => ⟨S1x720x128, .f32⟩
  | 23 => ⟨S1x720x128, .f32⟩
  | 24 => ⟨S92160, .f32⟩
  | 25 => ⟨S2048, .f32⟩
  | 26 => ⟨S2x1024, .f32⟩
  | 27 => ⟨S2048, .f32⟩
  | 28 => ⟨S2x1024, .f32⟩
  | 29 => ⟨S1024, .f32⟩
  | 30 => ⟨S512, .f32⟩
  | 31 => ⟨S1x512, .f32⟩
  | 32 => ⟨S512, .f32⟩
  | 33 => ⟨S1x512, .f32⟩
  | 34 => ⟨S65536, .f32⟩
  | 35 => ⟨S1x4x128x128, .f32⟩
  | 36 => ⟨S512, .f32⟩
  | 37 => ⟨S1x4x128, .f32⟩
  | 38 => ⟨S512, .f32⟩
  | 39 => ⟨S1x512, .f32⟩
  | 40 => ⟨S512, .f32⟩
  | 41 => ⟨S1x512, .f32⟩
  | 42 => ⟨S512, .f32⟩
  | 43 => ⟨S1x512, .f32⟩
  | 44 => ⟨S3968, .f32⟩
  | 45 => ⟨S1x31x128, .f32⟩
  | 46 => ⟨S768, .f32⟩
  | 47 => ⟨S1x3x256, .f32⟩
  | 48 => ⟨S8448, .f32⟩
  | 49 => ⟨S2x3x1408, .f32⟩
  | 50 => ⟨S92160, .f32⟩
  | 51 => ⟨S2048, .f32⟩
  | 52 => ⟨S2x1024, .f32⟩
  | 53 => ⟨S2048, .f32⟩
  | 54 => ⟨S2x1024, .f32⟩
  | 55 => ⟨S1024, .f32⟩
  | 56 => ⟨S512, .f32⟩
  | 57 => ⟨S1x512, .f32⟩
  | 58 => ⟨S512, .f32⟩
  | 59 => ⟨S1x512, .f32⟩
  | 60 => ⟨S65536, .f32⟩
  | 61 => ⟨S1x4x128x128, .f32⟩
  | 62 => ⟨S512, .f32⟩
  | 63 => ⟨S1x4x128, .f32⟩
  | 64 => ⟨S512, .f32⟩
  | 65 => ⟨S1x512, .f32⟩
  | 66 => ⟨S512, .f32⟩
  | 67 => ⟨S1x512, .f32⟩
  | 68 => ⟨S512, .f32⟩
  | 69 => ⟨S1x512, .f32⟩
  | 70 => ⟨S3968, .f32⟩
  | 71 => ⟨S1x31x128, .f32⟩
  | 72 => ⟨S768, .f32⟩
  | 73 => ⟨S1x3x256, .f32⟩
  | 74 => ⟨S8448, .f32⟩
  | 75 => ⟨S2x3x1408, .f32⟩
  | 76 => ⟨S92160, .f32⟩
  | 77 => ⟨S2048, .f32⟩
  | 78 => ⟨S2x1024, .f32⟩
  | 79 => ⟨S2048, .f32⟩
  | 80 => ⟨S2x1024, .f32⟩
  | 81 => ⟨S1024, .f32⟩
  | 82 => ⟨S512, .f32⟩
  | 83 => ⟨S1x512, .f32⟩
  | 84 => ⟨S512, .f32⟩
  | 85 => ⟨S1x512, .f32⟩
  | 86 => ⟨S65536, .f32⟩
  | 87 => ⟨S1x4x128x128, .f32⟩
  | 88 => ⟨S512, .f32⟩
  | 89 => ⟨S1x4x128, .f32⟩
  | 90 => ⟨S512, .f32⟩
  | 91 => ⟨S1x512, .f32⟩
  | 92 => ⟨S512, .f32⟩
  | 93 => ⟨S1x512, .f32⟩
  | 94 => ⟨S512, .f32⟩
  | 95 => ⟨S1x512, .f32⟩
  | 96 => ⟨S3968, .f32⟩
  | 97 => ⟨S1x31x128, .f32⟩
  | 98 => ⟨S768, .f32⟩
  | 99 => ⟨S1x3x256, .f32⟩
  | 100 => ⟨S8448, .f32⟩
  | 101 => ⟨S2x3x1408, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | .local _ .vmem, ⟨0, _⟩ => ⟨S1x720x128, .f32⟩
  | .local _ .vmem, ⟨1, _⟩ => ⟨S1x720x128, .f32⟩
  | .local _ .vmem, ⟨2, _⟩ => ⟨S1x720x128, .f32⟩
  | .local _ .vmem, ⟨3, _⟩ => ⟨S1x720x128, .f32⟩
  | .local _ .vmem, ⟨4, _⟩ => ⟨S1x720x128, .f32⟩
  | .local _ .vmem, ⟨5, _⟩ => ⟨S1x720x128, .f32⟩
  | .local _ .vmem, ⟨6, _⟩ => ⟨S1x720x128, .f32⟩
  | .local _ .vmem, ⟨7, _⟩ => ⟨S1x720x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_c : Ref sig .tc := ⟨.hbm, 53, rfl⟩
abbrev main_call0_v0 : Ref sig .tc := ⟨.hbm, 54, rfl⟩
abbrev main_v1 : Ref sig .tc := ⟨.hbm, 55, rfl⟩
abbrev main_v2 : Ref sig .tc := ⟨.hbm, 56, rfl⟩
abbrev main_c_0 : Ref sig .tc := ⟨.hbm, 57, rfl⟩
abbrev main_call1_v0 : Ref sig .tc := ⟨.hbm, 58, rfl⟩
abbrev main_v3 : Ref sig .tc := ⟨.hbm, 59, rfl⟩
abbrev main_c_1 : Ref sig .tc := ⟨.hbm, 60, rfl⟩
abbrev main_call2_v0 : Ref sig .tc := ⟨.hbm, 61, rfl⟩
abbrev main_v4 : Ref sig .tc := ⟨.hbm, 62, rfl⟩
abbrev main_v5 : Ref sig .tc := ⟨.hbm, 63, rfl⟩
abbrev main_c_2 : Ref sig .tc := ⟨.hbm, 64, rfl⟩
abbrev main_call3_v0 : Ref sig .tc := ⟨.hbm, 65, rfl⟩
abbrev main_v6 : Ref sig .tc := ⟨.hbm, 66, rfl⟩
abbrev main_v7 : Ref sig .tc := ⟨.hbm, 67, rfl⟩
abbrev main_c_3 : Ref sig .tc := ⟨.hbm, 68, rfl⟩
abbrev main_call4_v0 : Ref sig .tc := ⟨.hbm, 69, rfl⟩
abbrev main_v8 : Ref sig .tc := ⟨.hbm, 70, rfl⟩
abbrev main_v9 : Ref sig .tc := ⟨.hbm, 71, rfl⟩
abbrev main_c_4 : Ref sig .tc := ⟨.hbm, 72, rfl⟩
abbrev main_call5_v0 : Ref sig .tc := ⟨.hbm, 73, rfl⟩
abbrev main_v10 : Ref sig .tc := ⟨.hbm, 74, rfl⟩
abbrev main_v11 : Ref sig .tc := ⟨.hbm, 75, rfl⟩
abbrev main_c_5 : Ref sig .tc := ⟨.hbm, 76, rfl⟩
abbrev main_call6_v0 : Ref sig .tc := ⟨.hbm, 77, rfl⟩
abbrev main_v12 : Ref sig .tc := ⟨.hbm, 78, rfl⟩
abbrev main_v13 : Ref sig .tc := ⟨.hbm, 79, rfl⟩
abbrev main_c_6 : Ref sig .tc := ⟨.hbm, 80, rfl⟩
abbrev main_call7_v0 : Ref sig .tc := ⟨.hbm, 81, rfl⟩
abbrev main_v14 : Ref sig .tc := ⟨.hbm, 82, rfl⟩
abbrev main_v15 : Ref sig .tc := ⟨.hbm, 83, rfl⟩
abbrev main_c_7 : Ref sig .tc := ⟨.hbm, 84, rfl⟩
abbrev main_call8_v0 : Ref sig .tc := ⟨.hbm, 85, rfl⟩
abbrev main_v16 : Ref sig .tc := ⟨.hbm, 86, rfl⟩
abbrev main_v17 : Ref sig .tc := ⟨.hbm, 87, rfl⟩
abbrev main_c_8 : Ref sig .tc := ⟨.hbm, 88, rfl⟩
abbrev main_call9_v0 : Ref sig .tc := ⟨.hbm, 89, rfl⟩
abbrev main_v18 : Ref sig .tc := ⟨.hbm, 90, rfl⟩
abbrev main_v19 : Ref sig .tc := ⟨.hbm, 91, rfl⟩
abbrev main_c_9 : Ref sig .tc := ⟨.hbm, 92, rfl⟩
abbrev main_call10_v0 : Ref sig .tc := ⟨.hbm, 93, rfl⟩
abbrev main_v20 : Ref sig .tc := ⟨.hbm, 94, rfl⟩
abbrev main_v21 : Ref sig .tc := ⟨.hbm, 95, rfl⟩
abbrev main_c_10 : Ref sig .tc := ⟨.hbm, 96, rfl⟩
abbrev main_call11_v0 : Ref sig .tc := ⟨.hbm, 97, rfl⟩
abbrev main_v22 : Ref sig .tc := ⟨.hbm, 98, rfl⟩
abbrev main_v23 : Ref sig .tc := ⟨.hbm, 99, rfl⟩
abbrev main_c_11 : Ref sig .tc := ⟨.hbm, 100, rfl⟩
abbrev main_call12_v0 : Ref sig .tc := ⟨.hbm, 101, rfl⟩
abbrev main_v24 : Ref sig .tc := ⟨.hbm, 102, rfl⟩
abbrev main_cst : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_c_12 : Ref sig .tc := ⟨.hbm, 108, rfl⟩
abbrev main_call13_v0 : Ref sig .tc := ⟨.hbm, 109, rfl⟩
abbrev main_v29 : Ref sig .tc := ⟨.hbm, 110, rfl⟩
abbrev main_v30 : Ref sig .tc := ⟨.hbm, 111, rfl⟩
abbrev main_c_13 : Ref sig .tc := ⟨.hbm, 112, rfl⟩
abbrev main_call14_v0 : Ref sig .tc := ⟨.hbm, 113, rfl⟩
abbrev main_v31 : Ref sig .tc := ⟨.hbm, 114, rfl⟩
abbrev main_c_14 : Ref sig .tc := ⟨.hbm, 115, rfl⟩
abbrev main_call15_v0 : Ref sig .tc := ⟨.hbm, 116, rfl⟩
abbrev main_v32 : Ref sig .tc := ⟨.hbm, 117, rfl⟩
abbrev main_v33 : Ref sig .tc := ⟨.hbm, 118, rfl⟩
abbrev main_c_15 : Ref sig .tc := ⟨.hbm, 119, rfl⟩
abbrev main_call16_v0 : Ref sig .tc := ⟨.hbm, 120, rfl⟩
abbrev main_v34 : Ref sig .tc := ⟨.hbm, 121, rfl⟩
abbrev main_v35 : Ref sig .tc := ⟨.hbm, 122, rfl⟩
abbrev main_c_16 : Ref sig .tc := ⟨.hbm, 123, rfl⟩
abbrev main_call17_v0 : Ref sig .tc := ⟨.hbm, 124, rfl⟩
abbrev main_v36 : Ref sig .tc := ⟨.hbm, 125, rfl⟩
abbrev main_v37 : Ref sig .tc := ⟨.hbm, 126, rfl⟩
abbrev main_c_17 : Ref sig .tc := ⟨.hbm, 127, rfl⟩
abbrev main_call18_v0 : Ref sig .tc := ⟨.hbm, 128, rfl⟩
abbrev main_v38 : Ref sig .tc := ⟨.hbm, 129, rfl⟩
abbrev main_v39 : Ref sig .tc := ⟨.hbm, 130, rfl⟩
abbrev main_c_18 : Ref sig .tc := ⟨.hbm, 131, rfl⟩
abbrev main_call19_v0 : Ref sig .tc := ⟨.hbm, 132, rfl⟩
abbrev main_v40 : Ref sig .tc := ⟨.hbm, 133, rfl⟩
abbrev main_v41 : Ref sig .tc := ⟨.hbm, 134, rfl⟩
abbrev main_c_19 : Ref sig .tc := ⟨.hbm, 135, rfl⟩
abbrev main_call20_v0 : Ref sig .tc := ⟨.hbm, 136, rfl⟩
abbrev main_v42 : Ref sig .tc := ⟨.hbm, 137, rfl⟩
abbrev main_v43 : Ref sig .tc := ⟨.hbm, 138, rfl⟩
abbrev main_c_20 : Ref sig .tc := ⟨.hbm, 139, rfl⟩
abbrev main_call21_v0 : Ref sig .tc := ⟨.hbm, 140, rfl⟩
abbrev main_v44 : Ref sig .tc := ⟨.hbm, 141, rfl⟩
abbrev main_v45 : Ref sig .tc := ⟨.hbm, 142, rfl⟩
abbrev main_c_21 : Ref sig .tc := ⟨.hbm, 143, rfl⟩
abbrev main_call22_v0 : Ref sig .tc := ⟨.hbm, 144, rfl⟩
abbrev main_v46 : Ref sig .tc := ⟨.hbm, 145, rfl⟩
abbrev main_v47 : Ref sig .tc := ⟨.hbm, 146, rfl⟩
abbrev main_c_22 : Ref sig .tc := ⟨.hbm, 147, rfl⟩
abbrev main_call23_v0 : Ref sig .tc := ⟨.hbm, 148, rfl⟩
abbrev main_v48 : Ref sig .tc := ⟨.hbm, 149, rfl⟩
abbrev main_v49 : Ref sig .tc := ⟨.hbm, 150, rfl⟩
abbrev main_c_23 : Ref sig .tc := ⟨.hbm, 151, rfl⟩
abbrev main_call24_v0 : Ref sig .tc := ⟨.hbm, 152, rfl⟩
abbrev main_v50 : Ref sig .tc := ⟨.hbm, 153, rfl⟩
abbrev main_v51 : Ref sig .tc := ⟨.hbm, 154, rfl⟩
abbrev main_c_24 : Ref sig .tc := ⟨.hbm, 155, rfl⟩
abbrev main_call25_v0 : Ref sig .tc := ⟨.hbm, 156, rfl⟩
abbrev main_v52 : Ref sig .tc := ⟨.hbm, 157, rfl⟩
abbrev main_cst_25 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_c_26 : Ref sig .tc := ⟨.hbm, 163, rfl⟩
abbrev main_call26_v0 : Ref sig .tc := ⟨.hbm, 164, rfl⟩
abbrev main_v57 : Ref sig .tc := ⟨.hbm, 165, rfl⟩
abbrev main_v58 : Ref sig .tc := ⟨.hbm, 166, rfl⟩
abbrev main_c_27 : Ref sig .tc := ⟨.hbm, 167, rfl⟩
abbrev main_call27_v0 : Ref sig .tc := ⟨.hbm, 168, rfl⟩
abbrev main_v59 : Ref sig .tc := ⟨.hbm, 169, rfl⟩
abbrev main_c_28 : Ref sig .tc := ⟨.hbm, 170, rfl⟩
abbrev main_call28_v0 : Ref sig .tc := ⟨.hbm, 171, rfl⟩
abbrev main_v60 : Ref sig .tc := ⟨.hbm, 172, rfl⟩
abbrev main_v61 : Ref sig .tc := ⟨.hbm, 173, rfl⟩
abbrev main_c_29 : Ref sig .tc := ⟨.hbm, 174, rfl⟩
abbrev main_call29_v0 : Ref sig .tc := ⟨.hbm, 175, rfl⟩
abbrev main_v62 : Ref sig .tc := ⟨.hbm, 176, rfl⟩
abbrev main_v63 : Ref sig .tc := ⟨.hbm, 177, rfl⟩
abbrev main_c_30 : Ref sig .tc := ⟨.hbm, 178, rfl⟩
abbrev main_call30_v0 : Ref sig .tc := ⟨.hbm, 179, rfl⟩
abbrev main_v64 : Ref sig .tc := ⟨.hbm, 180, rfl⟩
abbrev main_v65 : Ref sig .tc := ⟨.hbm, 181, rfl⟩
abbrev main_c_31 : Ref sig .tc := ⟨.hbm, 182, rfl⟩
abbrev main_call31_v0 : Ref sig .tc := ⟨.hbm, 183, rfl⟩
abbrev main_v66 : Ref sig .tc := ⟨.hbm, 184, rfl⟩
abbrev main_v67 : Ref sig .tc := ⟨.hbm, 185, rfl⟩
abbrev main_c_32 : Ref sig .tc := ⟨.hbm, 186, rfl⟩
abbrev main_call32_v0 : Ref sig .tc := ⟨.hbm, 187, rfl⟩
abbrev main_v68 : Ref sig .tc := ⟨.hbm, 188, rfl⟩
abbrev main_v69 : Ref sig .tc := ⟨.hbm, 189, rfl⟩
abbrev main_c_33 : Ref sig .tc := ⟨.hbm, 190, rfl⟩
abbrev main_call33_v0 : Ref sig .tc := ⟨.hbm, 191, rfl⟩
abbrev main_v70 : Ref sig .tc := ⟨.hbm, 192, rfl⟩
abbrev main_v71 : Ref sig .tc := ⟨.hbm, 193, rfl⟩
abbrev main_c_34 : Ref sig .tc := ⟨.hbm, 194, rfl⟩
abbrev main_call34_v0 : Ref sig .tc := ⟨.hbm, 195, rfl⟩
abbrev main_v72 : Ref sig .tc := ⟨.hbm, 196, rfl⟩
abbrev main_v73 : Ref sig .tc := ⟨.hbm, 197, rfl⟩
abbrev main_c_35 : Ref sig .tc := ⟨.hbm, 198, rfl⟩
abbrev main_call35_v0 : Ref sig .tc := ⟨.hbm, 199, rfl⟩
abbrev main_v74 : Ref sig .tc := ⟨.hbm, 200, rfl⟩
abbrev main_v75 : Ref sig .tc := ⟨.hbm, 201, rfl⟩
abbrev main_c_36 : Ref sig .tc := ⟨.hbm, 202, rfl⟩
abbrev main_call36_v0 : Ref sig .tc := ⟨.hbm, 203, rfl⟩
abbrev main_v76 : Ref sig .tc := ⟨.hbm, 204, rfl⟩
abbrev main_v77 : Ref sig .tc := ⟨.hbm, 205, rfl⟩
abbrev main_c_37 : Ref sig .tc := ⟨.hbm, 206, rfl⟩
abbrev main_call37_v0 : Ref sig .tc := ⟨.hbm, 207, rfl⟩
abbrev main_v78 : Ref sig .tc := ⟨.hbm, 208, rfl⟩
abbrev main_v79 : Ref sig .tc := ⟨.hbm, 209, rfl⟩
abbrev main_c_38 : Ref sig .tc := ⟨.hbm, 210, rfl⟩
abbrev main_call38_v0 : Ref sig .tc := ⟨.hbm, 211, rfl⟩
abbrev main_v80 : Ref sig .tc := ⟨.hbm, 212, rfl⟩
abbrev main_cst_39 : Ref sig .tc := ⟨.hbm, 213, rfl⟩
abbrev main_v81 : Ref sig .tc := ⟨.hbm, 214, rfl⟩
abbrev main_v82 : Ref sig .tc := ⟨.hbm, 215, rfl⟩
abbrev main_v83 : Ref sig .tc := ⟨.hbm, 216, rfl⟩
abbrev main_v84 : Ref sig .tc := ⟨.hbm, 217, rfl⟩
abbrev main_c_40 : Ref sig .tc := ⟨.hbm, 218, rfl⟩
abbrev main_call39_v0 : Ref sig .tc := ⟨.hbm, 219, rfl⟩
abbrev main_v85 : Ref sig .tc := ⟨.hbm, 220, rfl⟩
abbrev main_v86 : Ref sig .tc := ⟨.hbm, 221, rfl⟩
abbrev main_c_41 : Ref sig .tc := ⟨.hbm, 222, rfl⟩
abbrev main_call40_v0 : Ref sig .tc := ⟨.hbm, 223, rfl⟩
abbrev main_v87 : Ref sig .tc := ⟨.hbm, 224, rfl⟩
abbrev main_c_42 : Ref sig .tc := ⟨.hbm, 225, rfl⟩
abbrev main_call41_v0 : Ref sig .tc := ⟨.hbm, 226, rfl⟩
abbrev main_v88 : Ref sig .tc := ⟨.hbm, 227, rfl⟩
abbrev main_v89 : Ref sig .tc := ⟨.hbm, 228, rfl⟩
abbrev main_c_43 : Ref sig .tc := ⟨.hbm, 229, rfl⟩
abbrev main_call42_v0 : Ref sig .tc := ⟨.hbm, 230, rfl⟩
abbrev main_v90 : Ref sig .tc := ⟨.hbm, 231, rfl⟩
abbrev main_v91 : Ref sig .tc := ⟨.hbm, 232, rfl⟩
abbrev main_c_44 : Ref sig .tc := ⟨.hbm, 233, rfl⟩
abbrev main_call43_v0 : Ref sig .tc := ⟨.hbm, 234, rfl⟩
abbrev main_v92 : Ref sig .tc := ⟨.hbm, 235, rfl⟩
abbrev main_v93 : Ref sig .tc := ⟨.hbm, 236, rfl⟩
abbrev main_c_45 : Ref sig .tc := ⟨.hbm, 237, rfl⟩
abbrev main_call44_v0 : Ref sig .tc := ⟨.hbm, 238, rfl⟩
abbrev main_v94 : Ref sig .tc := ⟨.hbm, 239, rfl⟩
abbrev main_v95 : Ref sig .tc := ⟨.hbm, 240, rfl⟩
abbrev main_c_46 : Ref sig .tc := ⟨.hbm, 241, rfl⟩
abbrev main_call45_v0 : Ref sig .tc := ⟨.hbm, 242, rfl⟩
abbrev main_v96 : Ref sig .tc := ⟨.hbm, 243, rfl⟩
abbrev main_v97 : Ref sig .tc := ⟨.hbm, 244, rfl⟩
abbrev main_c_47 : Ref sig .tc := ⟨.hbm, 245, rfl⟩
abbrev main_call46_v0 : Ref sig .tc := ⟨.hbm, 246, rfl⟩
abbrev main_v98 : Ref sig .tc := ⟨.hbm, 247, rfl⟩
abbrev main_v99 : Ref sig .tc := ⟨.hbm, 248, rfl⟩
abbrev main_c_48 : Ref sig .tc := ⟨.hbm, 249, rfl⟩
abbrev main_call47_v0 : Ref sig .tc := ⟨.hbm, 250, rfl⟩
abbrev main_v100 : Ref sig .tc := ⟨.hbm, 251, rfl⟩
abbrev main_v101 : Ref sig .tc := ⟨.hbm, 252, rfl⟩
abbrev main_c_49 : Ref sig .tc := ⟨.hbm, 253, rfl⟩
abbrev main_call48_v0 : Ref sig .tc := ⟨.hbm, 254, rfl⟩
abbrev main_v102 : Ref sig .tc := ⟨.hbm, 255, rfl⟩
abbrev main_v103 : Ref sig .tc := ⟨.hbm, 256, rfl⟩
abbrev main_c_50 : Ref sig .tc := ⟨.hbm, 257, rfl⟩
abbrev main_call49_v0 : Ref sig .tc := ⟨.hbm, 258, rfl⟩
abbrev main_v104 : Ref sig .tc := ⟨.hbm, 259, rfl⟩
abbrev main_v105 : Ref sig .tc := ⟨.hbm, 260, rfl⟩
abbrev main_c_51 : Ref sig .tc := ⟨.hbm, 261, rfl⟩
abbrev main_call50_v0 : Ref sig .tc := ⟨.hbm, 262, rfl⟩
abbrev main_v106 : Ref sig .tc := ⟨.hbm, 263, rfl⟩
abbrev main_v107 : Ref sig .tc := ⟨.hbm, 264, rfl⟩
abbrev main_c_52 : Ref sig .tc := ⟨.hbm, 265, rfl⟩
abbrev main_call51_v0 : Ref sig .tc := ⟨.hbm, 266, rfl⟩
abbrev main_v108 : Ref sig .tc := ⟨.hbm, 267, rfl⟩
abbrev main_cst_53 : Ref sig .tc := ⟨.hbm, 268, rfl⟩
abbrev main_v109 : Ref sig .tc := ⟨.hbm, 269, rfl⟩
abbrev main_v110 : Ref sig .tc := ⟨.hbm, 270, rfl⟩
abbrev main_v111 : Ref sig .tc := ⟨.hbm, 271, rfl⟩
abbrev main_v112 : Ref sig .tc := ⟨.hbm, 272, rfl⟩
abbrev main_v113 : Ref sig .tc := ⟨.hbm, 273, rfl⟩
abbrev main_v114 : Ref sig .tc := ⟨.hbm, 274, rfl⟩
abbrev main_v115 : Ref sig .tc := ⟨.hbm, 275, rfl⟩
abbrev main_v116_0 : Ref sig .tc := ⟨.hbm, 276, rfl⟩
abbrev main_v116_1 : Ref sig .tc := ⟨.hbm, 277, rfl⟩
abbrev main_v116_2 : Ref sig .tc := ⟨.hbm, 278, rfl⟩
abbrev main_v116_3 : Ref sig .tc := ⟨.hbm, 279, rfl⟩
abbrev main_v117 : Ref sig .tc := ⟨.hbm, 280, rfl⟩
abbrev main_v118 : Ref sig .tc := ⟨.hbm, 281, rfl⟩
abbrev main_v119 : Ref sig .tc := ⟨.hbm, 282, rfl⟩
abbrev main_v120 : Ref sig .tc := ⟨.hbm, 283, rfl⟩
abbrev main_v121 : Ref sig .tc := ⟨.hbm, 284, rfl⟩
abbrev main_v122 : Ref sig .tc := ⟨.hbm, 285, rfl⟩
abbrev main_v123 : Ref sig .tc := ⟨.hbm, 286, rfl⟩
abbrev main_v124 : Ref sig .tc := ⟨.hbm, 287, rfl⟩
abbrev main_v125 : Ref sig .tc := ⟨.hbm, 288, rfl⟩
abbrev main_v126 : Ref sig .tc := ⟨.hbm, 289, rfl⟩
abbrev main_v127 : Ref sig .tc := ⟨.hbm, 290, rfl⟩
abbrev main_v128 : Ref sig .tc := ⟨.hbm, 291, rfl⟩
abbrev main_v129 : Ref sig .tc := ⟨.hbm, 292, rfl⟩
abbrev main_v130 : Ref sig .tc := ⟨.hbm, 293, rfl⟩
abbrev main_v131 : Ref sig .tc := ⟨.hbm, 294, rfl⟩
abbrev main_v132 : Ref sig .tc := ⟨.hbm, 295, rfl⟩
abbrev main_v133 : Ref sig .tc := ⟨.hbm, 296, rfl⟩
abbrev main_v134 : Ref sig .tc := ⟨.hbm, 297, rfl⟩
abbrev main_v135 : Ref sig .tc := ⟨.hbm, 298, rfl⟩
abbrev main_v136 : Ref sig .tc := ⟨.hbm, 299, rfl⟩
abbrev main_v137 : Ref sig .tc := ⟨.hbm, 300, rfl⟩
abbrev main_v138 : Ref sig .tc := ⟨.hbm, 301, rfl⟩
abbrev main_v139 : Ref sig .tc := ⟨.hbm, 302, rfl⟩
abbrev main_v140 : Ref sig .tc := ⟨.hbm, 303, rfl⟩
abbrev main_v141 : Ref sig .tc := ⟨.hbm, 304, rfl⟩
abbrev main_v142 : Ref sig .tc := ⟨.hbm, 305, rfl⟩
abbrev main_v143 : Ref sig .tc := ⟨.hbm, 306, rfl⟩
abbrev main_v144 : Ref sig .tc := ⟨.hbm, 307, rfl⟩
abbrev main_v145 : Ref sig .tc := ⟨.hbm, 308, rfl⟩
abbrev main_v146 : Ref sig .tc := ⟨.hbm, 309, rfl⟩
abbrev main_v147 : Ref sig .tc := ⟨.hbm, 310, rfl⟩
abbrev main_v148 : Ref sig .tc := ⟨.hbm, 311, rfl⟩
abbrev main_v149 : Ref sig .tc := ⟨.hbm, 312, rfl⟩
abbrev main_v150 : Ref sig .tc := ⟨.hbm, 313, rfl⟩
abbrev main_v151 : Ref sig .tc := ⟨.hbm, 314, rfl⟩
abbrev main_v152 : Ref sig .tc := ⟨.hbm, 315, rfl⟩
abbrev main_v153 : Ref sig .tc := ⟨.hbm, 316, rfl⟩
abbrev main_v154 : Ref sig .tc := ⟨.hbm, 317, rfl⟩
abbrev main_v155 : Ref sig .tc := ⟨.hbm, 318, rfl⟩
abbrev main_v156 : Ref sig .tc := ⟨.hbm, 319, rfl⟩
abbrev main_v157 : Ref sig .tc := ⟨.hbm, 320, rfl⟩
abbrev main_v158 : Ref sig .tc := ⟨.hbm, 321, rfl⟩
abbrev main_v159 : Ref sig .tc := ⟨.hbm, 322, rfl⟩
abbrev main_v160 : Ref sig .tc := ⟨.hbm, 323, rfl⟩
abbrev main_v161 : Ref sig .tc := ⟨.hbm, 324, rfl⟩
abbrev main_v162 : Ref sig .tc := ⟨.hbm, 325, rfl⟩
abbrev main_v163 : Ref sig .tc := ⟨.hbm, 326, rfl⟩
abbrev main_v164 : Ref sig .tc := ⟨.hbm, 327, rfl⟩
abbrev main_v165 : Ref sig .tc := ⟨.hbm, 328, rfl⟩
abbrev main_v166 : Ref sig .tc := ⟨.hbm, 329, rfl⟩
abbrev main_v167 : Ref sig .tc := ⟨.hbm, 330, rfl⟩
abbrev main_v168 : Ref sig .tc := ⟨.hbm, 331, rfl⟩
abbrev main_v169 : Ref sig .tc := ⟨.hbm, 332, rfl⟩
abbrev main_v170 : Ref sig .tc := ⟨.hbm, 333, rfl⟩
abbrev main_v171 : Ref sig .tc := ⟨.hbm, 334, rfl⟩
abbrev main_v172 : Ref sig .tc := ⟨.hbm, 335, rfl⟩
abbrev main_v173 : Ref sig .tc := ⟨.hbm, 336, rfl⟩
abbrev main_v174 : Ref sig .tc := ⟨.hbm, 337, rfl⟩
abbrev main_v175 : Ref sig .tc := ⟨.hbm, 338, rfl⟩
abbrev main_v176 : Ref sig .tc := ⟨.hbm, 339, rfl⟩
abbrev main_v177 : Ref sig .tc := ⟨.hbm, 340, rfl⟩
abbrev main_v178 : Ref sig .tc := ⟨.hbm, 341, rfl⟩
abbrev main_v179 : Ref sig .tc := ⟨.hbm, 342, rfl⟩
abbrev main_v180 : Ref sig .tc := ⟨.hbm, 343, rfl⟩
abbrev main_v181 : Ref sig .tc := ⟨.hbm, 344, rfl⟩
abbrev main_v182 : Ref sig .tc := ⟨.hbm, 345, rfl⟩
abbrev main_v183 : Ref sig .tc := ⟨.hbm, 346, rfl⟩
abbrev main_v184 : Ref sig .tc := ⟨.hbm, 347, rfl⟩
abbrev main_v185 : Ref sig .tc := ⟨.hbm, 348, rfl⟩
abbrev main_v186 : Ref sig .tc := ⟨.hbm, 349, rfl⟩
abbrev main_v187 : Ref sig .tc := ⟨.hbm, 350, rfl⟩
abbrev main_v188 : Ref sig .tc := ⟨.hbm, 351, rfl⟩
abbrev main_v189 : Ref sig .tc := ⟨.hbm, 352, rfl⟩
abbrev main_v190 : Ref sig .tc := ⟨.hbm, 353, rfl⟩
abbrev main_v191 : Ref sig .tc := ⟨.hbm, 354, rfl⟩
abbrev main_v192 : Ref sig .tc := ⟨.hbm, 355, rfl⟩
abbrev main_v193 : Ref sig .tc := ⟨.hbm, 356, rfl⟩
abbrev main_v194 : Ref sig .tc := ⟨.hbm, 357, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x720x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x720x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x720x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x720x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x720x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x720x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x720x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x720x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== SmallReferenceIdeal.lean ====
abbrev S2x1024 : Shape := ⟨2, ![2, 1024]⟩
abbrev S1024 : Shape := ⟨1, ![1024]⟩
abbrev S1x512 : Shape := ⟨2, ![1, 512]⟩
abbrev S1x4x128x128 : Shape := ⟨4, ![1, 4, 128, 128]⟩
abbrev S1x4x128 : Shape := ⟨3, ![1, 4, 128]⟩
abbrev S1x31x128 : Shape := ⟨3, ![1, 31, 128]⟩
abbrev S1x3x256 : Shape := ⟨3, ![1, 3, 256]⟩
abbrev S2x3x1408 : Shape := ⟨3, ![2, 3, 1408]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S2x1024, .f32⟩
  | 1 => ⟨S2x1024, .f32⟩
  | 2 => ⟨S1024, .f32⟩
  | 3 => ⟨S1x512, .f32⟩
  | 4 => ⟨S1x512, .f32⟩
  | 5 => ⟨S1x4x128x128, .f32⟩
  | 6 => ⟨S1x4x128, .f32⟩
  | 7 => ⟨S1x512, .f32⟩
  | 8 => ⟨S1x512, .f32⟩
  | 9 => ⟨S1x512, .f32⟩
  | 10 => ⟨S1x31x128, .f32⟩
  | 11 => ⟨S1x3x256, .f32⟩
  | 12 => ⟨S2x3x1408, .f32⟩
  | 13 => ⟨S2x1024, .f32⟩
  | 14 => ⟨S2x1024, .f32⟩
  | 15 => ⟨S1024, .f32⟩
  | 16 => ⟨S1x512, .f32⟩
  | 17 => ⟨S1x512, .f32⟩
  | 18 => ⟨S1x4x128x128, .f32⟩
  | 19 => ⟨S1x4x128, .f32⟩
  | 20 => ⟨S1x512, .f32⟩
  | 21 => ⟨S1x512, .f32⟩
  | 22 => ⟨S1x512, .f32⟩
  | 23 => ⟨S1x31x128, .f32⟩
  | 24 => ⟨S1x3x256, .f32⟩
  | 25 => ⟨S2x3x1408, .f32⟩
  | 26 => ⟨S2x1024, .f32⟩
  | 27 => ⟨S2x1024, .f32⟩
  | 28 => ⟨S1024, .f32⟩
  | 29 => ⟨S1x512, .f32⟩
  | 30 => ⟨S1x512, .f32⟩
  | 31 => ⟨S1x4x128x128, .f32⟩
  | 32 => ⟨S1x4x128, .f32⟩
  | 33 => ⟨S1x512, .f32⟩
  | 34 => ⟨S1x512, .f32⟩
  | 35 => ⟨S1x512, .f32⟩
  | 36 => ⟨S1x31x128, .f32⟩
  | 37 => ⟨S1x3x256, .f32⟩
  | 38 => ⟨S2x3x1408, .f32⟩
  | 39 => ⟨S2x1024, .f32⟩
  | 40 => ⟨S2x1024, .f32⟩
  | 41 => ⟨S1024, .f32⟩
  | 42 => ⟨S1x512, .f32⟩
  | 43 => ⟨S1x512, .f32⟩
  | 44 => ⟨S1x4x128x128, .f32⟩
  | 45 => ⟨S1x4x128, .f32⟩
  | 46 => ⟨S1x512, .f32⟩
  | 47 => ⟨S1x512, .f32⟩
  | 48 => ⟨S1x512, .f32⟩
  | 49 => ⟨S1x31x128, .f32⟩
  | 50 => ⟨S1x3x256, .f32⟩
  | 51 => ⟨S2x3x1408, .f32⟩
  | 52 => ⟨S_, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S_, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S_, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S_, .f32⟩
  | 126 => ⟨S1024, .f32⟩
  | 127 => ⟨S1024, .f32⟩
  | _ => ⟨S2x1024, .f32⟩

abbrev hbmTy0_1 (i : Nat) : BufTy := match i % 128 with
  | 0 => ⟨S1024, .f32⟩
  | 1 => ⟨S_, .f32⟩
  | 2 => ⟨S1024, .f32⟩
  | 3 => ⟨S1024, .f32⟩
  | 4 => ⟨S1024, .f32⟩
  | 5 => ⟨S_, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S_, .f32⟩
  | 13 => ⟨S1024, .f32⟩
  | 14 => ⟨S1024, .f32⟩
  | 15 => ⟨S1024, .f32⟩
  | 16 => ⟨S_, .f32⟩
  | 17 => ⟨S1024, .f32⟩
  | 18 => ⟨S1024, .f32⟩
  | 19 => ⟨S1024, .f32⟩
  | 20 => ⟨S_, .f32⟩
  | 21 => ⟨S1024, .f32⟩
  | 22 => ⟨S1024, .f32⟩
  | 23 => ⟨S_, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S1x512, .f32⟩
  | 30 => ⟨S_, .f32⟩
  | 31 => ⟨S1x512, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S_, .f32⟩
  | 60 => ⟨S1x512, .f32⟩
  | 61 => ⟨S1x512, .f32⟩
  | 62 => ⟨S1x512, .f32⟩
  | 63 => ⟨S_, .f32⟩
  | 64 => ⟨S1x512, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S1x512, .f32⟩
  | 78 => ⟨S_, .f32⟩
  | 79 => ⟨S1x512, .f32⟩
  | 80 => ⟨S1x512, .f32⟩
  | 81 => ⟨S1x512, .f32⟩
  | 82 => ⟨S_, .f32⟩
  | 83 => ⟨S1x512, .f32⟩
  | 84 => ⟨S1x512, .f32⟩
  | 85 => ⟨S1x512, .f32⟩
  | 86 => ⟨S_, .f32⟩
  | 87 => ⟨S1x512, .f32⟩
  | 88 => ⟨S1x512, .f32⟩
  | 89 => ⟨S_, .f32⟩
  | 90 => ⟨S1x4x128x128, .f32⟩
  | 91 => ⟨S1x4x128x128, .f32⟩
  | 92 => ⟨S_, .f32⟩
  | 93 => ⟨S1x4x128x128, .f32⟩
  | 94 => ⟨S1x4x128x128, .f32⟩
  | 95 => ⟨S1x4x128x128, .f32⟩
  | 96 => ⟨S_, .f32⟩
  | 97 => ⟨S1x4x128x128, .f32⟩
  | 98 => ⟨S1x4x128x128, .f32⟩
  | 99 => ⟨S1x4x128x128, .f32⟩
  | 100 => ⟨S_, .f32⟩
  | 101 => ⟨S1x4x128x128, .f32⟩
  | 102 => ⟨S1x4x128x128, .f32⟩
  | 103 => ⟨S1x4x128x128, .f32⟩
  | 104 => ⟨S_, .f32⟩
  | 105 => ⟨S1x4x128x128, .f32⟩
  | 106 => ⟨S1x4x128x128, .f32⟩
  | 107 => ⟨S_, .f32⟩
  | 108 => ⟨S1x4x128x128, .f32⟩
  | 109 => ⟨S1x4x128x128, .f32⟩
  | 110 => ⟨S1x4x128x128, .f32⟩
  | 111 => ⟨S_, .f32⟩
  | 112 => ⟨S1x4x128x128, .f32⟩
  | 113 => ⟨S1x4x128x128, .f32⟩
  | 114 => ⟨S1x4x128x128, .f32⟩
  | 115 => ⟨S_, .f32⟩
  | 116 => ⟨S1x4x128x128, .f32⟩
  | 117 => ⟨S1x4x128x128, .f32⟩
  | 118 => ⟨S1x4x128x128, .f32⟩
  | 119 => ⟨S_, .f32⟩
  | 120 => ⟨S1x4x128x128, .f32⟩
  | 121 => ⟨S1x4x128x128, .f32⟩
  | 122 => ⟨S_, .f32⟩
  | 123 => ⟨S1x4x128, .f32⟩
  | 124 => ⟨S1x4x128, .f32⟩
  | 125 => ⟨S_, .f32⟩
  | 126 => ⟨S1x4x128, .f32⟩
  | 127 => ⟨S1x4x128, .f32⟩
  | _ => ⟨S2x1024, .f32⟩

abbrev hbmTy0_2 (i : Nat) : BufTy := match i % 128 with
  | 0 => ⟨S1x4x128, .f32⟩
  | 1 => ⟨S_, .f32⟩
  | 2 => ⟨S1x4x128, .f32⟩
  | 3 => ⟨S1x4x128, .f32⟩
  | 4 => ⟨S1x4x128, .f32⟩
  | 5 => ⟨S_, .f32⟩
  | 6 => ⟨S1x4x128, .f32⟩
  | 7 => ⟨S1x4x128, .f32⟩
  | 8 => ⟨S1x4x128, .f32⟩
  | 9 => ⟨S_, .f32⟩
  | 10 => ⟨S1x4x128, .f32⟩
  | 11 => ⟨S1x4x128, .f32⟩
  | 12 => ⟨S_, .f32⟩
  | 13 => ⟨S1x4x128, .f32⟩
  | 14 => ⟨S1x4x128, .f32⟩
  | 15 => ⟨S1x4x128, .f32⟩
  | 16 => ⟨S_, .f32⟩
  | 17 => ⟨S1x4x128, .f32⟩
  | 18 => ⟨S1x4x128, .f32⟩
  | 19 => ⟨S1x4x128, .f32⟩
  | 20 => ⟨S_, .f32⟩
  | 21 => ⟨S1x4x128, .f32⟩
  | 22 => ⟨S1x4x128, .f32⟩
  | 23 => ⟨S1x4x128, .f32⟩
  | 24 => ⟨S_, .f32⟩
  | 25 => ⟨S1x4x128, .f32⟩
  | 26 => ⟨S1x4x128, .f32⟩
  | 27 => ⟨S_, .f32⟩
  | 28 => ⟨S1x512, .f32⟩
  | 29 => ⟨S1x512, .f32⟩
  | 30 => ⟨S_, .f32⟩
  | 31 => ⟨S1x512, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S1x512, .f32⟩
  | 57 => ⟨S_, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S_, .f32⟩
  | 64 => ⟨S1x512, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S_, .f32⟩
  | 79 => ⟨S1x512, .f32⟩
  | 80 => ⟨S1x512, .f32⟩
  | 81 => ⟨S1x512, .f32⟩
  | 82 => ⟨S_, .f32⟩
  | 83 => ⟨S1x512, .f32⟩
  | 84 => ⟨S1x512, .f32⟩
  | 85 => ⟨S1x512, .f32⟩
  | 86 => ⟨S_, .f32⟩
  | 87 => ⟨S1x512, .f32⟩
  | 88 => ⟨S1x512, .f32⟩
  | 89 => ⟨S1x512, .f32⟩
  | 90 => ⟨S_, .f32⟩
  | 91 => ⟨S1x512, .f32⟩
  | 92 => ⟨S1x512, .f32⟩
  | 93 => ⟨S_, .f32⟩
  | 94 => ⟨S1x512, .f32⟩
  | 95 => ⟨S1x512, .f32⟩
  | 96 => ⟨S_, .f32⟩
  | 97 => ⟨S1x512, .f32⟩
  | 98 => ⟨S1x512, .f32⟩
  | 99 => ⟨S1x512, .f32⟩
  | 100 => ⟨S_, .f32⟩
  | 101 => ⟨S1x512, .f32⟩
  | 102 => ⟨S1x512, .f32⟩
  | 103 => ⟨S1x512, .f32⟩
  | 104 => ⟨S_, .f32⟩
  | 105 => ⟨S1x512, .f32⟩
  | 106 => ⟨S1x512, .f32⟩
  | 107 => ⟨S1x512, .f32⟩
  | 108 => ⟨S_, .f32⟩
  | 109 => ⟨S1x512, .f32⟩
  | 110 => ⟨S1x512, .f32⟩
  | 111 => ⟨S_, .f32⟩
  | 112 => ⟨S1x512, .f32⟩
  | 113 => ⟨S1x512, .f32⟩
  | 114 => ⟨S1x512, .f32⟩
  | 115 => ⟨S_, .f32⟩
  | 116 => ⟨S1x512, .f32⟩
  | 117 => ⟨S1x512, .f32⟩
  | 118 => ⟨S1x512, .f32⟩
  | 119 => ⟨S_, .f32⟩
  | 120 => ⟨S1x512, .f32⟩
  | 121 => ⟨S1x512, .f32⟩
  | 122 => ⟨S1x512, .f32⟩
  | 123 => ⟨S_, .f32⟩
  | 124 => ⟨S1x512, .f32⟩
  | 125 => ⟨S1x512, .f32⟩
  | 126 => ⟨S_, .f32⟩
  | 127 => ⟨S1x31x128, .f32⟩
  | _ => ⟨S2x1024, .f32⟩

abbrev hbmTy0_3 (i : Nat) : BufTy := match i % 128 with
  | 0 => ⟨S1x31x128, .f32⟩
  | 1 => ⟨S_, .f32⟩
  | 2 => ⟨S1x31x128, .f32⟩
  | 3 => ⟨S1x31x128, .f32⟩
  | 4 => ⟨S1x31x128, .f32⟩
  | 5 => ⟨S_, .f32⟩
  | 6 => ⟨S1x31x128, .f32⟩
  | 7 => ⟨S1x31x128, .f32⟩
  | 8 => ⟨S1x31x128, .f32⟩
  | 9 => ⟨S_, .f32⟩
  | 10 => ⟨S1x31x128, .f32⟩
  | 11 => ⟨S1x31x128, .f32⟩
  | 12 => ⟨S1x31x128, .f32⟩
  | 13 => ⟨S_, .f32⟩
  | 14 => ⟨S1x31x128, .f32⟩
  | 15 => ⟨S1x31x128, .f32⟩
  | 16 => ⟨S_, .f32⟩
  | 17 => ⟨S1x31x128, .f32⟩
  | 18 => ⟨S1x31x128, .f32⟩
  | 19 => ⟨S1x31x128, .f32⟩
  | 20 => ⟨S_, .f32⟩
  | 21 => ⟨S1x31x128, .f32⟩
  | 22 => ⟨S1x31x128, .f32⟩
  | 23 => ⟨S1x31x128, .f32⟩
  | 24 => ⟨S_, .f32⟩
  | 25 => ⟨S1x31x128, .f32⟩
  | 26 => ⟨S1x31x128, .f32⟩
  | 27 => ⟨S1x31x128, .f32⟩
  | 28 => ⟨S_, .f32⟩
  | 29 => ⟨S1x31x128, .f32⟩
  | 30 => ⟨S1x31x128, .f32⟩
  | 31 => ⟨S_, .f32⟩
  | 32 => ⟨S1x3x256, .f32⟩
  | 33 => ⟨S1x3x256, .f32⟩
  | 34 => ⟨S_, .f32⟩
  | 35 => ⟨S1x3x256, .f32⟩
  | 36 => ⟨S1x3x256, .f32⟩
  | 37 => ⟨S1x3x256, .f32⟩
  | 38 => ⟨S_, .f32⟩
  | 39 => ⟨S1x3x256, .f32⟩
  | 40 => ⟨S1x3x256, .f32⟩
  | 41 => ⟨S1x3x256, .f32⟩
  | 42 => ⟨S_, .f32⟩
  | 43 => ⟨S1x3x256, .f32⟩
  | 44 => ⟨S1x3x256, .f32⟩
  | 45 => ⟨S1x3x256, .f32⟩
  | 46 => ⟨S_, .f32⟩
  | 47 => ⟨S1x3x256, .f32⟩
  | 48 => ⟨S1x3x256, .f32⟩
  | 49 => ⟨S_, .f32⟩
  | 50 => ⟨S1x3x256, .f32⟩
  | 51 => ⟨S1x3x256, .f32⟩
  | 52 => ⟨S1x3x256, .f32⟩
  | 53 => ⟨S_, .f32⟩
  | 54 => ⟨S1x3x256, .f32⟩
  | 55 => ⟨S1x3x256, .f32⟩
  | 56 => ⟨S1x3x256, .f32⟩
  | 57 => ⟨S_, .f32⟩
  | 58 => ⟨S1x3x256, .f32⟩
  | 59 => ⟨S1x3x256, .f32⟩
  | 60 => ⟨S1x3x256, .f32⟩
  | 61 => ⟨S_, .f32⟩
  | 62 => ⟨S1x3x256, .f32⟩
  | 63 => ⟨S1x3x256, .f32⟩
  | 64 => ⟨S_, .f32⟩
  | 65 => ⟨S2x3x1408, .f32⟩
  | 66 => ⟨S2x3x1408, .f32⟩
  | 67 => ⟨S_, .f32⟩
  | 68 => ⟨S2x3x1408, .f32⟩
  | 69 => ⟨S2x3x1408, .f32⟩
  | 70 => ⟨S2x3x1408, .f32⟩
  | 71 => ⟨S_, .f32⟩
  | 72 => ⟨S2x3x1408, .f32⟩
  | 73 => ⟨S2x3x1408, .f32⟩
  | 74 => ⟨S2x3x1408, .f32⟩
  | 75 => ⟨S_, .f32⟩
  | 76 => ⟨S2x3x1408, .f32⟩
  | 77 => ⟨S2x3x1408, .f32⟩
  | 78 => ⟨S2x3x1408, .f32⟩
  | 79 => ⟨S_, .f32⟩
  | 80 => ⟨S2x3x1408, .f32⟩
  | 81 => ⟨S2x3x1408, .f32⟩
  | 82 => ⟨S_, .f32⟩
  | 83 => ⟨S2x3x1408, .f32⟩
  | 84 => ⟨S2x3x1408, .f32⟩
  | 85 => ⟨S2x3x1408, .f32⟩
  | 86 => ⟨S_, .f32⟩
  | 87 => ⟨S2x3x1408, .f32⟩
  | 88 => ⟨S2x3x1408, .f32⟩
  | 89 => ⟨S2x3x1408, .f32⟩
  | 90 => ⟨S_, .f32⟩
  | 91 => ⟨S2x3x1408, .f32⟩
  | 92 => ⟨S2x3x1408, .f32⟩
  | 93 => ⟨S2x3x1408, .f32⟩
  | 94 => ⟨S_, .f32⟩
  | 95 => ⟨S2x3x1408, .f32⟩
  | 96 => ⟨S2x3x1408, .f32⟩
  | _ => ⟨S2x1024, .f32⟩

abbrev hbmTy (i : Nat) : BufTy := match i / 128 with
  | 0 => hbmTy0_0 i
  | 1 => hbmTy0_1 i
  | 2 => hbmTy0_2 i
  | 3 => hbmTy0_3 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== ActKernel.lean ====
abbrev S4096x5632 : Shape := ⟨2, ![4096, 5632]⟩
abbrev S2x3x5632 : Shape := ⟨3, ![2, 3, 5632]⟩
abbrev S4096x2816 : Shape := ⟨2, ![4096, 2816]⟩
abbrev S512x5632 : Shape := ⟨2, ![512, 5632]⟩
abbrev S16x5632 : Shape := ⟨2, ![16, 5632]⟩
abbrev S1x3x5632 : Shape := ⟨3, ![1, 3, 5632]⟩
abbrev S512x2816 : Shape := ⟨2, ![512, 2816]⟩
abbrev S16x128 : Shape := ⟨2, ![16, 128]⟩
abbrev S512x128 : Shape := ⟨2, ![512, 128]⟩
abbrev S528x128 : Shape := ⟨2, ![528, 128]⟩
abbrev S1x1x128 : Shape := ⟨3, ![1, 1, 128]⟩
abbrev S1x128 : Shape := ⟨2, ![1, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S2x3x5632, .f32⟩
  | .hbm, ⟨2, _⟩ => ⟨S4096x2816, .bf16⟩
  | .hbm, ⟨3, _⟩ => ⟨S4096x5632, .bf16⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S1x3x5632, .f32⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ActReferenceIdeal.lean ====
abbrev S4096x5632 : Shape := ⟨2, ![4096, 5632]⟩
abbrev S2x3x5632 : Shape := ⟨3, ![2, 3, 5632]⟩
abbrev S1x3x5632 : Shape := ⟨3, ![1, 3, 5632]⟩
abbrev S3x5632 : Shape := ⟨2, ![3, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2x3x5632, .f32⟩
  | .hbm, ⟨2, _⟩ => ⟨S4096x5632, .f32⟩
  | .hbm, ⟨3, _⟩ => ⟨S1x3x5632, .f32⟩
  | .hbm, ⟨4, _⟩ => ⟨S3x5632, .f32⟩
  | .hbm, ⟨5, _⟩ => ⟨S_, .f32⟩
  | .hbm, ⟨6, _⟩ => ⟨S2x5632, .f32⟩
  | .hbm, ⟨7, _⟩ => ⟨S4098x5632, .f32⟩
  | .hbm, ⟨8, _⟩ => ⟨S1x5632, .f32⟩
  | .hbm, ⟨9, _⟩ => ⟨S5632, .f32⟩
  | .hbm, ⟨10, _⟩ => ⟨S4096x5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S4096x5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S4096x5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .bf16⟩
  | .hbm, ⟨44, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.MixSpec.lean ====
/- The gradient of the short gated convolution, row by row, on arrays of extended reals: what both programs compute. -/
module

public import Idealize.ShloMosaic.Lib.Pointwise
public import Idealize.ShloMosaic.Lib.Pipeline.ValueKit
public import Mathlib.Data.EReal.Operations

@[expose] public section
noncomputable section
open Idealize.ShloMosaic

namespace Cert.Mix

/-- A signal on the 4096 rows, `a` rows earlier: zero before the first row. -/
def lag (X : Fin 4096 → EReal) (a : ℕ) (r : Fin 4096) : EReal :=
  if h : a ≤ r.val then X ⟨r.val - a, by omega⟩ else 0

/-- A signal on the 4096 rows, `a` rows later: zero after the last row. -/
def lead (X : Fin 4096 → EReal) (a : ℕ) (r : Fin 4096) : EReal :=
  if h : r.val + a < 4096 then X ⟨r.val + a, h⟩ else 0

theorem lag_zero (X : Fin 4096 → EReal) (r : Fin 4096) : lag X 0 r = X r := by
  simp [lag]

theorem lead_zero (X : Fin 4096 → EReal) (r : Fin 4096) : lead X 0 r = X r := by
  simp [lead]

/-- Shifting one factor forward or the other one back gives the same inner product: the rows that fall off either
    end meet a zero. -/
theorem sum_lead_mul (X Y : Fin 4096 → EReal) (a : ℕ) (ha : a ≤ 4096) :
    ∑ r, lead X a r * Y r = ∑ r, X r * lag Y a r := by
  let x : ℕ → EReal := fun n => if h : n < 4096 then X ⟨n, h⟩ else 0
  let y : ℕ → EReal := fun n => if h : n < 4096 then Y ⟨n, h⟩ else 0
  have hL : ∑ r, lead X a r * Y r = ∑ n ∈ Finset.range 4096, x (n + a) * y n := by
    rw [← Fin.sum_univ_eq_sum_range (fun n => x (n + a) * y n)]
    refine Finset.sum_congr rfl fun r _ => ?_
    have hr := r.isLt
    simp only [lead, x, y, hr, dif_pos]
  have hR : ∑ r, X r * lag Y a r = ∑ n ∈ Finset.range 4096, x n * (if a ≤ n then y (n - a) else 0) := by
    rw [← Fin.sum_univ_eq_sum_range (fun n => x n * (if a ≤ n then y (n - a) else 0))]
    refine Finset.sum_congr rfl fun r _ => ?_
    have hr := r.isLt
    have hr' : r.val - a < 4096 := by omega
    simp only [lag, x, y, hr, hr', dif_pos]
    split <;> rfl
  rw [hL, hR]
  obtain ⟨b, hb⟩ : ∃ b, 4096 = a + b := ⟨4096 - a, by omega⟩
  rw [hb, Finset.sum_range_add (fun n => x n * (if a ≤ n then y (n - a) else 0)),
    show a + b = b + a by omega, Finset.sum_range_add (fun n => x (n + a) * y n)]
  rw [Finset.sum_eq_zero (s := Finset.range a) (f := fun i => x (b + i + a) * y (b + i)),
    Finset.sum_eq_zero (s := Finset.range a) (f := fun n => x n * (if a ≤ n then y (n - a) else 0)), add_zero, zero_add]
  · refine Finset.sum_congr rfl fun i _ => ?_
    rw [if_pos (by omega), Nat.add_comm i a, Nat.add_sub_cancel_left]
  · intro i hi
    have := Finset.mem_range.mp hi
    rw [if_neg (by omega), mul_zero]
  · intro i hi
    have : ¬ b + i + a < 4096 := by omega
    simp only [x, this, dif_neg, not_false_eq_true, zero_mul]

/-- The arrays, typed: the three gates side by side, the gradient of the gated output, the three taps. -/
abbrev ArrZ := FVec Ideal (⟨2, ![4096, 3072]⟩ : Shape) .bf16
abbrev ArrR := FVec Ideal (⟨2, ![4096, 1024]⟩ : Shape) .bf16
abbrev ArrW := FVec Ideal (⟨3, ![1, 3, 1024]⟩ : Shape) .f32

variable (Z : ArrZ) (R : ArrR) (W : ArrW)

/-- What the convolution reads: the second gate times the third, in one channel. -/
def gated (c : Fin 1024) (r : Fin 4096) : EReal :=
  Z (ix2 r ⟨1024 + c.val, by omega⟩) * Z (ix2 r ⟨2048 + c.val, by omega⟩)

/-- The gradient of what the convolution writes. -/
def gradOut (c : Fin 1024) (r : Fin 4096) : EReal :=
  R (ix2 r c) * Z (ix2 r ⟨c.val, by omega⟩)

/-- The convolution itself. -/
def conv (c : Fin 1024) (r : Fin 4096) : EReal :=
  W (ix3 0 2 c) * gated Z c r + W (ix3 0 1 c) * lag (gated Z c) 1 r + W (ix3 0 0 c) * lag (gated Z c) 2 r

/-- The gradient of what the convolution reads. -/
def gradIn (c : Fin 1024) (r : Fin 4096) : EReal :=
  W (ix3 0 0 c) * lead (gradOut Z R c) 2 r + W (ix3 0 1 c) * lead (gradOut Z R c) 1 r + W (ix3 0 2 c) * gradOut Z R c r

/-- The gradient of the three gates, by column. -/
def gradZ (r : Fin 4096) (k : Fin 3072) : EReal :=
  if h0 : k.val < 1024 then R (ix2 r ⟨k.val, h0⟩) * conv Z W ⟨k.val, h0⟩ r
  else if h1 : k.val < 2048 then gradIn Z R W ⟨k.val - 1024, by omega⟩ r * Z (ix2 r ⟨k.val + 1024, by omega⟩)
  else gradIn Z R W ⟨k.val - 2048, by omega⟩ r * Z (ix2 r ⟨k.val - 1024, by omega⟩)

/-- The gradient of the taps. -/
def gradTap (k : Fin 3) (c : Fin 1024) : EReal :=
  ∑ r : Fin 4096, lead (gradOut Z R c) (2 - k.val) r * gated Z c r

theorem gradZ_first (r : Fin 4096) (k : Fin 3072) (c : Fin 1024) (h : k.val = c.val) :
    gradZ Z R W r k = R (ix2 r c) * conv Z W c r := by
  have h0 : k.val < 1024 := by omega
  have hc : (⟨k.val, h0⟩ : Fin 1024) = c := Fin.ext h
  rw [gradZ, dif_pos h0, hc]

theorem gradZ_second (r : Fin 4096) (k : Fin 3072) (c : Fin 1024) (h : k.val = 1024 + c.val) :
    gradZ Z R W r k = gradIn Z R W c r * Z (ix2 r ⟨2048 + c.val, by omega⟩) := by
  have h0 : ¬ k.val < 1024 := by omega
  have h1 : k.val < 2048 := by omega
  have hc : (⟨k.val - 1024, by omega⟩ : Fin 1024) = c := Fin.ext (by simp; omega)
  have hk : (⟨k.val + 1024, by omega⟩ : Fin 3072) = ⟨2048 + c.val, by omega⟩ := Fin.ext (by simp; omega)
  rw [gradZ, dif_neg h0, dif_pos h1, hc, hk]

theorem gradZ_third (r : Fin 4096) (k : Fin 3072) (c : Fin 1024) (h : k.val = 2048 + c.val) :
    gradZ Z R W r k = gradIn Z R W c r * Z (ix2 r ⟨1024 + c.val, by omega⟩) := by
  have h0 : ¬ k.val < 1024 := by omega
  have h1 : ¬ k.val < 2048 := by omega
  have hc : (⟨k.val - 2048, by omega⟩ : Fin 1024) = c := Fin.ext (by simp; omega)
  have hk : (⟨k.val - 1024, by omega⟩ : Fin 3072) = ⟨1024 + c.val, by omega⟩ := Fin.ext (by simp; omega)
  rw [gradZ, dif_neg h0, dif_neg h1, hc, hk]

end Cert.Mix
end
-- ==== Proof.MixBlock.lean ====
/- One block of the kernel: a row of the block and of its two halos is a row of the whole arrays. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.MixSpec

@[expose] public section
set_option maxRecDepth 16384
noncomputable section
open Idealize.ShloMosaic Idealize.ShloMosaic.TcCoe Idealize.SL.Sem
open Idealize.ShloMosaic.Pipeline (Dat)

namespace Cert.KernelIdeal.Mix
open Cert.KernelIdeal Cert.KernelIdeal.Gen Cert.Mix
variable (m : (ℓ : Loc nD τ sig) → Buf (Elt Ideal) ℓ) (c : Dev nD)

/-- Where each window's block sits at grid point `t`; a halo's block is the 16 rows before or after, clamped. -/
theorem place : ∀ t : Fin cfg0.N, win0_0.index t = ![t.val, 0] ∧ win0_1.index t = ![t.val, 1] ∧ win0_2.index t = ![t.val, 2]
    ∧ win0_3.index t = ![t.val * 16 - 1, 1] ∧ win0_4.index t = ![t.val * 16 - 1, 2] ∧ win0_5.index t = ![min (t.val * 16 + 16) 255, 0]
    ∧ win0_6.index t = ![t.val, 0] ∧ win0_7.index t = ![min (t.val * 16 + 16) 255, 0] ∧ win0_8.index t = ![0, 0, 0]
    ∧ win0_9.index t = ![t.val, 0] ∧ win0_10.index t = ![0, 0] :=
  (by decide +kernel : ∀ t : Fin grid0.N, _)

/-- The two tests of the grid point: not the first, not the last. -/
theorem tests : ∀ t : Fin cfg0.N,
    Scalar.cmpi CmpIPredicate.sgt (BitVec.ofNat 32 (grid0.coords t 0).val) 0#32 = (if t.val = 0 then 0#1 else 1#1)
    ∧ Scalar.cmpi CmpIPredicate.slt (BitVec.ofNat 32 (grid0.coords t 0).val) 15#32 = (if t.val = 15 then 0#1 else 1#1) :=
  (by decide +kernel : ∀ t : Fin grid0.N, _)

/-- The three arguments on core `c`. -/
abbrev aZ : ArrZ := m ((c : Thread nD τ).loc main_arg0)
abbrev aR : ArrR := m ((c : Thread nD τ).loc main_arg1)
abbrev aW : ArrW := m ((c : Thread nD τ).loc main_arg2)

/-- Row `x` of block `t`. -/
def row (t : Fin cfg0.N) (x : Fin 256) : Fin 4096 :=
  ⟨t.val * 256 + x.val, by have : t.val < 16 := lt_of_lt_of_eq t.isLt N_0; omega⟩

/-- The input blocks of point `t`, typed: the gates' block with the halos of the last two and of the first, the
    gradient's block with its halo, the taps. -/
abbrev b0 (t : Fin cfg0.N) : FVec Ideal S256x1024 .bf16 := iblk m c 0 t
abbrev b1 (t : Fin cfg0.N) : FVec Ideal S256x1024 .bf16 := iblk m c 1 t
abbrev b2 (t : Fin cfg0.N) : FVec Ideal S256x1024 .bf16 := iblk m c 2 t
abbrev b3 (t : Fin cfg0.N) : FVec Ideal S16x1024 .bf16 := iblk m c 3 t
abbrev b4 (t : Fin cfg0.N) : FVec Ideal S16x1024 .bf16 := iblk m c 4 t
abbrev b5 (t : Fin cfg0.N) : FVec Ideal S16x1024 .bf16 := iblk m c 5 t
abbrev b6 (t : Fin cfg0.N) : FVec Ideal S256x1024 .bf16 := iblk m c 6 t
abbrev b7 (t : Fin cfg0.N) : FVec Ideal S16x1024 .bf16 := iblk m c 7 t
abbrev b8 (t : Fin cfg0.N) : FVec Ideal S1x3x1024 .f32 := iblk m c 8 t

variable (t : Fin cfg0.N) (x : Fin 256) (k : Fin 1024)

theorem tap_eq (j : Fin 3) : b8 m c t (ix3 0 j k) = aW m c (ix3 0 j k) := by
  blk_ext [b0, b1, b2, b3, b4, b5, b6, b7, b8, iblk, V, place t]

theorem gradOut_eq : b6 m c t (ix2 x k) * b0 m c t (ix2 x k) = gradOut (aZ m c) (aR m c) k (row t x) := by
  unfold gradOut row
  congr 1 <;> blk_ext [b0, b1, b2, b3, b4, b5, b6, b7, b8, iblk, V, place t]

theorem gated_eq : b1 m c t (ix2 x k) * b2 m c t (ix2 x k) = gated (aZ m c) k (row t x) := by
  unfold gated row
  congr 1 <;> blk_ext [b0, b1, b2, b3, b4, b5, b6, b7, b8, iblk, V, place t]

theorem gate_second : b1 m c t (ix2 x k) = aZ m c (ix2 (row t x) ⟨1024 + k.val, by omega⟩) := by
  unfold row
  blk_ext [b0, b1, b2, b3, b4, b5, b6, b7, b8, iblk, V, place t]

theorem gate_third : b2 m c t (ix2 x k) = aZ m c (ix2 (row t x) ⟨2048 + k.val, by omega⟩) := by
  unfold row
  blk_ext [b0, b1, b2, b3, b4, b5, b6, b7, b8, iblk, V, place t]

theorem dr_eq : b6 m c t (ix2 x k) = aR m c (ix2 (row t x) k) := by
  unfold row
  blk_ext [b0, b1, b2, b3, b4, b5, b6, b7, b8, iblk, V, place t]

/-- The row `a` later, read off the block or off the halo after it. -/
theorem lead_eq (a : ℕ) (ha : 0 < a) (ha' : a < 16) (n : ℕ) (hn : n = x.val + a) (h1 h2 : n < 256 → n < 256) (h3 h4 : ¬ n < 256 → n - 256 < 16) :
    (if h : n < 256 then b6 m c t (ix2 ⟨n, h1 h⟩ k) * b0 m c t (ix2 ⟨n, h2 h⟩ k)
      else Scalar.select (Scalar.cmpi CmpIPredicate.slt (BitVec.ofNat 32 (grid0.coords t 0).val) 15#32)
        (b7 m c t (ix2 ⟨n - 256, h3 h⟩ k) * b5 m c t (ix2 ⟨n - 256, h4 h⟩ k)) (0 : EReal))
    = lead (gradOut (aZ m c) (aR m c) k) a (row t x) := by
  have ht : t.val < 16 := lt_of_lt_of_eq t.isLt N_0
  subst hn
  rw [(tests t).2]
  by_cases h : x.val + a < 256
  · rw [dif_pos h, gradOut_eq m c t ⟨x.val + a, h⟩ k, lead, dif_pos (by simp only [row]; omega)]
    congr 1
    apply Fin.ext
    simp only [row]
    omega
  · rw [dif_neg h]
    by_cases hl : t.val = 15
    · rw [if_pos hl, lead, dif_neg (by simp only [row]; omega)]
      rfl
    · rw [if_neg hl, lead, dif_pos (by simp only [row]; omega)]
      refine Eq.trans (b := b7 m c t (ix2 ⟨x.val + a - 256, h3 h⟩ k) * b5 m c t (ix2 ⟨x.val + a - 256, h4 h⟩ k)) rfl ?_
      unfold gradOut row
      congr 1 <;> blk_ext [b0, b1, b2, b3, b4, b5, b6, b7, b8, iblk, V, place t]

/-- The row `a` earlier, read off the block or off the halo before it. -/
theorem lag_eq (a : ℕ) (ha : 0 < a) (ha' : a < 16) (n : ℕ) (hn : n = 16 + x.val - a) (h1 h2 : n < 16 → n < 16) (h3 h4 : ¬ n < 16 → n - 16 < 256) :
    (if h : n < 16 then Scalar.select (Scalar.cmpi CmpIPredicate.sgt (BitVec.ofNat 32 (grid0.coords t 0).val) 0#32)
        (b3 m c t (ix2 ⟨n, h1 h⟩ k) * b4 m c t (ix2 ⟨n, h2 h⟩ k)) (0 : EReal)
      else b1 m c t (ix2 ⟨n - 16, h3 h⟩ k) * b2 m c t (ix2 ⟨n - 16, h4 h⟩ k))
    = lag (gated (aZ m c) k) a (row t x) := by
  have ht : t.val < 16 := lt_of_lt_of_eq t.isLt N_0
  subst hn
  rw [(tests t).1]
  by_cases h : 16 + x.val - a < 16
  · rw [dif_pos h]
    by_cases hl : t.val = 0
    · rw [if_pos hl, lag, dif_neg (by simp only [row]; omega)]
      rfl
    · rw [if_neg hl, lag, dif_pos (by simp only [row]; omega)]
      refine Eq.trans (b := b3 m c t (ix2 ⟨16 + x.val - a, h1 h⟩ k) * b4 m c t (ix2 ⟨16 + x.val - a, h2 h⟩ k)) rfl ?_
      unfold gated row
      congr 1 <;> blk_ext [b0, b1, b2, b3, b4, b5, b6, b7, b8, iblk, V, place t]
  · rw [dif_neg h, gated_eq m c t ⟨16 + x.val - a - 16, by omega⟩ k, lag, dif_pos (by simp only [row]; omega)]
    congr 1
    apply Fin.ext
    simp only [row]
    omega

end Cert.KernelIdeal.Mix
end
-- ==== Proof.MixArray.lean ====
/- What the kernel's two result arrays hold after the last grid point. -/
module

public import proofs.«01_k».proof.Proof.MixBlock

@[expose] public section
set_option maxRecDepth 16384
noncomputable section
open Idealize.ShloMosaic Idealize.ShloMosaic.TcCoe Idealize.SL.Sem
open Idealize.ShloMosaic.Pipeline (Dat)

namespace Cert.KernelIdeal.Mix
open Cert.KernelIdeal Cert.KernelIdeal.Gen Cert.Mix
variable (m : (ℓ : Loc nD τ sig) → Buf (Elt Ideal) ℓ) (c : Dev nD)

variable (t : Fin cfg0.N) (x : Fin 256) (k : Fin 1024)

/-- The first gate's column of the gradient, in the body's arithmetic. -/
theorem body_first (j : Fin 3072) (hj : j.val = k.val)
    (h1 h2 : (16 + x.val + 272 - 1) % 272 < 16 → (16 + x.val + 272 - 1) % 272 < 16)
    (h3 h4 : ¬ (16 + x.val + 272 - 1) % 272 < 16 → (16 + x.val + 272 - 1) % 272 - 16 < 256)
    (g1 g2 : (16 + x.val + 272 - 2) % 272 < 16 → (16 + x.val + 272 - 2) % 272 < 16)
    (g3 g4 : ¬ (16 + x.val + 272 - 2) % 272 < 16 → (16 + x.val + 272 - 2) % 272 - 16 < 256) :
    b6 m c t (ix2 x k) *
      ((b8 m c t (ix3 0 2 k) * (b1 m c t (ix2 x k) * b2 m c t (ix2 x k)) +
        b8 m c t (ix3 0 1 k) *
          (if h : (16 + x.val + 272 - 1) % 272 < 16 then
            Scalar.select (Scalar.cmpi CmpIPredicate.sgt (BitVec.ofNat 32 (grid0.coords t 0).val) 0#32)
              (b3 m c t (ix2 ⟨(16 + x.val + 272 - 1) % 272, h1 h⟩ k) * b4 m c t (ix2 ⟨(16 + x.val + 272 - 1) % 272, h2 h⟩ k)) (0 : EReal)
          else b1 m c t (ix2 ⟨(16 + x.val + 272 - 1) % 272 - 16, h3 h⟩ k) * b2 m c t (ix2 ⟨(16 + x.val + 272 - 1) % 272 - 16, h4 h⟩ k))) +
        b8 m c t (ix3 0 0 k) *
          (if h : (16 + x.val + 272 - 2) % 272 < 16 then
            Scalar.select (Scalar.cmpi CmpIPredicate.sgt (BitVec.ofNat 32 (grid0.coords t 0).val) 0#32)
              (b3 m c t (ix2 ⟨(16 + x.val + 272 - 2) % 272, g1 h⟩ k) * b4 m c t (ix2 ⟨(16 + x.val + 272 - 2) % 272, g2 h⟩ k)) (0 : EReal)
          else b1 m c t (ix2 ⟨(16 + x.val + 272 - 2) % 272 - 16, g3 h⟩ k) * b2 m c t (ix2 ⟨(16 + x.val + 272 - 2) % 272 - 16, g4 h⟩ k)))
    = gradZ (aZ m c) (aR m c) (aW m c) (row t x) j := by
  rw [gradZ_first _ _ _ _ _ k hj, conv, lag_eq m c t x k 1 (by omega) (by omega) _ (by omega),
    lag_eq m c t x k 2 (by omega) (by omega) _ (by omega), tap_eq, tap_eq, tap_eq, gated_eq, dr_eq]

/-- The gradient of what the convolution reads, in the body's arithmetic. -/
theorem body_in (h1 h2 : (x.val + 272 - 270) % 272 < 256 → (x.val + 272 - 270) % 272 < 256)
    (h3 h4 : ¬ (x.val + 272 - 270) % 272 < 256 → (x.val + 272 - 270) % 272 - 256 < 16)
    (g1 g2 : (x.val + 272 - 271) % 272 < 256 → (x.val + 272 - 271) % 272 < 256)
    (g3 g4 : ¬ (x.val + 272 - 271) % 272 < 256 → (x.val + 272 - 271) % 272 - 256 < 16) :
    (b8 m c t (ix3 0 0 k) *
        (if h : (x.val + 272 - 270) % 272 < 256 then
          b6 m c t (ix2 ⟨(x.val + 272 - 270) % 272, h1 h⟩ k) * b0 m c t (ix2 ⟨(x.val + 272 - 270) % 272, h2 h⟩ k)
        else Scalar.select (Scalar.cmpi CmpIPredicate.slt (BitVec.ofNat 32 (grid0.coords t 0).val) 15#32)
          (b7 m c t (ix2 ⟨(x.val + 272 - 270) % 272 - 256, h3 h⟩ k) * b5 m c t (ix2 ⟨(x.val + 272 - 270) % 272 - 256, h4 h⟩ k)) (0 : EReal)) +
      b8 m c t (ix3 0 1 k) *
        (if h : (x.val + 272 - 271) % 272 < 256 then
          b6 m c t (ix2 ⟨(x.val + 272 - 271) % 272, g1 h⟩ k) * b0 m c t (ix2 ⟨(x.val + 272 - 271) % 272, g2 h⟩ k)
        else Scalar.select (Scalar.cmpi CmpIPredicate.slt (BitVec.ofNat 32 (grid0.coords t 0).val) 15#32)
          (b7 m c t (ix2 ⟨(x.val + 272 - 271) % 272 - 256, g3 h⟩ k) * b5 m c t (ix2 ⟨(x.val + 272 - 271) % 272 - 256, g4 h⟩ k)) (0 : EReal))) +
      b8 m c t (ix3 0 2 k) * (b6 m c t (ix2 x k) * b0 m c t (ix2 x k))
    = gradIn (aZ m c) (aR m c) (aW m c) k (row t x) := by
  rw [gradIn, lead_eq m c t x k 2 (by omega) (by omega) _ (by omega),
    lead_eq m c t x k 1 (by omega) (by omega) _ (by omega), tap_eq, tap_eq, tap_eq, gradOut_eq]

theorem body_second (e : EReal) (he : e = gradIn (aZ m c) (aR m c) (aW m c) k (row t x)) (j : Fin 3072) (hj : j.val = 1024 + k.val) :
    e * b2 m c t (ix2 x k) = gradZ (aZ m c) (aR m c) (aW m c) (row t x) j := by
  rw [gradZ_second _ _ _ _ _ k hj, he, gate_third]

theorem body_third (e : EReal) (he : e = gradIn (aZ m c) (aR m c) (aW m c) k (row t x)) (j : Fin 3072) (hj : j.val = 2048 + k.val) :
    e * b1 m c t (ix2 x k) = gradZ (aZ m c) (aR m c) (aW m c) (row t x) j := by
  rw [gradZ_third _ _ _ _ _ k hj, he, gate_second]

set_option maxHeartbeats 2000000 in
/-- The gates' gradient, as the body leaves it at one entry of its block. -/
theorem point_gates (r : Fin 256) (j : Fin 3072) :
    (outsAt0 m c t.val t.isLt).1 (ix2 r j) = gradZ (aZ m c) (aR m c) (aW m c) (row t r) j := by
  by_cases hc : t.val % 16 = 0
  case' pos => rw [outsAt0_A m c t hc]
  case' neg => rw [outsAt0_B m c t hc]
  all_goals
    frame_out
    clear hc
    canon_tiles x h
  all_goals
    idx_vars x
    obtain rfl : r = x0 := Fin.ext h0
    unfold_payloads
    pointwise
  iterate 8
    exact body_third m c t r _ _ (body_in m c t r _ _ _ _ _ _ _ _ _) j (by dsimp only; omega)
    exact body_second m c t r _ _ (body_in m c t r _ _ _ _ _ _ _ _ _) j (by dsimp only; omega)
    exact body_first m c t r _ j (by dsimp only; omega) _ _ _ _ _ _ _ _

/-- The gates' gradient, whole. -/
theorem final_gates (c : Dev nD) : (dats m 0 c).arrAt 9 (cfgs 0).N = fun i => gradZ (aZ m c) (aR m c) (aW m c) (i 0) (i 1) := by
  refine (dats m 0 c).arrAt_eq_of_covers 9 _ (by decide +kernel) fun t hf y => ?_
  blk_simp
  rw [after0_9]
  idx_vars y
  have e0 : ((View.whole main_v0_0).slice (win0_9.rect t)).emb (ix2 y0 y1) 0 = row t y0 := by
    apply Fin.ext
    simp only [row]
    blk_simp [place t]
  have e1 : ((View.whole main_v0_0).slice (win0_9.rect t)).emb (ix2 y0 y1) 1 = y1 := by
    apply Fin.ext
    blk_simp [place t]
  refine (point_gates m c t y0 y1).trans ?_
  exact congrArg₂ (fun u v => gradZ (aZ m c) (aR m c) (aW m c) u v) e0.symm e1.symm

end Cert.KernelIdeal.Mix
end
-- ==== Proof.MixShare.lean ====
/- What the kernel's two result arrays hold after the last grid point. -/
module

public import proofs.«01_k».proof.Proof.MixBlock

@[expose] public section
set_option maxRecDepth 16384
noncomputable section
open Idealize.ShloMosaic Idealize.ShloMosaic.TcCoe Idealize.SL.Sem
open Idealize.ShloMosaic.Pipeline (Dat)

namespace Cert.KernelIdeal.Mix
open Cert.KernelIdeal Cert.KernelIdeal.Gen Cert.Mix
variable (m : (ℓ : Loc nD τ sig) → Buf (Elt Ideal) ℓ) (c : Dev nD)

/-- One point's share of the taps' gradient. -/
def share (i : Fin 3) (j : Fin 1024) (t : Fin cfg0.N) : EReal :=
  ∑ x : Fin 256, lead (gradOut (aZ m c) (aR m c) j) (2 - i.val) (row t x) * gated (aZ m c) j (row t x)

theorem body_tap2 (t : Fin cfg0.N) (k : Fin 1024) (i : Fin 3) (hi : i.val = 2) (j : Fin 1024) (hj : j.val = k.val) :
    ∑ x : Fin 256, b6 m c t (ix2 x k) * b0 m c t (ix2 x k) * (b1 m c t (ix2 x k) * b2 m c t (ix2 x k)) = share m c i j t := by
  obtain rfl : j = k := Fin.ext hj
  unfold share
  refine Finset.sum_congr rfl fun x _ => ?_
  rw [gradOut_eq, gated_eq, hi, Nat.sub_self, lead_zero]

theorem body_tap1 (t : Fin cfg0.N) (k : Fin 1024) (i : Fin 3) (hi : i.val = 1) (j : Fin 1024) (hj : j.val = k.val)
    (h1 h2 : ∀ x : Fin 256, (x.val + 272 - 271) % 272 < 256 → (x.val + 272 - 271) % 272 < 256)
    (h3 h4 : ∀ x : Fin 256, ¬ (x.val + 272 - 271) % 272 < 256 → (x.val + 272 - 271) % 272 - 256 < 16) :
    ∑ x : Fin 256, (if h : (x.val + 272 - 271) % 272 < 256 then
          b6 m c t (ix2 ⟨(x.val + 272 - 271) % 272, h1 x h⟩ k) * b0 m c t (ix2 ⟨(x.val + 272 - 271) % 272, h2 x h⟩ k)
        else Scalar.select (Scalar.cmpi CmpIPredicate.slt (BitVec.ofNat 32 (grid0.coords t 0).val) 15#32)
          (b7 m c t (ix2 ⟨(x.val + 272 - 271) % 272 - 256, h3 x h⟩ k) * b5 m c t (ix2 ⟨(x.val + 272 - 271) % 272 - 256, h4 x h⟩ k)) (0 : EReal))
        * (b1 m c t (ix2 x k) * b2 m c t (ix2 x k)) = share m c i j t := by
  obtain rfl : j = k := Fin.ext hj
  unfold share
  refine Finset.sum_congr rfl fun x _ => ?_
  rw [lead_eq m c t x j 1 (by omega) (by omega) _ (by omega), gated_eq, hi]

theorem body_tap0 (t : Fin cfg0.N) (k : Fin 1024) (i : Fin 3) (hi : i.val = 0) (j : Fin 1024) (hj : j.val = k.val)
    (h1 h2 : ∀ x : Fin 256, (x.val + 272 - 270) % 272 < 256 → (x.val + 272 - 270) % 272 < 256)
    (h3 h4 : ∀ x : Fin 256, ¬ (x.val + 272 - 270) % 272 < 256 → (x.val + 272 - 270) % 272 - 256 < 16) :
    ∑ x : Fin 256, (if h : (x.val + 272 - 270) % 272 < 256 then
          b6 m c t (ix2 ⟨(x.val + 272 - 270) % 272, h1 x h⟩ k) * b0 m c t (ix2 ⟨(x.val + 272 - 270) % 272, h2 x h⟩ k)
        else Scalar.select (Scalar.cmpi CmpIPredicate.slt (BitVec.ofNat 32 (grid0.coords t 0).val) 15#32)
          (b7 m c t (ix2 ⟨(x.val + 272 - 270) % 272 - 256, h3 x h⟩ k) * b5 m c t (ix2 ⟨(x.val + 272 - 270) % 272 - 256, h4 x h⟩ k)) (0 : EReal))
        * (b1 m c t (ix2 x k) * b2 m c t (ix2 x k)) = share m c i j t := by
  obtain rfl : j = k := Fin.ext hj
  unfold share
  refine Finset.sum_congr rfl fun x _ => ?_
  rw [lead_eq m c t x j 2 (by omega) (by omega) _ (by omega), gated_eq, hi]

/-- The same entry, and the same share added. -/
theorem body_next (t : Fin cfg0.N) (prev : FVec Ideal S3x1024 .f32) (y0 i : Fin 3) (y1 j : Fin 1024) (h0 : y0.val = i.val)
    (h1 : y1.val = j.val) (s : EReal) (hs : s = share m c i j t) :
    prev (ix2 i j) + s = prev (ix2 y0 y1) + share m c y0 y1 t := by
  obtain rfl : y0 = i := Fin.ext h0
  obtain rfl : y1 = j := Fin.ext h1
  rw [hs]

end Cert.KernelIdeal.Mix
end
-- ==== Proof.MixTapsFirst.lean ====
/- The taps' gradient block after the first grid point. -/
module

public import proofs.«01_k».proof.Proof.MixShare

@[expose] public section
set_option maxRecDepth 16384
noncomputable section
open Idealize.ShloMosaic Idealize.ShloMosaic.TcCoe Idealize.SL.Sem
open Idealize.ShloMosaic.Pipeline (Dat)

namespace Cert.KernelIdeal.Mix
open Cert.KernelIdeal Cert.KernelIdeal.Gen Cert.Mix
variable (m : (ℓ : Loc nD τ sig) → Buf (Elt Ideal) ℓ) (c : Dev nD)

theorem chan (b : ℕ) (hb : b ≤ 768) (x : Fin 256) : b + x.val < 1024 := by omega

theorem chan0 (x : Fin 256) : x.val < 1024 := by omega

/-- The share at the entry a stored row's entry lands on. -/
theorem share_at (t : Fin cfg0.N) (a b : ℕ) (inb : ∀ d, (![a, b] : Fin 2 → ℕ) d + (![1, 256] : Fin 2 → ℕ) d ≤ S3x1024.size d)
    (x0 : Fin 1) (x1 : Fin 256) (i : Fin 3) (j : Fin 1024) (hi : i.val = a) (hj : j.val = b + x1.val) :
    share m c ((Rect.unit (s := S3x1024) ![a, b] ![1, 256] inb).emb (ix2 x0 x1) 0)
      ((Rect.unit (s := S3x1024) ![a, b] ![1, 256] inb).emb (ix2 x0 x1) 1) t = share m c i j t := by
  have e0 : (Rect.unit (s := S3x1024) ![a, b] ![1, 256] inb).emb (ix2 x0 x1) 0 = i := by
    apply Fin.ext
    rw [Rect.emb_apply, hi]
    show a + 1 * x0.val = a
    omega
  have e1 : (Rect.unit (s := S3x1024) ![a, b] ![1, 256] inb).emb (ix2 x0 x1) 1 = j := by
    apply Fin.ext
    rw [Rect.emb_apply, hj]
    show b + 1 * x1.val = b + x1.val
    omega
  exact congrArg₂ (fun u v => share m c u v t) e0 e1

set_option maxHeartbeats 2000000 in
/-- After the first point a tap's gradient is that point's share, over the zero it starts from. -/
theorem point_taps_first (t : Fin cfg0.N) (hc : t.val % 16 = 0) (y : S3x1024.Idx) :
    (outsAt0 m c t.val t.isLt).2 y = (0 : EReal) + share m c (y 0) (y 1) t := by
  rw [outsAt0_A m c t hc]
  frame_open
  simp (disch := decide) only [↓ View.readCov_skip, ↓ View.readCov_cons_toLoadRect, ↓ View.readCov_fill]
  frame_out
  clear hc
  refine View.canon_append_of_piecesOf (Val := Elt Ideal) (e := .f32) (fun i : S3x1024.Idx => (0 : EReal) + share m c (i 0) (i 1) t)
    [_] [_, _, _, _, _, _, _, _, _, _, _, _] ⟨?_, ?_, ?_, ?_, ?_, ?_, ?_, ?_, ?_, ?_, ?_, ?_, trivial⟩ _ ?_
  case refine_13 => exact View.cover_of_tiledL _ ![1, 256] (by rfl) y
  all_goals
    intro x
    idx_vars x
    have hz := x0.isLt
    unfold_payloads
    pointwise
  · exact (body_tap2 m c t ⟨768 + x1.val, chan 768 (by decide) x1⟩ 2 rfl ⟨768 + x1.val, chan 768 (by decide) x1⟩ rfl).trans
      (share_at m c t 2 768 _ x0 x1 2 ⟨768 + x1.val, chan 768 (by decide) x1⟩ rfl rfl).symm
  · exact (body_tap1 m c t ⟨768 + x1.val, chan 768 (by decide) x1⟩ 1 rfl ⟨768 + x1.val, chan 768 (by decide) x1⟩ rfl (by omega) (by omega) (by omega) (by omega)).trans
      (share_at m c t 1 768 _ x0 x1 1 ⟨768 + x1.val, chan 768 (by decide) x1⟩ rfl rfl).symm
  · exact (body_tap0 m c t ⟨768 + x1.val, chan 768 (by decide) x1⟩ 0 rfl ⟨768 + x1.val, chan 768 (by decide) x1⟩ rfl (by omega) (by omega) (by omega) (by omega)).trans
      (share_at m c t 0 768 _ x0 x1 0 ⟨768 + x1.val, chan 768 (by decide) x1⟩ rfl rfl).symm
  · exact (body_tap2 m c t ⟨512 + x1.val, chan 512 (by decide) x1⟩ 2 rfl ⟨512 + x1.val, chan 512 (by decide) x1⟩ rfl).trans
      (share_at m c t 2 512 _ x0 x1 2 ⟨512 + x1.val, chan 512 (by decide) x1⟩ rfl rfl).symm
  · exact (body_tap1 m c t ⟨512 + x1.val, chan 512 (by decide) x1⟩ 1 rfl ⟨512 + x1.val, chan 512 (by decide) x1⟩ rfl (by omega) (by omega) (by omega) (by omega)).trans
      (share_at m c t 1 512 _ x0 x1 1 ⟨512 + x1.val, chan 512 (by decide) x1⟩ rfl rfl).symm
  · exact (body_tap0 m c t ⟨512 + x1.val, chan 512 (by decide) x1⟩ 0 rfl ⟨512 + x1.val, chan 512 (by decide) x1⟩ rfl (by omega) (by omega) (by omega) (by omega)).trans
      (share_at m c t 0 512 _ x0 x1 0 ⟨512 + x1.val, chan 512 (by decide) x1⟩ rfl rfl).symm
  · exact (body_tap2 m c t ⟨256 + x1.val, chan 256 (by decide) x1⟩ 2 rfl ⟨256 + x1.val, chan 256 (by decide) x1⟩ rfl).trans
      (share_at m c t 2 256 _ x0 x1 2 ⟨256 + x1.val, chan 256 (by decide) x1⟩ rfl rfl).symm
  · exact (body_tap1 m c t ⟨256 + x1.val, chan 256 (by decide) x1⟩ 1 rfl ⟨256 + x1.val, chan 256 (by decide) x1⟩ rfl (by omega) (by omega) (by omega) (by omega)).trans
      (share_at m c t 1 256 _ x0 x1 1 ⟨256 + x1.val, chan 256 (by decide) x1⟩ rfl rfl).symm
  · exact (body_tap0 m c t ⟨256 + x1.val, chan 256 (by decide) x1⟩ 0 rfl ⟨256 + x1.val, chan 256 (by decide) x1⟩ rfl (by omega) (by omega) (by omega) (by omega)).trans
      (share_at m c t 0 256 _ x0 x1 0 ⟨256 + x1.val, chan 256 (by decide) x1⟩ rfl rfl).symm
  · exact (body_tap2 m c t ⟨x1.val, chan0 x1⟩ 2 rfl ⟨x1.val, chan0 x1⟩ rfl).trans
      (share_at m c t 2 0 _ x0 x1 2 ⟨x1.val, chan0 x1⟩ rfl (Nat.zero_add _).symm).symm
  · exact (body_tap1 m c t ⟨x1.val, chan0 x1⟩ 1 rfl ⟨x1.val, chan0 x1⟩ rfl (by omega) (by omega) (by omega) (by omega)).trans
      (share_at m c t 1 0 _ x0 x1 1 ⟨x1.val, chan0 x1⟩ rfl (Nat.zero_add _).symm).symm
  · exact (body_tap0 m c t ⟨x1.val, chan0 x1⟩ 0 rfl ⟨x1.val, chan0 x1⟩ rfl (by omega) (by omega) (by omega) (by omega)).trans
      (share_at m c t 0 0 _ x0 x1 0 ⟨x1.val, chan0 x1⟩ rfl (Nat.zero_add _).symm).symm

end Cert.KernelIdeal.Mix
end
-- ==== Proof.MixTapsNext.lean ====
/- The taps' gradient block after every later grid point. -/
module

public import proofs.«01_k».proof.Proof.MixTapsFirst

@[expose] public section
set_option maxRecDepth 16384
noncomputable section
open Idealize.ShloMosaic Idealize.ShloMosaic.TcCoe Idealize.SL.Sem
open Idealize.ShloMosaic.Pipeline (Dat)

namespace Cert.KernelIdeal.Mix
open Cert.KernelIdeal Cert.KernelIdeal.Gen Cert.Mix
variable (m : (ℓ : Loc nD τ sig) → Buf (Elt Ideal) ℓ) (c : Dev nD)

set_option maxHeartbeats 2000000 in
/-- After every later point it is what it was, and that point's share. -/
theorem point_taps_next (t : Fin cfg0.N) (hc : ¬ t.val % 16 = 0) (y : S3x1024.Idx) :
    (outsAt0 m c t.val t.isLt).2 y = (outsAt0 m c (t.val - 1) (lt_of_le_of_lt (Nat.sub_le _ _) t.isLt)).2 y + share m c (y 0) (y 1) t := by
  rw [outsAt0_B m c t hc]
  frame_out
  clear hc
  idx_vars y
  canon_tiles x h
  all_goals
    idx_vars x
    have hz := x0.isLt
    unfold_payloads
    pointwise
  · obtain rfl : y0 = 2 := Fin.ext (by show y0.val = 2; omega)
    obtain rfl : y1 = ⟨768 + x1.val, chan 768 (by decide) x1⟩ := Fin.ext (by show y1.val = 768 + x1.val; omega)
    exact congrArg₂ (fun u v : EReal => u + v) rfl (body_tap2 m c t ⟨768 + x1.val, by omega⟩ 2 rfl ⟨768 + x1.val, by omega⟩ rfl)
  · obtain rfl : y0 = 1 := Fin.ext (by show y0.val = 1; omega)
    obtain rfl : y1 = ⟨768 + x1.val, chan 768 (by decide) x1⟩ := Fin.ext (by show y1.val = 768 + x1.val; omega)
    exact congrArg₂ (fun u v : EReal => u + v) rfl (body_tap1 m c t ⟨768 + x1.val, by omega⟩ 1 rfl ⟨768 + x1.val, by omega⟩ rfl (by omega) (by omega) (by omega) (by omega))
  · obtain rfl : y0 = 0 := Fin.ext (by show y0.val = 0; omega)
    obtain rfl : y1 = ⟨768 + x1.val, chan 768 (by decide) x1⟩ := Fin.ext (by show y1.val = 768 + x1.val; omega)
    exact congrArg₂ (fun u v : EReal => u + v) rfl (body_tap0 m c t ⟨768 + x1.val, by omega⟩ 0 rfl ⟨768 + x1.val, by omega⟩ rfl (by omega) (by omega) (by omega) (by omega))
  · obtain rfl : y0 = 2 := Fin.ext (by show y0.val = 2; omega)
    obtain rfl : y1 = ⟨512 + x1.val, chan 512 (by decide) x1⟩ := Fin.ext (by show y1.val = 512 + x1.val; omega)
    exact congrArg₂ (fun u v : EReal => u + v) rfl (body_tap2 m c t ⟨512 + x1.val, by omega⟩ 2 rfl ⟨512 + x1.val, by omega⟩ rfl)
  · obtain rfl : y0 = 1 := Fin.ext (by show y0.val = 1; omega)
    obtain rfl : y1 = ⟨512 + x1.val, chan 512 (by decide) x1⟩ := Fin.ext (by show y1.val = 512 + x1.val; omega)
    exact congrArg₂ (fun u v : EReal => u + v) rfl (body_tap1 m c t ⟨512 + x1.val, by omega⟩ 1 rfl ⟨512 + x1.val, by omega⟩ rfl (by omega) (by omega) (by omega) (by omega))
  · obtain rfl : y0 = 0 := Fin.ext (by show y0.val = 0; omega)
    obtain rfl : y1 = ⟨512 + x1.val, chan 512 (by decide) x1⟩ := Fin.ext (by show y1.val = 512 + x1.val; omega)
    exact congrArg₂ (fun u v : EReal => u + v) rfl (body_tap0 m c t ⟨512 + x1.val, by omega⟩ 0 rfl ⟨512 + x1.val, by omega⟩ rfl (by omega) (by omega) (by omega) (by omega))
  · obtain rfl : y0 = 2 := Fin.ext (by show y0.val = 2; omega)
    obtain rfl : y1 = ⟨256 + x1.val, chan 256 (by decide) x1⟩ := Fin.ext (by show y1.val = 256 + x1.val; omega)
    exact congrArg₂ (fun u v : EReal => u + v) rfl (body_tap2 m c t ⟨256 + x1.val, by omega⟩ 2 rfl ⟨256 + x1.val, by omega⟩ rfl)
  · obtain rfl : y0 = 1 := Fin.ext (by show y0.val = 1; omega)
    obtain rfl : y1 = ⟨256 + x1.val, chan 256 (by decide) x1⟩ := Fin.ext (by show y1.val = 256 + x1.val; omega)
    exact congrArg₂ (fun u v : EReal => u + v) rfl (body_tap1 m c t ⟨256 + x1.val, by omega⟩ 1 rfl ⟨256 + x1.val, by omega⟩ rfl (by omega) (by omega) (by omega) (by omega))
  · obtain rfl : y0 = 0 := Fin.ext (by show y0.val = 0; omega)
    obtain rfl : y1 = ⟨256 + x1.val, chan 256 (by decide) x1⟩ := Fin.ext (by show y1.val = 256 + x1.val; omega)
    exact congrArg₂ (fun u v : EReal => u + v) rfl (body_tap0 m c t ⟨256 + x1.val, by omega⟩ 0 rfl ⟨256 + x1.val, by omega⟩ rfl (by omega) (by omega) (by omega) (by omega))
  · obtain rfl : y0 = 2 := Fin.ext (by show y0.val = 2; omega)
    obtain rfl : y1 = ⟨x1.val, chan0 x1⟩ := Fin.ext (by show y1.val = x1.val; omega)
    exact congrArg₂ (fun u v : EReal => u + v) rfl (body_tap2 m c t ⟨x1.val, by omega⟩ 2 rfl ⟨x1.val, by omega⟩ rfl)
  · obtain rfl : y0 = 1 := Fin.ext (by show y0.val = 1; omega)
    obtain rfl : y1 = ⟨x1.val, chan0 x1⟩ := Fin.ext (by show y1.val = x1.val; omega)
    exact congrArg₂ (fun u v : EReal => u + v) rfl (body_tap1 m c t ⟨x1.val, by omega⟩ 1 rfl ⟨x1.val, by omega⟩ rfl (by omega) (by omega) (by omega) (by omega))
  · obtain rfl : y0 = 0 := Fin.ext (by show y0.val = 0; omega)
    obtain rfl : y1 = ⟨x1.val, chan0 x1⟩ := Fin.ext (by show y1.val = x1.val; omega)
    exact congrArg₂ (fun u v : EReal => u + v) rfl (body_tap0 m c t ⟨x1.val, by omega⟩ 0 rfl ⟨x1.val, by omega⟩ rfl (by omega) (by omega) (by omega) (by omega))

end Cert.KernelIdeal.Mix
end
-- ==== Proof.MixTaps.lean ====
/- The taps' gradient, over the whole grid. -/
module

public import proofs.«01_k».proof.Proof.MixTapsNext

@[expose] public section
set_option maxRecDepth 16384
noncomputable section
open Idealize.ShloMosaic Idealize.ShloMosaic.TcCoe Idealize.SL.Sem
open Idealize.ShloMosaic.Pipeline (Dat)

namespace Cert.KernelIdeal.Mix
open Cert.KernelIdeal Cert.KernelIdeal.Gen Cert.Mix
variable (m : (ℓ : Loc nD τ sig) → Buf (Elt Ideal) ℓ) (c : Dev nD)

/-- The taps' gradient, whole: the sixteen points' shares. -/
theorem final_taps (c : Dev nD) : (dats m 0 c).arrAt 10 (cfgs 0).N = fun i => gradTap (aZ m c) (aR m c) (i 0) (i 1) := by
  refine (dats m 0 c).arrAt_eq_of_after_last 10 t0_15 (by decide +kernel) _ fun j => ?_
  blk_simp
  rw [after0_10]
  refine (Pipeline.eq_sum_fin_of_reset_step_apply_last (M := EReal) (fun n h => (outsAt0 m c n h).2) 16 (fun _ => (0 : EReal))
    (fun t y => share m c (y 0) (y 1) t) (fun t h y => point_taps_first m c t h y) (fun t h y => point_taps_next m c t h y)
    (le_of_eq N_0) t0_15 rfl j).trans ?_
  rw [zero_add]
  show _ = gradTap (aZ m c) (aR m c) (j 0) (j 1)
  unfold gradTap share row
  exact Fin.sum_mul_add_fin 16 256 (fun r : Fin 4096 => lead (gradOut (aZ m c) (aR m c) (j 1)) (2 - (j 0).val) r * gated (aZ m c) (j 1) r)

end Cert.KernelIdeal.Mix
end
-- ==== Proof.MixRef.lean ====
/- What the reference's two results hold. -/
module

public import proofs.«01_k».proof.Proof.Gen.ReferenceIdeal.Run
public import Idealize.ShloMosaic.Lib.Tactic.CleanTypes
public import proofs.«01_k».proof.Proof.MixSpec

@[expose] public section
set_option maxRecDepth 16384
noncomputable section
open Idealize.ShloMosaic Idealize.ShloMosaic.TcCoe Idealize.SL.Sem

namespace Cert.ReferenceIdeal.Mix
open Cert.ReferenceIdeal Cert.ReferenceIdeal.Gen Cert.Mix
variable (m : (ℓ : Loc nD τ sig) → Buf (Elt Ideal) ℓ) (c : Dev nD)

abbrev aZ : ArrZ := m ((c.tc : Thread nD τ).loc main_arg0)
abbrev aR : ArrR := m ((c.tc : Thread nD τ).loc main_arg1)
abbrev aW : ArrW := m ((c.tc : Thread nD τ).loc main_arg2)

variable (Z : ArrZ) (R : ArrR) (W : ArrW)

/-- The reference's convolution in one channel: rows read from under two rows of zeros. -/
theorem conv_padded (k : Fin 1024) (r : Fin 4096) :
    ((W (ix3 0 0 k) * if h : r.val < 2 then (0 : EReal)
        else Z (ix2 ⟨r.val - 2, by omega⟩ ⟨1024 + k.val, by omega⟩) * Z (ix2 ⟨r.val - 2, by omega⟩ ⟨2048 + k.val, by omega⟩))
      + W (ix3 0 1 k) * if h : 1 + r.val < 2 then (0 : EReal)
        else Z (ix2 ⟨1 + r.val - 2, by omega⟩ ⟨1024 + k.val, by omega⟩)
          * Z (ix2 ⟨1 + r.val - 2, by omega⟩ ⟨2048 + k.val, by omega⟩))
      + W (ix3 0 2 k) * (Z (ix2 r ⟨1024 + k.val, by omega⟩) * Z (ix2 r ⟨2048 + k.val, by omega⟩)) = conv Z W k r := by
  have e2 : (if h : r.val < 2 then (0 : EReal)
        else Z (ix2 ⟨r.val - 2, by omega⟩ ⟨1024 + k.val, by omega⟩)
          * Z (ix2 ⟨r.val - 2, by omega⟩ ⟨2048 + k.val, by omega⟩)) = lag (gated Z k) 2 r := by
    by_cases hr : r.val < 2
    · rw [dif_pos hr, lag, dif_neg (by omega)]
    · rw [dif_neg hr, lag, dif_pos (by omega), gated]
  have e1 : (if h : 1 + r.val < 2 then (0 : EReal)
        else Z (ix2 ⟨1 + r.val - 2, by omega⟩ ⟨1024 + k.val, by omega⟩)
          * Z (ix2 ⟨1 + r.val - 2, by omega⟩ ⟨2048 + k.val, by omega⟩)) = lag (gated Z k) 1 r := by
    by_cases hr : 1 + r.val < 2
    · rw [dif_pos hr, lag, dif_neg (by omega)]
    · have hx : (⟨1 + r.val - 2, by omega⟩ : Fin 4096) = ⟨r.val - 1, by omega⟩ := Fin.ext (by simp; omega)
      rw [dif_neg hr, lag, dif_pos (by omega), gated, hx]
  rw [e2, e1, conv, gated, add_comm, add_comm (W (ix3 0 0 k) * _), ← add_assoc]

/-- The reference's gradient of what the convolution reads: three padded products added, cut below the first two rows. -/
theorem gradIn_padded (k : Fin 1024) (r : Fin 4096) :
    ((if h : k.val < 1024 then W (ix3 0 2 ⟨k.val, h⟩) * (Z (ix2 r ⟨k.val, by omega⟩) * R (ix2 r ⟨k.val, h⟩)) else (0 : EReal))
      + if h : (1 ≤ 2 + r.val ∧ 2 + r.val - 1 < 4096) ∧ k.val < 1024 then
          W (ix3 0 1 ⟨k.val, h.2⟩) * (Z (ix2 ⟨2 + r.val - 1, h.1.2⟩ ⟨k.val, by omega⟩)
            * R (ix2 ⟨2 + r.val - 1, h.1.2⟩ ⟨k.val, h.2⟩)) else (0 : EReal))
      + (if h : 2 + r.val < 4096 ∧ k.val < 1024 then
          W (ix3 0 0 ⟨k.val, h.2⟩) * (Z (ix2 ⟨2 + r.val, h.1⟩ ⟨k.val, by omega⟩)
            * R (ix2 ⟨2 + r.val, h.1⟩ ⟨k.val, h.2⟩)) else (0 : EReal)) = gradIn Z R W k r := by
  have hk := k.isLt
  have e1 : (if h : (1 ≤ 2 + r.val ∧ 2 + r.val - 1 < 4096) ∧ k.val < 1024 then
          W (ix3 0 1 ⟨k.val, h.2⟩) * (Z (ix2 ⟨2 + r.val - 1, h.1.2⟩ ⟨k.val, by omega⟩)
            * R (ix2 ⟨2 + r.val - 1, h.1.2⟩ ⟨k.val, h.2⟩)) else (0 : EReal))
        = W (ix3 0 1 k) * lead (gradOut Z R k) 1 r := by
    by_cases hr : r.val + 1 < 4096
    · have hx : (⟨2 + r.val - 1, by omega⟩ : Fin 4096) = ⟨r.val + 1, hr⟩ := Fin.ext (by simp; omega)
      rw [dif_pos (by omega), lead, dif_pos hr, gradOut, hx, mul_comm (R _)]
    · rw [dif_neg (by omega), lead, dif_neg hr, mul_zero]
  have e0 : (if h : 2 + r.val < 4096 ∧ k.val < 1024 then
          W (ix3 0 0 ⟨k.val, h.2⟩) * (Z (ix2 ⟨2 + r.val, h.1⟩ ⟨k.val, by omega⟩)
            * R (ix2 ⟨2 + r.val, h.1⟩ ⟨k.val, h.2⟩)) else (0 : EReal)) = W (ix3 0 0 k) * lead (gradOut Z R k) 2 r := by
    by_cases hr : r.val + 2 < 4096
    · have hx : (⟨2 + r.val, by omega⟩ : Fin 4096) = ⟨r.val + 2, hr⟩ := Fin.ext (by simp; omega)
      rw [dif_pos (by omega), lead, dif_pos hr, gradOut, hx, mul_comm (R _)]
    · rw [dif_neg (by omega), lead, dif_neg hr, mul_zero]
  rw [e1, e0, dif_pos hk, mul_comm (Z _)]
  show W (ix3 0 2 k) * gradOut Z R k r + _ + _ = _
  rw [gradIn, add_comm, add_comm (W (ix3 0 2 k) * _), ← add_assoc]

/-- The reference's gradient of the last tap: no shift. -/
theorem tap_last (k : Fin 1024) :
    ∑ x : Fin 4096, Z (ix2 x ⟨k.val, by omega⟩) * R (ix2 x k)
      * (Z (ix2 x ⟨1024 + k.val, by omega⟩) * Z (ix2 x ⟨2048 + k.val, by omega⟩)) = gradTap Z R 2 k := by
  rw [gradTap]
  refine Finset.sum_congr rfl fun r _ => ?_
  show _ = lead (gradOut Z R k) 0 r * gated Z k r
  rw [lead_zero, gradOut, gated, mul_comm (R _)]

/-- The reference's gradient of the middle tap: what the convolution read, one row earlier. -/
theorem tap_middle (k : Fin 1024) :
    ∑ x : Fin 4096, Z (ix2 x ⟨k.val, by omega⟩) * R (ix2 x k)
      * (if h : 1 + x.val < 2 then (0 : EReal) else
          Z (ix2 ⟨1 + x.val - 2, by omega⟩ ⟨1024 + k.val, by omega⟩)
            * Z (ix2 ⟨1 + x.val - 2, by omega⟩ ⟨2048 + k.val, by omega⟩)) = gradTap Z R 1 k := by
  rw [gradTap, sum_lead_mul _ _ _ (by decide)]
  refine Finset.sum_congr rfl fun r _ => ?_
  show _ = gradOut Z R k r * lag (gated Z k) 1 r
  rw [gradOut, lag, mul_comm (R _)]
  congr 1
  by_cases hr : 1 ≤ r.val
  · have hx : (⟨1 + r.val - 2, by omega⟩ : Fin 4096) = ⟨r.val - 1, by omega⟩ := Fin.ext (by simp; omega)
    rw [dif_neg (by omega), dif_pos hr, gated, hx]
  · rw [dif_pos (by omega), dif_neg hr]

/-- The reference's gradient of the first tap: the two rows of zeros, then what the convolution read two rows earlier. -/
theorem tap_first (k : Fin 1024) :
    ∑ x : Fin 2, Z (ix2 (⟨x.val, by omega⟩ : Fin 4096) (⟨k.val, by omega⟩ : Fin 3072))
        * R (ix2 (⟨x.val, by omega⟩ : Fin 4096) k) * (0 : EReal)
      + ∑ x : Fin 4094, Z (ix2 (⟨2 + x.val, by omega⟩ : Fin 4096) (⟨k.val, by omega⟩ : Fin 3072))
          * R (ix2 (⟨2 + x.val, by omega⟩ : Fin 4096) k)
          * (Z (ix2 (⟨x.val, by omega⟩ : Fin 4096) (⟨1024 + k.val, by omega⟩ : Fin 3072))
            * Z (ix2 (⟨x.val, by omega⟩ : Fin 4096) (⟨2048 + k.val, by omega⟩ : Fin 3072))) = gradTap Z R 0 k := by
  rw [gradTap, sum_lead_mul _ _ _ (by decide)]
  have hs : ∑ x : Fin 4096, gradOut Z R k x * lag (gated Z k) (2 - (0 : Fin 3).val) x
      = ∑ x : Fin (2 + 4094), gradOut Z R k x * lag (gated Z k) 2 x := rfl
  rw [hs, Fin.sum_univ_add]
  refine congrArg₂ (fun u v : EReal => u + v) (Finset.sum_congr rfl fun x _ => ?_) (Finset.sum_congr rfl fun x _ => ?_)
  · have hx : ¬ 2 ≤ (Fin.castAdd 4094 x).val := by have := x.isLt; simp; omega
    rw [lag, dif_neg hx, mul_zero, mul_zero]
  · have hx : 2 ≤ (Fin.natAdd 2 x).val := by simp
    have hy : (⟨(Fin.natAdd 2 x).val - 2, by omega⟩ : Fin 4096) = ⟨x.val, by omega⟩ := Fin.ext (by simp)
    have hw : (Fin.natAdd 2 x : Fin (2 + 4094)) = (⟨2 + x.val, by omega⟩ : Fin 4096) := rfl
    rw [lag, dif_pos hx, hy, hw, gated, gradOut, mul_comm (R _)]

set_option maxHeartbeats 400000 in
/-- The gradient of the gates, as the reference computes it. -/
theorem ref_gates (r : Fin 4096) (j : Fin 3072) :
    (Value.res_main_v71 m c : ArrZ) (ix2 r j) = gradZ (aZ m c) (aR m c) (aW m c) r j := by
  unfold Value.res_main_v71
  clean_types
  pointwise
  by_cases h0 : j.val < 1024
  · rw [dif_pos h0]
    have hj : j.val = (⟨j.val, h0⟩ : Fin 1024).val := by dsimp only
    refine Eq.trans ?_ (gradZ_first (aZ m c) (aR m c) (aW m c) r j ⟨j.val, h0⟩ hj).symm
    refine congrArg (fun v : EReal => (aR m c) (ix2 r ⟨j.val, h0⟩) * v) ?_
    exact conv_padded (aZ m c) (aW m c) ⟨j.val, h0⟩ r
  · rw [dif_neg h0]
    by_cases h1 : j.val - 1024 < 1024
    · rw [dif_pos h1]
      have hj : j.val = 1024 + (⟨j.val - 1024, h1⟩ : Fin 1024).val := by dsimp only; omega
      refine Eq.trans ?_ (gradZ_second (aZ m c) (aR m c) (aW m c) r j ⟨j.val - 1024, h1⟩ hj).symm
      refine congrArg (fun v : EReal => v * (aZ m c) (ix2 r ⟨2048 + (j.val - 1024), by omega⟩)) ?_
      exact gradIn_padded (aZ m c) (aR m c) (aW m c) ⟨j.val - 1024, h1⟩ r
    · have h2 : j.val - 1024 - 1024 < 1024 := by omega
      have hj : j.val = 2048 + (⟨j.val - 1024 - 1024, h2⟩ : Fin 1024).val := by dsimp only; omega
      rw [dif_neg h1]
      refine Eq.trans ?_ (gradZ_third (aZ m c) (aR m c) (aW m c) r j ⟨j.val - 1024 - 1024, h2⟩ hj).symm
      refine Eq.trans ?_ (mul_comm _ _)
      refine congrArg (fun v : EReal => (aZ m c) (ix2 r ⟨1024 + (j.val - 1024 - 1024), by omega⟩) * v) ?_
      exact gradIn_padded (aZ m c) (aR m c) (aW m c) ⟨j.val - 1024 - 1024, h2⟩ r

/-- The reference's run: both results, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v71) : ArrZ) = (fun i => gradZ (aZ m c) (aR m c) (aW m c) (i 0) (i 1))
      ∧ (r.2.mem ((c.tc : Thread nD τ).loc main_v65) : FVec Ideal S3x1024 .f32) = (fun i => gradTap (aZ m c) (aR m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  refine ⟨?_, ?_, (h c).2.2⟩
  · rw [(h c).1]
    funext y
    idx_vars y
    exact ref_gates m c y0 y1
  rw [(h c).2.1]
  funext y
  obtain ⟨i, j, rfl⟩ : ∃ (i : Fin 3) (j : Fin 1024), y = ix2 i j := ⟨y 0, y 1, by idx_vars y⟩
  show _ = gradTap (aZ m c) (aR m c) i j
  clean_types
  pointwise
  clear h
  have hi := i.isLt
  have hcase : i = 2 ∨ i = 1 ∨ i = 0 := by
    rcases (by omega : i.val = 2 ∨ i.val = 1 ∨ i.val = 0) with h | h | h
    · exact Or.inl (Fin.ext h)
    · exact Or.inr (Or.inl (Fin.ext h))
    · exact Or.inr (Or.inr (Fin.ext h))
  rcases hcase with rfl | rfl | rfl
  · rw [dif_pos (by decide), dif_neg (by decide), dif_neg (by decide), add_zero, add_zero, Fin.sum_univ_one]
    exact tap_last (aZ m c) (aR m c) j
  · rw [dif_neg (by decide), dif_pos (by decide), dif_neg (by decide), zero_add, add_zero, Fin.sum_univ_one]
    exact tap_middle (aZ m c) (aR m c) j
  · rw [dif_neg (by decide), dif_neg (by decide), dif_pos (by decide), zero_add, zero_add, Fin.sum_univ_one]
    exact tap_first (aZ m c) (aR m c) j
end Cert.ReferenceIdeal.Mix
end
-- ==== Proof.UpDw.lean ====
/- The up projection's weight gradient: each point adds a half product to two shares of the columns; the reference takes
   one product and cuts its columns into the four shares. -/
module

public import proofs.«01_k».proof.Proof.Gen.UpDwKernelIdeal.Frame
public import Idealize.ShloMosaic.Lib.Pipeline.ValueKit
public import Idealize.ShloMosaic.Lib.Pipeline.ReadBack
public import Idealize.ShloMosaic.Lib.Pointwise
public import proofs.«01_k».proof.Proof.Gen.UpDwReferenceIdeal.Run

@[expose] public section
set_option maxRecDepth 16384
noncomputable section
open Idealize.ShloMosaic Idealize.ShloMosaic.TcCoe Idealize.SL.Sem
open Idealize.ShloMosaic.Pipeline (Dat)

namespace Cert.UpDwKernelIdeal.Mix
open Cert.UpDwKernelIdeal Cert.UpDwKernelIdeal.Gen
variable (m : (ℓ : Loc nD τ sig) → Buf (Elt Ideal) ℓ) (c : Dev nD)

/-- Where each window's block sits at grid point `t`. -/
theorem place : ∀ t : Fin cfg0.N, win0_0.index t = ![t.val % 2, t.val / 4] ∧ win0_1.index t = ![t.val % 2, t.val / 2 % 2]
    ∧ win0_2.index t = ![t.val / 2 % 2, t.val / 4, 0] :=
  (by decide +kernel : ∀ t : Fin grid0.N, _)

/-- The two arguments on core `c`. -/
abbrev argX : FVec Ideal S4096x1024 .bf16 := m ((c : Thread nD τ).loc main_arg0)
abbrev argY : FVec Ideal S4096x5632 .bf16 := m ((c : Thread nD τ).loc main_arg1)

/-- The two input blocks of point `t`. -/
abbrev blkX (t : Fin cfg0.N) : FVec Ideal S2048x512 .bf16 := iblk m c 0 t
abbrev blkY (t : Fin cfg0.N) : FVec Ideal S2048x2816 .bf16 := iblk m c 1 t

/-- Column `j` of the `d`-th of the two shares in one block. -/
def near (d : Fin 2) (j : Fin 1408) : Fin 2816 := ⟨d.val * 1408 + j.val, by omega⟩

/-- Column `j` of the `d`-th of the four shares the columns are cut into. -/
def col (d : Fin 4) (j : Fin 1408) : Fin 5632 := ⟨d.val * 1408 + j.val, by omega⟩

theorem pay_zero (j : S2x512x1408.Idx) : k0_pay1 (F := Ideal) j = 0 := by pointwise [k0_pay1]

theorem pay_low (a : FVec Ideal S2048x512 .bf16) (b : FVec Ideal S2048x2816 .bf16) (v : FVec Ideal S1x512x1408 .f32) (p : Fin 512) (q : Fin 1408) :
    k0_pay3 a b v (ix3 0 p q) = v (ix3 0 p q) + ∑ k : Fin 2048, a (ix2 k p) * b (ix2 k (near 0 q)) := by
  pointwise [k0_pay3, k0_pay2, near]

theorem pay_high (a : FVec Ideal S2048x512 .bf16) (b : FVec Ideal S2048x2816 .bf16) (v : FVec Ideal S1x512x1408 .f32) (p : Fin 512) (q : Fin 1408) :
    k0_pay4 a b v (ix3 0 p q) = v (ix3 0 p q) + ∑ k : Fin 2048, a (ix2 k p) * b (ix2 k (near 1 q)) := by
  pointwise [k0_pay4, k0_pay2, near]

/-- The two halves of a block, and the whole of it. -/
abbrev low : Rect S2x512x1408 := Rect.unit ![0, 0, 0] ![1, 512, 1408] inb_S2x512x1408_S1x512x1408_0_0_0
abbrev high : Rect S2x512x1408 := Rect.unit ![1, 0, 0] ![1, 512, 1408] inb_S2x512x1408_S1x512x1408_1_0_0
abbrev both : Rect S2x512x1408 := Rect.unit ![0, 0, 0] ![2, 512, 1408] inb_S2x512x1408_S2x512x1408_0_0_0

theorem low_emb (p : Fin 512) (q : Fin 1408) : low.emb (ix3 0 p q) = (ix3 0 p q : S2x512x1408.Idx) := by
  funext a
  apply Fin.ext
  fin_cases a <;> simp [low, Rect.emb, Rect.unit]

theorem high_emb (p : Fin 512) (q : Fin 1408) : high.emb (ix3 0 p q) = (ix3 1 p q : S2x512x1408.Idx) := by
  funext a
  apply Fin.ext
  fin_cases a <;> simp [high, Rect.emb, Rect.unit]

theorem not_high (p : Fin 512) (q : Fin 1408) : (ix3 0 p q : S2x512x1408.Idx) ∉ high.set := by
  rw [Rect.mem_set_unit]
  intro h
  have := (h 0).1
  simp at this

theorem not_low (p : Fin 512) (q : Fin 1408) : (ix3 1 p q : S2x512x1408.Idx) ∉ low.set := by
  rw [Rect.mem_set_unit]
  intro h
  have := (h 0).2
  simp at this

/-- A block filled with zeros reads zero. -/
theorem zero_fill (i : S2x512x1408.Idx) : View.canon (Val := Elt Ideal) (e := .f32) [⟨both, k0_pay1 (F := Ideal)⟩] i = (0 : EReal) := by
  rw [View.canon_cons_unit_lit' _ _ _ (by decide)]
  exact pay_zero i

variable (u v : FVec Ideal S1x512x1408 .f32) (L : List (View.Piece (Elt Ideal) S2x512x1408 .f32)) (p : Fin 512) (q : Fin 1408)

/-- The half stored last, and the half stored before it. -/
theorem canon_high : View.canon (⟨high, u⟩ :: L) (ix3 1 p q) = u (ix3 0 p q) := by
  have h := View.canon_cons_emb high u L (ix3 0 p q)
  rwa [high_emb] at h

theorem canon_low : View.canon (⟨high, u⟩ :: ⟨low, v⟩ :: L) (ix3 0 p q) = v (ix3 0 p q) := by
  have h := View.canon_cons_emb low v L (ix3 0 p q)
  rw [low_emb] at h
  have e := View.canon_cons_of_not_mem (⟨high, u⟩ : View.Piece (Elt Ideal) S2x512x1408 .f32) (⟨low, v⟩ :: L) (y := ix3 0 p q) (not_high p q)
  exact e.trans h

/-- Loading a half of a block filled with zeros, the high one after the low one was stored over. -/
theorem load_low (t : Fin cfg0.N) : (ms0_2 t).view.readCov (Val := Elt Ideal) [⟨both, k0_pay1 (F := Ideal)⟩] low.toLoadRect (ix3 0 p q) = (0 : EReal) := by
  rw [View.readCov_eq_canon']
  exact zero_fill _

theorem load_high (t : Fin cfg0.N) : (ms0_2 t).view.readCov (Val := Elt Ideal) [⟨low, v⟩, ⟨both, k0_pay1 (F := Ideal)⟩] high.toLoadRect (ix3 0 p q) = (0 : EReal) := by
  rw [View.readCov_eq_canon']
  show View.canon _ (high.emb (ix3 0 p q)) = _
  rw [high_emb]
  have e := View.canon_cons_of_not_mem (⟨low, v⟩ : View.Piece (Elt Ideal) S2x512x1408 .f32) [⟨both, k0_pay1 (F := Ideal)⟩] (y := ix3 1 p q) (not_low p q)
  exact e.trans (zero_fill _)

/-- The first point of a run leaves the product of its two blocks. -/
theorem point_first (t : Fin cfg0.N) (h : t.val % 2 = 0) (j : S2x512x1408.Idx) :
    outsAt0 m c t.val t.isLt j = ∑ k : Fin 2048, blkX m c t (ix2 k (j 1)) * blkY m c t (ix2 k (near (j 0) (j 2))) := by
  rw [outsAt0_A m c t h]
  frame_out
  idx_vars j
  obtain rfl | rfl : j0 = 0 ∨ j0 = 1 := by omega
  · exact (canon_low _ _ _ j1 j2).trans ((pay_low _ _ _ j1 j2).trans
      ((congrArg (fun z : EReal => z + _) (load_low j1 j2 t)).trans (zero_add _)))
  · exact (canon_high _ _ j1 j2).trans ((pay_high _ _ _ j1 j2).trans
      ((congrArg (fun z : EReal => z + _) (load_high _ j1 j2 t)).trans (zero_add _)))

/-- Each later point adds the product of its two blocks. -/
theorem point_next (t : Fin cfg0.N) (h : ¬ t.val % 2 = 0) (j : S2x512x1408.Idx) :
    outsAt0 m c t.val t.isLt j = outsAt0 m c (t.val - 1) (Nat.lt_of_le_of_lt (Nat.sub_le _ _) t.isLt) j
      + ∑ k : Fin 2048, blkX m c t (ix2 k (j 1)) * blkY m c t (ix2 k (near (j 0) (j 2))) := by
  rw [outsAt0_B m c t h]
  frame_out
  idx_vars j
  obtain rfl | rfl : j0 = 0 ∨ j0 = 1 := by omega
  · exact (canon_low _ _ _ j1 j2).trans ((pay_low _ _ _ j1 j2).trans (congrArg (fun z : EReal => z + _)
      (congrArg (outsAt0 m c (t.val - 1) _) (low_emb j1 j2))))
  · exact (canon_high _ _ j1 j2).trans ((pay_high _ _ _ j1 j2).trans (congrArg (fun z : EReal => z + _)
      (congrArg (outsAt0 m c (t.val - 1) _) (high_emb j1 j2))))

/-- The product, whole, one share of its columns after another. -/
theorem final : (dats m 0 c).arrAt 2 (cfgs 0).N = fun i => ∑ k : Fin 4096, argX m c (ix2 k (i 1)) * argY m c (ix2 k (col (i 0) (i 2))) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun t j => ∑ k : Fin 2048, blkX m c t (ix2 k (j 1)) * blkY m c t (ix2 k (near (j 0) (j 2))))
    (fun t h j => (point_first m c t h j).trans (zero_add _).symm)
    (fun t h j => point_next m c t h j) t ((flush0_2 t).mp hf) _, zero_add]
  refine Fin.sum_mul_add_congr fun s k hl => ?_
  refine congrArg₂ (fun u v : EReal => u * v) ?_ ?_ <;>
    blk_ext [blkX, blkY, argX, argY, near, col, iblk, V, place t, place ⟨_, Pipeline.run_point_lt_of_flush t ((flush0_2 t).mp hf) s⟩]

end Cert.UpDwKernelIdeal.Mix

namespace Cert.UpDwReferenceIdeal.Mix
open Cert.UpDwReferenceIdeal Cert.UpDwReferenceIdeal.Gen

theorem value (x : FVec Ideal S4096x1024 .bf16) (y : FVec Ideal S4096x5632 .bf16) :
    transpose S4x1024x1408 [1, 0, 2] (shapeCast _ (transpose S1024x5632 [1, 0] (Host.dotGeneral dot_S4096x5632_S4096x1024_S5632x1024_0_0_1_1_n_n none (extf .f32 y bitsLt_bf16_f32) (extf .f32 x bitsLt_bf16_f32)) transposes_S5632x1024_S1024x5632_1_0) shapeCasts_S1024x5632_S1024x4x1408) transposes_S1024x4x1408_S4x1024x1408_1_0_2
      = fun i => ∑ k : Fin 4096, x (ix2 k (i 1)) * y (ix2 k (Cert.UpDwKernelIdeal.Mix.col (i 0) (i 2))) := by
  funext i
  idx_vars i
  pointwise
  exact Finset.sum_congr rfl fun k _ => mul_comm _ _

end Cert.UpDwReferenceIdeal.Mix
end
-- ==== Proof.NormSpec.lean ====
/- The gradient of a normalised product, one row at a time, in the two orders it is computed in. -/
module

public import Idealize.ShloMosaic.Lib.Pointwise

@[expose] public section
noncomputable section
open Idealize.ShloMosaic Idealize.ShloMosaic.TcCoe Idealize.SL.Sem

namespace Cert.Norm

/-- The row length, the small number under the root and minus a half, as the two programs write them. -/
abbrev len : EReal := Ideal.ofBits FTy.f32 0x44800000#32
abbrev eps : EReal := Ideal.ofBits FTy.f32 0x358637BD#32
abbrev half : EReal := Ideal.ofBits FTy.f32 0xBF000000#32

/-- What stands under the root: the mean square of a row and the small number. -/
def under (x : Fin 1024 → EReal) : EReal := Ideal.div (∑ k, x k * x k) len + eps

/-- What a row is multiplied by to normalise it. -/
def scale (x : Fin 1024 → EReal) : EReal := Ideal.rsqrt (under x)

/-- A row as the norm leaves it, with the gain `g`. -/
def normed (x g : Fin 1024 → EReal) (j : Fin 1024) : EReal := x j * scale x * g j

/-- The row's gradient as the kernel computes it: `d` arrives at the normalised row, `g` is the gain, `r` the residual's. -/
def fused (r : EReal) (x d g : Fin 1024 → EReal) (j : Fin 1024) : EReal :=
  r + scale x * (d j * g j - x j * scale x * Ideal.div (∑ k, d k * g k * (x k * scale x)) len)

/-- Half of what comes back through the mean square, as the reference computes it. -/
def slope (x d g : Fin 1024 → EReal) : EReal :=
  Ideal.div ((∑ k, x k * (d k * g k)) * (half * Ideal.div (scale x) (under x))) len

/-- The row's gradient as the reference computes it. -/
def plain (r : EReal) (x d g : Fin 1024 → EReal) (j : Fin 1024) : EReal :=
  r + d j * g j * scale x + x j * slope x d g + slope x d g * x j

theorem len_eq : len = ((1024 : ℝ) : EReal) := by
  simp [len, Ideal.ofBits, Ideal.ieee, -EReal.coe_mul]; norm_num

theorem half_eq : half = ((-(1/2) : ℝ) : EReal) := by
  simp [half, Ideal.ofBits, Ideal.ieee, -EReal.coe_mul, -EReal.coe_neg]; norm_num

theorem eps_pos : ∃ e : ℝ, 0 < e ∧ eps = (e : EReal) := by
  refine ⟨8796093 * 2 ^ (-43 : ℤ), by positivity, ?_⟩
  simp [eps, Ideal.ofBits, Ideal.ieee, -EReal.coe_mul]

theorem div_len (y : EReal) : Ideal.div y len = y * ((1024⁻¹ : ℝ) : EReal) := by
  rw [len_eq, Ideal.div_coe (by norm_num), one_div]

theorem sum_mul_coe {n : Nat} (f : Fin n → EReal) (r : ℝ) (hr : 0 ≤ r) : (∑ k, f k) * (r : EReal) = ∑ k, f k * (r : EReal) := by
  classical
  refine Finset.induction_on (Finset.univ : Finset (Fin n)) (by simp) fun a s ha ih => ?_
  rw [Finset.sum_insert ha, Finset.sum_insert ha, ← ih,
    EReal.right_distrib_of_nonneg_of_ne_top (by exact_mod_cast hr) (EReal.coe_ne_top r)]

theorem square_nonneg (x : EReal) : 0 ≤ x * x := by
  induction x using EReal.rec with
  | bot => simp
  | top => simp
  | coe a => rw [← EReal.coe_mul]; exact_mod_cast mul_self_nonneg a

/-- The row's squares add up to infinity or to a real number that is not negative. -/
theorem row_cases (x : Fin 1024 → EReal) : (∑ k, x k * x k) = ⊤ ∨ ∃ q : ℝ, 0 ≤ q ∧ (∑ k, x k * x k) = (q : EReal) := by
  have h : 0 ≤ ∑ k, x k * x k := Finset.sum_nonneg fun k _ => square_nonneg (x k)
  generalize (∑ k, x k * x k) = y at h
  induction y using EReal.rec with
  | bot => simp at h
  | top => exact .inl rfl
  | coe a => exact .inr ⟨a, by exact_mod_cast h, rfl⟩

/-- The last step, between real numbers and the three extended ones. -/
theorem row_step (r S D X : EReal) (s : ℝ) (hs : 0 ≤ s) :
    r + D * s + X * (S * (((-(1/2) : ℝ) : EReal) * ((s * s * s : ℝ) : EReal)) * ((1024⁻¹ : ℝ) : EReal))
        + S * (((-(1/2) : ℝ) : EReal) * ((s * s * s : ℝ) : EReal)) * ((1024⁻¹ : ℝ) : EReal) * X
      = r + s * (D - X * s * (S * s * ((1024⁻¹ : ℝ) : EReal))) := by
  have e1 : S * (((-(1/2) : ℝ) : EReal) * ((s * s * s : ℝ) : EReal)) * ((1024⁻¹ : ℝ) : EReal) = S * ((-(1/2) * (s * s * s) * 1024⁻¹ : ℝ) : EReal) := by
    rw [mul_assoc, ← EReal.coe_mul, ← EReal.coe_mul]
  have e2 : X * s * (S * s * ((1024⁻¹ : ℝ) : EReal)) = X * S * ((s * s * 1024⁻¹ : ℝ) : EReal) := by
    rw [EReal.coe_mul, EReal.coe_mul]
    ac_rfl
  have e3 : (s : EReal) * (D + -(X * S * ((s * s * 1024⁻¹ : ℝ) : EReal))) = D * s + X * S * ((-(s * s * s * 1024⁻¹) : ℝ) : EReal) := by
    rw [EReal.left_distrib_of_nonneg_of_ne_top (by exact_mod_cast hs) (EReal.coe_ne_top s), mul_comm (s : EReal) D,
      mul_comm (s : EReal), ← mul_neg, ← EReal.coe_neg, mul_assoc (X * S), ← EReal.coe_mul]
    refine congrArg (fun u : ℝ => D * s + X * S * (u : EReal)) ?_
    ring
  have e4 : X * (S * ((-(1/2) * (s * s * s) * 1024⁻¹ : ℝ) : EReal)) + S * ((-(1/2) * (s * s * s) * 1024⁻¹ : ℝ) : EReal) * X
      = X * S * ((-(s * s * s * 1024⁻¹) : ℝ) : EReal) := by
    rw [mul_comm _ X, ← mul_assoc]
    generalize X * S = Y
    generalize hK : (-(1/2) * (s * s * s) * 1024⁻¹ : ℝ) = K
    have : ((-(s * s * s * 1024⁻¹) : ℝ) : EReal) = (K : EReal) * ((2 : ℝ) : EReal) := by
      rw [← EReal.coe_mul, ← hK]
      congr 1
      ring
    rw [this, ← mul_assoc]
    generalize Y * (K : EReal) = Z
    induction Z using EReal.rec with
    | bot => rw [EReal.bot_mul_coe_of_pos (by norm_num)]; rfl
    | top => rw [EReal.top_mul_coe_of_pos (by norm_num)]; rfl
    | coe a => rw [← EReal.coe_add, ← EReal.coe_mul]; congr 1; ring
  rw [e1, e2, sub_eq_add_neg, e3, add_assoc (r + D * s), e4, add_assoc]

theorem plain_eq (r : EReal) (x d g : Fin 1024 → EReal) (j : Fin 1024) : plain r x d g j = fused r x d g j := by
  obtain ⟨e, he, hee⟩ := eps_pos
  rcases row_cases x with h | ⟨q, hq, h⟩
  · have hu : under x = ⊤ := by
      rw [under, h, div_len, hee, EReal.top_mul_coe_of_pos (by norm_num)]
      exact EReal.top_add_coe _
    have hs : scale x = 0 := by rw [scale, hu]; simp
    have hl : slope x d g = 0 := by
      rw [slope, hs, hu, div_len]
      simp [Ideal.div]
    simp [plain, fused, hs, hl]
  · have hv : 0 < q * 1024⁻¹ + e := by positivity
    set v : ℝ := q * 1024⁻¹ + e with hvdef
    have hu : under x = (v : EReal) := by
      rw [under, h, div_len, hee, hvdef]
      push_cast
      rfl
    obtain ⟨s, hs0, hs, hss⟩ : ∃ s : ℝ, 0 < s ∧ scale x = (s : EReal) ∧ s * s * v = 1 := by
      have hr := Real.sqrt_pos.mpr hv
      refine ⟨(Real.sqrt v)⁻¹, inv_pos.mpr hr, ?_, ?_⟩
      · rw [scale, hu]
        rw [Ideal.rsqrt_coe, if_neg (not_lt.mpr hv.le), if_neg hv.ne']
      · nth_rewrite 3 [← Real.mul_self_sqrt hv.le]
        field_simp
    have hd : Ideal.div (scale x) (under x) = ((s * v⁻¹ : ℝ) : EReal) := by
      rw [hs, hu, Ideal.div_coe hv.ne', one_div, EReal.coe_mul]
    have hx : (∑ k, d k * g k * (x k * (s : EReal))) = (∑ k, x k * (d k * g k)) * (s : EReal) := by
      rw [sum_mul_coe _ _ hs0.le]
      exact Finset.sum_congr rfl fun k _ => by rw [← mul_assoc, mul_comm (d k * g k)]
    have hk : s * v⁻¹ = s * s * s := by
      field_simp
      linarith
    rw [plain, fused, slope, hd, hs, div_len, div_len, half_eq, hx, hk]
    generalize (∑ k, x k * (d k * g k)) = S
    generalize d j * g j = D
    generalize x j = X
    exact row_step r S D X s hs0.le

end Cert.Norm
end
-- ==== Proof.NormRef.lean ====
/- The part of the reference that is the same for every normalised product: from the gradient `d` at the normalised
   rows to the gradient at the rows and at the gain. -/
module

public import Idealize.ShloMosaic.Lib.Pointwise
public import proofs.«01_k».proof.Proof.Gen.UpDxBReferenceIdeal
public import proofs.«01_k».proof.Proof.NormSpec

@[expose] public section
set_option maxRecDepth 16384
noncomputable section
open Idealize.ShloMosaic Idealize.ShloMosaic.TcCoe Idealize.SL.Sem

namespace Cert.Norm
open Cert.UpDxBReferenceIdeal Cert.UpDxBReferenceIdeal.Gen

abbrev Rows : Type := FVec Ideal S4096x1024 .f32
abbrev Gain : Type := FVec Ideal S1x1024 .f32

/-- What stands under the root, row by row. -/
def rootArr (x : Rows) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The gain times what arrives. -/
def gainArr (d : Rows) (g : Gain) : Rows := mulf d (broadcastInDim S4096x1024 ![0, 1] bcast_S1x1024_S4096x1024_0_1 g)

/-- Half of what comes back through the mean square, row by row. -/
def slopeArr (x d : Rows) (g : Gain) : FVec Ideal S4096 .f32 :=
  Host.reduceAdd (Host.divf (mulf (shapeCast _ (Host.reduceAdd (mulf x (gainArr d g)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (rootArr x)) (rootArr x)))) (broadcastInDim S4096x1 ![] bcast_S_S4096x1 (constant S_ .f32 0x44800000#32))) (constant S_ .f32 0x00000000#32) reducesTo_S4096x1_S4096_d1 h_S_

/-- The gradient at the rows. -/
def rowsArr (r x d : Rows) (g : Gain) : Rows :=
  addf (addf (addf r (mulf (gainArr d g) (broadcastInDim S4096x1024 ![0, 1] bcast_S4096x1_S4096x1024_0_1 (Host.rsqrt (rootArr x))))) (mulf x (broadcastInDim S4096x1024 ![0] bcast_S4096_S4096x1024_0 (slopeArr x d g)))) (mulf (broadcastInDim S4096x1024 ![0] bcast_S4096_S4096x1024_0 (slopeArr x d g)) x)

/-- The gradient at the gain. -/
def gainGradArr (x d : Rows) : Gain :=
  shapeCast _ (Host.reduceAdd (mulf (mulf x (broadcastInDim S4096x1024 ![0, 1] bcast_S4096x1_S4096x1024_0_1 (Host.rsqrt (rootArr x)))) d) (constant S_ .f32 0x00000000#32) reducesTo_S4096x1024_S1024_d0 h_S_) shapeCasts_S1024_S1x1024

/-- Row `i` of an array. -/
abbrev rowOf (x : Rows) (i : Fin 4096) : Fin 1024 → EReal := fun k => x (ix2 i k)

theorem rootArr_eq (x : Rows) (i : Fin 4096) : rootArr x (ix2 i 0) = under (rowOf x i) := by
  pointwise [rootArr, under]

theorem gainArr_eq (d : Rows) (g : Gain) (i : Fin 4096) (k : Fin 1024) : gainArr d g (ix2 i k) = d (ix2 i k) * g (ix2 0 k) := by
  pointwise [gainArr]

theorem slopeArr_eq (x d : Rows) (g : Gain) (i : Fin 4096) : slopeArr x d g (ix1 i) = slope (rowOf x i) (rowOf d i) (fun k => g (ix2 0 k)) := by
  pointwise [slopeArr, slope, rootArr_eq, gainArr_eq, scale]
  rw [Fin.sum_univ_one, rootArr_eq]

theorem rowsArr_eq (r x d : Rows) (g : Gain) (i : Fin 4096) (j : Fin 1024) :
    rowsArr r x d g (ix2 i j) = fused (r (ix2 i j)) (rowOf x i) (rowOf d i) (fun k => g (ix2 0 k)) j := by
  rw [← plain_eq]
  pointwise [rowsArr, plain, rootArr_eq, gainArr_eq, slopeArr_eq, scale]

theorem gainGradArr_eq (x d : Rows) (j : Fin 1024) :
    gainGradArr x d (ix2 0 j) = ∑ i : Fin 4096, d (ix2 i j) * (x (ix2 i j) * scale (rowOf x i)) := by
  pointwise [gainGradArr, rootArr_eq, scale]
  exact Finset.sum_congr rfl fun k _ => mul_comm _ _

end Cert.Norm
end
-- ==== Proof.UpDxA.lean ====
/- The gradient of the normalised up projection: each point takes a block of rows back through the weights and the
   norm, and adds its rows' share to the gain's gradient; the reference does all rows at once. -/
module

public import proofs.«01_k».proof.Proof.Gen.UpDxAKernelIdeal.Frame
public import Idealize.ShloMosaic.Lib.Pipeline.ValueKit
public import Idealize.ShloMosaic.Lib.Pipeline.ReadBack
public import Idealize.ShloMosaic.Lib.Pointwise
public import proofs.«01_k».proof.Proof.Gen.UpDxAReferenceIdeal.Run
public import proofs.«01_k».proof.Proof.NormRef

@[expose] public section
set_option maxRecDepth 16384
noncomputable section
open Idealize.ShloMosaic Idealize.ShloMosaic.TcCoe Idealize.SL.Sem
open Idealize.ShloMosaic.Pipeline (Dat)

namespace Cert.UpDxAKernelIdeal.Mix
open Cert.UpDxAKernelIdeal Cert.UpDxAKernelIdeal.Gen Cert.Norm
variable (m : (ℓ : Loc nD τ sig) → Buf (Elt Ideal) ℓ) (c : Dev nD)

/-- Where each window's block sits at grid point `t`. -/
theorem place : ∀ t : Fin cfg0.N, win0_0.index t = ![t.val, 0] ∧ win0_1.index t = ![0, 0, 0, 0] ∧ win0_2.index t = ![t.val, 0]
    ∧ win0_3.index t = ![0, 0, 0] ∧ win0_4.index t = ![t.val, 0] ∧ win0_5.index t = ![t.val, 0] ∧ win0_6.index t = ![0, 0] :=
  (by decide +kernel : ∀ t : Fin grid0.N, _)

/-- The five arguments on core `c`: what arrives, the weights, the rows, the gains, the residual. -/
abbrev argY : FVec Ideal S4096x5632 .bf16 := m ((c : Thread nD τ).loc main_arg0)
abbrev argW : FVec Ideal S1x2x1024x2816 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)
abbrev argR : FVec Ideal S4096x1024 .f32 := m ((c : Thread nD τ).loc main_arg4)

/-- The five input blocks of point `t`. -/
abbrev blkY (t : Fin cfg0.N) : FVec Ideal S512x5632 .bf16 := iblk m c 0 t
abbrev blkW (t : Fin cfg0.N) : FVec Ideal S1x2x1024x2816 .bf16 := iblk m c 1 t
abbrev blkX (t : Fin cfg0.N) : FVec Ideal S512x1024 .f32 := iblk m c 2 t
abbrev blkG (t : Fin cfg0.N) : FVec Ideal S1x1x1024 .f32 := iblk m c 3 t
abbrev blkR (t : Fin cfg0.N) : FVec Ideal S512x1024 .f32 := iblk m c 4 t

/-- Column `l` of the `s`-th share of the columns. -/
def col (s : Fin 2) (l : Fin 2816) : Fin 5632 := ⟨s.val * 2816 + l.val, by omega⟩

/-- What arrives at one row, taken back through the weights, share by share. -/
def back (y : Fin 5632 → EReal) (w : FVec Ideal S1x2x1024x2816 .bf16) (k : Fin 1024) : EReal :=
  ∑ l : Fin 2816, y (col 0 l) * w (ix4 0 0 k l) + ∑ l : Fin 2816, y (col 1 l) * w (ix4 0 1 k l)

/-- The shares a point loads. -/
abbrev left : Rect S512x5632 := Rect.unit ![0, 0] ![512, 2816] inb_S512x5632_S512x2816_0_0
abbrev right : Rect S512x5632 := Rect.unit ![0, 2816] ![512, 2816] inb_S512x5632_S512x2816_0_2816

abbrev first : Rect S1x2x1024x2816 := Rect.unit ![0, 0, 0, 0] ![1, 1, 1024, 2816] inb_S1x2x1024x2816_S1x1x1024x2816_0_0_0_0
abbrev second : Rect S1x2x1024x2816 := Rect.unit ![0, 1, 0, 0] ![1, 1, 1024, 2816] inb_S1x2x1024x2816_S1x1x1024x2816_0_1_0_0

theorem pay_rows (y : FVec Ideal S512x5632 .bf16) (w : FVec Ideal S1x2x1024x2816 .bf16) (x res : FVec Ideal S512x1024 .f32) (g : FVec Ideal S1x1x1024 .f32) (i : Fin 512) (j : Fin 1024) :
    k0_pay1 (F := Ideal) res (k0_pay5 x) (k0_pay6 x) (k0_pay7 (View.ld y left) (View.ld w first) (View.ld y right) (View.ld w second) g)
      (k0_pay8 (View.ld y left) (View.ld w first) (View.ld y right) (View.ld w second) x g) (ix2 i j)
    = fused (res (ix2 i j)) (fun k => x (ix2 i k)) (back (fun l => y (ix2 i l)) w) (fun k => g (ix3 0 0 k)) j := by
  pointwise [k0_pay1, k0_pay5, k0_pay6, k0_pay7, k0_pay8, k0_pay4, fused, back, scale, under, col, len, eps]

theorem pay_gain (y : FVec Ideal S512x5632 .bf16) (w : FVec Ideal S1x2x1024x2816 .bf16) (x : FVec Ideal S512x1024 .f32) (acc : FVec Ideal S1x1024 .f32) (j : Fin 1024) :
    k0_pay2 (F := Ideal) (k0_pay4 (View.ld y left) (View.ld w first) (View.ld y right) (View.ld w second)) (k0_pay6 x) acc (ix2 0 j)
    = acc (ix2 0 j) + ∑ i : Fin 512, back (fun l => y (ix2 i l)) w j * (x (ix2 i j) * scale (fun k => x (ix2 i k))) := by
  pointwise [k0_pay2, k0_pay4, k0_pay6, k0_pay5, back, scale, under, col, len, eps]

theorem pay_zero (j : S1x1024.Idx) : k0_pay3 (F := Ideal) j = 0 := by pointwise [k0_pay3]

/-- Every point leaves its rows' gradient. -/
theorem point_rows (t : Fin cfg0.N) (i : Fin 512) (j : Fin 1024) : (outsAt0 m c t.val t.isLt).1 (ix2 i j)
    = fused (blkR m c t (ix2 i j)) (fun k => blkX m c t (ix2 i k)) (back (fun l => blkY m c t (ix2 i l)) (blkW m c t)) (fun k => blkG m c t (ix3 0 0 k)) j := by
  by_cases h : t.val % 8 = 0
  · rw [outsAt0_A m c t h]
    frame_out
    exact pay_rows (blkY m c t) (blkW m c t) (blkX m c t) (blkR m c t) (blkG m c t) i j
  · rw [outsAt0_B m c t h]
    frame_out
    exact pay_rows (blkY m c t) (blkW m c t) (blkX m c t) (blkR m c t) (blkG m c t) i j

/-- A point's rows' share of the gain's gradient. -/
def share (t : Fin cfg0.N) (j : Fin 1024) : EReal :=
  ∑ i : Fin 512, back (fun l => blkY m c t (ix2 i l)) (blkW m c t) j * (blkX m c t (ix2 i j) * scale (fun k => blkX m c t (ix2 i k)))

theorem gain_first (t : Fin cfg0.N) (h : t.val % 8 = 0) (j : Fin 1024) : (outsAt0 m c t.val t.isLt).2 (ix2 0 j) = (0 : EReal) + share m c t j := by
  rw [outsAt0_A m c t h]
  frame_out
  refine (pay_gain (blkY m c t) (blkW m c t) (blkX m c t) (k0_pay3 (F := Ideal)) j).trans ?_
  rw [pay_zero]
  rfl

theorem gain_next (t : Fin cfg0.N) (h : ¬ t.val % 8 = 0) (j : Fin 1024) : (outsAt0 m c t.val t.isLt).2 (ix2 0 j)
    = (outsAt0 m c (t.val - 1) (Nat.lt_of_le_of_lt (Nat.sub_le _ _) t.isLt)).2 (ix2 0 j) + share m c t j := by
  rw [outsAt0_B m c t h]
  frame_out
  exact pay_gain (blkY m c t) (blkW m c t) (blkX m c t) (outsAt0 m c (t.val - 1) _).2 j

/-- A row index of one is zero. -/
theorem only (j : S1x1024.Idx) : j = ix2 0 (j 1) := by
  idx_vars j
  obtain rfl : j0 = 0 := Subsingleton.elim _ _
  rfl

/-- Row `i` of the `t`-th block of rows. -/
def row (t : Fin cfg0.N) (i : Fin 512) : Fin 4096 := ⟨t.val * 512 + i.val, by have := t.isLt; have : cfg0.N = 8 := rfl; omega⟩

theorem at_x (t : Fin cfg0.N) (i : Fin 512) (k : Fin 1024) : blkX m c t (ix2 i k) = argX m c (ix2 (row t i) k) := by
  blk_ext [blkX, argX, row, iblk, V, place t]

theorem at_r (t : Fin cfg0.N) (i : Fin 512) (k : Fin 1024) : blkR m c t (ix2 i k) = argR m c (ix2 (row t i) k) := by
  blk_ext [blkR, argR, row, iblk, V, place t]

theorem at_y (t : Fin cfg0.N) (i : Fin 512) (k : Fin 5632) : blkY m c t (ix2 i k) = argY m c (ix2 (row t i) k) := by
  blk_ext [blkY, argY, row, iblk, V, place t]

theorem at_g (t : Fin cfg0.N) (k : Fin 1024) : blkG m c t (ix3 0 0 k) = argG m c (ix3 0 0 k) := by
  blk_ext [blkG, argG, iblk, V, place t]

theorem at_w (t : Fin cfg0.N) (s : Fin 2) (k : Fin 1024) (l : Fin 2816) : blkW m c t (ix4 0 s k l) = argW m c (ix4 0 s k l) := by
  blk_ext [blkW, argW, iblk, V, place t]

theorem at_back (t : Fin cfg0.N) (i : Fin 512) :
    back (fun l => blkY m c t (ix2 i l)) (blkW m c t) = back (fun l => argY m c (ix2 (row t i) l)) (argW m c) := by
  funext k
  simp only [back, at_y, at_w]

/-- One row's part of the gain's gradient, of the block or of the whole. -/
theorem at_gain (t : Fin cfg0.N) (i : Fin 512) (j : Fin 1024) :
    back (fun l => blkY m c t (ix2 i l)) (blkW m c t) j * (blkX m c t (ix2 i j) * scale (fun k => blkX m c t (ix2 i k)))
    = back (fun l => argY m c (ix2 (row t i) l)) (argW m c) j * (argX m c (ix2 (row t i) j) * scale (fun k => argX m c (ix2 (row t i) k))) := by
  simp only [at_back, at_x]

/-- The gradient at the rows, and the gradient at the gain. -/
def rowsOf (y : FVec Ideal S4096x5632 .bf16) (w : FVec Ideal S1x2x1024x2816 .bf16) (x : FVec Ideal S4096x1024 .f32) (g : FVec Ideal S2x1x1024 .f32) (r : FVec Ideal S4096x1024 .f32) : FVec Ideal S4096x1024 .f32 :=
  fun i => fused (r (ix2 (i 0) (i 1))) (fun k => x (ix2 (i 0) k)) (back (fun l => y (ix2 (i 0) l)) w) (fun k => g (ix3 0 0 k)) (i 1)

def gainFrom (y : FVec Ideal S4096x5632 .bf16) (w : FVec Ideal S1x2x1024x2816 .bf16) (x : FVec Ideal S4096x1024 .f32) : FVec Ideal S1x1024 .f32 :=
  fun j => ∑ i : Fin 4096, back (fun l => y (ix2 i l)) w (j 1) * (x (ix2 i (j 1)) * scale (fun k => x (ix2 i k)))

/-- The gradient at the rows, whole. -/
theorem final_rows : (dats m 0 c).arrAt 5 (cfgs 0).N = rowsOf (argY m c) (argW m c) (argX m c) (argG m c) (argR m c) := by
  unfold rowsOf
  refine (dats m 0 c).arrAt_eq_of_covers 5 _ (by decide +kernel) fun t hf y => ?_
  blk_simp
  rw [after0_5]
  idx_vars y
  rw [point_rows]
  simp only [at_back, at_x, at_r, at_g]
  have e0 : ((View.whole main_v0_0).slice (win0_5.rect t)).emb (ix2 y0 y1) 0 = row t y0 := by
    apply Fin.ext
    simp only [row]
    blk_simp [place t]
  have e1 : ((View.whole main_v0_0).slice (win0_5.rect t)).emb (ix2 y0 y1) 1 = y1 := by
    apply Fin.ext
    blk_simp [place t]
  rw [e0, e1]

/-- The gradient at the gain, whole. -/
theorem final_gain : (dats m 0 c).arrAt 6 (cfgs 0).N = gainFrom (argY m c) (argW m c) (argX m c) := by
  unfold gainFrom
  refine (dats m 0 c).arrAt_eq_of_covers 6 _ (by decide +kernel) fun t hf y => ?_
  blk_simp
  have e1 : (win0_6.blk t).view.emb y 1 = y 1 := by
    apply Fin.ext
    blk_simp [place t]
  rw [after0_6, Pipeline.eq_sum_fin_of_reset_step_apply_of_flush (fun n h => (outsAt0 m c n h).2) 8 (fun _ => 0)
    (fun t j => share m c t (j 1)) (fun t h j => by rw [only j]; exact gain_first m c t h (j 1))
    (fun t h j => by rw [only j]; exact gain_next m c t h (j 1)) t ((flush0_6 t).mp hf) _, zero_add]
  refine Fin.sum_mul_add_congr fun s k hl => ?_
  have er : row ⟨8 * (t.val / 8) + s.val, Pipeline.run_point_lt_of_flush t ((flush0_6 t).mp hf) s⟩ k = ⟨s.val * 512 + k.val, hl⟩ := by
    apply Fin.ext
    have := t.isLt
    have : cfg0.grid.N = 8 := rfl
    simp only [row]
    omega
  refine (at_gain m c _ k (y 1)).trans ?_
  rw [er, e1]

end Cert.UpDxAKernelIdeal.Mix

namespace Cert.UpDxAReferenceIdeal.Mix
open Cert.UpDxAReferenceIdeal Cert.UpDxAReferenceIdeal.Gen Cert.UpDxAReferenceIdeal.Value Cert.Norm
open Cert.UpDxAKernelIdeal.Mix (back col rowsOf gainFrom)
variable (m : (ℓ : Loc nD τ sig) → Buf (Elt Ideal) ℓ) (c : Dev nD)

/-- What arrives, taken back through the weights in one product. -/
def backArr (y : FVec Ideal S4096x5632 .bf16) (w : FVec Ideal S1x2x1024x2816 .bf16) : Rows :=
  Host.dotGeneral dot_S4096x5632_S1024x5632_S4096x1024_1_1_0_0_n_n none (extf .f32 y bitsLt_bf16_f32) (shapeCast _ (transpose S1024x2x2816 [1, 0, 2] (extf .f32 (shapeCast _ w shapeCasts_S1x2x1024x2816_S2x1024x2816) bitsLt_bf16_f32) transposes_S2x1024x2816_S1024x2x2816_1_0_2) shapeCasts_S1024x2x2816_S1024x5632)

theorem backArr_eq (y : FVec Ideal S4096x5632 .bf16) (w : FVec Ideal S1x2x1024x2816 .bf16) (i : Fin 4096) (k : Fin 1024) :
    backArr y w (ix2 i k) = back (fun l => y (ix2 i l)) w k := by
  have e : back (fun l => y (ix2 i l)) w k = ∑ s : Fin 2, ∑ l : Fin 2816, y (ix2 i (col s l)) * w (ix4 0 s k l) :=
    (Fin.sum_univ_two fun s : Fin 2 => ∑ l : Fin 2816, (y (ix2 i (col s l)) * w (ix4 0 s k l) : EReal)).symm
  rw [e]
  pointwise [backArr]
  symm
  refine Fin.sum_mul_add_congr fun s l hl => ?_
  refine congrArg₂ (fun u v : EReal => u * v) rfl ?_
  blk_ext

/-- The layer's gain. -/
def gainOf (g : FVec Ideal S2x1x1024 .f32) : Gain :=
  shapeCast _ (extractStridedSlice S1x1x1024 ![0, 0, 0] g slices_S2x1x1024_S1x1x1024_0_0_0) shapeCasts_S1x1x1024_S1x1024

theorem gainOf_eq (g : FVec Ideal S2x1x1024 .f32) (k : Fin 1024) : gainOf g (ix2 0 k) = g (ix3 0 0 k) := by
  pointwise [gainOf]

abbrev argY : FVec Ideal S4096x5632 .bf16 := m ((c : Thread nD τ).loc main_arg0)
abbrev argW : FVec Ideal S1x2x1024x2816 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)
abbrev argR : FVec Ideal S4096x1024 .f32 := m ((c : Thread nD τ).loc main_arg4)

theorem res_eq : res_main_v43 m c = rowsArr (argR m c) (argX m c) (backArr (argY m c) (argW m c)) (gainOf (argG m c)) := by
  unfold res_main_v43
  rfl

theorem value_rows : res_main_v43 m c = rowsOf (argY m c) (argW m c) (argX m c) (argG m c) (argR m c) := by
  rw [res_eq]
  funext i
  idx_vars i
  rw [rowsArr_eq, show rowOf (backArr (argY m c) (argW m c)) i0 = back (fun l => argY m c (ix2 i0 l)) (argW m c) from funext fun k => backArr_eq _ _ i0 k]
  simp only [gainOf_eq]
  rfl

theorem value_gain (y : FVec Ideal S4096x5632 .bf16) (w : FVec Ideal S1x2x1024x2816 .bf16) (x : Rows) : gainGradArr x (backArr y w) = gainFrom y w x := by
  funext j
  idx_vars j
  obtain rfl : j0 = 0 := Subsingleton.elim _ _
  rw [gainGradArr_eq]
  simp only [backArr_eq]
  rfl

/-- The reference's run: both results, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = rowsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = gainFrom (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (value_rows m c), (h c).2.1.trans (value_gain (argY m c) (argW m c) (argX m c)), (h c).2.2⟩) (Value.run m ρ)

end Cert.UpDxAReferenceIdeal.Mix
end
-- ==== Proof.UpDxB.lean ====
/- The gradient of the normalised up projection: each point takes a block of rows back through the weights and the
   norm, and adds its rows' share to the gain's gradient; the reference does all rows at once. -/
module

public import proofs.«01_k».proof.Proof.Gen.UpDxBKernelIdeal.Frame
public import Idealize.ShloMosaic.Lib.Pipeline.ValueKit
public import Idealize.ShloMosaic.Lib.Pipeline.ReadBack
public import Idealize.ShloMosaic.Lib.Pointwise
public import proofs.«01_k».proof.Proof.Gen.UpDxBReferenceIdeal.Run
public import proofs.«01_k».proof.Proof.NormRef

@[expose] public section
set_option maxRecDepth 16384
noncomputable section
open Idealize.ShloMosaic Idealize.ShloMosaic.TcCoe Idealize.SL.Sem
open Idealize.ShloMosaic.Pipeline (Dat)

namespace Cert.UpDxBKernelIdeal.Mix
open Cert.UpDxBKernelIdeal Cert.UpDxBKernelIdeal.Gen Cert.Norm
variable (m : (ℓ : Loc nD τ sig) → Buf (Elt Ideal) ℓ) (c : Dev nD)

/-- Where each window's block sits at grid point `t`. -/
theorem place : ∀ t : Fin cfg0.N, win0_0.index t = ![t.val, 0] ∧ win0_1.index t = ![0, 0, 0, 0] ∧ win0_2.index t = ![t.val, 0]
    ∧ win0_3.index t = ![1, 0, 0] ∧ win0_4.index t = ![t.val, 0] ∧ win0_5.index t = ![t.val, 0] ∧ win0_6.index t = ![0, 0] :=
  (by decide +kernel : ∀ t : Fin grid0.N, _)

/-- The five arguments on core `c`: what arrives, the weights, the rows, the gains, the residual. -/
abbrev argY : FVec Ideal S4096x5632 .bf16 := m ((c : Thread nD τ).loc main_arg0)
abbrev argW : FVec Ideal S1x2x1024x2816 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)
abbrev argR : FVec Ideal S4096x1024 .f32 := m ((c : Thread nD τ).loc main_arg4)

/-- The five input blocks of point `t`. -/
abbrev blkY (t : Fin cfg0.N) : FVec Ideal S512x5632 .bf16 := iblk m c 0 t
abbrev blkW (t : Fin cfg0.N) : FVec Ideal S1x2x1024x2816 .bf16 := iblk m c 1 t
abbrev blkX (t : Fin cfg0.N) : FVec Ideal S512x1024 .f32 := iblk m c 2 t
abbrev blkG (t : Fin cfg0.N) : FVec Ideal S1x1x1024 .f32 := iblk m c 3 t
abbrev blkR (t : Fin cfg0.N) : FVec Ideal S512x1024 .f32 := iblk m c 4 t

/-- Column `l` of the `s`-th share of the columns. -/
def col (s : Fin 2) (l : Fin 2816) : Fin 5632 := ⟨s.val * 2816 + l.val, by omega⟩

/-- What arrives at one row, taken back through the weights, share by share. -/
def back (y : Fin 5632 → EReal) (w : FVec Ideal S1x2x1024x2816 .bf16) (k : Fin 1024) : EReal :=
  ∑ l : Fin 2816, y (col 0 l) * w (ix4 0 0 k l) + ∑ l : Fin 2816, y (col 1 l) * w (ix4 0 1 k l)

/-- The shares a point loads. -/
abbrev left : Rect S512x5632 := Rect.unit ![0, 0] ![512, 2816] inb_S512x5632_S512x2816_0_0
abbrev right : Rect S512x5632 := Rect.unit ![0, 2816] ![512, 2816] inb_S512x5632_S512x2816_0_2816

abbrev first : Rect S1x2x1024x2816 := Rect.unit ![0, 0, 0, 0] ![1, 1, 1024, 2816] inb_S1x2x1024x2816_S1x1x1024x2816_0_0_0_0
abbrev second : Rect S1x2x1024x2816 := Rect.unit ![0, 1, 0, 0] ![1, 1, 1024, 2816] inb_S1x2x1024x2816_S1x1x1024x2816_0_1_0_0

theorem pay_rows (y : FVec Ideal S512x5632 .bf16) (w : FVec Ideal S1x2x1024x2816 .bf16) (x res : FVec Ideal S512x1024 .f32) (g : FVec Ideal S1x1x1024 .f32) (i : Fin 512) (j : Fin 1024) :
    k0_pay1 (F := Ideal) res (k0_pay5 x) (k0_pay6 x) (k0_pay7 (View.ld y left) (View.ld w first) (View.ld y right) (View.ld w second) g)
      (k0_pay8 (View.ld y left) (View.ld w first) (View.ld y right) (View.ld w second) x g) (ix2 i j)
    = fused (res (ix2 i j)) (fun k => x (ix2 i k)) (back (fun l => y (ix2 i l)) w) (fun k => g (ix3 0 0 k)) j := by
  pointwise [k0_pay1, k0_pay5, k0_pay6, k0_pay7, k0_pay8, k0_pay4, fused, back, scale, under, col, len, eps]

theorem pay_gain (y : FVec Ideal S512x5632 .bf16) (w : FVec Ideal S1x2x1024x2816 .bf16) (x : FVec Ideal S512x1024 .f32) (acc : FVec Ideal S1x1024 .f32) (j : Fin 1024) :
    k0_pay2 (F := Ideal) (k0_pay4 (View.ld y left) (View.ld w first) (View.ld y right) (View.ld w second)) (k0_pay6 x) acc (ix2 0 j)
    = acc (ix2 0 j) + ∑ i : Fin 512, back (fun l => y (ix2 i l)) w j * (x (ix2 i j) * scale (fun k => x (ix2 i k))) := by
  pointwise [k0_pay2, k0_pay4, k0_pay6, k0_pay5, back, scale, under, col, len, eps]

theorem pay_zero (j : S1x1024.Idx) : k0_pay3 (F := Ideal) j = 0 := by pointwise [k0_pay3]

/-- Every point leaves its rows' gradient. -/
theorem point_rows (t : Fin cfg0.N) (i : Fin 512) (j : Fin 1024) : (outsAt0 m c t.val t.isLt).1 (ix2 i j)
    = fused (blkR m c t (ix2 i j)) (fun k => blkX m c t (ix2 i k)) (back (fun l => blkY m c t (ix2 i l)) (blkW m c t)) (fun k => blkG m c t (ix3 0 0 k)) j := by
  by_cases h : t.val % 8 = 0
  · rw [outsAt0_A m c t h]
    frame_out
    exact pay_rows (blkY m c t) (blkW m c t) (blkX m c t) (blkR m c t) (blkG m c t) i j
  · rw [outsAt0_B m c t h]
    frame_out
    exact pay_rows (blkY m c t) (blkW m c t) (blkX m c t) (blkR m c t) (blkG m c t) i j

/-- A point's rows' share of the gain's gradient. -/
def share (t : Fin cfg0.N) (j : Fin 1024) : EReal :=
  ∑ i : Fin 512, back (fun l => blkY m c t (ix2 i l)) (blkW m c t) j * (blkX m c t (ix2 i j) * scale (fun k => blkX m c t (ix2 i k)))

theorem gain_first (t : Fin cfg0.N) (h : t.val % 8 = 0) (j : Fin 1024) : (outsAt0 m c t.val t.isLt).2 (ix2 0 j) = (0 : EReal) + share m c t j := by
  rw [outsAt0_A m c t h]
  frame_out
  refine (pay_gain (blkY m c t) (blkW m c t) (blkX m c t) (k0_pay3 (F := Ideal)) j).trans ?_
  rw [pay_zero]
  rfl

theorem gain_next (t : Fin cfg0.N) (h : ¬ t.val % 8 = 0) (j : Fin 1024) : (outsAt0 m c t.val t.isLt).2 (ix2 0 j)
    = (outsAt0 m c (t.val - 1) (Nat.lt_of_le_of_lt (Nat.sub_le _ _) t.isLt)).2 (ix2 0 j) + share m c t j := by
  rw [outsAt0_B m c t h]
  frame_out
  exact pay_gain (blkY m c t) (blkW m c t) (blkX m c t) (outsAt0 m c (t.val - 1) _).2 j

/-- A row index of one is zero. -/
theorem only (j : S1x1024.Idx) : j = ix2 0 (j 1) := by
  idx_vars j
  obtain rfl : j0 = 0 := Subsingleton.elim _ _
  rfl

/-- Row `i` of the `t`-th block of rows. -/
def row (t : Fin cfg0.N) (i : Fin 512) : Fin 4096 := ⟨t.val * 512 + i.val, by have := t.isLt; have : cfg0.N = 8 := rfl; omega⟩

theorem at_x (t : Fin cfg0.N) (i : Fin 512) (k : Fin 1024) : blkX m c t (ix2 i k) = argX m c (ix2 (row t i) k) := by
  blk_ext [blkX, argX, row, iblk, V, place t]

theorem at_r (t : Fin cfg0.N) (i : Fin 512) (k : Fin 1024) : blkR m c t (ix2 i k) = argR m c (ix2 (row t i) k) := by
  blk_ext [blkR, argR, row, iblk, V, place t]

theorem at_y (t : Fin cfg0.N) (i : Fin 512) (k : Fin 5632) : blkY m c t (ix2 i k) = argY m c (ix2 (row t i) k) := by
  blk_ext [blkY, argY, row, iblk, V, place t]

theorem at_g (t : Fin cfg0.N) (k : Fin 1024) : blkG m c t (ix3 0 0 k) = argG m c (ix3 1 0 k) := by
  blk_ext [blkG, argG, iblk, V, place t]

theorem at_w (t : Fin cfg0.N) (s : Fin 2) (k : Fin 1024) (l : Fin 2816) : blkW m c t (ix4 0 s k l) = argW m c (ix4 0 s k l) := by
  blk_ext [blkW, argW, iblk, V, place t]

theorem at_back (t : Fin cfg0.N) (i : Fin 512) :
    back (fun l => blkY m c t (ix2 i l)) (blkW m c t) = back (fun l => argY m c (ix2 (row t i) l)) (argW m c) := by
  funext k
  simp only [back, at_y, at_w]

/-- One row's part of the gain's gradient, of the block or of the whole. -/
theorem at_gain (t : Fin cfg0.N) (i : Fin 512) (j : Fin 1024) :
    back (fun l => blkY m c t (ix2 i l)) (blkW m c t) j * (blkX m c t (ix2 i j) * scale (fun k => blkX m c t (ix2 i k)))
    = back (fun l => argY m c (ix2 (row t i) l)) (argW m c) j * (argX m c (ix2 (row t i) j) * scale (fun k => argX m c (ix2 (row t i) k))) := by
  simp only [at_back, at_x]

/-- The gradient at the rows, and the gradient at the gain. -/
def rowsOf (y : FVec Ideal S4096x5632 .bf16) (w : FVec Ideal S1x2x1024x2816 .bf16) (x : FVec Ideal S4096x1024 .f32) (g : FVec Ideal S2x1x1024 .f32) (r : FVec Ideal S4096x1024 .f32) : FVec Ideal S4096x1024 .f32 :=
  fun i => fused (r (ix2 (i 0) (i 1))) (fun k => x (ix2 (i 0) k)) (back (fun l => y (ix2 (i 0) l)) w) (fun k => g (ix3 1 0 k)) (i 1)

def gainFrom (y : FVec Ideal S4096x5632 .bf16) (w : FVec Ideal S1x2x1024x2816 .bf16) (x : FVec Ideal S4096x1024 .f32) : FVec Ideal S1x1024 .f32 :=
  fun j => ∑ i : Fin 4096, back (fun l => y (ix2 i l)) w (j 1) * (x (ix2 i (j 1)) * scale (fun k => x (ix2 i k)))

/-- The gradient at the rows, whole. -/
theorem final_rows : (dats m 0 c).arrAt 5 (cfgs 0).N = rowsOf (argY m c) (argW m c) (argX m c) (argG m c) (argR m c) := by
  unfold rowsOf
  refine (dats m 0 c).arrAt_eq_of_covers 5 _ (by decide +kernel) fun t hf y => ?_
  blk_simp
  rw [after0_5]
  idx_vars y
  rw [point_rows]
  simp only [at_back, at_x, at_r, at_g]
  have e0 : ((View.whole main_v0_0).slice (win0_5.rect t)).emb (ix2 y0 y1) 0 = row t y0 := by
    apply Fin.ext
    simp only [row]
    blk_simp [place t]
  have e1 : ((View.whole main_v0_0).slice (win0_5.rect t)).emb (ix2 y0 y1) 1 = y1 := by
    apply Fin.ext
    blk_simp [place t]
  rw [e0, e1]

/-- The gradient at the gain, whole. -/
theorem final_gain : (dats m 0 c).arrAt 6 (cfgs 0).N = gainFrom (argY m c) (argW m c) (argX m c) := by
  unfold gainFrom
  refine (dats m 0 c).arrAt_eq_of_covers 6 _ (by decide +kernel) fun t hf y => ?_
  blk_simp
  have e1 : (win0_6.blk t).view.emb y 1 = y 1 := by
    apply Fin.ext
    blk_simp [place t]
  rw [after0_6, Pipeline.eq_sum_fin_of_reset_step_apply_of_flush (fun n h => (outsAt0 m c n h).2) 8 (fun _ => 0)
    (fun t j => share m c t (j 1)) (fun t h j => by rw [only j]; exact gain_first m c t h (j 1))
    (fun t h j => by rw [only j]; exact gain_next m c t h (j 1)) t ((flush0_6 t).mp hf) _, zero_add]
  refine Fin.sum_mul_add_congr fun s k hl => ?_
  have er : row ⟨8 * (t.val / 8) + s.val, Pipeline.run_point_lt_of_flush t ((flush0_6 t).mp hf) s⟩ k = ⟨s.val * 512 + k.val, hl⟩ := by
    apply Fin.ext
    have := t.isLt
    have : cfg0.grid.N = 8 := rfl
    simp only [row]
    omega
  refine (at_gain m c _ k (y 1)).trans ?_
  rw [er, e1]

end Cert.UpDxBKernelIdeal.Mix

namespace Cert.UpDxBReferenceIdeal.Mix
open Cert.UpDxBReferenceIdeal Cert.UpDxBReferenceIdeal.Gen Cert.UpDxBReferenceIdeal.Value Cert.Norm
open Cert.UpDxBKernelIdeal.Mix (back col rowsOf gainFrom)
variable (m : (ℓ : Loc nD τ sig) → Buf (Elt Ideal) ℓ) (c : Dev nD)

/-- What arrives, taken back through the weights in one product. -/
def backArr (y : FVec Ideal S4096x5632 .bf16) (w : FVec Ideal S1x2x1024x2816 .bf16) : Rows :=
  Host.dotGeneral dot_S4096x5632_S1024x5632_S4096x1024_1_1_0_0_n_n none (extf .f32 y bitsLt_bf16_f32) (shapeCast _ (transpose S1024x2x2816 [1, 0, 2] (extf .f32 (shapeCast _ w shapeCasts_S1x2x1024x2816_S2x1024x2816) bitsLt_bf16_f32) transposes_S2x1024x2816_S1024x2x2816_1_0_2) shapeCasts_S1024x2x2816_S1024x5632)

theorem backArr_eq (y : FVec Ideal S4096x5632 .bf16) (w : FVec Ideal S1x2x1024x2816 .bf16) (i : Fin 4096) (k : Fin 1024) :
    backArr y w (ix2 i k) = back (fun l => y (ix2 i l)) w k := by
  have e : back (fun l => y (ix2 i l)) w k = ∑ s : Fin 2, ∑ l : Fin 2816, y (ix2 i (col s l)) * w (ix4 0 s k l) :=
    (Fin.sum_univ_two fun s : Fin 2 => ∑ l : Fin 2816, (y (ix2 i (col s l)) * w (ix4 0 s k l) : EReal)).symm
  rw [e]
  pointwise [backArr]
  symm
  refine Fin.sum_mul_add_congr fun s l hl => ?_
  refine congrArg₂ (fun u v : EReal => u * v) rfl ?_
  blk_ext

/-- The layer's gain. -/
def gainOf (g : FVec Ideal S2x1x1024 .f32) : Gain :=
  shapeCast _ (extractStridedSlice S1x1x1024 ![1, 0, 0] g slices_S2x1x1024_S1x1x1024_1_0_0) shapeCasts_S1x1x1024_S1x1024

theorem gainOf_eq (g : FVec Ideal S2x1x1024 .f32) (k : Fin 1024) : gainOf g (ix2 0 k) = g (ix3 1 0 k) := by
  pointwise [gainOf]

abbrev argY : FVec Ideal S4096x5632 .bf16 := m ((c : Thread nD τ).loc main_arg0)
abbrev argW : FVec Ideal S1x2x1024x2816 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)
abbrev argR : FVec Ideal S4096x1024 .f32 := m ((c : Thread nD τ).loc main_arg4)

theorem res_eq : res_main_v43 m c = rowsArr (argR m c) (argX m c) (backArr (argY m c) (argW m c)) (gainOf (argG m c)) := by
  unfold res_main_v43
  rfl

theorem value_rows : res_main_v43 m c = rowsOf (argY m c) (argW m c) (argX m c) (argG m c) (argR m c) := by
  rw [res_eq]
  funext i
  idx_vars i
  rw [rowsArr_eq, show rowOf (backArr (argY m c) (argW m c)) i0 = back (fun l => argY m c (ix2 i0 l)) (argW m c) from funext fun k => backArr_eq _ _ i0 k]
  simp only [gainOf_eq]
  rfl

theorem value_gain (y : FVec Ideal S4096x5632 .bf16) (w : FVec Ideal S1x2x1024x2816 .bf16) (x : Rows) : gainGradArr x (backArr y w) = gainFrom y w x := by
  funext j
  idx_vars j
  obtain rfl : j0 = 0 := Subsingleton.elim _ _
  rw [gainGradArr_eq]
  simp only [backArr_eq]
  rfl

/-- The reference's run: both results, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = rowsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = gainFrom (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (value_rows m c), (h c).2.1.trans (value_gain (argY m c) (argW m c) (argX m c)), (h c).2.2⟩) (Value.run m ρ)

end Cert.UpDxBReferenceIdeal.Mix
end
-- ==== Proof.AbInDx.lean ====
/- The gradient of the first block's normalised projection: each point takes a block of rows back through the weights and the
   norm, and adds its rows' share to the gain's gradient; the reference does all rows at once. -/
module

public import proofs.«01_k».proof.Proof.Gen.AbInDxKernelIdeal.Frame
public import Idealize.ShloMosaic.Lib.Pipeline.ValueKit
public import Idealize.ShloMosaic.Lib.Pipeline.ReadBack
public import Idealize.ShloMosaic.Lib.Pointwise
public import proofs.«01_k».proof.Proof.Gen.AbInDxReferenceIdeal.Run
public import proofs.«01_k».proof.Proof.NormRef

@[expose] public section
set_option maxRecDepth 16384
noncomputable section
open Idealize.ShloMosaic Idealize.ShloMosaic.TcCoe Idealize.SL.Sem
open Idealize.ShloMosaic.Pipeline (Dat)

namespace Cert.AbInDxKernelIdeal.Mix
open Cert.AbInDxKernelIdeal Cert.AbInDxKernelIdeal.Gen Cert.Norm
variable (m : (ℓ : Loc nD τ sig) → Buf (Elt Ideal) ℓ) (c : Dev nD)

/-- Where each window's block sits at grid point `t`. -/
theorem place : ∀ t : Fin cfg0.N, win0_0.index t = ![t.val, 0] ∧ win0_1.index t = ![0, 0, 0, 0] ∧ win0_2.index t = ![t.val, 0]
    ∧ win0_3.index t = ![0, 0, 0] ∧ win0_4.index t = ![t.val, 0] ∧ win0_5.index t = ![t.val, 0] ∧ win0_6.index t = ![0, 0] :=
  (by decide +kernel : ∀ t : Fin grid0.N, _)

/-- The five arguments on core `c`: what arrives, the weights, the rows, the gains, the residual. -/
abbrev argY : FVec Ideal S4096x2048 .bf16 := m ((c : Thread nD τ).loc main_arg0)
abbrev argW : FVec Ideal S1x4x1024x512 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)
abbrev argR : FVec Ideal S4096x1024 .f32 := m ((c : Thread nD τ).loc main_arg4)

/-- The five input blocks of point `t`. -/
abbrev blkY (t : Fin cfg0.N) : FVec Ideal S512x2048 .bf16 := iblk m c 0 t
abbrev blkW (t : Fin cfg0.N) : FVec Ideal S1x4x1024x512 .bf16 := iblk m c 1 t
abbrev blkX (t : Fin cfg0.N) : FVec Ideal S512x1024 .f32 := iblk m c 2 t
abbrev blkG (t : Fin cfg0.N) : FVec Ideal S1x1x1024 .f32 := iblk m c 3 t
abbrev blkR (t : Fin cfg0.N) : FVec Ideal S512x1024 .f32 := iblk m c 4 t

/-- Column `l` of the `s`-th share of the columns. -/
def col (s : Fin 4) (l : Fin 512) : Fin 2048 := ⟨s.val * 512 + l.val, by omega⟩

/-- What arrives at one row, taken back through the weights, share by share. -/
def back (y : Fin 2048 → EReal) (w : FVec Ideal S1x4x1024x512 .bf16) (k : Fin 1024) : EReal :=
  ∑ l : Fin 512, y (col 0 l) * w (ix4 0 0 k l) + ∑ l : Fin 512, y (col 1 l) * w (ix4 0 1 k l) + ∑ l : Fin 512, y (col 2 l) * w (ix4 0 2 k l) + ∑ l : Fin 512, y (col 3 l) * w (ix4 0 3 k l)

/-- The shares a point loads. -/
abbrev cols0 : Rect S512x2048 := Rect.unit ![0, 0] ![512, 512] inb_S512x2048_S512x512_0_0
abbrev cols1 : Rect S512x2048 := Rect.unit ![0, 512] ![512, 512] inb_S512x2048_S512x512_0_512
abbrev cols2 : Rect S512x2048 := Rect.unit ![0, 1024] ![512, 512] inb_S512x2048_S512x512_0_1024
abbrev cols3 : Rect S512x2048 := Rect.unit ![0, 1536] ![512, 512] inb_S512x2048_S512x512_0_1536
abbrev part0 : Rect S1x4x1024x512 := Rect.unit ![0, 0, 0, 0] ![1, 1, 1024, 512] inb_S1x4x1024x512_S1x1x1024x512_0_0_0_0
abbrev part1 : Rect S1x4x1024x512 := Rect.unit ![0, 1, 0, 0] ![1, 1, 1024, 512] inb_S1x4x1024x512_S1x1x1024x512_0_1_0_0
abbrev part2 : Rect S1x4x1024x512 := Rect.unit ![0, 2, 0, 0] ![1, 1, 1024, 512] inb_S1x4x1024x512_S1x1x1024x512_0_2_0_0
abbrev part3 : Rect S1x4x1024x512 := Rect.unit ![0, 3, 0, 0] ![1, 1, 1024, 512] inb_S1x4x1024x512_S1x1x1024x512_0_3_0_0

theorem pay_rows (y : FVec Ideal S512x2048 .bf16) (w : FVec Ideal S1x4x1024x512 .bf16) (x res : FVec Ideal S512x1024 .f32) (g : FVec Ideal S1x1x1024 .f32) (i : Fin 512) (j : Fin 1024) :
    k0_pay3 (F := Ideal) (k0_pay6 (View.ld y cols0) (View.ld w part0) (View.ld y cols1) (View.ld w part1) (View.ld y cols2) (View.ld w part2) (View.ld y cols3) (View.ld w part3)) x g res (ix2 i j)
    = fused (res (ix2 i j)) (fun k => x (ix2 i k)) (back (fun l => y (ix2 i l)) w) (fun k => g (ix3 0 0 k)) j := by
  pointwise [k0_pay3, k0_pay1, k0_pay2, k0_pay6, fused, back, scale, under, col, len, eps]

theorem pay_gain (y : FVec Ideal S512x2048 .bf16) (w : FVec Ideal S1x4x1024x512 .bf16) (x : FVec Ideal S512x1024 .f32) (acc : FVec Ideal S1x1024 .f32) (j : Fin 1024) :
    k0_pay4 (F := Ideal) (k0_pay6 (View.ld y cols0) (View.ld w part0) (View.ld y cols1) (View.ld w part1) (View.ld y cols2) (View.ld w part2) (View.ld y cols3) (View.ld w part3)) x acc (ix2 0 j)
    = acc (ix2 0 j) + ∑ i : Fin 512, back (fun l => y (ix2 i l)) w j * (x (ix2 i j) * scale (fun k => x (ix2 i k))) := by
  pointwise [k0_pay4, k0_pay1, k0_pay2, k0_pay6, back, scale, under, col, len, eps]

theorem pay_zero (j : S1x1024.Idx) : k0_pay5 (F := Ideal) j = 0 := by pointwise [k0_pay5]

/-- Every point leaves its rows' gradient. -/
theorem point_rows (t : Fin cfg0.N) (i : Fin 512) (j : Fin 1024) : (outsAt0 m c t.val t.isLt).1 (ix2 i j)
    = fused (blkR m c t (ix2 i j)) (fun k => blkX m c t (ix2 i k)) (back (fun l => blkY m c t (ix2 i l)) (blkW m c t)) (fun k => blkG m c t (ix3 0 0 k)) j := by
  by_cases h : t.val % 8 = 0
  · rw [outsAt0_A m c t h]
    frame_out
    exact pay_rows (blkY m c t) (blkW m c t) (blkX m c t) (blkR m c t) (blkG m c t) i j
  · rw [outsAt0_B m c t h]
    frame_out
    exact pay_rows (blkY m c t) (blkW m c t) (blkX m c t) (blkR m c t) (blkG m c t) i j

/-- A point's rows' share of the gain's gradient. -/
def share (t : Fin cfg0.N) (j : Fin 1024) : EReal :=
  ∑ i : Fin 512, back (fun l => blkY m c t (ix2 i l)) (blkW m c t) j * (blkX m c t (ix2 i j) * scale (fun k => blkX m c t (ix2 i k)))

theorem gain_first (t : Fin cfg0.N) (h : t.val % 8 = 0) (j : Fin 1024) : (outsAt0 m c t.val t.isLt).2 (ix2 0 j) = (0 : EReal) + share m c t j := by
  rw [outsAt0_A m c t h]
  frame_out
  refine (pay_gain (blkY m c t) (blkW m c t) (blkX m c t) (k0_pay5 (F := Ideal)) j).trans ?_
  rw [pay_zero]
  rfl

theorem gain_next (t : Fin cfg0.N) (h : ¬ t.val % 8 = 0) (j : Fin 1024) : (outsAt0 m c t.val t.isLt).2 (ix2 0 j)
    = (outsAt0 m c (t.val - 1) (Nat.lt_of_le_of_lt (Nat.sub_le _ _) t.isLt)).2 (ix2 0 j) + share m c t j := by
  rw [outsAt0_B m c t h]
  frame_out
  exact pay_gain (blkY m c t) (blkW m c t) (blkX m c t) (outsAt0 m c (t.val - 1) _).2 j

/-- A row index of one is zero. -/
theorem only (j : S1x1024.Idx) : j = ix2 0 (j 1) := by
  idx_vars j
  obtain rfl : j0 = 0 := Subsingleton.elim _ _
  rfl

/-- Row `i` of the `t`-th block of rows. -/
def row (t : Fin cfg0.N) (i : Fin 512) : Fin 4096 := ⟨t.val * 512 + i.val, by have := t.isLt; have : cfg0.N = 8 := rfl; omega⟩

theorem at_x (t : Fin cfg0.N) (i : Fin 512) (k : Fin 1024) : blkX m c t (ix2 i k) = argX m c (ix2 (row t i) k) := by
  blk_ext [blkX, argX, row, iblk, V, place t]

theorem at_r (t : Fin cfg0.N) (i : Fin 512) (k : Fin 1024) : blkR m c t (ix2 i k) = argR m c (ix2 (row t i) k) := by
  blk_ext [blkR, argR, row, iblk, V, place t]

theorem at_y (t : Fin cfg0.N) (i : Fin 512) (k : Fin 2048) : blkY m c t (ix2 i k) = argY m c (ix2 (row t i) k) := by
  blk_ext [blkY, argY, row, iblk, V, place t]

theorem at_g (t : Fin cfg0.N) (k : Fin 1024) : blkG m c t (ix3 0 0 k) = argG m c (ix3 0 0 k) := by
  blk_ext [blkG, argG, iblk, V, place t]

theorem at_w (t : Fin cfg0.N) (s : Fin 4) (k : Fin 1024) (l : Fin 512) : blkW m c t (ix4 0 s k l) = argW m c (ix4 0 s k l) := by
  blk_ext [blkW, argW, iblk, V, place t]

theorem at_back (t : Fin cfg0.N) (i : Fin 512) :
    back (fun l => blkY m c t (ix2 i l)) (blkW m c t) = back (fun l => argY m c (ix2 (row t i) l)) (argW m c) := by
  funext k
  simp only [back, at_y, at_w]

/-- One row's part of the gain's gradient, of the block or of the whole. -/
theorem at_gain (t : Fin cfg0.N) (i : Fin 512) (j : Fin 1024) :
    back (fun l => blkY m c t (ix2 i l)) (blkW m c t) j * (blkX m c t (ix2 i j) * scale (fun k => blkX m c t (ix2 i k)))
    = back (fun l => argY m c (ix2 (row t i) l)) (argW m c) j * (argX m c (ix2 (row t i) j) * scale (fun k => argX m c (ix2 (row t i) k))) := by
  simp only [at_back, at_x]

/-- The gradient at the rows, and the gradient at the gain. -/
def rowsOf (y : FVec Ideal S4096x2048 .bf16) (w : FVec Ideal S1x4x1024x512 .bf16) (x : FVec Ideal S4096x1024 .f32) (g : FVec Ideal S2x1x1024 .f32) (r : FVec Ideal S4096x1024 .f32) : FVec Ideal S4096x1024 .f32 :=
  fun i => fused (r (ix2 (i 0) (i 1))) (fun k => x (ix2 (i 0) k)) (back (fun l => y (ix2 (i 0) l)) w) (fun k => g (ix3 0 0 k)) (i 1)

def gainFrom (y : FVec Ideal S4096x2048 .bf16) (w : FVec Ideal S1x4x1024x512 .bf16) (x : FVec Ideal S4096x1024 .f32) : FVec Ideal S1x1024 .f32 :=
  fun j => ∑ i : Fin 4096, back (fun l => y (ix2 i l)) w (j 1) * (x (ix2 i (j 1)) * scale (fun k => x (ix2 i k)))

/-- The gradient at the rows, whole. -/
theorem final_rows : (dats m 0 c).arrAt 5 (cfgs 0).N = rowsOf (argY m c) (argW m c) (argX m c) (argG m c) (argR m c) := by
  unfold rowsOf
  refine (dats m 0 c).arrAt_eq_of_covers 5 _ (by decide +kernel) fun t hf y => ?_
  blk_simp
  rw [after0_5]
  idx_vars y
  rw [point_rows]
  simp only [at_back, at_x, at_r, at_g]
  have e0 : ((View.whole main_v0_0).slice (win0_5.rect t)).emb (ix2 y0 y1) 0 = row t y0 := by
    apply Fin.ext
    simp only [row]
    blk_simp [place t]
  have e1 : ((View.whole main_v0_0).slice (win0_5.rect t)).emb (ix2 y0 y1) 1 = y1 := by
    apply Fin.ext
    blk_simp [place t]
  rw [e0, e1]

/-- The gradient at the gain, whole. -/
theorem final_gain : (dats m 0 c).arrAt 6 (cfgs 0).N = gainFrom (argY m c) (argW m c) (argX m c) := by
  unfold gainFrom
  refine (dats m 0 c).arrAt_eq_of_covers 6 _ (by decide +kernel) fun t hf y => ?_
  blk_simp
  have e1 : (win0_6.blk t).view.emb y 1 = y 1 := by
    apply Fin.ext
    blk_simp [place t]
  rw [after0_6, Pipeline.eq_sum_fin_of_reset_step_apply_of_flush (fun n h => (outsAt0 m c n h).2) 8 (fun _ => 0)
    (fun t j => share m c t (j 1)) (fun t h j => by rw [only j]; exact gain_first m c t h (j 1))
    (fun t h j => by rw [only j]; exact gain_next m c t h (j 1)) t ((flush0_6 t).mp hf) _, zero_add]
  refine Fin.sum_mul_add_congr fun s k hl => ?_
  have er : row ⟨8 * (t.val / 8) + s.val, Pipeline.run_point_lt_of_flush t ((flush0_6 t).mp hf) s⟩ k = ⟨s.val * 512 + k.val, hl⟩ := by
    apply Fin.ext
    have := t.isLt
    have : cfg0.grid.N = 8 := rfl
    simp only [row]
    omega
  refine (at_gain m c _ k (y 1)).trans ?_
  rw [er, e1]

end Cert.AbInDxKernelIdeal.Mix

namespace Cert.AbInDxReferenceIdeal.Mix
open Cert.AbInDxReferenceIdeal Cert.AbInDxReferenceIdeal.Gen Cert.AbInDxReferenceIdeal.Value Cert.Norm
open Cert.AbInDxKernelIdeal.Mix (back col rowsOf gainFrom)
variable (m : (ℓ : Loc nD τ sig) → Buf (Elt Ideal) ℓ) (c : Dev nD)

/-- What arrives, taken back through the weights in one product. -/
def backArr (y : FVec Ideal S4096x2048 .bf16) (w : FVec Ideal S1x4x1024x512 .bf16) : Rows :=
  Host.dotGeneral dot_S4096x2048_S1024x2048_S4096x1024_1_1_0_0_n_n none (extf .f32 y bitsLt_bf16_f32) (shapeCast _ (transpose S1024x4x512 [1, 0, 2] (extf .f32 (shapeCast _ w shapeCasts_S1x4x1024x512_S4x1024x512) bitsLt_bf16_f32) transposes_S4x1024x512_S1024x4x512_1_0_2) shapeCasts_S1024x4x512_S1024x2048)

theorem backArr_eq (y : FVec Ideal S4096x2048 .bf16) (w : FVec Ideal S1x4x1024x512 .bf16) (i : Fin 4096) (k : Fin 1024) :
    backArr y w (ix2 i k) = back (fun l => y (ix2 i l)) w k := by
  have e : back (fun l => y (ix2 i l)) w k = ∑ s : Fin 4, ∑ l : Fin 512, y (ix2 i (col s l)) * w (ix4 0 s k l) :=
    (Fin.sum_univ_four fun s : Fin 4 => ∑ l : Fin 512, (y (ix2 i (col s l)) * w (ix4 0 s k l) : EReal)).symm
  rw [e]
  pointwise [backArr]
  symm
  refine Fin.sum_mul_add_congr fun s l hl => ?_
  refine congrArg₂ (fun u v : EReal => u * v) rfl ?_
  blk_ext

/-- The layer's gain. -/
def gainOf (g : FVec Ideal S2x1x1024 .f32) : Gain :=
  shapeCast _ (extractStridedSlice S1x1x1024 ![0, 0, 0] g slices_S2x1x1024_S1x1x1024_0_0_0) shapeCasts_S1x1x1024_S1x1024

theorem gainOf_eq (g : FVec Ideal S2x1x1024 .f32) (k : Fin 1024) : gainOf g (ix2 0 k) = g (ix3 0 0 k) := by
  pointwise [gainOf]

abbrev argY : FVec Ideal S4096x2048 .bf16 := m ((c : Thread nD τ).loc main_arg0)
abbrev argW : FVec Ideal S1x4x1024x512 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)
abbrev argR : FVec Ideal S4096x1024 .f32 := m ((c : Thread nD τ).loc main_arg4)

theorem res_eq : res_main_v43 m c = rowsArr (argR m c) (argX m c) (backArr (argY m c) (argW m c)) (gainOf (argG m c)) := by
  unfold res_main_v43
  rfl

theorem value_rows : res_main_v43 m c = rowsOf (argY m c) (argW m c) (argX m c) (argG m c) (argR m c) := by
  rw [res_eq]
  funext i
  idx_vars i
  rw [rowsArr_eq, show rowOf (backArr (argY m c) (argW m c)) i0 = back (fun l => argY m c (ix2 i0 l)) (argW m c) from funext fun k => backArr_eq _ _ i0 k]
  simp only [gainOf_eq]
  rfl

theorem value_gain (y : FVec Ideal S4096x2048 .bf16) (w : FVec Ideal S1x4x1024x512 .bf16) (x : Rows) : gainGradArr x (backArr y w) = gainFrom y w x := by
  funext j
  idx_vars j
  obtain rfl : j0 = 0 := Subsingleton.elim _ _
  rw [gainGradArr_eq]
  simp only [backArr_eq]
  rfl

/-- The reference's run: both results, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = rowsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = gainFrom (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (value_rows m c), (h c).2.1.trans (value_gain (argY m c) (argW m c) (argX m c)), (h c).2.2⟩) (Value.run m ρ)

end Cert.AbInDxReferenceIdeal.Mix
end
-- ==== Proof.CInDx.lean ====
/- The gradient of the gated block's normalised projection: each point takes a block of rows back through the weights and the
   norm, and adds its rows' share to the gain's gradient; the reference does all rows at once. -/
module

public import proofs.«01_k».proof.Proof.Gen.CInDxKernelIdeal.Frame
public import Idealize.ShloMosaic.Lib.Pipeline.ValueKit
public import Idealize.ShloMosaic.Lib.Pipeline.ReadBack
public import Idealize.ShloMosaic.Lib.Pointwise
public import proofs.«01_k».proof.Proof.Gen.CInDxReferenceIdeal.Run
public import proofs.«01_k».proof.Proof.NormRef

@[expose] public section
set_option maxRecDepth 16384
noncomputable section
open Idealize.ShloMosaic Idealize.ShloMosaic.TcCoe Idealize.SL.Sem
open Idealize.ShloMosaic.Pipeline (Dat)

namespace Cert.CInDxKernelIdeal.Mix
open Cert.CInDxKernelIdeal Cert.CInDxKernelIdeal.Gen Cert.Norm
variable (m : (ℓ : Loc nD τ sig) → Buf (Elt Ideal) ℓ) (c : Dev nD)

/-- Where each window's block sits at grid point `t`. -/
theorem place : ∀ t : Fin cfg0.N, win0_0.index t = ![t.val, 0] ∧ win0_1.index t = ![0, 0, 0, 0] ∧ win0_2.index t = ![t.val, 0]
    ∧ win0_3.index t = ![1, 0, 0] ∧ win0_4.index t = ![t.val, 0] ∧ win0_5.index t = ![t.val, 0] ∧ win0_6.index t = ![0, 0] :=
  (by decide +kernel : ∀ t : Fin grid0.N, _)

/-- The five arguments on core `c`: what arrives, the weights, the rows, the gains, the residual. -/
abbrev argY : FVec Ideal S4096x3072 .bf16 := m ((c : Thread nD τ).loc main_arg0)
abbrev argW : FVec Ideal S1x4x1024x768 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)
abbrev argR : FVec Ideal S4096x1024 .f32 := m ((c : Thread nD τ).loc main_arg4)

/-- The five input blocks of point `t`. -/
abbrev blkY (t : Fin cfg0.N) : FVec Ideal S512x3072 .bf16 := iblk m c 0 t
abbrev blkW (t : Fin cfg0.N) : FVec Ideal S1x4x1024x768 .bf16 := iblk m c 1 t
abbrev blkX (t : Fin cfg0.N) : FVec Ideal S512x1024 .f32 := iblk m c 2 t
abbrev blkG (t : Fin cfg0.N) : FVec Ideal S1x1x1024 .f32 := iblk m c 3 t
abbrev blkR (t : Fin cfg0.N) : FVec Ideal S512x1024 .f32 := iblk m c 4 t

/-- Column `l` of the `s`-th share of the columns. -/
def col (s : Fin 4) (l : Fin 768) : Fin 3072 := ⟨s.val * 768 + l.val, by omega⟩

/-- What arrives at one row, taken back through the weights, share by share. -/
def back (y : Fin 3072 → EReal) (w : FVec Ideal S1x4x1024x768 .bf16) (k : Fin 1024) : EReal :=
  ∑ l : Fin 768, y (col 0 l) * w (ix4 0 0 k l) + ∑ l : Fin 768, y (col 1 l) * w (ix4 0 1 k l) + ∑ l : Fin 768, y (col 2 l) * w (ix4 0 2 k l) + ∑ l : Fin 768, y (col 3 l) * w (ix4 0 3 k l)

/-- The shares a point loads. -/
abbrev cols0 : Rect S512x3072 := Rect.unit ![0, 0] ![512, 768] inb_S512x3072_S512x768_0_0
abbrev cols1 : Rect S512x3072 := Rect.unit ![0, 768] ![512, 768] inb_S512x3072_S512x768_0_768
abbrev cols2 : Rect S512x3072 := Rect.unit ![0, 1536] ![512, 768] inb_S512x3072_S512x768_0_1536
abbrev cols3 : Rect S512x3072 := Rect.unit ![0, 2304] ![512, 768] inb_S512x3072_S512x768_0_2304
abbrev part0 : Rect S1x4x1024x768 := Rect.unit ![0, 0, 0, 0] ![1, 1, 1024, 768] inb_S1x4x1024x768_S1x1x1024x768_0_0_0_0
abbrev part1 : Rect S1x4x1024x768 := Rect.unit ![0, 1, 0, 0] ![1, 1, 1024, 768] inb_S1x4x1024x768_S1x1x1024x768_0_1_0_0
abbrev part2 : Rect S1x4x1024x768 := Rect.unit ![0, 2, 0, 0] ![1, 1, 1024, 768] inb_S1x4x1024x768_S1x1x1024x768_0_2_0_0
abbrev part3 : Rect S1x4x1024x768 := Rect.unit ![0, 3, 0, 0] ![1, 1, 1024, 768] inb_S1x4x1024x768_S1x1x1024x768_0_3_0_0

theorem pay_rows (y : FVec Ideal S512x3072 .bf16) (w : FVec Ideal S1x4x1024x768 .bf16) (x res : FVec Ideal S512x1024 .f32) (g : FVec Ideal S1x1x1024 .f32) (i : Fin 512) (j : Fin 1024) :
    k0_pay3 (F := Ideal) (k0_pay6 (View.ld y cols0) (View.ld w part0) (View.ld y cols1) (View.ld w part1) (View.ld y cols2) (View.ld w part2) (View.ld y cols3) (View.ld w part3)) x g res (ix2 i j)
    = fused (res (ix2 i j)) (fun k => x (ix2 i k)) (back (fun l => y (ix2 i l)) w) (fun k => g (ix3 0 0 k)) j := by
  pointwise [k0_pay3, k0_pay1, k0_pay2, k0_pay6, fused, back, scale, under, col, len, eps]

theorem pay_gain (y : FVec Ideal S512x3072 .bf16) (w : FVec Ideal S1x4x1024x768 .bf16) (x : FVec Ideal S512x1024 .f32) (acc : FVec Ideal S1x1024 .f32) (j : Fin 1024) :
    k0_pay4 (F := Ideal) (k0_pay6 (View.ld y cols0) (View.ld w part0) (View.ld y cols1) (View.ld w part1) (View.ld y cols2) (View.ld w part2) (View.ld y cols3) (View.ld w part3)) x acc (ix2 0 j)
    = acc (ix2 0 j) + ∑ i : Fin 512, back (fun l => y (ix2 i l)) w j * (x (ix2 i j) * scale (fun k => x (ix2 i k))) := by
  pointwise [k0_pay4, k0_pay1, k0_pay2, k0_pay6, back, scale, under, col, len, eps]

theorem pay_zero (j : S1x1024.Idx) : k0_pay5 (F := Ideal) j = 0 := by pointwise [k0_pay5]

/-- Every point leaves its rows' gradient. -/
theorem point_rows (t : Fin cfg0.N) (i : Fin 512) (j : Fin 1024) : (outsAt0 m c t.val t.isLt).1 (ix2 i j)
    = fused (blkR m c t (ix2 i j)) (fun k => blkX m c t (ix2 i k)) (back (fun l => blkY m c t (ix2 i l)) (blkW m c t)) (fun k => blkG m c t (ix3 0 0 k)) j := by
  by_cases h : t.val % 8 = 0
  · rw [outsAt0_A m c t h]
    frame_out
    exact pay_rows (blkY m c t) (blkW m c t) (blkX m c t) (blkR m c t) (blkG m c t) i j
  · rw [outsAt0_B m c t h]
    frame_out
    exact pay_rows (blkY m c t) (blkW m c t) (blkX m c t) (blkR m c t) (blkG m c t) i j

/-- A point's rows' share of the gain's gradient. -/
def share (t : Fin cfg0.N) (j : Fin 1024) : EReal :=
  ∑ i : Fin 512, back (fun l => blkY m c t (ix2 i l)) (blkW m c t) j * (blkX m c t (ix2 i j) * scale (fun k => blkX m c t (ix2 i k)))

theorem gain_first (t : Fin cfg0.N) (h : t.val % 8 = 0) (j : Fin 1024) : (outsAt0 m c t.val t.isLt).2 (ix2 0 j) = (0 : EReal) + share m c t j := by
  rw [outsAt0_A m c t h]
  frame_out
  refine (pay_gain (blkY m c t) (blkW m c t) (blkX m c t) (k0_pay5 (F := Ideal)) j).trans ?_
  rw [pay_zero]
  rfl

theorem gain_next (t : Fin cfg0.N) (h : ¬ t.val % 8 = 0) (j : Fin 1024) : (outsAt0 m c t.val t.isLt).2 (ix2 0 j)
    = (outsAt0 m c (t.val - 1) (Nat.lt_of_le_of_lt (Nat.sub_le _ _) t.isLt)).2 (ix2 0 j) + share m c t j := by
  rw [outsAt0_B m c t h]
  frame_out
  exact pay_gain (blkY m c t) (blkW m c t) (blkX m c t) (outsAt0 m c (t.val - 1) _).2 j

/-- A row index of one is zero. -/
theorem only (j : S1x1024.Idx) : j = ix2 0 (j 1) := by
  idx_vars j
  obtain rfl : j0 = 0 := Subsingleton.elim _ _
  rfl

/-- Row `i` of the `t`-th block of rows. -/
def row (t : Fin cfg0.N) (i : Fin 512) : Fin 4096 := ⟨t.val * 512 + i.val, by have := t.isLt; have : cfg0.N = 8 := rfl; omega⟩

theorem at_x (t : Fin cfg0.N) (i : Fin 512) (k : Fin 1024) : blkX m c t (ix2 i k) = argX m c (ix2 (row t i) k) := by
  blk_ext [blkX, argX, row, iblk, V, place t]

theorem at_r (t : Fin cfg0.N) (i : Fin 512) (k : Fin 1024) : blkR m c t (ix2 i k) = argR m c (ix2 (row t i) k) := by
  blk_ext [blkR, argR, row, iblk, V, place t]

theorem at_y (t : Fin cfg0.N) (i : Fin 512) (k : Fin 3072) : blkY m c t (ix2 i k) = argY m c (ix2 (row t i) k) := by
  blk_ext [blkY, argY, row, iblk, V, place t]

theorem at_g (t : Fin cfg0.N) (k : Fin 1024) : blkG m c t (ix3 0 0 k) = argG m c (ix3 1 0 k) := by
  blk_ext [blkG, argG, iblk, V, place t]

theorem at_w (t : Fin cfg0.N) (s : Fin 4) (k : Fin 1024) (l : Fin 768) : blkW m c t (ix4 0 s k l) = argW m c (ix4 0 s k l) := by
  blk_ext [blkW, argW, iblk, V, place t]

theorem at_back (t : Fin cfg0.N) (i : Fin 512) :
    back (fun l => blkY m c t (ix2 i l)) (blkW m c t) = back (fun l => argY m c (ix2 (row t i) l)) (argW m c) := by
  funext k
  simp only [back, at_y, at_w]

/-- One row's part of the gain's gradient, of the block or of the whole. -/
theorem at_gain (t : Fin cfg0.N) (i : Fin 512) (j : Fin 1024) :
    back (fun l => blkY m c t (ix2 i l)) (blkW m c t) j * (blkX m c t (ix2 i j) * scale (fun k => blkX m c t (ix2 i k)))
    = back (fun l => argY m c (ix2 (row t i) l)) (argW m c) j * (argX m c (ix2 (row t i) j) * scale (fun k => argX m c (ix2 (row t i) k))) := by
  simp only [at_back, at_x]

/-- The gradient at the rows, and the gradient at the gain. -/
def rowsOf (y : FVec Ideal S4096x3072 .bf16) (w : FVec Ideal S1x4x1024x768 .bf16) (x : FVec Ideal S4096x1024 .f32) (g : FVec Ideal S2x1x1024 .f32) (r : FVec Ideal S4096x1024 .f32) : FVec Ideal S4096x1024 .f32 :=
  fun i => fused (r (ix2 (i 0) (i 1))) (fun k => x (ix2 (i 0) k)) (back (fun l => y (ix2 (i 0) l)) w) (fun k => g (ix3 1 0 k)) (i 1)

def gainFrom (y : FVec Ideal S4096x3072 .bf16) (w : FVec Ideal S1x4x1024x768 .bf16) (x : FVec Ideal S4096x1024 .f32) : FVec Ideal S1x1024 .f32 :=
  fun j => ∑ i : Fin 4096, back (fun l => y (ix2 i l)) w (j 1) * (x (ix2 i (j 1)) * scale (fun k => x (ix2 i k)))

/-- The gradient at the rows, whole. -/
theorem final_rows : (dats m 0 c).arrAt 5 (cfgs 0).N = rowsOf (argY m c) (argW m c) (argX m c) (argG m c) (argR m c) := by
  unfold rowsOf
  refine (dats m 0 c).arrAt_eq_of_covers 5 _ (by decide +kernel) fun t hf y => ?_
  blk_simp
  rw [after0_5]
  idx_vars y
  rw [point_rows]
  simp only [at_back, at_x, at_r, at_g]
  have e0 : ((View.whole main_v0_0).slice (win0_5.rect t)).emb (ix2 y0 y1) 0 = row t y0 := by
    apply Fin.ext
    simp only [row]
    blk_simp [place t]
  have e1 : ((View.whole main_v0_0).slice (win0_5.rect t)).emb (ix2 y0 y1) 1 = y1 := by
    apply Fin.ext
    blk_simp [place t]
  rw [e0, e1]

/-- The gradient at the gain, whole. -/
theorem final_gain : (dats m 0 c).arrAt 6 (cfgs 0).N = gainFrom (argY m c) (argW m c) (argX m c) := by
  unfold gainFrom
  refine (dats m 0 c).arrAt_eq_of_covers 6 _ (by decide +kernel) fun t hf y => ?_
  blk_simp
  have e1 : (win0_6.blk t).view.emb y 1 = y 1 := by
    apply Fin.ext
    blk_simp [place t]
  rw [after0_6, Pipeline.eq_sum_fin_of_reset_step_apply_of_flush (fun n h => (outsAt0 m c n h).2) 8 (fun _ => 0)
    (fun t j => share m c t (j 1)) (fun t h j => by rw [only j]; exact gain_first m c t h (j 1))
    (fun t h j => by rw [only j]; exact gain_next m c t h (j 1)) t ((flush0_6 t).mp hf) _, zero_add]
  refine Fin.sum_mul_add_congr fun s k hl => ?_
  have er : row ⟨8 * (t.val / 8) + s.val, Pipeline.run_point_lt_of_flush t ((flush0_6 t).mp hf) s⟩ k = ⟨s.val * 512 + k.val, hl⟩ := by
    apply Fin.ext
    have := t.isLt
    have : cfg0.grid.N = 8 := rfl
    simp only [row]
    omega
  refine (at_gain m c _ k (y 1)).trans ?_
  rw [er, e1]

end Cert.CInDxKernelIdeal.Mix

namespace Cert.CInDxReferenceIdeal.Mix
open Cert.CInDxReferenceIdeal Cert.CInDxReferenceIdeal.Gen Cert.CInDxReferenceIdeal.Value Cert.Norm
open Cert.CInDxKernelIdeal.Mix (back col rowsOf gainFrom)
variable (m : (ℓ : Loc nD τ sig) → Buf (Elt Ideal) ℓ) (c : Dev nD)

/-- What arrives, taken back through the weights in one product. -/
def backArr (y : FVec Ideal S4096x3072 .bf16) (w : FVec Ideal S1x4x1024x768 .bf16) : Rows :=
  Host.dotGeneral dot_S4096x3072_S1024x3072_S4096x1024_1_1_0_0_n_n none (extf .f32 y bitsLt_bf16_f32) (shapeCast _ (transpose S1024x4x768 [1, 0, 2] (extf .f32 (shapeCast _ w shapeCasts_S1x4x1024x768_S4x1024x768) bitsLt_bf16_f32) transposes_S4x1024x768_S1024x4x768_1_0_2) shapeCasts_S1024x4x768_S1024x3072)

theorem backArr_eq (y : FVec Ideal S4096x3072 .bf16) (w : FVec Ideal S1x4x1024x768 .bf16) (i : Fin 4096) (k : Fin 1024) :
    backArr y w (ix2 i k) = back (fun l => y (ix2 i l)) w k := by
  have e : back (fun l => y (ix2 i l)) w k = ∑ s : Fin 4, ∑ l : Fin 768, y (ix2 i (col s l)) * w (ix4 0 s k l) :=
    (Fin.sum_univ_four fun s : Fin 4 => ∑ l : Fin 768, (y (ix2 i (col s l)) * w (ix4 0 s k l) : EReal)).symm
  rw [e]
  pointwise [backArr]
  symm
  refine Fin.sum_mul_add_congr fun s l hl => ?_
  refine congrArg₂ (fun u v : EReal => u * v) rfl ?_
  blk_ext

/-- The layer's gain. -/
def gainOf (g : FVec Ideal S2x1x1024 .f32) : Gain :=
  shapeCast _ (extractStridedSlice S1x1x1024 ![1, 0, 0] g slices_S2x1x1024_S1x1x1024_1_0_0) shapeCasts_S1x1x1024_S1x1024

theorem gainOf_eq (g : FVec Ideal S2x1x1024 .f32) (k : Fin 1024) : gainOf g (ix2 0 k) = g (ix3 1 0 k) := by
  pointwise [gainOf]

abbrev argY : FVec Ideal S4096x3072 .bf16 := m ((c : Thread nD τ).loc main_arg0)
abbrev argW : FVec Ideal S1x4x1024x768 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)
abbrev argR : FVec Ideal S4096x1024 .f32 := m ((c : Thread nD τ).loc main_arg4)

theorem res_eq : res_main_v43 m c = rowsArr (argR m c) (argX m c) (backArr (argY m c) (argW m c)) (gainOf (argG m c)) := by
  unfold res_main_v43
  rfl

theorem value_rows : res_main_v43 m c = rowsOf (argY m c) (argW m c) (argX m c) (argG m c) (argR m c) := by
  rw [res_eq]
  funext i
  idx_vars i
  rw [rowsArr_eq, show rowOf (backArr (argY m c) (argW m c)) i0 = back (fun l => argY m c (ix2 i0 l)) (argW m c) from funext fun k => backArr_eq _ _ i0 k]
  simp only [gainOf_eq]
  rfl

theorem value_gain (y : FVec Ideal S4096x3072 .bf16) (w : FVec Ideal S1x4x1024x768 .bf16) (x : Rows) : gainGradArr x (backArr y w) = gainFrom y w x := by
  funext j
  idx_vars j
  obtain rfl : j0 = 0 := Subsingleton.elim _ _
  rw [gainGradArr_eq]
  simp only [backArr_eq]
  rfl

/-- The reference's run: both results, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = rowsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v26) = gainFrom (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (value_rows m c), (h c).2.1.trans (value_gain (argY m c) (argW m c) (argX m c)), (h c).2.2⟩) (Value.run m ρ)

end Cert.CInDxReferenceIdeal.Mix
end
-- ==== Proof.DownDw.lean ====
/- The down projection's weight gradient: the kernel adds two half products, the reference takes one. -/
module

public import proofs.«01_k».proof.Proof.Gen.DownDwKernelIdeal.Frame
public import Idealize.ShloMosaic.Lib.Pipeline.ValueKit
public import Idealize.ShloMosaic.Lib.Pipeline.ReadBack
public import Idealize.ShloMosaic.Lib.Pointwise
public import proofs.«01_k».proof.Proof.Gen.DownDwReferenceIdeal.Run

@[expose] public section
set_option maxRecDepth 16384
noncomputable section
open Idealize.ShloMosaic Idealize.ShloMosaic.TcCoe Idealize.SL.Sem
open Idealize.ShloMosaic.Pipeline (Dat)

namespace Cert.DownDwKernelIdeal.Mix
open Cert.DownDwKernelIdeal Cert.DownDwKernelIdeal.Gen
variable (m : (ℓ : Loc nD τ sig) → Buf (Elt Ideal) ℓ) (c : Dev nD)

/-- Where each window's block sits at grid point `t`. -/
theorem place : ∀ t : Fin cfg0.N, win0_0.index t = ![t.val % 2, t.val / 2] ∧ win0_1.index t = ![t.val % 2, 0] ∧ win0_2.index t = ![t.val / 2, 0] :=
  (by decide +kernel : ∀ t : Fin grid0.N, _)

/-- The two arguments on core `c`. -/
abbrev argX : FVec Ideal S4096x2816 .bf16 := m ((c : Thread nD τ).loc main_arg0)
abbrev argY : FVec Ideal S4096x1024 .f32 := m ((c : Thread nD τ).loc main_arg1)

/-- The two input blocks of point `t`. -/
abbrev blkX (t : Fin cfg0.N) : FVec Ideal S2048x1408 .bf16 := iblk m c 0 t
abbrev blkY (t : Fin cfg0.N) : FVec Ideal S2048x1024 .f32 := iblk m c 1 t

theorem pay_zero (j : S1408x1024.Idx) : k0_pay1 (F := Ideal) j = 0 := by pointwise [k0_pay1]

/-- One point adds the product of its two blocks. -/
theorem pay_step (a : FVec Ideal S2048x1408 .bf16) (b : FVec Ideal S2048x1024 .f32) (acc : FVec Ideal S1408x1024 .f32) (j : S1408x1024.Idx) :
    k0_pay2 a b acc j = acc j + ∑ k : Fin 2048, a (ix2 k (j 0)) * b (ix2 k (j 1)) := by pointwise [k0_pay2]

/-- The product, whole. -/
theorem final : (dats m 0 c).arrAt 2 (cfgs 0).N = fun i => ∑ k : Fin 4096, argX m c (ix2 k (i 0)) * argY m c (ix2 k (i 1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun t j => ∑ k : Fin 2048, blkX m c t (ix2 k (j 0)) * blkY m c t (ix2 k (j 1)))
    (fun t h j => by rw [outsAt0_A m c t h]; frame_out; rw [pay_step, pay_zero])
    (fun t h j => by rw [outsAt0_B m c t h]; frame_out; rw [pay_step]) t ((flush0_2 t).mp hf) _, zero_add]
  refine Fin.sum_mul_add_congr fun s k hl => ?_
  refine congrArg₂ (fun u v : EReal => u * v) ?_ ?_ <;>
    blk_ext [blkX, blkY, argX, argY, iblk, V, place t, place ⟨_, Pipeline.run_point_lt_of_flush t ((flush0_2 t).mp hf) s⟩]

end Cert.DownDwKernelIdeal.Mix

namespace Cert.DownDwReferenceIdeal.Mix
open Cert.DownDwReferenceIdeal Cert.DownDwReferenceIdeal.Gen

theorem value (x : FVec Ideal S4096x2816 .bf16) (y : FVec Ideal S4096x1024 .f32) :
    transpose S2816x1024 [1, 0] (Host.dotGeneral dot_S4096x1024_S4096x2816_S1024x2816_0_0_1_1_n_n none y (extf .f32 x bitsLt_bf16_f32)) transposes_S1024x2816_S2816x1024_1_0
      = fun i => ∑ k : Fin 4096, x (ix2 k (i 0)) * y (ix2 k (i 1)) := by
  funext i
  idx_vars i
  pointwise
  exact Finset.sum_congr rfl fun k _ => mul_comm _ _

end Cert.DownDwReferenceIdeal.Mix
end
-- ==== Proof.DownDx.lean ====
/- The down projection's input gradient: each block is a block of the whole product. -/
module

public import proofs.«01_k».proof.Proof.Gen.DownDxKernelIdeal.Frame
public import Idealize.ShloMosaic.Lib.Pipeline.ValueKit
public import Idealize.ShloMosaic.Lib.Pipeline.ReadBack
public import Idealize.ShloMosaic.Lib.Pointwise
public import proofs.«01_k».proof.Proof.Gen.DownDxReferenceIdeal.Run

@[expose] public section
set_option maxRecDepth 16384
noncomputable section
open Idealize.ShloMosaic Idealize.ShloMosaic.TcCoe Idealize.SL.Sem
open Idealize.ShloMosaic.Pipeline (Dat)

namespace Cert.DownDxKernelIdeal.Mix
open Cert.DownDxKernelIdeal Cert.DownDxKernelIdeal.Gen
variable (m : (ℓ : Loc nD τ sig) → Buf (Elt Ideal) ℓ) (c : Dev nD)

/-- Where each window's block sits at grid point `t`. -/
theorem place : ∀ t : Fin cfg0.N, win0_0.index t = ![t.val % 4, 0] ∧ win0_1.index t = ![0, t.val / 4, 0] ∧ win0_2.index t = ![t.val % 4, t.val / 4] :=
  (by decide +kernel : ∀ t : Fin grid0.N, _)

/-- The two arguments on core `c`. -/
abbrev argY : FVec Ideal S4096x1024 .f32 := m ((c : Thread nD τ).loc main_arg0)
abbrev argW : FVec Ideal S1x2816x1024 .bf16 := m ((c : Thread nD τ).loc main_arg1)

/-- The two input blocks of point `t`. -/
abbrev blkY (t : Fin cfg0.N) : FVec Ideal S1024x1024 .f32 := iblk m c 0 t
abbrev blkW (t : Fin cfg0.N) : FVec Ideal S1x1408x1024 .bf16 := iblk m c 1 t

/-- One point takes the product of its two blocks. -/
theorem pay_eq (a : FVec Ideal S1024x1024 .f32) (b : FVec Ideal S1x1408x1024 .bf16) (j : S1024x1408.Idx) :
    @Eq EReal (k0_pay1 (F := Ideal) a b j) ( ∑ k : Fin 1024, (a (ix2 (j 0) k) : EReal) * b (ix3 0 (j 1) k)) := by pointwise [k0_pay1]

/-- The product, whole. -/
theorem final : (dats m 0 c).arrAt 2 (cfgs 0).N = fun i => ∑ k : Fin 1024, argY m c (ix2 (i 0) k) * argW m c (ix3 0 (i 1) k) := by
  refine (dats m 0 c).arrAt_eq_of_covers 2 _ (by decide +kernel) fun t hf y => ?_
  blk_simp
  rw [after0_2]
  frame_out
  refine (pay_eq (blkY m c t) (blkW m c t) _).trans ?_
  refine Finset.sum_congr rfl fun k _ => ?_
  refine congrArg₂ (fun u v : EReal => u * v) ?_ ?_ <;>
    blk_ext [blkY, blkW, argY, argW, iblk, V, place t]

end Cert.DownDxKernelIdeal.Mix

namespace Cert.DownDxReferenceIdeal.Mix
open Cert.DownDxReferenceIdeal Cert.DownDxReferenceIdeal.Gen

theorem value (y : FVec Ideal S4096x1024 .f32) (w : FVec Ideal S1x2816x1024 .bf16) :
    truncf .bf16 (Host.dotGeneral dot_S4096x1024_S2816x1024_S4096x2816_1_1_0_0_n_n none y (extf .f32 (shapeCast _ w shapeCasts_S1x2816x1024_S2816x1024) bitsLt_bf16_f32)) bitsLt_bf16_f32
      = fun i => ∑ k : Fin 1024, y (ix2 (i 0) k) * w (ix3 0 (i 1) k) := by
  funext i
  idx_vars i
  pointwise

end Cert.DownDxReferenceIdeal.Mix
end
-- ==== Proof.CInDw.lean ====
/- The weight gradient of the projection into the gated convolution: the kernel adds two half products, the reference takes one. -/
module

public import proofs.«01_k».proof.Proof.Gen.CInDwKernelIdeal.Frame
public import Idealize.ShloMosaic.Lib.Pipeline.ValueKit
public import Idealize.ShloMosaic.Lib.Pipeline.ReadBack
public import Idealize.ShloMosaic.Lib.Pointwise
public import proofs.«01_k».proof.Proof.Gen.CInDwReferenceIdeal.Run

@[expose] public section
set_option maxRecDepth 16384
noncomputable section
open Idealize.ShloMosaic Idealize.ShloMosaic.TcCoe Idealize.SL.Sem
open Idealize.ShloMosaic.Pipeline (Dat)

namespace Cert.CInDwKernelIdeal.Mix
open Cert.CInDwKernelIdeal Cert.CInDwKernelIdeal.Gen
variable (m : (ℓ : Loc nD τ sig) → Buf (Elt Ideal) ℓ) (c : Dev nD)

/-- Where each window's block sits at grid point `t`. -/
theorem place : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The two arguments on core `c`. -/
abbrev argX : FVec Ideal S4096x1024 .bf16 := m ((c : Thread nD τ).loc main_arg0)
abbrev argY : FVec Ideal S4096x3072 .bf16 := m ((c : Thread nD τ).loc main_arg1)

/-- The two input blocks of point `t`. -/
abbrev blkX (t : Fin cfg0.N) : FVec Ideal S2048x1024 .bf16 := iblk m c 0 t
abbrev blkY (t : Fin cfg0.N) : FVec Ideal S2048x768 .bf16 := iblk m c 1 t

theorem pay_zero (j : S1x1024x768.Idx) : k0_pay1 (F := Ideal) j = 0 := by pointwise [k0_pay1]

/-- One point adds the product of its two blocks. -/
theorem pay_step (a : FVec Ideal S2048x1024 .bf16) (b : FVec Ideal S2048x768 .bf16) (acc : FVec Ideal S1x1024x768 .f32) (j : S1x1024x768.Idx) :
    k0_pay2 a b acc j = acc j + ∑ k : Fin 2048, a (ix2 k (j 1)) * b (ix2 k (j 2)) := by pointwise [k0_pay2]

/-- Column `j` of the `d`-th of the four shares the columns are cut into. -/
def col (d : Fin 4) (j : Fin 768) : Fin 3072 := ⟨d.val * 768 + j.val, by omega⟩

/-- The product, whole, one share of its columns after another. -/
theorem final : (dats m 0 c).arrAt 2 (cfgs 0).N = fun i => ∑ k : Fin 4096, argX m c (ix2 k (i 1)) * argY m c (ix2 k (col (i 0) (i 2))) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun t j => ∑ k : Fin 2048, blkX m c t (ix2 k (j 1)) * blkY m c t (ix2 k (j 2)))
    (fun t h j => by rw [outsAt0_A m c t h]; frame_out; rw [pay_step, pay_zero])
    (fun t h j => by rw [outsAt0_B m c t h]; frame_out; rw [pay_step]) t ((flush0_2 t).mp hf) _, zero_add]
  refine Fin.sum_mul_add_congr fun s k hl => ?_
  refine congrArg₂ (fun u v : EReal => u * v) ?_ ?_ <;>
    blk_ext [blkX, blkY, argX, argY, col, iblk, V, place t, place ⟨_, Pipeline.run_point_lt_of_flush t ((flush0_2 t).mp hf) s⟩]

end Cert.CInDwKernelIdeal.Mix

namespace Cert.CInDwReferenceIdeal.Mix
open Cert.CInDwReferenceIdeal Cert.CInDwReferenceIdeal.Gen

theorem value (x : FVec Ideal S4096x1024 .bf16) (y : FVec Ideal S4096x3072 .bf16) :
    transpose S4x1024x768 [1, 0, 2] (shapeCast _ (transpose S1024x3072 [1, 0] (Host.dotGeneral dot_S4096x3072_S4096x1024_S3072x1024_0_0_1_1_n_n none (extf .f32 y bitsLt_bf16_f32) (extf .f32 x bitsLt_bf16_f32)) transposes_S3072x1024_S1024x3072_1_0) shapeCasts_S1024x3072_S1024x4x768) transposes_S1024x4x768_S4x1024x768_1_0_2
      = fun i => ∑ k : Fin 4096, x (ix2 k (i 1)) * y (ix2 k (Cert.CInDwKernelIdeal.Mix.col (i 0) (i 2))) := by
  funext i
  idx_vars i
  pointwise
  exact Finset.sum_congr rfl fun k _ => mul_comm _ _

end Cert.CInDwReferenceIdeal.Mix
end
-- ==== Proof.AbInDw.lean ====
/- The weight gradient of the projection into the first mixer: the kernel adds two half products, the reference takes one. -/
module

public import proofs.«01_k».proof.Proof.Gen.AbInDwKernelIdeal.Frame
public import Idealize.ShloMosaic.Lib.Pipeline.ValueKit
public import Idealize.ShloMosaic.Lib.Pipeline.ReadBack
public import Idealize.ShloMosaic.Lib.Pointwise
public import proofs.«01_k».proof.Proof.Gen.AbInDwReferenceIdeal.Run

@[expose] public section
set_option maxRecDepth 16384
noncomputable section
open Idealize.ShloMosaic Idealize.ShloMosaic.TcCoe Idealize.SL.Sem
open Idealize.ShloMosaic.Pipeline (Dat)

namespace Cert.AbInDwKernelIdeal.Mix
open Cert.AbInDwKernelIdeal Cert.AbInDwKernelIdeal.Gen
variable (m : (ℓ : Loc nD τ sig) → Buf (Elt Ideal) ℓ) (c : Dev nD)

/-- Where each window's block sits at grid point `t`. -/
theorem place : ∀ t : Fin cfg0.N, win0_0.index t = ![t.val % 2, 0] ∧ win0_1.index t = ![t.val % 2, t.val / 2] ∧ win0_2.index t = ![t.val / 2, 0, 0] :=
  (by decide +kernel : ∀ t : Fin grid0.N, _)

/-- The two arguments on core `c`. -/
abbrev argX : FVec Ideal S4096x1024 .bf16 := m ((c : Thread nD τ).loc main_arg0)
abbrev argY : FVec Ideal S4096x2048 .bf16 := m ((c : Thread nD τ).loc main_arg1)

/-- The two input blocks of point `t`. -/
abbrev blkX (t : Fin cfg0.N) : FVec Ideal S2048x1024 .bf16 := iblk m c 0 t
abbrev blkY (t : Fin cfg0.N) : FVec Ideal S2048x512 .bf16 := iblk m c 1 t

theorem pay_zero (j : S1x1024x512.Idx) : k0_pay1 (F := Ideal) j = 0 := by pointwise [k0_pay1]

/-- One point adds the product of its two blocks. -/
theorem pay_step (a : FVec Ideal S2048x1024 .bf16) (b : FVec Ideal S2048x512 .bf16) (acc : FVec Ideal S1x1024x512 .f32) (j : S1x1024x512.Idx) :
    k0_pay2 a b acc j = acc j + ∑ k : Fin 2048, a (ix2 k (j 1)) * b (ix2 k (j 2)) := by pointwise [k0_pay2]

/-- Column `j` of the `d`-th of the four shares the columns are cut into. -/
def col (d : Fin 4) (j : Fin 512) : Fin 2048 := ⟨d.val * 512 + j.val, by omega⟩

/-- The product, whole, one share of its columns after another. -/
theorem final : (dats m 0 c).arrAt 2 (cfgs 0).N = fun i => ∑ k : Fin 4096, argX m c (ix2 k (i 1)) * argY m c (ix2 k (col (i 0) (i 2))) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun t j => ∑ k : Fin 2048, blkX m c t (ix2 k (j 1)) * blkY m c t (ix2 k (j 2)))
    (fun t h j => by rw [outsAt0_A m c t h]; frame_out; rw [pay_step, pay_zero])
    (fun t h j => by rw [outsAt0_B m c t h]; frame_out; rw [pay_step]) t ((flush0_2 t).mp hf) _, zero_add]
  refine Fin.sum_mul_add_congr fun s k hl => ?_
  refine congrArg₂ (fun u v : EReal => u * v) ?_ ?_ <;>
    blk_ext [blkX, blkY, argX, argY, col, iblk, V, place t, place ⟨_, Pipeline.run_point_lt_of_flush t ((flush0_2 t).mp hf) s⟩]

end Cert.AbInDwKernelIdeal.Mix

namespace Cert.AbInDwReferenceIdeal.Mix
open Cert.AbInDwReferenceIdeal Cert.AbInDwReferenceIdeal.Gen

theorem value (x : FVec Ideal S4096x1024 .bf16) (y : FVec Ideal S4096x2048 .bf16) :
    transpose S4x1024x512 [1, 0, 2] (shapeCast _ (transpose S1024x2048 [1, 0] (Host.dotGeneral dot_S4096x2048_S4096x1024_S2048x1024_0_0_1_1_n_n none (extf .f32 y bitsLt_bf16_f32) (extf .f32 x bitsLt_bf16_f32)) transposes_S2048x1024_S1024x2048_1_0) shapeCasts_S1024x2048_S1024x4x512) transposes_S1024x4x512_S4x1024x512_1_0_2
      = fun i => ∑ k : Fin 4096, x (ix2 k (i 1)) * y (ix2 k (Cert.AbInDwKernelIdeal.Mix.col (i 0) (i 2))) := by
  funext i
  idx_vars i
  pointwise
  exact Finset.sum_congr rfl fun k _ => mul_comm _ _

end Cert.AbInDwReferenceIdeal.Mix
end
-- ==== Proof.OutDw.lean ====
/- The output projection's weight gradient: the kernel adds two half products, the reference takes one. -/
module

public import proofs.«01_k».proof.Proof.Gen.OutDwKernelIdeal.Frame
public import Idealize.ShloMosaic.Lib.Pipeline.ValueKit
public import Idealize.ShloMosaic.Lib.Pipeline.ReadBack
public import Idealize.ShloMosaic.Lib.Pointwise
public import proofs.«01_k».proof.Proof.Gen.OutDwReferenceIdeal.Run

@[expose] public section
set_option maxRecDepth 16384
noncomputable section
open Idealize.ShloMosaic Idealize.ShloMosaic.TcCoe Idealize.SL.Sem
open Idealize.ShloMosaic.Pipeline (Dat)

namespace Cert.OutDwKernelIdeal.Mix
open Cert.OutDwKernelIdeal Cert.OutDwKernelIdeal.Gen
variable (m : (ℓ : Loc nD τ sig) → Buf (Elt Ideal) ℓ) (c : Dev nD)

/-- Where each window's block sits at grid point `t`. -/
theorem place : ∀ t : Fin cfg0.N, win0_0.index t = ![t.val % 2, 0] ∧ win0_1.index t = ![t.val % 2, 0] ∧ win0_2.index t = ![0, 0] :=
  (by decide +kernel : ∀ t : Fin grid0.N, _)

/-- The two arguments on core `c`. -/
abbrev argX : FVec Ideal S4096x1024 .bf16 := m ((c : Thread nD τ).loc main_arg0)
abbrev argY : FVec Ideal S4096x1024 .f32 := m ((c : Thread nD τ).loc main_arg1)

/-- The two input blocks of point `t`. -/
abbrev blkX (t : Fin cfg0.N) : FVec Ideal S2048x1024 .bf16 := iblk m c 0 t
abbrev blkY (t : Fin cfg0.N) : FVec Ideal S2048x1024 .f32 := iblk m c 1 t

theorem pay_zero (j : S1024x1024.Idx) : k0_pay1 (F := Ideal) j = 0 := by pointwise [k0_pay1]

/-- One point adds the product of its two blocks. -/
theorem pay_step (a : FVec Ideal S2048x1024 .bf16) (b : FVec Ideal S2048x1024 .f32) (acc : FVec Ideal S1024x1024 .f32) (j : S1024x1024.Idx) :
    k0_pay2 a b acc j = acc j + ∑ k : Fin 2048, a (ix2 k (j 0)) * b (ix2 k (j 1)) := by pointwise [k0_pay2]

/-- The product, whole. -/
theorem final : (dats m 0 c).arrAt 2 (cfgs 0).N = fun i => ∑ k : Fin 4096, argX m c (ix2 k (i 0)) * argY m c (ix2 k (i 1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun t j => ∑ k : Fin 2048, blkX m c t (ix2 k (j 0)) * blkY m c t (ix2 k (j 1)))
    (fun t h j => by rw [outsAt0_A m c t h]; frame_out; rw [pay_step, pay_zero])
    (fun t h j => by rw [outsAt0_B m c t h]; frame_out; rw [pay_step]) t ((flush0_2 t).mp hf) _, zero_add]
  refine Fin.sum_mul_add_congr fun s k hl => ?_
  refine congrArg₂ (fun u v : EReal => u * v) ?_ ?_ <;>
    blk_ext [blkX, blkY, argX, argY, iblk, V, place t, place ⟨_, Pipeline.run_point_lt_of_flush t ((flush0_2 t).mp hf) s⟩]

end Cert.OutDwKernelIdeal.Mix

namespace Cert.OutDwReferenceIdeal.Mix
open Cert.OutDwReferenceIdeal Cert.OutDwReferenceIdeal.Gen

theorem value (x : FVec Ideal S4096x1024 .bf16) (y : FVec Ideal S4096x1024 .f32) :
    transpose S1024x1024 [1, 0] (Host.dotGeneral dot_S4096x1024_S4096x1024_S1024x1024_0_0_1_1_n_n none y (extf .f32 x bitsLt_bf16_f32)) transposes_S1024x1024_S1024x1024_1_0
      = fun i => ∑ k : Fin 4096, x (ix2 k (i 0)) * y (ix2 k (i 1)) := by
  funext i
  idx_vars i
  pointwise
  exact Finset.sum_congr rfl fun k _ => mul_comm _ _

end Cert.OutDwReferenceIdeal.Mix
end
-- ==== Proof.OutDx.lean ====
/- The output projection's input gradient: each block is a block of the whole product. -/
module

public import proofs.«01_k».proof.Proof.Gen.OutDxKernelIdeal.Frame
public import Idealize.ShloMosaic.Lib.Pipeline.ValueKit
public import Idealize.ShloMosaic.Lib.Pipeline.ReadBack
public import Idealize.ShloMosaic.Lib.Pointwise
public import proofs.«01_k».proof.Proof.Gen.OutDxReferenceIdeal.Run

@[expose] public section
set_option maxRecDepth 16384
noncomputable section
open Idealize.ShloMosaic Idealize.ShloMosaic.TcCoe Idealize.SL.Sem
open Idealize.ShloMosaic.Pipeline (Dat)

namespace Cert.OutDxKernelIdeal.Mix
open Cert.OutDxKernelIdeal Cert.OutDxKernelIdeal.Gen
variable (m : (ℓ : Loc nD τ sig) → Buf (Elt Ideal) ℓ) (c : Dev nD)

/-- Where each window's block sits at grid point `t`. -/
theorem place : ∀ t : Fin cfg0.N, win0_0.index t = ![t.val % 4, 0] ∧ win0_1.index t = ![0, t.val / 4, 0] ∧ win0_2.index t = ![t.val % 4, t.val / 4] :=
  (by decide +kernel : ∀ t : Fin grid0.N, _)

/-- The two arguments on core `c`. -/
abbrev argY : FVec Ideal S4096x1024 .f32 := m ((c : Thread nD τ).loc main_arg0)
abbrev argW : FVec Ideal S1x1024x1024 .bf16 := m ((c : Thread nD τ).loc main_arg1)

/-- The two input blocks of point `t`. -/
abbrev blkY (t : Fin cfg0.N) : FVec Ideal S1024x1024 .f32 := iblk m c 0 t
abbrev blkW (t : Fin cfg0.N) : FVec Ideal S1x512x1024 .bf16 := iblk m c 1 t

/-- One point takes the product of its two blocks. -/
theorem pay_eq (a : FVec Ideal S1024x1024 .f32) (b : FVec Ideal S1x512x1024 .bf16) (j : S1024x512.Idx) :
    @Eq EReal (k0_pay1 (F := Ideal) a b j) ( ∑ k : Fin 1024, (a (ix2 (j 0) k) : EReal) * b (ix3 0 (j 1) k)) := by pointwise [k0_pay1]

/-- The product, whole. -/
theorem final : (dats m 0 c).arrAt 2 (cfgs 0).N = fun i => ∑ k : Fin 1024, argY m c (ix2 (i 0) k) * argW m c (ix3 0 (i 1) k) := by
  refine (dats m 0 c).arrAt_eq_of_covers 2 _ (by decide +kernel) fun t hf y => ?_
  blk_simp
  rw [after0_2]
  frame_out
  refine (pay_eq (blkY m c t) (blkW m c t) _).trans ?_
  refine Finset.sum_congr rfl fun k _ => ?_
  refine congrArg₂ (fun u v : EReal => u * v) ?_ ?_ <;>
    blk_ext [blkY, blkW, argY, argW, iblk, V, place t]

end Cert.OutDxKernelIdeal.Mix

namespace Cert.OutDxReferenceIdeal.Mix
open Cert.OutDxReferenceIdeal Cert.OutDxReferenceIdeal.Gen

theorem value (y : FVec Ideal S4096x1024 .f32) (w : FVec Ideal S1x1024x1024 .bf16) :
    truncf .bf16 (Host.dotGeneral dot_S4096x1024_S1024x1024_S4096x1024_1_1_0_0_n_n none y (extf .f32 (shapeCast _ w shapeCasts_S1x1024x1024_S1024x1024) bitsLt_bf16_f32)) bitsLt_bf16_f32
      = fun i => ∑ k : Fin 1024, y (ix2 (i 0) k) * w (ix3 0 (i 1) k) := by
  funext i
  idx_vars i
  pointwise

end Cert.OutDxReferenceIdeal.Mix
end
-- ==== Proof.UpF.lean ====
/- A layer's first product: the weight's columns lie in shards, a point takes one shard and a block of rows. -/
module

public import proofs.«01_k».proof.Proof.Gen.UpFKernelIdeal.Frame
public import Idealize.ShloMosaic.Lib.Pipeline.ValueKit
public import Idealize.ShloMosaic.Lib.Pipeline.ReadBack
public import Idealize.ShloMosaic.Lib.Pointwise
public import proofs.«01_k».proof.Proof.Gen.UpFReferenceIdeal.Run

@[expose] public section
set_option maxRecDepth 16384
noncomputable section
open Idealize.ShloMosaic Idealize.ShloMosaic.TcCoe Idealize.SL.Sem
open Idealize.ShloMosaic.Pipeline (Dat)

namespace Cert.UpFKernelIdeal.Mix
open Cert.UpFKernelIdeal Cert.UpFKernelIdeal.Gen
variable (m : (ℓ : Loc nD τ sig) → Buf (Elt Ideal) ℓ) (c : Dev nD)

/-- Where each window's block sits at grid point `t`. -/
theorem place : ∀ t : Fin cfg0.N, win0_0.index t = ![t.val % 4, 0] ∧ win0_1.index t = ![0, t.val / 4, 0, 0] ∧ win0_2.index t = ![t.val % 4, t.val / 4] :=
  (by decide +kernel : ∀ t : Fin grid0.N, _)

/-- The two arguments on core `c`. -/
abbrev argX : FVec Ideal S4096x1024 .bf16 := m ((c : Thread nD τ).loc main_arg0)
abbrev argW : FVec Ideal S1x2x1024x2816 .bf16 := m ((c : Thread nD τ).loc main_arg1)

/-- The two input blocks of point `t`. -/
abbrev blkX (t : Fin cfg0.N) : FVec Ideal S1024x1024 .bf16 := iblk m c 0 t
abbrev blkW (t : Fin cfg0.N) : FVec Ideal S1x1x1024x2816 .bf16 := iblk m c 1 t

/-- One point takes the product of its two blocks. -/
theorem pay_eq (a : FVec Ideal S1024x1024 .bf16) (b : FVec Ideal S1x1x1024x2816 .bf16) (j : S1024x2816.Idx) :
    @Eq EReal (k0_pay1 (F := Ideal) a b j) (∑ k : Fin 1024, (a (ix2 (j 0) k) : EReal) * b (ix4 0 0 k (j 1))) := by
  idx_vars j
  pointwise [k0_pay1]

/-- The shard that column `i` lies in, and its place there. -/
def shard (i : Fin 5632) : Fin 2 := ⟨i.val / 2816, by omega⟩
def within (i : Fin 5632) : Fin 2816 := ⟨i.val % 2816, by omega⟩

/-- The product, whole. -/
theorem final : (dats m 0 c).arrAt 2 (cfgs 0).N = fun i => ∑ k : Fin 1024, argX m c (ix2 (i 0) k) * argW m c (ix4 0 (shard (i 1)) k (within (i 1))) := by
  refine (dats m 0 c).arrAt_eq_of_covers 2 _ (by decide +kernel) fun t hf y => ?_
  blk_simp
  rw [after0_2]
  frame_out
  refine (pay_eq (blkX m c t) (blkW m c t) _).trans ?_
  refine Finset.sum_congr rfl fun k _ => ?_
  refine congrArg₂ (fun u v : EReal => u * v) ?_ ?_
  · blk_ext [blkX, argX, iblk, V, place t]
  · blk_ext [blkW, argW, iblk, V, shard, within, place t]

end Cert.UpFKernelIdeal.Mix

namespace Cert.UpFReferenceIdeal.Mix
open Cert.UpFReferenceIdeal Cert.UpFReferenceIdeal.Gen Cert.UpFKernelIdeal.Mix

theorem value (x : FVec Ideal S4096x1024 .bf16) (w : FVec Ideal S1x2x1024x2816 .bf16) :
    truncf .bf16 (Host.dotGeneral dot_S4096x1024_S1024x5632_S4096x5632_1_0_0_1_n_n none (extf .f32 x bitsLt_bf16_f32) (shapeCast _ (transpose S1024x2x2816 [1, 0, 2] (extf .f32 (shapeCast _ w shapeCasts_S1x2x1024x2816_S2x1024x2816) bitsLt_bf16_f32) transposes_S2x1024x2816_S1024x2x2816_1_0_2) shapeCasts_S1024x2x2816_S1024x5632)) bitsLt_bf16_f32
      = fun i => ∑ k : Fin 1024, x (ix2 (i 0) k) * w (ix4 0 (shard (i 1)) k (within (i 1))) := by
  funext i
  idx_vars i
  pointwise [shard, within]

end Cert.UpFReferenceIdeal.Mix
end
-- ==== Proof.CInF.lean ====
/- A layer's first product: the weight's columns lie in shards, a point takes one shard and a block of rows. -/
module

public import proofs.«01_k».proof.Proof.Gen.CInFKernelIdeal.Frame
public import Idealize.ShloMosaic.Lib.Pipeline.ValueKit
public import Idealize.ShloMosaic.Lib.Pipeline.ReadBack
public import Idealize.ShloMosaic.Lib.Pointwise
public import proofs.«01_k».proof.Proof.Gen.CInFReferenceIdeal.Run

@[expose] public section
set_option maxRecDepth 16384
noncomputable section
open Idealize.ShloMosaic Idealize.ShloMosaic.TcCoe Idealize.SL.Sem
open Idealize.ShloMosaic.Pipeline (Dat)

namespace Cert.CInFKernelIdeal.Mix
open Cert.CInFKernelIdeal Cert.CInFKernelIdeal.Gen
variable (m : (ℓ : Loc nD τ sig) → Buf (Elt Ideal) ℓ) (c : Dev nD)

/-- Where each window's block sits at grid point `t`. -/
theorem place : ∀ t : Fin cfg0.N, win0_0.index t = ![t.val % 4, 0] ∧ win0_1.index t = ![0, t.val / 4, 0, 0] ∧ win0_2.index t = ![t.val % 4, t.val / 4] :=
  (by decide +kernel : ∀ t : Fin grid0.N, _)

/-- The two arguments on core `c`. -/
abbrev argX : FVec Ideal S4096x1024 .bf16 := m ((c : Thread nD τ).loc main_arg0)
abbrev argW : FVec Ideal S1x4x1024x768 .bf16 := m ((c : Thread nD τ).loc main_arg1)

/-- The two input blocks of point `t`. -/
abbrev blkX (t : Fin cfg0.N) : FVec Ideal S1024x1024 .bf16 := iblk m c 0 t
abbrev blkW (t : Fin cfg0.N) : FVec Ideal S1x1x1024x768 .bf16 := iblk m c 1 t

/-- One point takes the product of its two blocks. -/
theorem pay_eq (a : FVec Ideal S1024x1024 .bf16) (b : FVec Ideal S1x1x1024x768 .bf16) (j : S1024x768.Idx) :
    @Eq EReal (k0_pay1 (F := Ideal) a b j) (∑ k : Fin 1024, (a (ix2 (j 0) k) : EReal) * b (ix4 0 0 k (j 1))) := by
  idx_vars j
  pointwise [k0_pay1]

/-- The shard that column `i` lies in, and its place there. -/
def shard (i : Fin 3072) : Fin 4 := ⟨i.val / 768, by omega⟩
def within (i : Fin 3072) : Fin 768 := ⟨i.val % 768, by omega⟩

/-- The product, whole. -/
theorem final : (dats m 0 c).arrAt 2 (cfgs 0).N = fun i => ∑ k : Fin 1024, argX m c (ix2 (i 0) k) * argW m c (ix4 0 (shard (i 1)) k (within (i 1))) := by
  refine (dats m 0 c).arrAt_eq_of_covers 2 _ (by decide +kernel) fun t hf y => ?_
  blk_simp
  rw [after0_2]
  frame_out
  refine (pay_eq (blkX m c t) (blkW m c t) _).trans ?_
  refine Finset.sum_congr rfl fun k _ => ?_
  refine congrArg₂ (fun u v : EReal => u * v) ?_ ?_
  · blk_ext [blkX, argX, iblk, V, place t]
  · blk_ext [blkW, argW, iblk, V, shard, within, place t]

end Cert.CInFKernelIdeal.Mix

namespace Cert.CInFReferenceIdeal.Mix
open Cert.CInFReferenceIdeal Cert.CInFReferenceIdeal.Gen Cert.CInFKernelIdeal.Mix

theorem value (x : FVec Ideal S4096x1024 .bf16) (w : FVec Ideal S1x4x1024x768 .bf16) :
    truncf .bf16 (Host.dotGeneral dot_S4096x1024_S1024x3072_S4096x3072_1_0_0_1_n_n none (extf .f32 x bitsLt_bf16_f32) (shapeCast _ (transpose S1024x4x768 [1, 0, 2] (extf .f32 (shapeCast _ w shapeCasts_S1x4x1024x768_S4x1024x768) bitsLt_bf16_f32) transposes_S4x1024x768_S1024x4x768_1_0_2) shapeCasts_S1024x4x768_S1024x3072)) bitsLt_bf16_f32
      = fun i => ∑ k : Fin 1024, x (ix2 (i 0) k) * w (ix4 0 (shard (i 1)) k (within (i 1))) := by
  funext i
  idx_vars i
  pointwise [shard, within]

end Cert.CInFReferenceIdeal.Mix
end
-- ==== Proof.AbOutF.lean ====
/- A layer's last product, added to its residual, and the rows as the next norm leaves them: a point takes whole rows. -/
module

public import proofs.«01_k».proof.Proof.Gen.AbOutFKernelIdeal.Frame
public import Idealize.ShloMosaic.Lib.Pipeline.ValueKit
public import Idealize.ShloMosaic.Lib.Pipeline.ReadBack
public import Idealize.ShloMosaic.Lib.Pointwise
public import proofs.«01_k».proof.Proof.Gen.AbOutFReferenceIdeal.Run
public import proofs.«01_k».proof.Proof.NormSpec

@[expose] public section
set_option maxRecDepth 16384
noncomputable section
open Idealize.ShloMosaic Idealize.ShloMosaic.TcCoe Idealize.SL.Sem
open Idealize.ShloMosaic.Pipeline (Dat)

namespace Cert.AbOutFKernelIdeal.Mix
open Cert.AbOutFKernelIdeal Cert.AbOutFKernelIdeal.Gen Cert.Norm
variable (m : (ℓ : Loc nD τ sig) → Buf (Elt Ideal) ℓ) (c : Dev nD)

/-- Where each window's block sits at grid point `t`. -/
theorem place : ∀ t : Fin cfg0.N, win0_0.index t = ![t.val, 0] ∧ win0_1.index t = ![0, 0, 0] ∧ win0_2.index t = ![t.val, 0]
    ∧ win0_3.index t = ![0, 0, 0] ∧ win0_4.index t = ![t.val, 0] ∧ win0_5.index t = ![t.val, 0] :=
  (by decide +kernel : ∀ t : Fin grid0.N, _)

/-- The four arguments on core `c`: what goes into the product, the weights, the residual, the gains. -/
abbrev argA : FVec Ideal S4096x1024 .bf16 := m ((c : Thread nD τ).loc main_arg0)
abbrev argW : FVec Ideal S1x1024x1024 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)

/-- The four input blocks of point `t`. -/
abbrev blkA (t : Fin cfg0.N) : FVec Ideal S1024x1024 .bf16 := iblk m c 0 t
abbrev blkW (t : Fin cfg0.N) : FVec Ideal S1x1024x1024 .bf16 := iblk m c 1 t
abbrev blkX (t : Fin cfg0.N) : FVec Ideal S1024x1024 .f32 := iblk m c 2 t
abbrev blkG (t : Fin cfg0.N) : FVec Ideal S1x1x1024 .f32 := iblk m c 3 t

/-- A row's residual and what the product adds to it. -/
def total (a : Fin 1024 → EReal) (w : FVec Ideal S1x1024x1024 .bf16) (x : Fin 1024 → EReal) (j : Fin 1024) : EReal :=
  x j + ∑ k : Fin 1024, a k * w (ix3 0 k j)

theorem pay_total (a : FVec Ideal S1024x1024 .bf16) (w : FVec Ideal S1x1024x1024 .bf16) (x : FVec Ideal S1024x1024 .f32) (i j : Fin 1024) :
    k0_pay1 (F := Ideal) a w x (ix2 i j) = total (fun k => a (ix2 i k)) w (fun k => x (ix2 i k)) j := by
  pointwise [k0_pay1, total]

theorem pay_normed (a : FVec Ideal S1024x1024 .bf16) (w : FVec Ideal S1x1024x1024 .bf16) (x : FVec Ideal S1024x1024 .f32) (g : FVec Ideal S1x1x1024 .f32) (i j : Fin 1024) :
    k0_pay2 (F := Ideal) a w x g (ix2 i j) = normed (total (fun k => a (ix2 i k)) w (fun k => x (ix2 i k))) (fun k => g (ix3 0 0 k)) j := by
  pointwise [k0_pay2, pay_total, normed, scale, under, len, eps]

/-- Row `i` of the `t`-th block of rows. -/
def row (t : Fin cfg0.N) (i : Fin 1024) : Fin 4096 := ⟨t.val * 1024 + i.val, by have := t.isLt; have : cfg0.N = 4 := rfl; omega⟩

theorem at_x (t : Fin cfg0.N) (i k : Fin 1024) : blkX m c t (ix2 i k) = argX m c (ix2 (row t i) k) := by
  blk_ext [blkX, argX, row, iblk, V, place t]

theorem at_a (t : Fin cfg0.N) (i : Fin 1024) (k : Fin 1024) : blkA m c t (ix2 i k) = argA m c (ix2 (row t i) k) := by
  blk_ext [blkA, argA, row, iblk, V, place t]

theorem at_g (t : Fin cfg0.N) (k : Fin 1024) : blkG m c t (ix3 0 0 k) = argG m c (ix3 0 0 k) := by
  blk_ext [blkG, argG, iblk, V, place t]

theorem at_w (t : Fin cfg0.N) (k : Fin 1024) (j : Fin 1024) : blkW m c t (ix3 0 k j) = argW m c (ix3 0 k j) := by
  blk_ext [blkW, argW, iblk, V, place t]

/-- One row's total, of the block or of the whole. -/
theorem at_total (t : Fin cfg0.N) (i : Fin 1024) :
    total (fun k => blkA m c t (ix2 i k)) (blkW m c t) (fun k => blkX m c t (ix2 i k))
    = total (fun k => argA m c (ix2 (row t i) k)) (argW m c) (fun k => argX m c (ix2 (row t i) k)) := by
  funext j
  simp only [total, at_a, at_w, at_x]

/-- The two results, row by row. -/
def totalOf (a : FVec Ideal S4096x1024 .bf16) (w : FVec Ideal S1x1024x1024 .bf16) (x : FVec Ideal S4096x1024 .f32) : FVec Ideal S4096x1024 .f32 :=
  fun i => total (fun k => a (ix2 (i 0) k)) w (fun k => x (ix2 (i 0) k)) (i 1)

def normedOf (a : FVec Ideal S4096x1024 .bf16) (w : FVec Ideal S1x1024x1024 .bf16) (x : FVec Ideal S4096x1024 .f32) (g : FVec Ideal S2x1x1024 .f32) : FVec Ideal S4096x1024 .bf16 :=
  fun i => normed (total (fun k => a (ix2 (i 0) k)) w (fun k => x (ix2 (i 0) k))) (fun k => g (ix3 0 0 k)) (i 1)

theorem final_total : (dats m 0 c).arrAt 4 (cfgs 0).N = totalOf (argA m c) (argW m c) (argX m c) := by
  unfold totalOf
  refine (dats m 0 c).arrAt_eq_of_covers 4 _ (by decide +kernel) fun t hf y => ?_
  blk_simp
  rw [after0_4]
  frame_out
  idx_vars y
  refine (pay_total (blkA m c t) (blkW m c t) (blkX m c t) y0 y1).trans ?_
  rw [at_total]
  have e0 : ((View.whole main_v0_0).slice (win0_4.rect t)).emb (ix2 y0 y1) 0 = row t y0 := by
    apply Fin.ext
    simp only [row]
    blk_simp [place t]
  have e1 : ((View.whole main_v0_0).slice (win0_4.rect t)).emb (ix2 y0 y1) 1 = y1 := by
    apply Fin.ext
    blk_simp [place t]
  rw [e0, e1]

theorem final_normed : (dats m 0 c).arrAt 5 (cfgs 0).N = normedOf (argA m c) (argW m c) (argX m c) (argG m c) := by
  unfold normedOf
  refine (dats m 0 c).arrAt_eq_of_covers 5 _ (by decide +kernel) fun t hf y => ?_
  blk_simp
  rw [after0_5]
  frame_out
  idx_vars y
  refine (pay_normed (blkA m c t) (blkW m c t) (blkX m c t) (blkG m c t) y0 y1).trans ?_
  rw [at_total]
  simp only [at_g]
  have e0 : ((View.whole main_v0_1).slice (win0_5.rect t)).emb (ix2 y0 y1) 0 = row t y0 := by
    apply Fin.ext
    simp only [row]
    blk_simp [place t]
  have e1 : ((View.whole main_v0_1).slice (win0_5.rect t)).emb (ix2 y0 y1) 1 = y1 := by
    apply Fin.ext
    blk_simp [place t]
  rw [e0, e1]

end Cert.AbOutFKernelIdeal.Mix

namespace Cert.AbOutFReferenceIdeal.Mix
open Cert.AbOutFReferenceIdeal Cert.AbOutFReferenceIdeal.Gen Cert.Norm Cert.AbOutFKernelIdeal.Mix

/-- What the reference adds up before the norm. -/
def sumArr (a : FVec Ideal S4096x1024 .bf16) (w : FVec Ideal S1x1024x1024 .bf16) (x : FVec Ideal S4096x1024 .f32) : FVec Ideal S4096x1024 .f32 :=
  addf x (Host.dotGeneral dot_S4096x1024_S1024x1024_S4096x1024_1_0_0_1_n_n none (extf .f32 a bitsLt_bf16_f32) (extf .f32 (shapeCast _ w shapeCasts_S1x1024x1024_S1024x1024) bitsLt_bf16_f32))

theorem sumArr_eq (a : FVec Ideal S4096x1024 .bf16) (w : FVec Ideal S1x1024x1024 .bf16) (x : FVec Ideal S4096x1024 .f32) (i : Fin 4096) (j : Fin 1024) :
    sumArr a w x (ix2 i j) = total (fun k => a (ix2 i k)) w (fun k => x (ix2 i k)) j := by
  pointwise [sumArr, total]

/-- The norm of the reference. -/
def normArr (y : FVec Ideal S4096x1024 .f32) (g : FVec Ideal S2x1x1024 .f32) : FVec Ideal S4096x1024 .bf16 :=
  truncf .bf16 (mulf (mulf y (broadcastInDim S4096x1024 ![0, 1] bcast_S4096x1_S4096x1024_0_1 (Host.rsqrt (addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (shapeCast _ (extractStridedSlice S1x1x1024 ![0, 0, 0] g slices_S2x1x1024_S1x1x1024_0_0_0) shapeCasts_S1x1x1024_S1x1024))) bitsLt_bf16_f32

theorem normArr_eq (y : FVec Ideal S4096x1024 .f32) (g : FVec Ideal S2x1x1024 .f32) (i : Fin 4096) (j : Fin 1024) :
    normArr y g (ix2 i j) = normed (fun k => y (ix2 i k)) (fun k => g (ix3 0 0 k)) j := by
  pointwise [normArr, normed, scale, under, len, eps]

theorem value_total (a : FVec Ideal S4096x1024 .bf16) (w : FVec Ideal S1x1024x1024 .bf16) (x : FVec Ideal S4096x1024 .f32) : sumArr a w x = totalOf a w x := by
  funext i
  idx_vars i
  exact sumArr_eq a w x i0 i1

theorem value_normed (a : FVec Ideal S4096x1024 .bf16) (w : FVec Ideal S1x1024x1024 .bf16) (x : FVec Ideal S4096x1024 .f32) (g : FVec Ideal S2x1x1024 .f32) :
    normArr (sumArr a w x) g = normedOf a w x g := by
  funext i
  idx_vars i
  rw [normArr_eq]
  simp only [sumArr_eq]
  rfl

/-- The reference's run, its results row by row. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = totalOf (m ((c.tc : Thread nD τ).loc main_arg0)) (m ((c.tc : Thread nD τ).loc main_arg1)) (m ((c.tc : Thread nD τ).loc main_arg2))
      ∧ r.2.mem ((c.tc : Thread nD τ).loc main_v19) = normedOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.AbOutFReferenceIdeal.Value.run m ρ)
  obtain ⟨h0, h1, h2⟩ := h c
  exact ⟨h0.trans (value_total (m ((c.tc : Thread nD τ).loc main_arg0)) (m ((c.tc : Thread nD τ).loc main_arg1)) (m ((c.tc : Thread nD τ).loc main_arg2))),
    h1.trans (value_normed (m ((c.tc : Thread nD τ).loc main_arg0)) (m ((c.tc : Thread nD τ).loc main_arg1)) (m ((c.tc : Thread nD τ).loc main_arg2)) (m ((c.tc : Thread nD τ).loc main_arg3))), h2⟩

end Cert.AbOutFReferenceIdeal.Mix
end
-- ==== Proof.COutF.lean ====
/- A layer's last product, added to its residual, and the rows as the next norm leaves them: a point takes whole rows. -/
module

public import proofs.«01_k».proof.Proof.Gen.COutFKernelIdeal.Frame
public import Idealize.ShloMosaic.Lib.Pipeline.ValueKit
public import Idealize.ShloMosaic.Lib.Pipeline.ReadBack
public import Idealize.ShloMosaic.Lib.Pointwise
public import proofs.«01_k».proof.Proof.Gen.COutFReferenceIdeal.Run
public import proofs.«01_k».proof.Proof.NormSpec

@[expose] public section
set_option maxRecDepth 16384
noncomputable section
open Idealize.ShloMosaic Idealize.ShloMosaic.TcCoe Idealize.SL.Sem
open Idealize.ShloMosaic.Pipeline (Dat)

namespace Cert.COutFKernelIdeal.Mix
open Cert.COutFKernelIdeal Cert.COutFKernelIdeal.Gen Cert.Norm
variable (m : (ℓ : Loc nD τ sig) → Buf (Elt Ideal) ℓ) (c : Dev nD)

/-- Where each window's block sits at grid point `t`. -/
theorem place : ∀ t : Fin cfg0.N, win0_0.index t = ![t.val, 0] ∧ win0_1.index t = ![0, 0, 0] ∧ win0_2.index t = ![t.val, 0]
    ∧ win0_3.index t = ![1, 0, 0] ∧ win0_4.index t = ![t.val, 0] ∧ win0_5.index t = ![t.val, 0] :=
  (by decide +kernel : ∀ t : Fin grid0.N, _)

/-- The four arguments on core `c`: what goes into the product, the weights, the residual, the gains. -/
abbrev argA : FVec Ideal S4096x1024 .bf16 := m ((c : Thread nD τ).loc main_arg0)
abbrev argW : FVec Ideal S1x1024x1024 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)

/-- The four input blocks of point `t`. -/
abbrev blkA (t : Fin cfg0.N) : FVec Ideal S1024x1024 .bf16 := iblk m c 0 t
abbrev blkW (t : Fin cfg0.N) : FVec Ideal S1x1024x1024 .bf16 := iblk m c 1 t
abbrev blkX (t : Fin cfg0.N) : FVec Ideal S1024x1024 .f32 := iblk m c 2 t
abbrev blkG (t : Fin cfg0.N) : FVec Ideal S1x1x1024 .f32 := iblk m c 3 t

/-- A row's residual and what the product adds to it. -/
def total (a : Fin 1024 → EReal) (w : FVec Ideal S1x1024x1024 .bf16) (x : Fin 1024 → EReal) (j : Fin 1024) : EReal :=
  x j + ∑ k : Fin 1024, a k * w (ix3 0 k j)

theorem pay_total (a : FVec Ideal S1024x1024 .bf16) (w : FVec Ideal S1x1024x1024 .bf16) (x : FVec Ideal S1024x1024 .f32) (i j : Fin 1024) :
    k0_pay1 (F := Ideal) a w x (ix2 i j) = total (fun k => a (ix2 i k)) w (fun k => x (ix2 i k)) j := by
  pointwise [k0_pay1, total]

theorem pay_normed (a : FVec Ideal S1024x1024 .bf16) (w : FVec Ideal S1x1024x1024 .bf16) (x : FVec Ideal S1024x1024 .f32) (g : FVec Ideal S1x1x1024 .f32) (i j : Fin 1024) :
    k0_pay2 (F := Ideal) a w x g (ix2 i j) = normed (total (fun k => a (ix2 i k)) w (fun k => x (ix2 i k))) (fun k => g (ix3 0 0 k)) j := by
  pointwise [k0_pay2, pay_total, normed, scale, under, len, eps]

/-- Row `i` of the `t`-th block of rows. -/
def row (t : Fin cfg0.N) (i : Fin 1024) : Fin 4096 := ⟨t.val * 1024 + i.val, by have := t.isLt; have : cfg0.N = 4 := rfl; omega⟩

theorem at_x (t : Fin cfg0.N) (i k : Fin 1024) : blkX m c t (ix2 i k) = argX m c (ix2 (row t i) k) := by
  blk_ext [blkX, argX, row, iblk, V, place t]

theorem at_a (t : Fin cfg0.N) (i : Fin 1024) (k : Fin 1024) : blkA m c t (ix2 i k) = argA m c (ix2 (row t i) k) := by
  blk_ext [blkA, argA, row, iblk, V, place t]

theorem at_g (t : Fin cfg0.N) (k : Fin 1024) : blkG m c t (ix3 0 0 k) = argG m c (ix3 1 0 k) := by
  blk_ext [blkG, argG, iblk, V, place t]

theorem at_w (t : Fin cfg0.N) (k : Fin 1024) (j : Fin 1024) : blkW m c t (ix3 0 k j) = argW m c (ix3 0 k j) := by
  blk_ext [blkW, argW, iblk, V, place t]

/-- One row's total, of the block or of the whole. -/
theorem at_total (t : Fin cfg0.N) (i : Fin 1024) :
    total (fun k => blkA m c t (ix2 i k)) (blkW m c t) (fun k => blkX m c t (ix2 i k))
    = total (fun k => argA m c (ix2 (row t i) k)) (argW m c) (fun k => argX m c (ix2 (row t i) k)) := by
  funext j
  simp only [total, at_a, at_w, at_x]

/-- The two results, row by row. -/
def totalOf (a : FVec Ideal S4096x1024 .bf16) (w : FVec Ideal S1x1024x1024 .bf16) (x : FVec Ideal S4096x1024 .f32) : FVec Ideal S4096x1024 .f32 :=
  fun i => total (fun k => a (ix2 (i 0) k)) w (fun k => x (ix2 (i 0) k)) (i 1)

def normedOf (a : FVec Ideal S4096x1024 .bf16) (w : FVec Ideal S1x1024x1024 .bf16) (x : FVec Ideal S4096x1024 .f32) (g : FVec Ideal S2x1x1024 .f32) : FVec Ideal S4096x1024 .bf16 :=
  fun i => normed (total (fun k => a (ix2 (i 0) k)) w (fun k => x (ix2 (i 0) k))) (fun k => g (ix3 1 0 k)) (i 1)

theorem final_total : (dats m 0 c).arrAt 4 (cfgs 0).N = totalOf (argA m c) (argW m c) (argX m c) := by
  unfold totalOf
  refine (dats m 0 c).arrAt_eq_of_covers 4 _ (by decide +kernel) fun t hf y => ?_
  blk_simp
  rw [after0_4]
  frame_out
  idx_vars y
  refine (pay_total (blkA m c t) (blkW m c t) (blkX m c t) y0 y1).trans ?_
  rw [at_total]
  have e0 : ((View.whole main_v0_0).slice (win0_4.rect t)).emb (ix2 y0 y1) 0 = row t y0 := by
    apply Fin.ext
    simp only [row]
    blk_simp [place t]
  have e1 : ((View.whole main_v0_0).slice (win0_4.rect t)).emb (ix2 y0 y1) 1 = y1 := by
    apply Fin.ext
    blk_simp [place t]
  rw [e0, e1]

theorem final_normed : (dats m 0 c).arrAt 5 (cfgs 0).N = normedOf (argA m c) (argW m c) (argX m c) (argG m c) := by
  unfold normedOf
  refine (dats m 0 c).arrAt_eq_of_covers 5 _ (by decide +kernel) fun t hf y => ?_
  blk_simp
  rw [after0_5]
  frame_out
  idx_vars y
  refine (pay_normed (blkA m c t) (blkW m c t) (blkX m c t) (blkG m c t) y0 y1).trans ?_
  rw [at_total]
  simp only [at_g]
  have e0 : ((View.whole main_v0_1).slice (win0_5.rect t)).emb (ix2 y0 y1) 0 = row t y0 := by
    apply Fin.ext
    simp only [row]
    blk_simp [place t]
  have e1 : ((View.whole main_v0_1).slice (win0_5.rect t)).emb (ix2 y0 y1) 1 = y1 := by
    apply Fin.ext
    blk_simp [place t]
  rw [e0, e1]

end Cert.COutFKernelIdeal.Mix

namespace Cert.COutFReferenceIdeal.Mix
open Cert.COutFReferenceIdeal Cert.COutFReferenceIdeal.Gen Cert.Norm Cert.COutFKernelIdeal.Mix

/-- What the reference adds up before the norm. -/
def sumArr (a : FVec Ideal S4096x1024 .bf16) (w : FVec Ideal S1x1024x1024 .bf16) (x : FVec Ideal S4096x1024 .f32) : FVec Ideal S4096x1024 .f32 :=
  addf x (Host.dotGeneral dot_S4096x1024_S1024x1024_S4096x1024_1_0_0_1_n_n none (extf .f32 a bitsLt_bf16_f32) (extf .f32 (shapeCast _ w shapeCasts_S1x1024x1024_S1024x1024) bitsLt_bf16_f32))

theorem sumArr_eq (a : FVec Ideal S4096x1024 .bf16) (w : FVec Ideal S1x1024x1024 .bf16) (x : FVec Ideal S4096x1024 .f32) (i : Fin 4096) (j : Fin 1024) :
    sumArr a w x (ix2 i j) = total (fun k => a (ix2 i k)) w (fun k => x (ix2 i k)) j := by
  pointwise [sumArr, total]

/-- The norm of the reference. -/
def normArr (y : FVec Ideal S4096x1024 .f32) (g : FVec Ideal S2x1x1024 .f32) : FVec Ideal S4096x1024 .bf16 :=
  truncf .bf16 (mulf (mulf y (broadcastInDim S4096x1024 ![0, 1] bcast_S4096x1_S4096x1024_0_1 (Host.rsqrt (addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (shapeCast _ (extractStridedSlice S1x1x1024 ![1, 0, 0] g slices_S2x1x1024_S1x1x1024_1_0_0) shapeCasts_S1x1x1024_S1x1024))) bitsLt_bf16_f32

theorem normArr_eq (y : FVec Ideal S4096x1024 .f32) (g : FVec Ideal S2x1x1024 .f32) (i : Fin 4096) (j : Fin 1024) :
    normArr y g (ix2 i j) = normed (fun k => y (ix2 i k)) (fun k => g (ix3 1 0 k)) j := by
  pointwise [normArr, normed, scale, under, len, eps]

theorem value_total (a : FVec Ideal S4096x1024 .bf16) (w : FVec Ideal S1x1024x1024 .bf16) (x : FVec Ideal S4096x1024 .f32) : sumArr a w x = totalOf a w x := by
  funext i
  idx_vars i
  exact sumArr_eq a w x i0 i1

theorem value_normed (a : FVec Ideal S4096x1024 .bf16) (w : FVec Ideal S1x1024x1024 .bf16) (x : FVec Ideal S4096x1024 .f32) (g : FVec Ideal S2x1x1024 .f32) :
    normArr (sumArr a w x) g = normedOf a w x g := by
  funext i
  idx_vars i
  rw [normArr_eq]
  simp only [sumArr_eq]
  rfl

/-- The reference's run, its results row by row. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = totalOf (m ((c.tc : Thread nD τ).loc main_arg0)) (m ((c.tc : Thread nD τ).loc main_arg1)) (m ((c.tc : Thread nD τ).loc main_arg2))
      ∧ r.2.mem ((c.tc : Thread nD τ).loc main_v19) = normedOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.COutFReferenceIdeal.Value.run m ρ)
  obtain ⟨h0, h1, h2⟩ := h c
  exact ⟨h0.trans (value_total (m ((c.tc : Thread nD τ).loc main_arg0)) (m ((c.tc : Thread nD τ).loc main_arg1)) (m ((c.tc : Thread nD τ).loc main_arg2))),
    h1.trans (value_normed (m ((c.tc : Thread nD τ).loc main_arg0)) (m ((c.tc : Thread nD τ).loc main_arg1)) (m ((c.tc : Thread nD τ).loc main_arg2)) (m ((c.tc : Thread nD τ).loc main_arg3))), h2⟩

end Cert.COutFReferenceIdeal.Mix
end
-- ==== Proof.DownF.lean ====
/- A layer's last product, added to its residual, and the rows as the next norm leaves them: a point takes whole rows. -/
module

public import proofs.«01_k».proof.Proof.Gen.DownFKernelIdeal.Frame
public import Idealize.ShloMosaic.Lib.Pipeline.ValueKit
public import Idealize.ShloMosaic.Lib.Pipeline.ReadBack
public import Idealize.ShloMosaic.Lib.Pointwise
public import proofs.«01_k».proof.Proof.Gen.DownFReferenceIdeal.Run
public import proofs.«01_k».proof.Proof.NormSpec

@[expose] public section
set_option maxRecDepth 16384
noncomputable section
open Idealize.ShloMosaic Idealize.ShloMosaic.TcCoe Idealize.SL.Sem
open Idealize.ShloMosaic.Pipeline (Dat)

namespace Cert.DownFKernelIdeal.Mix
open Cert.DownFKernelIdeal Cert.DownFKernelIdeal.Gen Cert.Norm
variable (m : (ℓ : Loc nD τ sig) → Buf (Elt Ideal) ℓ) (c : Dev nD)

/-- Where each window's block sits at grid point `t`. -/
theorem place : ∀ t : Fin cfg0.N, win0_0.index t = ![t.val, 0] ∧ win0_1.index t = ![0, 0, 0] ∧ win0_2.index t = ![t.val, 0]
    ∧ win0_3.index t = ![1, 0, 0] ∧ win0_4.index t = ![t.val, 0] ∧ win0_5.index t = ![t.val, 0] :=
  (by decide +kernel : ∀ t : Fin grid0.N, _)

/-- The four arguments on core `c`: what goes into the product, the weights, the residual, the gains. -/
abbrev argA : FVec Ideal S4096x2816 .bf16 := m ((c : Thread nD τ).loc main_arg0)
abbrev argW : FVec Ideal S1x2816x1024 .bf16 := m ((c : Thread nD τ).loc main_arg1)
abbrev argX : FVec Ideal S4096x1024 .f32 := m ((c : Thread nD τ).loc main_arg2)
abbrev argG : FVec Ideal S2x1x1024 .f32 := m ((c : Thread nD τ).loc main_arg3)

/-- The four input blocks of point `t`. -/
abbrev blkA (t : Fin cfg0.N) : FVec Ideal S1024x2816 .bf16 := iblk m c 0 t
abbrev blkW (t : Fin cfg0.N) : FVec Ideal S1x2816x1024 .bf16 := iblk m c 1 t
abbrev blkX (t : Fin cfg0.N) : FVec Ideal S1024x1024 .f32 := iblk m c 2 t
abbrev blkG (t : Fin cfg0.N) : FVec Ideal S1x1x1024 .f32 := iblk m c 3 t

/-- A row's residual and what the product adds to it. -/
def total (a : Fin 2816 → EReal) (w : FVec Ideal S1x2816x1024 .bf16) (x : Fin 1024 → EReal) (j : Fin 1024) : EReal :=
  x j + ∑ k : Fin 2816, a k * w (ix3 0 k j)

theorem pay_total (a : FVec Ideal S1024x2816 .bf16) (w : FVec Ideal S1x2816x1024 .bf16) (x : FVec Ideal S1024x1024 .f32) (i j : Fin 1024) :
    k0_pay1 (F := Ideal) a w x (ix2 i j) = total (fun k => a (ix2 i k)) w (fun k => x (ix2 i k)) j := by
  pointwise [k0_pay1, total]

theorem pay_normed (a : FVec Ideal S1024x2816 .bf16) (w : FVec Ideal S1x2816x1024 .bf16) (x : FVec Ideal S1024x1024 .f32) (g : FVec Ideal S1x1x1024 .f32) (i j : Fin 1024) :
    k0_pay2 (F := Ideal) a w x g (ix2 i j) = normed (total (fun k => a (ix2 i k)) w (fun k => x (ix2 i k))) (fun k => g (ix3 0 0 k)) j := by
  pointwise [k0_pay2, pay_total, normed, scale, under, len, eps]

/-- Row `i` of the `t`-th block of rows. -/
def row (t : Fin cfg0.N) (i : Fin 1024) : Fin 4096 := ⟨t.val * 1024 + i.val, by have := t.isLt; have : cfg0.N = 4 := rfl; omega⟩

theorem at_x (t : Fin cfg0.N) (i k : Fin 1024) : blkX m c t (ix2 i k) = argX m c (ix2 (row t i) k) := by
  blk_ext [blkX, argX, row, iblk, V, place t]

theorem at_a (t : Fin cfg0.N) (i : Fin 1024) (k : Fin 2816) : blkA m c t (ix2 i k) = argA m c (ix2 (row t i) k) := by
  blk_ext [blkA, argA, row, iblk, V, place t]

theorem at_g (t : Fin cfg0.N) (k : Fin 1024) : blkG m c t (ix3 0 0 k) = argG m c (ix3 1 0 k) := by
  blk_ext [blkG, argG, iblk, V, place t]

theorem at_w (t : Fin cfg0.N) (k : Fin 2816) (j : Fin 1024) : blkW m c t (ix3 0 k j) = argW m c (ix3 0 k j) := by
  blk_ext [blkW, argW, iblk, V, place t]

/-- One row's total, of the block or of the whole. -/
theorem at_total (t : Fin cfg0.N) (i : Fin 1024) :
    total (fun k => blkA m c t (ix2 i k)) (blkW m c t) (fun k => blkX m c t (ix2 i k))
    = total (fun k => argA m c (ix2 (row t i) k)) (argW m c) (fun k => argX m c (ix2 (row t i) k)) := by
  funext j
  simp only [total, at_a, at_w, at_x]

/-- The two results, row by row. -/
def totalOf (a : FVec Ideal S4096x2816 .bf16) (w : FVec Ideal S1x2816x1024 .bf16) (x : FVec Ideal S4096x1024 .f32) : FVec Ideal S4096x1024 .f32 :=
  fun i => total (fun k => a (ix2 (i 0) k)) w (fun k => x (ix2 (i 0) k)) (i 1)

def normedOf (a : FVec Ideal S4096x2816 .bf16) (w : FVec Ideal S1x2816x1024 .bf16) (x : FVec Ideal S4096x1024 .f32) (g : FVec Ideal S2x1x1024 .f32) : FVec Ideal S4096x1024 .bf16 :=
  fun i => normed (total (fun k => a (ix2 (i 0) k)) w (fun k => x (ix2 (i 0) k))) (fun k => g (ix3 1 0 k)) (i 1)

theorem final_total : (dats m 0 c).arrAt 4 (cfgs 0).N = totalOf (argA m c) (argW m c) (argX m c) := by
  unfold totalOf
  refine (dats m 0 c).arrAt_eq_of_covers 4 _ (by decide +kernel) fun t hf y => ?_
  blk_simp
  rw [after0_4]
  frame_out
  idx_vars y
  refine (pay_total (blkA m c t) (blkW m c t) (blkX m c t) y0 y1).trans ?_
  rw [at_total]
  have e0 : ((View.whole main_v0_0).slice (win0_4.rect t)).emb (ix2 y0 y1) 0 = row t y0 := by
    apply Fin.ext
    simp only [row]
    blk_simp [place t]
  have e1 : ((View.whole main_v0_0).slice (win0_4.rect t)).emb (ix2 y0 y1) 1 = y1 := by
    apply Fin.ext
    blk_simp [place t]
  rw [e0, e1]

theorem final_normed : (dats m 0 c).arrAt 5 (cfgs 0).N = normedOf (argA m c) (argW m c) (argX m c) (argG m c) := by
  unfold normedOf
  refine (dats m 0 c).arrAt_eq_of_covers 5 _ (by decide +kernel) fun t hf y => ?_
  blk_simp
  rw [after0_5]
  frame_out
  idx_vars y
  refine (pay_normed (blkA m c t) (blkW m c t) (blkX m c t) (blkG m c t) y0 y1).trans ?_
  rw [at_total]
  simp only [at_g]
  have e0 : ((View.whole main_v0_1).slice (win0_5.rect t)).emb (ix2 y0 y1) 0 = row t y0 := by
    apply Fin.ext
    simp only [row]
    blk_simp [place t]
  have e1 : ((View.whole main_v0_1).slice (win0_5.rect t)).emb (ix2 y0 y1) 1 = y1 := by
    apply Fin.ext
    blk_simp [place t]
  rw [e0, e1]

end Cert.DownFKernelIdeal.Mix

namespace Cert.DownFReferenceIdeal.Mix
open Cert.DownFReferenceIdeal Cert.DownFReferenceIdeal.Gen Cert.Norm Cert.DownFKernelIdeal.Mix

/-- What the reference adds up before the norm. -/
def sumArr (a : FVec Ideal S4096x2816 .bf16) (w : FVec Ideal S1x2816x1024 .bf16) (x : FVec Ideal S4096x1024 .f32) : FVec Ideal S4096x1024 .f32 :=
  addf x (Host.dotGeneral dot_S4096x2816_S2816x1024_S4096x1024_1_0_0_1_n_n none (extf .f32 a bitsLt_bf16_f32) (extf .f32 (shapeCast _ w shapeCasts_S1x2816x1024_S2816x1024) bitsLt_bf16_f32))

theorem sumArr_eq (a : FVec Ideal S4096x2816 .bf16) (w : FVec Ideal S1x2816x1024 .bf16) (x : FVec Ideal S4096x1024 .f32) (i : Fin 4096) (j : Fin 1024) :
    sumArr a w x (ix2 i j) = total (fun k => a (ix2 i k)) w (fun k => x (ix2 i k)) j := by
  pointwise [sumArr, total]

/-- The norm of the reference. -/
def normArr (y : FVec Ideal S4096x1024 .f32) (g : FVec Ideal S2x1x1024 .f32) : FVec Ideal S4096x1024 .bf16 :=
  truncf .bf16 (mulf (mulf y (broadcastInDim S4096x1024 ![0, 1] bcast_S4096x1_S4096x1024_0_1 (Host.rsqrt (addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (shapeCast _ (extractStridedSlice S1x1x1024 ![1, 0, 0] g slices_S2x1x1024_S1x1x1024_1_0_0) shapeCasts_S1x1x1024_S1x1024))) bitsLt_bf16_f32

theorem normArr_eq (y : FVec Ideal S4096x1024 .f32) (g : FVec Ideal S2x1x1024 .f32) (i : Fin 4096) (j : Fin 1024) :
    normArr y g (ix2 i j) = normed (fun k => y (ix2 i k)) (fun k => g (ix3 1 0 k)) j := by
  pointwise [normArr, normed, scale, under, len, eps]

theorem value_total (a : FVec Ideal S4096x2816 .bf16) (w : FVec Ideal S1x2816x1024 .bf16) (x : FVec Ideal S4096x1024 .f32) : sumArr a w x = totalOf a w x := by
  funext i
  idx_vars i
  exact sumArr_eq a w x i0 i1

theorem value_normed (a : FVec Ideal S4096x2816 .bf16) (w : FVec Ideal S1x2816x1024 .bf16) (x : FVec Ideal S4096x1024 .f32) (g : FVec Ideal S2x1x1024 .f32) :
    normArr (sumArr a w x) g = normedOf a w x g := by
  funext i
  idx_vars i
  rw [normArr_eq]
  simp only [sumArr_eq]
  rfl

/-- The reference's run, its results row by row. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = totalOf (m ((c.tc : Thread nD τ).loc main_arg0)) (m ((c.tc : Thread nD τ).loc main_arg1)) (m ((c.tc : Thread nD τ).loc main_arg2))
      ∧ r.2.mem ((c.tc : Thread nD τ).loc main_v19) = normedOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.DownFReferenceIdeal.Value.run m ρ)
  obtain ⟨h0, h1, h2⟩ := h c
  exact ⟨h0.trans (value_total (m ((c.tc : Thread nD τ).loc main_arg0)) (m ((c.tc : Thread nD τ).loc main_arg1)) (m ((c.tc : Thread nD τ).loc main_arg2))),
    h1.trans (value_normed (m ((c.tc : Thread nD τ).loc main_arg0)) (m ((c.tc : Thread nD τ).loc main_arg1)) (m ((c.tc : Thread nD τ).loc main_arg2)) (m ((c.tc : Thread nD τ).loc main_arg3))), h2⟩

end Cert.DownFReferenceIdeal.Mix
end
-- ==== Proof.AdamSpec.lean ====
/- One AdamW step on one entry of a weight, with the constants as both programs write them. -/
module

public import Idealize.ShloMosaic.Lib.Pointwise

@[expose] public section
noncomputable section
open Idealize.ShloMosaic Idealize.ShloMosaic.TcCoe Idealize.SL.Sem

namespace Cert.Adam

/-- How much of the first moment is kept and how much of the gradient is added; the same for the second moment. -/
abbrev keep1 : EReal := Ideal.ofBits FTy.f32 0x3F666666#32
abbrev add1 : EReal := Ideal.ofBits FTy.f32 0x3DCCCCCD#32
abbrev keep2 : EReal := Ideal.ofBits FTy.f32 0x3F7FBE77#32
abbrev add2 : EReal := Ideal.ofBits FTy.f32 0x3A83126F#32

/-- What the moments are divided by at this step. -/
abbrev bias1 : EReal := Ideal.ofBits FTy.f32 0x3F26BD02#32
abbrev bias2 : EReal := Ideal.ofBits FTy.f32 0x3C231ACC#32

/-- The small number beside the root, the weight decay, and minus the learning rate. -/
abbrev tiny : EReal := Ideal.ofBits FTy.f32 0x322BCC77#32
abbrev decay : EReal := Ideal.ofBits FTy.f32 0x3C23D70A#32
abbrev rate : EReal := Ideal.ofBits FTy.f32 0xBA83126F#32

/-- The new first moment. -/
def mean (g n : EReal) : EReal := keep1 * n + add1 * g

/-- The new second moment. -/
def spread (g v : EReal) : EReal := keep2 * v + add2 * (g * g)

/-- The step of the weight. -/
def delta (w g n v : EReal) : EReal :=
  rate * (Ideal.div (Ideal.div (mean g n) bias1) (Ideal.sqrt (Ideal.div (spread g v) bias2) + tiny) + decay * w)

theorem delta_congr {w w' g g' n n' v v' : EReal} (hw : w = w') (hg : g = g') (hn : n = n') (hv : v = v') :
    delta w g n v = delta w' g' n' v' := by rw [hw, hg, hn, hv]

end Cert.Adam
end
-- ==== Proof.AdamAbIn.lean ====
/- One AdamW step on a weight: each block's update is the update of its entries. -/
module

public import proofs.«01_k».proof.Proof.Gen.AdamAbInKernelIdeal.Frame
public import Idealize.ShloMosaic.Lib.Pipeline.ValueKit
public import Idealize.ShloMosaic.Lib.Pipeline.ReadBack
public import Idealize.ShloMosaic.Lib.Pointwise
public import proofs.«01_k».proof.Proof.Gen.AdamAbInReferenceIdeal.Run
public import proofs.«01_k».proof.Proof.AdamSpec

@[expose] public section
set_option maxRecDepth 16384
noncomputable section
open Idealize.ShloMosaic Idealize.ShloMosaic.TcCoe Idealize.SL.Sem
open Idealize.ShloMosaic.Pipeline (Dat)

namespace Cert.AdamAbInKernelIdeal.Mix
open Cert.AdamAbInKernelIdeal Cert.AdamAbInKernelIdeal.Gen Cert.Adam
variable (m : (ℓ : Loc nD τ sig) → Buf (Elt Ideal) ℓ) (c : Dev nD)

/-- Where each window's block sits at grid point `t`. -/
theorem place : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The four arguments on core `c`: the weight, its gradient, its two moments. -/
abbrev argW : FVec Ideal S1x1024x512 .f32 := m ((c : Thread nD τ).loc main_arg0)
abbrev argG : FVec Ideal S1x1024x512 .f32 := m ((c : Thread nD τ).loc main_arg1)
abbrev argM : FVec Ideal S1x1024x512 .f32 := m ((c : Thread nD τ).loc main_arg2)
abbrev argV : FVec Ideal S1x1024x512 .f32 := m ((c : Thread nD τ).loc main_arg3)

/-- The four input blocks of point `t`. -/
abbrev blkW (t : Fin cfg0.N) : FVec Ideal S1x1024x512 .f32 := iblk m c 0 t
abbrev blkG (t : Fin cfg0.N) : FVec Ideal S1x1024x512 .f32 := iblk m c 1 t
abbrev blkM (t : Fin cfg0.N) : FVec Ideal S1x1024x512 .f32 := iblk m c 2 t
abbrev blkV (t : Fin cfg0.N) : FVec Ideal S1x1024x512 .f32 := iblk m c 3 t

theorem pay_grad (g : FVec Ideal S1x1024x512 .f32) (j : S1x1024x512.Idx) : @Eq EReal (k0_pay1 (F := Ideal) (k0_pay5 g) j) (g j) := by
  idx_vars j
  obtain rfl : j0 = 0 := Subsingleton.elim _ _
  pointwise [k0_pay1, k0_pay5]

theorem pay_delta (w g n v : FVec Ideal S1x1024x512 .f32) (j : S1x1024x512.Idx) :
    @Eq EReal (k0_pay2 (F := Ideal) (k0_pay8 g w n v) j) (delta (w j) (g j) (n j) (v j)) := by
  idx_vars j
  obtain rfl : j0 = 0 := Subsingleton.elim _ _
  pointwise [k0_pay2, k0_pay8, k0_pay7, k0_pay6, k0_pay5, delta, mean, spread, keep1, add1, keep2, add2, bias1, bias2, tiny, decay, rate]

theorem pay_mean (g n : FVec Ideal S1x1024x512 .f32) (j : S1x1024x512.Idx) : @Eq EReal (k0_pay3 (F := Ideal) (k0_pay6 g n) j) (mean (g j) (n j)) := by
  idx_vars j
  obtain rfl : j0 = 0 := Subsingleton.elim _ _
  pointwise [k0_pay3, k0_pay6, k0_pay5, mean, keep1, add1]

theorem pay_spread (g v : FVec Ideal S1x1024x512 .f32) (j : S1x1024x512.Idx) : @Eq EReal (k0_pay4 (F := Ideal) (k0_pay7 g v) j) (spread (g j) (v j)) := by
  idx_vars j
  obtain rfl : j0 = 0 := Subsingleton.elim _ _
  pointwise [k0_pay4, k0_pay7, k0_pay5, spread, keep2, add2]

theorem final_grad : (dats m 0 c).arrAt 4 (cfgs 0).N = argG m c := by
  refine (dats m 0 c).arrAt_eq_of_covers 4 _ (by decide +kernel) fun t hf y => ?_
  blk_simp
  rw [after0_4]
  frame_out
  refine (pay_grad (blkG m c t) _).trans ?_
  blk_ext [blkG, argG, iblk, V, place t]

theorem final_delta : (dats m 0 c).arrAt 5 (cfgs 0).N = fun i => delta (argW m c i) (argG m c i) (argM m c i) (argV m c i) := by
  refine (dats m 0 c).arrAt_eq_of_covers 5 _ (by decide +kernel) fun t hf y => ?_
  blk_simp
  rw [after0_5]
  frame_out
  refine (pay_delta (blkW m c t) (blkG m c t) (blkM m c t) (blkV m c t) _).trans ?_
  refine delta_congr ?_ ?_ ?_ ?_ <;>
    blk_ext [blkW, blkG, blkM, blkV, argW, argG, argM, argV, iblk, V, place t]

theorem final_mean : (dats m 0 c).arrAt 6 (cfgs 0).N = fun i => mean (argG m c i) (argM m c i) := by
  refine (dats m 0 c).arrAt_eq_of_covers 6 _ (by decide +kernel) fun t hf y => ?_
  blk_simp
  rw [after0_6]
  frame_out
  refine (pay_mean (blkG m c t) (blkM m c t) _).trans ?_
  refine congrArg₂ mean ?_ ?_ <;>
    blk_ext [blkG, blkM, argG, argM, iblk, V, place t]

theorem final_spread : (dats m 0 c).arrAt 7 (cfgs 0).N = fun i => spread (argG m c i) (argV m c i) := by
  refine (dats m 0 c).arrAt_eq_of_covers 7 _ (by decide +kernel) fun t hf y => ?_
  blk_simp
  rw [after0_7]
  frame_out
  refine (pay_spread (blkG m c t) (blkV m c t) _).trans ?_
  refine congrArg₂ spread ?_ ?_ <;>
    blk_ext [blkG, blkV, argG, argV, iblk, V, place t]

end Cert.AdamAbInKernelIdeal.Mix

namespace Cert.AdamAbInReferenceIdeal.Mix
open Cert.AdamAbInReferenceIdeal Cert.AdamAbInReferenceIdeal.Gen Cert.Adam

/-- The reference's run, its results as the update entry by entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v23) = (fun i => delta (m ((c.tc : Thread nD τ).loc main_arg0) i) (m ((c.tc : Thread nD τ).loc main_arg1) i) (m ((c.tc : Thread nD τ).loc main_arg2) i) (m ((c.tc : Thread nD τ).loc main_arg3) i))
      ∧ r.2.mem ((c.tc : Thread nD τ).loc main_v4) = (fun i => mean (m ((c.tc : Thread nD τ).loc main_arg1) i) (m ((c.tc : Thread nD τ).loc main_arg2) i))
      ∧ r.2.mem ((c.tc : Thread nD τ).loc main_v10) = (fun i => spread (m ((c.tc : Thread nD τ).loc main_arg1) i) (m ((c.tc : Thread nD τ).loc main_arg3) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.AdamAbInReferenceIdeal.Value.run m ρ)
  obtain ⟨h0, h1, h2, h3, h4⟩ := h c
  refine ⟨h0, h1.trans ?_, h2.trans ?_, h3.trans ?_, h4⟩
  · funext i
    pointwise [delta, mean, spread, keep1, add1, keep2, add2, bias1, bias2, tiny, decay, rate]
  · funext i
    pointwise [mean, keep1, add1]
  · funext i
    pointwise [spread, keep2, add2]

end Cert.AdamAbInReferenceIdeal.Mix
end
-- ==== Proof.AdamAbOut.lean ====
/- One AdamW step on a weight: each block's update is the update of its entries. -/
module

public import proofs.«01_k».proof.Proof.Gen.AdamAbOutKernelIdeal.Frame
public import Idealize.ShloMosaic.Lib.Pipeline.ValueKit
public import Idealize.ShloMosaic.Lib.Pipeline.ReadBack
public import Idealize.ShloMosaic.Lib.Pointwise
public import proofs.«01_k».proof.Proof.Gen.AdamAbOutReferenceIdeal.Run
public import proofs.«01_k».proof.Proof.AdamSpec

@[expose] public section
set_option maxRecDepth 16384
noncomputable section
open Idealize.ShloMosaic Idealize.ShloMosaic.TcCoe Idealize.SL.Sem
open Idealize.ShloMosaic.Pipeline (Dat)

namespace Cert.AdamAbOutKernelIdeal.Mix
open Cert.AdamAbOutKernelIdeal Cert.AdamAbOutKernelIdeal.Gen Cert.Adam
variable (m : (ℓ : Loc nD τ sig) → Buf (Elt Ideal) ℓ) (c : Dev nD)

/-- Where each window's block sits at grid point `t`. -/
theorem place : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The four arguments on core `c`: the weight, its gradient, its two moments. -/
abbrev argW : FVec Ideal S1x256x1024 .f32 := m ((c : Thread nD τ).loc main_arg0)
abbrev argG : FVec Ideal S1x256x1024 .f32 := m ((c : Thread nD τ).loc main_arg1)
abbrev argM : FVec Ideal S1x256x1024 .f32 := m ((c : Thread nD τ).loc main_arg2)
abbrev argV : FVec Ideal S1x256x1024 .f32 := m ((c : Thread nD τ).loc main_arg3)

/-- The four input blocks of point `t`. -/
abbrev blkW (t : Fin cfg0.N) : FVec Ideal S1x256x1024 .f32 := iblk m c 0 t
abbrev blkG (t : Fin cfg0.N) : FVec Ideal S1x256x1024 .f32 := iblk m c 1 t
abbrev blkM (t : Fin cfg0.N) : FVec Ideal S1x256x1024 .f32 := iblk m c 2 t
abbrev blkV (t : Fin cfg0.N) : FVec Ideal S1x256x1024 .f32 := iblk m c 3 t

theorem pay_grad (g : FVec Ideal S1x256x1024 .f32) (j : S1x256x1024.Idx) : @Eq EReal (k0_pay1 (F := Ideal) (k0_pay5 g) j) (g j) := by
  idx_vars j
  obtain rfl : j0 = 0 := Subsingleton.elim _ _
  pointwise [k0_pay1, k0_pay5]

theorem pay_delta (w g n v : FVec Ideal S1x256x1024 .f32) (j : S1x256x1024.Idx) :
    @Eq EReal (k0_pay2 (F := Ideal) (k0_pay8 g w n v) j) (delta (w j) (g j) (n j) (v j)) := by
  idx_vars j
  obtain rfl : j0 = 0 := Subsingleton.elim _ _
  pointwise [k0_pay2, k0_pay8, k0_pay7, k0_pay6, k0_pay5, delta, mean, spread, keep1, add1, keep2, add2, bias1, bias2, tiny, decay, rate]

theorem pay_mean (g n : FVec Ideal S1x256x1024 .f32) (j : S1x256x1024.Idx) : @Eq EReal (k0_pay3 (F := Ideal) (k0_pay6 g n) j) (mean (g j) (n j)) := by
  idx_vars j
  obtain rfl : j0 = 0 := Subsingleton.elim _ _
  pointwise [k0_pay3, k0_pay6, k0_pay5, mean, keep1, add1]

theorem pay_spread (g v : FVec Ideal S1x256x1024 .f32) (j : S1x256x1024.Idx) : @Eq EReal (k0_pay4 (F := Ideal) (k0_pay7 g v) j) (spread (g j) (v j)) := by
  idx_vars j
  obtain rfl : j0 = 0 := Subsingleton.elim _ _
  pointwise [k0_pay4, k0_pay7, k0_pay5, spread, keep2, add2]

theorem final_grad : (dats m 0 c).arrAt 4 (cfgs 0).N = argG m c := by
  refine (dats m 0 c).arrAt_eq_of_covers 4 _ (by decide +kernel) fun t hf y => ?_
  blk_simp
  rw [after0_4]
  frame_out
  refine (pay_grad (blkG m c t) _).trans ?_
  blk_ext [blkG, argG, iblk, V, place t]

theorem final_delta : (dats m 0 c).arrAt 5 (cfgs 0).N = fun i => delta (argW m c i) (argG m c i) (argM m c i) (argV m c i) := by
  refine (dats m 0 c).arrAt_eq_of_covers 5 _ (by decide +kernel) fun t hf y => ?_
  blk_simp
  rw [after0_5]
  frame_out
  refine (pay_delta (blkW m c t) (blkG m c t) (blkM m c t) (blkV m c t) _).trans ?_
  refine delta_congr ?_ ?_ ?_ ?_ <;>
    blk_ext [blkW, blkG, blkM, blkV, argW, argG, argM, argV, iblk, V, place t]

theorem final_mean : (dats m 0 c).arrAt 6 (cfgs 0).N = fun i => mean (argG m c i) (argM m c i) := by
  refine (dats m 0 c).arrAt_eq_of_covers 6 _ (by decide +kernel) fun t hf y => ?_
  blk_simp
  rw [after0_6]
  frame_out
  refine (pay_mean (blkG m c t) (blkM m c t) _).trans ?_
  refine congrArg₂ mean ?_ ?_ <;>
    blk_ext [blkG, blkM, argG, argM, iblk, V, place t]

theorem final_spread : (dats m 0 c).arrAt 7 (cfgs 0).N = fun i => spread (argG m c i) (argV m c i) := by
  refine (dats m 0 c).arrAt_eq_of_covers 7 _ (by decide +kernel) fun t hf y => ?_
  blk_simp
  rw [after0_7]
  frame_out
  refine (pay_spread (blkG m c t) (blkV m c t) _).trans ?_
  refine congrArg₂ spread ?_ ?_ <;>
    blk_ext [blkG, blkV, argG, argV, iblk, V, place t]

end Cert.AdamAbOutKernelIdeal.Mix

namespace Cert.AdamAbOutReferenceIdeal.Mix
open Cert.AdamAbOutReferenceIdeal Cert.AdamAbOutReferenceIdeal.Gen Cert.Adam

/-- The reference's run, its results as the update entry by entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v23) = (fun i => delta (m ((c.tc : Thread nD τ).loc main_arg0) i) (m ((c.tc : Thread nD τ).loc main_arg1) i) (m ((c.tc : Thread nD τ).loc main_arg2) i) (m ((c.tc : Thread nD τ).loc main_arg3) i))
      ∧ r.2.mem ((c.tc : Thread nD τ).loc main_v4) = (fun i => mean (m ((c.tc : Thread nD τ).loc main_arg1) i) (m ((c.tc : Thread nD τ).loc main_arg2) i))
      ∧ r.2.mem ((c.tc : Thread nD τ).loc main_v10) = (fun i => spread (m ((c.tc : Thread nD τ).loc main_arg1) i) (m ((c.tc : Thread nD τ).loc main_arg3) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.AdamAbOutReferenceIdeal.Value.run m ρ)
  obtain ⟨h0, h1, h2, h3, h4⟩ := h c
  refine ⟨h0, h1.trans ?_, h2.trans ?_, h3.trans ?_, h4⟩
  · funext i
    pointwise [delta, mean, spread, keep1, add1, keep2, add2, bias1, bias2, tiny, decay, rate]
  · funext i
    pointwise [mean, keep1, add1]
  · funext i
    pointwise [spread, keep2, add2]

end Cert.AdamAbOutReferenceIdeal.Mix
end
-- ==== Proof.AdamCIn.lean ====
/- One AdamW step on a weight: each block's update is the update of its entries. -/
module

public import proofs.«01_k».proof.Proof.Gen.AdamCInKernelIdeal.Frame
public import Idealize.ShloMosaic.Lib.Pipeline.ValueKit
public import Idealize.ShloMosaic.Lib.Pipeline.ReadBack
public import Idealize.ShloMosaic.Lib.Pointwise
public import proofs.«01_k».proof.Proof.Gen.AdamCInReferenceIdeal.Run
public import proofs.«01_k».proof.Proof.AdamSpec

@[expose] public section
set_option maxRecDepth 16384
noncomputable section
open Idealize.ShloMosaic Idealize.ShloMosaic.TcCoe Idealize.SL.Sem
open Idealize.ShloMosaic.Pipeline (Dat)

namespace Cert.AdamCInKernelIdeal.Mix
open Cert.AdamCInKernelIdeal Cert.AdamCInKernelIdeal.Gen Cert.Adam
variable (m : (ℓ : Loc nD τ sig) → Buf (Elt Ideal) ℓ) (c : Dev nD)

/-- Where each window's block sits at grid point `t`. -/
theorem place : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The four arguments on core `c`: the weight, its gradient, its two moments. -/
abbrev argW : FVec Ideal S1x1024x768 .f32 := m ((c : Thread nD τ).loc main_arg0)
abbrev argG : FVec Ideal S1x1024x768 .f32 := m ((c : Thread nD τ).loc main_arg1)
abbrev argM : FVec Ideal S1x1024x768 .f32 := m ((c : Thread nD τ).loc main_arg2)
abbrev argV : FVec Ideal S1x1024x768 .f32 := m ((c : Thread nD τ).loc main_arg3)

/-- The four input blocks of point `t`. -/
abbrev blkW (t : Fin cfg0.N) : FVec Ideal S1x1024x768 .f32 := iblk m c 0 t
abbrev blkG (t : Fin cfg0.N) : FVec Ideal S1x1024x768 .f32 := iblk m c 1 t
abbrev blkM (t : Fin cfg0.N) : FVec Ideal S1x1024x768 .f32 := iblk m c 2 t
abbrev blkV (t : Fin cfg0.N) : FVec Ideal S1x1024x768 .f32 := iblk m c 3 t

theorem pay_grad (g : FVec Ideal S1x1024x768 .f32) (j : S1x1024x768.Idx) : @Eq EReal (k0_pay1 (F := Ideal) (k0_pay5 g) j) (g j) := by
  idx_vars j
  obtain rfl : j0 = 0 := Subsingleton.elim _ _
  pointwise [k0_pay1, k0_pay5]

theorem pay_delta (w g n v : FVec Ideal S1x1024x768 .f32) (j : S1x1024x768.Idx) :
    @Eq EReal (k0_pay2 (F := Ideal) (k0_pay8 g w n v) j) (delta (w j) (g j) (n j) (v j)) := by
  idx_vars j
  obtain rfl : j0 = 0 := Subsingleton.elim _ _
  pointwise [k0_pay2, k0_pay8, k0_pay7, k0_pay6, k0_pay5, delta, mean, spread, keep1, add1, keep2, add2, bias1, bias2, tiny, decay, rate]

theorem pay_mean (g n : FVec Ideal S1x1024x768 .f32) (j : S1x1024x768.Idx) : @Eq EReal (k0_pay3 (F := Ideal) (k0_pay6 g n) j) (mean (g j) (n j)) := by
  idx_vars j
  obtain rfl : j0 = 0 := Subsingleton.elim _ _
  pointwise [k0_pay3, k0_pay6, k0_pay5, mean, keep1, add1]

theorem pay_spread (g v : FVec Ideal S1x1024x768 .f32) (j : S1x1024x768.Idx) : @Eq EReal (k0_pay4 (F := Ideal) (k0_pay7 g v) j) (spread (g j) (v j)) := by
  idx_vars j
  obtain rfl : j0 = 0 := Subsingleton.elim _ _
  pointwise [k0_pay4, k0_pay7, k0_pay5, spread, keep2, add2]

theorem final_grad : (dats m 0 c).arrAt 4 (cfgs 0).N = argG m c := by
  refine (dats m 0 c).arrAt_eq_of_covers 4 _ (by decide +kernel) fun t hf y => ?_
  blk_simp
  rw [after0_4]
  frame_out
  refine (pay_grad (blkG m c t) _).trans ?_
  blk_ext [blkG, argG, iblk, V, place t]

theorem final_delta : (dats m 0 c).arrAt 5 (cfgs 0).N = fun i => delta (argW m c i) (argG m c i) (argM m c i) (argV m c i) := by
  refine (dats m 0 c).arrAt_eq_of_covers 5 _ (by decide +kernel) fun t hf y => ?_
  blk_simp
  rw [after0_5]
  frame_out
  refine (pay_delta (blkW m c t) (blkG m c t) (blkM m c t) (blkV m c t) _).trans ?_
  refine delta_congr ?_ ?_ ?_ ?_ <;>
    blk_ext [blkW, blkG, blkM, blkV, argW, argG, argM, argV, iblk, V, place t]

theorem final_mean : (dats m 0 c).arrAt 6 (cfgs 0).N = fun i => mean (argG m c i) (argM m c i) := by
  refine (dats m 0 c).arrAt_eq_of_covers 6 _ (by decide +kernel) fun t hf y => ?_
  blk_simp
  rw [after0_6]
  frame_out
  refine (pay_mean (blkG m c t) (blkM m c t) _).trans ?_
  refine congrArg₂ mean ?_ ?_ <;>
    blk_ext [blkG, blkM, argG, argM, iblk, V, place t]

theorem final_spread : (dats m 0 c).arrAt 7 (cfgs 0).N = fun i => spread (argG m c i) (argV m c i) := by
  refine (dats m 0 c).arrAt_eq_of_covers 7 _ (by decide +kernel) fun t hf y => ?_
  blk_simp
  rw [after0_7]
  frame_out
  refine (pay_spread (blkG m c t) (blkV m c t) _).trans ?_
  refine congrArg₂ spread ?_ ?_ <;>
    blk_ext [blkG, blkV, argG, argV, iblk, V, place t]

end Cert.AdamCInKernelIdeal.Mix

namespace Cert.AdamCInReferenceIdeal.Mix
open Cert.AdamCInReferenceIdeal Cert.AdamCInReferenceIdeal.Gen Cert.Adam

/-- The reference's run, its results as the update entry by entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v23) = (fun i => delta (m ((c.tc : Thread nD τ).loc main_arg0) i) (m ((c.tc : Thread nD τ).loc main_arg1) i) (m ((c.tc : Thread nD τ).loc main_arg2) i) (m ((c.tc : Thread nD τ).loc main_arg3) i))
      ∧ r.2.mem ((c.tc : Thread nD τ).loc main_v4) = (fun i => mean (m ((c.tc : Thread nD τ).loc main_arg1) i) (m ((c.tc : Thread nD τ).loc main_arg2) i))
      ∧ r.2.mem ((c.tc : Thread nD τ).loc main_v10) = (fun i => spread (m ((c.tc : Thread nD τ).loc main_arg1) i) (m ((c.tc : Thread nD τ).loc main_arg3) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.AdamCInReferenceIdeal.Value.run m ρ)
  obtain ⟨h0, h1, h2, h3, h4⟩ := h c
  refine ⟨h0, h1.trans ?_, h2.trans ?_, h3.trans ?_, h4⟩
  · funext i
    pointwise [delta, mean, spread, keep1, add1, keep2, add2, bias1, bias2, tiny, decay, rate]
  · funext i
    pointwise [mean, keep1, add1]
  · funext i
    pointwise [spread, keep2, add2]

end Cert.AdamCInReferenceIdeal.Mix
end
-- ==== Proof.AdamUp.lean ====
/- One AdamW step on a weight: each block's update is the update of its entries. -/
module

public import proofs.«01_k».proof.Proof.Gen.AdamUpKernelIdeal.Frame
public import Idealize.ShloMosaic.Lib.Pipeline.ValueKit
public import Idealize.ShloMosaic.Lib.Pipeline.ReadBack
public import Idealize.ShloMosaic.Lib.Pointwise
public import proofs.«01_k».proof.Proof.Gen.AdamUpReferenceIdeal.Run
public import proofs.«01_k».proof.Proof.AdamSpec

@[expose] public section
set_option maxRecDepth 16384
noncomputable section
open Idealize.ShloMosaic Idealize.ShloMosaic.TcCoe Idealize.SL.Sem
open Idealize.ShloMosaic.Pipeline (Dat)

namespace Cert.AdamUpKernelIdeal.Mix
open Cert.AdamUpKernelIdeal Cert.AdamUpKernelIdeal.Gen Cert.Adam
variable (m : (ℓ : Loc nD τ sig) → Buf (Elt Ideal) ℓ) (c : Dev nD)

/-- Where each window's block sits at grid point `t`. -/
theorem place : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0] ∧ win0_6.index t = ![t.val / 2, t.val % 2, 0] ∧ win0_7.index t = ![t.val / 2, t.val % 2, 0] :=
  (by decide +kernel : ∀ t : Fin grid0.N, _)

/-- The four arguments on core `c`: the weight, its gradient, its two moments. -/
abbrev argW : FVec Ideal S2x1024x1408 .f32 := m ((c : Thread nD τ).loc main_arg0)
abbrev argG : FVec Ideal S2x1024x1408 .f32 := m ((c : Thread nD τ).loc main_arg1)
abbrev argM : FVec Ideal S2x1024x1408 .f32 := m ((c : Thread nD τ).loc main_arg2)
abbrev argV : FVec Ideal S2x1024x1408 .f32 := m ((c : Thread nD τ).loc main_arg3)

/-- The four input blocks of point `t`. -/
abbrev blkW (t : Fin cfg0.N) : FVec Ideal S1x512x1408 .f32 := iblk m c 0 t
abbrev blkG (t : Fin cfg0.N) : FVec Ideal S1x512x1408 .f32 := iblk m c 1 t
abbrev blkM (t : Fin cfg0.N) : FVec Ideal S1x512x1408 .f32 := iblk m c 2 t
abbrev blkV (t : Fin cfg0.N) : FVec Ideal S1x512x1408 .f32 := iblk m c 3 t

theorem pay_grad (g : FVec Ideal S1x512x1408 .f32) (j : S1x512x1408.Idx) : @Eq EReal (k0_pay1 (F := Ideal) (k0_pay5 g) j) (g j) := by
  idx_vars j
  obtain rfl : j0 = 0 := Subsingleton.elim _ _
  pointwise [k0_pay1, k0_pay5]

theorem pay_delta (w g n v : FVec Ideal S1x512x1408 .f32) (j : S1x512x1408.Idx) :
    @Eq EReal (k0_pay2 (F := Ideal) (k0_pay8 g w n v) j) (delta (w j) (g j) (n j) (v j)) := by
  idx_vars j
  obtain rfl : j0 = 0 := Subsingleton.elim _ _
  pointwise [k0_pay2, k0_pay8, k0_pay7, k0_pay6, k0_pay5, delta, mean, spread, keep1, add1, keep2, add2, bias1, bias2, tiny, decay, rate]

theorem pay_mean (g n : FVec Ideal S1x512x1408 .f32) (j : S1x512x1408.Idx) : @Eq EReal (k0_pay3 (F := Ideal) (k0_pay6 g n) j) (mean (g j) (n j)) := by
  idx_vars j
  obtain rfl : j0 = 0 := Subsingleton.elim _ _
  pointwise [k0_pay3, k0_pay6, k0_pay5, mean, keep1, add1]

theorem pay_spread (g v : FVec Ideal S1x512x1408 .f32) (j : S1x512x1408.Idx) : @Eq EReal (k0_pay4 (F := Ideal) (k0_pay7 g v) j) (spread (g j) (v j)) := by
  idx_vars j
  obtain rfl : j0 = 0 := Subsingleton.elim _ _
  pointwise [k0_pay4, k0_pay7, k0_pay5, spread, keep2, add2]

theorem final_grad : (dats m 0 c).arrAt 4 (cfgs 0).N = argG m c := by
  refine (dats m 0 c).arrAt_eq_of_covers 4 _ (by decide +kernel) fun t hf y => ?_
  blk_simp
  rw [after0_4]
  frame_out
  refine (pay_grad (blkG m c t) _).trans ?_
  blk_ext [blkG, argG, iblk, V, place t]

theorem final_delta : (dats m 0 c).arrAt 5 (cfgs 0).N = fun i => delta (argW m c i) (argG m c i) (argM m c i) (argV m c i) := by
  refine (dats m 0 c).arrAt_eq_of_covers 5 _ (by decide +kernel) fun t hf y => ?_
  blk_simp
  rw [after0_5]
  frame_out
  refine (pay_delta (blkW m c t) (blkG m c t) (blkM m c t) (blkV m c t) _).trans ?_
  refine delta_congr ?_ ?_ ?_ ?_ <;>
    blk_ext [blkW, blkG, blkM, blkV, argW, argG, argM, argV, iblk, V, place t]

theorem final_mean : (dats m 0 c).arrAt 6 (cfgs 0).N = fun i => mean (argG m c i) (argM m c i) := by
  refine (dats m 0 c).arrAt_eq_of_covers 6 _ (by decide +kernel) fun t hf y => ?_
  blk_simp
  rw [after0_6]
  frame_out
  refine (pay_mean (blkG m c t) (blkM m c t) _).trans ?_
  refine congrArg₂ mean ?_ ?_ <;>
    blk_ext [blkG, blkM, argG, argM, iblk, V, place t]

theorem final_spread : (dats m 0 c).arrAt 7 (cfgs 0).N = fun i => spread (argG m c i) (argV m c i) := by
  refine (dats m 0 c).arrAt_eq_of_covers 7 _ (by decide +kernel) fun t hf y => ?_
  blk_simp
  rw [after0_7]
  frame_out
  refine (pay_spread (blkG m c t) (blkV m c t) _).trans ?_
  refine congrArg₂ spread ?_ ?_ <;>
    blk_ext [blkG, blkV, argG, argV, iblk, V, place t]

end Cert.AdamUpKernelIdeal.Mix

namespace Cert.AdamUpReferenceIdeal.Mix
open Cert.AdamUpReferenceIdeal Cert.AdamUpReferenceIdeal.Gen Cert.Adam

/-- The reference's run, its results as the update entry by entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v23) = (fun i => delta (m ((c.tc : Thread nD τ).loc main_arg0) i) (m ((c.tc : Thread nD τ).loc main_arg1) i) (m ((c.tc : Thread nD τ).loc main_arg2) i) (m ((c.tc : Thread nD τ).loc main_arg3) i))
      ∧ r.2.mem ((c.tc : Thread nD τ).loc main_v4) = (fun i => mean (m ((c.tc : Thread nD τ).loc main_arg1) i) (m ((c.tc : Thread nD τ).loc main_arg2) i))
      ∧ r.2.mem ((c.tc : Thread nD τ).loc main_v10) = (fun i => spread (m ((c.tc : Thread nD τ).loc main_arg1) i) (m ((c.tc : Thread nD τ).loc main_arg3) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.AdamUpReferenceIdeal.Value.run m ρ)
  obtain ⟨h0, h1, h2, h3, h4⟩ := h c
  refine ⟨h0, h1.trans ?_, h2.trans ?_, h3.trans ?_, h4⟩
  · funext i
    pointwise [delta, mean, spread, keep1, add1, keep2, add2, bias1, bias2, tiny, decay, rate]
  · funext i
    pointwise [mean, keep1, add1]
  · funext i
    pointwise [spread, keep2, add2]

end Cert.AdamUpReferenceIdeal.Mix
end
-- ==== Proof.AdamDown.lean ====
/- One AdamW step on a weight: each block's update is the update of its entries. -/
module

public import proofs.«01_k».proof.Proof.Gen.AdamDownKernelIdeal.Frame
public import Idealize.ShloMosaic.Lib.Pipeline.ValueKit
public import Idealize.ShloMosaic.Lib.Pipeline.ReadBack
public import Idealize.ShloMosaic.Lib.Pointwise
public import proofs.«01_k».proof.Proof.Gen.AdamDownReferenceIdeal.Run
public import proofs.«01_k».proof.Proof.AdamSpec

@[expose] public section
set_option maxRecDepth 16384
noncomputable section
open Idealize.ShloMosaic Idealize.ShloMosaic.TcCoe Idealize.SL.Sem
open Idealize.ShloMosaic.Pipeline (Dat)

namespace Cert.AdamDownKernelIdeal.Mix
open Cert.AdamDownKernelIdeal Cert.AdamDownKernelIdeal.Gen Cert.Adam
variable (m : (ℓ : Loc nD τ sig) → Buf (Elt Ideal) ℓ) (c : Dev nD)

/-- Where each window's block sits at grid point `t`. -/
theorem place : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- The four arguments on core `c`: the weight, its gradient, its two moments. -/
abbrev argW : FVec Ideal S2x704x1024 .f32 := m ((c : Thread nD τ).loc main_arg0)
abbrev argG : FVec Ideal S2x704x1024 .f32 := m ((c : Thread nD τ).loc main_arg1)
abbrev argM : FVec Ideal S2x704x1024 .f32 := m ((c : Thread nD τ).loc main_arg2)
abbrev argV : FVec Ideal S2x704x1024 .f32 := m ((c : Thread nD τ).loc main_arg3)

/-- The four input blocks of point `t`. -/
abbrev blkW (t : Fin cfg0.N) : FVec Ideal S1x704x1024 .f32 := iblk m c 0 t
abbrev blkG (t : Fin cfg0.N) : FVec Ideal S1x704x1024 .f32 := iblk m c 1 t
abbrev blkM (t : Fin cfg0.N) : FVec Ideal S1x704x1024 .f32 := iblk m c 2 t
abbrev blkV (t : Fin cfg0.N) : FVec Ideal S1x704x1024 .f32 := iblk m c 3 t

theorem pay_grad (g : FVec Ideal S1x704x1024 .f32) (j : S1x704x1024.Idx) : @Eq EReal (k0_pay1 (F := Ideal) (k0_pay5 g) j) (g j) := by
  idx_vars j
  obtain rfl : j0 = 0 := Subsingleton.elim _ _
  pointwise [k0_pay1, k0_pay5]

theorem pay_delta (w g n v : FVec Ideal S1x704x1024 .f32) (j : S1x704x1024.Idx) :
    @Eq EReal (k0_pay2 (F := Ideal) (k0_pay8 g w n v) j) (delta (w j) (g j) (n j) (v j)) := by
  idx_vars j
  obtain rfl : j0 = 0 := Subsingleton.elim _ _
  pointwise [k0_pay2, k0_pay8, k0_pay7, k0_pay6, k0_pay5, delta, mean, spread, keep1, add1, keep2, add2, bias1, bias2, tiny, decay, rate]

theorem pay_mean (g n : FVec Ideal S1x704x1024 .f32) (j : S1x704x1024.Idx) : @Eq EReal (k0_pay3 (F := Ideal) (k0_pay6 g n) j) (mean (g j) (n j)) := by
  idx_vars j
  obtain rfl : j0 = 0 := Subsingleton.elim _ _
  pointwise [k0_pay3, k0_pay6, k0_pay5, mean, keep1, add1]

theorem pay_spread (g v : FVec Ideal S1x704x1024 .f32) (j : S1x704x1024.Idx) : @Eq EReal (k0_pay4 (F := Ideal) (k0_pay7 g v) j) (spread (g j) (v j)) := by
  idx_vars j
  obtain rfl : j0 = 0 := Subsingleton.elim _ _
  pointwise [k0_pay4, k0_pay7, k0_pay5, spread, keep2, add2]

theorem final_grad : (dats m 0 c).arrAt 4 (cfgs 0).N = argG m c := by
  refine (dats m 0 c).arrAt_eq_of_covers 4 _ (by decide +kernel) fun t hf y => ?_
  blk_simp
  rw [after0_4]
  frame_out
  refine (pay_grad (blkG m c t) _).trans ?_
  blk_ext [blkG, argG, iblk, V, place t]

theorem final_delta : (dats m 0 c).arrAt 5 (cfgs 0).N = fun i => delta (argW m c i) (argG m c i) (argM m c i) (argV m c i) := by
  refine (dats m 0 c).arrAt_eq_of_covers 5 _ (by decide +kernel) fun t hf y => ?_
  blk_simp
  rw [after0_5]
  frame_out
  refine (pay_delta (blkW m c t) (blkG m c t) (blkM m c t) (blkV m c t) _).trans ?_
  refine delta_congr ?_ ?_ ?_ ?_ <;>
    blk_ext [blkW, blkG, blkM, blkV, argW, argG, argM, argV, iblk, V, place t]

theorem final_mean : (dats m 0 c).arrAt 6 (cfgs 0).N = fun i => mean (argG m c i) (argM m c i) := by
  refine (dats m 0 c).arrAt_eq_of_covers 6 _ (by decide +kernel) fun t hf y => ?_
  blk_simp
  rw [after0_6]
  frame_out
  refine (pay_mean (blkG m c t) (blkM m c t) _).trans ?_
  refine congrArg₂ mean ?_ ?_ <;>
    blk_ext [blkG, blkM, argG, argM, iblk, V, place t]

theorem final_spread : (dats m 0 c).arrAt 7 (cfgs 0).N = fun i => spread (argG m c i) (argV m c i) := by
  refine (dats m 0 c).arrAt_eq_of_covers 7 _ (by decide +kernel) fun t hf y => ?_
  blk_simp
  rw [after0_7]
  frame_out
  refine (pay_spread (blkG m c t) (blkV m c t) _).trans ?_
  refine congrArg₂ spread ?_ ?_ <;>
    blk_ext [blkG, blkV, argG, argV, iblk, V, place t]

end Cert.AdamDownKernelIdeal.Mix

namespace Cert.AdamDownReferenceIdeal.Mix
open Cert.AdamDownReferenceIdeal Cert.AdamDownReferenceIdeal.Gen Cert.Adam

/-- The reference's run, its results as the update entry by entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v23) = (fun i => delta (m ((c.tc : Thread nD τ).loc main_arg0) i) (m ((c.tc : Thread nD τ).loc main_arg1) i) (m ((c.tc : Thread nD τ).loc main_arg2) i) (m ((c.tc : Thread nD τ).loc main_arg3) i))
      ∧ r.2.mem ((c.tc : Thread nD τ).loc main_v4) = (fun i => mean (m ((c.tc : Thread nD τ).loc main_arg1) i) (m ((c.tc : Thread nD τ).loc main_arg2) i))
      ∧ r.2.mem ((c.tc : Thread nD τ).loc main_v10) = (fun i => spread (m ((c.tc : Thread nD τ).loc main_arg1) i) (m ((c.tc : Thread nD τ).loc main_arg3) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.AdamDownReferenceIdeal.Value.run m ρ)
  obtain ⟨h0, h1, h2, h3, h4⟩ := h c
  refine ⟨h0, h1.trans ?_, h2.trans ?_, h3.trans ?_, h4⟩
  · funext i
    pointwise [delta, mean, spread, keep1, add1, keep2, add2, bias1, bias2, tiny, decay, rate]
  · funext i
    pointwise [mean, keep1, add1]
  · funext i
    pointwise [spread, keep2, add2]

end Cert.AdamDownReferenceIdeal.Mix
end
-- ==== Proof.MixGateSpec.lean ====
/- The short gated convolution forward, row by row, on arrays of extended reals. -/
module

public import proofs.«01_k».proof.Proof.MixSpec

@[expose] public section
noncomputable section
open Idealize.ShloMosaic

namespace Cert.Mix

/-- The gated convolution: the first gate times the convolution of the other two. -/
def mixed (Z : ArrZ) (W : ArrW) (r : Fin 4096) (k : Fin 1024) : EReal := Z (ix2 r ⟨k.val, by omega⟩) * conv Z W k r

end Cert.Mix
end
-- ==== Proof.MixGate.lean ====
/- The short gated convolution forward: a row of a block and of its halo is a row of the whole array, and the blocks make up the result. -/
module

public import proofs.«01_k».proof.Proof.Gen.MixFKernelIdeal.Frame
public import Idealize.ShloMosaic.Lib.Pipeline.ValueKit
public import Idealize.ShloMosaic.Lib.Pipeline.ReadBack
public import Idealize.ShloMosaic.Lib.Pointwise
public import proofs.«01_k».proof.Proof.MixGateSpec

@[expose] public section
set_option maxRecDepth 16384
noncomputable section
open Idealize.ShloMosaic Idealize.ShloMosaic.TcCoe Idealize.SL.Sem
open Idealize.ShloMosaic.Pipeline (Dat)

namespace Cert.MixFKernelIdeal.Mix
open Cert.MixFKernelIdeal Cert.MixFKernelIdeal.Gen Cert.Mix
variable (m : (ℓ : Loc nD τ sig) → Buf (Elt Ideal) ℓ) (c : Dev nD)

/-- Where each window's block sits at grid point `t`; a halo's block is the 16 rows before, clamped. -/
theorem place : ∀ t : Fin cfg0.N, win0_0.index t = ![t.val, 0] ∧ win0_1.index t = ![t.val, 1] ∧ win0_2.index t = ![t.val, 2]
    ∧ win0_3.index t = ![t.val * 16 - 1, 1] ∧ win0_4.index t = ![t.val * 16 - 1, 2] ∧ win0_5.index t = ![0, 0, 0]
    ∧ win0_6.index t = ![t.val, 0] :=
  (by decide +kernel : ∀ t : Fin grid0.N, _)

/-- The test of the grid point: not the first. -/
theorem tests : ∀ t : Fin cfg0.N,
    Scalar.cmpi CmpIPredicate.sgt (BitVec.ofNat 32 (grid0.coords t 0).val) 0#32 = (if t.val = 0 then 0#1 else 1#1) :=
  (by decide +kernel : ∀ t : Fin grid0.N, _)

/-- The two arguments on core `c`. -/
abbrev aZ : ArrZ := m ((c : Thread nD τ).loc main_arg0)
abbrev aW : ArrW := m ((c : Thread nD τ).loc main_arg1)

/-- Row `x` of block `t`. -/
def row (t : Fin cfg0.N) (x : Fin 256) : Fin 4096 :=
  ⟨t.val * 256 + x.val, by have : t.val < 16 := lt_of_lt_of_eq t.isLt N_0; omega⟩

/-- The input blocks of point `t`, typed: the three gates' blocks, the halos of the last two, the taps. -/
abbrev b0 (t : Fin cfg0.N) : FVec Ideal S256x1024 .bf16 := iblk m c 0 t
abbrev b1 (t : Fin cfg0.N) : FVec Ideal S256x1024 .bf16 := iblk m c 1 t
abbrev b2 (t : Fin cfg0.N) : FVec Ideal S256x1024 .bf16 := iblk m c 2 t
abbrev b3 (t : Fin cfg0.N) : FVec Ideal S16x1024 .bf16 := iblk m c 3 t
abbrev b4 (t : Fin cfg0.N) : FVec Ideal S16x1024 .bf16 := iblk m c 4 t
abbrev b5 (t : Fin cfg0.N) : FVec Ideal S1x3x1024 .f32 := iblk m c 5 t

variable (t : Fin cfg0.N) (x : Fin 256) (k : Fin 1024)

theorem tap_eq (j : Fin 3) : b5 m c t (ix3 0 j k) = aW m c (ix3 0 j k) := by
  blk_ext [b0, b1, b2, b3, b4, b5, iblk, V, place t]

theorem gated_eq : b1 m c t (ix2 x k) * b2 m c t (ix2 x k) = gated (aZ m c) k (row t x) := by
  unfold gated row
  congr 1 <;> blk_ext [b0, b1, b2, b3, b4, b5, iblk, V, place t]

theorem gate_first : b0 m c t (ix2 x k) = aZ m c (ix2 (row t x) ⟨k.val, by omega⟩) := by
  unfold row
  blk_ext [b0, b1, b2, b3, b4, b5, iblk, V, place t]

/-- The row `a` earlier, read off the block or off the halo before it. -/
theorem lag_eq (a : ℕ) (ha : 0 < a) (ha' : a < 16) (n : ℕ) (hn : n = 16 + x.val - a) (h1 h2 : n < 16 → n < 16) (h3 h4 : ¬ n < 16 → n - 16 < 256) :
    (if h : n < 16 then Scalar.select (Scalar.cmpi CmpIPredicate.sgt (BitVec.ofNat 32 (grid0.coords t 0).val) 0#32)
        (b3 m c t (ix2 ⟨n, h1 h⟩ k) * b4 m c t (ix2 ⟨n, h2 h⟩ k)) (0 : EReal)
      else b1 m c t (ix2 ⟨n - 16, h3 h⟩ k) * b2 m c t (ix2 ⟨n - 16, h4 h⟩ k))
    = lag (gated (aZ m c) k) a (row t x) := by
  have ht : t.val < 16 := lt_of_lt_of_eq t.isLt N_0
  subst hn
  rw [tests t]
  by_cases h : 16 + x.val - a < 16
  · rw [dif_pos h]
    by_cases hl : t.val = 0
    · rw [if_pos hl, lag, dif_neg (by simp only [row]; omega)]
      rfl
    · rw [if_neg hl, lag, dif_pos (by simp only [row]; omega)]
      refine Eq.trans (b := b3 m c t (ix2 ⟨16 + x.val - a, h1 h⟩ k) * b4 m c t (ix2 ⟨16 + x.val - a, h2 h⟩ k)) rfl ?_
      unfold gated row
      congr 1 <;> blk_ext [b0, b1, b2, b3, b4, b5, iblk, V, place t]
  · rw [dif_neg h, gated_eq m c t ⟨16 + x.val - a - 16, by omega⟩ k, lag, dif_pos (by simp only [row]; omega)]
    congr 1
    apply Fin.ext
    simp only [row]
    omega

/-- One entry of the block, in the body's arithmetic. -/
theorem body
    (h1 h2 : (16 + x.val + 272 - 1) % 272 < 16 → (16 + x.val + 272 - 1) % 272 < 16)
    (h3 h4 : ¬ (16 + x.val + 272 - 1) % 272 < 16 → (16 + x.val + 272 - 1) % 272 - 16 < 256)
    (g1 g2 : (16 + x.val + 272 - 2) % 272 < 16 → (16 + x.val + 272 - 2) % 272 < 16)
    (g3 g4 : ¬ (16 + x.val + 272 - 2) % 272 < 16 → (16 + x.val + 272 - 2) % 272 - 16 < 256) :
    b0 m c t (ix2 x k) *
      ((b5 m c t (ix3 0 2 k) * (b1 m c t (ix2 x k) * b2 m c t (ix2 x k)) +
        b5 m c t (ix3 0 1 k) *
          (if h : (16 + x.val + 272 - 1) % 272 < 16 then
            Scalar.select (Scalar.cmpi CmpIPredicate.sgt (BitVec.ofNat 32 (grid0.coords t 0).val) 0#32)
              (b3 m c t (ix2 ⟨(16 + x.val + 272 - 1) % 272, h1 h⟩ k) * b4 m c t (ix2 ⟨(16 + x.val + 272 - 1) % 272, h2 h⟩ k)) (0 : EReal)
          else b1 m c t (ix2 ⟨(16 + x.val + 272 - 1) % 272 - 16, h3 h⟩ k) * b2 m c t (ix2 ⟨(16 + x.val + 272 - 1) % 272 - 16, h4 h⟩ k))) +
        b5 m c t (ix3 0 0 k) *
          (if h : (16 + x.val + 272 - 2) % 272 < 16 then
            Scalar.select (Scalar.cmpi CmpIPredicate.sgt (BitVec.ofNat 32 (grid0.coords t 0).val) 0#32)
              (b3 m c t (ix2 ⟨(16 + x.val + 272 - 2) % 272, g1 h⟩ k) * b4 m c t (ix2 ⟨(16 + x.val + 272 - 2) % 272, g2 h⟩ k)) (0 : EReal)
          else b1 m c t (ix2 ⟨(16 + x.val + 272 - 2) % 272 - 16, g3 h⟩ k) * b2 m c t (ix2 ⟨(16 + x.val + 272 - 2) % 272 - 16, g4 h⟩ k)))
    = mixed (aZ m c) (aW m c) (row t x) k := by
  rw [mixed, conv, lag_eq m c t x k 1 (by omega) (by omega) _ (by omega),
    lag_eq m c t x k 2 (by omega) (by omega) _ (by omega), tap_eq, tap_eq, tap_eq, gated_eq, gate_first]

/-- The result, as the body leaves it at one entry of its block. -/
theorem point (r : Fin 256) (j : Fin 1024) :
    (dats m 0 c).after 6 t (ix2 r j) = mixed (aZ m c) (aW m c) (row t r) j := by
  rw [after0_6]
  frame_out
  canon_tiles x h
  all_goals
    idx_vars x
    obtain rfl : r = x0 := Fin.ext h0
    unfold_payloads
    pointwise
  all_goals
    obtain ⟨j, hj⟩ := j
    dsimp only at h1
    subst h1
    exact body m c t r _ _ _ _ _ _ _ _ _

/-- The result, whole. -/
theorem final : (dats m 0 c).arrAt 6 (cfgs 0).N = fun i => mixed (aZ m c) (aW m c) (i 0) (i 1) := by
  refine (dats m 0 c).arrAt_eq_of_covers 6 _ (by decide +kernel) fun t hf y => ?_
  blk_simp
  idx_vars y
  have e0 : ((View.whole main_v0).slice (win0_6.rect t)).emb (ix2 y0 y1) 0 = row t y0 := by
    apply Fin.ext
    simp only [row]
    blk_simp [place t]
  have e1 : ((View.whole main_v0).slice (win0_6.rect t)).emb (ix2 y0 y1) 1 = y1 := by
    apply Fin.ext
    blk_simp [place t]
  refine (point m c t y0 y1).trans ?_
  exact congrArg₂ (fun u v => mixed (aZ m c) (aW m c) u v) e0.symm e1.symm

end Cert.MixFKernelIdeal.Mix
end
-- ==== Proof.MixGateRef.lean ====
/- The reference's gated convolution, row by row. -/
module

public import proofs.«01_k».proof.Proof.Gen.MixFReferenceIdeal.Run
public import proofs.«01_k».proof.Proof.MixGateSpec
public import proofs.«01_k».proof.Proof.MixRef

@[expose] public section
set_option maxRecDepth 16384
noncomputable section
open Idealize.ShloMosaic Idealize.ShloMosaic.TcCoe Idealize.SL.Sem

namespace Cert.MixFReferenceIdeal.Mix
open Cert.MixFReferenceIdeal Cert.MixFReferenceIdeal.Gen Cert.Mix

/-- Two rows of zeros, and under them the rows of what the convolution reads. -/
def under (Z : FVec Ideal S4096x3072 .bf16) : FVec Ideal S4098x1024 .f32 :=
  concatenate S4098x1024 0 [⟨S2x1024, (broadcastInDim S2x1024 ![] bcast_S_S2x1024 (constant (F := Ideal) S_ .f32 0x00000000#32))⟩, ⟨S4096x1024, (mulf (extractStridedSlice S4096x1024 ![0, 1024] (extf .f32 Z bitsLt_bf16_f32) slices_S4096x3072_S4096x1024_0_1024) (extractStridedSlice S4096x1024 ![0, 2048] (extf .f32 Z bitsLt_bf16_f32) slices_S4096x3072_S4096x1024_0_2048))⟩] concatenates_S2x1024_S4096x1024_S4098x1024_d0

/-- A row of taps on every row. -/
def spreadRow (w : FVec Ideal S1x1024 .f32) : FVec Ideal S4096x1024 .f32 :=
  broadcastInDim S4096x1024 ![0, 1] bcast_S1x1024_S4096x1024_0_1 (broadcastInDim S1x1024 ![1] bcast_S1024_S1x1024_1 (shapeCast _ w shapeCasts_S1x1024_S1024))

/-- The three rows of taps. -/
def taps (W : FVec Ideal S1x3x1024 .f32) : FVec Ideal S3x1024 .f32 := shapeCast _ W shapeCasts_S1x3x1024_S3x1024

theorem under_at (Z : FVec Ideal S4096x3072 .bf16) (r : Fin 4098) (k : Fin 1024) :
    under Z (ix2 r k) = if h : r.val < 2 then (0 : EReal)
      else Z (ix2 ⟨r.val - 2, by omega⟩ ⟨1024 + k.val, by omega⟩) * Z (ix2 ⟨r.val - 2, by omega⟩ ⟨2048 + k.val, by omega⟩) := by
  unfold under
  pointwise

theorem spreadRow_at (w : FVec Ideal S1x1024 .f32) (r : Fin 4096) (k : Fin 1024) : spreadRow w (ix2 r k) = w (ix2 0 k) := by
  unfold spreadRow
  pointwise

theorem taps_at (W : FVec Ideal S1x3x1024 .f32) (j : Fin 3) (k : Fin 1024) : taps W (ix2 j k) = W (ix3 0 j k) := by
  unfold taps
  pointwise

/-- The reference's result, entry by entry. -/
theorem value (Z : FVec Ideal S4096x3072 .bf16) (W : FVec Ideal S1x3x1024 .f32) :
    truncf .bf16 (mulf (extractStridedSlice S4096x1024 ![0, 0] (extf .f32 Z bitsLt_bf16_f32) slices_S4096x3072_S4096x1024_0_0)
      (addf (addf (addf (broadcastInDim S4096x1024 ![] bcast_S_S4096x1024 (constant (F := Ideal) S_ .f32 0x00000000#32))
        (mulf (spreadRow (extractStridedSlice S1x1024 ![0, 0] (taps W) slices_S3x1024_S1x1024_0_0)) (extractStridedSlice S4096x1024 ![0, 0] (under Z) slices_S4098x1024_S4096x1024_0_0)))
        (mulf (spreadRow (extractStridedSlice S1x1024 ![1, 0] (taps W) slices_S3x1024_S1x1024_1_0)) (extractStridedSlice S4096x1024 ![1, 0] (under Z) slices_S4098x1024_S4096x1024_1_0)))
        (mulf (spreadRow (extractStridedSlice S1x1024 ![2, 0] (taps W) slices_S3x1024_S1x1024_2_0)) (extractStridedSlice S4096x1024 ![2, 0] (under Z) slices_S4098x1024_S4096x1024_2_0)))) bitsLt_bf16_f32
    = fun i => mixed Z W (i 0) (i 1) := by
  funext i
  idx_vars i
  pointwise [spreadRow_at, taps_at, under_at]
  exact congrArg (fun v : EReal => Z (ix2 i0 ⟨i1.val, by omega⟩) * v) (Cert.ReferenceIdeal.Mix.conv_padded Z W i1 i0)

/-- The two arguments on core `c`. -/
abbrev aZ (m : (ℓ : Loc nD τ sig) → Buf (Elt Ideal) ℓ) (c : Dev nD) : ArrZ := m ((c.tc : Thread nD τ).loc main_arg0)
abbrev aW (m : (ℓ : Loc nD τ sig) → Buf (Elt Ideal) ℓ) (c : Dev nD) : ArrW := m ((c.tc : Thread nD τ).loc main_arg1)

/-- The reference's run: the result, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v31) : FVec Ideal S4096x1024 .bf16) = (fun i => mixed (aZ m c) (aW m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  exact ⟨(h c).1.trans (value (aZ m c) (aW m c)), (h c).2⟩

end Cert.MixFReferenceIdeal.Mix
end
-- ==== Proof.SmallBlock.lean ====
/- The AdamW step on the packed small weights: the block is the whole array, and its update is the update of its entries. -/
module

public import proofs.«01_k».proof.Proof.Gen.SmallKernelIdeal.Frame
public import Idealize.ShloMosaic.Lib.Pipeline.ValueKit
public import Idealize.ShloMosaic.Lib.Pipeline.ReadBack
public import Idealize.ShloMosaic.Lib.Pointwise
public import proofs.«01_k».proof.Proof.AdamSpec

@[expose] public section
set_option maxRecDepth 16384
noncomputable section
open Idealize.ShloMosaic Idealize.ShloMosaic.TcCoe Idealize.SL.Sem
open Idealize.ShloMosaic.Pipeline (Dat)

namespace Cert.SmallKernelIdeal.Mix
open Cert.SmallKernelIdeal Cert.SmallKernelIdeal.Gen Cert.Adam
variable (m : (ℓ : Loc nD τ sig) → Buf (Elt Ideal) ℓ) (c : Dev nD)

/-- Where each window's block sits at grid point `t`. -/
theorem place : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The four packed arrays on core `c` as the call begins: the weights, their gradients, their two moments. -/
abbrev packW : FVec Ideal S1x720x128 .f32 := V m c main_v112
abbrev packG : FVec Ideal S1x720x128 .f32 := V m c main_v113
abbrev packM : FVec Ideal S1x720x128 .f32 := V m c main_v114
abbrev packV : FVec Ideal S1x720x128 .f32 := V m c main_v115

/-- The four input blocks of point `t`. -/
abbrev blkW (t : Fin cfg0.N) : FVec Ideal S1x720x128 .f32 := iblk m c 0 t
abbrev blkG (t : Fin cfg0.N) : FVec Ideal S1x720x128 .f32 := iblk m c 1 t
abbrev blkM (t : Fin cfg0.N) : FVec Ideal S1x720x128 .f32 := iblk m c 2 t
abbrev blkV (t : Fin cfg0.N) : FVec Ideal S1x720x128 .f32 := iblk m c 3 t

theorem pay_delta (w g n v : FVec Ideal S1x720x128 .f32) (j : S1x720x128.Idx) :
    @Eq EReal (k0_pay2 (F := Ideal) (k0_pay8 g w n v) j) (delta (w j) (g j) (n j) (v j)) := by
  idx_vars j
  obtain rfl : j0 = 0 := Subsingleton.elim _ _
  pointwise [k0_pay2, k0_pay8, k0_pay7, k0_pay6, k0_pay5, delta, mean, spread, keep1, add1, keep2, add2, bias1, bias2, tiny, decay, rate]

theorem pay_mean (g n : FVec Ideal S1x720x128 .f32) (j : S1x720x128.Idx) : @Eq EReal (k0_pay3 (F := Ideal) (k0_pay6 g n) j) (mean (g j) (n j)) := by
  idx_vars j
  obtain rfl : j0 = 0 := Subsingleton.elim _ _
  pointwise [k0_pay3, k0_pay6, k0_pay5, mean, keep1, add1]

theorem pay_spread (g v : FVec Ideal S1x720x128 .f32) (j : S1x720x128.Idx) : @Eq EReal (k0_pay4 (F := Ideal) (k0_pay7 g v) j) (spread (g j) (v j)) := by
  idx_vars j
  obtain rfl : j0 = 0 := Subsingleton.elim _ _
  pointwise [k0_pay4, k0_pay7, k0_pay5, spread, keep2, add2]

set_option maxHeartbeats 4000000 in
theorem final_delta : (dats m 0 c).arrAt 5 (cfgs 0).N = fun i => delta (packW m c i) (packG m c i) (packM m c i) (packV m c i) := by
  refine (dats m 0 c).arrAt_eq_of_covers 5 _ (by decide +kernel) fun t hf y => ?_
  blk_simp
  rw [after0_5]
  frame_out
  refine (pay_delta (blkW m c t) (blkG m c t) (blkM m c t) (blkV m c t) _).trans ?_
  refine delta_congr ?_ ?_ ?_ ?_ <;>
    blk_ext [blkW, blkG, blkM, blkV, packW, packG, packM, packV, iblk, place t]

set_option maxHeartbeats 4000000 in
theorem final_mean : (dats m 0 c).arrAt 6 (cfgs 0).N = fun i => mean (packG m c i) (packM m c i) := by
  refine (dats m 0 c).arrAt_eq_of_covers 6 _ (by decide +kernel) fun t hf y => ?_
  blk_simp
  rw [after0_6]
  frame_out
  refine (pay_mean (blkG m c t) (blkM m c t) _).trans ?_
  refine congrArg₂ mean ?_ ?_ <;>
    blk_ext [blkG, blkM, packG, packM, iblk, place t]

set_option maxHeartbeats 4000000 in
theorem final_spread : (dats m 0 c).arrAt 7 (cfgs 0).N = fun i => spread (packG m c i) (packV m c i) := by
  refine (dats m 0 c).arrAt_eq_of_covers 7 _ (by decide +kernel) fun t hf y => ?_
  blk_simp
  rw [after0_7]
  frame_out
  refine (pay_spread (blkG m c t) (blkV m c t) _).trans ?_
  refine congrArg₂ spread ?_ ?_ <;>
    blk_ext [blkG, blkV, packG, packV, iblk, place t]

end Cert.SmallKernelIdeal.Mix

end
-- ==== Proof.SmallPack.lean ====
/- Arrays laid end to end in one row, each padded at its end: cut one back out and it is what was put in. -/
module

public import Idealize.ShloMosaic.Lib.Pointwise
public import Idealize.ShloMosaic.Lib.Pipeline.Value
public import Idealize.ShloMosaic.Lib.KernelVsHost

@[expose] public section
noncomputable section
open Idealize.ShloMosaic

namespace Cert.Pack

variable {α : Type}

/-- Two changes of shape that lead back to the first one. -/
theorem cast_back {s t : Shape} (x : s.Idx → α) (h : s.ShapeCasts t) (h' : t.ShapeCasts s) :
    shapeCast s (shapeCast t x h) h' = x := by
  funext i
  show x (Shape.reshapeEquiv h (Shape.reshapeEquiv h' i)) = x i
  rw [Shape.reshapeEquiv_reshapeEquiv, Shape.reshapeEquiv_self]

/-- Two changes of shape are one. -/
theorem cast_cast {s t u : Shape} (x : s.Idx → α) (h : s.ShapeCasts t) (h' : t.ShapeCasts u) (h'' : s.ShapeCasts u) :
    shapeCast u (shapeCast t x h) h' = shapeCast u x h'' := by
  funext i
  show x (Shape.reshapeEquiv h (Shape.reshapeEquiv h' i)) = x (Shape.reshapeEquiv h'' i)
  rw [Shape.reshapeEquiv_reshapeEquiv]

/-- Piece `k` of a row of pieces, cut out from where it starts, without its padding. -/
theorem cut {n p q off : Nat} (ps : List ((s : Shape) × (s.Idx → α)))
    (hc : Shape.Concatenates (ps.map (·.1)) ⟨1, ![q]⟩ 0) (hs : (⟨1, ![q]⟩ : Shape).Slices ![off] ⟨1, ![n]⟩)
    (k : Nat) (hk : k < ps.length) (x : (⟨1, ![n]⟩ : Shape).Idx → α) {u : Shape} (v : u.Idx → α) (e : Nat)
    (hp : (⟨1, ![n]⟩ : Shape).Pads ![0] ![e] ![0] ⟨1, ![p]⟩) (hu : 0 < u.numel)
    (hpk : ps[k] = ⟨⟨1, ![p]⟩, pad ⟨1, ![p]⟩ ![0] ![e] ![0] x v hp hu⟩) (hnp : n ≤ p)
    (ss : List Shape) (hss : ps.map (·.1) = ss) (hpre : ((ss.take k).map fun s => if h : s.rank = 1 then s.size ((0 : Fin 1).cast h.symm) else 0).sum = off) :
    extractStridedSlice ⟨1, ![n]⟩ ![off] (concatenate ⟨1, ![q]⟩ 0 ps hc) hs = x := by
  funext j
  unfold extractStridedSlice
  have hpre' : (((ps.take k).map (·.1)).map fun s => if h : s.rank = 1 then s.size ((0 : Fin 1).cast h.symm) else 0).sum = off := by
    rw [List.map_take, hss]
    exact hpre
  have hj : (j 0).val < n := (j 0).isLt
  refine (concatenate_apply_piece (t := ⟨1, ![q]⟩) 0 ps hc _ k hk ⟨1, ![p]⟩ _ hpk rfl off hpre'
    (ix1 (⟨(j 0).val, Nat.lt_of_lt_of_le hj hnp⟩ : Fin p)) ?_ ?_).trans ?_
  · intro b hb
    exact absurd (Subsingleton.elim _ _) hb
  · rfl
  · refine pad_apply_of_inside _ _ _ x v hp hu _ j ?_
    intro a
    obtain rfl : a = 0 := Subsingleton.elim _ _
    show (j 0).val = 0 + (j 0).val * (0 + 1)
    omega

end Cert.Pack
end
-- ==== Proof.SmallRow.lean ====
/- The thirteen small weights end to end in one row, and each cut back out of it. -/
module

public import proofs.«01_k».proof.Proof.Gen.SmallKernelIdeal
public import proofs.«01_k».proof.Proof.SmallPack
public import proofs.«01_k».proof.Proof.AdamSpec

@[expose] public section
set_option maxRecDepth 16384
noncomputable section
open Idealize.ShloMosaic Idealize.ShloMosaic.TcCoe Idealize.SL.Sem

namespace Cert.SmallKernelIdeal.Mix
open Cert.SmallKernelIdeal Cert.SmallKernelIdeal.Gen Cert.Adam

/-- What fills a weight up to its place's length. -/
abbrev filler : FVec Ideal S_ .f32 := sitofp (F := Ideal) .f32 (constantI S_ 32 0#32)

/-- The row's last place, which no weight takes. -/
abbrev rest : FVec Ideal S1024 .f32 := broadcastInDim S1024 ![] bcast_S_S1024 (constant (F := Ideal) S_ .f32 0x00000000#32)

section
variable (a0 : FVec Ideal S2x1024 .f32) (a1 : FVec Ideal S2x1024 .f32) (a2 : FVec Ideal S1024 .f32) (a3 : FVec Ideal S1x512 .f32) (a4 : FVec Ideal S1x512 .f32) (a5 : FVec Ideal S1x4x128x128 .f32) (a6 : FVec Ideal S1x4x128 .f32) (a7 : FVec Ideal S1x512 .f32) (a8 : FVec Ideal S1x512 .f32) (a9 : FVec Ideal S1x512 .f32) (a10 : FVec Ideal S1x31x128 .f32) (a11 : FVec Ideal S1x3x256 .f32) (a12 : FVec Ideal S2x3x1408 .f32)

/-- The pieces of the row, each weight filled up. -/
abbrev pieces : List ((s : Shape) × (s.Idx → EReal)) :=
  [⟨S2048, (pad S2048 ![0] ![0] ![0] (shapeCast S2048 a0 shapeCasts_S2x1024_S2048) filler pads_S2048_S2048_000 h_S_ : FVec Ideal S2048 .f32)⟩, ⟨S2048, (pad S2048 ![0] ![0] ![0] (shapeCast S2048 a1 shapeCasts_S2x1024_S2048) filler pads_S2048_S2048_000 h_S_ : FVec Ideal S2048 .f32)⟩, ⟨S1024, (pad S1024 ![0] ![0] ![0] a2 filler pads_S1024_S1024_000 h_S_ : FVec Ideal S1024 .f32)⟩, ⟨S1024, (pad S1024 ![0] ![512] ![0] (shapeCast S512 a3 shapeCasts_S1x512_S512) filler pads_S512_S1024_05120 h_S_ : FVec Ideal S1024 .f32)⟩, ⟨S1024, (pad S1024 ![0] ![512] ![0] (shapeCast S512 a4 shapeCasts_S1x512_S512) filler pads_S512_S1024_05120 h_S_ : FVec Ideal S1024 .f32)⟩, ⟨S65536, (pad S65536 ![0] ![0] ![0] (shapeCast S65536 a5 shapeCasts_S1x4x128x128_S65536) filler pads_S65536_S65536_000 h_S_ : FVec Ideal S65536 .f32)⟩, ⟨S1024, (pad S1024 ![0] ![512] ![0] (shapeCast S512 a6 shapeCasts_S1x4x128_S512) filler pads_S512_S1024_05120 h_S_ : FVec Ideal S1024 .f32)⟩, ⟨S1024, (pad S1024 ![0] ![512] ![0] (shapeCast S512 a7 shapeCasts_S1x512_S512) filler pads_S512_S1024_05120 h_S_ : FVec Ideal S1024 .f32)⟩, ⟨S1024, (pad S1024 ![0] ![512] ![0] (shapeCast S512 a8 shapeCasts_S1x512_S512) filler pads_S512_S1024_05120 h_S_ : FVec Ideal S1024 .f32)⟩, ⟨S1024, (pad S1024 ![0] ![512] ![0] (shapeCast S512 a9 shapeCasts_S1x512_S512) filler pads_S512_S1024_05120 h_S_ : FVec Ideal S1024 .f32)⟩, ⟨S4096, (pad S4096 ![0] ![128] ![0] (shapeCast S3968 a10 shapeCasts_S1x31x128_S3968) filler pads_S3968_S4096_01280 h_S_ : FVec Ideal S4096 .f32)⟩, ⟨S1024, (pad S1024 ![0] ![256] ![0] (shapeCast S768 a11 shapeCasts_S1x3x256_S768) filler pads_S768_S1024_02560 h_S_ : FVec Ideal S1024 .f32)⟩, ⟨S9216, (pad S9216 ![0] ![768] ![0] (shapeCast S8448 a12 shapeCasts_S2x3x1408_S8448) filler pads_S8448_S9216_07680 h_S_ : FVec Ideal S9216 .f32)⟩, ⟨S1024, rest⟩]

/-- The lengths of its places. -/
abbrev shapes : List Shape := [S2048, S2048, S1024, S1024, S1024, S65536, S1024, S1024, S1024, S1024, S4096, S1024, S9216, S1024]

/-- The row of thirteen arrays, as the call takes it. -/
def packed : FVec Ideal S1x720x128 .f32 :=
  shapeCast S1x720x128 (shapeCast S720x128 (concatenate S92160 0 (pieces a0 a1 a2 a3 a4 a5 a6 a7 a8 a9 a10 a11 a12) concatenates_S2048_S2048_S1024_S1024_S1024_S65536_S1024_S1024_S1024_S1024_S4096_S1024_S9216_S1024_S92160_d0 : FVec Ideal S92160 .f32) shapeCasts_S92160_S720x128) shapeCasts_S720x128_S1x720x128

/-- Under its first shape again the packed row is the row. -/
theorem packed_flat : shapeCast S92160 (packed a0 a1 a2 a3 a4 a5 a6 a7 a8 a9 a10 a11 a12) shapeCasts_S1x720x128_S92160
    = concatenate S92160 0 (pieces a0 a1 a2 a3 a4 a5 a6 a7 a8 a9 a10 a11 a12) concatenates_S2048_S2048_S1024_S1024_S1024_S65536_S1024_S1024_S1024_S1024_S4096_S1024_S9216_S1024_S92160_d0 := by
  unfold packed
  rw [show shapeCast S1x720x128 (shapeCast S720x128 (concatenate S92160 0 (pieces a0 a1 a2 a3 a4 a5 a6 a7 a8 a9 a10 a11 a12) concatenates_S2048_S2048_S1024_S1024_S1024_S65536_S1024_S1024_S1024_S1024_S4096_S1024_S9216_S1024_S92160_d0 : FVec Ideal S92160 .f32) shapeCasts_S92160_S720x128) shapeCasts_S720x128_S1x720x128
    = shapeCast S1x720x128 (concatenate S92160 0 (pieces a0 a1 a2 a3 a4 a5 a6 a7 a8 a9 a10 a11 a12) concatenates_S2048_S2048_S1024_S1024_S1024_S65536_S1024_S1024_S1024_S1024_S4096_S1024_S9216_S1024_S92160_d0 : FVec Ideal S92160 .f32) (by decide) from
    Cert.Pack.cast_cast _ _ _ _]
  exact Cert.Pack.cast_back _ _ _

/-- Weight 0 cut out of an array in the call's shape. -/
abbrev part0 (X : FVec Ideal S1x720x128 .f32) : FVec Ideal S2x1024 .f32 :=
  shapeCast S2x1024 (extractStridedSlice S2048 ![0] (shapeCast S92160 X shapeCasts_S1x720x128_S92160) slices_S92160_S2048_0) shapeCasts_S2048_S2x1024

theorem part0_packed : part0 (packed a0 a1 a2 a3 a4 a5 a6 a7 a8 a9 a10 a11 a12) = a0 := by
  unfold part0
  rw [packed_flat, Cert.Pack.cut (n := 2048) (p := 2048) (off := 0) (pieces a0 a1 a2 a3 a4 a5 a6 a7 a8 a9 a10 a11 a12) concatenates_S2048_S2048_S1024_S1024_S1024_S65536_S1024_S1024_S1024_S1024_S4096_S1024_S9216_S1024_S92160_d0 slices_S92160_S2048_0 0 (by show 0 < 14; omega) (shapeCast S2048 a0 shapeCasts_S2x1024_S2048) filler 0 pads_S2048_S2048_000 h_S_ rfl (by decide) shapes rfl (by decide +kernel)]
  exact Cert.Pack.cast_back _ _ _

/-- Weight 1 cut out of an array in the call's shape. -/
abbrev part1 (X : FVec Ideal S1x720x128 .f32) : FVec Ideal S2x1024 .f32 :=
  shapeCast S2x1024 (extractStridedSlice S2048 ![2048] (shapeCast S92160 X shapeCasts_S1x720x128_S92160) slices_S92160_S2048_2048) shapeCasts_S2048_S2x1024

theorem part1_packed : part1 (packed a0 a1 a2 a3 a4 a5 a6 a7 a8 a9 a10 a11 a12) = a1 := by
  unfold part1
  rw [packed_flat, Cert.Pack.cut (n := 2048) (p := 2048) (off := 2048) (pieces a0 a1 a2 a3 a4 a5 a6 a7 a8 a9 a10 a11 a12) concatenates_S2048_S2048_S1024_S1024_S1024_S65536_S1024_S1024_S1024_S1024_S4096_S1024_S9216_S1024_S92160_d0 slices_S92160_S2048_2048 1 (by show 1 < 14; omega) (shapeCast S2048 a1 shapeCasts_S2x1024_S2048) filler 0 pads_S2048_S2048_000 h_S_ rfl (by decide) shapes rfl (by decide +kernel)]
  exact Cert.Pack.cast_back _ _ _

/-- Weight 2 cut out of an array in the call's shape. -/
abbrev part2 (X : FVec Ideal S1x720x128 .f32) : FVec Ideal S1024 .f32 :=
  extractStridedSlice S1024 ![4096] (shapeCast S92160 X shapeCasts_S1x720x128_S92160) slices_S92160_S1024_4096

theorem part2_packed : part2 (packed a0 a1 a2 a3 a4 a5 a6 a7 a8 a9 a10 a11 a12) = a2 := by
  unfold part2
  rw [packed_flat, Cert.Pack.cut (n := 1024) (p := 1024) (off := 4096) (pieces a0 a1 a2 a3 a4 a5 a6 a7 a8 a9 a10 a11 a12) concatenates_S2048_S2048_S1024_S1024_S1024_S65536_S1024_S1024_S1024_S1024_S4096_S1024_S9216_S1024_S92160_d0 slices_S92160_S1024_4096 2 (by show 2 < 14; omega) a2 filler 0 pads_S1024_S1024_000 h_S_ rfl (by decide) shapes rfl (by decide +kernel)]

/-- Weight 3 cut out of an array in the call's shape. -/
abbrev part3 (X : FVec Ideal S1x720x128 .f32) : FVec Ideal S1x512 .f32 :=
  shapeCast S1x512 (extractStridedSlice S512 ![5120] (shapeCast S92160 X shapeCasts_S1x720x128_S92160) slices_S92160_S512_5120) shapeCasts_S512_S1x512

theorem part3_packed : part3 (packed a0 a1 a2 a3 a4 a5 a6 a7 a8 a9 a10 a11 a12) = a3 := by
  unfold part3
  rw [packed_flat, Cert.Pack.cut (n := 512) (p := 1024) (off := 5120) (pieces a0 a1 a2 a3 a4 a5 a6 a7 a8 a9 a10 a11 a12) concatenates_S2048_S2048_S1024_S1024_S1024_S65536_S1024_S1024_S1024_S1024_S4096_S1024_S9216_S1024_S92160_d0 slices_S92160_S512_5120 3 (by show 3 < 14; omega) (shapeCast S512 a3 shapeCasts_S1x512_S512) filler 512 pads_S512_S1024_05120 h_S_ rfl (by decide) shapes rfl (by decide +kernel)]
  exact Cert.Pack.cast_back _ _ _

/-- Weight 4 cut out of an array in the call's shape. -/
abbrev part4 (X : FVec Ideal S1x720x128 .f32) : FVec Ideal S1x512 .f32 :=
  shapeCast S1x512 (extractStridedSlice S512 ![6144] (shapeCast S92160 X shapeCasts_S1x720x128_S92160) slices_S92160_S512_6144) shapeCasts_S512_S1x512

theorem part4_packed : part4 (packed a0 a1 a2 a3 a4 a5 a6 a7 a8 a9 a10 a11 a12) = a4 := by
  unfold part4
  rw [packed_flat, Cert.Pack.cut (n := 512) (p := 1024) (off := 6144) (pieces a0 a1 a2 a3 a4 a5 a6 a7 a8 a9 a10 a11 a12) concatenates_S2048_S2048_S1024_S1024_S1024_S65536_S1024_S1024_S1024_S1024_S4096_S1024_S9216_S1024_S92160_d0 slices_S92160_S512_6144 4 (by show 4 < 14; omega) (shapeCast S512 a4 shapeCasts_S1x512_S512) filler 512 pads_S512_S1024_05120 h_S_ rfl (by decide) shapes rfl (by decide +kernel)]
  exact Cert.Pack.cast_back _ _ _

/-- Weight 5 cut out of an array in the call's shape. -/
abbrev part5 (X : FVec Ideal S1x720x128 .f32) : FVec Ideal S1x4x128x128 .f32 :=
  shapeCast S1x4x128x128 (extractStridedSlice S65536 ![7168] (shapeCast S92160 X shapeCasts_S1x720x128_S92160) slices_S92160_S65536_7168) shapeCasts_S65536_S1x4x128x128

theorem part5_packed : part5 (packed a0 a1 a2 a3 a4 a5 a6 a7 a8 a9 a10 a11 a12) = a5 := by
  unfold part5
  rw [packed_flat, Cert.Pack.cut (n := 65536) (p := 65536) (off := 7168) (pieces a0 a1 a2 a3 a4 a5 a6 a7 a8 a9 a10 a11 a12) concatenates_S2048_S2048_S1024_S1024_S1024_S65536_S1024_S1024_S1024_S1024_S4096_S1024_S9216_S1024_S92160_d0 slices_S92160_S65536_7168 5 (by show 5 < 14; omega) (shapeCast S65536 a5 shapeCasts_S1x4x128x128_S65536) filler 0 pads_S65536_S65536_000 h_S_ rfl (by decide) shapes rfl (by decide +kernel)]
  exact Cert.Pack.cast_back _ _ _

/-- Weight 6 cut out of an array in the call's shape. -/
abbrev part6 (X : FVec Ideal S1x720x128 .f32) : FVec Ideal S1x4x128 .f32 :=
  shapeCast S1x4x128 (extractStridedSlice S512 ![72704] (shapeCast S92160 X shapeCasts_S1x720x128_S92160) slices_S92160_S512_72704) shapeCasts_S512_S1x4x128

theorem part6_packed : part6 (packed a0 a1 a2 a3 a4 a5 a6 a7 a8 a9 a10 a11 a12) = a6 := by
  unfold part6
  rw [packed_flat, Cert.Pack.cut (n := 512) (p := 1024) (off := 72704) (pieces a0 a1 a2 a3 a4 a5 a6 a7 a8 a9 a10 a11 a12) concatenates_S2048_S2048_S1024_S1024_S1024_S65536_S1024_S1024_S1024_S1024_S4096_S1024_S9216_S1024_S92160_d0 slices_S92160_S512_72704 6 (by show 6 < 14; omega) (shapeCast S512 a6 shapeCasts_S1x4x128_S512) filler 512 pads_S512_S1024_05120 h_S_ rfl (by decide) shapes rfl (by decide +kernel)]
  exact Cert.Pack.cast_back _ _ _

/-- Weight 7 cut out of an array in the call's shape. -/
abbrev part7 (X : FVec Ideal S1x720x128 .f32) : FVec Ideal S1x512 .f32 :=
  shapeCast S1x512 (extractStridedSlice S512 ![73728] (shapeCast S92160 X shapeCasts_S1x720x128_S92160) slices_S92160_S512_73728) shapeCasts_S512_S1x512

theorem part7_packed : part7 (packed a0 a1 a2 a3 a4 a5 a6 a7 a8 a9 a10 a11 a12) = a7 := by
  unfold part7
  rw [packed_flat, Cert.Pack.cut (n := 512) (p := 1024) (off := 73728) (pieces a0 a1 a2 a3 a4 a5 a6 a7 a8 a9 a10 a11 a12) concatenates_S2048_S2048_S1024_S1024_S1024_S65536_S1024_S1024_S1024_S1024_S4096_S1024_S9216_S1024_S92160_d0 slices_S92160_S512_73728 7 (by show 7 < 14; omega) (shapeCast S512 a7 shapeCasts_S1x512_S512) filler 512 pads_S512_S1024_05120 h_S_ rfl (by decide) shapes rfl (by decide +kernel)]
  exact Cert.Pack.cast_back _ _ _

/-- Weight 8 cut out of an array in the call's shape. -/
abbrev part8 (X : FVec Ideal S1x720x128 .f32) : FVec Ideal S1x512 .f32 :=
  shapeCast S1x512 (extractStridedSlice S512 ![74752] (shapeCast S92160 X shapeCasts_S1x720x128_S92160) slices_S92160_S512_74752) shapeCasts_S512_S1x512

theorem part8_packed : part8 (packed a0 a1 a2 a3 a4 a5 a6 a7 a8 a9 a10 a11 a12) = a8 := by
  unfold part8
  rw [packed_flat, Cert.Pack.cut (n := 512) (p := 1024) (off := 74752) (pieces a0 a1 a2 a3 a4 a5 a6 a7 a8 a9 a10 a11 a12) concatenates_S2048_S2048_S1024_S1024_S1024_S65536_S1024_S1024_S1024_S1024_S4096_S1024_S9216_S1024_S92160_d0 slices_S92160_S512_74752 8 (by show 8 < 14; omega) (shapeCast S512 a8 shapeCasts_S1x512_S512) filler 512 pads_S512_S1024_05120 h_S_ rfl (by decide) shapes rfl (by decide +kernel)]
  exact Cert.Pack.cast_back _ _ _

/-- Weight 9 cut out of an array in the call's shape. -/
abbrev part9 (X : FVec Ideal S1x720x128 .f32) : FVec Ideal S1x512 .f32 :=
  shapeCast S1x512 (extractStridedSlice S512 ![75776] (shapeCast S92160 X shapeCasts_S1x720x128_S92160) slices_S92160_S512_75776) shapeCasts_S512_S1x512

theorem part9_packed : part9 (packed a0 a1 a2 a3 a4 a5 a6 a7 a8 a9 a10 a11 a12) = a9 := by
  unfold part9
  rw [packed_flat, Cert.Pack.cut (n := 512) (p := 1024) (off := 75776) (pieces a0 a1 a2 a3 a4 a5 a6 a7 a8 a9 a10 a11 a12) concatenates_S2048_S2048_S1024_S1024_S1024_S65536_S1024_S1024_S1024_S1024_S4096_S1024_S9216_S1024_S92160_d0 slices_S92160_S512_75776 9 (by show 9 < 14; omega) (shapeCast S512 a9 shapeCasts_S1x512_S512) filler 512 pads_S512_S1024_05120 h_S_ rfl (by decide) shapes rfl (by decide +kernel)]
  exact Cert.Pack.cast_back _ _ _

/-- Weight 10 cut out of an array in the call's shape. -/
abbrev part10 (X : FVec Ideal S1x720x128 .f32) : FVec Ideal S1x31x128 .f32 :=
  shapeCast S1x31x128 (extractStridedSlice S3968 ![76800] (shapeCast S92160 X shapeCasts_S1x720x128_S92160) slices_S92160_S3968_76800) shapeCasts_S3968_S1x31x128

theorem part10_packed : part10 (packed a0 a1 a2 a3 a4 a5 a6 a7 a8 a9 a10 a11 a12) = a10 := by
  unfold part10
  rw [packed_flat, Cert.Pack.cut (n := 3968) (p := 4096) (off := 76800) (pieces a0 a1 a2 a3 a4 a5 a6 a7 a8 a9 a10 a11 a12) concatenates_S2048_S2048_S1024_S1024_S1024_S65536_S1024_S1024_S1024_S1024_S4096_S1024_S9216_S1024_S92160_d0 slices_S92160_S3968_76800 10 (by show 10 < 14; omega) (shapeCast S3968 a10 shapeCasts_S1x31x128_S3968) filler 128 pads_S3968_S4096_01280 h_S_ rfl (by decide) shapes rfl (by decide +kernel)]
  exact Cert.Pack.cast_back _ _ _

/-- Weight 11 cut out of an array in the call's shape. -/
abbrev part11 (X : FVec Ideal S1x720x128 .f32) : FVec Ideal S1x3x256 .f32 :=
  shapeCast S1x3x256 (extractStridedSlice S768 ![80896] (shapeCast S92160 X shapeCasts_S1x720x128_S92160) slices_S92160_S768_80896) shapeCasts_S768_S1x3x256

theorem part11_packed : part11 (packed a0 a1 a2 a3 a4 a5 a6 a7 a8 a9 a10 a11 a12) = a11 := by
  unfold part11
  rw [packed_flat, Cert.Pack.cut (n := 768) (p := 1024) (off := 80896) (pieces a0 a1 a2 a3 a4 a5 a6 a7 a8 a9 a10 a11 a12) concatenates_S2048_S2048_S1024_S1024_S1024_S65536_S1024_S1024_S1024_S1024_S4096_S1024_S9216_S1024_S92160_d0 slices_S92160_S768_80896 11 (by show 11 < 14; omega) (shapeCast S768 a11 shapeCasts_S1x3x256_S768) filler 256 pads_S768_S1024_02560 h_S_ rfl (by decide) shapes rfl (by decide +kernel)]
  exact Cert.Pack.cast_back _ _ _

/-- Weight 12 cut out of an array in the call's shape. -/
abbrev part12 (X : FVec Ideal S1x720x128 .f32) : FVec Ideal S2x3x1408 .f32 :=
  shapeCast S2x3x1408 (extractStridedSlice S8448 ![81920] (shapeCast S92160 X shapeCasts_S1x720x128_S92160) slices_S92160_S8448_81920) shapeCasts_S8448_S2x3x1408

theorem part12_packed : part12 (packed a0 a1 a2 a3 a4 a5 a6 a7 a8 a9 a10 a11 a12) = a12 := by
  unfold part12
  rw [packed_flat, Cert.Pack.cut (n := 8448) (p := 9216) (off := 81920) (pieces a0 a1 a2 a3 a4 a5 a6 a7 a8 a9 a10 a11 a12) concatenates_S2048_S2048_S1024_S1024_S1024_S65536_S1024_S1024_S1024_S1024_S4096_S1024_S9216_S1024_S92160_d0 slices_S92160_S8448_81920 12 (by show 12 < 14; omega) (shapeCast S8448 a12 shapeCasts_S2x3x1408_S8448) filler 768 pads_S8448_S9216_07680 h_S_ rfl (by decide) shapes rfl (by decide +kernel)]
  exact Cert.Pack.cast_back _ _ _

end

end Cert.SmallKernelIdeal.Mix
end
-- ==== Proof.SmallEntry.lean ====
/- What the call finds: each of its four arrays is the row of thirteen arguments. -/
module

public import proofs.«01_k».proof.Proof.Gen.SmallKernelIdeal.Frame
public import Idealize.ShloMosaic.Lib.StableHlo.RunRead
public import proofs.«01_k».proof.Proof.SmallRow

@[expose] public section
set_option maxRecDepth 16384
noncomputable section
open Idealize.ShloMosaic Idealize.ShloMosaic.TcCoe Idealize.SL.Sem
open Idealize.ShloMosaic.Pipeline (Dat)

namespace Cert.SmallKernelIdeal.Mix
open Cert.SmallKernelIdeal Cert.SmallKernelIdeal.Gen Cert.Adam
variable (m : (ℓ : Loc nD τ sig) → Buf (Elt Ideal) ℓ) (c : Dev nD)

/-- The fifty-two arguments on core `c`: the weights, their gradients, their first and their second moments. -/
abbrev x0 : FVec Ideal S2x1024 .f32 := m ((c : Thread nD τ).loc main_arg0)
abbrev x1 : FVec Ideal S2x1024 .f32 := m ((c : Thread nD τ).loc main_arg1)
abbrev x2 : FVec Ideal S1024 .f32 := m ((c : Thread nD τ).loc main_arg2)
abbrev x3 : FVec Ideal S1x512 .f32 := m ((c : Thread nD τ).loc main_arg3)
abbrev x4 : FVec Ideal S1x512 .f32 := m ((c : Thread nD τ).loc main_arg4)
abbrev x5 : FVec Ideal S1x4x128x128 .f32 := m ((c : Thread nD τ).loc main_arg5)
abbrev x6 : FVec Ideal S1x4x128 .f32 := m ((c : Thread nD τ).loc main_arg6)
abbrev x7 : FVec Ideal S1x512 .f32 := m ((c : Thread nD τ).loc main_arg7)
abbrev x8 : FVec Ideal S1x512 .f32 := m ((c : Thread nD τ).loc main_arg8)
abbrev x9 : FVec Ideal S1x512 .f32 := m ((c : Thread nD τ).loc main_arg9)
abbrev x10 : FVec Ideal S1x31x128 .f32 := m ((c : Thread nD τ).loc main_arg10)
abbrev x11 : FVec Ideal S1x3x256 .f32 := m ((c : Thread nD τ).loc main_arg11)
abbrev x12 : FVec Ideal S2x3x1408 .f32 := m ((c : Thread nD τ).loc main_arg12)
abbrev x13 : FVec Ideal S2x1024 .f32 := m ((c : Thread nD τ).loc main_arg13)
abbrev x14 : FVec Ideal S2x1024 .f32 := m ((c : Thread nD τ).loc main_arg14)
abbrev x15 : FVec Ideal S1024 .f32 := m ((c : Thread nD τ).loc main_arg15)
abbrev x16 : FVec Ideal S1x512 .f32 := m ((c : Thread nD τ).loc main_arg16)
abbrev x17 : FVec Ideal S1x512 .f32 := m ((c : Thread nD τ).loc main_arg17)
abbrev x18 : FVec Ideal S1x4x128x128 .f32 := m ((c : Thread nD τ).loc main_arg18)
abbrev x19 : FVec Ideal S1x4x128 .f32 := m ((c : Thread nD τ).loc main_arg19)
abbrev x20 : FVec Ideal S1x512 .f32 := m ((c : Thread nD τ).loc main_arg20)
abbrev x21 : FVec Ideal S1x512 .f32 := m ((c : Thread nD τ).loc main_arg21)
abbrev x22 : FVec Ideal S1x512 .f32 := m ((c : Thread nD τ).loc main_arg22)
abbrev x23 : FVec Ideal S1x31x128 .f32 := m ((c : Thread nD τ).loc main_arg23)
abbrev x24 : FVec Ideal S1x3x256 .f32 := m ((c : Thread nD τ).loc main_arg24)
abbrev x25 : FVec Ideal S2x3x1408 .f32 := m ((c : Thread nD τ).loc main_arg25)
abbrev x26 : FVec Ideal S2x1024 .f32 := m ((c : Thread nD τ).loc main_arg26)
abbrev x27 : FVec Ideal S2x1024 .f32 := m ((c : Thread nD τ).loc main_arg27)
abbrev x28 : FVec Ideal S1024 .f32 := m ((c : Thread nD τ).loc main_arg28)
abbrev x29 : FVec Ideal S1x512 .f32 := m ((c : Thread nD τ).loc main_arg29)
abbrev x30 : FVec Ideal S1x512 .f32 := m ((c : Thread nD τ).loc main_arg30)
abbrev x31 : FVec Ideal S1x4x128x128 .f32 := m ((c : Thread nD τ).loc main_arg31)
abbrev x32 : FVec Ideal S1x4x128 .f32 := m ((c : Thread nD τ).loc main_arg32)
abbrev x33 : FVec Ideal S1x512 .f32 := m ((c : Thread nD τ).loc main_arg33)
abbrev x34 : FVec Ideal S1x512 .f32 := m ((c : Thread nD τ).loc main_arg34)
abbrev x35 : FVec Ideal S1x512 .f32 := m ((c : Thread nD τ).loc main_arg35)
abbrev x36 : FVec Ideal S1x31x128 .f32 := m ((c : Thread nD τ).loc main_arg36)
abbrev x37 : FVec Ideal S1x3x256 .f32 := m ((c : Thread nD τ).loc main_arg37)
abbrev x38 : FVec Ideal S2x3x1408 .f32 := m ((c : Thread nD τ).loc main_arg38)
abbrev x39 : FVec Ideal S2x1024 .f32 := m ((c : Thread nD τ).loc main_arg39)
abbrev x40 : FVec Ideal S2x1024 .f32 := m ((c : Thread nD τ).loc main_arg40)
abbrev x41 : FVec Ideal S1024 .f32 := m ((c : Thread nD τ).loc main_arg41)
abbrev x42 : FVec Ideal S1x512 .f32 := m ((c : Thread nD τ).loc main_arg42)
abbrev x43 : FVec Ideal S1x512 .f32 := m ((c : Thread nD τ).loc main_arg43)
abbrev x44 : FVec Ideal S1x4x128x128 .f32 := m ((c : Thread nD τ).loc main_arg44)
abbrev x45 : FVec Ideal S1x4x128 .f32 := m ((c : Thread nD τ).loc main_arg45)
abbrev x46 : FVec Ideal S1x512 .f32 := m ((c : Thread nD τ).loc main_arg46)
abbrev x47 : FVec Ideal S1x512 .f32 := m ((c : Thread nD τ).loc main_arg47)
abbrev x48 : FVec Ideal S1x512 .f32 := m ((c : Thread nD τ).loc main_arg48)
abbrev x49 : FVec Ideal S1x31x128 .f32 := m ((c : Thread nD τ).loc main_arg49)
abbrev x50 : FVec Ideal S1x3x256 .f32 := m ((c : Thread nD τ).loc main_arg50)
abbrev x51 : FVec Ideal S2x3x1408 .f32 := m ((c : Thread nD τ).loc main_arg51)

/-- Two rows are the same when their pieces are. -/
theorem row_congr {p0 q0 : FVec Ideal S2048 .f32} {p1 q1 : FVec Ideal S2048 .f32} {p2 q2 : FVec Ideal S1024 .f32} {p3 q3 : FVec Ideal S1024 .f32} {p4 q4 : FVec Ideal S1024 .f32} {p5 q5 : FVec Ideal S65536 .f32} {p6 q6 : FVec Ideal S1024 .f32} {p7 q7 : FVec Ideal S1024 .f32} {p8 q8 : FVec Ideal S1024 .f32} {p9 q9 : FVec Ideal S1024 .f32} {p10 q10 : FVec Ideal S4096 .f32} {p11 q11 : FVec Ideal S1024 .f32} {p12 q12 : FVec Ideal S9216 .f32} {p13 q13 : FVec Ideal S1024 .f32} (h0 : p0 = q0) (h1 : p1 = q1) (h2 : p2 = q2) (h3 : p3 = q3) (h4 : p4 = q4) (h5 : p5 = q5) (h6 : p6 = q6) (h7 : p7 = q7) (h8 : p8 = q8) (h9 : p9 = q9) (h10 : p10 = q10) (h11 : p11 = q11) (h12 : p12 = q12) (h13 : p13 = q13) :
    (concatenate S92160 0 [⟨S2048, p0⟩, ⟨S2048, p1⟩, ⟨S1024, p2⟩, ⟨S1024, p3⟩, ⟨S1024, p4⟩, ⟨S65536, p5⟩, ⟨S1024, p6⟩, ⟨S1024, p7⟩, ⟨S1024, p8⟩, ⟨S1024, p9⟩, ⟨S4096, p10⟩, ⟨S1024, p11⟩, ⟨S9216, p12⟩, ⟨S1024, p13⟩] concatenates_S2048_S2048_S1024_S1024_S1024_S65536_S1024_S1024_S1024_S1024_S4096_S1024_S9216_S1024_S92160_d0 : FVec Ideal S92160 .f32)
      = concatenate S92160 0 [⟨S2048, q0⟩, ⟨S2048, q1⟩, ⟨S1024, q2⟩, ⟨S1024, q3⟩, ⟨S1024, q4⟩, ⟨S65536, q5⟩, ⟨S1024, q6⟩, ⟨S1024, q7⟩, ⟨S1024, q8⟩, ⟨S1024, q9⟩, ⟨S4096, q10⟩, ⟨S1024, q11⟩, ⟨S9216, q12⟩, ⟨S1024, q13⟩] concatenates_S2048_S2048_S1024_S1024_S1024_S65536_S1024_S1024_S1024_S1024_S4096_S1024_S9216_S1024_S92160_d0 := by
  subst h0 h1 h2 h3 h4 h5 h6 h7 h8 h9 h10 h11 h12 h13
  rfl

set_option maxHeartbeats 8000000 in
theorem entry0 : V m c main_v112 = packed (x0 m c) (x1 m c) (x2 m c) (x3 m c) (x4 m c) (x5 m c) (x6 m c) (x7 m c) (x8 m c) (x9 m c) (x10 m c) (x11 m c) (x12 m c) := by
  show V0 m c (Proc.devRef .tc main_v112) = _
  unfold V0
  after_reads_simp
  unfold packed
  refine congrArg (fun z : FVec Ideal S92160 .f32 => shapeCast S1x720x128 (shapeCast S720x128 z shapeCasts_S92160_S720x128) shapeCasts_S720x128_S1x720x128) (row_congr ?_ ?_ ?_ ?_ ?_ ?_ ?_ ?_ ?_ ?_ ?_ ?_ ?_ ?_ )
  · show StableHlo.upto _ _ _ (Proc.devRef .tc main_v1) = _
    after_reads_simp
    rfl
  · show StableHlo.upto _ _ _ (Proc.devRef .tc main_v3) = _
    after_reads_simp
    rfl
  · show StableHlo.upto _ _ _ (Proc.devRef .tc main_v4) = _
    after_reads_simp
    rfl
  · show StableHlo.upto _ _ _ (Proc.devRef .tc main_v6) = _
    after_reads_simp
    rfl
  · show StableHlo.upto _ _ _ (Proc.devRef .tc main_v8) = _
    after_reads_simp
    rfl
  · show StableHlo.upto _ _ _ (Proc.devRef .tc main_v10) = _
    after_reads_simp
    rfl
  · show StableHlo.upto _ _ _ (Proc.devRef .tc main_v12) = _
    after_reads_simp
    rfl
  · show StableHlo.upto _ _ _ (Proc.devRef .tc main_v14) = _
    after_reads_simp
    rfl
  · show StableHlo.upto _ _ _ (Proc.devRef .tc main_v16) = _
    after_reads_simp
    rfl
  · show StableHlo.upto _ _ _ (Proc.devRef .tc main_v18) = _
    after_reads_simp
    rfl
  · show StableHlo.upto _ _ _ (Proc.devRef .tc main_v20) = _
    after_reads_simp
    rfl
  · show StableHlo.upto _ _ _ (Proc.devRef .tc main_v22) = _
    after_reads_simp
    rfl
  · show StableHlo.upto _ _ _ (Proc.devRef .tc main_v24) = _
    after_reads_simp
    rfl
  · show StableHlo.upto _ _ _ (Proc.devRef .tc main_v25) = _
    after_reads_simp

set_option maxHeartbeats 8000000 in
theorem entry1 : V m c main_v113 = packed (x13 m c) (x14 m c) (x15 m c) (x16 m c) (x17 m c) (x18 m c) (x19 m c) (x20 m c) (x21 m c) (x22 m c) (x23 m c) (x24 m c) (x25 m c) := by
  show V0 m c (Proc.devRef .tc main_v113) = _
  unfold V0
  after_reads_simp
  unfold packed
  refine congrArg (fun z : FVec Ideal S92160 .f32 => shapeCast S1x720x128 (shapeCast S720x128 z shapeCasts_S92160_S720x128) shapeCasts_S720x128_S1x720x128) (row_congr ?_ ?_ ?_ ?_ ?_ ?_ ?_ ?_ ?_ ?_ ?_ ?_ ?_ ?_ )
  · show StableHlo.upto _ _ _ (Proc.devRef .tc main_v29) = _
    after_reads_simp
    rfl
  · show StableHlo.upto _ _ _ (Proc.devRef .tc main_v31) = _
    after_reads_simp
    rfl
  · show StableHlo.upto _ _ _ (Proc.devRef .tc main_v32) = _
    after_reads_simp
    rfl
  · show StableHlo.upto _ _ _ (Proc.devRef .tc main_v34) = _
    after_reads_simp
    rfl
  · show StableHlo.upto _ _ _ (Proc.devRef .tc main_v36) = _
    after_reads_simp
    rfl
  · show StableHlo.upto _ _ _ (Proc.devRef .tc main_v38) = _
    after_reads_simp
    rfl
  · show StableHlo.upto _ _ _ (Proc.devRef .tc main_v40) = _
    after_reads_simp
    rfl
  · show StableHlo.upto _ _ _ (Proc.devRef .tc main_v42) = _
    after_reads_simp
    rfl
  · show StableHlo.upto _ _ _ (Proc.devRef .tc main_v44) = _
    after_reads_simp
    rfl
  · show StableHlo.upto _ _ _ (Proc.devRef .tc main_v46) = _
    after_reads_simp
    rfl
  · show StableHlo.upto _ _ _ (Proc.devRef .tc main_v48) = _
    after_reads_simp
    rfl
  · show StableHlo.upto _ _ _ (Proc.devRef .tc main_v50) = _
    after_reads_simp
    rfl
  · show StableHlo.upto _ _ _ (Proc.devRef .tc main_v52) = _
    after_reads_simp
    rfl
  · show StableHlo.upto _ _ _ (Proc.devRef .tc main_v53) = _
    after_reads_simp

set_option maxHeartbeats 8000000 in
theorem entry2 : V m c main_v114 = packed (x26 m c) (x27 m c) (x28 m c) (x29 m c) (x30 m c) (x31 m c) (x32 m c) (x33 m c) (x34 m c) (x35 m c) (x36 m c) (x37 m c) (x38 m c) := by
  show V0 m c (Proc.devRef .tc main_v114) = _
  unfold V0
  after_reads_simp
  unfold packed
  refine congrArg (fun z : FVec Ideal S92160 .f32 => shapeCast S1x720x128 (shapeCast S720x128 z shapeCasts_S92160_S720x128) shapeCasts_S720x128_S1x720x128) (row_congr ?_ ?_ ?_ ?_ ?_ ?_ ?_ ?_ ?_ ?_ ?_ ?_ ?_ ?_ )
  · show StableHlo.upto _ _ _ (Proc.devRef .tc main_v57) = _
    after_reads_simp
    rfl
  · show StableHlo.upto _ _ _ (Proc.devRef .tc main_v59) = _
    after_reads_simp
    rfl
  · show StableHlo.upto _ _ _ (Proc.devRef .tc main_v60) = _
    after_reads_simp
    rfl
  · show StableHlo.upto _ _ _ (Proc.devRef .tc main_v62) = _
    after_reads_simp
    rfl
  · show StableHlo.upto _ _ _ (Proc.devRef .tc main_v64) = _
    after_reads_simp
    rfl
  · show StableHlo.upto _ _ _ (Proc.devRef .tc main_v66) = _
    after_reads_simp
    rfl
  · show StableHlo.upto _ _ _ (Proc.devRef .tc main_v68) = _
    after_reads_simp
    rfl
  · show StableHlo.upto _ _ _ (Proc.devRef .tc main_v70) = _
    after_reads_simp
    rfl
  · show StableHlo.upto _ _ _ (Proc.devRef .tc main_v72) = _
    after_reads_simp
    rfl
  · show StableHlo.upto _ _ _ (Proc.devRef .tc main_v74) = _
    after_reads_simp
    rfl
  · show StableHlo.upto _ _ _ (Proc.devRef .tc main_v76) = _
    after_reads_simp
    rfl
  · show StableHlo.upto _ _ _ (Proc.devRef .tc main_v78) = _
    after_reads_simp
    rfl
  · show StableHlo.upto _ _ _ (Proc.devRef .tc main_v80) = _
    after_reads_simp
    rfl
  · show StableHlo.upto _ _ _ (Proc.devRef .tc main_v81) = _
    after_reads_simp

set_option maxHeartbeats 8000000 in
theorem entry3 : V m c main_v115 = packed (x39 m c) (x40 m c) (x41 m c) (x42 m c) (x43 m c) (x44 m c) (x45 m c) (x46 m c) (x47 m c) (x48 m c) (x49 m c) (x50 m c) (x51 m c) := by
  show V0 m c (Proc.devRef .tc main_v115) = _
  unfold V0
  after_reads_simp
  unfold packed
  refine congrArg (fun z : FVec Ideal S92160 .f32 => shapeCast S1x720x128 (shapeCast S720x128 z shapeCasts_S92160_S720x128) shapeCasts_S720x128_S1x720x128) (row_congr ?_ ?_ ?_ ?_ ?_ ?_ ?_ ?_ ?_ ?_ ?_ ?_ ?_ ?_ )
  · show StableHlo.upto _ _ _ (Proc.devRef .tc main_v85) = _
    after_reads_simp
    rfl
  · show StableHlo.upto _ _ _ (Proc.devRef .tc main_v87) = _
    after_reads_simp
    rfl
  · show StableHlo.upto _ _ _ (Proc.devRef .tc main_v88) = _
    after_reads_simp
    rfl
  · show StableHlo.upto _ _ _ (Proc.devRef .tc main_v90) = _
    after_reads_simp
    rfl
  · show StableHlo.upto _ _ _ (Proc.devRef .tc main_v92) = _
    after_reads_simp
    rfl
  · show StableHlo.upto _ _ _ (Proc.devRef .tc main_v94) = _
    after_reads_simp
    rfl
  · show StableHlo.upto _ _ _ (Proc.devRef .tc main_v96) = _
    after_reads_simp
    rfl
  · show StableHlo.upto _ _ _ (Proc.devRef .tc main_v98) = _
    after_reads_simp
    rfl
  · show StableHlo.upto _ _ _ (Proc.devRef .tc main_v100) = _
    after_reads_simp
    rfl
  · show StableHlo.upto _ _ _ (Proc.devRef .tc main_v102) = _
    after_reads_simp
    rfl
  · show StableHlo.upto _ _ _ (Proc.devRef .tc main_v104) = _
    after_reads_simp
    rfl
  · show StableHlo.upto _ _ _ (Proc.devRef .tc main_v106) = _
    after_reads_simp
    rfl
  · show StableHlo.upto _ _ _ (Proc.devRef .tc main_v108) = _
    after_reads_simp
    rfl
  · show StableHlo.upto _ _ _ (Proc.devRef .tc main_v109) = _
    after_reads_simp

end Cert.SmallKernelIdeal.Mix

end
-- ==== Proof.SmallTail.lean ====
/- What the lines after the call leave: each result is cut out of one of the call's arrays. -/
module

public import proofs.«01_k».proof.Proof.Gen.SmallKernelIdeal.Frame
public import Idealize.ShloMosaic.Lib.StableHlo.RunRead
public import proofs.«01_k».proof.Proof.SmallRow

@[expose] public section
set_option maxRecDepth 16384
noncomputable section
open Idealize.ShloMosaic Idealize.ShloMosaic.TcCoe Idealize.SL.Sem
open Idealize.ShloMosaic.Pipeline (Dat)

namespace Cert.SmallKernelIdeal.Mix
open Cert.SmallKernelIdeal Cert.SmallKernelIdeal.Gen Cert.Adam
variable (X : Valuation τ sig (Elt Ideal))

theorem tail0_0 : StableHlo.after (List.flatten [hostOps1]) X (Proc.devRef .tc main_v119) = part0 (X (Proc.devRef .tc main_v116_1)) := by
  rw [List.flatten_cons, List.flatten_nil, List.append_nil]
  after_reads_simp
  rfl

theorem tail0_1 : StableHlo.after (List.flatten [hostOps1]) X (Proc.devRef .tc main_v121) = part1 (X (Proc.devRef .tc main_v116_1)) := by
  rw [List.flatten_cons, List.flatten_nil, List.append_nil]
  after_reads_simp
  rfl

theorem tail0_2 : StableHlo.after (List.flatten [hostOps1]) X (Proc.devRef .tc main_v122) = part2 (X (Proc.devRef .tc main_v116_1)) := by
  rw [List.flatten_cons, List.flatten_nil, List.append_nil]
  after_reads_simp
  rfl

theorem tail0_3 : StableHlo.after (List.flatten [hostOps1]) X (Proc.devRef .tc main_v124) = part3 (X (Proc.devRef .tc main_v116_1)) := by
  rw [List.flatten_cons, List.flatten_nil, List.append_nil]
  after_reads_simp
  rfl

theorem tail0_4 : StableHlo.after (List.flatten [hostOps1]) X (Proc.devRef .tc main_v126) = part4 (X (Proc.devRef .tc main_v116_1)) := by
  rw [List.flatten_cons, List.flatten_nil, List.append_nil]
  after_reads_simp
  rfl

theorem tail0_5 : StableHlo.after (List.flatten [hostOps1]) X (Proc.devRef .tc main_v128) = part5 (X (Proc.devRef .tc main_v116_1)) := by
  rw [List.flatten_cons, List.flatten_nil, List.append_nil]
  after_reads_simp
  rfl

theorem tail0_6 : StableHlo.after (List.flatten [hostOps1]) X (Proc.devRef .tc main_v130) = part6 (X (Proc.devRef .tc main_v116_1)) := by
  rw [List.flatten_cons, List.flatten_nil, List.append_nil]
  after_reads_simp
  rfl

theorem tail0_7 : StableHlo.after (List.flatten [hostOps1]) X (Proc.devRef .tc main_v132) = part7 (X (Proc.devRef .tc main_v116_1)) := by
  rw [List.flatten_cons, List.flatten_nil, List.append_nil]
  after_reads_simp
  rfl

theorem tail0_8 : StableHlo.after (List.flatten [hostOps1]) X (Proc.devRef .tc main_v134) = part8 (X (Proc.devRef .tc main_v116_1)) := by
  rw [List.flatten_cons, List.flatten_nil, List.append_nil]
  after_reads_simp
  rfl

theorem tail0_9 : StableHlo.after (List.flatten [hostOps1]) X (Proc.devRef .tc main_v136) = part9 (X (Proc.devRef .tc main_v116_1)) := by
  rw [List.flatten_cons, List.flatten_nil, List.append_nil]
  after_reads_simp
  rfl

theorem tail0_10 : StableHlo.after (List.flatten [hostOps1]) X (Proc.devRef .tc main_v138) = part10 (X (Proc.devRef .tc main_v116_1)) := by
  rw [List.flatten_cons, List.flatten_nil, List.append_nil]
  after_reads_simp
  rfl

theorem tail0_11 : StableHlo.after (List.flatten [hostOps1]) X (Proc.devRef .tc main_v140) = part11 (X (Proc.devRef .tc main_v116_1)) := by
  rw [List.flatten_cons, List.flatten_nil, List.append_nil]
  after_reads_simp
  rfl

theorem tail0_12 : StableHlo.after (List.flatten [hostOps1]) X (Proc.devRef .tc main_v142) = part12 (X (Proc.devRef .tc main_v116_1)) := by
  rw [List.flatten_cons, List.flatten_nil, List.append_nil]
  after_reads_simp
  rfl

theorem tail1_0 : StableHlo.after (List.flatten [hostOps1]) X (Proc.devRef .tc main_v145) = part0 (X (Proc.devRef .tc main_v116_2)) := by
  rw [List.flatten_cons, List.flatten_nil, List.append_nil]
  after_reads_simp
  rfl

theorem tail1_1 : StableHlo.after (List.flatten [hostOps1]) X (Proc.devRef .tc main_v147) = part1 (X (Proc.devRef .tc main_v116_2)) := by
  rw [List.flatten_cons, List.flatten_nil, List.append_nil]
  after_reads_simp
  rfl

theorem tail1_2 : StableHlo.after (List.flatten [hostOps1]) X (Proc.devRef .tc main_v148) = part2 (X (Proc.devRef .tc main_v116_2)) := by
  rw [List.flatten_cons, List.flatten_nil, List.append_nil]
  after_reads_simp
  rfl

theorem tail1_3 : StableHlo.after (List.flatten [hostOps1]) X (Proc.devRef .tc main_v150) = part3 (X (Proc.devRef .tc main_v116_2)) := by
  rw [List.flatten_cons, List.flatten_nil, List.append_nil]
  after_reads_simp
  rfl

theorem tail1_4 : StableHlo.after (List.flatten [hostOps1]) X (Proc.devRef .tc main_v152) = part4 (X (Proc.devRef .tc main_v116_2)) := by
  rw [List.flatten_cons, List.flatten_nil, List.append_nil]
  after_reads_simp
  rfl

theorem tail1_5 : StableHlo.after (List.flatten [hostOps1]) X (Proc.devRef .tc main_v154) = part5 (X (Proc.devRef .tc main_v116_2)) := by
  rw [List.flatten_cons, List.flatten_nil, List.append_nil]
  after_reads_simp
  rfl

theorem tail1_6 : StableHlo.after (List.flatten [hostOps1]) X (Proc.devRef .tc main_v156) = part6 (X (Proc.devRef .tc main_v116_2)) := by
  rw [List.flatten_cons, List.flatten_nil, List.append_nil]
  after_reads_simp
  rfl

theorem tail1_7 : StableHlo.after (List.flatten [hostOps1]) X (Proc.devRef .tc main_v158) = part7 (X (Proc.devRef .tc main_v116_2)) := by
  rw [List.flatten_cons, List.flatten_nil, List.append_nil]
  after_reads_simp
  rfl

theorem tail1_8 : StableHlo.after (List.flatten [hostOps1]) X (Proc.devRef .tc main_v160) = part8 (X (Proc.devRef .tc main_v116_2)) := by
  rw [List.flatten_cons, List.flatten_nil, List.append_nil]
  after_reads_simp
  rfl

theorem tail1_9 : StableHlo.after (List.flatten [hostOps1]) X (Proc.devRef .tc main_v162) = part9 (X (Proc.devRef .tc main_v116_2)) := by
  rw [List.flatten_cons, List.flatten_nil, List.append_nil]
  after_reads_simp
  rfl

theorem tail1_10 : StableHlo.after (List.flatten [hostOps1]) X (Proc.devRef .tc main_v164) = part10 (X (Proc.devRef .tc main_v116_2)) := by
  rw [List.flatten_cons, List.flatten_nil, List.append_nil]
  after_reads_simp
  rfl

theorem tail1_11 : StableHlo.after (List.flatten [hostOps1]) X (Proc.devRef .tc main_v166) = part11 (X (Proc.devRef .tc main_v116_2)) := by
  rw [List.flatten_cons, List.flatten_nil, List.append_nil]
  after_reads_simp
  rfl

theorem tail1_12 : StableHlo.after (List.flatten [hostOps1]) X (Proc.devRef .tc main_v168) = part12 (X (Proc.devRef .tc main_v116_2)) := by
  rw [List.flatten_cons, List.flatten_nil, List.append_nil]
  after_reads_simp
  rfl

theorem tail2_0 : StableHlo.after (List.flatten [hostOps1]) X (Proc.devRef .tc main_v171) = part0 (X (Proc.devRef .tc main_v116_3)) := by
  rw [List.flatten_cons, List.flatten_nil, List.append_nil]
  after_reads_simp
  rfl

theorem tail2_1 : StableHlo.after (List.flatten [hostOps1]) X (Proc.devRef .tc main_v173) = part1 (X (Proc.devRef .tc main_v116_3)) := by
  rw [List.flatten_cons, List.flatten_nil, List.append_nil]
  after_reads_simp
  rfl

theorem tail2_2 : StableHlo.after (List.flatten [hostOps1]) X (Proc.devRef .tc main_v174) = part2 (X (Proc.devRef .tc main_v116_3)) := by
  rw [List.flatten_cons, List.flatten_nil, List.append_nil]
  after_reads_simp
  rfl

theorem tail2_3 : StableHlo.after (List.flatten [hostOps1]) X (Proc.devRef .tc main_v176) = part3 (X (Proc.devRef .tc main_v116_3)) := by
  rw [List.flatten_cons, List.flatten_nil, List.append_nil]
  after_reads_simp
  rfl

theorem tail2_4 : StableHlo.after (List.flatten [hostOps1]) X (Proc.devRef .tc main_v178) = part4 (X (Proc.devRef .tc main_v116_3)) := by
  rw [List.flatten_cons, List.flatten_nil, List.append_nil]
  after_reads_simp
  rfl

theorem tail2_5 : StableHlo.after (List.flatten [hostOps1]) X (Proc.devRef .tc main_v180) = part5 (X (Proc.devRef .tc main_v116_3)) := by
  rw [List.flatten_cons, List.flatten_nil, List.append_nil]
  after_reads_simp
  rfl

theorem tail2_6 : StableHlo.after (List.flatten [hostOps1]) X (Proc.devRef .tc main_v182) = part6 (X (Proc.devRef .tc main_v116_3)) := by
  rw [List.flatten_cons, List.flatten_nil, List.append_nil]
  after_reads_simp
  rfl

theorem tail2_7 : StableHlo.after (List.flatten [hostOps1]) X (Proc.devRef .tc main_v184) = part7 (X (Proc.devRef .tc main_v116_3)) := by
  rw [List.flatten_cons, List.flatten_nil, List.append_nil]
  after_reads_simp
  rfl

theorem tail2_8 : StableHlo.after (List.flatten [hostOps1]) X (Proc.devRef .tc main_v186) = part8 (X (Proc.devRef .tc main_v116_3)) := by
  rw [List.flatten_cons, List.flatten_nil, List.append_nil]
  after_reads_simp
  rfl

theorem tail2_9 : StableHlo.after (List.flatten [hostOps1]) X (Proc.devRef .tc main_v188) = part9 (X (Proc.devRef .tc main_v116_3)) := by
  rw [List.flatten_cons, List.flatten_nil, List.append_nil]
  after_reads_simp
  rfl

theorem tail2_10 : StableHlo.after (List.flatten [hostOps1]) X (Proc.devRef .tc main_v190) = part10 (X (Proc.devRef .tc main_v116_3)) := by
  rw [List.flatten_cons, List.flatten_nil, List.append_nil]
  after_reads_simp
  rfl

theorem tail2_11 : StableHlo.after (List.flatten [hostOps1]) X (Proc.devRef .tc main_v192) = part11 (X (Proc.devRef .tc main_v116_3)) := by
  rw [List.flatten_cons, List.flatten_nil, List.append_nil]
  after_reads_simp
  rfl

theorem tail2_12 : StableHlo.after (List.flatten [hostOps1]) X (Proc.devRef .tc main_v194) = part12 (X (Proc.devRef .tc main_v116_3)) := by
  rw [List.flatten_cons, List.flatten_nil, List.append_nil]
  after_reads_simp
  rfl

end Cert.SmallKernelIdeal.Mix

end
-- ==== Proof.SmallStep.lean ====
/- The reference's step of one small weight is the update of its entries, at any shape. -/
module

public import proofs.«01_k».proof.Proof.Gen.SmallReferenceIdeal
public import Idealize.ShloMosaic.Lib.Pointwise
public import proofs.«01_k».proof.Proof.AdamSpec

@[expose] public section
noncomputable section
open Idealize.ShloMosaic Idealize.ShloMosaic.TcCoe Idealize.SL.Sem

namespace Cert.SmallReferenceIdeal.Mix
open Cert.SmallReferenceIdeal Cert.SmallReferenceIdeal.Gen Cert.Adam

/-- The steps, and the two moments, of the entries of equal arrays are equal. -/
theorem step_delta {s : Shape} {w w' g g' n n' v v' : FVec Ideal s .f32} (hw : w = w') (hg : g = g') (hn : n = n') (hv : v = v') :
    (fun i => delta (w i) (g i) (n i) (v i)) = fun i => delta (w' i) (g' i) (n' i) (v' i) := by
  subst hw hg hn hv
  rfl

theorem step_mean {s : Shape} {g g' n n' : FVec Ideal s .f32} (hg : g = g') (hn : n = n') :
    (fun i => mean (g i) (n i)) = fun i => mean (g' i) (n' i) := by
  subst hg hn
  rfl

theorem step_spread {s : Shape} {g g' v v' : FVec Ideal s .f32} (hg : g = g') (hv : v = v') :
    (fun i => spread (g i) (v i)) = fun i => spread (g' i) (v' i) := by
  subst hg hv
  rfl

variable {s : Shape} (hb : S_.BroadcastsInDim s (![] : Fin 0 → Fin s.rank)) (w g n v : FVec Ideal s .f32)

theorem ref_delta : mulf (broadcastInDim s ![] hb (constant (F := Ideal) S_ .f32 0xBA83126F#32)) (addf (Host.divf (Host.divf (addf (mulf (broadcastInDim s ![] hb (constant (F := Ideal) S_ .f32 0x3F666666#32)) n) (mulf (broadcastInDim s ![] hb (constant (F := Ideal) S_ .f32 0x3DCCCCCD#32)) g)) (broadcastInDim s ![] hb (constant (F := Ideal) S_ .f32 0x3F26BD02#32))) (addf (Host.sqrt (Host.divf (addf (mulf (broadcastInDim s ![] hb (constant (F := Ideal) S_ .f32 0x3F7FBE77#32)) v) (mulf (broadcastInDim s ![] hb (constant (F := Ideal) S_ .f32 0x3A83126F#32)) (mulf g g))) (broadcastInDim s ![] hb (constant (F := Ideal) S_ .f32 0x3C231ACC#32)))) (broadcastInDim s ![] hb (constant (F := Ideal) S_ .f32 0x322BCC77#32)))) (mulf (broadcastInDim s ![] hb (constant (F := Ideal) S_ .f32 0x3C23D70A#32)) w))
    = fun i => delta (w i) (g i) (n i) (v i) := by
  funext i
  pointwise [delta, mean, spread, keep1, add1, keep2, add2, bias1, bias2, tiny, decay, rate]

theorem ref_mean : addf (mulf (broadcastInDim s ![] hb (constant (F := Ideal) S_ .f32 0x3F666666#32)) n) (mulf (broadcastInDim s ![] hb (constant (F := Ideal) S_ .f32 0x3DCCCCCD#32)) g) = fun i => mean (g i) (n i) := by
  funext i
  pointwise [mean, keep1, add1]

theorem ref_spread : addf (mulf (broadcastInDim s ![] hb (constant (F := Ideal) S_ .f32 0x3F7FBE77#32)) v) (mulf (broadcastInDim s ![] hb (constant (F := Ideal) S_ .f32 0x3A83126F#32)) (mulf g g)) = fun i => spread (g i) (v i) := by
  funext i
  pointwise [spread, keep2, add2]

end Cert.SmallReferenceIdeal.Mix

end
-- ==== Proof.SmallEnds.lean ====
/- The run of the call on the packed small weights with the lines around it, its results entry by entry. -/
module

public import proofs.«01_k».proof.Proof.SmallBlock
public import proofs.«01_k».proof.Proof.SmallEntry
public import proofs.«01_k».proof.Proof.SmallTail
public import proofs.«01_k».proof.Proof.SmallStep

@[expose] public section
set_option maxRecDepth 16384
noncomputable section
open Idealize.ShloMosaic Idealize.ShloMosaic.TcCoe Idealize.SL.Sem
open Idealize.ShloMosaic.Pipeline (Dat)

namespace Cert.SmallKernelIdeal.Mix
open Cert.SmallReferenceIdeal.Mix (step_delta step_mean step_spread)
open Cert.SmallKernelIdeal Cert.SmallKernelIdeal.Gen Cert.Adam

/-- Cutting weight 0 out of an entrywise result is that result of the weight's own entries. -/
theorem cut0 (f : EReal → EReal → EReal → EReal → EReal) (A B C D : FVec Ideal S1x720x128 .f32) :
    part0 (fun j => f (A j) (B j) (C j) (D j)) = fun j => f (part0 A j) (part0 B j) (part0 C j) (part0 D j) := rfl

/-- Cutting weight 1 out of an entrywise result is that result of the weight's own entries. -/
theorem cut1 (f : EReal → EReal → EReal → EReal → EReal) (A B C D : FVec Ideal S1x720x128 .f32) :
    part1 (fun j => f (A j) (B j) (C j) (D j)) = fun j => f (part1 A j) (part1 B j) (part1 C j) (part1 D j) := rfl

/-- Cutting weight 2 out of an entrywise result is that result of the weight's own entries. -/
theorem cut2 (f : EReal → EReal → EReal → EReal → EReal) (A B C D : FVec Ideal S1x720x128 .f32) :
    part2 (fun j => f (A j) (B j) (C j) (D j)) = fun j => f (part2 A j) (part2 B j) (part2 C j) (part2 D j) := rfl

/-- Cutting weight 3 out of an entrywise result is that result of the weight's own entries. -/
theorem cut3 (f : EReal → EReal → EReal → EReal → EReal) (A B C D : FVec Ideal S1x720x128 .f32) :
    part3 (fun j => f (A j) (B j) (C j) (D j)) = fun j => f (part3 A j) (part3 B j) (part3 C j) (part3 D j) := rfl

/-- Cutting weight 4 out of an entrywise result is that result of the weight's own entries. -/
theorem cut4 (f : EReal → EReal → EReal → EReal → EReal) (A B C D : FVec Ideal S1x720x128 .f32) :
    part4 (fun j => f (A j) (B j) (C j) (D j)) = fun j => f (part4 A j) (part4 B j) (part4 C j) (part4 D j) := rfl

/-- Cutting weight 5 out of an entrywise result is that result of the weight's own entries. -/
theorem cut5 (f : EReal → EReal → EReal → EReal → EReal) (A B C D : FVec Ideal S1x720x128 .f32) :
    part5 (fun j => f (A j) (B j) (C j) (D j)) = fun j => f (part5 A j) (part5 B j) (part5 C j) (part5 D j) := rfl

/-- Cutting weight 6 out of an entrywise result is that result of the weight's own entries. -/
theorem cut6 (f : EReal → EReal → EReal → EReal → EReal) (A B C D : FVec Ideal S1x720x128 .f32) :
    part6 (fun j => f (A j) (B j) (C j) (D j)) = fun j => f (part6 A j) (part6 B j) (part6 C j) (part6 D j) := rfl

/-- Cutting weight 7 out of an entrywise result is that result of the weight's own entries. -/
theorem cut7 (f : EReal → EReal → EReal → EReal → EReal) (A B C D : FVec Ideal S1x720x128 .f32) :
    part7 (fun j => f (A j) (B j) (C j) (D j)) = fun j => f (part7 A j) (part7 B j) (part7 C j) (part7 D j) := rfl

/-- Cutting weight 8 out of an entrywise result is that result of the weight's own entries. -/
theorem cut8 (f : EReal → EReal → EReal → EReal → EReal) (A B C D : FVec Ideal S1x720x128 .f32) :
    part8 (fun j => f (A j) (B j) (C j) (D j)) = fun j => f (part8 A j) (part8 B j) (part8 C j) (part8 D j) := rfl

/-- Cutting weight 9 out of an entrywise result is that result of the weight's own entries. -/
theorem cut9 (f : EReal → EReal → EReal → EReal → EReal) (A B C D : FVec Ideal S1x720x128 .f32) :
    part9 (fun j => f (A j) (B j) (C j) (D j)) = fun j => f (part9 A j) (part9 B j) (part9 C j) (part9 D j) := rfl

/-- Cutting weight 10 out of an entrywise result is that result of the weight's own entries. -/
theorem cut10 (f : EReal → EReal → EReal → EReal → EReal) (A B C D : FVec Ideal S1x720x128 .f32) :
    part10 (fun j => f (A j) (B j) (C j) (D j)) = fun j => f (part10 A j) (part10 B j) (part10 C j) (part10 D j) := rfl

/-- Cutting weight 11 out of an entrywise result is that result of the weight's own entries. -/
theorem cut11 (f : EReal → EReal → EReal → EReal → EReal) (A B C D : FVec Ideal S1x720x128 .f32) :
    part11 (fun j => f (A j) (B j) (C j) (D j)) = fun j => f (part11 A j) (part11 B j) (part11 C j) (part11 D j) := rfl

/-- Cutting weight 12 out of an entrywise result is that result of the weight's own entries. -/
theorem cut12 (f : EReal → EReal → EReal → EReal → EReal) (A B C D : FVec Ideal S1x720x128 .f32) :
    part12 (fun j => f (A j) (B j) (C j) (D j)) = fun j => f (part12 A j) (part12 B j) (part12 C j) (part12 D j) := rfl

variable (m : (ℓ : Loc nD τ sig) → Buf (Elt Ideal) ℓ) (c : Dev nD)

theorem apart : Function.Injective (Pipeline.arrRef spec0) := fun a b h =>
  (by decide +kernel : ∀ a b, Pipeline.arrRef spec0 a = Pipeline.arrRef spec0 b → a = b) a b h

/-- The buffers as the call leaves them. -/
abbrev left : Valuation τ sig (Elt Ideal) := Pipeline.withArrays (cfgs 0).spec c (V0 m c) fun w => (dats m 0 c).arrAt w (cfgs 0).N

/-- The rows of the weights, of the gradients and of the two moments. -/
abbrev rowW : FVec Ideal S1x720x128 .f32 := packed (x0 m c) (x1 m c) (x2 m c) (x3 m c) (x4 m c) (x5 m c) (x6 m c) (x7 m c) (x8 m c) (x9 m c) (x10 m c) (x11 m c) (x12 m c)
abbrev rowG : FVec Ideal S1x720x128 .f32 := packed (x13 m c) (x14 m c) (x15 m c) (x16 m c) (x17 m c) (x18 m c) (x19 m c) (x20 m c) (x21 m c) (x22 m c) (x23 m c) (x24 m c) (x25 m c)
abbrev rowM : FVec Ideal S1x720x128 .f32 := packed (x26 m c) (x27 m c) (x28 m c) (x29 m c) (x30 m c) (x31 m c) (x32 m c) (x33 m c) (x34 m c) (x35 m c) (x36 m c) (x37 m c) (x38 m c)
abbrev rowV : FVec Ideal S1x720x128 .f32 := packed (x39 m c) (x40 m c) (x41 m c) (x42 m c) (x43 m c) (x44 m c) (x45 m c) (x46 m c) (x47 m c) (x48 m c) (x49 m c) (x50 m c) (x51 m c)

theorem left_delta : left m c (Proc.devRef .tc main_v116_1) = fun j => delta (rowW m c j) (rowG m c j) (rowM m c j) (rowV m c j) :=
  ((Pipeline.withArrays_arr spec0 apart c (V0 m c) (fun w => (dats m 0 c).arrAt w (cfgs 0).N) 5).trans (final_delta m c)).trans
    (step_delta (entry0 m c) (entry1 m c) (entry2 m c) (entry3 m c))

theorem left_mean : left m c (Proc.devRef .tc main_v116_2) = fun j => mean (rowG m c j) (rowM m c j) :=
  ((Pipeline.withArrays_arr spec0 apart c (V0 m c) (fun w => (dats m 0 c).arrAt w (cfgs 0).N) 6).trans (final_mean m c)).trans
    (step_mean (entry1 m c) (entry2 m c))

theorem left_spread : left m c (Proc.devRef .tc main_v116_3) = fun j => spread (rowG m c j) (rowV m c j) :=
  ((Pipeline.withArrays_arr spec0 apart c (V0 m c) (fun w => (dats m 0 c).arrAt w (cfgs 0).N) 7).trans (final_spread m c)).trans
    (step_spread (entry1 m c) (entry3 m c))

theorem end_delta0 : Pipeline.afterTail₀ cfgs (dats m) 0 (V0 m) [hostOps1] c main_v119 = (fun j => delta (x0 m c j) (x13 m c j) (x26 m c j) (x39 m c j)) :=
  (tail0_0 (left m c)).trans <| (congrArg part0 (left_delta m c)).trans <|
    (cut0 (fun w g n v => delta w g n v) (rowW m c) (rowG m c) (rowM m c) (rowV m c)).trans (step_delta (part0_packed _ _ _ _ _ _ _ _ _ _ _ _ _) (part0_packed _ _ _ _ _ _ _ _ _ _ _ _ _) (part0_packed _ _ _ _ _ _ _ _ _ _ _ _ _) (part0_packed _ _ _ _ _ _ _ _ _ _ _ _ _))

theorem end_delta1 : Pipeline.afterTail₀ cfgs (dats m) 0 (V0 m) [hostOps1] c main_v121 = (fun j => delta (x1 m c j) (x14 m c j) (x27 m c j) (x40 m c j)) :=
  (tail0_1 (left m c)).trans <| (congrArg part1 (left_delta m c)).trans <|
    (cut1 (fun w g n v => delta w g n v) (rowW m c) (rowG m c) (rowM m c) (rowV m c)).trans (step_delta (part1_packed _ _ _ _ _ _ _ _ _ _ _ _ _) (part1_packed _ _ _ _ _ _ _ _ _ _ _ _ _) (part1_packed _ _ _ _ _ _ _ _ _ _ _ _ _) (part1_packed _ _ _ _ _ _ _ _ _ _ _ _ _))

theorem end_delta2 : Pipeline.afterTail₀ cfgs (dats m) 0 (V0 m) [hostOps1] c main_v122 = (fun j => delta (x2 m c j) (x15 m c j) (x28 m c j) (x41 m c j)) :=
  (tail0_2 (left m c)).trans <| (congrArg part2 (left_delta m c)).trans <|
    (cut2 (fun w g n v => delta w g n v) (rowW m c) (rowG m c) (rowM m c) (rowV m c)).trans (step_delta (part2_packed _ _ _ _ _ _ _ _ _ _ _ _ _) (part2_packed _ _ _ _ _ _ _ _ _ _ _ _ _) (part2_packed _ _ _ _ _ _ _ _ _ _ _ _ _) (part2_packed _ _ _ _ _ _ _ _ _ _ _ _ _))

theorem end_delta3 : Pipeline.afterTail₀ cfgs (dats m) 0 (V0 m) [hostOps1] c main_v124 = (fun j => delta (x3 m c j) (x16 m c j) (x29 m c j) (x42 m c j)) :=
  (tail0_3 (left m c)).trans <| (congrArg part3 (left_delta m c)).trans <|
    (cut3 (fun w g n v => delta w g n v) (rowW m c) (rowG m c) (rowM m c) (rowV m c)).trans (step_delta (part3_packed _ _ _ _ _ _ _ _ _ _ _ _ _) (part3_packed _ _ _ _ _ _ _ _ _ _ _ _ _) (part3_packed _ _ _ _ _ _ _ _ _ _ _ _ _) (part3_packed _ _ _ _ _ _ _ _ _ _ _ _ _))

theorem end_delta4 : Pipeline.afterTail₀ cfgs (dats m) 0 (V0 m) [hostOps1] c main_v126 = (fun j => delta (x4 m c j) (x17 m c j) (x30 m c j) (x43 m c j)) :=
  (tail0_4 (left m c)).trans <| (congrArg part4 (left_delta m c)).trans <|
    (cut4 (fun w g n v => delta w g n v) (rowW m c) (rowG m c) (rowM m c) (rowV m c)).trans (step_delta (part4_packed _ _ _ _ _ _ _ _ _ _ _ _ _) (part4_packed _ _ _ _ _ _ _ _ _ _ _ _ _) (part4_packed _ _ _ _ _ _ _ _ _ _ _ _ _) (part4_packed _ _ _ _ _ _ _ _ _ _ _ _ _))

theorem end_delta5 : Pipeline.afterTail₀ cfgs (dats m) 0 (V0 m) [hostOps1] c main_v128 = (fun j => delta (x5 m c j) (x18 m c j) (x31 m c j) (x44 m c j)) :=
  (tail0_5 (left m c)).trans <| (congrArg part5 (left_delta m c)).trans <|
    (cut5 (fun w g n v => delta w g n v) (rowW m c) (rowG m c) (rowM m c) (rowV m c)).trans (step_delta (part5_packed _ _ _ _ _ _ _ _ _ _ _ _ _) (part5_packed _ _ _ _ _ _ _ _ _ _ _ _ _) (part5_packed _ _ _ _ _ _ _ _ _ _ _ _ _) (part5_packed _ _ _ _ _ _ _ _ _ _ _ _ _))

theorem end_delta6 : Pipeline.afterTail₀ cfgs (dats m) 0 (V0 m) [hostOps1] c main_v130 = (fun j => delta (x6 m c j) (x19 m c j) (x32 m c j) (x45 m c j)) :=
  (tail0_6 (left m c)).trans <| (congrArg part6 (left_delta m c)).trans <|
    (cut6 (fun w g n v => delta w g n v) (rowW m c) (rowG m c) (rowM m c) (rowV m c)).trans (step_delta (part6_packed _ _ _ _ _ _ _ _ _ _ _ _ _) (part6_packed _ _ _ _ _ _ _ _ _ _ _ _ _) (part6_packed _ _ _ _ _ _ _ _ _ _ _ _ _) (part6_packed _ _ _ _ _ _ _ _ _ _ _ _ _))

theorem end_delta7 : Pipeline.afterTail₀ cfgs (dats m) 0 (V0 m) [hostOps1] c main_v132 = (fun j => delta (x7 m c j) (x20 m c j) (x33 m c j) (x46 m c j)) :=
  (tail0_7 (left m c)).trans <| (congrArg part7 (left_delta m c)).trans <|
    (cut7 (fun w g n v => delta w g n v) (rowW m c) (rowG m c) (rowM m c) (rowV m c)).trans (step_delta (part7_packed _ _ _ _ _ _ _ _ _ _ _ _ _) (part7_packed _ _ _ _ _ _ _ _ _ _ _ _ _) (part7_packed _ _ _ _ _ _ _ _ _ _ _ _ _) (part7_packed _ _ _ _ _ _ _ _ _ _ _ _ _))

theorem end_delta8 : Pipeline.afterTail₀ cfgs (dats m) 0 (V0 m) [hostOps1] c main_v134 = (fun j => delta (x8 m c j) (x21 m c j) (x34 m c j) (x47 m c j)) :=
  (tail0_8 (left m c)).trans <| (congrArg part8 (left_delta m c)).trans <|
    (cut8 (fun w g n v => delta w g n v) (rowW m c) (rowG m c) (rowM m c) (rowV m c)).trans (step_delta (part8_packed _ _ _ _ _ _ _ _ _ _ _ _ _) (part8_packed _ _ _ _ _ _ _ _ _ _ _ _ _) (part8_packed _ _ _ _ _ _ _ _ _ _ _ _ _) (part8_packed _ _ _ _ _ _ _ _ _ _ _ _ _))

theorem end_delta9 : Pipeline.afterTail₀ cfgs (dats m) 0 (V0 m) [hostOps1] c main_v136 = (fun j => delta (x9 m c j) (x22 m c j) (x35 m c j) (x48 m c j)) :=
  (tail0_9 (left m c)).trans <| (congrArg part9 (left_delta m c)).trans <|
    (cut9 (fun w g n v => delta w g n v) (rowW m c) (rowG m c) (rowM m c) (rowV m c)).trans (step_delta (part9_packed _ _ _ _ _ _ _ _ _ _ _ _ _) (part9_packed _ _ _ _ _ _ _ _ _ _ _ _ _) (part9_packed _ _ _ _ _ _ _ _ _ _ _ _ _) (part9_packed _ _ _ _ _ _ _ _ _ _ _ _ _))

theorem end_delta10 : Pipeline.afterTail₀ cfgs (dats m) 0 (V0 m) [hostOps1] c main_v138 = (fun j => delta (x10 m c j) (x23 m c j) (x36 m c j) (x49 m c j)) :=
  (tail0_10 (left m c)).trans <| (congrArg part10 (left_delta m c)).trans <|
    (cut10 (fun w g n v => delta w g n v) (rowW m c) (rowG m c) (rowM m c) (rowV m c)).trans (step_delta (part10_packed _ _ _ _ _ _ _ _ _ _ _ _ _) (part10_packed _ _ _ _ _ _ _ _ _ _ _ _ _) (part10_packed _ _ _ _ _ _ _ _ _ _ _ _ _) (part10_packed _ _ _ _ _ _ _ _ _ _ _ _ _))

theorem end_delta11 : Pipeline.afterTail₀ cfgs (dats m) 0 (V0 m) [hostOps1] c main_v140 = (fun j => delta (x11 m c j) (x24 m c j) (x37 m c j) (x50 m c j)) :=
  (tail0_11 (left m c)).trans <| (congrArg part11 (left_delta m c)).trans <|
    (cut11 (fun w g n v => delta w g n v) (rowW m c) (rowG m c) (rowM m c) (rowV m c)).trans (step_delta (part11_packed _ _ _ _ _ _ _ _ _ _ _ _ _) (part11_packed _ _ _ _ _ _ _ _ _ _ _ _ _) (part11_packed _ _ _ _ _ _ _ _ _ _ _ _ _) (part11_packed _ _ _ _ _ _ _ _ _ _ _ _ _))

theorem end_delta12 : Pipeline.afterTail₀ cfgs (dats m) 0 (V0 m) [hostOps1] c main_v142 = (fun j => delta (x12 m c j) (x25 m c j) (x38 m c j) (x51 m c j)) :=
  (tail0_12 (left m c)).trans <| (congrArg part12 (left_delta m c)).trans <|
    (cut12 (fun w g n v => delta w g n v) (rowW m c) (rowG m c) (rowM m c) (rowV m c)).trans (step_delta (part12_packed _ _ _ _ _ _ _ _ _ _ _ _ _) (part12_packed _ _ _ _ _ _ _ _ _ _ _ _ _) (part12_packed _ _ _ _ _ _ _ _ _ _ _ _ _) (part12_packed _ _ _ _ _ _ _ _ _ _ _ _ _))

theorem end_mean0 : Pipeline.afterTail₀ cfgs (dats m) 0 (V0 m) [hostOps1] c main_v145 = (fun j => mean (x13 m c j) (x26 m c j)) :=
  (tail1_0 (left m c)).trans <| (congrArg part0 (left_mean m c)).trans <|
    (cut0 (fun _ g n _ => mean g n) (rowW m c) (rowG m c) (rowM m c) (rowV m c)).trans (step_mean (part0_packed _ _ _ _ _ _ _ _ _ _ _ _ _) (part0_packed _ _ _ _ _ _ _ _ _ _ _ _ _))

theorem end_mean1 : Pipeline.afterTail₀ cfgs (dats m) 0 (V0 m) [hostOps1] c main_v147 = (fun j => mean (x14 m c j) (x27 m c j)) :=
  (tail1_1 (left m c)).trans <| (congrArg part1 (left_mean m c)).trans <|
    (cut1 (fun _ g n _ => mean g n) (rowW m c) (rowG m c) (rowM m c) (rowV m c)).trans (step_mean (part1_packed _ _ _ _ _ _ _ _ _ _ _ _ _) (part1_packed _ _ _ _ _ _ _ _ _ _ _ _ _))

theorem end_mean2 : Pipeline.afterTail₀ cfgs (dats m) 0 (V0 m) [hostOps1] c main_v148 = (fun j => mean (x15 m c j) (x28 m c j)) :=
  (tail1_2 (left m c)).trans <| (congrArg part2 (left_mean m c)).trans <|
    (cut2 (fun _ g n _ => mean g n) (rowW m c) (rowG m c) (rowM m c) (rowV m c)).trans (step_mean (part2_packed _ _ _ _ _ _ _ _ _ _ _ _ _) (part2_packed _ _ _ _ _ _ _ _ _ _ _ _ _))

theorem end_mean3 : Pipeline.afterTail₀ cfgs (dats m) 0 (V0 m) [hostOps1] c main_v150 = (fun j => mean (x16 m c j) (x29 m c j)) :=
  (tail1_3 (left m c)).trans <| (congrArg part3 (left_mean m c)).trans <|
    (cut3 (fun _ g n _ => mean g n) (rowW m c) (rowG m c) (rowM m c) (rowV m c)).trans (step_mean (part3_packed _ _ _ _ _ _ _ _ _ _ _ _ _) (part3_packed _ _ _ _ _ _ _ _ _ _ _ _ _))

theorem end_mean4 : Pipeline.afterTail₀ cfgs (dats m) 0 (V0 m) [hostOps1] c main_v152 = (fun j => mean (x17 m c j) (x30 m c j)) :=
  (tail1_4 (left m c)).trans <| (congrArg part4 (left_mean m c)).trans <|
    (cut4 (fun _ g n _ => mean g n) (rowW m c) (rowG m c) (rowM m c) (rowV m c)).trans (step_mean (part4_packed _ _ _ _ _ _ _ _ _ _ _ _ _) (part4_packed _ _ _ _ _ _ _ _ _ _ _ _ _))

theorem end_mean5 : Pipeline.afterTail₀ cfgs (dats m) 0 (V0 m) [hostOps1] c main_v154 = (fun j => mean (x18 m c j) (x31 m c j)) :=
  (tail1_5 (left m c)).trans <| (congrArg part5 (left_mean m c)).trans <|
    (cut5 (fun _ g n _ => mean g n) (rowW m c) (rowG m c) (rowM m c) (rowV m c)).trans (step_mean (part5_packed _ _ _ _ _ _ _ _ _ _ _ _ _) (part5_packed _ _ _ _ _ _ _ _ _ _ _ _ _))

theorem end_mean6 : Pipeline.afterTail₀ cfgs (dats m) 0 (V0 m) [hostOps1] c main_v156 = (fun j => mean (x19 m c j) (x32 m c j)) :=
  (tail1_6 (left m c)).trans <| (congrArg part6 (left_mean m c)).trans <|
    (cut6 (fun _ g n _ => mean g n) (rowW m c) (rowG m c) (rowM m c) (rowV m c)).trans (step_mean (part6_packed _ _ _ _ _ _ _ _ _ _ _ _ _) (part6_packed _ _ _ _ _ _ _ _ _ _ _ _ _))

theorem end_mean7 : Pipeline.afterTail₀ cfgs (dats m) 0 (V0 m) [hostOps1] c main_v158 = (fun j => mean (x20 m c j) (x33 m c j)) :=
  (tail1_7 (left m c)).trans <| (congrArg part7 (left_mean m c)).trans <|
    (cut7 (fun _ g n _ => mean g n) (rowW m c) (rowG m c) (rowM m c) (rowV m c)).trans (step_mean (part7_packed _ _ _ _ _ _ _ _ _ _ _ _ _) (part7_packed _ _ _ _ _ _ _ _ _ _ _ _ _))

theorem end_mean8 : Pipeline.afterTail₀ cfgs (dats m) 0 (V0 m) [hostOps1] c main_v160 = (fun j => mean (x21 m c j) (x34 m c j)) :=
  (tail1_8 (left m c)).trans <| (congrArg part8 (left_mean m c)).trans <|
    (cut8 (fun _ g n _ => mean g n) (rowW m c) (rowG m c) (rowM m c) (rowV m c)).trans (step_mean (part8_packed _ _ _ _ _ _ _ _ _ _ _ _ _) (part8_packed _ _ _ _ _ _ _ _ _ _ _ _ _))

theorem end_mean9 : Pipeline.afterTail₀ cfgs (dats m) 0 (V0 m) [hostOps1] c main_v162 = (fun j => mean (x22 m c j) (x35 m c j)) :=
  (tail1_9 (left m c)).trans <| (congrArg part9 (left_mean m c)).trans <|
    (cut9 (fun _ g n _ => mean g n) (rowW m c) (rowG m c) (rowM m c) (rowV m c)).trans (step_mean (part9_packed _ _ _ _ _ _ _ _ _ _ _ _ _) (part9_packed _ _ _ _ _ _ _ _ _ _ _ _ _))

theorem end_mean10 : Pipeline.afterTail₀ cfgs (dats m) 0 (V0 m) [hostOps1] c main_v164 = (fun j => mean (x23 m c j) (x36 m c j)) :=
  (tail1_10 (left m c)).trans <| (congrArg part10 (left_mean m c)).trans <|
    (cut10 (fun _ g n _ => mean g n) (rowW m c) (rowG m c) (rowM m c) (rowV m c)).trans (step_mean (part10_packed _ _ _ _ _ _ _ _ _ _ _ _ _) (part10_packed _ _ _ _ _ _ _ _ _ _ _ _ _))

theorem end_mean11 : Pipeline.afterTail₀ cfgs (dats m) 0 (V0 m) [hostOps1] c main_v166 = (fun j => mean (x24 m c j) (x37 m c j)) :=
  (tail1_11 (left m c)).trans <| (congrArg part11 (left_mean m c)).trans <|
    (cut11 (fun _ g n _ => mean g n) (rowW m c) (rowG m c) (rowM m c) (rowV m c)).trans (step_mean (part11_packed _ _ _ _ _ _ _ _ _ _ _ _ _) (part11_packed _ _ _ _ _ _ _ _ _ _ _ _ _))

theorem end_mean12 : Pipeline.afterTail₀ cfgs (dats m) 0 (V0 m) [hostOps1] c main_v168 = (fun j => mean (x25 m c j) (x38 m c j)) :=
  (tail1_12 (left m c)).trans <| (congrArg part12 (left_mean m c)).trans <|
    (cut12 (fun _ g n _ => mean g n) (rowW m c) (rowG m c) (rowM m c) (rowV m c)).trans (step_mean (part12_packed _ _ _ _ _ _ _ _ _ _ _ _ _) (part12_packed _ _ _ _ _ _ _ _ _ _ _ _ _))

theorem end_spread0 : Pipeline.afterTail₀ cfgs (dats m) 0 (V0 m) [hostOps1] c main_v171 = (fun j => spread (x13 m c j) (x39 m c j)) :=
  (tail2_0 (left m c)).trans <| (congrArg part0 (left_spread m c)).trans <|
    (cut0 (fun _ g _ v => spread g v) (rowW m c) (rowG m c) (rowM m c) (rowV m c)).trans (step_spread (part0_packed _ _ _ _ _ _ _ _ _ _ _ _ _) (part0_packed _ _ _ _ _ _ _ _ _ _ _ _ _))

theorem end_spread1 : Pipeline.afterTail₀ cfgs (dats m) 0 (V0 m) [hostOps1] c main_v173 = (fun j => spread (x14 m c j) (x40 m c j)) :=
  (tail2_1 (left m c)).trans <| (congrArg part1 (left_spread m c)).trans <|
    (cut1 (fun _ g _ v => spread g v) (rowW m c) (rowG m c) (rowM m c) (rowV m c)).trans (step_spread (part1_packed _ _ _ _ _ _ _ _ _ _ _ _ _) (part1_packed _ _ _ _ _ _ _ _ _ _ _ _ _))

theorem end_spread2 : Pipeline.afterTail₀ cfgs (dats m) 0 (V0 m) [hostOps1] c main_v174 = (fun j => spread (x15 m c j) (x41 m c j)) :=
  (tail2_2 (left m c)).trans <| (congrArg part2 (left_spread m c)).trans <|
    (cut2 (fun _ g _ v => spread g v) (rowW m c) (rowG m c) (rowM m c) (rowV m c)).trans (step_spread (part2_packed _ _ _ _ _ _ _ _ _ _ _ _ _) (part2_packed _ _ _ _ _ _ _ _ _ _ _ _ _))

theorem end_spread3 : Pipeline.afterTail₀ cfgs (dats m) 0 (V0 m) [hostOps1] c main_v176 = (fun j => spread (x16 m c j) (x42 m c j)) :=
  (tail2_3 (left m c)).trans <| (congrArg part3 (left_spread m c)).trans <|
    (cut3 (fun _ g _ v => spread g v) (rowW m c) (rowG m c) (rowM m c) (rowV m c)).trans (step_spread (part3_packed _ _ _ _ _ _ _ _ _ _ _ _ _) (part3_packed _ _ _ _ _ _ _ _ _ _ _ _ _))

theorem end_spread4 : Pipeline.afterTail₀ cfgs (dats m) 0 (V0 m) [hostOps1] c main_v178 = (fun j => spread (x17 m c j) (x43 m c j)) :=
  (tail2_4 (left m c)).trans <| (congrArg part4 (left_spread m c)).trans <|
    (cut4 (fun _ g _ v => spread g v) (rowW m c) (rowG m c) (rowM m c) (rowV m c)).trans (step_spread (part4_packed _ _ _ _ _ _ _ _ _ _ _ _ _) (part4_packed _ _ _ _ _ _ _ _ _ _ _ _ _))

theorem end_spread5 : Pipeline.afterTail₀ cfgs (dats m) 0 (V0 m) [hostOps1] c main_v180 = (fun j => spread (x18 m c j) (x44 m c j)) :=
  (tail2_5 (left m c)).trans <| (congrArg part5 (left_spread m c)).trans <|
    (cut5 (fun _ g _ v => spread g v) (rowW m c) (rowG m c) (rowM m c) (rowV m c)).trans (step_spread (part5_packed _ _ _ _ _ _ _ _ _ _ _ _ _) (part5_packed _ _ _ _ _ _ _ _ _ _ _ _ _))

theorem end_spread6 : Pipeline.afterTail₀ cfgs (dats m) 0 (V0 m) [hostOps1] c main_v182 = (fun j => spread (x19 m c j) (x45 m c j)) :=
  (tail2_6 (left m c)).trans <| (congrArg part6 (left_spread m c)).trans <|
    (cut6 (fun _ g _ v => spread g v) (rowW m c) (rowG m c) (rowM m c) (rowV m c)).trans (step_spread (part6_packed _ _ _ _ _ _ _ _ _ _ _ _ _) (part6_packed _ _ _ _ _ _ _ _ _ _ _ _ _))

theorem end_spread7 : Pipeline.afterTail₀ cfgs (dats m) 0 (V0 m) [hostOps1] c main_v184 = (fun j => spread (x20 m c j) (x46 m c j)) :=
  (tail2_7 (left m c)).trans <| (congrArg part7 (left_spread m c)).trans <|
    (cut7 (fun _ g _ v => spread g v) (rowW m c) (rowG m c) (rowM m c) (rowV m c)).trans (step_spread (part7_packed _ _ _ _ _ _ _ _ _ _ _ _ _) (part7_packed _ _ _ _ _ _ _ _ _ _ _ _ _))

theorem end_spread8 : Pipeline.afterTail₀ cfgs (dats m) 0 (V0 m) [hostOps1] c main_v186 = (fun j => spread (x21 m c j) (x47 m c j)) :=
  (tail2_8 (left m c)).trans <| (congrArg part8 (left_spread m c)).trans <|
    (cut8 (fun _ g _ v => spread g v) (rowW m c) (rowG m c) (rowM m c) (rowV m c)).trans (step_spread (part8_packed _ _ _ _ _ _ _ _ _ _ _ _ _) (part8_packed _ _ _ _ _ _ _ _ _ _ _ _ _))

theorem end_spread9 : Pipeline.afterTail₀ cfgs (dats m) 0 (V0 m) [hostOps1] c main_v188 = (fun j => spread (x22 m c j) (x48 m c j)) :=
  (tail2_9 (left m c)).trans <| (congrArg part9 (left_spread m c)).trans <|
    (cut9 (fun _ g _ v => spread g v) (rowW m c) (rowG m c) (rowM m c) (rowV m c)).trans (step_spread (part9_packed _ _ _ _ _ _ _ _ _ _ _ _ _) (part9_packed _ _ _ _ _ _ _ _ _ _ _ _ _))

theorem end_spread10 : Pipeline.afterTail₀ cfgs (dats m) 0 (V0 m) [hostOps1] c main_v190 = (fun j => spread (x23 m c j) (x49 m c j)) :=
  (tail2_10 (left m c)).trans <| (congrArg part10 (left_spread m c)).trans <|
    (cut10 (fun _ g _ v => spread g v) (rowW m c) (rowG m c) (rowM m c) (rowV m c)).trans (step_spread (part10_packed _ _ _ _ _ _ _ _ _ _ _ _ _) (part10_packed _ _ _ _ _ _ _ _ _ _ _ _ _))

theorem end_spread11 : Pipeline.afterTail₀ cfgs (dats m) 0 (V0 m) [hostOps1] c main_v192 = (fun j => spread (x24 m c j) (x50 m c j)) :=
  (tail2_11 (left m c)).trans <| (congrArg part11 (left_spread m c)).trans <|
    (cut11 (fun _ g _ v => spread g v) (rowW m c) (rowG m c) (rowM m c) (rowV m c)).trans (step_spread (part11_packed _ _ _ _ _ _ _ _ _ _ _ _ _) (part11_packed _ _ _ _ _ _ _ _ _ _ _ _ _))

theorem end_spread12 : Pipeline.afterTail₀ cfgs (dats m) 0 (V0 m) [hostOps1] c main_v194 = (fun j => spread (x25 m c j) (x51 m c j)) :=
  (tail2_12 (left m c)).trans <| (congrArg part12 (left_spread m c)).trans <|
    (cut12 (fun _ g _ v => spread g v) (rowW m c) (rowG m c) (rowM m c) (rowV m c)).trans (step_spread (part12_packed _ _ _ _ _ _ _ _ _ _ _ _ _) (part12_packed _ _ _ _ _ _ _ _ _ _ _ _ _))

theorem kernel_run (ρ : Dev nD → PrngReg) :
    θ_run defs (onTc (τ := τ) (main (F := Ideal))) ⟨m, fun _ => 0, ρ⟩ fun r => ∀ c : Dev nD,
      r.2.mem ((c.tc : Thread nD τ).loc main_v119) = (fun j => delta (x0 m c j) (x13 m c j) (x26 m c j) (x39 m c j))
      ∧ r.2.mem ((c.tc : Thread nD τ).loc main_v121) = (fun j => delta (x1 m c j) (x14 m c j) (x27 m c j) (x40 m c j))
      ∧ r.2.mem ((c.tc : Thread nD τ).loc main_v122) = (fun j => delta (x2 m c j) (x15 m c j) (x28 m c j) (x41 m c j))
      ∧ r.2.mem ((c.tc : Thread nD τ).loc main_v124) = (fun j => delta (x3 m c j) (x16 m c j) (x29 m c j) (x42 m c j))
      ∧ r.2.mem ((c.tc : Thread nD τ).loc main_v126) = (fun j => delta (x4 m c j) (x17 m c j) (x30 m c j) (x43 m c j))
      ∧ r.2.mem ((c.tc : Thread nD τ).loc main_v128) = (fun j => delta (x5 m c j) (x18 m c j) (x31 m c j) (x44 m c j))
      ∧ r.2.mem ((c.tc : Thread nD τ).loc main_v130) = (fun j => delta (x6 m c j) (x19 m c j) (x32 m c j) (x45 m c j))
      ∧ r.2.mem ((c.tc : Thread nD τ).loc main_v132) = (fun j => delta (x7 m c j) (x20 m c j) (x33 m c j) (x46 m c j))
      ∧ r.2.mem ((c.tc : Thread nD τ).loc main_v134) = (fun j => delta (x8 m c j) (x21 m c j) (x34 m c j) (x47 m c j))
      ∧ r.2.mem ((c.tc : Thread nD τ).loc main_v136) = (fun j => delta (x9 m c j) (x22 m c j) (x35 m c j) (x48 m c j))
      ∧ r.2.mem ((c.tc : Thread nD τ).loc main_v138) = (fun j => delta (x10 m c j) (x23 m c j) (x36 m c j) (x49 m c j))
      ∧ r.2.mem ((c.tc : Thread nD τ).loc main_v140) = (fun j => delta (x11 m c j) (x24 m c j) (x37 m c j) (x50 m c j))
      ∧ r.2.mem ((c.tc : Thread nD τ).loc main_v142) = (fun j => delta (x12 m c j) (x25 m c j) (x38 m c j) (x51 m c j))
      ∧ r.2.mem ((c.tc : Thread nD τ).loc main_v145) = (fun j => mean (x13 m c j) (x26 m c j))
      ∧ r.2.mem ((c.tc : Thread nD τ).loc main_v147) = (fun j => mean (x14 m c j) (x27 m c j))
      ∧ r.2.mem ((c.tc : Thread nD τ).loc main_v148) = (fun j => mean (x15 m c j) (x28 m c j))
      ∧ r.2.mem ((c.tc : Thread nD τ).loc main_v150) = (fun j => mean (x16 m c j) (x29 m c j))
      ∧ r.2.mem ((c.tc : Thread nD τ).loc main_v152) = (fun j => mean (x17 m c j) (x30 m c j))
      ∧ r.2.mem ((c.tc : Thread nD τ).loc main_v154) = (fun j => mean (x18 m c j) (x31 m c j))
      ∧ r.2.mem ((c.tc : Thread nD τ).loc main_v156) = (fun j => mean (x19 m c j) (x32 m c j))
      ∧ r.2.mem ((c.tc : Thread nD τ).loc main_v158) = (fun j => mean (x20 m c j) (x33 m c j))
      ∧ r.2.mem ((c.tc : Thread nD τ).loc main_v160) = (fun j => mean (x21 m c j) (x34 m c j))
      ∧ r.2.mem ((c.tc : Thread nD τ).loc main_v162) = (fun j => mean (x22 m c j) (x35 m c j))
      ∧ r.2.mem ((c.tc : Thread nD τ).loc main_v164) = (fun j => mean (x23 m c j) (x36 m c j))
      ∧ r.2.mem ((c.tc : Thread nD τ).loc main_v166) = (fun j => mean (x24 m c j) (x37 m c j))
      ∧ r.2.mem ((c.tc : Thread nD τ).loc main_v168) = (fun j => mean (x25 m c j) (x38 m c j))
      ∧ r.2.mem ((c.tc : Thread nD τ).loc main_v171) = (fun j => spread (x13 m c j) (x39 m c j))
      ∧ r.2.mem ((c.tc : Thread nD τ).loc main_v173) = (fun j => spread (x14 m c j) (x40 m c j))
      ∧ r.2.mem ((c.tc : Thread nD τ).loc main_v174) = (fun j => spread (x15 m c j) (x41 m c j))
      ∧ r.2.mem ((c.tc : Thread nD τ).loc main_v176) = (fun j => spread (x16 m c j) (x42 m c j))
      ∧ r.2.mem ((c.tc : Thread nD τ).loc main_v178) = (fun j => spread (x17 m c j) (x43 m c j))
      ∧ r.2.mem ((c.tc : Thread nD τ).loc main_v180) = (fun j => spread (x18 m c j) (x44 m c j))
      ∧ r.2.mem ((c.tc : Thread nD τ).loc main_v182) = (fun j => spread (x19 m c j) (x45 m c j))
      ∧ r.2.mem ((c.tc : Thread nD τ).loc main_v184) = (fun j => spread (x20 m c j) (x46 m c j))
      ∧ r.2.mem ((c.tc : Thread nD τ).loc main_v186) = (fun j => spread (x21 m c j) (x47 m c j))
      ∧ r.2.mem ((c.tc : Thread nD τ).loc main_v188) = (fun j => spread (x22 m c j) (x48 m c j))
      ∧ r.2.mem ((c.tc : Thread nD τ).loc main_v190) = (fun j => spread (x23 m c j) (x49 m c j))
      ∧ r.2.mem ((c.tc : Thread nD τ).loc main_v192) = (fun j => spread (x24 m c j) (x50 m c j))
      ∧ r.2.mem ((c.tc : Thread nD τ).loc main_v194) = (fun j => spread (x25 m c j) (x51 m c j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51) := by
  refine (θ_run defs _ _).mono (fun r h c => ?_) (run_main m ρ)
  exact ⟨((h c).2 main_v119 (Pipeline.mem_restRefs_of main_v119 (by decide) (by decide))).trans (end_delta0 m c),
    ((h c).2 main_v121 (Pipeline.mem_restRefs_of main_v121 (by decide) (by decide))).trans (end_delta1 m c),
    ((h c).2 main_v122 (Pipeline.mem_restRefs_of main_v122 (by decide) (by decide))).trans (end_delta2 m c),
    ((h c).2 main_v124 (Pipeline.mem_restRefs_of main_v124 (by decide) (by decide))).trans (end_delta3 m c),
    ((h c).2 main_v126 (Pipeline.mem_restRefs_of main_v126 (by decide) (by decide))).trans (end_delta4 m c),
    ((h c).2 main_v128 (Pipeline.mem_restRefs_of main_v128 (by decide) (by decide))).trans (end_delta5 m c),
    ((h c).2 main_v130 (Pipeline.mem_restRefs_of main_v130 (by decide) (by decide))).trans (end_delta6 m c),
    ((h c).2 main_v132 (Pipeline.mem_restRefs_of main_v132 (by decide) (by decide))).trans (end_delta7 m c),
    ((h c).2 main_v134 (Pipeline.mem_restRefs_of main_v134 (by decide) (by decide))).trans (end_delta8 m c),
    ((h c).2 main_v136 (Pipeline.mem_restRefs_of main_v136 (by decide) (by decide))).trans (end_delta9 m c),
    ((h c).2 main_v138 (Pipeline.mem_restRefs_of main_v138 (by decide) (by decide))).trans (end_delta10 m c),
    ((h c).2 main_v140 (Pipeline.mem_restRefs_of main_v140 (by decide) (by decide))).trans (end_delta11 m c),
    ((h c).2 main_v142 (Pipeline.mem_restRefs_of main_v142 (by decide) (by decide))).trans (end_delta12 m c),
    ((h c).2 main_v145 (Pipeline.mem_restRefs_of main_v145 (by decide) (by decide))).trans (end_mean0 m c),
    ((h c).2 main_v147 (Pipeline.mem_restRefs_of main_v147 (by decide) (by decide))).trans (end_mean1 m c),
    ((h c).2 main_v148 (Pipeline.mem_restRefs_of main_v148 (by decide) (by decide))).trans (end_mean2 m c),
    ((h c).2 main_v150 (Pipeline.mem_restRefs_of main_v150 (by decide) (by decide))).trans (end_mean3 m c),
    ((h c).2 main_v152 (Pipeline.mem_restRefs_of main_v152 (by decide) (by decide))).trans (end_mean4 m c),
    ((h c).2 main_v154 (Pipeline.mem_restRefs_of main_v154 (by decide) (by decide))).trans (end_mean5 m c),
    ((h c).2 main_v156 (Pipeline.mem_restRefs_of main_v156 (by decide) (by decide))).trans (end_mean6 m c),
    ((h c).2 main_v158 (Pipeline.mem_restRefs_of main_v158 (by decide) (by decide))).trans (end_mean7 m c),
    ((h c).2 main_v160 (Pipeline.mem_restRefs_of main_v160 (by decide) (by decide))).trans (end_mean8 m c),
    ((h c).2 main_v162 (Pipeline.mem_restRefs_of main_v162 (by decide) (by decide))).trans (end_mean9 m c),
    ((h c).2 main_v164 (Pipeline.mem_restRefs_of main_v164 (by decide) (by decide))).trans (end_mean10 m c),
    ((h c).2 main_v166 (Pipeline.mem_restRefs_of main_v166 (by decide) (by decide))).trans (end_mean11 m c),
    ((h c).2 main_v168 (Pipeline.mem_restRefs_of main_v168 (by decide) (by decide))).trans (end_mean12 m c),
    ((h c).2 main_v171 (Pipeline.mem_restRefs_of main_v171 (by decide) (by decide))).trans (end_spread0 m c),
    ((h c).2 main_v173 (Pipeline.mem_restRefs_of main_v173 (by decide) (by decide))).trans (end_spread1 m c),
    ((h c).2 main_v174 (Pipeline.mem_restRefs_of main_v174 (by decide) (by decide))).trans (end_spread2 m c),
    ((h c).2 main_v176 (Pipeline.mem_restRefs_of main_v176 (by decide) (by decide))).trans (end_spread3 m c),
    ((h c).2 main_v178 (Pipeline.mem_restRefs_of main_v178 (by decide) (by decide))).trans (end_spread4 m c),
    ((h c).2 main_v180 (Pipeline.mem_restRefs_of main_v180 (by decide) (by decide))).trans (end_spread5 m c),
    ((h c).2 main_v182 (Pipeline.mem_restRefs_of main_v182 (by decide) (by decide))).trans (end_spread6 m c),
    ((h c).2 main_v184 (Pipeline.mem_restRefs_of main_v184 (by decide) (by decide))).trans (end_spread7 m c),
    ((h c).2 main_v186 (Pipeline.mem_restRefs_of main_v186 (by decide) (by decide))).trans (end_spread8 m c),
    ((h c).2 main_v188 (Pipeline.mem_restRefs_of main_v188 (by decide) (by decide))).trans (end_spread9 m c),
    ((h c).2 main_v190 (Pipeline.mem_restRefs_of main_v190 (by decide) (by decide))).trans (end_spread10 m c),
    ((h c).2 main_v192 (Pipeline.mem_restRefs_of main_v192 (by decide) (by decide))).trans (end_spread11 m c),
    ((h c).2 main_v194 (Pipeline.mem_restRefs_of main_v194 (by decide) (by decide))).trans (end_spread12 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c),
    ((h c).2 main_arg20 (Pipeline.mem_restRefs_of main_arg20 (by decide) (by decide))).trans (W_main_arg20 m (dats m) c),
    ((h c).2 main_arg21 (Pipeline.mem_restRefs_of main_arg21 (by decide) (by decide))).trans (W_main_arg21 m (dats m) c),
    ((h c).2 main_arg22 (Pipeline.mem_restRefs_of main_arg22 (by decide) (by decide))).trans (W_main_arg22 m (dats m) c),
    ((h c).2 main_arg23 (Pipeline.mem_restRefs_of main_arg23 (by decide) (by decide))).trans (W_main_arg23 m (dats m) c),
    ((h c).2 main_arg24 (Pipeline.mem_restRefs_of main_arg24 (by decide) (by decide))).trans (W_main_arg24 m (dats m) c),
    ((h c).2 main_arg25 (Pipeline.mem_restRefs_of main_arg25 (by decide) (by decide))).trans (W_main_arg25 m (dats m) c),
    ((h c).2 main_arg26 (Pipeline.mem_restRefs_of main_arg26 (by decide) (by decide))).trans (W_main_arg26 m (dats m) c),
    ((h c).2 main_arg27 (Pipeline.mem_restRefs_of main_arg27 (by decide) (by decide))).trans (W_main_arg27 m (dats m) c),
    ((h c).2 main_arg28 (Pipeline.mem_restRefs_of main_arg28 (by decide) (by decide))).trans (W_main_arg28 m (dats m) c),
    ((h c).2 main_arg29 (Pipeline.mem_restRefs_of main_arg29 (by decide) (by decide))).trans (W_main_arg29 m (dats m) c),
    ((h c).2 main_arg30 (Pipeline.mem_restRefs_of main_arg30 (by decide) (by decide))).trans (W_main_arg30 m (dats m) c),
    ((h c).2 main_arg31 (Pipeline.mem_restRefs_of main_arg31 (by decide) (by decide))).trans (W_main_arg31 m (dats m) c),
    ((h c).2 main_arg32 (Pipeline.mem_restRefs_of main_arg32 (by decide) (by decide))).trans (W_main_arg32 m (dats m) c),
    ((h c).2 main_arg33 (Pipeline.mem_restRefs_of main_arg33 (by decide) (by decide))).trans (W_main_arg33 m (dats m) c),
    ((h c).2 main_arg34 (Pipeline.mem_restRefs_of main_arg34 (by decide) (by decide))).trans (W_main_arg34 m (dats m) c),
    ((h c).2 main_arg35 (Pipeline.mem_restRefs_of main_arg35 (by decide) (by decide))).trans (W_main_arg35 m (dats m) c),
    ((h c).2 main_arg36 (Pipeline.mem_restRefs_of main_arg36 (by decide) (by decide))).trans (W_main_arg36 m (dats m) c),
    ((h c).2 main_arg37 (Pipeline.mem_restRefs_of main_arg37 (by decide) (by decide))).trans (W_main_arg37 m (dats m) c),
    ((h c).2 main_arg38 (Pipeline.mem_restRefs_of main_arg38 (by decide) (by decide))).trans (W_main_arg38 m (dats m) c),
    ((h c).2 main_arg39 (Pipeline.mem_restRefs_of main_arg39 (by decide) (by decide))).trans (W_main_arg39 m (dats m) c),
    ((h c).2 main_arg40 (Pipeline.mem_restRefs_of main_arg40 (by decide) (by decide))).trans (W_main_arg40 m (dats m) c),
    ((h c).2 main_arg41 (Pipeline.mem_restRefs_of main_arg41 (by decide) (by decide))).trans (W_main_arg41 m (dats m) c),
    ((h c).2 main_arg42 (Pipeline.mem_restRefs_of main_arg42 (by decide) (by decide))).trans (W_main_arg42 m (dats m) c),
    ((h c).2 main_arg43 (Pipeline.mem_restRefs_of main_arg43 (by decide) (by decide))).trans (W_main_arg43 m (dats m) c),
    ((h c).2 main_arg44 (Pipeline.mem_restRefs_of main_arg44 (by decide) (by decide))).trans (W_main_arg44 m (dats m) c),
    ((h c).2 main_arg45 (Pipeline.mem_restRefs_of main_arg45 (by decide) (by decide))).trans (W_main_arg45 m (dats m) c),
    ((h c).2 main_arg46 (Pipeline.mem_restRefs_of main_arg46 (by decide) (by decide))).trans (W_main_arg46 m (dats m) c),
    ((h c).2 main_arg47 (Pipeline.mem_restRefs_of main_arg47 (by decide) (by decide))).trans (W_main_arg47 m (dats m) c),
    ((h c).2 main_arg48 (Pipeline.mem_restRefs_of main_arg48 (by decide) (by decide))).trans (W_main_arg48 m (dats m) c),
    ((h c).2 main_arg49 (Pipeline.mem_restRefs_of main_arg49 (by decide) (by decide))).trans (W_main_arg49 m (dats m) c),
    ((h c).2 main_arg50 (Pipeline.mem_restRefs_of main_arg50 (by decide) (by decide))).trans (W_main_arg50 m (dats m) c),
    ((h c).2 main_arg51 (Pipeline.mem_restRefs_of main_arg51 (by decide) (by decide))).trans (W_main_arg51 m (dats m) c)⟩

end Cert.SmallKernelIdeal.Mix

end
-- ==== Proof.SmallRef.lean ====
/- The run of the reference for the small weights, its results entry by entry. -/
module

public import proofs.«01_k».proof.Proof.Gen.SmallReferenceIdeal.Run
public import proofs.«01_k».proof.Proof.SmallStep

@[expose] public section
set_option maxRecDepth 16384
noncomputable section
open Idealize.ShloMosaic Idealize.ShloMosaic.TcCoe Idealize.SL.Sem

namespace Cert.SmallReferenceIdeal.Mix
open Cert.SmallReferenceIdeal Cert.SmallReferenceIdeal.Gen Cert.Adam
variable (m : (ℓ : Loc nD τ sig) → Buf (Elt Ideal) ℓ) (c : Dev nD)

/-- The fifty-two arguments on core `c`: the weights, their gradients, their first and their second moments. -/
abbrev y0 : FVec Ideal S2x1024 .f32 := m ((c : Thread nD τ).loc main_arg0)
abbrev y1 : FVec Ideal S2x1024 .f32 := m ((c : Thread nD τ).loc main_arg1)
abbrev y2 : FVec Ideal S1024 .f32 := m ((c : Thread nD τ).loc main_arg2)
abbrev y3 : FVec Ideal S1x512 .f32 := m ((c : Thread nD τ).loc main_arg3)
abbrev y4 : FVec Ideal S1x512 .f32 := m ((c : Thread nD τ).loc main_arg4)
abbrev y5 : FVec Ideal S1x4x128x128 .f32 := m ((c : Thread nD τ).loc main_arg5)
abbrev y6 : FVec Ideal S1x4x128 .f32 := m ((c : Thread nD τ).loc main_arg6)
abbrev y7 : FVec Ideal S1x512 .f32 := m ((c : Thread nD τ).loc main_arg7)
abbrev y8 : FVec Ideal S1x512 .f32 := m ((c : Thread nD τ).loc main_arg8)
abbrev y9 : FVec Ideal S1x512 .f32 := m ((c : Thread nD τ).loc main_arg9)
abbrev y10 : FVec Ideal S1x31x128 .f32 := m ((c : Thread nD τ).loc main_arg10)
abbrev y11 : FVec Ideal S1x3x256 .f32 := m ((c : Thread nD τ).loc main_arg11)
abbrev y12 : FVec Ideal S2x3x1408 .f32 := m ((c : Thread nD τ).loc main_arg12)
abbrev y13 : FVec Ideal S2x1024 .f32 := m ((c : Thread nD τ).loc main_arg13)
abbrev y14 : FVec Ideal S2x1024 .f32 := m ((c : Thread nD τ).loc main_arg14)
abbrev y15 : FVec Ideal S1024 .f32 := m ((c : Thread nD τ).loc main_arg15)
abbrev y16 : FVec Ideal S1x512 .f32 := m ((c : Thread nD τ).loc main_arg16)
abbrev y17 : FVec Ideal S1x512 .f32 := m ((c : Thread nD τ).loc main_arg17)
abbrev y18 : FVec Ideal S1x4x128x128 .f32 := m ((c : Thread nD τ).loc main_arg18)
abbrev y19 : FVec Ideal S1x4x128 .f32 := m ((c : Thread nD τ).loc main_arg19)
abbrev y20 : FVec Ideal S1x512 .f32 := m ((c : Thread nD τ).loc main_arg20)
abbrev y21 : FVec Ideal S1x512 .f32 := m ((c : Thread nD τ).loc main_arg21)
abbrev y22 : FVec Ideal S1x512 .f32 := m ((c : Thread nD τ).loc main_arg22)
abbrev y23 : FVec Ideal S1x31x128 .f32 := m ((c : Thread nD τ).loc main_arg23)
abbrev y24 : FVec Ideal S1x3x256 .f32 := m ((c : Thread nD τ).loc main_arg24)
abbrev y25 : FVec Ideal S2x3x1408 .f32 := m ((c : Thread nD τ).loc main_arg25)
abbrev y26 : FVec Ideal S2x1024 .f32 := m ((c : Thread nD τ).loc main_arg26)
abbrev y27 : FVec Ideal S2x1024 .f32 := m ((c : Thread nD τ).loc main_arg27)
abbrev y28 : FVec Ideal S1024 .f32 := m ((c : Thread nD τ).loc main_arg28)
abbrev y29 : FVec Ideal S1x512 .f32 := m ((c : Thread nD τ).loc main_arg29)
abbrev y30 : FVec Ideal S1x512 .f32 := m ((c : Thread nD τ).loc main_arg30)
abbrev y31 : FVec Ideal S1x4x128x128 .f32 := m ((c : Thread nD τ).loc main_arg31)
abbrev y32 : FVec Ideal S1x4x128 .f32 := m ((c : Thread nD τ).loc main_arg32)
abbrev y33 : FVec Ideal S1x512 .f32 := m ((c : Thread nD τ).loc main_arg33)
abbrev y34 : FVec Ideal S1x512 .f32 := m ((c : Thread nD τ).loc main_arg34)
abbrev y35 : FVec Ideal S1x512 .f32 := m ((c : Thread nD τ).loc main_arg35)
abbrev y36 : FVec Ideal S1x31x128 .f32 := m ((c : Thread nD τ).loc main_arg36)
abbrev y37 : FVec Ideal S1x3x256 .f32 := m ((c : Thread nD τ).loc main_arg37)
abbrev y38 : FVec Ideal S2x3x1408 .f32 := m ((c : Thread nD τ).loc main_arg38)
abbrev y39 : FVec Ideal S2x1024 .f32 := m ((c : Thread nD τ).loc main_arg39)
abbrev y40 : FVec Ideal S2x1024 .f32 := m ((c : Thread nD τ).loc main_arg40)
abbrev y41 : FVec Ideal S1024 .f32 := m ((c : Thread nD τ).loc main_arg41)
abbrev y42 : FVec Ideal S1x512 .f32 := m ((c : Thread nD τ).loc main_arg42)
abbrev y43 : FVec Ideal S1x512 .f32 := m ((c : Thread nD τ).loc main_arg43)
abbrev y44 : FVec Ideal S1x4x128x128 .f32 := m ((c : Thread nD τ).loc main_arg44)
abbrev y45 : FVec Ideal S1x4x128 .f32 := m ((c : Thread nD τ).loc main_arg45)
abbrev y46 : FVec Ideal S1x512 .f32 := m ((c : Thread nD τ).loc main_arg46)
abbrev y47 : FVec Ideal S1x512 .f32 := m ((c : Thread nD τ).loc main_arg47)
abbrev y48 : FVec Ideal S1x512 .f32 := m ((c : Thread nD τ).loc main_arg48)
abbrev y49 : FVec Ideal S1x31x128 .f32 := m ((c : Thread nD τ).loc main_arg49)
abbrev y50 : FVec Ideal S1x3x256 .f32 := m ((c : Thread nD τ).loc main_arg50)
abbrev y51 : FVec Ideal S2x3x1408 .f32 := m ((c : Thread nD τ).loc main_arg51)

theorem ref_run (ρ : Dev nD → PrngReg) :
    θ_run defs (onTc (τ := τ) (main (F := Ideal))) ⟨m, fun _ => 0, ρ⟩ fun r => ∀ c : Dev nD,
      r.2.mem ((c.tc : Thread nD τ).loc main_v23) = (fun j => delta (y0 m c j) (y13 m c j) (y26 m c j) (y39 m c j))
      ∧ r.2.mem ((c.tc : Thread nD τ).loc main_v47) = (fun j => delta (y1 m c j) (y14 m c j) (y27 m c j) (y40 m c j))
      ∧ r.2.mem ((c.tc : Thread nD τ).loc main_v71) = (fun j => delta (y2 m c j) (y15 m c j) (y28 m c j) (y41 m c j))
      ∧ r.2.mem ((c.tc : Thread nD τ).loc main_v95) = (fun j => delta (y3 m c j) (y16 m c j) (y29 m c j) (y42 m c j))
      ∧ r.2.mem ((c.tc : Thread nD τ).loc main_v119) = (fun j => delta (y4 m c j) (y17 m c j) (y30 m c j) (y43 m c j))
      ∧ r.2.mem ((c.tc : Thread nD τ).loc main_v143) = (fun j => delta (y5 m c j) (y18 m c j) (y31 m c j) (y44 m c j))
      ∧ r.2.mem ((c.tc : Thread nD τ).loc main_v167) = (fun j => delta (y6 m c j) (y19 m c j) (y32 m c j) (y45 m c j))
      ∧ r.2.mem ((c.tc : Thread nD τ).loc main_v191) = (fun j => delta (y7 m c j) (y20 m c j) (y33 m c j) (y46 m c j))
      ∧ r.2.mem ((c.tc : Thread nD τ).loc main_v215) = (fun j => delta (y8 m c j) (y21 m c j) (y34 m c j) (y47 m c j))
      ∧ r.2.mem ((c.tc : Thread nD τ).loc main_v239) = (fun j => delta (y9 m c j) (y22 m c j) (y35 m c j) (y48 m c j))
      ∧ r.2.mem ((c.tc : Thread nD τ).loc main_v263) = (fun j => delta (y10 m c j) (y23 m c j) (y36 m c j) (y49 m c j))
      ∧ r.2.mem ((c.tc : Thread nD τ).loc main_v287) = (fun j => delta (y11 m c j) (y24 m c j) (y37 m c j) (y50 m c j))
      ∧ r.2.mem ((c.tc : Thread nD τ).loc main_v311) = (fun j => delta (y12 m c j) (y25 m c j) (y38 m c j) (y51 m c j))
      ∧ r.2.mem ((c.tc : Thread nD τ).loc main_v4) = (fun j => mean (y13 m c j) (y26 m c j))
      ∧ r.2.mem ((c.tc : Thread nD τ).loc main_v28) = (fun j => mean (y14 m c j) (y27 m c j))
      ∧ r.2.mem ((c.tc : Thread nD τ).loc main_v52) = (fun j => mean (y15 m c j) (y28 m c j))
      ∧ r.2.mem ((c.tc : Thread nD τ).loc main_v76) = (fun j => mean (y16 m c j) (y29 m c j))
      ∧ r.2.mem ((c.tc : Thread nD τ).loc main_v100) = (fun j => mean (y17 m c j) (y30 m c j))
      ∧ r.2.mem ((c.tc : Thread nD τ).loc main_v124) = (fun j => mean (y18 m c j) (y31 m c j))
      ∧ r.2.mem ((c.tc : Thread nD τ).loc main_v148) = (fun j => mean (y19 m c j) (y32 m c j))
      ∧ r.2.mem ((c.tc : Thread nD τ).loc main_v172) = (fun j => mean (y20 m c j) (y33 m c j))
      ∧ r.2.mem ((c.tc : Thread nD τ).loc main_v196) = (fun j => mean (y21 m c j) (y34 m c j))
      ∧ r.2.mem ((c.tc : Thread nD τ).loc main_v220) = (fun j => mean (y22 m c j) (y35 m c j))
      ∧ r.2.mem ((c.tc : Thread nD τ).loc main_v244) = (fun j => mean (y23 m c j) (y36 m c j))
      ∧ r.2.mem ((c.tc : Thread nD τ).loc main_v268) = (fun j => mean (y24 m c j) (y37 m c j))
      ∧ r.2.mem ((c.tc : Thread nD τ).loc main_v292) = (fun j => mean (y25 m c j) (y38 m c j))
      ∧ r.2.mem ((c.tc : Thread nD τ).loc main_v10) = (fun j => spread (y13 m c j) (y39 m c j))
      ∧ r.2.mem ((c.tc : Thread nD τ).loc main_v34) = (fun j => spread (y14 m c j) (y40 m c j))
      ∧ r.2.mem ((c.tc : Thread nD τ).loc main_v58) = (fun j => spread (y15 m c j) (y41 m c j))
      ∧ r.2.mem ((c.tc : Thread nD τ).loc main_v82) = (fun j => spread (y16 m c j) (y42 m c j))
      ∧ r.2.mem ((c.tc : Thread nD τ).loc main_v106) = (fun j => spread (y17 m c j) (y43 m c j))
      ∧ r.2.mem ((c.tc : Thread nD τ).loc main_v130) = (fun j => spread (y18 m c j) (y44 m c j))
      ∧ r.2.mem ((c.tc : Thread nD τ).loc main_v154) = (fun j => spread (y19 m c j) (y45 m c j))
      ∧ r.2.mem ((c.tc : Thread nD τ).loc main_v178) = (fun j => spread (y20 m c j) (y46 m c j))
      ∧ r.2.mem ((c.tc : Thread nD τ).loc main_v202) = (fun j => spread (y21 m c j) (y47 m c j))
      ∧ r.2.mem ((c.tc : Thread nD τ).loc main_v226) = (fun j => spread (y22 m c j) (y48 m c j))
      ∧ r.2.mem ((c.tc : Thread nD τ).loc main_v250) = (fun j => spread (y23 m c j) (y49 m c j))
      ∧ r.2.mem ((c.tc : Thread nD τ).loc main_v274) = (fun j => spread (y24 m c j) (y50 m c j))
      ∧ r.2.mem ((c.tc : Thread nD τ).loc main_v298) = (fun j => spread (y25 m c j) (y51 m c j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51) := by
  refine (θ_run defs _ _).mono (fun r h c => ?_) (Cert.SmallReferenceIdeal.Value.run m ρ)
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, rest⟩ := h c
  exact ⟨h0.trans (ref_delta (bcast_S_S2x1024) (y0 m c) (y13 m c) (y26 m c) (y39 m c)), h1.trans (ref_delta (bcast_S_S2x1024) (y1 m c) (y14 m c) (y27 m c) (y40 m c)), h2.trans (ref_delta (bcast_S_S1024) (y2 m c) (y15 m c) (y28 m c) (y41 m c)), h3.trans (ref_delta (bcast_S_S1x512) (y3 m c) (y16 m c) (y29 m c) (y42 m c)), h4.trans (ref_delta (bcast_S_S1x512) (y4 m c) (y17 m c) (y30 m c) (y43 m c)), h5.trans (ref_delta (bcast_S_S1x4x128x128) (y5 m c) (y18 m c) (y31 m c) (y44 m c)), h6.trans (ref_delta (bcast_S_S1x4x128) (y6 m c) (y19 m c) (y32 m c) (y45 m c)), h7.trans (ref_delta (bcast_S_S1x512) (y7 m c) (y20 m c) (y33 m c) (y46 m c)), h8.trans (ref_delta (bcast_S_S1x512) (y8 m c) (y21 m c) (y34 m c) (y47 m c)), h9.trans (ref_delta (bcast_S_S1x512) (y9 m c) (y22 m c) (y35 m c) (y48 m c)), h10.trans (ref_delta (bcast_S_S1x31x128) (y10 m c) (y23 m c) (y36 m c) (y49 m c)), h11.trans (ref_delta (bcast_S_S1x3x256) (y11 m c) (y24 m c) (y37 m c) (y50 m c)), h12.trans (ref_delta (bcast_S_S2x3x1408) (y12 m c) (y25 m c) (y38 m c) (y51 m c)), h13.trans (ref_mean (bcast_S_S2x1024) (y13 m c) (y26 m c)), h14.trans (ref_mean (bcast_S_S2x1024) (y14 m c) (y27 m c)), h15.trans (ref_mean (bcast_S_S1024) (y15 m c) (y28 m c)), h16.trans (ref_mean (bcast_S_S1x512) (y16 m c) (y29 m c)), h17.trans (ref_mean (bcast_S_S1x512) (y17 m c) (y30 m c)), h18.trans (ref_mean (bcast_S_S1x4x128x128) (y18 m c) (y31 m c)), h19.trans (ref_mean (bcast_S_S1x4x128) (y19 m c) (y32 m c)), h20.trans (ref_mean (bcast_S_S1x512) (y20 m c) (y33 m c)), h21.trans (ref_mean (bcast_S_S1x512) (y21 m c) (y34 m c)), h22.trans (ref_mean (bcast_S_S1x512) (y22 m c) (y35 m c)), h23.trans (ref_mean (bcast_S_S1x31x128) (y23 m c) (y36 m c)), h24.trans (ref_mean (bcast_S_S1x3x256) (y24 m c) (y37 m c)), h25.trans (ref_mean (bcast_S_S2x3x1408) (y25 m c) (y38 m c)), h26.trans (ref_spread (bcast_S_S2x1024) (y13 m c) (y39 m c)), h27.trans (ref_spread (bcast_S_S2x1024) (y14 m c) (y40 m c)), h28.trans (ref_spread (bcast_S_S1024) (y15 m c) (y41 m c)), h29.trans (ref_spread (bcast_S_S1x512) (y16 m c) (y42 m c)), h30.trans (ref_spread (bcast_S_S1x512) (y17 m c) (y43 m c)), h31.trans (ref_spread (bcast_S_S1x4x128x128) (y18 m c) (y44 m c)), h32.trans (ref_spread (bcast_S_S1x4x128) (y19 m c) (y45 m c)), h33.trans (ref_spread (bcast_S_S1x512) (y20 m c) (y46 m c)), h34.trans (ref_spread (bcast_S_S1x512) (y21 m c) (y47 m c)), h35.trans (ref_spread (bcast_S_S1x512) (y22 m c) (y48 m c)), h36.trans (ref_spread (bcast_S_S1x31x128) (y23 m c) (y49 m c)), h37.trans (ref_spread (bcast_S_S1x3x256) (y24 m c) (y50 m c)), h38.trans (ref_spread (bcast_S_S2x3x1408) (y25 m c) (y51 m c)), rest⟩

end Cert.SmallReferenceIdeal.Mix

end
-- ==== Proof.SmallSame.lean ====
/- The claim on the step of the small weights: the runs of the two programs end with equal results. -/
module

public import proofs.«01_k».proof.Defs
public import proofs.«01_k».proof.Proof.Gen.SmallKernelIdeal
public import proofs.«01_k».proof.Proof.SmallEnds
public import proofs.«01_k».proof.Proof.SmallRef
public import Idealize.ShloMosaic.Lib.Claim

@[expose] public section
noncomputable section
open Idealize.ShloMosaic Idealize.ShloMosaic.TcCoe Idealize.SL.Sem

namespace Cert.Proof

theorem sameSmall : algebraic_SmallKernelIdeal_SmallReferenceIdeal (hSmallKernelIdeal := Cert.SmallKernelIdeal.Gen.facts) (hSmallReferenceIdeal := Cert.SmallReferenceIdeal.Gen.facts) := by
  pair_intro
  · exact Cert.SmallKernelIdeal.Mix.kernel_run m g
  · refine (θ_run _ _ _).mono (fun r h c => ?_) (Cert.SmallReferenceIdeal.Mix.ref_run m' g')
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, rest⟩ := h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51⟩ := hagree c
    exact ⟨h0.trans (Cert.SmallReferenceIdeal.Mix.step_delta e0 e13 e26 e39),
      h1.trans (Cert.SmallReferenceIdeal.Mix.step_delta e1 e14 e27 e40),
      h2.trans (Cert.SmallReferenceIdeal.Mix.step_delta e2 e15 e28 e41),
      h3.trans (Cert.SmallReferenceIdeal.Mix.step_delta e3 e16 e29 e42),
      h4.trans (Cert.SmallReferenceIdeal.Mix.step_delta e4 e17 e30 e43),
      h5.trans (Cert.SmallReferenceIdeal.Mix.step_delta e5 e18 e31 e44),
      h6.trans (Cert.SmallReferenceIdeal.Mix.step_delta e6 e19 e32 e45),
      h7.trans (Cert.SmallReferenceIdeal.Mix.step_delta e7 e20 e33 e46),
      h8.trans (Cert.SmallReferenceIdeal.Mix.step_delta e8 e21 e34 e47),
      h9.trans (Cert.SmallReferenceIdeal.Mix.step_delta e9 e22 e35 e48),
      h10.trans (Cert.SmallReferenceIdeal.Mix.step_delta e10 e23 e36 e49),
      h11.trans (Cert.SmallReferenceIdeal.Mix.step_delta e11 e24 e37 e50),
      h12.trans (Cert.SmallReferenceIdeal.Mix.step_delta e12 e25 e38 e51),
      h13.trans (Cert.SmallReferenceIdeal.Mix.step_mean e13 e26),
      h14.trans (Cert.SmallReferenceIdeal.Mix.step_mean e14 e27),
      h15.trans (Cert.SmallReferenceIdeal.Mix.step_mean e15 e28),
      h16.trans (Cert.SmallReferenceIdeal.Mix.step_mean e16 e29),
      h17.trans (Cert.SmallReferenceIdeal.Mix.step_mean e17 e30),
      h18.trans (Cert.SmallReferenceIdeal.Mix.step_mean e18 e31),
      h19.trans (Cert.SmallReferenceIdeal.Mix.step_mean e19 e32),
      h20.trans (Cert.SmallReferenceIdeal.Mix.step_mean e20 e33),
      h21.trans (Cert.SmallReferenceIdeal.Mix.step_mean e21 e34),
      h22.trans (Cert.SmallReferenceIdeal.Mix.step_mean e22 e35),
      h23.trans (Cert.SmallReferenceIdeal.Mix.step_mean e23 e36),
      h24.trans (Cert.SmallReferenceIdeal.Mix.step_mean e24 e37),
      h25.trans (Cert.SmallReferenceIdeal.Mix.step_mean e25 e38),
      h26.trans (Cert.SmallReferenceIdeal.Mix.step_spread e13 e39),
      h27.trans (Cert.SmallReferenceIdeal.Mix.step_spread e14 e40),
      h28.trans (Cert.SmallReferenceIdeal.Mix.step_spread e15 e41),
      h29.trans (Cert.SmallReferenceIdeal.Mix.step_spread e16 e42),
      h30.trans (Cert.SmallReferenceIdeal.Mix.step_spread e17 e43),
      h31.trans (Cert.SmallReferenceIdeal.Mix.step_spread e18 e44),
      h32.trans (Cert.SmallReferenceIdeal.Mix.step_spread e19 e45),
      h33.trans (Cert.SmallReferenceIdeal.Mix.step_spread e20 e46),
      h34.trans (Cert.SmallReferenceIdeal.Mix.step_spread e21 e47),
      h35.trans (Cert.SmallReferenceIdeal.Mix.step_spread e22 e48),
      h36.trans (Cert.SmallReferenceIdeal.Mix.step_spread e23 e49),
      h37.trans (Cert.SmallReferenceIdeal.Mix.step_spread e24 e50),
      h38.trans (Cert.SmallReferenceIdeal.Mix.step_spread e25 e51),
      rest⟩

end Cert.Proof

end
-- ==== Proof.ActSpec.lean ====
/- The gates of the feed-forward block, row by row, on arrays of extended reals. -/
module

public import proofs.«01_k».proof.Proof.MixSpec

@[expose] public section
noncomputable section
open Idealize.ShloMosaic

namespace Cert.Act
open Cert.Mix (lag)

/-- The rows of the first product, and the three rows of taps of each layer. -/
abbrev ArrU : Type := FVec Ideal ⟨2, ![4096, 5632]⟩ .bf16
abbrev ArrT : Type := FVec Ideal ⟨3, ![2, 3, 5632]⟩ .f32

/-- One channel of the rows. -/
def column (U : ArrU) (k : Fin 5632) (r : Fin 4096) : EReal := U (ix2 r k)

/-- The convolution of one channel by layer 0's taps. -/
def conv (U : ArrU) (W : ArrT) (r : Fin 4096) (k : Fin 5632) : EReal :=
  W (ix3 0 2 k) * U (ix2 r k) + W (ix3 0 1 k) * lag (column U k) 1 r + W (ix3 0 0 k) * lag (column U k) 2 r

/-- The gate: the first half of the channels through `silu`, times the second half. -/
def gate (g v : EReal) : EReal := g * Ideal.logistic g * v

def act (U : ArrU) (W : ArrT) (r : Fin 4096) (k : Fin 2816) : EReal :=
  gate (conv U W r ⟨k.val, by omega⟩) (conv U W r ⟨2816 + k.val, by omega⟩)

end Cert.Act
end
-- ==== Proof.ActBlock.lean ====
/- The gates of the feed-forward block: a row of a block and of its halo is a row of the whole array, and the blocks make up the results. -/
module

public import proofs.«01_k».proof.Proof.Gen.ActKernelIdeal.Frame
public import Idealize.ShloMosaic.Lib.Pipeline.ValueKit
public import Idealize.ShloMosaic.Lib.Pipeline.ReadBack
public import Idealize.ShloMosaic.Lib.Pointwise
public import proofs.«01_k».proof.Proof.ActSpec

@[expose] public section
set_option maxRecDepth 16384
noncomputable section
open Idealize.ShloMosaic Idealize.ShloMosaic.TcCoe Idealize.SL.Sem
open Idealize.ShloMosaic.Pipeline (Dat)

namespace Cert.ActKernelIdeal.Mix
open Cert.ActKernelIdeal Cert.ActKernelIdeal.Gen Cert.Act
open Cert.Mix (lag)
variable (m : (ℓ : Loc nD τ sig) → Buf (Elt Ideal) ℓ) (c : Dev nD)

/-- Where each window's block sits at grid point `t`; the halo's block is the 16 rows before, clamped. -/
theorem place : ∀ t : Fin cfg0.N, win0_0.index t = ![t.val, 0] ∧ win0_1.index t = ![t.val * 32 - 1, 0] ∧ win0_2.index t = ![0, 0, 0]
    ∧ win0_3.index t = ![t.val, 0] ∧ win0_4.index t = ![t.val, 0] :=
  (by decide +kernel : ∀ t : Fin grid0.N, _)

/-- The test of the grid point: not the first. -/
theorem tests : ∀ t : Fin cfg0.N,
    Scalar.cmpi CmpIPredicate.sgt (BitVec.ofNat 32 (grid0.coords t 0).val) 0#32 = (if t.val = 0 then 0#1 else 1#1) :=
  (by decide +kernel : ∀ t : Fin grid0.N, _)

/-- The two arguments on core `c`. -/
abbrev aU : ArrU := m ((c : Thread nD τ).loc main_arg0)
abbrev aW : ArrT := m ((c : Thread nD τ).loc main_arg1)

/-- Row `x` of block `t`. -/
def row (t : Fin cfg0.N) (x : Fin 512) : Fin 4096 :=
  ⟨t.val * 512 + x.val, by have : t.val < 8 := lt_of_lt_of_eq t.isLt N_0; omega⟩

/-- The input blocks of point `t`, typed: the rows' block, its halo, the taps. -/
abbrev b0 (t : Fin cfg0.N) : FVec Ideal S512x5632 .bf16 := iblk m c 0 t
abbrev b1 (t : Fin cfg0.N) : FVec Ideal S16x5632 .bf16 := iblk m c 1 t
abbrev b2 (t : Fin cfg0.N) : FVec Ideal S1x3x5632 .f32 := iblk m c 2 t

variable (t : Fin cfg0.N) (x : Fin 512) (k : Fin 5632)

theorem tap_eq (j : Fin 3) : b2 m c t (ix3 0 j k) = aW m c (ix3 0 j k) := by
  blk_ext [b0, b1, b2, iblk, V, place t]

theorem here_eq : b0 m c t (ix2 x k) = column (aU m c) k (row t x) := by
  unfold column row
  blk_ext [b0, b1, b2, iblk, V, place t]

/-- The row `a` earlier, read off the block or off the halo before it. -/
theorem lag_eq (a : ℕ) (ha : 0 < a) (ha' : a < 16) (n : ℕ) (hn : n = 16 + x.val - a) (h1 : n < 16 → n < 16) (h3 : ¬ n < 16 → n - 16 < 512) :
    (if h : n < 16 then Scalar.select (Scalar.cmpi CmpIPredicate.sgt (BitVec.ofNat 32 (grid0.coords t 0).val) 0#32)
        (b1 m c t (ix2 ⟨n, h1 h⟩ k)) (0 : EReal)
      else b0 m c t (ix2 ⟨n - 16, h3 h⟩ k))
    = lag (column (aU m c) k) a (row t x) := by
  have ht : t.val < 8 := lt_of_lt_of_eq t.isLt N_0
  subst hn
  rw [tests t]
  by_cases h : 16 + x.val - a < 16
  · rw [dif_pos h]
    by_cases hl : t.val = 0
    · rw [if_pos hl, lag, dif_neg (by simp only [row]; omega)]
      rfl
    · rw [if_neg hl, lag, dif_pos (by simp only [row]; omega)]
      refine Eq.trans (b := b1 m c t (ix2 ⟨16 + x.val - a, h1 h⟩ k)) rfl ?_
      unfold column row
      blk_ext [b0, b1, b2, iblk, V, place t]
  · rw [dif_neg h, here_eq m c t ⟨16 + x.val - a - 16, by omega⟩ k, lag, dif_pos (by simp only [row]; omega)]
    congr 1
    apply Fin.ext
    simp only [row]
    omega

/-- One entry of what the convolution leaves, in the body's arithmetic. -/
theorem body (h1 : (16 + x.val + 528 - 1) % 528 < 16 → (16 + x.val + 528 - 1) % 528 < 16)
    (h3 : ¬ (16 + x.val + 528 - 1) % 528 < 16 → (16 + x.val + 528 - 1) % 528 - 16 < 512)
    (g1 : (16 + x.val + 528 - 2) % 528 < 16 → (16 + x.val + 528 - 2) % 528 < 16)
    (g3 : ¬ (16 + x.val + 528 - 2) % 528 < 16 → (16 + x.val + 528 - 2) % 528 - 16 < 512) :
    (b2 m c t (ix3 0 2 k) * b0 m c t (ix2 x k) +
        b2 m c t (ix3 0 1 k) *
          (if h : (16 + x.val + 528 - 1) % 528 < 16 then
            Scalar.select (Scalar.cmpi CmpIPredicate.sgt (BitVec.ofNat 32 (grid0.coords t 0).val) 0#32)
              (b1 m c t (ix2 ⟨(16 + x.val + 528 - 1) % 528, h1 h⟩ k)) (0 : EReal)
          else b0 m c t (ix2 ⟨(16 + x.val + 528 - 1) % 528 - 16, h3 h⟩ k))) +
        b2 m c t (ix3 0 0 k) *
          (if h : (16 + x.val + 528 - 2) % 528 < 16 then
            Scalar.select (Scalar.cmpi CmpIPredicate.sgt (BitVec.ofNat 32 (grid0.coords t 0).val) 0#32)
              (b1 m c t (ix2 ⟨(16 + x.val + 528 - 2) % 528, g1 h⟩ k)) (0 : EReal)
          else b0 m c t (ix2 ⟨(16 + x.val + 528 - 2) % 528 - 16, g3 h⟩ k))
    = conv (aU m c) (aW m c) (row t x) k := by
  rw [conv, lag_eq m c t x k 1 (by omega) (by omega) _ (by omega),
    lag_eq m c t x k 2 (by omega) (by omega) _ (by omega), tap_eq, tap_eq, tap_eq, here_eq, column]

end Cert.ActKernelIdeal.Mix
end
-- ==== Proof.ActConv.lean ====
/- What the convolution of the feed-forward block leaves, whole. -/
module

public import proofs.«01_k».proof.Proof.Gen.ActKernelIdeal.Frame
public import Idealize.ShloMosaic.Lib.Pipeline.ValueKit
public import Idealize.ShloMosaic.Lib.Pipeline.ReadBack
public import Idealize.ShloMosaic.Lib.Pointwise
public import proofs.«01_k».proof.Proof.ActBlock

@[expose] public section
set_option maxRecDepth 16384
noncomputable section
open Idealize.ShloMosaic Idealize.ShloMosaic.TcCoe Idealize.SL.Sem
open Idealize.ShloMosaic.Pipeline (Dat)

namespace Cert.ActKernelIdeal.Mix
open Cert.ActKernelIdeal Cert.ActKernelIdeal.Gen Cert.Act
open Cert.Mix (lag)
variable (m : (ℓ : Loc nD τ sig) → Buf (Elt Ideal) ℓ) (c : Dev nD)

set_option maxHeartbeats 4000000 in
/-- That result, as the body leaves it at one entry of its block. -/
theorem point_conv (t : Fin cfg0.N) (r : Fin 512) (j : Fin 5632) :
    (dats m 0 c).after 4 t (ix2 r j) = conv (aU m c) (aW m c) (row t r) j := by
  rw [after0_4]
  frame_out
  canon_tiles x h
  all_goals
    idx_vars x
    obtain rfl : r = x0 := Fin.ext h0
    unfold_payloads
    pointwise
  all_goals
    obtain ⟨j, hj⟩ := j
    dsimp only at h1
    subst h1
    exact body m c t r _ _ _ _ _

/-- That result, whole. -/
theorem final_conv : (dats m 0 c).arrAt 4 (cfgs 0).N = fun i => conv (aU m c) (aW m c) (i 0) (i 1) := by
  refine (dats m 0 c).arrAt_eq_of_covers 4 _ (by decide +kernel) fun t hf y => ?_
  blk_simp
  idx_vars y
  have e0 : ((View.whole main_v0_1).slice (win0_4.rect t)).emb (ix2 y0 y1) 0 = row t y0 := by
    apply Fin.ext
    simp only [row]
    blk_simp [place t]
  have e1 : ((View.whole main_v0_1).slice (win0_4.rect t)).emb (ix2 y0 y1) 1 = y1 := by
    apply Fin.ext
    blk_simp [place t]
  refine (point_conv m c t y0 y1).trans ?_
  exact congrArg₂ (fun u v => conv (aU m c) (aW m c) u v) e0.symm e1.symm

end Cert.ActKernelIdeal.Mix
end
-- ==== Proof.ActGates.lean ====
/- What the gates of the feed-forward block leave, whole. -/
module

public import proofs.«01_k».proof.Proof.Gen.ActKernelIdeal.Frame
public import Idealize.ShloMosaic.Lib.Pipeline.ValueKit
public import Idealize.ShloMosaic.Lib.Pipeline.ReadBack
public import Idealize.ShloMosaic.Lib.Pointwise
public import proofs.«01_k».proof.Proof.ActBlock

@[expose] public section
set_option maxRecDepth 16384
noncomputable section
open Idealize.ShloMosaic Idealize.ShloMosaic.TcCoe Idealize.SL.Sem
open Idealize.ShloMosaic.Pipeline (Dat)

namespace Cert.ActKernelIdeal.Mix
open Cert.ActKernelIdeal Cert.ActKernelIdeal.Gen Cert.Act
open Cert.Mix (lag)
variable (m : (ℓ : Loc nD τ sig) → Buf (Elt Ideal) ℓ) (c : Dev nD)

/-- A gate of two channels, the second 2816 after the first. -/
theorem act_eq (U : ArrU) (W : ArrT) (r : Fin 4096) (j : Fin 2816) (k k' : Fin 5632) (h : k.val = j.val) (h' : k'.val = 2816 + j.val) :
    gate (conv U W r k) (conv U W r k') = act U W r j := by
  unfold act
  congr 2
  · exact Fin.ext h
  · exact Fin.ext h'

set_option maxHeartbeats 4000000 in
/-- That result, as the body leaves it at one entry of its block. -/
theorem point_act (t : Fin cfg0.N) (r : Fin 512) (j : Fin 2816) :
    (dats m 0 c).after 3 t (ix2 r j) = act (aU m c) (aW m c) (row t r) j := by
  rw [after0_3]
  frame_out
  canon_tiles x h
  all_goals
    idx_vars x
    obtain rfl : r = x0 := Fin.ext h0
    unfold_payloads
    pointwise
  all_goals
    refine Eq.trans (congrArg₂ gate (body m c t r _ _ _ _ _) (body m c t r _ _ _ _ _)) ?_
    exact act_eq _ _ _ j _ _ (by dsimp only; omega) (by dsimp only; omega)

/-- That result, whole. -/
theorem final_act : (dats m 0 c).arrAt 3 (cfgs 0).N = fun i => act (aU m c) (aW m c) (i 0) (i 1) := by
  refine (dats m 0 c).arrAt_eq_of_covers 3 _ (by decide +kernel) fun t hf y => ?_
  blk_simp
  idx_vars y
  have e0 : ((View.whole main_v0_0).slice (win0_3.rect t)).emb (ix2 y0 y1) 0 = row t y0 := by
    apply Fin.ext
    simp only [row]
    blk_simp [place t]
  have e1 : ((View.whole main_v0_0).slice (win0_3.rect t)).emb (ix2 y0 y1) 1 = y1 := by
    apply Fin.ext
    blk_simp [place t]
  refine (point_act m c t y0 y1).trans ?_
  exact congrArg₂ (fun u v => act (aU m c) (aW m c) u v) e0.symm e1.symm

end Cert.ActKernelIdeal.Mix
end
-- ==== Proof.ActRef.lean ====
/- The reference's gates of the feed-forward block, row by row. -/
module

public import proofs.«01_k».proof.Proof.Gen.ActReferenceIdeal.Run
public import proofs.«01_k».proof.Proof.ActSpec

@[expose] public section
set_option maxRecDepth 16384
noncomputable section
open Idealize.ShloMosaic Idealize.ShloMosaic.TcCoe Idealize.SL.Sem

namespace Cert.ActReferenceIdeal.Mix
open Cert.ActReferenceIdeal Cert.ActReferenceIdeal.Gen Cert.Act
open Cert.Mix (lag)

/-- Two rows of zeros, and under them the rows the convolution reads. -/
def under (U : FVec Ideal S4096x5632 .bf16) : FVec Ideal S4098x5632 .f32 :=
  concatenate S4098x5632 0 [⟨S2x5632, (broadcastInDim S2x5632 ![] bcast_S_S2x5632 (constant (F := Ideal) S_ .f32 0x00000000#32))⟩, ⟨S4096x5632, (extf .f32 U bitsLt_bf16_f32)⟩] concatenates_S2x5632_S4096x5632_S4098x5632_d0

/-- A row of taps on every row. -/
def spreadRow (w : FVec Ideal S1x5632 .f32) : FVec Ideal S4096x5632 .f32 :=
  broadcastInDim S4096x5632 ![0, 1] bcast_S1x5632_S4096x5632_0_1 (broadcastInDim S1x5632 ![1] bcast_S5632_S1x5632_1 (shapeCast _ w shapeCasts_S1x5632_S5632))

/-- The three rows of layer 0's taps. -/
def taps (W : FVec Ideal S2x3x5632 .f32) : FVec Ideal S3x5632 .f32 :=
  shapeCast _ (extractStridedSlice S1x3x5632 ![0, 0, 0] W slices_S2x3x5632_S1x3x5632_0_0_0) shapeCasts_S1x3x5632_S3x5632

theorem under_at (U : FVec Ideal S4096x5632 .bf16) (r : Fin 4098) (k : Fin 5632) :
    under U (ix2 r k) = if h : r.val < 2 then (0 : EReal) else U (ix2 ⟨r.val - 2, by omega⟩ k) := by
  unfold under
  pointwise

theorem spreadRow_at (w : FVec Ideal S1x5632 .f32) (r : Fin 4096) (k : Fin 5632) : spreadRow w (ix2 r k) = w (ix2 0 k) := by
  unfold spreadRow
  pointwise

theorem taps_at (W : FVec Ideal S2x3x5632 .f32) (j : Fin 3) (k : Fin 5632) : taps W (ix2 j k) = W (ix3 0 j k) := by
  unfold taps
  pointwise

/-- The reference's convolution in one channel: rows read from under two rows of zeros. -/
theorem conv_padded (U : ArrU) (W : ArrT) (r : Fin 4096) (k : Fin 5632) :
    ((W (ix3 0 0 k) * if h : r.val < 2 then (0 : EReal) else U (ix2 ⟨r.val - 2, by omega⟩ k))
      + W (ix3 0 1 k) * if h : 1 + r.val < 2 then (0 : EReal) else U (ix2 ⟨1 + r.val - 2, by omega⟩ k))
      + W (ix3 0 2 k) * U (ix2 r k) = conv U W r k := by
  have e2 : (if h : r.val < 2 then (0 : EReal) else U (ix2 ⟨r.val - 2, by omega⟩ k)) = lag (column U k) 2 r := by
    by_cases hr : r.val < 2
    · rw [dif_pos hr, lag, dif_neg (by omega)]
    · rw [dif_neg hr, lag, dif_pos (by omega), column]
  have e1 : (if h : 1 + r.val < 2 then (0 : EReal) else U (ix2 ⟨1 + r.val - 2, by omega⟩ k)) = lag (column U k) 1 r := by
    by_cases hr : 1 + r.val < 2
    · rw [dif_pos hr, lag, dif_neg (by omega)]
    · have hx : (⟨1 + r.val - 2, by omega⟩ : Fin 4096) = ⟨r.val - 1, by omega⟩ := Fin.ext (by simp; omega)
      rw [dif_neg hr, lag, dif_pos (by omega), column, hx]
  rw [e2, e1, conv, add_comm, add_comm (W (ix3 0 0 k) * _), ← add_assoc]

/-- What the reference's convolution leaves, whole. -/
def convolved (U : FVec Ideal S4096x5632 .bf16) (W : FVec Ideal S2x3x5632 .f32) : FVec Ideal S4096x5632 .f32 :=
  addf (addf (addf (broadcastInDim S4096x5632 ![] bcast_S_S4096x5632 (constant (F := Ideal) S_ .f32 0x00000000#32))
    (mulf (spreadRow (extractStridedSlice S1x5632 ![0, 0] (taps W) slices_S3x5632_S1x5632_0_0)) (extractStridedSlice S4096x5632 ![0, 0] (under U) slices_S4098x5632_S4096x5632_0_0)))
    (mulf (spreadRow (extractStridedSlice S1x5632 ![1, 0] (taps W) slices_S3x5632_S1x5632_1_0)) (extractStridedSlice S4096x5632 ![1, 0] (under U) slices_S4098x5632_S4096x5632_1_0)))
    (mulf (spreadRow (extractStridedSlice S1x5632 ![2, 0] (taps W) slices_S3x5632_S1x5632_2_0)) (extractStridedSlice S4096x5632 ![2, 0] (under U) slices_S4098x5632_S4096x5632_2_0))

theorem convolved_at (U : FVec Ideal S4096x5632 .bf16) (W : FVec Ideal S2x3x5632 .f32) (r : Fin 4096) (k : Fin 5632) :
    convolved U W (ix2 r k) = conv U W r k := by
  unfold convolved
  pointwise [spreadRow_at, taps_at, under_at]
  exact conv_padded U W r k

theorem value_conv (U : FVec Ideal S4096x5632 .bf16) (W : FVec Ideal S2x3x5632 .f32) :
    truncf .bf16 (convolved U W) bitsLt_bf16_f32 = fun i => conv U W (i 0) (i 1) := by
  funext i
  idx_vars i
  pointwise [convolved_at]

/-- The reference's gates, entry by entry. -/
theorem value_act (U : FVec Ideal S4096x5632 .bf16) (W : FVec Ideal S2x3x5632 .f32) :
    truncf .bf16 (mulf (mulf (extractStridedSlice S4096x2816 ![0, 0] (convolved U W) slices_S4096x5632_S4096x2816_0_0)
      (Host.divf (broadcastInDim S4096x2816 ![] bcast_S_S4096x2816 (constant (F := Ideal) S_ .f32 0x3F800000#32))
        (addf (broadcastInDim S4096x2816 ![] bcast_S_S4096x2816 (constant (F := Ideal) S_ .f32 0x3F800000#32))
          (Host.exp (Host.negf (extractStridedSlice S4096x2816 ![0, 0] (convolved U W) slices_S4096x5632_S4096x2816_0_0))))))
      (extractStridedSlice S4096x2816 ![0, 2816] (convolved U W) slices_S4096x5632_S4096x2816_0_2816)) bitsLt_bf16_f32
    = fun i => act U W (i 0) (i 1) := by
  funext i
  idx_vars i
  pointwise [convolved_at]
  rfl

/-- The two arguments on core `c`. -/
abbrev aU (m : (ℓ : Loc nD τ sig) → Buf (Elt Ideal) ℓ) (c : Dev nD) : ArrU := m ((c.tc : Thread nD τ).loc main_arg0)
abbrev aW (m : (ℓ : Loc nD τ sig) → Buf (Elt Ideal) ℓ) (c : Dev nD) : ArrT := m ((c.tc : Thread nD τ).loc main_arg1)

/-- The reference's run: both results, the arguments as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v31) : FVec Ideal S4096x2816 .bf16) = (fun i => act (aU m c) (aW m c) (i 0) (i 1))
      ∧ (r.2.mem ((c.tc : Thread nD τ).loc main_v32) : FVec Ideal S4096x5632 .bf16) = (fun i => conv (aU m c) (aW m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  exact ⟨(h c).1.trans (value_act (aU m c) (aW m c)), (h c).2.1.trans (value_conv (aU m c) (aW m c)), (h c).2.2⟩

end Cert.ActReferenceIdeal.Mix
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.UpDwKernel
public import proofs.«01_k».proof.Proof.Gen.UpDwKernel.Skeleton
public import proofs.«01_k».proof.Proof.Gen.UpDwKernel.Launch
public import proofs.«01_k».proof.Proof.Gen.UpDwKernel.Points
public import proofs.«01_k».proof.Proof.Gen.UpDwKernel.Frame
public import proofs.«01_k».proof.Proof.Gen.UpDwKernelIdeal
public import proofs.«01_k».proof.Proof.Gen.UpDwKernelIdeal.Skeleton
public import proofs.«01_k».proof.Proof.Gen.UpDwKernelIdeal.Launch
public import proofs.«01_k».proof.Proof.Gen.UpDwKernelIdeal.Points
public import proofs.«01_k».proof.Proof.Gen.UpDwKernelIdeal.Frame
public import proofs.«01_k».proof.Proof.Gen.UpDwKernelIdeal.Value
public import proofs.«01_k».proof.Proof.Gen.UpDwReferenceIdeal
public import proofs.«01_k».proof.Proof.Gen.UpDwReferenceIdeal.Run
public import proofs.«01_k».proof.Proof.Gen.UpDxAKernel
public import proofs.«01_k».proof.Proof.Gen.UpDxAKernel.Skeleton
public import proofs.«01_k».proof.Proof.Gen.UpDxAKernel.Launch
public import proofs.«01_k».proof.Proof.Gen.UpDxAKernel.Points
public import proofs.«01_k».proof.Proof.Gen.UpDxAKernel.Frame
public import proofs.«01_k».proof.Proof.Gen.UpDxAKernelIdeal
public import proofs.«01_k».proof.Proof.Gen.UpDxAKernelIdeal.Skeleton
public import proofs.«01_k».proof.Proof.Gen.UpDxAKernelIdeal.Launch
public import proofs.«01_k».proof.Proof.Gen.UpDxAKernelIdeal.Points
public import proofs.«01_k».proof.Proof.Gen.UpDxAKernelIdeal.Frame
public import proofs.«01_k».proof.Proof.Gen.UpDxAKernelIdeal.Value
public import proofs.«01_k».proof.Proof.Gen.UpDxAReferenceIdeal
public import proofs.«01_k».proof.Proof.Gen.UpDxAReferenceIdeal.Run
public import proofs.«01_k».proof.Proof.Gen.UpDxBKernel
public import proofs.«01_k».proof.Proof.Gen.UpDxBKernel.Skeleton
public import proofs.«01_k».proof.Proof.Gen.UpDxBKernel.Launch
public import proofs.«01_k».proof.Proof.Gen.UpDxBKernel.Points
public import proofs.«01_k».proof.Proof.Gen.UpDxBKernel.Frame
public import proofs.«01_k».proof.Proof.Gen.UpDxBKernelIdeal
public import proofs.«01_k».proof.Proof.Gen.UpDxBKernelIdeal.Skeleton
public import proofs.«01_k».proof.Proof.Gen.UpDxBKernelIdeal.Launch
public import proofs.«01_k».proof.Proof.Gen.UpDxBKernelIdeal.Points
public import proofs.«01_k».proof.Proof.Gen.UpDxBKernelIdeal.Frame
public import proofs.«01_k».proof.Proof.Gen.UpDxBKernelIdeal.Value
public import proofs.«01_k».proof.Proof.Gen.UpDxBReferenceIdeal
public import proofs.«01_k».proof.Proof.Gen.UpDxBReferenceIdeal.Run
public import proofs.«01_k».proof.Proof.Gen.AbInDxKernel
public import proofs.«01_k».proof.Proof.Gen.AbInDxKernel.Skeleton
public import proofs.«01_k».proof.Proof.Gen.AbInDxKernel.Launch
public import proofs.«01_k».proof.Proof.Gen.AbInDxKernel.Points
public import proofs.«01_k».proof.Proof.Gen.AbInDxKernel.Frame
public import proofs.«01_k».proof.Proof.Gen.AbInDxKernelIdeal
public import proofs.«01_k».proof.Proof.Gen.AbInDxKernelIdeal.Skeleton
public import proofs.«01_k».proof.Proof.Gen.AbInDxKernelIdeal.Launch
public import proofs.«01_k».proof.Proof.Gen.AbInDxKernelIdeal.Points
public import proofs.«01_k».proof.Proof.Gen.AbInDxKernelIdeal.Frame
public import proofs.«01_k».proof.Proof.Gen.AbInDxKernelIdeal.Value
public import proofs.«01_k».proof.Proof.Gen.AbInDxReferenceIdeal
public import proofs.«01_k».proof.Proof.Gen.AbInDxReferenceIdeal.Run
public import proofs.«01_k».proof.Proof.Gen.CInDxKernel
public import proofs.«01_k».proof.Proof.Gen.CInDxKernel.Skeleton
public import proofs.«01_k».proof.Proof.Gen.CInDxKernel.Launch
public import proofs.«01_k».proof.Proof.Gen.CInDxKernel.Points
public import proofs.«01_k».proof.Proof.Gen.CInDxKernel.Frame
public import proofs.«01_k».proof.Proof.Gen.CInDxKernelIdeal
public import proofs.«01_k».proof.Proof.Gen.CInDxKernelIdeal.Skeleton
public import proofs.«01_k».proof.Proof.Gen.CInDxKernelIdeal.Launch
public import proofs.«01_k».proof.Proof.Gen.CInDxKernelIdeal.Points
public import proofs.«01_k».proof.Proof.Gen.CInDxKernelIdeal.Frame
public import proofs.«01_k».proof.Proof.Gen.CInDxKernelIdeal.Value
public import proofs.«01_k».proof.Proof.Gen.CInDxReferenceIdeal
public import proofs.«01_k».proof.Proof.Gen.CInDxReferenceIdeal.Run
public import proofs.«01_k».proof.Proof.Gen.DownDwKernel
public import proofs.«01_k».proof.Proof.Gen.DownDwKernel.Skeleton
public import proofs.«01_k».proof.Proof.Gen.DownDwKernel.Launch
public import proofs.«01_k».proof.Proof.Gen.DownDwKernel.Points
public import proofs.«01_k».proof.Proof.Gen.DownDwKernel.Frame
public import proofs.«01_k».proof.Proof.Gen.DownDwKernelIdeal
public import proofs.«01_k».proof.Proof.Gen.DownDwKernelIdeal.Skeleton
public import proofs.«01_k».proof.Proof.Gen.DownDwKernelIdeal.Launch
public import proofs.«01_k».proof.Proof.Gen.DownDwKernelIdeal.Points
public import proofs.«01_k».proof.Proof.Gen.DownDwKernelIdeal.Frame
public import proofs.«01_k».proof.Proof.Gen.DownDwKernelIdeal.Value
public import proofs.«01_k».proof.Proof.Gen.DownDwReferenceIdeal
public import proofs.«01_k».proof.Proof.Gen.DownDwReferenceIdeal.Run
public import proofs.«01_k».proof.Proof.Gen.DownDxKernel
public import proofs.«01_k».proof.Proof.Gen.DownDxKernel.Skeleton
public import proofs.«01_k».proof.Proof.Gen.DownDxKernel.Launch
public import proofs.«01_k».proof.Proof.Gen.DownDxKernel.Points
public import proofs.«01_k».proof.Proof.Gen.DownDxKernel.Frame
public import proofs.«01_k».proof.Proof.Gen.DownDxKernelIdeal
public import proofs.«01_k».proof.Proof.Gen.DownDxKernelIdeal.Skeleton
public import proofs.«01_k».proof.Proof.Gen.DownDxKernelIdeal.Launch
public import proofs.«01_k».proof.Proof.Gen.DownDxKernelIdeal.Points
public import proofs.«01_k».proof.Proof.Gen.DownDxKernelIdeal.Frame
public import proofs.«01_k».proof.Proof.Gen.DownDxKernelIdeal.Value
public import proofs.«01_k».proof.Proof.Gen.DownDxReferenceIdeal
public import proofs.«01_k».proof.Proof.Gen.DownDxReferenceIdeal.Run
public import proofs.«01_k».proof.Proof.Gen.CInDwKernel
public import proofs.«01_k».proof.Proof.Gen.CInDwKernel.Skeleton
public import proofs.«01_k».proof.Proof.Gen.CInDwKernel.Launch
public import proofs.«01_k».proof.Proof.Gen.CInDwKernel.Points
public import proofs.«01_k».proof.Proof.Gen.CInDwKernel.Frame
public import proofs.«01_k».proof.Proof.Gen.CInDwKernelIdeal
public import proofs.«01_k».proof.Proof.Gen.CInDwKernelIdeal.Skeleton
public import proofs.«01_k».proof.Proof.Gen.CInDwKernelIdeal.Launch
public import proofs.«01_k».proof.Proof.Gen.CInDwKernelIdeal.Points
public import proofs.«01_k».proof.Proof.Gen.CInDwKernelIdeal.Frame
public import proofs.«01_k».proof.Proof.Gen.CInDwKernelIdeal.Value
public import proofs.«01_k».proof.Proof.Gen.CInDwReferenceIdeal
public import proofs.«01_k».proof.Proof.Gen.CInDwReferenceIdeal.Run
public import proofs.«01_k».proof.Proof.Gen.AbInDwKernel
public import proofs.«01_k».proof.Proof.Gen.AbInDwKernel.Skeleton
public import proofs.«01_k».proof.Proof.Gen.AbInDwKernel.Launch
public import proofs.«01_k».proof.Proof.Gen.AbInDwKernel.Points
public import proofs.«01_k».proof.Proof.Gen.AbInDwKernel.Frame
public import proofs.«01_k».proof.Proof.Gen.AbInDwKernelIdeal
public import proofs.«01_k».proof.Proof.Gen.AbInDwKernelIdeal.Skeleton
public import proofs.«01_k».proof.Proof.Gen.AbInDwKernelIdeal.Launch
public import proofs.«01_k».proof.Proof.Gen.AbInDwKernelIdeal.Points
public import proofs.«01_k».proof.Proof.Gen.AbInDwKernelIdeal.Frame
public import proofs.«01_k».proof.Proof.Gen.AbInDwKernelIdeal.Value
public import proofs.«01_k».proof.Proof.Gen.AbInDwReferenceIdeal
public import proofs.«01_k».proof.Proof.Gen.AbInDwReferenceIdeal.Run
public import proofs.«01_k».proof.Proof.Gen.OutDwKernel
public import proofs.«01_k».proof.Proof.Gen.OutDwKernel.Skeleton
public import proofs.«01_k».proof.Proof.Gen.OutDwKernel.Launch
public import proofs.«01_k».proof.Proof.Gen.OutDwKernel.Points
public import proofs.«01_k».proof.Proof.Gen.OutDwKernel.Frame
public import proofs.«01_k».proof.Proof.Gen.OutDwKernelIdeal
public import proofs.«01_k».proof.Proof.Gen.OutDwKernelIdeal.Skeleton
public import proofs.«01_k».proof.Proof.Gen.OutDwKernelIdeal.Launch
public import proofs.«01_k».proof.Proof.Gen.OutDwKernelIdeal.Points
public import proofs.«01_k».proof.Proof.Gen.OutDwKernelIdeal.Frame
public import proofs.«01_k».proof.Proof.Gen.OutDwKernelIdeal.Value
public import proofs.«01_k».proof.Proof.Gen.OutDwReferenceIdeal
public import proofs.«01_k».proof.Proof.Gen.OutDwReferenceIdeal.Run
public import proofs.«01_k».proof.Proof.Gen.OutDxKernel
public import proofs.«01_k».proof.Proof.Gen.OutDxKernel.Skeleton
public import proofs.«01_k».proof.Proof.Gen.OutDxKernel.Launch
public import proofs.«01_k».proof.Proof.Gen.OutDxKernel.Points
public import proofs.«01_k».proof.Proof.Gen.OutDxKernel.Frame
public import proofs.«01_k».proof.Proof.Gen.OutDxKernelIdeal
public import proofs.«01_k».proof.Proof.Gen.OutDxKernelIdeal.Skeleton
public import proofs.«01_k».proof.Proof.Gen.OutDxKernelIdeal.Launch
public import proofs.«01_k».proof.Proof.Gen.OutDxKernelIdeal.Points
public import proofs.«01_k».proof.Proof.Gen.OutDxKernelIdeal.Frame
public import proofs.«01_k».proof.Proof.Gen.OutDxKernelIdeal.Value
public import proofs.«01_k».proof.Proof.Gen.OutDxReferenceIdeal
public import proofs.«01_k».proof.Proof.Gen.OutDxReferenceIdeal.Run
public import proofs.«01_k».proof.Proof.MixArray
public import proofs.«01_k».proof.Proof.MixTaps
public import proofs.«01_k».proof.Proof.MixRef
public import Idealize.ShloMosaic.Lib.Claim
public import Idealize.ShloMosaic.Lib.Quiescent
public import Idealize.ShloMosaic.Adequacy
public import Idealize.ShloMosaic.Init
public import proofs.«01_k».proof.Proof.UpDw
public import proofs.«01_k».proof.Proof.UpDxA
public import proofs.«01_k».proof.Proof.UpDxB
public import proofs.«01_k».proof.Proof.AbInDx
public import proofs.«01_k».proof.Proof.CInDx
public import proofs.«01_k».proof.Proof.DownDw
public import proofs.«01_k».proof.Proof.DownDx
public import proofs.«01_k».proof.Proof.CInDw
public import proofs.«01_k».proof.Proof.AbInDw
public import proofs.«01_k».proof.Proof.OutDw
public import proofs.«01_k».proof.Proof.OutDx
public import proofs.«01_k».proof.Proof.Gen.UpFKernel
public import proofs.«01_k».proof.Proof.Gen.UpFKernel.Skeleton
public import proofs.«01_k».proof.Proof.Gen.UpFKernel.Launch
public import proofs.«01_k».proof.Proof.Gen.UpFKernel.Points
public import proofs.«01_k».proof.Proof.Gen.UpFKernel.Frame
public import proofs.«01_k».proof.Proof.Gen.UpFKernelIdeal
public import proofs.«01_k».proof.Proof.Gen.UpFKernelIdeal.Skeleton
public import proofs.«01_k».proof.Proof.Gen.UpFKernelIdeal.Launch
public import proofs.«01_k».proof.Proof.Gen.UpFKernelIdeal.Points
public import proofs.«01_k».proof.Proof.Gen.UpFKernelIdeal.Frame
public import proofs.«01_k».proof.Proof.Gen.UpFKernelIdeal.Value
public import proofs.«01_k».proof.Proof.Gen.UpFReferenceIdeal
public import proofs.«01_k».proof.Proof.Gen.UpFReferenceIdeal.Run
public import proofs.«01_k».proof.Proof.Gen.CInFKernel
public import proofs.«01_k».proof.Proof.Gen.CInFKernel.Skeleton
public import proofs.«01_k».proof.Proof.Gen.CInFKernel.Launch
public import proofs.«01_k».proof.Proof.Gen.CInFKernel.Points
public import proofs.«01_k».proof.Proof.Gen.CInFKernel.Frame
public import proofs.«01_k».proof.Proof.Gen.CInFKernelIdeal
public import proofs.«01_k».proof.Proof.Gen.CInFKernelIdeal.Skeleton
public import proofs.«01_k».proof.Proof.Gen.CInFKernelIdeal.Launch
public import proofs.«01_k».proof.Proof.Gen.CInFKernelIdeal.Points
public import proofs.«01_k».proof.Proof.Gen.CInFKernelIdeal.Frame
public import proofs.«01_k».proof.Proof.Gen.CInFKernelIdeal.Value
public import proofs.«01_k».proof.Proof.Gen.CInFReferenceIdeal
public import proofs.«01_k».proof.Proof.Gen.CInFReferenceIdeal.Run
public import proofs.«01_k».proof.Proof.Gen.AbOutFKernel
public import proofs.«01_k».proof.Proof.Gen.AbOutFKernel.Skeleton
public import proofs.«01_k».proof.Proof.Gen.AbOutFKernel.Launch
public import proofs.«01_k».proof.Proof.Gen.AbOutFKernel.Points
public import proofs.«01_k».proof.Proof.Gen.AbOutFKernel.Frame
public import proofs.«01_k».proof.Proof.Gen.AbOutFKernelIdeal
public import proofs.«01_k».proof.Proof.Gen.AbOutFKernelIdeal.Skeleton
public import proofs.«01_k».proof.Proof.Gen.AbOutFKernelIdeal.Launch
public import proofs.«01_k».proof.Proof.Gen.AbOutFKernelIdeal.Points
public import proofs.«01_k».proof.Proof.Gen.AbOutFKernelIdeal.Frame
public import proofs.«01_k».proof.Proof.Gen.AbOutFKernelIdeal.Value
public import proofs.«01_k».proof.Proof.Gen.AbOutFReferenceIdeal
public import proofs.«01_k».proof.Proof.Gen.AbOutFReferenceIdeal.Run
public import proofs.«01_k».proof.Proof.Gen.COutFKernel
public import proofs.«01_k».proof.Proof.Gen.COutFKernel.Skeleton
public import proofs.«01_k».proof.Proof.Gen.COutFKernel.Launch
public import proofs.«01_k».proof.Proof.Gen.COutFKernel.Points
public import proofs.«01_k».proof.Proof.Gen.COutFKernel.Frame
public import proofs.«01_k».proof.Proof.Gen.COutFKernelIdeal
public import proofs.«01_k».proof.Proof.Gen.COutFKernelIdeal.Skeleton
public import proofs.«01_k».proof.Proof.Gen.COutFKernelIdeal.Launch
public import proofs.«01_k».proof.Proof.Gen.COutFKernelIdeal.Points
public import proofs.«01_k».proof.Proof.Gen.COutFKernelIdeal.Frame
public import proofs.«01_k».proof.Proof.Gen.COutFKernelIdeal.Value
public import proofs.«01_k».proof.Proof.Gen.COutFReferenceIdeal
public import proofs.«01_k».proof.Proof.Gen.COutFReferenceIdeal.Run
public import proofs.«01_k».proof.Proof.Gen.DownFKernel
public import proofs.«01_k».proof.Proof.Gen.DownFKernel.Skeleton
public import proofs.«01_k».proof.Proof.Gen.DownFKernel.Launch
public import proofs.«01_k».proof.Proof.Gen.DownFKernel.Points
public import proofs.«01_k».proof.Proof.Gen.DownFKernel.Frame
public import proofs.«01_k».proof.Proof.Gen.DownFKernelIdeal
public import proofs.«01_k».proof.Proof.Gen.DownFKernelIdeal.Skeleton
public import proofs.«01_k».proof.Proof.Gen.DownFKernelIdeal.Launch
public import proofs.«01_k».proof.Proof.Gen.DownFKernelIdeal.Points
public import proofs.«01_k».proof.Proof.Gen.DownFKernelIdeal.Frame
public import proofs.«01_k».proof.Proof.Gen.DownFKernelIdeal.Value
public import proofs.«01_k».proof.Proof.Gen.DownFReferenceIdeal
public import proofs.«01_k».proof.Proof.Gen.DownFReferenceIdeal.Run
public import proofs.«01_k».proof.Proof.Gen.AdamAbInKernel
public import proofs.«01_k».proof.Proof.Gen.AdamAbInKernel.Skeleton
public import proofs.«01_k».proof.Proof.Gen.AdamAbInKernel.Launch
public import proofs.«01_k».proof.Proof.Gen.AdamAbInKernel.Points
public import proofs.«01_k».proof.Proof.Gen.AdamAbInKernel.Frame
public import proofs.«01_k».proof.Proof.Gen.AdamAbInKernelIdeal
public import proofs.«01_k».proof.Proof.Gen.AdamAbInKernelIdeal.Skeleton
public import proofs.«01_k».proof.Proof.Gen.AdamAbInKernelIdeal.Launch
public import proofs.«01_k».proof.Proof.Gen.AdamAbInKernelIdeal.Points
public import proofs.«01_k».proof.Proof.Gen.AdamAbInKernelIdeal.Frame
public import proofs.«01_k».proof.Proof.Gen.AdamAbInKernelIdeal.Value
public import proofs.«01_k».proof.Proof.Gen.AdamAbInReferenceIdeal
public import proofs.«01_k».proof.Proof.Gen.AdamAbInReferenceIdeal.Run
public import proofs.«01_k».proof.Proof.Gen.AdamAbOutKernel
public import proofs.«01_k».proof.Proof.Gen.AdamAbOutKernel.Skeleton
public import proofs.«01_k».proof.Proof.Gen.AdamAbOutKernel.Launch
public import proofs.«01_k».proof.Proof.Gen.AdamAbOutKernel.Points
public import proofs.«01_k».proof.Proof.Gen.AdamAbOutKernel.Frame
public import proofs.«01_k».proof.Proof.Gen.AdamAbOutKernelIdeal
public import proofs.«01_k».proof.Proof.Gen.AdamAbOutKernelIdeal.Skeleton
public import proofs.«01_k».proof.Proof.Gen.AdamAbOutKernelIdeal.Launch
public import proofs.«01_k».proof.Proof.Gen.AdamAbOutKernelIdeal.Points
public import proofs.«01_k».proof.Proof.Gen.AdamAbOutKernelIdeal.Frame
public import proofs.«01_k».proof.Proof.Gen.AdamAbOutKernelIdeal.Value
public import proofs.«01_k».proof.Proof.Gen.AdamAbOutReferenceIdeal
public import proofs.«01_k».proof.Proof.Gen.AdamAbOutReferenceIdeal.Run
public import proofs.«01_k».proof.Proof.Gen.AdamCInKernel
public import proofs.«01_k».proof.Proof.Gen.AdamCInKernel.Skeleton
public import proofs.«01_k».proof.Proof.Gen.AdamCInKernel.Launch
public import proofs.«01_k».proof.Proof.Gen.AdamCInKernel.Points
public import proofs.«01_k».proof.Proof.Gen.AdamCInKernel.Frame
public import proofs.«01_k».proof.Proof.Gen.AdamCInKernelIdeal
public import proofs.«01_k».proof.Proof.Gen.AdamCInKernelIdeal.Skeleton
public import proofs.«01_k».proof.Proof.Gen.AdamCInKernelIdeal.Launch
public import proofs.«01_k».proof.Proof.Gen.AdamCInKernelIdeal.Points
public import proofs.«01_k».proof.Proof.Gen.AdamCInKernelIdeal.Frame
public import proofs.«01_k».proof.Proof.Gen.AdamCInKernelIdeal.Value
public import proofs.«01_k».proof.Proof.Gen.AdamCInReferenceIdeal
public import proofs.«01_k».proof.Proof.Gen.AdamCInReferenceIdeal.Run
public import proofs.«01_k».proof.Proof.Gen.AdamUpKernel
public import proofs.«01_k».proof.Proof.Gen.AdamUpKernel.Skeleton
public import proofs.«01_k».proof.Proof.Gen.AdamUpKernel.Launch
public import proofs.«01_k».proof.Proof.Gen.AdamUpKernel.Points
public import proofs.«01_k».proof.Proof.Gen.AdamUpKernel.Frame
public import proofs.«01_k».proof.Proof.Gen.AdamUpKernelIdeal
public import proofs.«01_k».proof.Proof.Gen.AdamUpKernelIdeal.Skeleton
public import proofs.«01_k».proof.Proof.Gen.AdamUpKernelIdeal.Launch
public import proofs.«01_k».proof.Proof.Gen.AdamUpKernelIdeal.Points
public import proofs.«01_k».proof.Proof.Gen.AdamUpKernelIdeal.Frame
public import proofs.«01_k».proof.Proof.Gen.AdamUpKernelIdeal.Value
public import proofs.«01_k».proof.Proof.Gen.AdamUpReferenceIdeal
public import proofs.«01_k».proof.Proof.Gen.AdamUpReferenceIdeal.Run
public import proofs.«01_k».proof.Proof.Gen.AdamDownKernel
public import proofs.«01_k».proof.Proof.Gen.AdamDownKernel.Skeleton
public import proofs.«01_k».proof.Proof.Gen.AdamDownKernel.Launch
public import proofs.«01_k».proof.Proof.Gen.AdamDownKernel.Points
public import proofs.«01_k».proof.Proof.Gen.AdamDownKernel.Frame
public import proofs.«01_k».proof.Proof.Gen.AdamDownKernelIdeal
public import proofs.«01_k».proof.Proof.Gen.AdamDownKernelIdeal.Skeleton
public import proofs.«01_k».proof.Proof.Gen.AdamDownKernelIdeal.Launch
public import proofs.«01_k».proof.Proof.Gen.AdamDownKernelIdeal.Points
public import proofs.«01_k».proof.Proof.Gen.AdamDownKernelIdeal.Frame
public import proofs.«01_k».proof.Proof.Gen.AdamDownKernelIdeal.Value
public import proofs.«01_k».proof.Proof.Gen.AdamDownReferenceIdeal
public import proofs.«01_k».proof.Proof.Gen.AdamDownReferenceIdeal.Run
public import proofs.«01_k».proof.Proof.Gen.MixFKernel
public import proofs.«01_k».proof.Proof.Gen.MixFKernel.Skeleton
public import proofs.«01_k».proof.Proof.Gen.MixFKernel.Launch
public import proofs.«01_k».proof.Proof.Gen.MixFKernel.Points
public import proofs.«01_k».proof.Proof.Gen.MixFKernel.Frame
public import proofs.«01_k».proof.Proof.Gen.MixFKernelIdeal
public import proofs.«01_k».proof.Proof.Gen.MixFKernelIdeal.Skeleton
public import proofs.«01_k».proof.Proof.Gen.MixFKernelIdeal.Launch
public import proofs.«01_k».proof.Proof.Gen.MixFKernelIdeal.Points
public import proofs.«01_k».proof.Proof.Gen.MixFKernelIdeal.Frame
public import proofs.«01_k».proof.Proof.Gen.MixFKernelIdeal.Value
public import proofs.«01_k».proof.Proof.Gen.MixFReferenceIdeal.Run
public import proofs.«01_k».proof.Proof.Gen.MixFReferenceIdeal
public import proofs.«01_k».proof.Proof.Gen.SmallKernel
public import proofs.«01_k».proof.Proof.Gen.SmallKernel.Skeleton
public import proofs.«01_k».proof.Proof.Gen.SmallKernel.Launch
public import proofs.«01_k».proof.Proof.Gen.SmallKernel.Points
public import proofs.«01_k».proof.Proof.Gen.SmallKernel.Frame
public import proofs.«01_k».proof.Proof.Gen.SmallKernelIdeal
public import proofs.«01_k».proof.Proof.Gen.SmallKernelIdeal.Skeleton
public import proofs.«01_k».proof.Proof.Gen.SmallKernelIdeal.Launch
public import proofs.«01_k».proof.Proof.Gen.SmallKernelIdeal.Points
public import proofs.«01_k».proof.Proof.Gen.SmallKernelIdeal.Frame
public import proofs.«01_k».proof.Proof.Gen.SmallReferenceIdeal.Run
public import proofs.«01_k».proof.Proof.Gen.SmallReferenceIdeal
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernel.Frame
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame
public import proofs.«01_k».proof.Proof.Gen.ActReferenceIdeal.Run
public import proofs.«01_k».proof.Proof.Gen.ActReferenceIdeal
public import proofs.«01_k».proof.Proof.UpF
public import proofs.«01_k».proof.Proof.CInF
public import proofs.«01_k».proof.Proof.AbOutF
public import proofs.«01_k».proof.Proof.COutF
public import proofs.«01_k».proof.Proof.DownF
public import proofs.«01_k».proof.Proof.AdamAbIn
public import proofs.«01_k».proof.Proof.AdamAbOut
public import proofs.«01_k».proof.Proof.AdamCIn
public import proofs.«01_k».proof.Proof.AdamUp
public import proofs.«01_k».proof.Proof.AdamDown
public import proofs.«01_k».proof.Proof.MixGate
public import proofs.«01_k».proof.Proof.MixGateRef
public import proofs.«01_k».proof.Proof.SmallSame
public import proofs.«01_k».proof.Proof.ActConv
public import proofs.«01_k».proof.Proof.ActGates
public import proofs.«01_k».proof.Proof.ActRef

@[expose] public section

noncomputable section

namespace Cert.Proof

open Idealize.ShloMosaic Idealize.SL.Sem Cert.Kernel

theorem same : algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Mix.ref_run m' g'
    · exact (Cert.KernelIdeal.Mix.final_gates m c).symm
    · exact (Cert.KernelIdeal.Mix.final_taps m c).symm

theorem sameUpDw : algebraic_UpDwKernelIdeal_UpDwReferenceIdeal (hUpDwKernelIdeal := Cert.UpDwKernelIdeal.Gen.facts) (hUpDwReferenceIdeal := Cert.UpDwReferenceIdeal.Gen.facts) := by
  pair_intro
  · run_from Cert.UpDwKernelIdeal.Gen.run_main m g
  · run_from Cert.UpDwReferenceIdeal.Value.run m' g'
    exact (Cert.UpDwReferenceIdeal.Mix.value (Cert.UpDwKernelIdeal.Mix.argX m c) (Cert.UpDwKernelIdeal.Mix.argY m c)).trans (Cert.UpDwKernelIdeal.Mix.final m c).symm

theorem sameUpDxA : algebraic_UpDxAKernelIdeal_UpDxAReferenceIdeal (hUpDxAKernelIdeal := Cert.UpDxAKernelIdeal.Gen.facts) (hUpDxAReferenceIdeal := Cert.UpDxAReferenceIdeal.Gen.facts) := by
  pair_intro
  · run_from Cert.UpDxAKernelIdeal.Gen.run_main m g
  · run_from Cert.UpDxAReferenceIdeal.Mix.ref_run m' g'
    · exact (Cert.UpDxAKernelIdeal.Mix.final_rows m c).symm
    · exact (Cert.UpDxAKernelIdeal.Mix.final_gain m c).symm

theorem sameUpDxB : algebraic_UpDxBKernelIdeal_UpDxBReferenceIdeal (hUpDxBKernelIdeal := Cert.UpDxBKernelIdeal.Gen.facts) (hUpDxBReferenceIdeal := Cert.UpDxBReferenceIdeal.Gen.facts) := by
  pair_intro
  · run_from Cert.UpDxBKernelIdeal.Gen.run_main m g
  · run_from Cert.UpDxBReferenceIdeal.Mix.ref_run m' g'
    · exact (Cert.UpDxBKernelIdeal.Mix.final_rows m c).symm
    · exact (Cert.UpDxBKernelIdeal.Mix.final_gain m c).symm

theorem sameAbInDx : algebraic_AbInDxKernelIdeal_AbInDxReferenceIdeal (hAbInDxKernelIdeal := Cert.AbInDxKernelIdeal.Gen.facts) (hAbInDxReferenceIdeal := Cert.AbInDxReferenceIdeal.Gen.facts) := by
  pair_intro
  · run_from Cert.AbInDxKernelIdeal.Gen.run_main m g
  · run_from Cert.AbInDxReferenceIdeal.Mix.ref_run m' g'
    · exact (Cert.AbInDxKernelIdeal.Mix.final_rows m c).symm
    · exact (Cert.AbInDxKernelIdeal.Mix.final_gain m c).symm

theorem sameCInDx : algebraic_CInDxKernelIdeal_CInDxReferenceIdeal (hCInDxKernelIdeal := Cert.CInDxKernelIdeal.Gen.facts) (hCInDxReferenceIdeal := Cert.CInDxReferenceIdeal.Gen.facts) := by
  pair_intro
  · run_from Cert.CInDxKernelIdeal.Gen.run_main m g
  · run_from Cert.CInDxReferenceIdeal.Mix.ref_run m' g'
    · exact (Cert.CInDxKernelIdeal.Mix.final_rows m c).symm
    · exact (Cert.CInDxKernelIdeal.Mix.final_gain m c).symm

theorem sameDownDw : algebraic_DownDwKernelIdeal_DownDwReferenceIdeal (hDownDwKernelIdeal := Cert.DownDwKernelIdeal.Gen.facts) (hDownDwReferenceIdeal := Cert.DownDwReferenceIdeal.Gen.facts) := by
  pair_intro
  · run_from Cert.DownDwKernelIdeal.Gen.run_main m g
  · run_from Cert.DownDwReferenceIdeal.Value.run m' g'
    exact (Cert.DownDwReferenceIdeal.Mix.value (Cert.DownDwKernelIdeal.Mix.argX m c) (Cert.DownDwKernelIdeal.Mix.argY m c)).trans (Cert.DownDwKernelIdeal.Mix.final m c).symm

theorem sameDownDx : algebraic_DownDxKernelIdeal_DownDxReferenceIdeal (hDownDxKernelIdeal := Cert.DownDxKernelIdeal.Gen.facts) (hDownDxReferenceIdeal := Cert.DownDxReferenceIdeal.Gen.facts) := by
  pair_intro
  · run_from Cert.DownDxKernelIdeal.Gen.run_main m g
  · run_from Cert.DownDxReferenceIdeal.Value.run m' g'
    exact (Cert.DownDxReferenceIdeal.Mix.value (Cert.DownDxKernelIdeal.Mix.argY m c) (Cert.DownDxKernelIdeal.Mix.argW m c)).trans (Cert.DownDxKernelIdeal.Mix.final m c).symm

theorem sameCInDw : algebraic_CInDwKernelIdeal_CInDwReferenceIdeal (hCInDwKernelIdeal := Cert.CInDwKernelIdeal.Gen.facts) (hCInDwReferenceIdeal := Cert.CInDwReferenceIdeal.Gen.facts) := by
  pair_intro
  · run_from Cert.CInDwKernelIdeal.Gen.run_main m g
  · run_from Cert.CInDwReferenceIdeal.Value.run m' g'
    exact (Cert.CInDwReferenceIdeal.Mix.value (Cert.CInDwKernelIdeal.Mix.argX m c) (Cert.CInDwKernelIdeal.Mix.argY m c)).trans (Cert.CInDwKernelIdeal.Mix.final m c).symm

theorem sameAbInDw : algebraic_AbInDwKernelIdeal_AbInDwReferenceIdeal (hAbInDwKernelIdeal := Cert.AbInDwKernelIdeal.Gen.facts) (hAbInDwReferenceIdeal := Cert.AbInDwReferenceIdeal.Gen.facts) := by
  pair_intro
  · run_from Cert.AbInDwKernelIdeal.Gen.run_main m g
  · run_from Cert.AbInDwReferenceIdeal.Value.run m' g'
    exact (Cert.AbInDwReferenceIdeal.Mix.value (Cert.AbInDwKernelIdeal.Mix.argX m c) (Cert.AbInDwKernelIdeal.Mix.argY m c)).trans (Cert.AbInDwKernelIdeal.Mix.final m c).symm

theorem sameOutDw : algebraic_OutDwKernelIdeal_OutDwReferenceIdeal (hOutDwKernelIdeal := Cert.OutDwKernelIdeal.Gen.facts) (hOutDwReferenceIdeal := Cert.OutDwReferenceIdeal.Gen.facts) := by
  pair_intro
  · run_from Cert.OutDwKernelIdeal.Gen.run_main m g
  · run_from Cert.OutDwReferenceIdeal.Value.run m' g'
    exact (Cert.OutDwReferenceIdeal.Mix.value (Cert.OutDwKernelIdeal.Mix.argX m c) (Cert.OutDwKernelIdeal.Mix.argY m c)).trans (Cert.OutDwKernelIdeal.Mix.final m c).symm

theorem sameOutDx : algebraic_OutDxKernelIdeal_OutDxReferenceIdeal (hOutDxKernelIdeal := Cert.OutDxKernelIdeal.Gen.facts) (hOutDxReferenceIdeal := Cert.OutDxReferenceIdeal.Gen.facts) := by
  pair_intro
  · run_from Cert.OutDxKernelIdeal.Gen.run_main m g
  · run_from Cert.OutDxReferenceIdeal.Value.run m' g'
    exact (Cert.OutDxReferenceIdeal.Mix.value (Cert.OutDxKernelIdeal.Mix.argY m c) (Cert.OutDxKernelIdeal.Mix.argW m c)).trans (Cert.OutDxKernelIdeal.Mix.final m c).symm

theorem sameUpF : algebraic_UpFKernelIdeal_UpFReferenceIdeal (hUpFKernelIdeal := Cert.UpFKernelIdeal.Gen.facts) (hUpFReferenceIdeal := Cert.UpFReferenceIdeal.Gen.facts) := by
  pair_intro
  · run_from Cert.UpFKernelIdeal.Gen.run_main m g
  · run_from Cert.UpFReferenceIdeal.Value.run m' g'
    exact (Cert.UpFReferenceIdeal.Mix.value (Cert.UpFKernelIdeal.Mix.argX m c) (Cert.UpFKernelIdeal.Mix.argW m c)).trans (Cert.UpFKernelIdeal.Mix.final m c).symm

theorem sameCInF : algebraic_CInFKernelIdeal_CInFReferenceIdeal (hCInFKernelIdeal := Cert.CInFKernelIdeal.Gen.facts) (hCInFReferenceIdeal := Cert.CInFReferenceIdeal.Gen.facts) := by
  pair_intro
  · run_from Cert.CInFKernelIdeal.Gen.run_main m g
  · run_from Cert.CInFReferenceIdeal.Value.run m' g'
    exact (Cert.CInFReferenceIdeal.Mix.value (Cert.CInFKernelIdeal.Mix.argX m c) (Cert.CInFKernelIdeal.Mix.argW m c)).trans (Cert.CInFKernelIdeal.Mix.final m c).symm

theorem sameAbOutF : algebraic_AbOutFKernelIdeal_AbOutFReferenceIdeal (hAbOutFKernelIdeal := Cert.AbOutFKernelIdeal.Gen.facts) (hAbOutFReferenceIdeal := Cert.AbOutFReferenceIdeal.Gen.facts) := by
  pair_intro
  · run_from Cert.AbOutFKernelIdeal.Gen.run_main m g
  · run_from Cert.AbOutFReferenceIdeal.Mix.ref_run m' g'
    · exact (Cert.AbOutFKernelIdeal.Mix.final_total m c).symm
    · exact (Cert.AbOutFKernelIdeal.Mix.final_normed m c).symm

theorem sameCOutF : algebraic_COutFKernelIdeal_COutFReferenceIdeal (hCOutFKernelIdeal := Cert.COutFKernelIdeal.Gen.facts) (hCOutFReferenceIdeal := Cert.COutFReferenceIdeal.Gen.facts) := by
  pair_intro
  · run_from Cert.COutFKernelIdeal.Gen.run_main m g
  · run_from Cert.COutFReferenceIdeal.Mix.ref_run m' g'
    · exact (Cert.COutFKernelIdeal.Mix.final_total m c).symm
    · exact (Cert.COutFKernelIdeal.Mix.final_normed m c).symm

theorem sameDownF : algebraic_DownFKernelIdeal_DownFReferenceIdeal (hDownFKernelIdeal := Cert.DownFKernelIdeal.Gen.facts) (hDownFReferenceIdeal := Cert.DownFReferenceIdeal.Gen.facts) := by
  pair_intro
  · run_from Cert.DownFKernelIdeal.Gen.run_main m g
  · run_from Cert.DownFReferenceIdeal.Mix.ref_run m' g'
    · exact (Cert.DownFKernelIdeal.Mix.final_total m c).symm
    · exact (Cert.DownFKernelIdeal.Mix.final_normed m c).symm

theorem sameAdamAbIn : algebraic_AdamAbInKernelIdeal_AdamAbInReferenceIdeal (hAdamAbInKernelIdeal := Cert.AdamAbInKernelIdeal.Gen.facts) (hAdamAbInReferenceIdeal := Cert.AdamAbInReferenceIdeal.Gen.facts) := by
  pair_intro
  · run_from Cert.AdamAbInKernelIdeal.Gen.run_main m g
  · run_from Cert.AdamAbInReferenceIdeal.Mix.ref_run m' g'
    · exact (Cert.AdamAbInKernelIdeal.Mix.final_grad m c).symm
    · exact (Cert.AdamAbInKernelIdeal.Mix.final_delta m c).symm
    · exact (Cert.AdamAbInKernelIdeal.Mix.final_mean m c).symm
    · exact (Cert.AdamAbInKernelIdeal.Mix.final_spread m c).symm

theorem sameAdamAbOut : algebraic_AdamAbOutKernelIdeal_AdamAbOutReferenceIdeal (hAdamAbOutKernelIdeal := Cert.AdamAbOutKernelIdeal.Gen.facts) (hAdamAbOutReferenceIdeal := Cert.AdamAbOutReferenceIdeal.Gen.facts) := by
  pair_intro
  · run_from Cert.AdamAbOutKernelIdeal.Gen.run_main m g
  · run_from Cert.AdamAbOutReferenceIdeal.Mix.ref_run m' g'
    · exact (Cert.AdamAbOutKernelIdeal.Mix.final_grad m c).symm
    · exact (Cert.AdamAbOutKernelIdeal.Mix.final_delta m c).symm
    · exact (Cert.AdamAbOutKernelIdeal.Mix.final_mean m c).symm
    · exact (Cert.AdamAbOutKernelIdeal.Mix.final_spread m c).symm

theorem sameAdamCIn : algebraic_AdamCInKernelIdeal_AdamCInReferenceIdeal (hAdamCInKernelIdeal := Cert.AdamCInKernelIdeal.Gen.facts) (hAdamCInReferenceIdeal := Cert.AdamCInReferenceIdeal.Gen.facts) := by
  pair_intro
  · run_from Cert.AdamCInKernelIdeal.Gen.run_main m g
  · run_from Cert.AdamCInReferenceIdeal.Mix.ref_run m' g'
    · exact (Cert.AdamCInKernelIdeal.Mix.final_grad m c).symm
    · exact (Cert.AdamCInKernelIdeal.Mix.final_delta m c).symm
    · exact (Cert.AdamCInKernelIdeal.Mix.final_mean m c).symm
    · exact (Cert.AdamCInKernelIdeal.Mix.final_spread m c).symm

theorem sameAdamUp : algebraic_AdamUpKernelIdeal_AdamUpReferenceIdeal (hAdamUpKernelIdeal := Cert.AdamUpKernelIdeal.Gen.facts) (hAdamUpReferenceIdeal := Cert.AdamUpReferenceIdeal.Gen.facts) := by
  pair_intro
  · run_from Cert.AdamUpKernelIdeal.Gen.run_main m g
  · run_from Cert.AdamUpReferenceIdeal.Mix.ref_run m' g'
    · exact (Cert.AdamUpKernelIdeal.Mix.final_grad m c).symm
    · exact (Cert.AdamUpKernelIdeal.Mix.final_delta m c).symm
    · exact (Cert.AdamUpKernelIdeal.Mix.final_mean m c).symm
    · exact (Cert.AdamUpKernelIdeal.Mix.final_spread m c).symm

theorem sameAdamDown : algebraic_AdamDownKernelIdeal_AdamDownReferenceIdeal (hAdamDownKernelIdeal := Cert.AdamDownKernelIdeal.Gen.facts) (hAdamDownReferenceIdeal := Cert.AdamDownReferenceIdeal.Gen.facts) := by
  pair_intro
  · run_from Cert.AdamDownKernelIdeal.Gen.run_main m g
  · run_from Cert.AdamDownReferenceIdeal.Mix.ref_run m' g'
    · exact (Cert.AdamDownKernelIdeal.Mix.final_grad m c).symm
    · exact (Cert.AdamDownKernelIdeal.Mix.final_delta m c).symm
    · exact (Cert.AdamDownKernelIdeal.Mix.final_mean m c).symm
    · exact (Cert.AdamDownKernelIdeal.Mix.final_spread m c).symm

theorem sameMixF : algebraic_MixFKernelIdeal_MixFReferenceIdeal (hMixFKernelIdeal := Cert.MixFKernelIdeal.Gen.facts) (hMixFReferenceIdeal := Cert.MixFReferenceIdeal.Gen.facts) := by
  pair_intro
  · run_from Cert.MixFKernelIdeal.Gen.run_main m g
  · run_from Cert.MixFReferenceIdeal.Mix.ref_run m' g'
    exact (Cert.MixFKernelIdeal.Mix.final m c).symm

set_option maxRecDepth 16384 in
theorem sameAct : algebraic_ActKernelIdeal_ActReferenceIdeal (hActKernelIdeal := Cert.ActKernelIdeal.Gen.facts) (hActReferenceIdeal := Cert.ActReferenceIdeal.Gen.facts) := by
  pair_intro
  · run_from Cert.ActKernelIdeal.Gen.run_main m g
  · run_from Cert.ActReferenceIdeal.Mix.ref_run m' g'
    · exact (Cert.ActKernelIdeal.Mix.final_act m c).symm
    · exact (Cert.ActKernelIdeal.Mix.final_conv m c).symm

theorem claim : Cert.Claim := ⟨Cert.Kernel.Gen.facts, Cert.KernelIdeal.Gen.facts, Cert.ReferenceIdeal.Gen.facts, Cert.UpDwKernel.Gen.facts, Cert.UpDwKernelIdeal.Gen.facts, Cert.UpDwReferenceIdeal.Gen.facts, Cert.UpDxAKernel.Gen.facts, Cert.UpDxAKernelIdeal.Gen.facts, Cert.UpDxAReferenceIdeal.Gen.facts, Cert.UpDxBKernel.Gen.facts, Cert.UpDxBKernelIdeal.Gen.facts, Cert.UpDxBReferenceIdeal.Gen.facts, Cert.AbInDxKernel.Gen.facts, Cert.AbInDxKernelIdeal.Gen.facts, Cert.AbInDxReferenceIdeal.Gen.facts, Cert.CInDxKernel.Gen.facts, Cert.CInDxKernelIdeal.Gen.facts, Cert.CInDxReferenceIdeal.Gen.facts, Cert.DownDwKernel.Gen.facts, Cert.DownDwKernelIdeal.Gen.facts, Cert.DownDwReferenceIdeal.Gen.facts, Cert.DownDxKernel.Gen.facts, Cert.DownDxKernelIdeal.Gen.facts, Cert.DownDxReferenceIdeal.Gen.facts, Cert.CInDwKernel.Gen.facts, Cert.CInDwKernelIdeal.Gen.facts, Cert.CInDwReferenceIdeal.Gen.facts, Cert.AbInDwKernel.Gen.facts, Cert.AbInDwKernelIdeal.Gen.facts, Cert.AbInDwReferenceIdeal.Gen.facts, Cert.OutDwKernel.Gen.facts, Cert.OutDwKernelIdeal.Gen.facts, Cert.OutDwReferenceIdeal.Gen.facts, Cert.OutDxKernel.Gen.facts, Cert.OutDxKernelIdeal.Gen.facts, Cert.OutDxReferenceIdeal.Gen.facts, Cert.UpFKernel.Gen.facts, Cert.UpFKernelIdeal.Gen.facts, Cert.UpFReferenceIdeal.Gen.facts, Cert.CInFKernel.Gen.facts, Cert.CInFKernelIdeal.Gen.facts, Cert.CInFReferenceIdeal.Gen.facts, Cert.AbOutFKernel.Gen.facts, Cert.AbOutFKernelIdeal.Gen.facts, Cert.AbOutFReferenceIdeal.Gen.facts, Cert.COutFKernel.Gen.facts, Cert.COutFKernelIdeal.Gen.facts, Cert.COutFReferenceIdeal.Gen.facts, Cert.DownFKernel.Gen.facts, Cert.DownFKernelIdeal.Gen.facts, Cert.DownFReferenceIdeal.Gen.facts, Cert.AdamAbInKernel.Gen.facts, Cert.AdamAbInKernelIdeal.Gen.facts, Cert.AdamAbInReferenceIdeal.Gen.facts, Cert.AdamAbOutKernel.Gen.facts, Cert.AdamAbOutKernelIdeal.Gen.facts, Cert.AdamAbOutReferenceIdeal.Gen.facts, Cert.AdamCInKernel.Gen.facts, Cert.AdamCInKernelIdeal.Gen.facts, Cert.AdamCInReferenceIdeal.Gen.facts, Cert.AdamUpKernel.Gen.facts, Cert.AdamUpKernelIdeal.Gen.facts, Cert.AdamUpReferenceIdeal.Gen.facts, Cert.AdamDownKernel.Gen.facts, Cert.AdamDownKernelIdeal.Gen.facts, Cert.AdamDownReferenceIdeal.Gen.facts, Cert.MixFKernel.Gen.facts, Cert.MixFKernelIdeal.Gen.facts, Cert.MixFReferenceIdeal.Gen.facts, Cert.SmallKernel.Gen.facts, Cert.SmallKernelIdeal.Gen.facts, Cert.SmallReferenceIdeal.Gen.facts, Cert.ActKernel.Gen.facts, Cert.ActKernelIdeal.Gen.facts, Cert.ActReferenceIdeal.Gen.facts,
  fun m ρ _ => Cert.Kernel.Gen.frame m ρ,
    fun m ρ _ => Cert.KernelIdeal.Gen.frame m ρ,
    fun m ρ _ => (θ_run Cert.ReferenceIdeal.defs _ _).mono (fun r h => ⟨fun c => (h c).2.2, sem_eq_zero_of_no_sems (by decide) r.2⟩) (Cert.ReferenceIdeal.Value.run m ρ),
    fun m ρ _ => Cert.UpDwKernel.Gen.frame m ρ,
    fun m ρ _ => Cert.UpDwKernelIdeal.Gen.frame m ρ,
    fun m ρ _ => (θ_run Cert.UpDwReferenceIdeal.defs _ _).mono (fun r h => ⟨fun c => (h c).2, sem_eq_zero_of_no_sems (by decide) r.2⟩) (Cert.UpDwReferenceIdeal.Value.run m ρ),
    fun m ρ _ => Cert.UpDxAKernel.Gen.frame m ρ,
    fun m ρ _ => Cert.UpDxAKernelIdeal.Gen.frame m ρ,
    fun m ρ _ => (θ_run Cert.UpDxAReferenceIdeal.defs _ _).mono (fun r h => ⟨fun c => (h c).2.2, sem_eq_zero_of_no_sems (by decide) r.2⟩) (Cert.UpDxAReferenceIdeal.Value.run m ρ),
    fun m ρ _ => Cert.UpDxBKernel.Gen.frame m ρ,
    fun m ρ _ => Cert.UpDxBKernelIdeal.Gen.frame m ρ,
    fun m ρ _ => (θ_run Cert.UpDxBReferenceIdeal.defs _ _).mono (fun r h => ⟨fun c => (h c).2.2, sem_eq_zero_of_no_sems (by decide) r.2⟩) (Cert.UpDxBReferenceIdeal.Value.run m ρ),
    fun m ρ _ => Cert.AbInDxKernel.Gen.frame m ρ,
    fun m ρ _ => Cert.AbInDxKernelIdeal.Gen.frame m ρ,
    fun m ρ _ => (θ_run Cert.AbInDxReferenceIdeal.defs _ _).mono (fun r h => ⟨fun c => (h c).2.2, sem_eq_zero_of_no_sems (by decide) r.2⟩) (Cert.AbInDxReferenceIdeal.Value.run m ρ),
    fun m ρ _ => Cert.CInDxKernel.Gen.frame m ρ,
    fun m ρ _ => Cert.CInDxKernelIdeal.Gen.frame m ρ,
    fun m ρ _ => (θ_run Cert.CInDxReferenceIdeal.defs _ _).mono (fun r h => ⟨fun c => (h c).2.2, sem_eq_zero_of_no_sems (by decide) r.2⟩) (Cert.CInDxReferenceIdeal.Value.run m ρ),
    fun m ρ _ => Cert.DownDwKernel.Gen.frame m ρ,
    fun m ρ _ => Cert.DownDwKernelIdeal.Gen.frame m ρ,
    fun m ρ _ => (θ_run Cert.DownDwReferenceIdeal.defs _ _).mono (fun r h => ⟨fun c => (h c).2, sem_eq_zero_of_no_sems (by decide) r.2⟩) (Cert.DownDwReferenceIdeal.Value.run m ρ),
    fun m ρ _ => Cert.DownDxKernel.Gen.frame m ρ,
    fun m ρ _ => Cert.DownDxKernelIdeal.Gen.frame m ρ,
    fun m ρ _ => (θ_run Cert.DownDxReferenceIdeal.defs _ _).mono (fun r h => ⟨fun c => (h c).2, sem_eq_zero_of_no_sems (by decide) r.2⟩) (Cert.DownDxReferenceIdeal.Value.run m ρ),
    fun m ρ _ => Cert.CInDwKernel.Gen.frame m ρ,
    fun m ρ _ => Cert.CInDwKernelIdeal.Gen.frame m ρ,
    fun m ρ _ => (θ_run Cert.CInDwReferenceIdeal.defs _ _).mono (fun r h => ⟨fun c => (h c).2, sem_eq_zero_of_no_sems (by decide) r.2⟩) (Cert.CInDwReferenceIdeal.Value.run m ρ),
    fun m ρ _ => Cert.AbInDwKernel.Gen.frame m ρ,
    fun m ρ _ => Cert.AbInDwKernelIdeal.Gen.frame m ρ,
    fun m ρ _ => (θ_run Cert.AbInDwReferenceIdeal.defs _ _).mono (fun r h => ⟨fun c => (h c).2, sem_eq_zero_of_no_sems (by decide) r.2⟩) (Cert.AbInDwReferenceIdeal.Value.run m ρ),
    fun m ρ _ => Cert.OutDwKernel.Gen.frame m ρ,
    fun m ρ _ => Cert.OutDwKernelIdeal.Gen.frame m ρ,
    fun m ρ _ => (θ_run Cert.OutDwReferenceIdeal.defs _ _).mono (fun r h => ⟨fun c => (h c).2, sem_eq_zero_of_no_sems (by decide) r.2⟩) (Cert.OutDwReferenceIdeal.Value.run m ρ),
    fun m ρ _ => Cert.OutDxKernel.Gen.frame m ρ,
    fun m ρ _ => Cert.OutDxKernelIdeal.Gen.frame m ρ,
    fun m ρ _ => (θ_run Cert.OutDxReferenceIdeal.defs _ _).mono (fun r h => ⟨fun c => (h c).2, sem_eq_zero_of_no_sems (by decide) r.2⟩) (Cert.OutDxReferenceIdeal.Value.run m ρ),
    fun m ρ _ => Cert.UpFKernel.Gen.frame m ρ,
    fun m ρ _ => Cert.UpFKernelIdeal.Gen.frame m ρ,
    fun m ρ _ => (θ_run Cert.UpFReferenceIdeal.defs _ _).mono (fun r h => ⟨fun c => (h c).2, sem_eq_zero_of_no_sems (by decide) r.2⟩) (Cert.UpFReferenceIdeal.Value.run m ρ),
    fun m ρ _ => Cert.CInFKernel.Gen.frame m ρ,
    fun m ρ _ => Cert.CInFKernelIdeal.Gen.frame m ρ,
    fun m ρ _ => (θ_run Cert.CInFReferenceIdeal.defs _ _).mono (fun r h => ⟨fun c => (h c).2, sem_eq_zero_of_no_sems (by decide) r.2⟩) (Cert.CInFReferenceIdeal.Value.run m ρ),
    fun m ρ _ => Cert.AbOutFKernel.Gen.frame m ρ,
    fun m ρ _ => Cert.AbOutFKernelIdeal.Gen.frame m ρ,
    fun m ρ _ => (θ_run Cert.AbOutFReferenceIdeal.defs _ _).mono (fun r h => ⟨fun c => (h c).2.2, sem_eq_zero_of_no_sems (by decide) r.2⟩) (Cert.AbOutFReferenceIdeal.Value.run m ρ),
    fun m ρ _ => Cert.COutFKernel.Gen.frame m ρ,
    fun m ρ _ => Cert.COutFKernelIdeal.Gen.frame m ρ,
    fun m ρ _ => (θ_run Cert.COutFReferenceIdeal.defs _ _).mono (fun r h => ⟨fun c => (h c).2.2, sem_eq_zero_of_no_sems (by decide) r.2⟩) (Cert.COutFReferenceIdeal.Value.run m ρ),
    fun m ρ _ => Cert.DownFKernel.Gen.frame m ρ,
    fun m ρ _ => Cert.DownFKernelIdeal.Gen.frame m ρ,
    fun m ρ _ => (θ_run Cert.DownFReferenceIdeal.defs _ _).mono (fun r h => ⟨fun c => (h c).2.2, sem_eq_zero_of_no_sems (by decide) r.2⟩) (Cert.DownFReferenceIdeal.Value.run m ρ),
    fun m ρ _ => Cert.AdamAbInKernel.Gen.frame m ρ,
    fun m ρ _ => Cert.AdamAbInKernelIdeal.Gen.frame m ρ,
    fun m ρ _ => (θ_run Cert.AdamAbInReferenceIdeal.defs _ _).mono (fun r h => ⟨fun c => (h c).2.2.2.2, sem_eq_zero_of_no_sems (by decide) r.2⟩) (Cert.AdamAbInReferenceIdeal.Value.run m ρ),
    fun m ρ _ => Cert.AdamAbOutKernel.Gen.frame m ρ,
    fun m ρ _ => Cert.AdamAbOutKernelIdeal.Gen.frame m ρ,
    fun m ρ _ => (θ_run Cert.AdamAbOutReferenceIdeal.defs _ _).mono (fun r h => ⟨fun c => (h c).2.2.2.2, sem_eq_zero_of_no_sems (by decide) r.2⟩) (Cert.AdamAbOutReferenceIdeal.Value.run m ρ),
    fun m ρ _ => Cert.AdamCInKernel.Gen.frame m ρ,
    fun m ρ _ => Cert.AdamCInKernelIdeal.Gen.frame m ρ,
    fun m ρ _ => (θ_run Cert.AdamCInReferenceIdeal.defs _ _).mono (fun r h => ⟨fun c => (h c).2.2.2.2, sem_eq_zero_of_no_sems (by decide) r.2⟩) (Cert.AdamCInReferenceIdeal.Value.run m ρ),
    fun m ρ _ => Cert.AdamUpKernel.Gen.frame m ρ,
    fun m ρ _ => Cert.AdamUpKernelIdeal.Gen.frame m ρ,
    fun m ρ _ => (θ_run Cert.AdamUpReferenceIdeal.defs _ _).mono (fun r h => ⟨fun c => (h c).2.2.2.2, sem_eq_zero_of_no_sems (by decide) r.2⟩) (Cert.AdamUpReferenceIdeal.Value.run m ρ),
    fun m ρ _ => Cert.AdamDownKernel.Gen.frame m ρ,
    fun m ρ _ => Cert.AdamDownKernelIdeal.Gen.frame m ρ,
    fun m ρ _ => (θ_run Cert.AdamDownReferenceIdeal.defs _ _).mono (fun r h => ⟨fun c => (h c).2.2.2.2, sem_eq_zero_of_no_sems (by decide) r.2⟩) (Cert.AdamDownReferenceIdeal.Value.run m ρ),
    fun m ρ _ => Cert.MixFKernel.Gen.frame m ρ,
    fun m ρ _ => Cert.MixFKernelIdeal.Gen.frame m ρ,
    fun m ρ _ => (θ_run Cert.MixFReferenceIdeal.defs _ _).mono (fun r h => ⟨fun c => (h c).2, sem_eq_zero_of_no_sems (by decide) r.2⟩) (Cert.MixFReferenceIdeal.Value.run m ρ),
    fun m ρ _ => Cert.SmallKernel.Gen.frame m ρ,
    fun m ρ _ => Cert.SmallKernelIdeal.Gen.frame m ρ,
    fun m ρ _ => (θ_run Cert.SmallReferenceIdeal.defs _ _).mono (fun r h => ⟨fun c => (h c).2.2.2.2.2.2.2.2.2.2.2.2.2.2.2.2.2.2.2.2.2.2.2.2.2.2.2.2.2.2.2.2.2.2.2.2.2.2.2, sem_eq_zero_of_no_sems (by decide) r.2⟩) (Cert.SmallReferenceIdeal.Value.run m ρ),
    fun m ρ _ => Cert.ActKernel.Gen.frame m ρ,
    fun m ρ _ => Cert.ActKernelIdeal.Gen.frame m ρ,
    fun m ρ _ => (θ_run Cert.ActReferenceIdeal.defs _ _).mono (fun r h => ⟨fun c => (h c).2.2, sem_eq_zero_of_no_sems (by decide) r.2⟩) (Cert.ActReferenceIdeal.Value.run m ρ),
    trivial,
    same,
    trivial,
    sameUpDw,
    trivial,
    sameUpDxA,
    trivial,
    sameUpDxB,
    trivial,
    sameAbInDx,
    trivial,
    sameCInDx,
    trivial,
    sameDownDw,
    trivial,
    sameDownDx,
    trivial,
    sameCInDw,
    trivial,
    sameAbInDw,
    trivial,
    sameOutDw,
    trivial,
    sameOutDx,
    trivial,
    sameUpF,
    trivial,
    sameCInF,
    trivial,
    sameAbOutF,
    trivial,
    sameCOutF,
    trivial,
    sameDownF,
    trivial,
    sameAdamAbIn,
    trivial,
    sameAdamAbOut,
    trivial,
    sameAdamCIn,
    trivial,
    sameAdamUp,
    trivial,
    sameAdamDown,
    trivial,
    sameMixF,
    trivial,
    sameSmall,
    trivial,
    sameAct⟩

end Cert.Proof

end
